-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_RetKernel (m : (ℓ : Loc Cert.RetKernel.nD Cert.RetKernel.τ Cert.RetKernel.sig) → Buf (Elt Bits) ℓ) : Prop :=
  True

def Pre_RetKernelIdeal (m : (ℓ : Loc Cert.RetKernelIdeal.nD Cert.RetKernelIdeal.τ Cert.RetKernelIdeal.sig) → Buf (Elt Ideal) ℓ) : Prop :=
  True

def Pre_RetKernelIdeal_ret_finite [hPre_ret_finite : Cert.Pre_ret_finite.Facts] (m : (ℓ : Loc Cert.RetKernelIdeal.nD Cert.RetKernelIdeal.τ Cert.RetKernelIdeal.sig) → Buf (Elt Ideal) ℓ) : Prop :=
  ∀ c : Dev Cert.RetKernelIdeal.nD,
    (Cert.Pre_ret_finite.fn (F := Ideal) (m ((c.tc : Thread Cert.RetKernelIdeal.nD Cert.RetKernelIdeal.τ).loc Cert.RetKernelIdeal.main_arg0)) (m ((c.tc : Thread Cert.RetKernelIdeal.nD Cert.RetKernelIdeal.τ).loc Cert.RetKernelIdeal.main_arg1))).1 = (fun _ => 1#1)
    ∧ (Cert.Pre_ret_finite.fn (F := Ideal) (m ((c.tc : Thread Cert.RetKernelIdeal.nD Cert.RetKernelIdeal.τ).loc Cert.RetKernelIdeal.main_arg0)) (m ((c.tc : Thread Cert.RetKernelIdeal.nD Cert.RetKernelIdeal.τ).loc Cert.RetKernelIdeal.main_arg1))).2 = (fun _ => 1#1)

def Pre_RetReferenceIdeal (m : (ℓ : Loc Cert.RetReferenceIdeal.nD Cert.RetReferenceIdeal.τ Cert.RetReferenceIdeal.sig) → Buf (Elt Ideal) ℓ) : Prop :=
  True

def Pre_RetReferenceIdeal_ret_finite [hPre_ret_finite : Cert.Pre_ret_finite.Facts] (m : (ℓ : Loc Cert.RetReferenceIdeal.nD Cert.RetReferenceIdeal.τ Cert.RetReferenceIdeal.sig) → Buf (Elt Ideal) ℓ) : Prop :=
  ∀ c : Dev Cert.RetReferenceIdeal.nD,
    (Cert.Pre_ret_finite.fn (F := Ideal) (m ((c.tc : Thread Cert.RetReferenceIdeal.nD Cert.RetReferenceIdeal.τ).loc Cert.RetReferenceIdeal.main_arg0)) (m ((c.tc : Thread Cert.RetReferenceIdeal.nD Cert.RetReferenceIdeal.τ).loc Cert.RetReferenceIdeal.main_arg1))).1 = (fun _ => 1#1)
    ∧ (Cert.Pre_ret_finite.fn (F := Ideal) (m ((c.tc : Thread Cert.RetReferenceIdeal.nD Cert.RetReferenceIdeal.τ).loc Cert.RetReferenceIdeal.main_arg0)) (m ((c.tc : Thread Cert.RetReferenceIdeal.nD Cert.RetReferenceIdeal.τ).loc Cert.RetReferenceIdeal.main_arg1))).2 = (fun _ => 1#1)

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InKernelIdeal_in_finite [hPre_in_finite : Cert.Pre_in_finite.Facts] (m : (ℓ : Loc Cert.InKernelIdeal.nD Cert.InKernelIdeal.τ Cert.InKernelIdeal.sig) → Buf (Elt Ideal) ℓ) : Prop :=
  ∀ c : Dev Cert.InKernelIdeal.nD,
    (Cert.Pre_in_finite.fn (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg4))).1 = (fun _ => 1#1)
    ∧ (Cert.Pre_in_finite.fn (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg4))).2.1 = (fun _ => 1#1)
    ∧ (Cert.Pre_in_finite.fn (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg4))).2.2.1 = (fun _ => 1#1)
    ∧ (Cert.Pre_in_finite.fn (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg4))).2.2.2.1 = (fun _ => 1#1)
    ∧ (Cert.Pre_in_finite.fn (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg4))).2.2.2.2 = (fun _ => 1#1)

def Pre_InReferenceIdeal (m : (ℓ : Loc Cert.InReferenceIdeal.nD Cert.InReferenceIdeal.τ Cert.InReferenceIdeal.sig) → Buf (Elt Ideal) ℓ) : Prop :=
  True

def Pre_InReferenceIdeal_in_finite [hPre_in_finite : Cert.Pre_in_finite.Facts] (m : (ℓ : Loc Cert.InReferenceIdeal.nD Cert.InReferenceIdeal.τ Cert.InReferenceIdeal.sig) → Buf (Elt Ideal) ℓ) : Prop :=
  ∀ c : Dev Cert.InReferenceIdeal.nD,
    (Cert.Pre_in_finite.fn (F := Ideal) (m ((c.tc : Thread Cert.InReferenceIdeal.nD Cert.InReferenceIdeal.τ).loc Cert.InReferenceIdeal.main_arg0)) (m ((c.tc : Thread Cert.InReferenceIdeal.nD Cert.InReferenceIdeal.τ).loc Cert.InReferenceIdeal.main_arg1)) (m ((c.tc : Thread Cert.InReferenceIdeal.nD Cert.InReferenceIdeal.τ).loc Cert.InReferenceIdeal.main_arg2)) (m ((c.tc : Thread Cert.InReferenceIdeal.nD Cert.InReferenceIdeal.τ).loc Cert.InReferenceIdeal.main_arg3)) (m ((c.tc : Thread Cert.InReferenceIdeal.nD Cert.InReferenceIdeal.τ).loc Cert.InReferenceIdeal.main_arg4))).1 = (fun _ => 1#1)
    ∧ (Cert.Pre_in_finite.fn (F := Ideal) (m ((c.tc : Thread Cert.InReferenceIdeal.nD Cert.InReferenceIdeal.τ).loc Cert.InReferenceIdeal.main_arg0)) (m ((c.tc : Thread Cert.InReferenceIdeal.nD Cert.InReferenceIdeal.τ).loc Cert.InReferenceIdeal.main_arg1)) (m ((c.tc : Thread Cert.InReferenceIdeal.nD Cert.InReferenceIdeal.τ).loc Cert.InReferenceIdeal.main_arg2)) (m ((c.tc : Thread Cert.InReferenceIdeal.nD Cert.InReferenceIdeal.τ).loc Cert.InReferenceIdeal.main_arg3)) (m ((c.tc : Thread Cert.InReferenceIdeal.nD Cert.InReferenceIdeal.τ).loc Cert.InReferenceIdeal.main_arg4))).2.1 = (fun _ => 1#1)
    ∧ (Cert.Pre_in_finite.fn (F := Ideal) (m ((c.tc : Thread Cert.InReferenceIdeal.nD Cert.InReferenceIdeal.τ).loc Cert.InReferenceIdeal.main_arg0)) (m ((c.tc : Thread Cert.InReferenceIdeal.nD Cert.InReferenceIdeal.τ).loc Cert.InReferenceIdeal.main_arg1)) (m ((c.tc : Thread Cert.InReferenceIdeal.nD Cert.InReferenceIdeal.τ).loc Cert.InReferenceIdeal.main_arg2)) (m ((c.tc : Thread Cert.InReferenceIdeal.nD Cert.InReferenceIdeal.τ).loc Cert.InReferenceIdeal.main_arg3)) (m ((c.tc : Thread Cert.InReferenceIdeal.nD Cert.InReferenceIdeal.τ).loc Cert.InReferenceIdeal.main_arg4))).2.2.1 = (fun _ => 1#1)
    ∧ (Cert.Pre_in_finite.fn (F := Ideal) (m ((c.tc : Thread Cert.InReferenceIdeal.nD Cert.InReferenceIdeal.τ).loc Cert.InReferenceIdeal.main_arg0)) (m ((c.tc : Thread Cert.InReferenceIdeal.nD Cert.InReferenceIdeal.τ).loc Cert.InReferenceIdeal.main_arg1)) (m ((c.tc : Thread Cert.InReferenceIdeal.nD Cert.InReferenceIdeal.τ).loc Cert.InReferenceIdeal.main_arg2)) (m ((c.tc : Thread Cert.InReferenceIdeal.nD Cert.InReferenceIdeal.τ).loc Cert.InReferenceIdeal.main_arg3)) (m ((c.tc : Thread Cert.InReferenceIdeal.nD Cert.InReferenceIdeal.τ).loc Cert.InReferenceIdeal.main_arg4))).2.2.2.1 = (fun _ => 1#1)
    ∧ (Cert.Pre_in_finite.fn (F := Ideal) (m ((c.tc : Thread Cert.InReferenceIdeal.nD Cert.InReferenceIdeal.τ).loc Cert.InReferenceIdeal.main_arg0)) (m ((c.tc : Thread Cert.InReferenceIdeal.nD Cert.InReferenceIdeal.τ).loc Cert.InReferenceIdeal.main_arg1)) (m ((c.tc : Thread Cert.InReferenceIdeal.nD Cert.InReferenceIdeal.τ).loc Cert.InReferenceIdeal.main_arg2)) (m ((c.tc : Thread Cert.InReferenceIdeal.nD Cert.InReferenceIdeal.τ).loc Cert.InReferenceIdeal.main_arg3)) (m ((c.tc : Thread Cert.InReferenceIdeal.nD Cert.InReferenceIdeal.τ).loc Cert.InReferenceIdeal.main_arg4))).2.2.2.2 = (fun _ => 1#1)

def Pre_WgKernel (m : (ℓ : Loc Cert.WgKernel.nD Cert.WgKernel.τ Cert.WgKernel.sig) → Buf (Elt Bits) ℓ) : Prop :=
  True

def Pre_WgKernelIdeal (m : (ℓ : Loc Cert.WgKernelIdeal.nD Cert.WgKernelIdeal.τ Cert.WgKernelIdeal.sig) → Buf (Elt Ideal) ℓ) : Prop :=
  True

def Pre_WgReferenceIdeal (m : (ℓ : Loc Cert.WgReferenceIdeal.nD Cert.WgReferenceIdeal.τ Cert.WgReferenceIdeal.sig) → Buf (Elt Ideal) ℓ) : Prop :=
  True

def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_WoutKernel (m : (ℓ : Loc Cert.WoutKernel.nD Cert.WoutKernel.τ Cert.WoutKernel.sig) → Buf (Elt Bits) ℓ) : Prop :=
  True

def Pre_WoutKernelIdeal (m : (ℓ : Loc Cert.WoutKernelIdeal.nD Cert.WoutKernelIdeal.τ Cert.WoutKernelIdeal.sig) → Buf (Elt Ideal) ℓ) : Prop :=
  True

def Pre_WoutReferenceIdeal (m : (ℓ : Loc Cert.WoutReferenceIdeal.nD Cert.WoutReferenceIdeal.τ Cert.WoutReferenceIdeal.sig) → Buf (Elt Ideal) ℓ) : Prop :=
  True

def Pre_WattKernel (m : (ℓ : Loc Cert.WattKernel.nD Cert.WattKernel.τ Cert.WattKernel.sig) → Buf (Elt Bits) ℓ) : Prop :=
  True

def Pre_WattKernelIdeal (m : (ℓ : Loc Cert.WattKernelIdeal.nD Cert.WattKernelIdeal.τ Cert.WattKernelIdeal.sig) → Buf (Elt Ideal) ℓ) : Prop :=
  True

def Pre_WattReferenceIdeal (m : (ℓ : Loc Cert.WattReferenceIdeal.nD Cert.WattReferenceIdeal.τ Cert.WattReferenceIdeal.sig) → Buf (Elt Ideal) ℓ) : Prop :=
  True

def Pre_WretKernel (m : (ℓ : Loc Cert.WretKernel.nD Cert.WretKernel.τ Cert.WretKernel.sig) → Buf (Elt Bits) ℓ) : Prop :=
  True

def Pre_WretKernelIdeal (m : (ℓ : Loc Cert.WretKernelIdeal.nD Cert.WretKernelIdeal.τ Cert.WretKernelIdeal.sig) → Buf (Elt Ideal) ℓ) : Prop :=
  True

def Pre_WretReferenceIdeal (m : (ℓ : Loc Cert.WretReferenceIdeal.nD Cert.WretReferenceIdeal.τ Cert.WretReferenceIdeal.sig) → Buf (Elt Ideal) ℓ) : Prop :=
  True

def Pre_FfnUpKernel (m : (ℓ : Loc Cert.FfnUpKernel.nD Cert.FfnUpKernel.τ Cert.FfnUpKernel.sig) → Buf (Elt Bits) ℓ) : Prop :=
  True

def Pre_FfnUpKernelIdeal (m : (ℓ : Loc Cert.FfnUpKernelIdeal.nD Cert.FfnUpKernelIdeal.τ Cert.FfnUpKernelIdeal.sig) → Buf (Elt Ideal) ℓ) : Prop :=
  True

def Pre_FfnUpReferenceIdeal (m : (ℓ : Loc Cert.FfnUpReferenceIdeal.nD Cert.FfnUpReferenceIdeal.τ Cert.FfnUpReferenceIdeal.sig) → Buf (Elt Ideal) ℓ) : Prop :=
  True

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_RetKernel [hRetKernel : Cert.RetKernel.Facts] : Prop :=
  ∀ (m : (ℓ : Loc Cert.RetKernel.nD Cert.RetKernel.τ Cert.RetKernel.sig) → Buf (Elt Bits) ℓ) (g : Dev Cert.RetKernel.nD → PrngReg), Pre_RetKernel m →
    θ_run (Cert.RetKernel.defs (F := Bits)) (onTc (τ := Cert.RetKernel.τ) (Cert.RetKernel.main (F := Bits))) ⟨m, fun _ => 0, g⟩ (fun r => (∀ c : Dev Cert.RetKernel.nD,
      r.2.mem ((c.tc : Thread Cert.RetKernel.nD Cert.RetKernel.τ).loc Cert.RetKernel.main_arg0) = m ((c.tc : Thread Cert.RetKernel.nD Cert.RetKernel.τ).loc Cert.RetKernel.main_arg0)
      ∧ r.2.mem ((c.tc : Thread Cert.RetKernel.nD Cert.RetKernel.τ).loc Cert.RetKernel.main_arg1) = m ((c.tc : Thread Cert.RetKernel.nD Cert.RetKernel.τ).loc Cert.RetKernel.main_arg1))
      ∧ r.2.sem = fun _ => 0)

def quiescent_RetKernelIdeal [hRetKernelIdeal : Cert.RetKernelIdeal.Facts] : Prop :=
  ∀ (m : (ℓ : Loc Cert.RetKernelIdeal.nD Cert.RetKernelIdeal.τ Cert.RetKernelIdeal.sig) → Buf (Elt Ideal) ℓ) (g : Dev Cert.RetKernelIdeal.nD → PrngReg), Pre_RetKernelIdeal m →
    θ_run (Cert.RetKernelIdeal.defs (F := Ideal)) (onTc (τ := Cert.RetKernelIdeal.τ) (Cert.RetKernelIdeal.main (F := Ideal))) ⟨m, fun _ => 0, g⟩ (fun r => (∀ c : Dev Cert.RetKernelIdeal.nD,
      r.2.mem ((c.tc : Thread Cert.RetKernelIdeal.nD Cert.RetKernelIdeal.τ).loc Cert.RetKernelIdeal.main_arg0) = m ((c.tc : Thread Cert.RetKernelIdeal.nD Cert.RetKernelIdeal.τ).loc Cert.RetKernelIdeal.main_arg0)
      ∧ r.2.mem ((c.tc : Thread Cert.RetKernelIdeal.nD Cert.RetKernelIdeal.τ).loc Cert.RetKernelIdeal.main_arg1) = m ((c.tc : Thread Cert.RetKernelIdeal.nD Cert.RetKernelIdeal.τ).loc Cert.RetKernelIdeal.main_arg1))
      ∧ r.2.sem = fun _ => 0)

def quiescent_RetKernelIdeal_pre_ret_finite [hRetKernelIdeal : Cert.RetKernelIdeal.Facts] [hPre_ret_finite : Cert.Pre_ret_finite.Facts] : Prop :=
  ∀ (m : (ℓ : Loc Cert.RetKernelIdeal.nD Cert.RetKernelIdeal.τ Cert.RetKernelIdeal.sig) → Buf (Elt Ideal) ℓ) (g : Dev Cert.RetKernelIdeal.nD → PrngReg), Pre_RetKernelIdeal_ret_finite m →
    θ_run (Cert.RetKernelIdeal.defs (F := Ideal)) (onTc (τ := Cert.RetKernelIdeal.τ) (Cert.RetKernelIdeal.main (F := Ideal))) ⟨m, fun _ => 0, g⟩ (fun r => (∀ c : Dev Cert.RetKernelIdeal.nD,
      r.2.mem ((c.tc : Thread Cert.RetKernelIdeal.nD Cert.RetKernelIdeal.τ).loc Cert.RetKernelIdeal.main_arg0) = m ((c.tc : Thread Cert.RetKernelIdeal.nD Cert.RetKernelIdeal.τ).loc Cert.RetKernelIdeal.main_arg0)
      ∧ r.2.mem ((c.tc : Thread Cert.RetKernelIdeal.nD Cert.RetKernelIdeal.τ).loc Cert.RetKernelIdeal.main_arg1) = m ((c.tc : Thread Cert.RetKernelIdeal.nD Cert.RetKernelIdeal.τ).loc Cert.RetKernelIdeal.main_arg1))
      ∧ r.2.sem = fun _ => 0)

def quiescent_RetReferenceIdeal [hRetReferenceIdeal : Cert.RetReferenceIdeal.Facts] : Prop :=
  ∀ (m : (ℓ : Loc Cert.RetReferenceIdeal.nD Cert.RetReferenceIdeal.τ Cert.RetReferenceIdeal.sig) → Buf (Elt Ideal) ℓ) (g : Dev Cert.RetReferenceIdeal.nD → PrngReg), Pre_RetReferenceIdeal m →
    θ_run (Cert.RetReferenceIdeal.defs (F := Ideal)) (onTc (τ := Cert.RetReferenceIdeal.τ) (Cert.RetReferenceIdeal.main (F := Ideal))) ⟨m, fun _ => 0, g⟩ (fun r => (∀ c : Dev Cert.RetReferenceIdeal.nD,
      r.2.mem ((c.tc : Thread Cert.RetReferenceIdeal.nD Cert.RetReferenceIdeal.τ).loc Cert.RetReferenceIdeal.main_arg0) = m ((c.tc : Thread Cert.RetReferenceIdeal.nD Cert.RetReferenceIdeal.τ).loc Cert.RetReferenceIdeal.main_arg0)
      ∧ r.2.mem ((c.tc : Thread Cert.RetReferenceIdeal.nD Cert.RetReferenceIdeal.τ).loc Cert.RetReferenceIdeal.main_arg1) = m ((c.tc : Thread Cert.RetReferenceIdeal.nD Cert.RetReferenceIdeal.τ).loc Cert.RetReferenceIdeal.main_arg1))
      ∧ r.2.sem = fun _ => 0)

def quiescent_RetReferenceIdeal_pre_ret_finite [hRetReferenceIdeal : Cert.RetReferenceIdeal.Facts] [hPre_ret_finite : Cert.Pre_ret_finite.Facts] : Prop :=
  ∀ (m : (ℓ : Loc Cert.RetReferenceIdeal.nD Cert.RetReferenceIdeal.τ Cert.RetReferenceIdeal.sig) → Buf (Elt Ideal) ℓ) (g : Dev Cert.RetReferenceIdeal.nD → PrngReg), Pre_RetReferenceIdeal_ret_finite m →
    θ_run (Cert.RetReferenceIdeal.defs (F := Ideal)) (onTc (τ := Cert.RetReferenceIdeal.τ) (Cert.RetReferenceIdeal.main (F := Ideal))) ⟨m, fun _ => 0, g⟩ (fun r => (∀ c : Dev Cert.RetReferenceIdeal.nD,
      r.2.mem ((c.tc : Thread Cert.RetReferenceIdeal.nD Cert.RetReferenceIdeal.τ).loc Cert.RetReferenceIdeal.main_arg0) = m ((c.tc : Thread Cert.RetReferenceIdeal.nD Cert.RetReferenceIdeal.τ).loc Cert.RetReferenceIdeal.main_arg0)
      ∧ r.2.mem ((c.tc : Thread Cert.RetReferenceIdeal.nD Cert.RetReferenceIdeal.τ).loc Cert.RetReferenceIdeal.main_arg1) = m ((c.tc : Thread Cert.RetReferenceIdeal.nD Cert.RetReferenceIdeal.τ).loc Cert.RetReferenceIdeal.main_arg1))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3)
      ∧ r.2.mem ((c.tc : Thread Cert.InKernel.nD Cert.InKernel.τ).loc Cert.InKernel.main_arg4) = m ((c.tc : Thread Cert.InKernel.nD Cert.InKernel.τ).loc Cert.InKernel.main_arg4))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ r.2.sem = fun _ => 0)

def quiescent_InKernelIdeal_pre_in_finite [hInKernelIdeal : Cert.InKernelIdeal.Facts] [hPre_in_finite : Cert.Pre_in_finite.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal_in_finite m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4))
      ∧ r.2.sem = fun _ => 0)

def quiescent_InReferenceIdeal_pre_in_finite [hInReferenceIdeal : Cert.InReferenceIdeal.Facts] [hPre_in_finite : Cert.Pre_in_finite.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal_in_finite m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4))
      ∧ r.2.sem = fun _ => 0)

def quiescent_WgKernel [hWgKernel : Cert.WgKernel.Facts] : Prop :=
  ∀ (m : (ℓ : Loc Cert.WgKernel.nD Cert.WgKernel.τ Cert.WgKernel.sig) → Buf (Elt Bits) ℓ) (g : Dev Cert.WgKernel.nD → PrngReg), Pre_WgKernel m →
    θ_run (Cert.WgKernel.defs (F := Bits)) (onTc (τ := Cert.WgKernel.τ) (Cert.WgKernel.main (F := Bits))) ⟨m, fun _ => 0, g⟩ (fun r => (∀ c : Dev Cert.WgKernel.nD,
      r.2.mem ((c.tc : Thread Cert.WgKernel.nD Cert.WgKernel.τ).loc Cert.WgKernel.main_arg0) = m ((c.tc : Thread Cert.WgKernel.nD Cert.WgKernel.τ).loc Cert.WgKernel.main_arg0)
      ∧ r.2.mem ((c.tc : Thread Cert.WgKernel.nD Cert.WgKernel.τ).loc Cert.WgKernel.main_arg1) = m ((c.tc : Thread Cert.WgKernel.nD Cert.WgKernel.τ).loc Cert.WgKernel.main_arg1))
      ∧ r.2.sem = fun _ => 0)

def quiescent_WgKernelIdeal [hWgKernelIdeal : Cert.WgKernelIdeal.Facts] : Prop :=
  ∀ (m : (ℓ : Loc Cert.WgKernelIdeal.nD Cert.WgKernelIdeal.τ Cert.WgKernelIdeal.sig) → Buf (Elt Ideal) ℓ) (g : Dev Cert.WgKernelIdeal.nD → PrngReg), Pre_WgKernelIdeal m →
    θ_run (Cert.WgKernelIdeal.defs (F := Ideal)) (onTc (τ := Cert.WgKernelIdeal.τ) (Cert.WgKernelIdeal.main (F := Ideal))) ⟨m, fun _ => 0, g⟩ (fun r => (∀ c : Dev Cert.WgKernelIdeal.nD,
      r.2.mem ((c.tc : Thread Cert.WgKernelIdeal.nD Cert.WgKernelIdeal.τ).loc Cert.WgKernelIdeal.main_arg0) = m ((c.tc : Thread Cert.WgKernelIdeal.nD Cert.WgKernelIdeal.τ).loc Cert.WgKernelIdeal.main_arg0)
      ∧ r.2.mem ((c.tc : Thread Cert.WgKernelIdeal.nD Cert.WgKernelIdeal.τ).loc Cert.WgKernelIdeal.main_arg1) = m ((c.tc : Thread Cert.WgKernelIdeal.nD Cert.WgKernelIdeal.τ).loc Cert.WgKernelIdeal.main_arg1))
      ∧ r.2.sem = fun _ => 0)

def quiescent_WgReferenceIdeal [hWgReferenceIdeal : Cert.WgReferenceIdeal.Facts] : Prop :=
  ∀ (m : (ℓ : Loc Cert.WgReferenceIdeal.nD Cert.WgReferenceIdeal.τ Cert.WgReferenceIdeal.sig) → Buf (Elt Ideal) ℓ) (g : Dev Cert.WgReferenceIdeal.nD → PrngReg), Pre_WgReferenceIdeal m →
    θ_run (Cert.WgReferenceIdeal.defs (F := Ideal)) (onTc (τ := Cert.WgReferenceIdeal.τ) (Cert.WgReferenceIdeal.main (F := Ideal))) ⟨m, fun _ => 0, g⟩ (fun r => (∀ c : Dev Cert.WgReferenceIdeal.nD,
      r.2.mem ((c.tc : Thread Cert.WgReferenceIdeal.nD Cert.WgReferenceIdeal.τ).loc Cert.WgReferenceIdeal.main_arg0) = m ((c.tc : Thread Cert.WgReferenceIdeal.nD Cert.WgReferenceIdeal.τ).loc Cert.WgReferenceIdeal.main_arg0)
      ∧ r.2.mem ((c.tc : Thread Cert.WgReferenceIdeal.nD Cert.WgReferenceIdeal.τ).loc Cert.WgReferenceIdeal.main_arg1) = m ((c.tc : Thread Cert.WgReferenceIdeal.nD Cert.WgReferenceIdeal.τ).loc Cert.WgReferenceIdeal.main_arg1))
      ∧ r.2.sem = fun _ => 0)

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_WoutKernel [hWoutKernel : Cert.WoutKernel.Facts] : Prop :=
  ∀ (m : (ℓ : Loc Cert.WoutKernel.nD Cert.WoutKernel.τ Cert.WoutKernel.sig) → Buf (Elt Bits) ℓ) (g : Dev Cert.WoutKernel.nD → PrngReg), Pre_WoutKernel m →
    θ_run (Cert.WoutKernel.defs (F := Bits)) (onTc (τ := Cert.WoutKernel.τ) (Cert.WoutKernel.main (F := Bits))) ⟨m, fun _ => 0, g⟩ (fun r => (∀ c : Dev Cert.WoutKernel.nD,
      r.2.mem ((c.tc : Thread Cert.WoutKernel.nD Cert.WoutKernel.τ).loc Cert.WoutKernel.main_arg0) = m ((c.tc : Thread Cert.WoutKernel.nD Cert.WoutKernel.τ).loc Cert.WoutKernel.main_arg0)
      ∧ r.2.mem ((c.tc : Thread Cert.WoutKernel.nD Cert.WoutKernel.τ).loc Cert.WoutKernel.main_arg1) = m ((c.tc : Thread Cert.WoutKernel.nD Cert.WoutKernel.τ).loc Cert.WoutKernel.main_arg1))
      ∧ r.2.sem = fun _ => 0)

def quiescent_WoutKernelIdeal [hWoutKernelIdeal : Cert.WoutKernelIdeal.Facts] : Prop :=
  ∀ (m : (ℓ : Loc Cert.WoutKernelIdeal.nD Cert.WoutKernelIdeal.τ Cert.WoutKernelIdeal.sig) → Buf (Elt Ideal) ℓ) (g : Dev Cert.WoutKernelIdeal.nD → PrngReg), Pre_WoutKernelIdeal m →
    θ_run (Cert.WoutKernelIdeal.defs (F := Ideal)) (onTc (τ := Cert.WoutKernelIdeal.τ) (Cert.WoutKernelIdeal.main (F := Ideal))) ⟨m, fun _ => 0, g⟩ (fun r => (∀ c : Dev Cert.WoutKernelIdeal.nD,
      r.2.mem ((c.tc : Thread Cert.WoutKernelIdeal.nD Cert.WoutKernelIdeal.τ).loc Cert.WoutKernelIdeal.main_arg0) = m ((c.tc : Thread Cert.WoutKernelIdeal.nD Cert.WoutKernelIdeal.τ).loc Cert.WoutKernelIdeal.main_arg0)
      ∧ r.2.mem ((c.tc : Thread Cert.WoutKernelIdeal.nD Cert.WoutKernelIdeal.τ).loc Cert.WoutKernelIdeal.main_arg1) = m ((c.tc : Thread Cert.WoutKernelIdeal.nD Cert.WoutKernelIdeal.τ).loc Cert.WoutKernelIdeal.main_arg1))
      ∧ r.2.sem = fun _ => 0)

def quiescent_WoutReferenceIdeal [hWoutReferenceIdeal : Cert.WoutReferenceIdeal.Facts] : Prop :=
  ∀ (m : (ℓ : Loc Cert.WoutReferenceIdeal.nD Cert.WoutReferenceIdeal.τ Cert.WoutReferenceIdeal.sig) → Buf (Elt Ideal) ℓ) (g : Dev Cert.WoutReferenceIdeal.nD → PrngReg), Pre_WoutReferenceIdeal m →
    θ_run (Cert.WoutReferenceIdeal.defs (F := Ideal)) (onTc (τ := Cert.WoutReferenceIdeal.τ) (Cert.WoutReferenceIdeal.main (F := Ideal))) ⟨m, fun _ => 0, g⟩ (fun r => (∀ c : Dev Cert.WoutReferenceIdeal.nD,
      r.2.mem ((c.tc : Thread Cert.WoutReferenceIdeal.nD Cert.WoutReferenceIdeal.τ).loc Cert.WoutReferenceIdeal.main_arg0) = m ((c.tc : Thread Cert.WoutReferenceIdeal.nD Cert.WoutReferenceIdeal.τ).loc Cert.WoutReferenceIdeal.main_arg0)
      ∧ r.2.mem ((c.tc : Thread Cert.WoutReferenceIdeal.nD Cert.WoutReferenceIdeal.τ).loc Cert.WoutReferenceIdeal.main_arg1) = m ((c.tc : Thread Cert.WoutReferenceIdeal.nD Cert.WoutReferenceIdeal.τ).loc Cert.WoutReferenceIdeal.main_arg1))
      ∧ r.2.sem = fun _ => 0)

def quiescent_WattKernel [hWattKernel : Cert.WattKernel.Facts] : Prop :=
  ∀ (m : (ℓ : Loc Cert.WattKernel.nD Cert.WattKernel.τ Cert.WattKernel.sig) → Buf (Elt Bits) ℓ) (g : Dev Cert.WattKernel.nD → PrngReg), Pre_WattKernel m →
    θ_run (Cert.WattKernel.defs (F := Bits)) (onTc (τ := Cert.WattKernel.τ) (Cert.WattKernel.main (F := Bits))) ⟨m, fun _ => 0, g⟩ (fun r => (∀ c : Dev Cert.WattKernel.nD,
      r.2.mem ((c.tc : Thread Cert.WattKernel.nD Cert.WattKernel.τ).loc Cert.WattKernel.main_arg0) = m ((c.tc : Thread Cert.WattKernel.nD Cert.WattKernel.τ).loc Cert.WattKernel.main_arg0)
      ∧ r.2.mem ((c.tc : Thread Cert.WattKernel.nD Cert.WattKernel.τ).loc Cert.WattKernel.main_arg1) = m ((c.tc : Thread Cert.WattKernel.nD Cert.WattKernel.τ).loc Cert.WattKernel.main_arg1))
      ∧ r.2.sem = fun _ => 0)

def quiescent_WattKernelIdeal [hWattKernelIdeal : Cert.WattKernelIdeal.Facts] : Prop :=
  ∀ (m : (ℓ : Loc Cert.WattKernelIdeal.nD Cert.WattKernelIdeal.τ Cert.WattKernelIdeal.sig) → Buf (Elt Ideal) ℓ) (g : Dev Cert.WattKernelIdeal.nD → PrngReg), Pre_WattKernelIdeal m →
    θ_run (Cert.WattKernelIdeal.defs (F := Ideal)) (onTc (τ := Cert.WattKernelIdeal.τ) (Cert.WattKernelIdeal.main (F := Ideal))) ⟨m, fun _ => 0, g⟩ (fun r => (∀ c : Dev Cert.WattKernelIdeal.nD,
      r.2.mem ((c.tc : Thread Cert.WattKernelIdeal.nD Cert.WattKernelIdeal.τ).loc Cert.WattKernelIdeal.main_arg0) = m ((c.tc : Thread Cert.WattKernelIdeal.nD Cert.WattKernelIdeal.τ).loc Cert.WattKernelIdeal.main_arg0)
      ∧ r.2.mem ((c.tc : Thread Cert.WattKernelIdeal.nD Cert.WattKernelIdeal.τ).loc Cert.WattKernelIdeal.main_arg1) = m ((c.tc : Thread Cert.WattKernelIdeal.nD Cert.WattKernelIdeal.τ).loc Cert.WattKernelIdeal.main_arg1))
      ∧ r.2.sem = fun _ => 0)

def quiescent_WattReferenceIdeal [hWattReferenceIdeal : Cert.WattReferenceIdeal.Facts] : Prop :=
  ∀ (m : (ℓ : Loc Cert.WattReferenceIdeal.nD Cert.WattReferenceIdeal.τ Cert.WattReferenceIdeal.sig) → Buf (Elt Ideal) ℓ) (g : Dev Cert.WattReferenceIdeal.nD → PrngReg), Pre_WattReferenceIdeal m →
    θ_run (Cert.WattReferenceIdeal.defs (F := Ideal)) (onTc (τ := Cert.WattReferenceIdeal.τ) (Cert.WattReferenceIdeal.main (F := Ideal))) ⟨m, fun _ => 0, g⟩ (fun r => (∀ c : Dev Cert.WattReferenceIdeal.nD,
      r.2.mem ((c.tc : Thread Cert.WattReferenceIdeal.nD Cert.WattReferenceIdeal.τ).loc Cert.WattReferenceIdeal.main_arg0) = m ((c.tc : Thread Cert.WattReferenceIdeal.nD Cert.WattReferenceIdeal.τ).loc Cert.WattReferenceIdeal.main_arg0)
      ∧ r.2.mem ((c.tc : Thread Cert.WattReferenceIdeal.nD Cert.WattReferenceIdeal.τ).loc Cert.WattReferenceIdeal.main_arg1) = m ((c.tc : Thread Cert.WattReferenceIdeal.nD Cert.WattReferenceIdeal.τ).loc Cert.WattReferenceIdeal.main_arg1))
      ∧ r.2.sem = fun _ => 0)

def quiescent_WretKernel [hWretKernel : Cert.WretKernel.Facts] : Prop :=
  ∀ (m : (ℓ : Loc Cert.WretKernel.nD Cert.WretKernel.τ Cert.WretKernel.sig) → Buf (Elt Bits) ℓ) (g : Dev Cert.WretKernel.nD → PrngReg), Pre_WretKernel m →
    θ_run (Cert.WretKernel.defs (F := Bits)) (onTc (τ := Cert.WretKernel.τ) (Cert.WretKernel.main (F := Bits))) ⟨m, fun _ => 0, g⟩ (fun r => (∀ c : Dev Cert.WretKernel.nD,
      r.2.mem ((c.tc : Thread Cert.WretKernel.nD Cert.WretKernel.τ).loc Cert.WretKernel.main_arg0) = m ((c.tc : Thread Cert.WretKernel.nD Cert.WretKernel.τ).loc Cert.WretKernel.main_arg0)
      ∧ r.2.mem ((c.tc : Thread Cert.WretKernel.nD Cert.WretKernel.τ).loc Cert.WretKernel.main_arg1) = m ((c.tc : Thread Cert.WretKernel.nD Cert.WretKernel.τ).loc Cert.WretKernel.main_arg1))
      ∧ r.2.sem = fun _ => 0)

def quiescent_WretKernelIdeal [hWretKernelIdeal : Cert.WretKernelIdeal.Facts] : Prop :=
  ∀ (m : (ℓ : Loc Cert.WretKernelIdeal.nD Cert.WretKernelIdeal.τ Cert.WretKernelIdeal.sig) → Buf (Elt Ideal) ℓ) (g : Dev Cert.WretKernelIdeal.nD → PrngReg), Pre_WretKernelIdeal m →
    θ_run (Cert.WretKernelIdeal.defs (F := Ideal)) (onTc (τ := Cert.WretKernelIdeal.τ) (Cert.WretKernelIdeal.main (F := Ideal))) ⟨m, fun _ => 0, g⟩ (fun r => (∀ c : Dev Cert.WretKernelIdeal.nD,
      r.2.mem ((c.tc : Thread Cert.WretKernelIdeal.nD Cert.WretKernelIdeal.τ).loc Cert.WretKernelIdeal.main_arg0) = m ((c.tc : Thread Cert.WretKernelIdeal.nD Cert.WretKernelIdeal.τ).loc Cert.WretKernelIdeal.main_arg0)
      ∧ r.2.mem ((c.tc : Thread Cert.WretKernelIdeal.nD Cert.WretKernelIdeal.τ).loc Cert.WretKernelIdeal.main_arg1) = m ((c.tc : Thread Cert.WretKernelIdeal.nD Cert.WretKernelIdeal.τ).loc Cert.WretKernelIdeal.main_arg1))
      ∧ r.2.sem = fun _ => 0)

def quiescent_WretReferenceIdeal [hWretReferenceIdeal : Cert.WretReferenceIdeal.Facts] : Prop :=
  ∀ (m : (ℓ : Loc Cert.WretReferenceIdeal.nD Cert.WretReferenceIdeal.τ Cert.WretReferenceIdeal.sig) → Buf (Elt Ideal) ℓ) (g : Dev Cert.WretReferenceIdeal.nD → PrngReg), Pre_WretReferenceIdeal m →
    θ_run (Cert.WretReferenceIdeal.defs (F := Ideal)) (onTc (τ := Cert.WretReferenceIdeal.τ) (Cert.WretReferenceIdeal.main (F := Ideal))) ⟨m, fun _ => 0, g⟩ (fun r => (∀ c : Dev Cert.WretReferenceIdeal.nD,
      r.2.mem ((c.tc : Thread Cert.WretReferenceIdeal.nD Cert.WretReferenceIdeal.τ).loc Cert.WretReferenceIdeal.main_arg0) = m ((c.tc : Thread Cert.WretReferenceIdeal.nD Cert.WretReferenceIdeal.τ).loc Cert.WretReferenceIdeal.main_arg0)
      ∧ r.2.mem ((c.tc : Thread Cert.WretReferenceIdeal.nD Cert.WretReferenceIdeal.τ).loc Cert.WretReferenceIdeal.main_arg1) = m ((c.tc : Thread Cert.WretReferenceIdeal.nD Cert.WretReferenceIdeal.τ).loc Cert.WretReferenceIdeal.main_arg1))
      ∧ r.2.sem = fun _ => 0)

def quiescent_FfnUpKernel [hFfnUpKernel : Cert.FfnUpKernel.Facts] : Prop :=
  ∀ (m : (ℓ : Loc Cert.FfnUpKernel.nD Cert.FfnUpKernel.τ Cert.FfnUpKernel.sig) → Buf (Elt Bits) ℓ) (g : Dev Cert.FfnUpKernel.nD → PrngReg), Pre_FfnUpKernel m →
    θ_run (Cert.FfnUpKernel.defs (F := Bits)) (onTc (τ := Cert.FfnUpKernel.τ) (Cert.FfnUpKernel.main (F := Bits))) ⟨m, fun _ => 0, g⟩ (fun r => (∀ c : Dev Cert.FfnUpKernel.nD,
      r.2.mem ((c.tc : Thread Cert.FfnUpKernel.nD Cert.FfnUpKernel.τ).loc Cert.FfnUpKernel.main_arg0) = m ((c.tc : Thread Cert.FfnUpKernel.nD Cert.FfnUpKernel.τ).loc Cert.FfnUpKernel.main_arg0)
      ∧ r.2.mem ((c.tc : Thread Cert.FfnUpKernel.nD Cert.FfnUpKernel.τ).loc Cert.FfnUpKernel.main_arg1) = m ((c.tc : Thread Cert.FfnUpKernel.nD Cert.FfnUpKernel.τ).loc Cert.FfnUpKernel.main_arg1)
      ∧ r.2.mem ((c.tc : Thread Cert.FfnUpKernel.nD Cert.FfnUpKernel.τ).loc Cert.FfnUpKernel.main_arg2) = m ((c.tc : Thread Cert.FfnUpKernel.nD Cert.FfnUpKernel.τ).loc Cert.FfnUpKernel.main_arg2))
      ∧ r.2.sem = fun _ => 0)

def quiescent_FfnUpKernelIdeal [hFfnUpKernelIdeal : Cert.FfnUpKernelIdeal.Facts] : Prop :=
  ∀ (m : (ℓ : Loc Cert.FfnUpKernelIdeal.nD Cert.FfnUpKernelIdeal.τ Cert.FfnUpKernelIdeal.sig) → Buf (Elt Ideal) ℓ) (g : Dev Cert.FfnUpKernelIdeal.nD → PrngReg), Pre_FfnUpKernelIdeal m →
    θ_run (Cert.FfnUpKernelIdeal.defs (F := Ideal)) (onTc (τ := Cert.FfnUpKernelIdeal.τ) (Cert.FfnUpKernelIdeal.main (F := Ideal))) ⟨m, fun _ => 0, g⟩ (fun r => (∀ c : Dev Cert.FfnUpKernelIdeal.nD,
      r.2.mem ((c.tc : Thread Cert.FfnUpKernelIdeal.nD Cert.FfnUpKernelIdeal.τ).loc Cert.FfnUpKernelIdeal.main_arg0) = m ((c.tc : Thread Cert.FfnUpKernelIdeal.nD Cert.FfnUpKernelIdeal.τ).loc Cert.FfnUpKernelIdeal.main_arg0)
      ∧ r.2.mem ((c.tc : Thread Cert.FfnUpKernelIdeal.nD Cert.FfnUpKernelIdeal.τ).loc Cert.FfnUpKernelIdeal.main_arg1) = m ((c.tc : Thread Cert.FfnUpKernelIdeal.nD Cert.FfnUpKernelIdeal.τ).loc Cert.FfnUpKernelIdeal.main_arg1)
      ∧ r.2.mem ((c.tc : Thread Cert.FfnUpKernelIdeal.nD Cert.FfnUpKernelIdeal.τ).loc Cert.FfnUpKernelIdeal.main_arg2) = m ((c.tc : Thread Cert.FfnUpKernelIdeal.nD Cert.FfnUpKernelIdeal.τ).loc Cert.FfnUpKernelIdeal.main_arg2))
      ∧ r.2.sem = fun _ => 0)

def quiescent_FfnUpReferenceIdeal [hFfnUpReferenceIdeal : Cert.FfnUpReferenceIdeal.Facts] : Prop :=
  ∀ (m : (ℓ : Loc Cert.FfnUpReferenceIdeal.nD Cert.FfnUpReferenceIdeal.τ Cert.FfnUpReferenceIdeal.sig) → Buf (Elt Ideal) ℓ) (g : Dev Cert.FfnUpReferenceIdeal.nD → PrngReg), Pre_FfnUpReferenceIdeal m →
    θ_run (Cert.FfnUpReferenceIdeal.defs (F := Ideal)) (onTc (τ := Cert.FfnUpReferenceIdeal.τ) (Cert.FfnUpReferenceIdeal.main (F := Ideal))) ⟨m, fun _ => 0, g⟩ (fun r => (∀ c : Dev Cert.FfnUpReferenceIdeal.nD,
      r.2.mem ((c.tc : Thread Cert.FfnUpReferenceIdeal.nD Cert.FfnUpReferenceIdeal.τ).loc Cert.FfnUpReferenceIdeal.main_arg0) = m ((c.tc : Thread Cert.FfnUpReferenceIdeal.nD Cert.FfnUpReferenceIdeal.τ).loc Cert.FfnUpReferenceIdeal.main_arg0)
      ∧ r.2.mem ((c.tc : Thread Cert.FfnUpReferenceIdeal.nD Cert.FfnUpReferenceIdeal.τ).loc Cert.FfnUpReferenceIdeal.main_arg1) = m ((c.tc : Thread Cert.FfnUpReferenceIdeal.nD Cert.FfnUpReferenceIdeal.τ).loc Cert.FfnUpReferenceIdeal.main_arg1)
      ∧ r.2.mem ((c.tc : Thread Cert.FfnUpReferenceIdeal.nD Cert.FfnUpReferenceIdeal.τ).loc Cert.FfnUpReferenceIdeal.main_arg2) = m ((c.tc : Thread Cert.FfnUpReferenceIdeal.nD Cert.FfnUpReferenceIdeal.τ).loc Cert.FfnUpReferenceIdeal.main_arg2))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4)
      ∧ r.2.mem ((c.tc : Thread Cert.MixKernel.nD Cert.MixKernel.τ).loc Cert.MixKernel.main_arg5) = m ((c.tc : Thread Cert.MixKernel.nD Cert.MixKernel.τ).loc Cert.MixKernel.main_arg5)
      ∧ r.2.mem ((c.tc : Thread Cert.MixKernel.nD Cert.MixKernel.τ).loc Cert.MixKernel.main_arg6) = m ((c.tc : Thread Cert.MixKernel.nD Cert.MixKernel.τ).loc Cert.MixKernel.main_arg6)
      ∧ r.2.mem ((c.tc : Thread Cert.MixKernel.nD Cert.MixKernel.τ).loc Cert.MixKernel.main_arg7) = m ((c.tc : Thread Cert.MixKernel.nD Cert.MixKernel.τ).loc Cert.MixKernel.main_arg7))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
      ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v28_0)) (v1 : (c : Dev Cert.KernelIdeal.nD) → Buf (Elt Ideal) ((c.tc : Thread Cert.KernelIdeal.nD Cert.KernelIdeal.τ).loc Cert.KernelIdeal.main_v28_1)) (v2 : (c : Dev Cert.KernelIdeal.nD) → Buf (Elt Ideal) ((c.tc : Thread Cert.KernelIdeal.nD Cert.KernelIdeal.τ).loc Cert.KernelIdeal.main_v28_2)) (v3 : (c : Dev Cert.KernelIdeal.nD) → Buf (Elt Ideal) ((c.tc : Thread Cert.KernelIdeal.nD Cert.KernelIdeal.τ).loc Cert.KernelIdeal.main_v28_3)) (v4 : (c : Dev Cert.KernelIdeal.nD) → Buf (Elt Ideal) ((c.tc : Thread Cert.KernelIdeal.nD Cert.KernelIdeal.τ).loc Cert.KernelIdeal.main_v28_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28_0) = v0 c
          ∧ r.2.mem ((c.tc : Thread Cert.KernelIdeal.nD Cert.KernelIdeal.τ).loc Cert.KernelIdeal.main_v28_1) = v1 c
          ∧ r.2.mem ((c.tc : Thread Cert.KernelIdeal.nD Cert.KernelIdeal.τ).loc Cert.KernelIdeal.main_v28_2) = v2 c
          ∧ r.2.mem ((c.tc : Thread Cert.KernelIdeal.nD Cert.KernelIdeal.τ).loc Cert.KernelIdeal.main_v28_3) = v3 c
          ∧ r.2.mem ((c.tc : Thread Cert.KernelIdeal.nD Cert.KernelIdeal.τ).loc Cert.KernelIdeal.main_v28_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_v50) = v2 c
          ∧ r.2.mem ((c.tc : Thread Cert.ReferenceIdeal.nD Cert.ReferenceIdeal.τ).loc Cert.ReferenceIdeal.main_v57) = v3 c
          ∧ r.2.mem ((c.tc : Thread Cert.ReferenceIdeal.nD Cert.ReferenceIdeal.τ).loc Cert.ReferenceIdeal.main_v49) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_RetKernel_RetKernelIdeal : Prop :=
  True

def algebraic_RetKernelIdeal_RetReferenceIdeal_pre_ret_finite [hRetKernelIdeal : Cert.RetKernelIdeal.Facts] [hRetReferenceIdeal : Cert.RetReferenceIdeal.Facts] [hPre_ret_finite : Cert.Pre_ret_finite.Facts] : Prop :=
  ∀ (m : (ℓ : Loc Cert.RetKernelIdeal.nD Cert.RetKernelIdeal.τ Cert.RetKernelIdeal.sig) → Buf (Elt Ideal) ℓ) (g : Dev Cert.RetKernelIdeal.nD → PrngReg)
    (m' : (ℓ : Loc Cert.RetReferenceIdeal.nD Cert.RetReferenceIdeal.τ Cert.RetReferenceIdeal.sig) → Buf (Elt Ideal) ℓ) (g' : Dev Cert.RetReferenceIdeal.nD → PrngReg), Pre_RetKernelIdeal_ret_finite m →
    (∀ c : Dev Cert.RetKernelIdeal.nD,
      m' ((c.tc : Thread Cert.RetReferenceIdeal.nD Cert.RetReferenceIdeal.τ).loc Cert.RetReferenceIdeal.main_arg0) = m ((c.tc : Thread Cert.RetKernelIdeal.nD Cert.RetKernelIdeal.τ).loc Cert.RetKernelIdeal.main_arg0)
      ∧ m' ((c.tc : Thread Cert.RetReferenceIdeal.nD Cert.RetReferenceIdeal.τ).loc Cert.RetReferenceIdeal.main_arg1) = m ((c.tc : Thread Cert.RetKernelIdeal.nD Cert.RetKernelIdeal.τ).loc Cert.RetKernelIdeal.main_arg1)) →
    ∃ (v0 : (c : Dev Cert.RetKernelIdeal.nD) → Buf (Elt Ideal) ((c.tc : Thread Cert.RetKernelIdeal.nD Cert.RetKernelIdeal.τ).loc Cert.RetKernelIdeal.main_v336)),
      θ_run (Cert.RetKernelIdeal.defs (F := Ideal)) (onTc (τ := Cert.RetKernelIdeal.τ) (Cert.RetKernelIdeal.main (F := Ideal))) ⟨m, fun _ => 0, g⟩ (fun r => ∀ c : Dev Cert.RetKernelIdeal.nD,
          r.2.mem ((c.tc : Thread Cert.RetKernelIdeal.nD Cert.RetKernelIdeal.τ).loc Cert.RetKernelIdeal.main_v336) = v0 c
          ∧ r.2.mem ((c.tc : Thread Cert.RetKernelIdeal.nD Cert.RetKernelIdeal.τ).loc Cert.RetKernelIdeal.main_arg0) = m ((c.tc : Thread Cert.RetKernelIdeal.nD Cert.RetKernelIdeal.τ).loc Cert.RetKernelIdeal.main_arg0)
          ∧ r.2.mem ((c.tc : Thread Cert.RetKernelIdeal.nD Cert.RetKernelIdeal.τ).loc Cert.RetKernelIdeal.main_arg1) = m ((c.tc : Thread Cert.RetKernelIdeal.nD Cert.RetKernelIdeal.τ).loc Cert.RetKernelIdeal.main_arg1))
      ∧ θ_run (Cert.RetReferenceIdeal.defs (F := Ideal)) (onTc (τ := Cert.RetReferenceIdeal.τ) (Cert.RetReferenceIdeal.main (F := Ideal))) ⟨m', fun _ => 0, g'⟩ (fun r => ∀ c : Dev Cert.RetReferenceIdeal.nD,
          r.2.mem ((c.tc : Thread Cert.RetReferenceIdeal.nD Cert.RetReferenceIdeal.τ).loc Cert.RetReferenceIdeal.main_v757) = v0 c
          ∧ r.2.mem ((c.tc : Thread Cert.RetReferenceIdeal.nD Cert.RetReferenceIdeal.τ).loc Cert.RetReferenceIdeal.main_arg0) = m' ((c.tc : Thread Cert.RetReferenceIdeal.nD Cert.RetReferenceIdeal.τ).loc Cert.RetReferenceIdeal.main_arg0)
          ∧ r.2.mem ((c.tc : Thread Cert.RetReferenceIdeal.nD Cert.RetReferenceIdeal.τ).loc Cert.RetReferenceIdeal.main_arg1) = m' ((c.tc : Thread Cert.RetReferenceIdeal.nD Cert.RetReferenceIdeal.τ).loc Cert.RetReferenceIdeal.main_arg1))

def preserves_InKernel_InKernelIdeal : Prop :=
  True

def algebraic_InKernelIdeal_InReferenceIdeal_pre_in_finite [hInKernelIdeal : Cert.InKernelIdeal.Facts] [hInReferenceIdeal : Cert.InReferenceIdeal.Facts] [hPre_in_finite : Cert.Pre_in_finite.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal_in_finite m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)
      ∧ m' ((c.tc : Thread Cert.InReferenceIdeal.nD Cert.InReferenceIdeal.τ).loc Cert.InReferenceIdeal.main_arg4) = m ((c.tc : Thread Cert.InKernelIdeal.nD Cert.InKernelIdeal.τ).loc Cert.InKernelIdeal.main_arg4)) →
    ∃ (v0 : (c : Dev Cert.InKernelIdeal.nD) → Buf (Elt Ideal) ((c.tc : Thread Cert.InKernelIdeal.nD Cert.InKernelIdeal.τ).loc Cert.InKernelIdeal.main_v4_0)) (v1 : (c : Dev Cert.InKernelIdeal.nD) → Buf (Elt Ideal) ((c.tc : Thread Cert.InKernelIdeal.nD Cert.InKernelIdeal.τ).loc Cert.InKernelIdeal.main_v4_1)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v4_0) = v0 c
          ∧ r.2.mem ((c.tc : Thread Cert.InKernelIdeal.nD Cert.InKernelIdeal.τ).loc Cert.InKernelIdeal.main_v4_1) = v1 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
          ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v42) = v0 c
          ∧ r.2.mem ((c.tc : Thread Cert.InReferenceIdeal.nD Cert.InReferenceIdeal.τ).loc Cert.InReferenceIdeal.main_v41) = v1 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4))

def preserves_WgKernel_WgKernelIdeal : Prop :=
  True

def algebraic_WgKernelIdeal_WgReferenceIdeal [hWgKernelIdeal : Cert.WgKernelIdeal.Facts] [hWgReferenceIdeal : Cert.WgReferenceIdeal.Facts] : Prop :=
  ∀ (m : (ℓ : Loc Cert.WgKernelIdeal.nD Cert.WgKernelIdeal.τ Cert.WgKernelIdeal.sig) → Buf (Elt Ideal) ℓ) (g : Dev Cert.WgKernelIdeal.nD → PrngReg)
    (m' : (ℓ : Loc Cert.WgReferenceIdeal.nD Cert.WgReferenceIdeal.τ Cert.WgReferenceIdeal.sig) → Buf (Elt Ideal) ℓ) (g' : Dev Cert.WgReferenceIdeal.nD → PrngReg), Pre_WgKernelIdeal m →
    (∀ c : Dev Cert.WgKernelIdeal.nD,
      m' ((c.tc : Thread Cert.WgReferenceIdeal.nD Cert.WgReferenceIdeal.τ).loc Cert.WgReferenceIdeal.main_arg0) = m ((c.tc : Thread Cert.WgKernelIdeal.nD Cert.WgKernelIdeal.τ).loc Cert.WgKernelIdeal.main_arg0)
      ∧ m' ((c.tc : Thread Cert.WgReferenceIdeal.nD Cert.WgReferenceIdeal.τ).loc Cert.WgReferenceIdeal.main_arg1) = m ((c.tc : Thread Cert.WgKernelIdeal.nD Cert.WgKernelIdeal.τ).loc Cert.WgKernelIdeal.main_arg1)) →
    ∃ (v0 : (c : Dev Cert.WgKernelIdeal.nD) → Buf (Elt Ideal) ((c.tc : Thread Cert.WgKernelIdeal.nD Cert.WgKernelIdeal.τ).loc Cert.WgKernelIdeal.main_v4)),
      θ_run (Cert.WgKernelIdeal.defs (F := Ideal)) (onTc (τ := Cert.WgKernelIdeal.τ) (Cert.WgKernelIdeal.main (F := Ideal))) ⟨m, fun _ => 0, g⟩ (fun r => ∀ c : Dev Cert.WgKernelIdeal.nD,
          r.2.mem ((c.tc : Thread Cert.WgKernelIdeal.nD Cert.WgKernelIdeal.τ).loc Cert.WgKernelIdeal.main_v4) = v0 c
          ∧ r.2.mem ((c.tc : Thread Cert.WgKernelIdeal.nD Cert.WgKernelIdeal.τ).loc Cert.WgKernelIdeal.main_arg0) = m ((c.tc : Thread Cert.WgKernelIdeal.nD Cert.WgKernelIdeal.τ).loc Cert.WgKernelIdeal.main_arg0)
          ∧ r.2.mem ((c.tc : Thread Cert.WgKernelIdeal.nD Cert.WgKernelIdeal.τ).loc Cert.WgKernelIdeal.main_arg1) = m ((c.tc : Thread Cert.WgKernelIdeal.nD Cert.WgKernelIdeal.τ).loc Cert.WgKernelIdeal.main_arg1))
      ∧ θ_run (Cert.WgReferenceIdeal.defs (F := Ideal)) (onTc (τ := Cert.WgReferenceIdeal.τ) (Cert.WgReferenceIdeal.main (F := Ideal))) ⟨m', fun _ => 0, g'⟩ (fun r => ∀ c : Dev Cert.WgReferenceIdeal.nD,
          r.2.mem ((c.tc : Thread Cert.WgReferenceIdeal.nD Cert.WgReferenceIdeal.τ).loc Cert.WgReferenceIdeal.main_v4) = v0 c
          ∧ r.2.mem ((c.tc : Thread Cert.WgReferenceIdeal.nD Cert.WgReferenceIdeal.τ).loc Cert.WgReferenceIdeal.main_arg0) = m' ((c.tc : Thread Cert.WgReferenceIdeal.nD Cert.WgReferenceIdeal.τ).loc Cert.WgReferenceIdeal.main_arg0)
          ∧ r.2.mem ((c.tc : Thread Cert.WgReferenceIdeal.nD Cert.WgReferenceIdeal.τ).loc Cert.WgReferenceIdeal.main_arg1) = m' ((c.tc : Thread Cert.WgReferenceIdeal.nD Cert.WgReferenceIdeal.τ).loc Cert.WgReferenceIdeal.main_arg1))

def preserves_GateKernel_GateKernelIdeal : Prop :=
  True

def algebraic_GateKernelIdeal_GateReferenceIdeal [hGateKernelIdeal : Cert.GateKernelIdeal.Facts] [hGateReferenceIdeal : Cert.GateReferenceIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateKernelIdeal m →
    (∀ c : Dev Cert.GateKernelIdeal.nD,
      m' ((c.tc : Thread Cert.GateReferenceIdeal.nD Cert.GateReferenceIdeal.τ).loc Cert.GateReferenceIdeal.main_arg0) = m ((c.tc : Thread Cert.GateKernelIdeal.nD Cert.GateKernelIdeal.τ).loc Cert.GateKernelIdeal.main_arg0)
      ∧ m' ((c.tc : Thread Cert.GateReferenceIdeal.nD Cert.GateReferenceIdeal.τ).loc Cert.GateReferenceIdeal.main_arg1) = m ((c.tc : Thread Cert.GateKernelIdeal.nD Cert.GateKernelIdeal.τ).loc Cert.GateKernelIdeal.main_arg1)) →
    ∃ (v0 : (c : Dev Cert.GateKernelIdeal.nD) → Buf (Elt Ideal) ((c.tc : Thread Cert.GateKernelIdeal.nD Cert.GateKernelIdeal.τ).loc Cert.GateKernelIdeal.main_v4)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          r.2.mem ((c.tc : Thread Cert.GateKernelIdeal.nD Cert.GateKernelIdeal.τ).loc Cert.GateKernelIdeal.main_v4) = v0 c
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v5) = v0 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1))

def preserves_UpKernel_UpKernelIdeal : Prop :=
  True

def algebraic_UpKernelIdeal_UpReferenceIdeal [hUpKernelIdeal : Cert.UpKernelIdeal.Facts] [hUpReferenceIdeal : Cert.UpReferenceIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)) →
    ∃ (v0 : (c : Dev Cert.UpKernelIdeal.nD) → Buf (Elt Ideal) ((c.tc : Thread Cert.UpKernelIdeal.nD Cert.UpKernelIdeal.τ).loc Cert.UpKernelIdeal.main_v4)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v4) = v0 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v5) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_WoutKernel_WoutKernelIdeal : Prop :=
  True

def algebraic_WoutKernelIdeal_WoutReferenceIdeal [hWoutKernelIdeal : Cert.WoutKernelIdeal.Facts] [hWoutReferenceIdeal : Cert.WoutReferenceIdeal.Facts] : Prop :=
  ∀ (m : (ℓ : Loc Cert.WoutKernelIdeal.nD Cert.WoutKernelIdeal.τ Cert.WoutKernelIdeal.sig) → Buf (Elt Ideal) ℓ) (g : Dev Cert.WoutKernelIdeal.nD → PrngReg)
    (m' : (ℓ : Loc Cert.WoutReferenceIdeal.nD Cert.WoutReferenceIdeal.τ Cert.WoutReferenceIdeal.sig) → Buf (Elt Ideal) ℓ) (g' : Dev Cert.WoutReferenceIdeal.nD → PrngReg), Pre_WoutKernelIdeal m →
    (∀ c : Dev Cert.WoutKernelIdeal.nD,
      m' ((c.tc : Thread Cert.WoutReferenceIdeal.nD Cert.WoutReferenceIdeal.τ).loc Cert.WoutReferenceIdeal.main_arg0) = m ((c.tc : Thread Cert.WoutKernelIdeal.nD Cert.WoutKernelIdeal.τ).loc Cert.WoutKernelIdeal.main_arg0)
      ∧ m' ((c.tc : Thread Cert.WoutReferenceIdeal.nD Cert.WoutReferenceIdeal.τ).loc Cert.WoutReferenceIdeal.main_arg1) = m ((c.tc : Thread Cert.WoutKernelIdeal.nD Cert.WoutKernelIdeal.τ).loc Cert.WoutKernelIdeal.main_arg1)) →
    ∃ (v0 : (c : Dev Cert.WoutKernelIdeal.nD) → Buf (Elt Ideal) ((c.tc : Thread Cert.WoutKernelIdeal.nD Cert.WoutKernelIdeal.τ).loc Cert.WoutKernelIdeal.main_v2)),
      θ_run (Cert.WoutKernelIdeal.defs (F := Ideal)) (onTc (τ := Cert.WoutKernelIdeal.τ) (Cert.WoutKernelIdeal.main (F := Ideal))) ⟨m, fun _ => 0, g⟩ (fun r => ∀ c : Dev Cert.WoutKernelIdeal.nD,
          r.2.mem ((c.tc : Thread Cert.WoutKernelIdeal.nD Cert.WoutKernelIdeal.τ).loc Cert.WoutKernelIdeal.main_v2) = v0 c
          ∧ r.2.mem ((c.tc : Thread Cert.WoutKernelIdeal.nD Cert.WoutKernelIdeal.τ).loc Cert.WoutKernelIdeal.main_arg0) = m ((c.tc : Thread Cert.WoutKernelIdeal.nD Cert.WoutKernelIdeal.τ).loc Cert.WoutKernelIdeal.main_arg0)
          ∧ r.2.mem ((c.tc : Thread Cert.WoutKernelIdeal.nD Cert.WoutKernelIdeal.τ).loc Cert.WoutKernelIdeal.main_arg1) = m ((c.tc : Thread Cert.WoutKernelIdeal.nD Cert.WoutKernelIdeal.τ).loc Cert.WoutKernelIdeal.main_arg1))
      ∧ θ_run (Cert.WoutReferenceIdeal.defs (F := Ideal)) (onTc (τ := Cert.WoutReferenceIdeal.τ) (Cert.WoutReferenceIdeal.main (F := Ideal))) ⟨m', fun _ => 0, g'⟩ (fun r => ∀ c : Dev Cert.WoutReferenceIdeal.nD,
          r.2.mem ((c.tc : Thread Cert.WoutReferenceIdeal.nD Cert.WoutReferenceIdeal.τ).loc Cert.WoutReferenceIdeal.main_v3) = v0 c
          ∧ r.2.mem ((c.tc : Thread Cert.WoutReferenceIdeal.nD Cert.WoutReferenceIdeal.τ).loc Cert.WoutReferenceIdeal.main_arg0) = m' ((c.tc : Thread Cert.WoutReferenceIdeal.nD Cert.WoutReferenceIdeal.τ).loc Cert.WoutReferenceIdeal.main_arg0)
          ∧ r.2.mem ((c.tc : Thread Cert.WoutReferenceIdeal.nD Cert.WoutReferenceIdeal.τ).loc Cert.WoutReferenceIdeal.main_arg1) = m' ((c.tc : Thread Cert.WoutReferenceIdeal.nD Cert.WoutReferenceIdeal.τ).loc Cert.WoutReferenceIdeal.main_arg1))

def preserves_WattKernel_WattKernelIdeal : Prop :=
  True

def algebraic_WattKernelIdeal_WattReferenceIdeal [hWattKernelIdeal : Cert.WattKernelIdeal.Facts] [hWattReferenceIdeal : Cert.WattReferenceIdeal.Facts] : Prop :=
  ∀ (m : (ℓ : Loc Cert.WattKernelIdeal.nD Cert.WattKernelIdeal.τ Cert.WattKernelIdeal.sig) → Buf (Elt Ideal) ℓ) (g : Dev Cert.WattKernelIdeal.nD → PrngReg)
    (m' : (ℓ : Loc Cert.WattReferenceIdeal.nD Cert.WattReferenceIdeal.τ Cert.WattReferenceIdeal.sig) → Buf (Elt Ideal) ℓ) (g' : Dev Cert.WattReferenceIdeal.nD → PrngReg), Pre_WattKernelIdeal m →
    (∀ c : Dev Cert.WattKernelIdeal.nD,
      m' ((c.tc : Thread Cert.WattReferenceIdeal.nD Cert.WattReferenceIdeal.τ).loc Cert.WattReferenceIdeal.main_arg0) = m ((c.tc : Thread Cert.WattKernelIdeal.nD Cert.WattKernelIdeal.τ).loc Cert.WattKernelIdeal.main_arg0)
      ∧ m' ((c.tc : Thread Cert.WattReferenceIdeal.nD Cert.WattReferenceIdeal.τ).loc Cert.WattReferenceIdeal.main_arg1) = m ((c.tc : Thread Cert.WattKernelIdeal.nD Cert.WattKernelIdeal.τ).loc Cert.WattKernelIdeal.main_arg1)) →
    ∃ (v0 : (c : Dev Cert.WattKernelIdeal.nD) → Buf (Elt Ideal) ((c.tc : Thread Cert.WattKernelIdeal.nD Cert.WattKernelIdeal.τ).loc Cert.WattKernelIdeal.main_v2)),
      θ_run (Cert.WattKernelIdeal.defs (F := Ideal)) (onTc (τ := Cert.WattKernelIdeal.τ) (Cert.WattKernelIdeal.main (F := Ideal))) ⟨m, fun _ => 0, g⟩ (fun r => ∀ c : Dev Cert.WattKernelIdeal.nD,
          r.2.mem ((c.tc : Thread Cert.WattKernelIdeal.nD Cert.WattKernelIdeal.τ).loc Cert.WattKernelIdeal.main_v2) = v0 c
          ∧ r.2.mem ((c.tc : Thread Cert.WattKernelIdeal.nD Cert.WattKernelIdeal.τ).loc Cert.WattKernelIdeal.main_arg0) = m ((c.tc : Thread Cert.WattKernelIdeal.nD Cert.WattKernelIdeal.τ).loc Cert.WattKernelIdeal.main_arg0)
          ∧ r.2.mem ((c.tc : Thread Cert.WattKernelIdeal.nD Cert.WattKernelIdeal.τ).loc Cert.WattKernelIdeal.main_arg1) = m ((c.tc : Thread Cert.WattKernelIdeal.nD Cert.WattKernelIdeal.τ).loc Cert.WattKernelIdeal.main_arg1))
      ∧ θ_run (Cert.WattReferenceIdeal.defs (F := Ideal)) (onTc (τ := Cert.WattReferenceIdeal.τ) (Cert.WattReferenceIdeal.main (F := Ideal))) ⟨m', fun _ => 0, g'⟩ (fun r => ∀ c : Dev Cert.WattReferenceIdeal.nD,
          r.2.mem ((c.tc : Thread Cert.WattReferenceIdeal.nD Cert.WattReferenceIdeal.τ).loc Cert.WattReferenceIdeal.main_v3) = v0 c
          ∧ r.2.mem ((c.tc : Thread Cert.WattReferenceIdeal.nD Cert.WattReferenceIdeal.τ).loc Cert.WattReferenceIdeal.main_arg0) = m' ((c.tc : Thread Cert.WattReferenceIdeal.nD Cert.WattReferenceIdeal.τ).loc Cert.WattReferenceIdeal.main_arg0)
          ∧ r.2.mem ((c.tc : Thread Cert.WattReferenceIdeal.nD Cert.WattReferenceIdeal.τ).loc Cert.WattReferenceIdeal.main_arg1) = m' ((c.tc : Thread Cert.WattReferenceIdeal.nD Cert.WattReferenceIdeal.τ).loc Cert.WattReferenceIdeal.main_arg1))

def preserves_WretKernel_WretKernelIdeal : Prop :=
  True

def algebraic_WretKernelIdeal_WretReferenceIdeal [hWretKernelIdeal : Cert.WretKernelIdeal.Facts] [hWretReferenceIdeal : Cert.WretReferenceIdeal.Facts] : Prop :=
  ∀ (m : (ℓ : Loc Cert.WretKernelIdeal.nD Cert.WretKernelIdeal.τ Cert.WretKernelIdeal.sig) → Buf (Elt Ideal) ℓ) (g : Dev Cert.WretKernelIdeal.nD → PrngReg)
    (m' : (ℓ : Loc Cert.WretReferenceIdeal.nD Cert.WretReferenceIdeal.τ Cert.WretReferenceIdeal.sig) → Buf (Elt Ideal) ℓ) (g' : Dev Cert.WretReferenceIdeal.nD → PrngReg), Pre_WretKernelIdeal m →
    (∀ c : Dev Cert.WretKernelIdeal.nD,
      m' ((c.tc : Thread Cert.WretReferenceIdeal.nD Cert.WretReferenceIdeal.τ).loc Cert.WretReferenceIdeal.main_arg0) = m ((c.tc : Thread Cert.WretKernelIdeal.nD Cert.WretKernelIdeal.τ).loc Cert.WretKernelIdeal.main_arg0)
      ∧ m' ((c.tc : Thread Cert.WretReferenceIdeal.nD Cert.WretReferenceIdeal.τ).loc Cert.WretReferenceIdeal.main_arg1) = m ((c.tc : Thread Cert.WretKernelIdeal.nD Cert.WretKernelIdeal.τ).loc Cert.WretKernelIdeal.main_arg1)) →
    ∃ (v0 : (c : Dev Cert.WretKernelIdeal.nD) → Buf (Elt Ideal) ((c.tc : Thread Cert.WretKernelIdeal.nD Cert.WretKernelIdeal.τ).loc Cert.WretKernelIdeal.main_v2)),
      θ_run (Cert.WretKernelIdeal.defs (F := Ideal)) (onTc (τ := Cert.WretKernelIdeal.τ) (Cert.WretKernelIdeal.main (F := Ideal))) ⟨m, fun _ => 0, g⟩ (fun r => ∀ c : Dev Cert.WretKernelIdeal.nD,
          r.2.mem ((c.tc : Thread Cert.WretKernelIdeal.nD Cert.WretKernelIdeal.τ).loc Cert.WretKernelIdeal.main_v2) = v0 c
          ∧ r.2.mem ((c.tc : Thread Cert.WretKernelIdeal.nD Cert.WretKernelIdeal.τ).loc Cert.WretKernelIdeal.main_arg0) = m ((c.tc : Thread Cert.WretKernelIdeal.nD Cert.WretKernelIdeal.τ).loc Cert.WretKernelIdeal.main_arg0)
          ∧ r.2.mem ((c.tc : Thread Cert.WretKernelIdeal.nD Cert.WretKernelIdeal.τ).loc Cert.WretKernelIdeal.main_arg1) = m ((c.tc : Thread Cert.WretKernelIdeal.nD Cert.WretKernelIdeal.τ).loc Cert.WretKernelIdeal.main_arg1))
      ∧ θ_run (Cert.WretReferenceIdeal.defs (F := Ideal)) (onTc (τ := Cert.WretReferenceIdeal.τ) (Cert.WretReferenceIdeal.main (F := Ideal))) ⟨m', fun _ => 0, g'⟩ (fun r => ∀ c : Dev Cert.WretReferenceIdeal.nD,
          r.2.mem ((c.tc : Thread Cert.WretReferenceIdeal.nD Cert.WretReferenceIdeal.τ).loc Cert.WretReferenceIdeal.main_v3) = v0 c
          ∧ r.2.mem ((c.tc : Thread Cert.WretReferenceIdeal.nD Cert.WretReferenceIdeal.τ).loc Cert.WretReferenceIdeal.main_arg0) = m' ((c.tc : Thread Cert.WretReferenceIdeal.nD Cert.WretReferenceIdeal.τ).loc Cert.WretReferenceIdeal.main_arg0)
          ∧ r.2.mem ((c.tc : Thread Cert.WretReferenceIdeal.nD Cert.WretReferenceIdeal.τ).loc Cert.WretReferenceIdeal.main_arg1) = m' ((c.tc : Thread Cert.WretReferenceIdeal.nD Cert.WretReferenceIdeal.τ).loc Cert.WretReferenceIdeal.main_arg1))

def preserves_FfnUpKernel_FfnUpKernelIdeal : Prop :=
  True

def algebraic_FfnUpKernelIdeal_FfnUpReferenceIdeal [hFfnUpKernelIdeal : Cert.FfnUpKernelIdeal.Facts] [hFfnUpReferenceIdeal : Cert.FfnUpReferenceIdeal.Facts] : Prop :=
  ∀ (m : (ℓ : Loc Cert.FfnUpKernelIdeal.nD Cert.FfnUpKernelIdeal.τ Cert.FfnUpKernelIdeal.sig) → Buf (Elt Ideal) ℓ) (g : Dev Cert.FfnUpKernelIdeal.nD → PrngReg)
    (m' : (ℓ : Loc Cert.FfnUpReferenceIdeal.nD Cert.FfnUpReferenceIdeal.τ Cert.FfnUpReferenceIdeal.sig) → Buf (Elt Ideal) ℓ) (g' : Dev Cert.FfnUpReferenceIdeal.nD → PrngReg), Pre_FfnUpKernelIdeal m →
    (∀ c : Dev Cert.FfnUpKernelIdeal.nD,
      m' ((c.tc : Thread Cert.FfnUpReferenceIdeal.nD Cert.FfnUpReferenceIdeal.τ).loc Cert.FfnUpReferenceIdeal.main_arg0) = m ((c.tc : Thread Cert.FfnUpKernelIdeal.nD Cert.FfnUpKernelIdeal.τ).loc Cert.FfnUpKernelIdeal.main_arg0)
      ∧ m' ((c.tc : Thread Cert.FfnUpReferenceIdeal.nD Cert.FfnUpReferenceIdeal.τ).loc Cert.FfnUpReferenceIdeal.main_arg1) = m ((c.tc : Thread Cert.FfnUpKernelIdeal.nD Cert.FfnUpKernelIdeal.τ).loc Cert.FfnUpKernelIdeal.main_arg1)
      ∧ m' ((c.tc : Thread Cert.FfnUpReferenceIdeal.nD Cert.FfnUpReferenceIdeal.τ).loc Cert.FfnUpReferenceIdeal.main_arg2) = m ((c.tc : Thread Cert.FfnUpKernelIdeal.nD Cert.FfnUpKernelIdeal.τ).loc Cert.FfnUpKernelIdeal.main_arg2)) →
    ∃ (v0 : (c : Dev Cert.FfnUpKernelIdeal.nD) → Buf (Elt Ideal) ((c.tc : Thread Cert.FfnUpKernelIdeal.nD Cert.FfnUpKernelIdeal.τ).loc Cert.FfnUpKernelIdeal.main_v7_0)) (v1 : (c : Dev Cert.FfnUpKernelIdeal.nD) → Buf (Elt Ideal) ((c.tc : Thread Cert.FfnUpKernelIdeal.nD Cert.FfnUpKernelIdeal.τ).loc Cert.FfnUpKernelIdeal.main_v7_1)) (v2 : (c : Dev Cert.FfnUpKernelIdeal.nD) → Buf (Elt Ideal) ((c.tc : Thread Cert.FfnUpKernelIdeal.nD Cert.FfnUpKernelIdeal.τ).loc Cert.FfnUpKernelIdeal.main_v7_2)),
      θ_run (Cert.FfnUpKernelIdeal.defs (F := Ideal)) (onTc (τ := Cert.FfnUpKernelIdeal.τ) (Cert.FfnUpKernelIdeal.main (F := Ideal))) ⟨m, fun _ => 0, g⟩ (fun r => ∀ c : Dev Cert.FfnUpKernelIdeal.nD,
          r.2.mem ((c.tc : Thread Cert.FfnUpKernelIdeal.nD Cert.FfnUpKernelIdeal.τ).loc Cert.FfnUpKernelIdeal.main_v7_0) = v0 c
          ∧ r.2.mem ((c.tc : Thread Cert.FfnUpKernelIdeal.nD Cert.FfnUpKernelIdeal.τ).loc Cert.FfnUpKernelIdeal.main_v7_1) = v1 c
          ∧ r.2.mem ((c.tc : Thread Cert.FfnUpKernelIdeal.nD Cert.FfnUpKernelIdeal.τ).loc Cert.FfnUpKernelIdeal.main_v7_2) = v2 c
          ∧ r.2.mem ((c.tc : Thread Cert.FfnUpKernelIdeal.nD Cert.FfnUpKernelIdeal.τ).loc Cert.FfnUpKernelIdeal.main_arg0) = m ((c.tc : Thread Cert.FfnUpKernelIdeal.nD Cert.FfnUpKernelIdeal.τ).loc Cert.FfnUpKernelIdeal.main_arg0)
          ∧ r.2.mem ((c.tc : Thread Cert.FfnUpKernelIdeal.nD Cert.FfnUpKernelIdeal.τ).loc Cert.FfnUpKernelIdeal.main_arg1) = m ((c.tc : Thread Cert.FfnUpKernelIdeal.nD Cert.FfnUpKernelIdeal.τ).loc Cert.FfnUpKernelIdeal.main_arg1)
          ∧ r.2.mem ((c.tc : Thread Cert.FfnUpKernelIdeal.nD Cert.FfnUpKernelIdeal.τ).loc Cert.FfnUpKernelIdeal.main_arg2) = m ((c.tc : Thread Cert.FfnUpKernelIdeal.nD Cert.FfnUpKernelIdeal.τ).loc Cert.FfnUpKernelIdeal.main_arg2))
      ∧ θ_run (Cert.FfnUpReferenceIdeal.defs (F := Ideal)) (onTc (τ := Cert.FfnUpReferenceIdeal.τ) (Cert.FfnUpReferenceIdeal.main (F := Ideal))) ⟨m', fun _ => 0, g'⟩ (fun r => ∀ c : Dev Cert.FfnUpReferenceIdeal.nD,
          r.2.mem ((c.tc : Thread Cert.FfnUpReferenceIdeal.nD Cert.FfnUpReferenceIdeal.τ).loc Cert.FfnUpReferenceIdeal.main_v6) = v0 c
          ∧ r.2.mem ((c.tc : Thread Cert.FfnUpReferenceIdeal.nD Cert.FfnUpReferenceIdeal.τ).loc Cert.FfnUpReferenceIdeal.main_v9) = v1 c
          ∧ r.2.mem ((c.tc : Thread Cert.FfnUpReferenceIdeal.nD Cert.FfnUpReferenceIdeal.τ).loc Cert.FfnUpReferenceIdeal.main_v12) = v2 c
          ∧ r.2.mem ((c.tc : Thread Cert.FfnUpReferenceIdeal.nD Cert.FfnUpReferenceIdeal.τ).loc Cert.FfnUpReferenceIdeal.main_arg0) = m' ((c.tc : Thread Cert.FfnUpReferenceIdeal.nD Cert.FfnUpReferenceIdeal.τ).loc Cert.FfnUpReferenceIdeal.main_arg0)
          ∧ r.2.mem ((c.tc : Thread Cert.FfnUpReferenceIdeal.nD Cert.FfnUpReferenceIdeal.τ).loc Cert.FfnUpReferenceIdeal.main_arg1) = m' ((c.tc : Thread Cert.FfnUpReferenceIdeal.nD Cert.FfnUpReferenceIdeal.τ).loc Cert.FfnUpReferenceIdeal.main_arg1)
          ∧ r.2.mem ((c.tc : Thread Cert.FfnUpReferenceIdeal.nD Cert.FfnUpReferenceIdeal.τ).loc Cert.FfnUpReferenceIdeal.main_arg2) = m' ((c.tc : Thread Cert.FfnUpReferenceIdeal.nD Cert.FfnUpReferenceIdeal.τ).loc Cert.FfnUpReferenceIdeal.main_arg2))

def preserves_MixKernel_MixKernelIdeal : Prop :=
  True

def algebraic_MixKernelIdeal_MixReferenceIdeal [hMixKernelIdeal : Cert.MixKernelIdeal.Facts] [hMixReferenceIdeal : Cert.MixReferenceIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)
      ∧ m' ((c.tc : Thread Cert.MixReferenceIdeal.nD Cert.MixReferenceIdeal.τ).loc Cert.MixReferenceIdeal.main_arg5) = m ((c.tc : Thread Cert.MixKernelIdeal.nD Cert.MixKernelIdeal.τ).loc Cert.MixKernelIdeal.main_arg5)
      ∧ m' ((c.tc : Thread Cert.MixReferenceIdeal.nD Cert.MixReferenceIdeal.τ).loc Cert.MixReferenceIdeal.main_arg6) = m ((c.tc : Thread Cert.MixKernelIdeal.nD Cert.MixKernelIdeal.τ).loc Cert.MixKernelIdeal.main_arg6)
      ∧ m' ((c.tc : Thread Cert.MixReferenceIdeal.nD Cert.MixReferenceIdeal.τ).loc Cert.MixReferenceIdeal.main_arg7) = m ((c.tc : Thread Cert.MixKernelIdeal.nD Cert.MixKernelIdeal.τ).loc Cert.MixKernelIdeal.main_arg7)) →
    ∃ (v0 : (c : Dev Cert.MixKernelIdeal.nD) → Buf (Elt Ideal) ((c.tc : Thread Cert.MixKernelIdeal.nD Cert.MixKernelIdeal.τ).loc Cert.MixKernelIdeal.main_v6_0)) (v1 : (c : Dev Cert.MixKernelIdeal.nD) → Buf (Elt Ideal) ((c.tc : Thread Cert.MixKernelIdeal.nD Cert.MixKernelIdeal.τ).loc Cert.MixKernelIdeal.main_v6_1)) (v2 : (c : Dev Cert.MixKernelIdeal.nD) → Buf (Elt Ideal) ((c.tc : Thread Cert.MixKernelIdeal.nD Cert.MixKernelIdeal.τ).loc Cert.MixKernelIdeal.main_v6_2)) (v3 : (c : Dev Cert.MixKernelIdeal.nD) → Buf (Elt Ideal) ((c.tc : Thread Cert.MixKernelIdeal.nD Cert.MixKernelIdeal.τ).loc Cert.MixKernelIdeal.main_v6_3)) (v4 : (c : Dev Cert.MixKernelIdeal.nD) → Buf (Elt Ideal) ((c.tc : Thread Cert.MixKernelIdeal.nD Cert.MixKernelIdeal.τ).loc Cert.MixKernelIdeal.main_v6_4)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v6_0) = v0 c
          ∧ r.2.mem ((c.tc : Thread Cert.MixKernelIdeal.nD Cert.MixKernelIdeal.τ).loc Cert.MixKernelIdeal.main_v6_1) = v1 c
          ∧ r.2.mem ((c.tc : Thread Cert.MixKernelIdeal.nD Cert.MixKernelIdeal.τ).loc Cert.MixKernelIdeal.main_v6_2) = v2 c
          ∧ r.2.mem ((c.tc : Thread Cert.MixKernelIdeal.nD Cert.MixKernelIdeal.τ).loc Cert.MixKernelIdeal.main_v6_3) = v3 c
          ∧ r.2.mem ((c.tc : Thread Cert.MixKernelIdeal.nD Cert.MixKernelIdeal.τ).loc Cert.MixKernelIdeal.main_v6_4) = v4 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
          ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
          ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
          ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v21) = v0 c
          ∧ r.2.mem ((c.tc : Thread Cert.MixReferenceIdeal.nD Cert.MixReferenceIdeal.τ).loc Cert.MixReferenceIdeal.main_v22) = v1 c
          ∧ r.2.mem ((c.tc : Thread Cert.MixReferenceIdeal.nD Cert.MixReferenceIdeal.τ).loc Cert.MixReferenceIdeal.main_v23) = v2 c
          ∧ r.2.mem ((c.tc : Thread Cert.MixReferenceIdeal.nD Cert.MixReferenceIdeal.τ).loc Cert.MixReferenceIdeal.main_v20) = v3 c
          ∧ r.2.mem ((c.tc : Thread Cert.MixReferenceIdeal.nD Cert.MixReferenceIdeal.τ).loc Cert.MixReferenceIdeal.main_v38) = v4 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7))

def Claim : Prop :=
  ∃ (hKernel : Cert.Kernel.Facts) (hKernelIdeal : Cert.KernelIdeal.Facts) (hReferenceIdeal : Cert.ReferenceIdeal.Facts) (hRetKernel : Cert.RetKernel.Facts) (hRetKernelIdeal : Cert.RetKernelIdeal.Facts) (hRetReferenceIdeal : Cert.RetReferenceIdeal.Facts) (hInKernel : Cert.InKernel.Facts) (hInKernelIdeal : Cert.InKernelIdeal.Facts) (hInReferenceIdeal : Cert.InReferenceIdeal.Facts) (hWgKernel : Cert.WgKernel.Facts) (hWgKernelIdeal : Cert.WgKernelIdeal.Facts) (hWgReferenceIdeal : Cert.WgReferenceIdeal.Facts) (hGateKernel : Cert.GateKernel.Facts) (hGateKernelIdeal : Cert.GateKernelIdeal.Facts) (hGateReferenceIdeal : Cert.GateReferenceIdeal.Facts) (hUpKernel : Cert.UpKernel.Facts) (hUpKernelIdeal : Cert.UpKernelIdeal.Facts) (hUpReferenceIdeal : Cert.UpReferenceIdeal.Facts) (hWoutKernel : Cert.WoutKernel.Facts) (hWoutKernelIdeal : Cert.WoutKernelIdeal.Facts) (hWoutReferenceIdeal : Cert.WoutReferenceIdeal.Facts) (hWattKernel : Cert.WattKernel.Facts) (hWattKernelIdeal : Cert.WattKernelIdeal.Facts) (hWattReferenceIdeal : Cert.WattReferenceIdeal.Facts) (hWretKernel : Cert.WretKernel.Facts) (hWretKernelIdeal : Cert.WretKernelIdeal.Facts) (hWretReferenceIdeal : Cert.WretReferenceIdeal.Facts) (hFfnUpKernel : Cert.FfnUpKernel.Facts) (hFfnUpKernelIdeal : Cert.FfnUpKernelIdeal.Facts) (hFfnUpReferenceIdeal : Cert.FfnUpReferenceIdeal.Facts) (hMixKernel : Cert.MixKernel.Facts) (hMixKernelIdeal : Cert.MixKernelIdeal.Facts) (hMixReferenceIdeal : Cert.MixReferenceIdeal.Facts) (hPre_finite : Cert.Pre_finite.Facts) (hPre_ret_finite : Cert.Pre_ret_finite.Facts) (hPre_in_finite : Cert.Pre_in_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_RetKernel (hRetKernel := hRetKernel)
    ∧ quiescent_RetKernelIdeal (hRetKernelIdeal := hRetKernelIdeal)
    ∧ quiescent_RetKernelIdeal_pre_ret_finite (hRetKernelIdeal := hRetKernelIdeal) (hPre_ret_finite := hPre_ret_finite)
    ∧ quiescent_RetReferenceIdeal (hRetReferenceIdeal := hRetReferenceIdeal)
    ∧ quiescent_RetReferenceIdeal_pre_ret_finite (hRetReferenceIdeal := hRetReferenceIdeal) (hPre_ret_finite := hPre_ret_finite)
    ∧ quiescent_InKernel (hInKernel := hInKernel)
    ∧ quiescent_InKernelIdeal (hInKernelIdeal := hInKernelIdeal)
    ∧ quiescent_InKernelIdeal_pre_in_finite (hInKernelIdeal := hInKernelIdeal) (hPre_in_finite := hPre_in_finite)
    ∧ quiescent_InReferenceIdeal (hInReferenceIdeal := hInReferenceIdeal)
    ∧ quiescent_InReferenceIdeal_pre_in_finite (hInReferenceIdeal := hInReferenceIdeal) (hPre_in_finite := hPre_in_finite)
    ∧ quiescent_WgKernel (hWgKernel := hWgKernel)
    ∧ quiescent_WgKernelIdeal (hWgKernelIdeal := hWgKernelIdeal)
    ∧ quiescent_WgReferenceIdeal (hWgReferenceIdeal := hWgReferenceIdeal)
    ∧ quiescent_GateKernel (hGateKernel := hGateKernel)
    ∧ quiescent_GateKernelIdeal (hGateKernelIdeal := hGateKernelIdeal)
    ∧ quiescent_GateReferenceIdeal (hGateReferenceIdeal := hGateReferenceIdeal)
    ∧ quiescent_UpKernel (hUpKernel := hUpKernel)
    ∧ quiescent_UpKernelIdeal (hUpKernelIdeal := hUpKernelIdeal)
    ∧ quiescent_UpReferenceIdeal (hUpReferenceIdeal := hUpReferenceIdeal)
    ∧ quiescent_WoutKernel (hWoutKernel := hWoutKernel)
    ∧ quiescent_WoutKernelIdeal (hWoutKernelIdeal := hWoutKernelIdeal)
    ∧ quiescent_WoutReferenceIdeal (hWoutReferenceIdeal := hWoutReferenceIdeal)
    ∧ quiescent_WattKernel (hWattKernel := hWattKernel)
    ∧ quiescent_WattKernelIdeal (hWattKernelIdeal := hWattKernelIdeal)
    ∧ quiescent_WattReferenceIdeal (hWattReferenceIdeal := hWattReferenceIdeal)
    ∧ quiescent_WretKernel (hWretKernel := hWretKernel)
    ∧ quiescent_WretKernelIdeal (hWretKernelIdeal := hWretKernelIdeal)
    ∧ quiescent_WretReferenceIdeal (hWretReferenceIdeal := hWretReferenceIdeal)
    ∧ quiescent_FfnUpKernel (hFfnUpKernel := hFfnUpKernel)
    ∧ quiescent_FfnUpKernelIdeal (hFfnUpKernelIdeal := hFfnUpKernelIdeal)
    ∧ quiescent_FfnUpReferenceIdeal (hFfnUpReferenceIdeal := hFfnUpReferenceIdeal)
    ∧ quiescent_MixKernel (hMixKernel := hMixKernel)
    ∧ quiescent_MixKernelIdeal (hMixKernelIdeal := hMixKernelIdeal)
    ∧ quiescent_MixReferenceIdeal (hMixReferenceIdeal := hMixReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_RetKernel_RetKernelIdeal
    ∧ algebraic_RetKernelIdeal_RetReferenceIdeal_pre_ret_finite (hRetKernelIdeal := hRetKernelIdeal) (hRetReferenceIdeal := hRetReferenceIdeal) (hPre_ret_finite := hPre_ret_finite)
    ∧ preserves_InKernel_InKernelIdeal
    ∧ algebraic_InKernelIdeal_InReferenceIdeal_pre_in_finite (hInKernelIdeal := hInKernelIdeal) (hInReferenceIdeal := hInReferenceIdeal) (hPre_in_finite := hPre_in_finite)
    ∧ preserves_WgKernel_WgKernelIdeal
    ∧ algebraic_WgKernelIdeal_WgReferenceIdeal (hWgKernelIdeal := hWgKernelIdeal) (hWgReferenceIdeal := hWgReferenceIdeal)
    ∧ preserves_GateKernel_GateKernelIdeal
    ∧ algebraic_GateKernelIdeal_GateReferenceIdeal (hGateKernelIdeal := hGateKernelIdeal) (hGateReferenceIdeal := hGateReferenceIdeal)
    ∧ preserves_UpKernel_UpKernelIdeal
    ∧ algebraic_UpKernelIdeal_UpReferenceIdeal (hUpKernelIdeal := hUpKernelIdeal) (hUpReferenceIdeal := hUpReferenceIdeal)
    ∧ preserves_WoutKernel_WoutKernelIdeal
    ∧ algebraic_WoutKernelIdeal_WoutReferenceIdeal (hWoutKernelIdeal := hWoutKernelIdeal) (hWoutReferenceIdeal := hWoutReferenceIdeal)
    ∧ preserves_WattKernel_WattKernelIdeal
    ∧ algebraic_WattKernelIdeal_WattReferenceIdeal (hWattKernelIdeal := hWattKernelIdeal) (hWattReferenceIdeal := hWattReferenceIdeal)
    ∧ preserves_WretKernel_WretKernelIdeal
    ∧ algebraic_WretKernelIdeal_WretReferenceIdeal (hWretKernelIdeal := hWretKernelIdeal) (hWretReferenceIdeal := hWretReferenceIdeal)
    ∧ preserves_FfnUpKernel_FfnUpKernelIdeal
    ∧ algebraic_FfnUpKernelIdeal_FfnUpReferenceIdeal (hFfnUpKernelIdeal := hFfnUpKernelIdeal) (hFfnUpReferenceIdeal := hFfnUpReferenceIdeal)
    ∧ preserves_MixKernel_MixKernelIdeal
    ∧ algebraic_MixKernelIdeal_MixReferenceIdeal (hMixKernelIdeal := hMixKernelIdeal) (hMixReferenceIdeal := hMixReferenceIdeal)
-- ==== Pre_finite.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S1x1024 .f32) (main_arg2 : FVec F S1024x2816 .f32) (main_arg3 : FVec F S1024x2816 .f32) (main_arg4 : FVec F S2816x1024 .f32) (main_arg5 : FVec F S4096x1024 .f32) : IVec S4096x1024 1 × IVec S1x1024 1 × IVec S1024x2816 1 × IVec S1024x2816 1 × IVec S2816x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  (main_v2, main_v5, main_v8, main_v11, main_v14, main_v17)
-- ==== Pre_in_finite.lean ====
abbrev S1x4096x1024 : Shape := ⟨3, ![1, 4096, 1024]⟩
abbrev S1x1024 : Shape := ⟨2, ![1, 1024]⟩
abbrev S1024x9728 : Shape := ⟨2, ![1024, 9728]⟩
abbrev S4096x9728 : Shape := ⟨2, ![4096, 9728]⟩
abbrev S_ : Shape := ⟨0, ![]⟩

class Facts : Prop where
  bcast_S_S1x4096x1024 : S_.BroadcastsInDim S1x4096x1024 (![] : Fin 0 → Fin S1x4096x1024.rank)
  bcast_S_S1x1024 : S_.BroadcastsInDim S1x1024 (![] : Fin 0 → Fin S1x1024.rank)
  bcast_S_S1024x9728 : S_.BroadcastsInDim S1024x9728 (![] : Fin 0 → Fin S1024x9728.rank)
  bcast_S_S4096x9728 : S_.BroadcastsInDim S4096x9728 (![] : Fin 0 → Fin S4096x9728.rank)

variable [Facts]

def fn {F : FTy → Type} [FloatOps F] (main_arg0 : FVec F S1x4096x1024 .f32) (main_arg1 : FVec F S1x1024 .f32) (main_arg2 : FVec F S1024x9728 .f32) (main_arg3 : FVec F S4096x9728 .f32) (main_arg4 : FVec F S1x4096x1024 .f32) : IVec S1x4096x1024 1 × IVec S1x1024 1 × IVec S1024x9728 1 × IVec S4096x9728 1 × IVec S1x4096x1024 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x9728 .f32 := Host.absf main_arg2
  let main_cst_1 : FVec F S_ .f32 := constant S_ .f32 0x7F800000#32
  let main_v7 : FVec F S1024x9728 .f32 := broadcastInDim S1024x9728 ![] bcast_S_S1024x9728 main_cst_1
  let main_v8 : IVec S1024x9728 1 := cmpf .olt main_v6 main_v7
  let main_v9 : FVec F S4096x9728 .f32 := Host.absf main_arg3
  let main_cst_2 : FVec F S_ .f32 := constant S_ .f32 0x7F800000#32
  let main_v10 : FVec F S4096x9728 .f32 := broadcastInDim S4096x9728 ![] bcast_S_S4096x9728 main_cst_2
  let main_v11 : IVec S4096x9728 1 := cmpf .olt main_v9 main_v10
  let main_v12 : FVec F S1x4096x1024 .f32 := Host.absf main_arg4
  let main_cst_3 : FVec F S_ .f32 := constant S_ .f32 0x7F800000#32
  let main_v13 : FVec F S1x4096x1024 .f32 := broadcastInDim S1x4096x1024 ![] bcast_S_S1x4096x1024 main_cst_3
  let main_v14 : IVec S1x4096x1024 1 := cmpf .olt main_v12 main_v13
  (main_v2, main_v5, main_v8, main_v11, main_v14)
-- ==== Pre_ret_finite.lean ====
abbrev S4096x9728 : Shape := ⟨2, ![4096, 9728]⟩
abbrev S4096x1024 : Shape := ⟨2, ![4096, 1024]⟩
abbrev S_ : Shape := ⟨0, ![]⟩

class Facts : Prop where
  bcast_S_S4096x9728 : S_.BroadcastsInDim S4096x9728 (![] : Fin 0 → Fin S4096x9728.rank)
  bcast_S_S4096x1024 : S_.BroadcastsInDim S4096x1024 (![] : Fin 0 → Fin S4096x1024.rank)

variable [Facts]

def fn {F : FTy → Type} [FloatOps F] (main_arg0 : FVec F S4096x9728 .f32) (main_arg1 : FVec F S4096x1024 .f32) : IVec S4096x9728 1 × IVec S4096x1024 1 :=
  let main_v0 : FVec F S4096x9728 .f32 := Host.absf main_arg0
  let main_cst : FVec F S_ .f32 := constant S_ .f32 0x7F800000#32
  let main_v1 : FVec F S4096x9728 .f32 := broadcastInDim S4096x9728 ![] bcast_S_S4096x9728 main_cst
  let main_v2 : IVec S4096x9728 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  (main_v2, main_v5)
-- ==== Kernel.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S4x704x1024 : Shape := ⟨3, ![4, 704, 1024]⟩
abbrev S_ : Shape := ⟨0, ![]⟩
abbrev S4096 : Shape := ⟨1, ![4096]⟩
abbrev S4096x1 : Shape := ⟨2, ![4096, 1]⟩
abbrev S4096x4x704 : Shape := ⟨3, ![4096, 4, 704]⟩
abbrev S4x4096x704 : Shape := ⟨3, ![4, 4096, 704]⟩
abbrev S256x1024 : Shape := ⟨2, ![256, 1024]⟩
abbrev S4x256x704 : Shape := ⟨3, ![4, 256, 704]⟩
abbrev S1x704x1024 : Shape := ⟨3, ![1, 704, 1024]⟩
abbrev S704x1024 : Shape := ⟨2, ![704, 1024]⟩
abbrev S256x704 : Shape := ⟨2, ![256, 704]⟩
abbrev S1x256x704 : Shape := ⟨3, ![1, 256, 704]⟩
abbrev S256 : Shape := ⟨1, ![256]⟩
abbrev S256x1 : Shape := ⟨2, ![256, 1]⟩
abbrev S1024 : Shape := ⟨1, ![1024]⟩

abbrev nBuf : Space → Nat
  | .hbm => 42
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S2816x1024, .f32⟩
  | .hbm, ⟨7, _⟩ => ⟨S4x704x1024, .f32⟩
  | .hbm, ⟨8, _⟩ => ⟨S4x704x1024, .bf16⟩
  | .hbm, ⟨9, _⟩ => ⟨S2816x1024, .f32⟩
  | .hbm, ⟨10, _⟩ => ⟨S4x704x1024, .f32⟩
  | .hbm, ⟨11, _⟩ => ⟨S4x704x1024, .bf16⟩
  | .hbm, ⟨12, _⟩ => ⟨S4x704x1024, .f32⟩
  | .hbm, ⟨13, _⟩ => ⟨S4x704x1024, .bf16⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .bf16⟩
  | .hbm, ⟨30, _⟩ => ⟨S4096x1024, .bf16⟩
  | .hbm, ⟨31, _⟩ => ⟨S4096x4x704, .f32⟩
  | .hbm, ⟨32, _⟩ => ⟨S4x4096x704, .f32⟩
  | .hbm, ⟨33, _⟩ => ⟨S4x4096x704, .bf16⟩
  | .hbm, ⟨34, _⟩ => ⟨S4096x4x704, .f32⟩
  | .hbm, ⟨35, _⟩ => ⟨S4x4096x704, .f32⟩
  | .hbm, ⟨36, _⟩ => ⟨S4x4096x704, .bf16⟩
  | .hbm, ⟨37, _⟩ => ⟨S4x4096x704, .bf16⟩
  | .hbm, ⟨38, _⟩ => ⟨S4x4096x704, .bf16⟩
  | .hbm, ⟨39, _⟩ => ⟨S4096x1024, .f32⟩
  | .hbm, ⟨40, _⟩ => ⟨S4096x1024, .bf16⟩
  | .hbm, ⟨41, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S4x704x1024, .bf16⟩
  | .local _ .vmem, ⟨5, _⟩ => ⟨S4x704x1024, .bf16⟩
  | .local _ .vmem, ⟨6, _⟩ => ⟨S4x704x1024, .bf16⟩
  | .local _ .vmem, ⟨7, _⟩ => ⟨S4x256x704, .bf16⟩
  | .local _ .vmem, ⟨8, _⟩ => ⟨S4x256x704, .bf16⟩
  | .local _ .vmem, ⟨9, _⟩ => ⟨S4x256x704, .bf16⟩
  | .local _ .vmem, ⟨10, _⟩ => ⟨S4x256x704, .bf16⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | .local _ .vmem, ⟨14, _⟩ => ⟨S4x256x704, .bf16⟩
  | .local _ .vmem, ⟨15, _⟩ => ⟨S4x256x704, .bf16⟩
  | .local _ .vmem, ⟨16, _⟩ => ⟨S4x256x704, .bf16⟩
  | .local _ .vmem, ⟨17, _⟩ => ⟨S4x256x704, .bf16⟩
  | .local _ .vmem, ⟨18, _⟩ => ⟨S256x1024, .f32⟩
  | .local _ .vmem, ⟨19, _⟩ => ⟨S256x1024, .f32⟩
  | .local _ .vmem, ⟨20, _⟩ => ⟨S256x1024, .bf16⟩
  | .local _ .vmem, ⟨21, _⟩ => ⟨S256x1024, .bf16⟩
  | .local _ .vmem, ⟨22, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28_0 : Ref sig .tc := ⟨.hbm, 37, rfl⟩
abbrev main_v28_1 : Ref sig .tc := ⟨.hbm, 38, rfl⟩
abbrev main_v28_2 : Ref sig .tc := ⟨.hbm, 39, rfl⟩
abbrev main_v28_3 : Ref sig .tc := ⟨.hbm, 40, rfl⟩
abbrev main_v28_4 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x256x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x256x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4x256x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x256x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S4096x4x704 : Shape := ⟨3, ![4096, 4, 704]⟩
abbrev S4x4096x704 : Shape := ⟨3, ![4, 4096, 704]⟩

abbrev nBuf : Space → Nat
  | .hbm => 88
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S_, .f32⟩
  | .hbm, ⟨35, _⟩ => ⟨S4096x2816, .f32⟩
  | .hbm, ⟨36, _⟩ => ⟨S4096x2816, .f32⟩
  | .hbm, ⟨37, _⟩ => ⟨S_, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x1024, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S1024, .f32⟩
  | .hbm, ⟨62, _⟩ => ⟨S4096x1024, .f32⟩
  | .hbm, ⟨63, _⟩ => ⟨S_, .f32⟩
  | .hbm, ⟨64, _⟩ => ⟨S4096, .f32⟩
  | .hbm, ⟨65, _⟩ => ⟨S4096x1, .f32⟩
  | .hbm, ⟨66, _⟩ => ⟨S4096x1024, .f32⟩
  | .hbm, ⟨67, _⟩ => ⟨S4096x1024, .f32⟩
  | .hbm, ⟨68, _⟩ => ⟨S4096x1, .f32⟩
  | .hbm, ⟨69, _⟩ => ⟨S_, .f32⟩
  | .hbm, ⟨70, _⟩ => ⟨S4096x1, .f32⟩
  | .hbm, ⟨71, _⟩ => ⟨S4096x1, .f32⟩
  | .hbm, ⟨72, _⟩ => ⟨S_, .f32⟩
  | .hbm, ⟨73, _⟩ => ⟨S4096, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S1x1024, .f32⟩
  | .hbm, ⟨80, _⟩ => ⟨S4096x1024, .f32⟩
  | .hbm, ⟨81, _⟩ => ⟨S4096x4x704, .f32⟩
  | .hbm, ⟨82, _⟩ => ⟨S4x4096x704, .f32⟩
  | .hbm, ⟨83, _⟩ => ⟨S4x4096x704, .bf16⟩
  | .hbm, ⟨84, _⟩ => ⟨S4096x4x704, .f32⟩
  | .hbm, ⟨85, _⟩ => ⟨S4x4096x704, .f32⟩
  | .hbm, ⟨86, _⟩ => ⟨S4x4096x704, .bf16⟩
  | .hbm, ⟨87, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_v19_2 : Ref sig .tc := ⟨.hbm, 36, rfl⟩
abbrev main_call0_cst_1 : Ref sig .tc := ⟨.hbm, 37, rfl⟩
abbrev main_call0_v6 : Ref sig .tc := ⟨.hbm, 38, rfl⟩
abbrev main_call0_v7 : Ref sig .tc := ⟨.hbm, 39, rfl⟩
abbrev main_v19_1 : Ref sig .tc := ⟨.hbm, 40, rfl⟩
abbrev main_v19_0 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_3 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_4 : Ref sig .tc := ⟨.hbm, 60, rfl⟩
abbrev main_v34 : Ref sig .tc := ⟨.hbm, 61, rfl⟩
abbrev main_v35 : Ref sig .tc := ⟨.hbm, 62, rfl⟩
abbrev main_cst_5 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_6 : Ref sig .tc := ⟨.hbm, 69, rfl⟩
abbrev main_v41 : Ref sig .tc := ⟨.hbm, 70, rfl⟩
abbrev main_v42 : Ref sig .tc := ⟨.hbm, 71, rfl⟩
abbrev main_cst_7 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩

abbrev nD : Nat := 1
abbrev τ : Topo := Topo.v7x

variable {F : FTy → Type} [FloatOps F]
-- ==== RetKernel.lean ====
abbrev S4096x9728 : Shape := ⟨2, ![4096, 9728]⟩
abbrev S4096x1024 : Shape := ⟨2, ![4096, 1024]⟩
abbrev S_ : Shape := ⟨0, ![]⟩
abbrev S63 : Shape := ⟨1, ![63]⟩
abbrev S1 : Shape := ⟨1, ![1]⟩
abbrev S64 : Shape := ⟨1, ![64]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S4096x1x64 : Shape := ⟨3, ![4096, 1, 64]⟩
abbrev S4096x512 : Shape := ⟨2, ![4096, 512]⟩
abbrev S4096x4x128 : Shape := ⟨3, ![4096, 4, 128]⟩
abbrev S4096x4x64 : Shape := ⟨3, ![4096, 4, 64]⟩
abbrev S4096x4x64x1 : Shape := ⟨4, ![4096, 4, 64, 1]⟩
abbrev S4096x4x64x2 : Shape := ⟨4, ![4096, 4, 64, 2]⟩
abbrev S4096x4x256 : Shape := ⟨3, ![4096, 4, 256]⟩
abbrev S32x128x4x64x2 : Shape := ⟨5, ![32, 128, 4, 64, 2]⟩
abbrev S32x128x4x256 : Shape := ⟨4, ![32, 128, 4, 256]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S32x4x128x128 : Shape := ⟨4, ![32, 4, 128, 128]⟩
abbrev S1x4x128x128 : Shape := ⟨4, ![1, 4, 128, 128]⟩
abbrev S32x4x128x256 : Shape := ⟨4, ![32, 4, 128, 256]⟩
abbrev S1x4 : Shape := ⟨2, ![1, 4]⟩
abbrev S128x4 : Shape := ⟨2, ![128, 4]⟩
abbrev S1x128x4x1x1 : Shape := ⟨5, ![1, 128, 4, 1, 1]⟩
abbrev S32x4x64x2x256 : Shape := ⟨5, ![32, 4, 64, 2, 256]⟩
abbrev S1x4x1x1x1 : Shape := ⟨5, ![1, 4, 1, 1, 1]⟩
abbrev S1x4x64x2x256 : Shape := ⟨5, ![1, 4, 64, 2, 256]⟩
abbrev S16x4x64x2x256 : Shape := ⟨5, ![16, 4, 64, 2, 256]⟩
abbrev S32x4x128 : Shape := ⟨3, ![32, 4, 128]⟩
abbrev S32x4x128x1 : Shape := ⟨4, ![32, 4, 128, 1]⟩
abbrev S32x128x4x1 : Shape := ⟨4, ![32, 128, 4, 1]⟩
abbrev S32x128x4x16 : Shape := ⟨4, ![32, 128, 4, 16]⟩
abbrev S4096x128 : Shape := ⟨2, ![4096, 128]⟩
abbrev S4x32x128x256 : Shape := ⟨4, ![4, 32, 128, 256]⟩
abbrev S4096x4608 : Shape := ⟨2, ![4096, 4608]⟩
abbrev S4096x4096 : Shape := ⟨2, ![4096, 4096]⟩
abbrev S4096x64x2 : Shape := ⟨3, ![4096, 64, 2]⟩
abbrev S1x4096x128 : Shape := ⟨3, ![1, 4096, 128]⟩
abbrev S3x4096x128 : Shape := ⟨3, ![3, 4096, 128]⟩
abbrev S1x3x4096x128 : Shape := ⟨4, ![1, 3, 4096, 128]⟩
abbrev S3x3x4096x128 : Shape := ⟨4, ![3, 3, 4096, 128]⟩
abbrev S4x1 : Shape := ⟨2, ![4, 1]⟩
abbrev S4x128 : Shape := ⟨2, ![4, 128]⟩
abbrev S4x128x1 : Shape := ⟨3, ![4, 128, 1]⟩
abbrev S4x8x256 : Shape := ⟨3, ![4, 8, 256]⟩
abbrev S4096x3072 : Shape := ⟨2, ![4096, 3072]⟩
abbrev S128x512 : Shape := ⟨2, ![128, 512]⟩
abbrev S128x1024 : Shape := ⟨2, ![128, 1024]⟩
abbrev S4x1x128x256 : Shape := ⟨4, ![4, 1, 128, 256]⟩
abbrev S1x3x128x128 : Shape := ⟨4, ![1, 3, 128, 128]⟩
abbrev S128x3072 : Shape := ⟨2, ![128, 3072]⟩
abbrev S4x128x256 : Shape := ⟨3, ![4, 128, 256]⟩
abbrev S128x256 : Shape := ⟨2, ![128, 256]⟩
abbrev S1x128x256 : Shape := ⟨3, ![1, 128, 256]⟩
abbrev S1x1x128x256 : Shape := ⟨4, ![1, 1, 128, 256]⟩
abbrev S1x1x256 : Shape := ⟨3, ![1, 1, 256]⟩
abbrev S1x256 : Shape := ⟨2, ![1, 256]⟩
abbrev S1x1x128x128 : Shape := ⟨4, ![1, 1, 128, 128]⟩

abbrev nBuf : Space → Nat
  | .hbm => 447
  | .vmem => 31
  | .smem => 0
  | _ => 0

abbrev hbmTy0_0 (i : Nat) : BufTy := match i % 128 with
  | 0 => ⟨S4096x9728, .f32⟩
  | 1 => ⟨S4096x1024, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S63, .f32⟩
  | 10 => ⟨S_, .f32⟩
  | 11 => ⟨S63, .f32⟩
  | 12 => ⟨S63, .f32⟩
  | 13 => ⟨S1, .f32⟩
  | 14 => ⟨S_, .f32⟩
  | 15 => ⟨S63, .f32⟩
  | 16 => ⟨S63, .f32⟩
  | 17 => ⟨S63, .f32⟩
  | 18 => ⟨S63, .f32⟩
  | 19 => ⟨S1, .f32⟩
  | 20 => ⟨S63, .f32⟩
  | 21 => ⟨S63, .f32⟩
  | 22 => ⟨S63, .f32⟩
  | 23 => ⟨S1, .f32⟩
  | 24 => ⟨S64, .f32⟩
  | 25 => ⟨S_, .f32⟩
  | 26 => ⟨S64, .f32⟩
  | 27 => ⟨S64, .f32⟩
  | 28 => ⟨S_, .f32⟩
  | 29 => ⟨S64, .f32⟩
  | 30 => ⟨S64, .f32⟩
  | 31 => ⟨S4096, .f32⟩
  | 32 => ⟨S4096x1, .f32⟩
  | 33 => ⟨S1x64, .f32⟩
  | 34 => ⟨S4096x64, .f32⟩
  | 35 => ⟨S4096x64, .f32⟩
  | 36 => ⟨S4096x64, .f32⟩
  | 37 => ⟨S4096x64, .f32⟩
  | 38 => ⟨S4096x1x64, .f32⟩
  | 39 => ⟨S4096x64, .f32⟩
  | 40 => ⟨S4096x1x64, .f32⟩
  | 41 => ⟨S4096x512, .f32⟩
  | 42 => ⟨S4096x4x128, .f32⟩
  | 43 => ⟨S4096x4x64, .f32⟩
  | 44 => ⟨S4096x4x64, .f32⟩
  | 45 => ⟨S4096x4x64, .f32⟩
  | 46 => ⟨S4096x4x64, .f32⟩
  | 47 => ⟨S4096x4x64, .f32⟩
  | 48 => ⟨S4096x4x64, .f32⟩
  | 49 => ⟨S4096x4x64, .f32⟩
  | 50 => ⟨S4096x4x64, .f32⟩
  | 51 => ⟨S4096x4x64, .f32⟩
  | 52 => ⟨S4096x4x64, .f32⟩
  | 53 => ⟨S4096x4x64, .f32⟩
  | 54 => ⟨S4096x4x64, .f32⟩
  | 55 => ⟨S4096x4x64x1, .f32⟩
  | 56 => ⟨S4096x4x64x1, .f32⟩
  | 57 => ⟨S4096x4x64x2, .f32⟩
  | 58 => ⟨S4096x512, .f32⟩
  | 59 => ⟨S4096x4x128, .f32⟩
  | 60 => ⟨S4096x4x64, .f32⟩
  | 61 => ⟨S4096x4x64, .f32⟩
  | 62 => ⟨S4096x4x64, .f32⟩
  | 63 => ⟨S4096x4x64, .f32⟩
  | 64 => ⟨S4096x4x64, .f32⟩
  | 65 => ⟨S4096x4x64, .f32⟩
  | 66 => ⟨S4096x4x64, .f32⟩
  | 67 => ⟨S4096x4x64, .f32⟩
  | 68 => ⟨S4096x4x64, .f32⟩
  | 69 => ⟨S4096x4x64, .f32⟩
  | 70 => ⟨S4096x4x64, .f32⟩
  | 71 => ⟨S4096x4x64, .f32⟩
  | 72 => ⟨S4096x4x64x1, .f32⟩
  | 73 => ⟨S4096x4x64x1, .f32⟩
  | 74 => ⟨S4096x4x64x2, .f32⟩
  | 75 => ⟨S_, .f32⟩
  | 76 => ⟨S4096x4x64x2, .f32⟩
  | 77 => ⟨S4096x4x64x2, .f32⟩
  | 78 => ⟨S4096x1024, .f32⟩
  | 79 => ⟨S4096x4x256, .f32⟩
  | 80 => ⟨S32x128x4x64x2, .f32⟩
  | 81 => ⟨S32x128x4x64x2, .f32⟩
  | 82 => ⟨S32x128x4x256, .f32⟩
  | 83 => ⟨S4, .f32⟩
  | 84 => ⟨S_, .f32⟩
  | 85 => ⟨S4, .f32⟩
  | 86 => ⟨S4, .f32⟩
  | 87 => ⟨S_, .f32⟩
  | 88 => ⟨S4, .f32⟩
  | 89 => ⟨S4, .f32⟩
  | 90 => ⟨S4, .f32⟩
  | 91 => ⟨S4, .f32⟩
  | 92 => ⟨S128, .f32⟩
  | 93 => ⟨S128x1, .f32⟩
  | 94 => ⟨S1x128, .f32⟩
  | 95 => ⟨S128x128, .f32⟩
  | 96 => ⟨S128x128, .f32⟩
  | 97 => ⟨S128x128, .f32⟩
  | 98 => ⟨S1x128x128, .f32⟩
  | 99 => ⟨S_, .f32⟩
  | 100 => ⟨S1x128x128, .f32⟩
  | 101 => ⟨S1x128x128, .i1⟩
  | 102 => ⟨S_, .f32⟩
  | 103 => ⟨S128x128, .f32⟩
  | 104 => ⟨S128x128, .f32⟩
  | 105 => ⟨S1x128x128, .f32⟩
  | 106 => ⟨S4x1x1, .f32⟩
  | 107 => ⟨S4x128x128, .f32⟩
  | 108 => ⟨S4x128x128, .f32⟩
  | 109 => ⟨S4x128x128, .f32⟩
  | 110 => ⟨S4x128x128, .f32⟩
  | 111 => ⟨S_, .f32⟩
  | 112 => ⟨S_, .f32⟩
  | 113 => ⟨S4x128x128, .i1⟩
  | 114 => ⟨S4x128x128, .f32⟩
  | 115 => ⟨S4x128x128, .f32⟩
  | 116 => ⟨S32x4x128x128, .f32⟩
  | 117 => ⟨S1x4x128x128, .f32⟩
  | 118 => ⟨S32x4x128x128, .f32⟩
  | 119 => ⟨S32x4x128x128, .f32⟩
  | 120 => ⟨S32x4x128x256, .f32⟩
  | 121 => ⟨S_, .f32⟩
  | 122 => ⟨S128, .f32⟩
  | 123 => ⟨S128, .f32⟩
  | 124 => ⟨S128x1, .f32⟩
  | 125 => ⟨S1x4, .f32⟩
  | 126 => ⟨S128x4, .f32⟩
  | 127 => ⟨S128x4, .f32⟩
  | _ => ⟨S4096x9728, .f32⟩

abbrev hbmTy0_1 (i : Nat) : BufTy := match i % 128 with
  | 0 => ⟨S128x4, .f32⟩
  | 1 => ⟨S128x4, .f32⟩
  | 2 => ⟨S_, .f32⟩
  | 3 => ⟨S128, .f32⟩
  | 4 => ⟨S128, .f32⟩
  | 5 => ⟨S128x1, .f32⟩
  | 6 => ⟨S1x4, .f32⟩
  | 7 => ⟨S128x4, .f32⟩
  | 8 => ⟨S128x4, .f32⟩
  | 9 => ⟨S128x4, .f32⟩
  | 10 => ⟨S128x4, .f32⟩
  | 11 => ⟨S1x128x4x1x1, .f32⟩
  | 12 => ⟨S32x128x4x64x2, .f32⟩
  | 13 => ⟨S32x128x4x64x2, .f32⟩
  | 14 => ⟨S32x4x64x2x256, .f32⟩
  | 15 => ⟨S_, .f32⟩
  | 16 => ⟨S4, .f32⟩
  | 17 => ⟨S4, .f32⟩
  | 18 => ⟨S4, .f32⟩
  | 19 => ⟨S1x4x1x1x1, .f32⟩
  | 20 => ⟨S1x4x64x2x256, .f32⟩
  | 21 => ⟨S_, .f32⟩
  | 22 => ⟨S1x4x64x2x256, .f32⟩
  | 23 => ⟨S1x4x64x2x256, .f32⟩
  | 24 => ⟨S1x4x64x2x256, .f32⟩
  | 25 => ⟨S1x4x64x2x256, .f32⟩
  | 26 => ⟨S1x4x64x2x256, .f32⟩
  | 27 => ⟨S1x4x64x2x256, .f32⟩
  | 28 => ⟨S1x4x64x2x256, .f32⟩
  | 29 => ⟨S1x4x64x2x256, .f32⟩
  | 30 => ⟨S1x4x64x2x256, .f32⟩
  | 31 => ⟨S1x4x64x2x256, .f32⟩
  | 32 => ⟨S1x4x64x2x256, .f32⟩
  | 33 => ⟨S1x4x64x2x256, .f32⟩
  | 34 => ⟨S1x4x64x2x256, .f32⟩
  | 35 => ⟨S1x4x64x2x256, .f32⟩
  | 36 => ⟨S1x4x64x2x256, .f32⟩
  | 37 => ⟨S1x4x64x2x256, .f32⟩
  | 38 => ⟨S1x4x64x2x256, .f32⟩
  | 39 => ⟨S1x4x64x2x256, .f32⟩
  | 40 => ⟨S1x4x64x2x256, .f32⟩
  | 41 => ⟨S1x4x64x2x256, .f32⟩
  | 42 => ⟨S1x4x64x2x256, .f32⟩
  | 43 => ⟨S1x4x64x2x256, .f32⟩
  | 44 => ⟨S1x4x64x2x256, .f32⟩
  | 45 => ⟨S1x4x64x2x256, .f32⟩
  | 46 => ⟨S1x4x64x2x256, .f32⟩
  | 47 => ⟨S1x4x64x2x256, .f32⟩
  | 48 => ⟨S1x4x64x2x256, .f32⟩
  | 49 => ⟨S1x4x64x2x256, .f32⟩
  | 50 => ⟨S1x4x64x2x256, .f32⟩
  | 51 => ⟨S1x4x64x2x256, .f32⟩
  | 52 => ⟨S1x4x64x2x256, .f32⟩
  | 53 => ⟨S1x4x64x2x256, .f32⟩
  | 54 => ⟨S1x4x64x2x256, .f32⟩
  | 55 => ⟨S1x4x64x2x256, .f32⟩
  | 56 => ⟨S1x4x64x2x256, .f32⟩
  | 57 => ⟨S1x4x64x2x256, .f32⟩
  | 58 => ⟨S1x4x64x2x256, .f32⟩
  | 59 => ⟨S1x4x64x2x256, .f32⟩
  | 60 => ⟨S1x4x64x2x256, .f32⟩
  | 61 => ⟨S1x4x64x2x256, .f32⟩
  | 62 => ⟨S1x4x64x2x256, .f32⟩
  | 63 => ⟨S1x4x64x2x256, .f32⟩
  | 64 => ⟨S1x4x64x2x256, .f32⟩
  | 65 => ⟨S1x4x64x2x256, .f32⟩
  | 66 => ⟨S1x4x64x2x256, .f32⟩
  | 67 => ⟨S1x4x64x2x256, .f32⟩
  | 68 => ⟨S1x4x64x2x256, .f32⟩
  | 69 => ⟨S1x4x64x2x256, .f32⟩
  | 70 => ⟨S1x4x64x2x256, .f32⟩
  | 71 => ⟨S1x4x64x2x256, .f32⟩
  | 72 => ⟨S1x4x64x2x256, .f32⟩
  | 73 => ⟨S1x4x64x2x256, .f32⟩
  | 74 => ⟨S1x4x64x2x256, .f32⟩
  | 75 => ⟨S1x4x64x2x256, .f32⟩
  | 76 => ⟨S1x4x64x2x256, .f32⟩
  | 77 => ⟨S1x4x64x2x256, .f32⟩
  | 78 => ⟨S1x4x64x2x256, .f32⟩
  | 79 => ⟨S1x4x64x2x256, .f32⟩
  | 80 => ⟨S1x4x64x2x256, .f32⟩
  | 81 => ⟨S1x4x64x2x256, .f32⟩
  | 82 => ⟨S1x4x64x2x256, .f32⟩
  | 83 => ⟨S1x4x64x2x256, .f32⟩
  | 84 => ⟨S1x4x64x2x256, .f32⟩
  | 85 => ⟨S1x4x64x2x256, .f32⟩
  | 86 => ⟨S1x4x64x2x256, .f32⟩
  | 87 => ⟨S1x4x64x2x256, .f32⟩
  | 88 => ⟨S1x4x64x2x256, .f32⟩
  | 89 => ⟨S1x4x64x2x256, .f32⟩
  | 90 => ⟨S1x4x64x2x256, .f32⟩
  | 91 => ⟨S1x4x64x2x256, .f32⟩
  | 92 => ⟨S1x4x64x2x256, .f32⟩
  | 93 => ⟨S1x4x64x2x256, .f32⟩
  | 94 => ⟨S1x4x64x2x256, .f32⟩
  | 95 => ⟨S1x4x64x2x256, .f32⟩
  | 96 => ⟨S1x4x64x2x256, .f32⟩
  | 97 => ⟨S1x4x64x2x256, .f32⟩
  | 98 => ⟨S1x4x64x2x256, .f32⟩
  | 99 => ⟨S1x4x64x2x256, .f32⟩
  | 100 => ⟨S1x4x64x2x256, .f32⟩
  | 101 => ⟨S1x4x64x2x256, .f32⟩
  | 102 => ⟨S1x4x64x2x256, .f32⟩
  | 103 => ⟨S1x4x64x2x256, .f32⟩
  | 104 => ⟨S1x4x64x2x256, .f32⟩
  | 105 => ⟨S1x4x64x2x256, .f32⟩
  | 106 => ⟨S1x4x64x2x256, .f32⟩
  | 107 => ⟨S1x4x64x2x256, .f32⟩
  | 108 => ⟨S1x4x64x2x256, .f32⟩
  | 109 => ⟨S1x4x64x2x256, .f32⟩
  | 110 => ⟨S1x4x64x2x256, .f32⟩
  | 111 => ⟨S1x4x64x2x256, .f32⟩
  | 112 => ⟨S1x4x64x2x256, .f32⟩
  | 113 => ⟨S1x4x64x2x256, .f32⟩
  | 114 => ⟨S1x4x64x2x256, .f32⟩
  | 115 => ⟨S1x4x64x2x256, .f32⟩
  | 116 => ⟨S1x4x64x2x256, .f32⟩
  | 117 => ⟨S1x4x64x2x256, .f32⟩
  | 118 => ⟨S1x4x64x2x256, .f32⟩
  | 119 => ⟨S16x4x64x2x256, .f32⟩
  | 120 => ⟨S16x4x64x2x256, .f32⟩
  | 121 => ⟨S32x4x64x2x256, .f32⟩
  | 122 => ⟨S1x128x4x1x1, .f32⟩
  | 123 => ⟨S32x128x4x64x2, .f32⟩
  | 124 => ⟨S32x128x4x64x2, .f32⟩
  | 125 => ⟨S32x4x128x256, .f32⟩
  | 126 => ⟨S32x4x128x256, .f32⟩
  | 127 => ⟨S_, .f32⟩
  | _ => ⟨S4096x9728, .f32⟩

abbrev hbmTy0_2 (i : Nat) : BufTy := match i % 128 with
  | 0 => ⟨S32x4x128, .f32⟩
  | 1 => ⟨S32x4x128x1, .f32⟩
  | 2 => ⟨S_, .f32⟩
  | 3 => ⟨S32x4x128x1, .f32⟩
  | 4 => ⟨S32x4x128x1, .f32⟩
  | 5 => ⟨S32x4x128x256, .f32⟩
  | 6 => ⟨S32x4x128x256, .f32⟩
  | 7 => ⟨S32x4x128x256, .f32⟩
  | 8 => ⟨S_, .f32⟩
  | 9 => ⟨S32x4x128, .f32⟩
  | 10 => ⟨S32x4x128x1, .f32⟩
  | 11 => ⟨S_, .f32⟩
  | 12 => ⟨S32x4x128x1, .f32⟩
  | 13 => ⟨S32x4x128x1, .f32⟩
  | 14 => ⟨S_, .f32⟩
  | 15 => ⟨S32x4x128x1, .f32⟩
  | 16 => ⟨S32x4x128x1, .f32⟩
  | 17 => ⟨S32x4x128x1, .f32⟩
  | 18 => ⟨S32x4x128x256, .f32⟩
  | 19 => ⟨S32x4x128x256, .f32⟩
  | 20 => ⟨S32x4x128x256, .f32⟩
  | 21 => ⟨S32x4x128x256, .f32⟩
  | 22 => ⟨S32x128x4x1, .f32⟩
  | 23 => ⟨S32x128x4x16, .f32⟩
  | 24 => ⟨S4096x64, .f32⟩
  | 25 => ⟨S32x128x4x256, .f32⟩
  | 26 => ⟨S4096x1024, .f32⟩
  | 27 => ⟨S4096x1024, .bf16⟩
  | 28 => ⟨S4096x128, .f32⟩
  | 29 => ⟨S32x4x128x256, .f32⟩
  | 30 => ⟨S4x32x128x256, .f32⟩
  | 31 => ⟨S4x32x128x256, .bf16⟩
  | 32 => ⟨S4096x4608, .f32⟩
  | 33 => ⟨S4096x512, .f32⟩
  | 34 => ⟨S4096x512, .f32⟩
  | 35 => ⟨S4096x4096, .f32⟩
  | 36 => ⟨S4096x9728, .f32⟩
  | 37 => ⟨S4096x9728, .bf16⟩
  | 38 => ⟨S4096x1024, .bf16⟩
  | 39 => ⟨S4096, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S63, .f32⟩
  | 48 => ⟨S_, .f32⟩
  | 49 => ⟨S63, .f32⟩
  | 50 => ⟨S63, .f32⟩
  | 51 => ⟨S1, .f32⟩
  | 52 => ⟨S_, .f32⟩
  | 53 => ⟨S63, .f32⟩
  | 54 => ⟨S63, .f32⟩
  | 55 => ⟨S63, .f32⟩
  | 56 => ⟨S63, .f32⟩
  | 57 => ⟨S1, .f32⟩
  | 58 => ⟨S63, .f32⟩
  | 59 => ⟨S63, .f32⟩
  | 60 => ⟨S63, .f32⟩
  | 61 => ⟨S1, .f32⟩
  | 62 => ⟨S64, .f32⟩
  | 63 => ⟨S_, .f32⟩
  | 64 => ⟨S64, .f32⟩
  | 65 => ⟨S64, .f32⟩
  | 66 => ⟨S_, .f32⟩
  | 67 => ⟨S64, .f32⟩
  | 68 => ⟨S64, .f32⟩
  | 69 => ⟨S4096x1, .f32⟩
  | 70 => ⟨S1x64, .f32⟩
  | 71 => ⟨S4096x64, .f32⟩
  | 72 => ⟨S4096x64, .f32⟩
  | 73 => ⟨S4096x64, .f32⟩
  | 74 => ⟨S4096x64, .f32⟩
  | 75 => ⟨S4096x64x2, .f32⟩
  | 76 => ⟨S4096x128, .f32⟩
  | 77 => ⟨S4096x64, .f32⟩
  | 78 => ⟨S4096x64x2, .f32⟩
  | 79 => ⟨S4096x128, .f32⟩
  | 80 => ⟨S128, .i32⟩
  | 81 => ⟨S_, .i32⟩
  | 82 => ⟨S_, .i32⟩
  | 83 => ⟨S_, .i32⟩
  | 84 => ⟨S_, .i1⟩
  | 85 => ⟨S_, .i32⟩
  | 86 => ⟨S_, .i32⟩
  | 87 => ⟨S128, .i32⟩
  | 88 => ⟨S128, .i32⟩
  | 89 => ⟨S_, .i32⟩
  | 90 => ⟨S128, .i32⟩
  | 91 => ⟨S128, .i1⟩
  | 92 => ⟨S_, .i32⟩
  | 93 => ⟨S128, .i32⟩
  | 94 => ⟨S128, .i1⟩
  | 95 => ⟨S_, .i32⟩
  | 96 => ⟨S_, .i1⟩
  | 97 => ⟨S128, .i1⟩
  | 98 => ⟨S128, .i1⟩
  | 99 => ⟨S128, .i1⟩
  | 100 => ⟨S128, .i32⟩
  | 101 => ⟨S128, .i32⟩
  | 102 => ⟨S128, .i32⟩
  | 103 => ⟨S_, .i32⟩
  | 104 => ⟨S128, .i32⟩
  | 105 => ⟨S128, .i1⟩
  | 106 => ⟨S1x128, .i1⟩
  | 107 => ⟨S_, .f32⟩
  | 108 => ⟨S_, .f32⟩
  | 109 => ⟨S4096x128, .i1⟩
  | 110 => ⟨S4096x128, .f32⟩
  | 111 => ⟨S4096x128, .f32⟩
  | 112 => ⟨S4096x128, .f32⟩
  | 113 => ⟨S_, .f32⟩
  | 114 => ⟨S_, .f32⟩
  | 115 => ⟨S4096x128, .i1⟩
  | 116 => ⟨S4096x128, .f32⟩
  | 117 => ⟨S4096x128, .f32⟩
  | 118 => ⟨S1x4096x128, .f32⟩
  | 119 => ⟨S1x4096x128, .f32⟩
  | 120 => ⟨S1x4096x128, .f32⟩
  | 121 => ⟨S3x4096x128, .f32⟩
  | 122 => ⟨S_, .f32⟩
  | 123 => ⟨S3x4096x128, .f32⟩
  | 124 => ⟨S3x4096x128, .f32⟩
  | 125 => ⟨S1x3x4096x128, .f32⟩
  | 126 => ⟨S1x3x4096x128, .f32⟩
  | 127 => ⟨S1x3x4096x128, .f32⟩
  | _ => ⟨S4096x9728, .f32⟩

abbrev hbmTy0_3 (i : Nat) : BufTy := match i % 128 with
  | 0 => ⟨S3x3x4096x128, .f32⟩
  | 1 => ⟨S4, .f32⟩
  | 2 => ⟨S_, .f32⟩
  | 3 => ⟨S4, .f32⟩
  | 4 => ⟨S4, .f32⟩
  | 5 => ⟨S_, .f32⟩
  | 6 => ⟨S4, .f32⟩
  | 7 => ⟨S4, .f32⟩
  | 8 => ⟨S4, .f32⟩
  | 9 => ⟨S4, .f32⟩
  | 10 => ⟨S128, .f32⟩
  | 11 => ⟨S128x1, .f32⟩
  | 12 => ⟨S1x128, .f32⟩
  | 13 => ⟨S128x128, .f32⟩
  | 14 => ⟨S128x128, .f32⟩
  | 15 => ⟨S128x128, .f32⟩
  | 16 => ⟨S1x128x128, .f32⟩
  | 17 => ⟨S_, .f32⟩
  | 18 => ⟨S1x128x128, .f32⟩
  | 19 => ⟨S1x128x128, .i1⟩
  | 20 => ⟨S_, .f32⟩
  | 21 => ⟨S128x128, .f32⟩
  | 22 => ⟨S128x128, .f32⟩
  | 23 => ⟨S1x128x128, .f32⟩
  | 24 => ⟨S4x1x1, .f32⟩
  | 25 => ⟨S4x128x128, .f32⟩
  | 26 => ⟨S4x128x128, .f32⟩
  | 27 => ⟨S4x128x128, .f32⟩
  | 28 => ⟨S4x128x128, .f32⟩
  | 29 => ⟨S_, .f32⟩
  | 30 => ⟨S_, .f32⟩
  | 31 => ⟨S4x128x128, .i1⟩
  | 32 => ⟨S4x128x128, .f32⟩
  | 33 => ⟨S4x128x128, .f32⟩
  | 34 => ⟨S_, .f32⟩
  | 35 => ⟨S128, .f32⟩
  | 36 => ⟨S128, .f32⟩
  | 37 => ⟨S1x128, .f32⟩
  | 38 => ⟨S4x1, .f32⟩
  | 39 => ⟨S4x128, .f32⟩
  | 40 => ⟨S4x128, .f32⟩
  | 41 => ⟨S4x128, .f32⟩
  | 42 => ⟨S4x128, .f32⟩
  | 43 => ⟨S_, .f32⟩
  | 44 => ⟨S128, .f32⟩
  | 45 => ⟨S128, .f32⟩
  | 46 => ⟨S1x128, .f32⟩
  | 47 => ⟨S4x1, .f32⟩
  | 48 => ⟨S4x128, .f32⟩
  | 49 => ⟨S4x128, .f32⟩
  | 50 => ⟨S4x128, .f32⟩
  | 51 => ⟨S4x128, .f32⟩
  | 52 => ⟨S_, .f32⟩
  | 53 => ⟨S4, .f32⟩
  | 54 => ⟨S4, .f32⟩
  | 55 => ⟨S4, .f32⟩
  | 56 => ⟨S4x128x1, .f32⟩
  | 57 => ⟨S4x128x128, .f32⟩
  | 58 => ⟨S4x128x1, .f32⟩
  | 59 => ⟨S4x128x128, .f32⟩
  | 60 => ⟨S4x1x1, .f32⟩
  | 61 => ⟨S4x8x256, .f32⟩
  | 62 => ⟨S4096x3072, .bf16⟩
  | _ => ⟨S4096x9728, .f32⟩

abbrev hbmTy (i : Nat) : BufTy := match i / 128 with
  | 0 => hbmTy0_0 i
  | 1 => hbmTy0_1 i
  | 2 => hbmTy0_2 i
  | 3 => hbmTy0_3 i
  | _ => ⟨S4096x9728, .f32⟩

abbrev bufTy : (tb : Table) → Fin (tcTables nBuf tb) → BufTy
  | .hbm, ⟨i, _⟩ => hbmTy i
  | .local _ .vmem, ⟨0, _⟩ => ⟨S128x512, .bf16⟩
  | .local _ .vmem, ⟨1, _⟩ => ⟨S128x512, .bf16⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S128x512, .bf16⟩
  | .local _ .vmem, ⟨7, _⟩ => ⟨S128x512, .bf16⟩
  | .local _ .vmem, ⟨8, _⟩ => ⟨S128x512, .bf16⟩
  | .local _ .vmem, ⟨9, _⟩ => ⟨S128x512, .bf16⟩
  | .local _ .vmem, ⟨10, _⟩ => ⟨S128x512, .bf16⟩
  | .local _ .vmem, ⟨11, _⟩ => ⟨S128x512, .bf16⟩
  | .local _ .vmem, ⟨12, _⟩ => ⟨S128x1024, .bf16⟩
  | .local _ .vmem, ⟨13, _⟩ => ⟨S128x1024, .bf16⟩
  | .local _ .vmem, ⟨14, _⟩ => ⟨S128x128, .f32⟩
  | .local _ .vmem, ⟨15, _⟩ => ⟨S128x128, .f32⟩
  | .local _ .vmem, ⟨16, _⟩ => ⟨S128x1024, .bf16⟩
  | .local _ .vmem, ⟨17, _⟩ => ⟨S128x1024, .bf16⟩
  | .local _ .vmem, ⟨18, _⟩ => ⟨S4x1x128x256, .bf16⟩
  | .local _ .vmem, ⟨19, _⟩ => ⟨S4x1x128x256, .bf16⟩
  | .local _ .vmem, ⟨20, _⟩ => ⟨S1x3x128x128, .f32⟩
  | .local _ .vmem, ⟨21, _⟩ => ⟨S1x3x128x128, .f32⟩
  | .local _ .vmem, ⟨22, _⟩ => ⟨S1x3x128x128, .f32⟩
  | .local _ .vmem, ⟨23, _⟩ => ⟨S1x3x128x128, .f32⟩
  | .local _ .vmem, ⟨24, _⟩ => ⟨S4x128x128, .f32⟩
  | .local _ .vmem, ⟨25, _⟩ => ⟨S4x128x128, .f32⟩
  | .local _ .vmem, ⟨26, _⟩ => ⟨S4x128x128, .f32⟩
  | .local _ .vmem, ⟨27, _⟩ => ⟨S4x8x256, .f32⟩
  | .local _ .vmem, ⟨28, _⟩ => ⟨S128x3072, .bf16⟩
  | .local _ .vmem, ⟨29, _⟩ => ⟨S128x3072, .bf16⟩
  | .local _ .vmem, ⟨30, _⟩ => ⟨S4x128x256, .f32⟩
  | _, _ => ⟨S4096x9728, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_cst : Ref sig .tc := ⟨.hbm, 7, rfl⟩
abbrev main_call0_v3 : Ref sig .tc := ⟨.hbm, 8, rfl⟩
abbrev main_call0_v4 : Ref sig .tc := ⟨.hbm, 9, rfl⟩
abbrev main_call0_cst_0 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_cst_1 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_v0 : Ref sig .tc := ⟨.hbm, 24, rfl⟩
abbrev main_cst_1 : Ref sig .tc := ⟨.hbm, 25, rfl⟩
abbrev main_v1 : Ref sig .tc := ⟨.hbm, 26, rfl⟩
abbrev main_v2 : Ref sig .tc := ⟨.hbm, 27, rfl⟩
abbrev main_cst_2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_3 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_4 : Ref sig .tc := ⟨.hbm, 84, rfl⟩
abbrev main_v57 : Ref sig .tc := ⟨.hbm, 85, rfl⟩
abbrev main_v58 : Ref sig .tc := ⟨.hbm, 86, rfl⟩
abbrev main_cst_5 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_6 : Ref sig .tc := ⟨.hbm, 99, rfl⟩
abbrev main_v70 : Ref sig .tc := ⟨.hbm, 100, rfl⟩
abbrev main_v71 : Ref sig .tc := ⟨.hbm, 101, rfl⟩
abbrev main_cst_7 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_8 : Ref sig .tc := ⟨.hbm, 111, rfl⟩
abbrev main_call1_v0 : Ref sig .tc := ⟨.hbm, 112, rfl⟩
abbrev main_call1_v1 : Ref sig .tc := ⟨.hbm, 113, rfl⟩
abbrev main_call1_v2 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_9 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_10 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_cst_11 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_cst_12 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_v185 : Ref sig .tc := ⟨.hbm, 224, rfl⟩
abbrev main_v186 : Ref sig .tc := ⟨.hbm, 225, rfl⟩
abbrev main_v187 : Ref sig .tc := ⟨.hbm, 226, rfl⟩
abbrev main_v188 : Ref sig .tc := ⟨.hbm, 227, rfl⟩
abbrev main_v189 : Ref sig .tc := ⟨.hbm, 228, rfl⟩
abbrev main_v190 : Ref sig .tc := ⟨.hbm, 229, rfl⟩
abbrev main_v191 : Ref sig .tc := ⟨.hbm, 230, rfl⟩
abbrev main_v192 : Ref sig .tc := ⟨.hbm, 231, rfl⟩
abbrev main_v193 : Ref sig .tc := ⟨.hbm, 232, rfl⟩
abbrev main_v194 : Ref sig .tc := ⟨.hbm, 233, rfl⟩
abbrev main_v195 : Ref sig .tc := ⟨.hbm, 234, rfl⟩
abbrev main_v196 : Ref sig .tc := ⟨.hbm, 235, rfl⟩
abbrev main_v197 : Ref sig .tc := ⟨.hbm, 236, rfl⟩
abbrev main_v198 : Ref sig .tc := ⟨.hbm, 237, rfl⟩
abbrev main_v199 : Ref sig .tc := ⟨.hbm, 238, rfl⟩
abbrev main_v200 : Ref sig .tc := ⟨.hbm, 239, rfl⟩
abbrev main_v201 : Ref sig .tc := ⟨.hbm, 240, rfl⟩
abbrev main_v202 : Ref sig .tc := ⟨.hbm, 241, rfl⟩
abbrev main_v203 : Ref sig .tc := ⟨.hbm, 242, rfl⟩
abbrev main_v204 : Ref sig .tc := ⟨.hbm, 243, rfl⟩
abbrev main_v205 : Ref sig .tc := ⟨.hbm, 244, rfl⟩
abbrev main_v206 : Ref sig .tc := ⟨.hbm, 245, rfl⟩
abbrev main_v207 : Ref sig .tc := ⟨.hbm, 246, rfl⟩
abbrev main_v208 : Ref sig .tc := ⟨.hbm, 247, rfl⟩
abbrev main_v209 : Ref sig .tc := ⟨.hbm, 248, rfl⟩
abbrev main_v210 : Ref sig .tc := ⟨.hbm, 249, rfl⟩
abbrev main_v211 : Ref sig .tc := ⟨.hbm, 250, rfl⟩
abbrev main_v212 : Ref sig .tc := ⟨.hbm, 251, rfl⟩
abbrev main_v213 : Ref sig .tc := ⟨.hbm, 252, rfl⟩
abbrev main_v214 : Ref sig .tc := ⟨.hbm, 253, rfl⟩
abbrev main_v215 : Ref sig .tc := ⟨.hbm, 254, rfl⟩
abbrev main_cst_13 : Ref sig .tc := ⟨.hbm, 255, rfl⟩
abbrev main_v216 : Ref sig .tc := ⟨.hbm, 256, rfl⟩
abbrev main_v217 : Ref sig .tc := ⟨.hbm, 257, rfl⟩
abbrev main_cst_14 : Ref sig .tc := ⟨.hbm, 258, rfl⟩
abbrev main_v218 : Ref sig .tc := ⟨.hbm, 259, rfl⟩
abbrev main_v219 : Ref sig .tc := ⟨.hbm, 260, rfl⟩
abbrev main_v220 : Ref sig .tc := ⟨.hbm, 261, rfl⟩
abbrev main_v221 : Ref sig .tc := ⟨.hbm, 262, rfl⟩
abbrev main_v222 : Ref sig .tc := ⟨.hbm, 263, rfl⟩
abbrev main_cst_15 : Ref sig .tc := ⟨.hbm, 264, rfl⟩
abbrev main_v223 : Ref sig .tc := ⟨.hbm, 265, rfl⟩
abbrev main_v224 : Ref sig .tc := ⟨.hbm, 266, rfl⟩
abbrev main_cst_16 : Ref sig .tc := ⟨.hbm, 267, rfl⟩
abbrev main_v225 : Ref sig .tc := ⟨.hbm, 268, rfl⟩
abbrev main_v226 : Ref sig .tc := ⟨.hbm, 269, rfl⟩
abbrev main_cst_17 : Ref sig .tc := ⟨.hbm, 270, rfl⟩
abbrev main_v227 : Ref sig .tc := ⟨.hbm, 271, rfl⟩
abbrev main_v228 : Ref sig .tc := ⟨.hbm, 272, rfl⟩
abbrev main_v229 : Ref sig .tc := ⟨.hbm, 273, rfl⟩
abbrev main_v230 : Ref sig .tc := ⟨.hbm, 274, rfl⟩
abbrev main_v231 : Ref sig .tc := ⟨.hbm, 275, rfl⟩
abbrev main_v232 : Ref sig .tc := ⟨.hbm, 276, rfl⟩
abbrev main_v233 : Ref sig .tc := ⟨.hbm, 277, rfl⟩
abbrev main_v234 : Ref sig .tc := ⟨.hbm, 278, rfl⟩
abbrev main_v235 : Ref sig .tc := ⟨.hbm, 279, rfl⟩
abbrev main_v236 : Ref sig .tc := ⟨.hbm, 280, rfl⟩
abbrev main_v237 : Ref sig .tc := ⟨.hbm, 281, rfl⟩
abbrev main_v238 : Ref sig .tc := ⟨.hbm, 282, rfl⟩
abbrev main_v239 : Ref sig .tc := ⟨.hbm, 283, rfl⟩
abbrev main_v240 : Ref sig .tc := ⟨.hbm, 284, rfl⟩
abbrev main_v241 : Ref sig .tc := ⟨.hbm, 285, rfl⟩
abbrev main_v242 : Ref sig .tc := ⟨.hbm, 286, rfl⟩
abbrev main_v243 : Ref sig .tc := ⟨.hbm, 287, rfl⟩
abbrev main_v244 : Ref sig .tc := ⟨.hbm, 288, rfl⟩
abbrev main_v245 : Ref sig .tc := ⟨.hbm, 289, rfl⟩
abbrev main_v246 : Ref sig .tc := ⟨.hbm, 290, rfl⟩
abbrev main_v247 : Ref sig .tc := ⟨.hbm, 291, rfl⟩
abbrev main_v248 : Ref sig .tc := ⟨.hbm, 292, rfl⟩
abbrev main_v249 : Ref sig .tc := ⟨.hbm, 293, rfl⟩
abbrev main_v250 : Ref sig .tc := ⟨.hbm, 294, rfl⟩
abbrev main_v251 : Ref sig .tc := ⟨.hbm, 295, rfl⟩
abbrev main_cst_18 : Ref sig .tc := ⟨.hbm, 296, rfl⟩
abbrev main_cst_19 : Ref sig .tc := ⟨.hbm, 297, rfl⟩
abbrev main_call2_v0 : Ref sig .tc := ⟨.hbm, 298, rfl⟩
abbrev main_call2_v1 : Ref sig .tc := ⟨.hbm, 299, rfl⟩
abbrev main_call2_v2 : Ref sig .tc := ⟨.hbm, 300, rfl⟩
abbrev main_call2_cst : Ref sig .tc := ⟨.hbm, 301, rfl⟩
abbrev main_call2_v3 : Ref sig .tc := ⟨.hbm, 302, rfl⟩
abbrev main_call2_v4 : Ref sig .tc := ⟨.hbm, 303, rfl⟩
abbrev main_call2_cst_0 : Ref sig .tc := ⟨.hbm, 304, rfl⟩
abbrev main_call2_v5 : Ref sig .tc := ⟨.hbm, 305, rfl⟩
abbrev main_call2_v6 : Ref sig .tc := ⟨.hbm, 306, rfl⟩
abbrev main_call2_v7 : Ref sig .tc := ⟨.hbm, 307, rfl⟩
abbrev main_call2_cst_1 : Ref sig .tc := ⟨.hbm, 308, rfl⟩
abbrev main_call2_v8 : Ref sig .tc := ⟨.hbm, 309, rfl⟩
abbrev main_call2_v9 : Ref sig .tc := ⟨.hbm, 310, rfl⟩
abbrev main_call2_v10 : Ref sig .tc := ⟨.hbm, 311, rfl⟩
abbrev main_call2_v11 : Ref sig .tc := ⟨.hbm, 312, rfl⟩
abbrev main_call2_v12 : Ref sig .tc := ⟨.hbm, 313, rfl⟩
abbrev main_call2_v13 : Ref sig .tc := ⟨.hbm, 314, rfl⟩
abbrev main_call2_v14 : Ref sig .tc := ⟨.hbm, 315, rfl⟩
abbrev main_call2_v15 : Ref sig .tc := ⟨.hbm, 316, rfl⟩
abbrev main_call2_v16 : Ref sig .tc := ⟨.hbm, 317, rfl⟩
abbrev main_v252 : Ref sig .tc := ⟨.hbm, 318, rfl⟩
abbrev main_cst_20 : Ref sig .tc := ⟨.hbm, 319, rfl⟩
abbrev main_v253 : Ref sig .tc := ⟨.hbm, 320, rfl⟩
abbrev main_v254 : Ref sig .tc := ⟨.hbm, 321, rfl⟩
abbrev main_cst_21 : Ref sig .tc := ⟨.hbm, 322, rfl⟩
abbrev main_v255 : Ref sig .tc := ⟨.hbm, 323, rfl⟩
abbrev main_v256 : Ref sig .tc := ⟨.hbm, 324, rfl⟩
abbrev main_v257 : Ref sig .tc := ⟨.hbm, 325, rfl⟩
abbrev main_v258 : Ref sig .tc := ⟨.hbm, 326, rfl⟩
abbrev main_v259 : Ref sig .tc := ⟨.hbm, 327, rfl⟩
abbrev main_v260 : Ref sig .tc := ⟨.hbm, 328, rfl⟩
abbrev main_v261 : Ref sig .tc := ⟨.hbm, 329, rfl⟩
abbrev main_v262 : Ref sig .tc := ⟨.hbm, 330, rfl⟩
abbrev main_v263 : Ref sig .tc := ⟨.hbm, 331, rfl⟩
abbrev main_v264 : Ref sig .tc := ⟨.hbm, 332, rfl⟩
abbrev main_v265 : Ref sig .tc := ⟨.hbm, 333, rfl⟩
abbrev main_v266 : Ref sig .tc := ⟨.hbm, 334, rfl⟩
abbrev main_v267 : Ref sig .tc := ⟨.hbm, 335, rfl⟩
abbrev main_v268 : Ref sig .tc := ⟨.hbm, 336, rfl⟩
abbrev main_c : Ref sig .tc := ⟨.hbm, 337, rfl⟩
abbrev main_call3_v0 : Ref sig .tc := ⟨.hbm, 338, rfl⟩
abbrev main_call3_c : Ref sig .tc := ⟨.hbm, 339, rfl⟩
abbrev main_call3_v1 : Ref sig .tc := ⟨.hbm, 340, rfl⟩
abbrev main_call3_c_0 : Ref sig .tc := ⟨.hbm, 341, rfl⟩
abbrev main_call3_v2 : Ref sig .tc := ⟨.hbm, 342, rfl⟩
abbrev main_call3_v3 : Ref sig .tc := ⟨.hbm, 343, rfl⟩
abbrev main_call3_v4 : Ref sig .tc := ⟨.hbm, 344, rfl⟩
abbrev main_call3_c_1 : Ref sig .tc := ⟨.hbm, 345, rfl⟩
abbrev main_call3_v5 : Ref sig .tc := ⟨.hbm, 346, rfl⟩
abbrev main_call3_v6 : Ref sig .tc := ⟨.hbm, 347, rfl⟩
abbrev main_call3_c_2 : Ref sig .tc := ⟨.hbm, 348, rfl⟩
abbrev main_call3_v7 : Ref sig .tc := ⟨.hbm, 349, rfl⟩
abbrev main_call3_v8 : Ref sig .tc := ⟨.hbm, 350, rfl⟩
abbrev main_call3_c_3 : Ref sig .tc := ⟨.hbm, 351, rfl⟩
abbrev main_call3_v9 : Ref sig .tc := ⟨.hbm, 352, rfl⟩
abbrev main_call3_v10 : Ref sig .tc := ⟨.hbm, 353, rfl⟩
abbrev main_call3_v11 : Ref sig .tc := ⟨.hbm, 354, rfl⟩
abbrev main_call3_v12 : Ref sig .tc := ⟨.hbm, 355, rfl⟩
abbrev main_call3_v13 : Ref sig .tc := ⟨.hbm, 356, rfl⟩
abbrev main_call3_v14 : Ref sig .tc := ⟨.hbm, 357, rfl⟩
abbrev main_v269 : Ref sig .tc := ⟨.hbm, 358, rfl⟩
abbrev main_c_22 : Ref sig .tc := ⟨.hbm, 359, rfl⟩
abbrev main_v270 : Ref sig .tc := ⟨.hbm, 360, rfl⟩
abbrev main_v271 : Ref sig .tc := ⟨.hbm, 361, rfl⟩
abbrev main_v272 : Ref sig .tc := ⟨.hbm, 362, rfl⟩
abbrev main_cst_23 : Ref sig .tc := ⟨.hbm, 363, rfl⟩
abbrev main_call4_v0 : Ref sig .tc := ⟨.hbm, 364, rfl⟩
abbrev main_call4_v1 : Ref sig .tc := ⟨.hbm, 365, rfl⟩
abbrev main_call4_v2 : Ref sig .tc := ⟨.hbm, 366, rfl⟩
abbrev main_v273 : Ref sig .tc := ⟨.hbm, 367, rfl⟩
abbrev main_v274 : Ref sig .tc := ⟨.hbm, 368, rfl⟩
abbrev main_cst_24 : Ref sig .tc := ⟨.hbm, 369, rfl⟩
abbrev main_call5_v0 : Ref sig .tc := ⟨.hbm, 370, rfl⟩
abbrev main_call5_v1 : Ref sig .tc := ⟨.hbm, 371, rfl⟩
abbrev main_call5_v2 : Ref sig .tc := ⟨.hbm, 372, rfl⟩
abbrev main_v275 : Ref sig .tc := ⟨.hbm, 373, rfl⟩
abbrev main_v276 : Ref sig .tc := ⟨.hbm, 374, rfl⟩
abbrev main_v277 : Ref sig .tc := ⟨.hbm, 375, rfl⟩
abbrev main_v278 : Ref sig .tc := ⟨.hbm, 376, rfl⟩
abbrev main_v279 : Ref sig .tc := ⟨.hbm, 377, rfl⟩
abbrev main_cst_25 : Ref sig .tc := ⟨.hbm, 378, rfl⟩
abbrev main_v280 : Ref sig .tc := ⟨.hbm, 379, rfl⟩
abbrev main_v281 : Ref sig .tc := ⟨.hbm, 380, rfl⟩
abbrev main_v282 : Ref sig .tc := ⟨.hbm, 381, rfl⟩
abbrev main_v283 : Ref sig .tc := ⟨.hbm, 382, rfl⟩
abbrev main_v284 : Ref sig .tc := ⟨.hbm, 383, rfl⟩
abbrev main_v285 : Ref sig .tc := ⟨.hbm, 384, rfl⟩
abbrev main_v286 : Ref sig .tc := ⟨.hbm, 385, rfl⟩
abbrev main_cst_26 : Ref sig .tc := ⟨.hbm, 386, rfl⟩
abbrev main_v287 : Ref sig .tc := ⟨.hbm, 387, rfl⟩
abbrev main_v288 : Ref sig .tc := ⟨.hbm, 388, rfl⟩
abbrev main_cst_27 : Ref sig .tc := ⟨.hbm, 389, rfl⟩
abbrev main_v289 : Ref sig .tc := ⟨.hbm, 390, rfl⟩
abbrev main_v290 : Ref sig .tc := ⟨.hbm, 391, rfl⟩
abbrev main_v291 : Ref sig .tc := ⟨.hbm, 392, rfl⟩
abbrev main_v292 : Ref sig .tc := ⟨.hbm, 393, rfl⟩
abbrev main_v293 : Ref sig .tc := ⟨.hbm, 394, rfl⟩
abbrev main_v294 : Ref sig .tc := ⟨.hbm, 395, rfl⟩
abbrev main_v295 : Ref sig .tc := ⟨.hbm, 396, rfl⟩
abbrev main_v296 : Ref sig .tc := ⟨.hbm, 397, rfl⟩
abbrev main_v297 : Ref sig .tc := ⟨.hbm, 398, rfl⟩
abbrev main_v298 : Ref sig .tc := ⟨.hbm, 399, rfl⟩
abbrev main_v299 : Ref sig .tc := ⟨.hbm, 400, rfl⟩
abbrev main_cst_28 : Ref sig .tc := ⟨.hbm, 401, rfl⟩
abbrev main_v300 : Ref sig .tc := ⟨.hbm, 402, rfl⟩
abbrev main_v301 : Ref sig .tc := ⟨.hbm, 403, rfl⟩
abbrev main_cst_29 : Ref sig .tc := ⟨.hbm, 404, rfl⟩
abbrev main_v302 : Ref sig .tc := ⟨.hbm, 405, rfl⟩
abbrev main_v303 : Ref sig .tc := ⟨.hbm, 406, rfl⟩
abbrev main_v304 : Ref sig .tc := ⟨.hbm, 407, rfl⟩
abbrev main_v305 : Ref sig .tc := ⟨.hbm, 408, rfl⟩
abbrev main_v306 : Ref sig .tc := ⟨.hbm, 409, rfl⟩
abbrev main_v307 : Ref sig .tc := ⟨.hbm, 410, rfl⟩
abbrev main_v308 : Ref sig .tc := ⟨.hbm, 411, rfl⟩
abbrev main_v309 : Ref sig .tc := ⟨.hbm, 412, rfl⟩
abbrev main_cst_30 : Ref sig .tc := ⟨.hbm, 413, rfl⟩
abbrev main_call6_v0 : Ref sig .tc := ⟨.hbm, 414, rfl⟩
abbrev main_call6_v1 : Ref sig .tc := ⟨.hbm, 415, rfl⟩
abbrev main_call6_v2 : Ref sig .tc := ⟨.hbm, 416, rfl⟩
abbrev main_v310 : Ref sig .tc := ⟨.hbm, 417, rfl⟩
abbrev main_cst_31 : Ref sig .tc := ⟨.hbm, 418, rfl⟩
abbrev main_v311 : Ref sig .tc := ⟨.hbm, 419, rfl⟩
abbrev main_v312 : Ref sig .tc := ⟨.hbm, 420, rfl⟩
abbrev main_v313 : Ref sig .tc := ⟨.hbm, 421, rfl⟩
abbrev main_v314 : Ref sig .tc := ⟨.hbm, 422, rfl⟩
abbrev main_v315 : Ref sig .tc := ⟨.hbm, 423, rfl⟩
abbrev main_v316 : Ref sig .tc := ⟨.hbm, 424, rfl⟩
abbrev main_v317 : Ref sig .tc := ⟨.hbm, 425, rfl⟩
abbrev main_v318 : Ref sig .tc := ⟨.hbm, 426, rfl⟩
abbrev main_cst_32 : Ref sig .tc := ⟨.hbm, 427, rfl⟩
abbrev main_v319 : Ref sig .tc := ⟨.hbm, 428, rfl⟩
abbrev main_v320 : Ref sig .tc := ⟨.hbm, 429, rfl⟩
abbrev main_v321 : Ref sig .tc := ⟨.hbm, 430, rfl⟩
abbrev main_v322 : Ref sig .tc := ⟨.hbm, 431, rfl⟩
abbrev main_v323 : Ref sig .tc := ⟨.hbm, 432, rfl⟩
abbrev main_v324 : Ref sig .tc := ⟨.hbm, 433, rfl⟩
abbrev main_v325 : Ref sig .tc := ⟨.hbm, 434, rfl⟩
abbrev main_v326 : Ref sig .tc := ⟨.hbm, 435, rfl⟩
abbrev main_cst_33 : Ref sig .tc := ⟨.hbm, 436, rfl⟩
abbrev main_v327 : Ref sig .tc := ⟨.hbm, 437, rfl⟩
abbrev main_v328 : Ref sig .tc := ⟨.hbm, 438, rfl⟩
abbrev main_v329 : Ref sig .tc := ⟨.hbm, 439, rfl⟩
abbrev main_v330 : Ref sig .tc := ⟨.hbm, 440, rfl⟩
abbrev main_v331 : Ref sig .tc := ⟨.hbm, 441, rfl⟩
abbrev main_v332 : Ref sig .tc := ⟨.hbm, 442, rfl⟩
abbrev main_v333 : Ref sig .tc := ⟨.hbm, 443, rfl⟩
abbrev main_v334 : Ref sig .tc := ⟨.hbm, 444, rfl⟩
abbrev main_v335 : Ref sig .tc := ⟨.hbm, 445, rfl⟩
abbrev main_v336 : Ref sig .tc := ⟨.hbm, 446, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg16_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem15_0 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c9_i32 : BitVec 32 := 9#32
  let c0_i32 : BitVec 32 := 0#32
  ![v0.toNat, c9_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c10_i32 : BitVec 32 := 10#32
  let c0_i32 : BitVec 32 := 0#32
  ![v0.toNat, c10_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c11_i32 : BitVec 32 := 11#32
  let c0_i32 : BitVec 32 := 0#32
  ![v0.toNat, c11_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c12_i32 : BitVec 32 := 12#32
  let c0_i32 : BitVec 32 := 0#32
  ![v0.toNat, c12_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c13_i32 : BitVec 32 := 13#32
  let c0_i32 : BitVec 32 := 0#32
  ![v0.toNat, c13_i32.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c14_i32 : BitVec 32 := 14#32
  let c0_i32 : BitVec 32 := 0#32
  ![v0.toNat, c14_i32.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_9 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_10 (i : grid0.Coords) : Fin 4 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  let c0_i32_0 : BitVec 32 := 0#32
  let c0_i32_1 : BitVec 32 := 0#32
  ![c1_i32.toNat, c0_i32.toNat, v0.toNat, c0_i32_0.toNat]

def cc0_transform_11 (i : grid0.Coords) : Fin 4 → Nat :=
  let arg0 : BitVec 32 := BitVec.ofNat 32 (i 0).val
  let c31_i32 : BitVec 32 := 31#32
  let v0 : BitVec 32 := Scalar.subi c31_i32 arg0
  let c2_i32 : BitVec 32 := 2#32
  let c0_i32 : BitVec 32 := 0#32
  let c0_i32_0 : BitVec 32 := 0#32
  let c0_i32_1 : BitVec 32 := 0#32
  ![c2_i32.toNat, c0_i32.toNat, v0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x1x128x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x3x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x3x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S4x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4x128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4x8x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S128x3072 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== RetReferenceIdeal.lean ====
abbrev S4096x9728 : Shape := ⟨2, ![4096, 9728]⟩
abbrev S4096x1024 : Shape := ⟨2, ![4096, 1024]⟩
abbrev S4096x512 : Shape := ⟨2, ![4096, 512]⟩
abbrev S1x4096x512 : Shape := ⟨3, ![1, 4096, 512]⟩
abbrev S1x4096x1024 : Shape := ⟨3, ![1, 4096, 1024]⟩
abbrev S4096 : Shape := ⟨1, ![4096]⟩
abbrev S1x4096x4x128 : Shape := ⟨4, ![1, 4096, 4, 128]⟩
abbrev S_ : Shape := ⟨0, ![]⟩
abbrev S63 : Shape := ⟨1, ![63]⟩
abbrev S1 : Shape := ⟨1, ![1]⟩
abbrev S64 : Shape := ⟨1, ![64]⟩
abbrev S4096x1 : Shape := ⟨2, ![4096, 1]⟩
abbrev S1x64 : Shape := ⟨2, ![1, 64]⟩
abbrev S4096x64 : Shape := ⟨2, ![4096, 64]⟩
abbrev S4096x1x64 : Shape := ⟨3, ![4096, 1, 64]⟩
abbrev S1x4096x4x64 : Shape := ⟨4, ![1, 4096, 4, 64]⟩
abbrev S1x4096x1x64 : Shape := ⟨4, ![1, 4096, 1, 64]⟩
abbrev S1x4096x4x64x1 : Shape := ⟨5, ![1, 4096, 4, 64, 1]⟩
abbrev S1x4096x4x64x2 : Shape := ⟨5, ![1, 4096, 4, 64, 2]⟩
abbrev S1x4096x4x256 : Shape := ⟨4, ![1, 4096, 4, 256]⟩
abbrev S1x32x128x4x128 : Shape := ⟨5, ![1, 32, 128, 4, 128]⟩
abbrev S1x4x32x128x128 : Shape := ⟨5, ![1, 4, 32, 128, 128]⟩
abbrev S1x32x128x4x256 : Shape := ⟨5, ![1, 32, 128, 4, 256]⟩
abbrev S1x4x32x128x256 : Shape := ⟨5, ![1, 4, 32, 128, 256]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S1x4x1x128x128 : Shape := ⟨5, ![1, 4, 1, 128, 128]⟩
abbrev S4x1 : Shape := ⟨2, ![4, 1]⟩
abbrev S4x128 : Shape := ⟨2, ![4, 128]⟩
abbrev S1x4x1x128x1 : Shape := ⟨5, ![1, 4, 1, 128, 1]⟩
abbrev S1x4x128x256 : Shape := ⟨4, ![1, 4, 128, 256]⟩
abbrev S1x4x1x1 : Shape := ⟨4, ![1, 4, 1, 1]⟩
abbrev S1x4x1x128x256 : Shape := ⟨5, ![1, 4, 1, 128, 256]⟩
abbrev S1x1x4x128x256 : Shape := ⟨5, ![1, 1, 4, 128, 256]⟩
abbrev S16x1x4x128x256 : Shape := ⟨5, ![16, 1, 4, 128, 256]⟩
abbrev S32x1x4x128x256 : Shape := ⟨5, ![32, 1, 4, 128, 256]⟩
abbrev S1x4096x4 : Shape := ⟨3, ![1, 4096, 4]⟩
abbrev S1x4096x4x1 : Shape := ⟨4, ![1, 4096, 4, 1]⟩
abbrev S4096x4 : Shape := ⟨2, ![4096, 4]⟩
abbrev S1x4x32x256x128 : Shape := ⟨5, ![1, 4, 32, 256, 128]⟩
abbrev S4096x3072 : Shape := ⟨2, ![4096, 3072]⟩

abbrev nBuf : Space → Nat
  | .hbm => 887
  | .vmem => 0
  | .smem => 0
  | _ => 0

abbrev hbmTy0_0 (i : Nat) : BufTy := match i % 128 with
  | 0 => ⟨S4096x9728, .f32⟩
  | 1 => ⟨S4096x1024, .f32⟩
  | 2 => ⟨S4096x512, .f32⟩
  | 3 => ⟨S1x4096x512, .f32⟩
  | 4 => ⟨S4096x512, .f32⟩
  | 5 => ⟨S1x4096x512, .f32⟩
  | 6 => ⟨S4096x1024, .f32⟩
  | 7 => ⟨S1x4096x1024, .f32⟩
  | 8 => ⟨S4096x1024, .f32⟩
  | 9 => ⟨S1x4096x1024, .f32⟩
  | 10 => ⟨S4096, .f32⟩
  | 11 => ⟨S1x4096x4x128, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S63, .f32⟩
  | 20 => ⟨S_, .f32⟩
  | 21 => ⟨S63, .f32⟩
  | 22 => ⟨S63, .f32⟩
  | 23 => ⟨S1, .f32⟩
  | 24 => ⟨S_, .f32⟩
  | 25 => ⟨S63, .f32⟩
  | 26 => ⟨S63, .f32⟩
  | 27 => ⟨S63, .f32⟩
  | 28 => ⟨S63, .f32⟩
  | 29 => ⟨S1, .f32⟩
  | 30 => ⟨S63, .f32⟩
  | 31 => ⟨S63, .f32⟩
  | 32 => ⟨S63, .f32⟩
  | 33 => ⟨S1, .f32⟩
  | 34 => ⟨S64, .f32⟩
  | 35 => ⟨S_, .f32⟩
  | 36 => ⟨S64, .f32⟩
  | 37 => ⟨S64, .f32⟩
  | 38 => ⟨S_, .f32⟩
  | 39 => ⟨S64, .f32⟩
  | 40 => ⟨S64, .f32⟩
  | 41 => ⟨S4096x1, .f32⟩
  | 42 => ⟨S1x64, .f32⟩
  | 43 => ⟨S4096x64, .f32⟩
  | 44 => ⟨S4096x64, .f32⟩
  | 45 => ⟨S4096x64, .f32⟩
  | 46 => ⟨S4096x64, .f32⟩
  | 47 => ⟨S4096x1x64, .f32⟩
  | 48 => ⟨S4096x64, .f32⟩
  | 49 => ⟨S4096x1x64, .f32⟩
  | 50 => ⟨S1x4096x4x64, .f32⟩
  | 51 => ⟨S1x4096x4x64, .f32⟩
  | 52 => ⟨S1x4096x1x64, .f32⟩
  | 53 => ⟨S1x4096x4x64, .f32⟩
  | 54 => ⟨S1x4096x4x64, .f32⟩
  | 55 => ⟨S1x4096x1x64, .f32⟩
  | 56 => ⟨S1x4096x4x64, .f32⟩
  | 57 => ⟨S1x4096x4x64, .f32⟩
  | 58 => ⟨S1x4096x4x64, .f32⟩
  | 59 => ⟨S1x4096x1x64, .f32⟩
  | 60 => ⟨S1x4096x4x64, .f32⟩
  | 61 => ⟨S1x4096x4x64, .f32⟩
  | 62 => ⟨S1x4096x1x64, .f32⟩
  | 63 => ⟨S1x4096x4x64, .f32⟩
  | 64 => ⟨S1x4096x4x64, .f32⟩
  | 65 => ⟨S1x4096x4x64, .f32⟩
  | 66 => ⟨S1x4096x4x64x1, .f32⟩
  | 67 => ⟨S1x4096x4x64x1, .f32⟩
  | 68 => ⟨S1x4096x4x64x2, .f32⟩
  | 69 => ⟨S1x4096x4x128, .f32⟩
  | 70 => ⟨S1x4096x4x128, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S63, .f32⟩
  | 79 => ⟨S_, .f32⟩
  | 80 => ⟨S63, .f32⟩
  | 81 => ⟨S63, .f32⟩
  | 82 => ⟨S1, .f32⟩
  | 83 => ⟨S_, .f32⟩
  | 84 => ⟨S63, .f32⟩
  | 85 => ⟨S63, .f32⟩
  | 86 => ⟨S63, .f32⟩
  | 87 => ⟨S63, .f32⟩
  | 88 => ⟨S1, .f32⟩
  | 89 => ⟨S63, .f32⟩
  | 90 => ⟨S63, .f32⟩
  | 91 => ⟨S63, .f32⟩
  | 92 => ⟨S1, .f32⟩
  | 93 => ⟨S64, .f32⟩
  | 94 => ⟨S_, .f32⟩
  | 95 => ⟨S64, .f32⟩
  | 96 => ⟨S64, .f32⟩
  | 97 => ⟨S_, .f32⟩
  | 98 => ⟨S64, .f32⟩
  | 99 => ⟨S64, .f32⟩
  | 100 => ⟨S4096x1, .f32⟩
  | 101 => ⟨S1x64, .f32⟩
  | 102 => ⟨S4096x64, .f32⟩
  | 103 => ⟨S4096x64, .f32⟩
  | 104 => ⟨S4096x64, .f32⟩
  | 105 => ⟨S4096x64, .f32⟩
  | 106 => ⟨S4096x1x64, .f32⟩
  | 107 => ⟨S4096x64, .f32⟩
  | 108 => ⟨S4096x1x64, .f32⟩
  | 109 => ⟨S1x4096x4x64, .f32⟩
  | 110 => ⟨S1x4096x4x64, .f32⟩
  | 111 => ⟨S1x4096x1x64, .f32⟩
  | 112 => ⟨S1x4096x4x64, .f32⟩
  | 113 => ⟨S1x4096x4x64, .f32⟩
  | 114 => ⟨S1x4096x1x64, .f32⟩
  | 115 => ⟨S1x4096x4x64, .f32⟩
  | 116 => ⟨S1x4096x4x64, .f32⟩
  | 117 => ⟨S1x4096x4x64, .f32⟩
  | 118 => ⟨S1x4096x1x64, .f32⟩
  | 119 => ⟨S1x4096x4x64, .f32⟩
  | 120 => ⟨S1x4096x4x64, .f32⟩
  | 121 => ⟨S1x4096x1x64, .f32⟩
  | 122 => ⟨S1x4096x4x64, .f32⟩
  | 123 => ⟨S1x4096x4x64, .f32⟩
  | 124 => ⟨S1x4096x4x64, .f32⟩
  | 125 => ⟨S1x4096x4x64x1, .f32⟩
  | 126 => ⟨S1x4096x4x64x1, .f32⟩
  | 127 => ⟨S1x4096x4x64x2, .f32⟩
  | _ => ⟨S4096x9728, .f32⟩

abbrev hbmTy0_1 (i : Nat) : BufTy := match i % 128 with
  | 0 => ⟨S1x4096x4x128, .f32⟩
  | 1 => ⟨S_, .f32⟩
  | 2 => ⟨S1x4096x4x128, .f32⟩
  | 3 => ⟨S1x4096x4x128, .f32⟩
  | 4 => ⟨S1x4096x4x256, .f32⟩
  | 5 => ⟨S1x32x128x4x128, .f32⟩
  | 6 => ⟨S1x4x32x128x128, .f32⟩
  | 7 => ⟨S1x32x128x4x128, .f32⟩
  | 8 => ⟨S1x4x32x128x128, .f32⟩
  | 9 => ⟨S1x32x128x4x256, .f32⟩
  | 10 => ⟨S1x4x32x128x256, .f32⟩
  | 11 => ⟨S4, .f32⟩
  | 12 => ⟨S_, .f32⟩
  | 13 => ⟨S4, .f32⟩
  | 14 => ⟨S4, .f32⟩
  | 15 => ⟨S_, .f32⟩
  | 16 => ⟨S4, .f32⟩
  | 17 => ⟨S4, .f32⟩
  | 18 => ⟨S4, .f32⟩
  | 19 => ⟨S4, .f32⟩
  | 20 => ⟨S128, .f32⟩
  | 21 => ⟨S128x1, .f32⟩
  | 22 => ⟨S1x128, .f32⟩
  | 23 => ⟨S128x128, .f32⟩
  | 24 => ⟨S128x128, .f32⟩
  | 25 => ⟨S128x128, .f32⟩
  | 26 => ⟨S1x128x128, .f32⟩
  | 27 => ⟨S_, .f32⟩
  | 28 => ⟨S1x128x128, .f32⟩
  | 29 => ⟨S1x128x128, .i1⟩
  | 30 => ⟨S_, .f32⟩
  | 31 => ⟨S128x128, .f32⟩
  | 32 => ⟨S128x128, .f32⟩
  | 33 => ⟨S1x128x128, .f32⟩
  | 34 => ⟨S4x1x1, .f32⟩
  | 35 => ⟨S4x128x128, .f32⟩
  | 36 => ⟨S4x128x128, .f32⟩
  | 37 => ⟨S4x128x128, .f32⟩
  | 38 => ⟨S4x128x128, .f32⟩
  | 39 => ⟨S_, .f32⟩
  | 40 => ⟨S_, .f32⟩
  | 41 => ⟨S4x128x128, .i1⟩
  | 42 => ⟨S4x128x128, .f32⟩
  | 43 => ⟨S4x128x128, .f32⟩
  | 44 => ⟨S1x4x32x128x128, .f32⟩
  | 45 => ⟨S1x4x1x128x128, .f32⟩
  | 46 => ⟨S1x4x32x128x128, .f32⟩
  | 47 => ⟨S1x4x32x128x128, .f32⟩
  | 48 => ⟨S1x4x32x128x256, .f32⟩
  | 49 => ⟨S_, .f32⟩
  | 50 => ⟨S128, .f32⟩
  | 51 => ⟨S128, .f32⟩
  | 52 => ⟨S1x128, .f32⟩
  | 53 => ⟨S4x1, .f32⟩
  | 54 => ⟨S4x128, .f32⟩
  | 55 => ⟨S4x128, .f32⟩
  | 56 => ⟨S4x128, .f32⟩
  | 57 => ⟨S4x128, .f32⟩
  | 58 => ⟨S_, .f32⟩
  | 59 => ⟨S128, .f32⟩
  | 60 => ⟨S128, .f32⟩
  | 61 => ⟨S1x128, .f32⟩
  | 62 => ⟨S4x1, .f32⟩
  | 63 => ⟨S4x128, .f32⟩
  | 64 => ⟨S4x128, .f32⟩
  | 65 => ⟨S4x128, .f32⟩
  | 66 => ⟨S4x128, .f32⟩
  | 67 => ⟨S1x4x1x128x1, .f32⟩
  | 68 => ⟨S1x4x32x128x128, .f32⟩
  | 69 => ⟨S1x4x32x128x128, .f32⟩
  | 70 => ⟨S1x4x32x128x256, .f32⟩
  | 71 => ⟨S_, .f32⟩
  | 72 => ⟨S4, .f32⟩
  | 73 => ⟨S4, .f32⟩
  | 74 => ⟨S4, .f32⟩
  | 75 => ⟨S_, .f32⟩
  | 76 => ⟨S1x4x128x256, .f32⟩
  | 77 => ⟨S1x4x1x1, .f32⟩
  | 78 => ⟨S1x4x128x256, .f32⟩
  | 79 => ⟨S1x4x128x256, .f32⟩
  | 80 => ⟨S1x4x1x128x256, .f32⟩
  | 81 => ⟨S1x4x128x256, .f32⟩
  | 82 => ⟨S1x4x128x256, .f32⟩
  | 83 => ⟨S1x4x1x1, .f32⟩
  | 84 => ⟨S1x4x128x256, .f32⟩
  | 85 => ⟨S1x4x128x256, .f32⟩
  | 86 => ⟨S1x4x1x128x256, .f32⟩
  | 87 => ⟨S1x4x128x256, .f32⟩
  | 88 => ⟨S1x4x128x256, .f32⟩
  | 89 => ⟨S1x4x1x1, .f32⟩
  | 90 => ⟨S1x4x128x256, .f32⟩
  | 91 => ⟨S1x4x128x256, .f32⟩
  | 92 => ⟨S1x4x1x128x256, .f32⟩
  | 93 => ⟨S1x4x128x256, .f32⟩
  | 94 => ⟨S1x4x128x256, .f32⟩
  | 95 => ⟨S1x4x1x1, .f32⟩
  | 96 => ⟨S1x4x128x256, .f32⟩
  | 97 => ⟨S1x4x128x256, .f32⟩
  | 98 => ⟨S1x4x1x128x256, .f32⟩
  | 99 => ⟨S1x4x128x256, .f32⟩
  | 100 => ⟨S1x4x128x256, .f32⟩
  | 101 => ⟨S1x4x1x1, .f32⟩
  | 102 => ⟨S1x4x128x256, .f32⟩
  | 103 => ⟨S1x4x128x256, .f32⟩
  | 104 => ⟨S1x4x1x128x256, .f32⟩
  | 105 => ⟨S1x4x128x256, .f32⟩
  | 106 => ⟨S1x4x128x256, .f32⟩
  | 107 => ⟨S1x4x1x1, .f32⟩
  | 108 => ⟨S1x4x128x256, .f32⟩
  | 109 => ⟨S1x4x128x256, .f32⟩
  | 110 => ⟨S1x4x1x128x256, .f32⟩
  | 111 => ⟨S1x4x128x256, .f32⟩
  | 112 => ⟨S1x4x128x256, .f32⟩
  | 113 => ⟨S1x4x1x1, .f32⟩
  | 114 => ⟨S1x4x128x256, .f32⟩
  | 115 => ⟨S1x4x128x256, .f32⟩
  | 116 => ⟨S1x4x1x128x256, .f32⟩
  | 117 => ⟨S1x4x128x256, .f32⟩
  | 118 => ⟨S1x4x128x256, .f32⟩
  | 119 => ⟨S1x4x1x1, .f32⟩
  | 120 => ⟨S1x4x128x256, .f32⟩
  | 121 => ⟨S1x4x128x256, .f32⟩
  | 122 => ⟨S1x4x1x128x256, .f32⟩
  | 123 => ⟨S1x4x128x256, .f32⟩
  | 124 => ⟨S1x4x128x256, .f32⟩
  | 125 => ⟨S1x4x1x1, .f32⟩
  | 126 => ⟨S1x4x128x256, .f32⟩
  | 127 => ⟨S1x4x128x256, .f32⟩
  | _ => ⟨S4096x9728, .f32⟩

abbrev hbmTy0_2 (i : Nat) : BufTy := match i % 128 with
  | 0 => ⟨S1x4x1x128x256, .f32⟩
  | 1 => ⟨S1x4x128x256, .f32⟩
  | 2 => ⟨S1x4x128x256, .f32⟩
  | 3 => ⟨S1x4x1x1, .f32⟩
  | 4 => ⟨S1x4x128x256, .f32⟩
  | 5 => ⟨S1x4x128x256, .f32⟩
  | 6 => ⟨S1x4x1x128x256, .f32⟩
  | 7 => ⟨S1x4x128x256, .f32⟩
  | 8 => ⟨S1x4x128x256, .f32⟩
  | 9 => ⟨S1x4x1x1, .f32⟩
  | 10 => ⟨S1x4x128x256, .f32⟩
  | 11 => ⟨S1x4x128x256, .f32⟩
  | 12 => ⟨S1x4x1x128x256, .f32⟩
  | 13 => ⟨S1x4x128x256, .f32⟩
  | 14 => ⟨S1x4x128x256, .f32⟩
  | 15 => ⟨S1x4x1x1, .f32⟩
  | 16 => ⟨S1x4x128x256, .f32⟩
  | 17 => ⟨S1x4x128x256, .f32⟩
  | 18 => ⟨S1x4x1x128x256, .f32⟩
  | 19 => ⟨S1x4x128x256, .f32⟩
  | 20 => ⟨S1x4x128x256, .f32⟩
  | 21 => ⟨S1x4x1x1, .f32⟩
  | 22 => ⟨S1x4x128x256, .f32⟩
  | 23 => ⟨S1x4x128x256, .f32⟩
  | 24 => ⟨S1x4x1x128x256, .f32⟩
  | 25 => ⟨S1x4x128x256, .f32⟩
  | 26 => ⟨S1x4x128x256, .f32⟩
  | 27 => ⟨S1x4x1x1, .f32⟩
  | 28 => ⟨S1x4x128x256, .f32⟩
  | 29 => ⟨S1x4x128x256, .f32⟩
  | 30 => ⟨S1x4x1x128x256, .f32⟩
  | 31 => ⟨S1x4x128x256, .f32⟩
  | 32 => ⟨S1x4x128x256, .f32⟩
  | 33 => ⟨S1x4x1x1, .f32⟩
  | 34 => ⟨S1x4x128x256, .f32⟩
  | 35 => ⟨S1x4x128x256, .f32⟩
  | 36 => ⟨S1x4x1x128x256, .f32⟩
  | 37 => ⟨S1x4x128x256, .f32⟩
  | 38 => ⟨S1x4x128x256, .f32⟩
  | 39 => ⟨S1x4x1x1, .f32⟩
  | 40 => ⟨S1x4x128x256, .f32⟩
  | 41 => ⟨S1x4x128x256, .f32⟩
  | 42 => ⟨S1x4x1x128x256, .f32⟩
  | 43 => ⟨S1x4x128x256, .f32⟩
  | 44 => ⟨S1x4x128x256, .f32⟩
  | 45 => ⟨S1x4x1x1, .f32⟩
  | 46 => ⟨S1x4x128x256, .f32⟩
  | 47 => ⟨S1x4x128x256, .f32⟩
  | 48 => ⟨S1x4x1x128x256, .f32⟩
  | 49 => ⟨S1x4x128x256, .f32⟩
  | 50 => ⟨S1x4x128x256, .f32⟩
  | 51 => ⟨S1x4x1x1, .f32⟩
  | 52 => ⟨S1x4x128x256, .f32⟩
  | 53 => ⟨S1x4x128x256, .f32⟩
  | 54 => ⟨S1x4x1x128x256, .f32⟩
  | 55 => ⟨S1x4x128x256, .f32⟩
  | 56 => ⟨S1x4x128x256, .f32⟩
  | 57 => ⟨S1x4x1x1, .f32⟩
  | 58 => ⟨S1x4x128x256, .f32⟩
  | 59 => ⟨S1x4x128x256, .f32⟩
  | 60 => ⟨S1x4x1x128x256, .f32⟩
  | 61 => ⟨S1x4x128x256, .f32⟩
  | 62 => ⟨S1x4x128x256, .f32⟩
  | 63 => ⟨S1x4x1x1, .f32⟩
  | 64 => ⟨S1x4x128x256, .f32⟩
  | 65 => ⟨S1x4x128x256, .f32⟩
  | 66 => ⟨S1x4x1x128x256, .f32⟩
  | 67 => ⟨S1x4x128x256, .f32⟩
  | 68 => ⟨S1x4x128x256, .f32⟩
  | 69 => ⟨S1x4x1x1, .f32⟩
  | 70 => ⟨S1x4x128x256, .f32⟩
  | 71 => ⟨S1x4x128x256, .f32⟩
  | 72 => ⟨S1x4x1x128x256, .f32⟩
  | 73 => ⟨S1x4x128x256, .f32⟩
  | 74 => ⟨S1x4x128x256, .f32⟩
  | 75 => ⟨S1x4x1x1, .f32⟩
  | 76 => ⟨S1x4x128x256, .f32⟩
  | 77 => ⟨S1x4x128x256, .f32⟩
  | 78 => ⟨S1x4x1x128x256, .f32⟩
  | 79 => ⟨S1x4x128x256, .f32⟩
  | 80 => ⟨S1x4x128x256, .f32⟩
  | 81 => ⟨S1x4x1x1, .f32⟩
  | 82 => ⟨S1x4x128x256, .f32⟩
  | 83 => ⟨S1x4x128x256, .f32⟩
  | 84 => ⟨S1x4x1x128x256, .f32⟩
  | 85 => ⟨S1x4x128x256, .f32⟩
  | 86 => ⟨S1x4x128x256, .f32⟩
  | 87 => ⟨S1x4x1x1, .f32⟩
  | 88 => ⟨S1x4x128x256, .f32⟩
  | 89 => ⟨S1x4x128x256, .f32⟩
  | 90 => ⟨S1x4x1x128x256, .f32⟩
  | 91 => ⟨S1x4x128x256, .f32⟩
  | 92 => ⟨S1x4x128x256, .f32⟩
  | 93 => ⟨S1x4x1x1, .f32⟩
  | 94 => ⟨S1x4x128x256, .f32⟩
  | 95 => ⟨S1x4x128x256, .f32⟩
  | 96 => ⟨S1x4x1x128x256, .f32⟩
  | 97 => ⟨S1x4x128x256, .f32⟩
  | 98 => ⟨S1x4x128x256, .f32⟩
  | 99 => ⟨S1x4x1x1, .f32⟩
  | 100 => ⟨S1x4x128x256, .f32⟩
  | 101 => ⟨S1x4x128x256, .f32⟩
  | 102 => ⟨S1x4x1x128x256, .f32⟩
  | 103 => ⟨S1x4x128x256, .f32⟩
  | 104 => ⟨S1x4x128x256, .f32⟩
  | 105 => ⟨S1x4x1x1, .f32⟩
  | 106 => ⟨S1x4x128x256, .f32⟩
  | 107 => ⟨S1x4x128x256, .f32⟩
  | 108 => ⟨S1x4x1x128x256, .f32⟩
  | 109 => ⟨S1x4x128x256, .f32⟩
  | 110 => ⟨S1x4x128x256, .f32⟩
  | 111 => ⟨S1x4x1x1, .f32⟩
  | 112 => ⟨S1x4x128x256, .f32⟩
  | 113 => ⟨S1x4x128x256, .f32⟩
  | 114 => ⟨S1x4x1x128x256, .f32⟩
  | 115 => ⟨S1x4x128x256, .f32⟩
  | 116 => ⟨S1x4x128x256, .f32⟩
  | 117 => ⟨S1x4x1x1, .f32⟩
  | 118 => ⟨S1x4x128x256, .f32⟩
  | 119 => ⟨S1x4x128x256, .f32⟩
  | 120 => ⟨S1x4x1x128x256, .f32⟩
  | 121 => ⟨S1x4x128x256, .f32⟩
  | 122 => ⟨S1x4x128x256, .f32⟩
  | 123 => ⟨S1x4x1x1, .f32⟩
  | 124 => ⟨S1x4x128x256, .f32⟩
  | 125 => ⟨S1x4x128x256, .f32⟩
  | 126 => ⟨S1x4x1x128x256, .f32⟩
  | 127 => ⟨S1x4x128x256, .f32⟩
  | _ => ⟨S4096x9728, .f32⟩

abbrev hbmTy0_3 (i : Nat) : BufTy := match i % 128 with
  | 0 => ⟨S1x4x128x256, .f32⟩
  | 1 => ⟨S1x4x1x1, .f32⟩
  | 2 => ⟨S1x4x128x256, .f32⟩
  | 3 => ⟨S1x4x128x256, .f32⟩
  | 4 => ⟨S1x4x1x128x256, .f32⟩
  | 5 => ⟨S1x4x128x256, .f32⟩
  | 6 => ⟨S1x4x128x256, .f32⟩
  | 7 => ⟨S1x4x1x1, .f32⟩
  | 8 => ⟨S1x4x128x256, .f32⟩
  | 9 => ⟨S1x4x128x256, .f32⟩
  | 10 => ⟨S1x4x1x128x256, .f32⟩
  | 11 => ⟨S1x4x128x256, .f32⟩
  | 12 => ⟨S1x4x128x256, .f32⟩
  | 13 => ⟨S1x1x4x128x256, .f32⟩
  | 14 => ⟨S1x1x4x128x256, .f32⟩
  | 15 => ⟨S1x1x4x128x256, .f32⟩
  | 16 => ⟨S1x1x4x128x256, .f32⟩
  | 17 => ⟨S1x1x4x128x256, .f32⟩
  | 18 => ⟨S1x1x4x128x256, .f32⟩
  | 19 => ⟨S1x1x4x128x256, .f32⟩
  | 20 => ⟨S1x1x4x128x256, .f32⟩
  | 21 => ⟨S1x1x4x128x256, .f32⟩
  | 22 => ⟨S1x1x4x128x256, .f32⟩
  | 23 => ⟨S1x1x4x128x256, .f32⟩
  | 24 => ⟨S1x1x4x128x256, .f32⟩
  | 25 => ⟨S1x1x4x128x256, .f32⟩
  | 26 => ⟨S1x1x4x128x256, .f32⟩
  | 27 => ⟨S1x1x4x128x256, .f32⟩
  | 28 => ⟨S1x1x4x128x256, .f32⟩
  | 29 => ⟨S1x1x4x128x256, .f32⟩
  | 30 => ⟨S1x1x4x128x256, .f32⟩
  | 31 => ⟨S1x1x4x128x256, .f32⟩
  | 32 => ⟨S1x1x4x128x256, .f32⟩
  | 33 => ⟨S1x1x4x128x256, .f32⟩
  | 34 => ⟨S1x1x4x128x256, .f32⟩
  | 35 => ⟨S1x1x4x128x256, .f32⟩
  | 36 => ⟨S1x1x4x128x256, .f32⟩
  | 37 => ⟨S1x1x4x128x256, .f32⟩
  | 38 => ⟨S1x1x4x128x256, .f32⟩
  | 39 => ⟨S1x1x4x128x256, .f32⟩
  | 40 => ⟨S1x1x4x128x256, .f32⟩
  | 41 => ⟨S1x1x4x128x256, .f32⟩
  | 42 => ⟨S1x1x4x128x256, .f32⟩
  | 43 => ⟨S1x1x4x128x256, .f32⟩
  | 44 => ⟨S1x1x4x128x256, .f32⟩
  | 45 => ⟨S16x1x4x128x256, .f32⟩
  | 46 => ⟨S16x1x4x128x256, .f32⟩
  | 47 => ⟨S32x1x4x128x256, .f32⟩
  | 48 => ⟨S_, .f32⟩
  | 49 => ⟨S1x4x128x256, .f32⟩
  | 50 => ⟨S1x4x1x128x1, .f32⟩
  | 51 => ⟨S1x4x32x128x128, .f32⟩
  | 52 => ⟨S1x4x32x128x128, .f32⟩
  | 53 => ⟨S1x4x32x128x256, .f32⟩
  | 54 => ⟨S1x4x32x128x256, .f32⟩
  | 55 => ⟨S1x32x128x4x256, .f32⟩
  | 56 => ⟨S1x4096x4x256, .f32⟩
  | 57 => ⟨S_, .f32⟩
  | 58 => ⟨S1x4096x4, .f32⟩
  | 59 => ⟨S1x4096x4x1, .f32⟩
  | 60 => ⟨S_, .f32⟩
  | 61 => ⟨S1x4096x4x1, .f32⟩
  | 62 => ⟨S1x4096x4x1, .f32⟩
  | 63 => ⟨S1x4096x4x256, .f32⟩
  | 64 => ⟨S1x4096x4x256, .f32⟩
  | 65 => ⟨S1x4096x4x256, .f32⟩
  | 66 => ⟨S_, .f32⟩
  | 67 => ⟨S1x4096x4x256, .f32⟩
  | 68 => ⟨S1x4096x4x256, .f32⟩
  | 69 => ⟨S_, .f32⟩
  | 70 => ⟨S1x4096x4, .f32⟩
  | 71 => ⟨S1x4096x4x1, .f32⟩
  | 72 => ⟨S_, .f32⟩
  | 73 => ⟨S1x4096x4x1, .f32⟩
  | 74 => ⟨S1x4096x4x1, .f32⟩
  | 75 => ⟨S1x4096x4x256, .f32⟩
  | 76 => ⟨S1x4096x4x256, .f32⟩
  | 77 => ⟨S_, .f32⟩
  | 78 => ⟨S1x4096x4x1, .f32⟩
  | 79 => ⟨S1x4096x4x1, .f32⟩
  | 80 => ⟨S1x4096x4x1, .f32⟩
  | 81 => ⟨S1x4096x4x1, .f32⟩
  | 82 => ⟨S_, .f32⟩
  | 83 => ⟨S1x4096x4x1, .f32⟩
  | 84 => ⟨S1x4096x4x1, .f32⟩
  | 85 => ⟨S1x4096x4x256, .f32⟩
  | 86 => ⟨S1x4096x4x256, .f32⟩
  | 87 => ⟨S1x4096x1024, .f32⟩
  | 88 => ⟨S1x4096x1024, .f32⟩
  | 89 => ⟨S1x4096x1024, .f32⟩
  | 90 => ⟨S_, .f32⟩
  | 91 => ⟨S1x4096x1024, .f32⟩
  | 92 => ⟨S1x4096x1024, .f32⟩
  | 93 => ⟨S_, .f32⟩
  | 94 => ⟨S1x4096x1024, .f32⟩
  | 95 => ⟨S1x4096x1024, .f32⟩
  | 96 => ⟨S_, .f32⟩
  | 97 => ⟨S1x4096x1024, .f32⟩
  | 98 => ⟨S1x4096x1024, .f32⟩
  | 99 => ⟨S1x4096x1024, .f32⟩
  | 100 => ⟨S1x4096x1024, .f32⟩
  | 101 => ⟨S1x4096x1024, .f32⟩
  | 102 => ⟨S1x4096x1024, .f32⟩
  | 103 => ⟨S1x4096x1024, .f32⟩
  | 104 => ⟨S1x4096x1024, .f32⟩
  | 105 => ⟨S1x4096x1024, .f32⟩
  | 106 => ⟨S1x4096x1024, .f32⟩
  | 107 => ⟨S1x4096x1024, .f32⟩
  | 108 => ⟨S1x4096x1024, .f32⟩
  | 109 => ⟨S1x4096x4x256, .f32⟩
  | 110 => ⟨S1x4096x4x256, .f32⟩
  | 111 => ⟨S_, .f32⟩
  | 112 => ⟨S1x4096x4, .f32⟩
  | 113 => ⟨S1x4096x4x1, .f32⟩
  | 114 => ⟨S1x4096x4x256, .f32⟩
  | 115 => ⟨S1x4096x4x256, .f32⟩
  | 116 => ⟨S1x4096x4x1, .f32⟩
  | 117 => ⟨S1x4096x4x256, .f32⟩
  | 118 => ⟨S_, .f32⟩
  | 119 => ⟨S1x4096x4, .f32⟩
  | 120 => ⟨S1x4096x4x1, .f32⟩
  | 121 => ⟨S_, .f32⟩
  | 122 => ⟨S1x4096x4x1, .f32⟩
  | 123 => ⟨S1x4096x4x1, .f32⟩
  | 124 => ⟨S_, .f32⟩
  | 125 => ⟨S4096x4, .f32⟩
  | 126 => ⟨S1x4096x4, .f32⟩
  | 127 => ⟨S1x4096x4x256, .f32⟩
  | _ => ⟨S4096x9728, .f32⟩

abbrev hbmTy0_4 (i : Nat) : BufTy := match i % 128 with
  | 0 => ⟨S1x4096x4x256, .f32⟩
  | 1 => ⟨S1x4096x4x256, .f32⟩
  | 2 => ⟨S_, .f32⟩
  | 3 => ⟨S1x4096x4, .f32⟩
  | 4 => ⟨S1x4096x4x1, .f32⟩
  | 5 => ⟨S1x4096x4x256, .f32⟩
  | 6 => ⟨S1x4096x4x1, .f32⟩
  | 7 => ⟨S_, .f32⟩
  | 8 => ⟨S1x4096x4x1, .f32⟩
  | 9 => ⟨S1x4096x4x1, .f32⟩
  | 10 => ⟨S_, .f32⟩
  | 11 => ⟨S4096x4, .f32⟩
  | 12 => ⟨S1x4096x4, .f32⟩
  | 13 => ⟨S1x4096x4x256, .f32⟩
  | 14 => ⟨S1x4096x4x256, .f32⟩
  | 15 => ⟨S1x32x128x4x256, .f32⟩
  | 16 => ⟨S1x4x32x128x256, .f32⟩
  | 17 => ⟨S1x4x32x256x128, .f32⟩
  | 18 => ⟨S32x1x4x128x256, .f32⟩
  | 19 => ⟨S1x4x32x128x128, .f32⟩
  | 20 => ⟨S1x4x32x128x128, .f32⟩
  | 21 => ⟨S1x4x32x128x128, .f32⟩
  | 22 => ⟨S1x1x4x128x256, .f32⟩
  | 23 => ⟨S1x4x128x256, .f32⟩
  | 24 => ⟨S1x1x4x128x256, .f32⟩
  | 25 => ⟨S1x4x128x256, .f32⟩
  | 26 => ⟨S1x1x4x128x256, .f32⟩
  | 27 => ⟨S1x4x128x256, .f32⟩
  | 28 => ⟨S1x1x4x128x256, .f32⟩
  | 29 => ⟨S1x4x128x256, .f32⟩
  | 30 => ⟨S1x1x4x128x256, .f32⟩
  | 31 => ⟨S1x4x128x256, .f32⟩
  | 32 => ⟨S1x1x4x128x256, .f32⟩
  | 33 => ⟨S1x4x128x256, .f32⟩
  | 34 => ⟨S1x1x4x128x256, .f32⟩
  | 35 => ⟨S1x4x128x256, .f32⟩
  | 36 => ⟨S1x1x4x128x256, .f32⟩
  | 37 => ⟨S1x4x128x256, .f32⟩
  | 38 => ⟨S1x1x4x128x256, .f32⟩
  | 39 => ⟨S1x4x128x256, .f32⟩
  | 40 => ⟨S1x1x4x128x256, .f32⟩
  | 41 => ⟨S1x4x128x256, .f32⟩
  | 42 => ⟨S1x1x4x128x256, .f32⟩
  | 43 => ⟨S1x4x128x256, .f32⟩
  | 44 => ⟨S1x1x4x128x256, .f32⟩
  | 45 => ⟨S1x4x128x256, .f32⟩
  | 46 => ⟨S1x1x4x128x256, .f32⟩
  | 47 => ⟨S1x4x128x256, .f32⟩
  | 48 => ⟨S1x1x4x128x256, .f32⟩
  | 49 => ⟨S1x4x128x256, .f32⟩
  | 50 => ⟨S1x1x4x128x256, .f32⟩
  | 51 => ⟨S1x4x128x256, .f32⟩
  | 52 => ⟨S1x1x4x128x256, .f32⟩
  | 53 => ⟨S1x4x128x256, .f32⟩
  | 54 => ⟨S1x1x4x128x256, .f32⟩
  | 55 => ⟨S1x4x128x256, .f32⟩
  | 56 => ⟨S1x1x4x128x256, .f32⟩
  | 57 => ⟨S1x4x128x256, .f32⟩
  | 58 => ⟨S1x1x4x128x256, .f32⟩
  | 59 => ⟨S1x4x128x256, .f32⟩
  | 60 => ⟨S1x1x4x128x256, .f32⟩
  | 61 => ⟨S1x4x128x256, .f32⟩
  | 62 => ⟨S1x1x4x128x256, .f32⟩
  | 63 => ⟨S1x4x128x256, .f32⟩
  | 64 => ⟨S1x1x4x128x256, .f32⟩
  | 65 => ⟨S1x4x128x256, .f32⟩
  | 66 => ⟨S1x1x4x128x256, .f32⟩
  | 67 => ⟨S1x4x128x256, .f32⟩
  | 68 => ⟨S1x1x4x128x256, .f32⟩
  | 69 => ⟨S1x4x128x256, .f32⟩
  | 70 => ⟨S1x1x4x128x256, .f32⟩
  | 71 => ⟨S1x4x128x256, .f32⟩
  | 72 => ⟨S1x1x4x128x256, .f32⟩
  | 73 => ⟨S1x4x128x256, .f32⟩
  | 74 => ⟨S1x1x4x128x256, .f32⟩
  | 75 => ⟨S1x4x128x256, .f32⟩
  | 76 => ⟨S1x1x4x128x256, .f32⟩
  | 77 => ⟨S1x4x128x256, .f32⟩
  | 78 => ⟨S1x1x4x128x256, .f32⟩
  | 79 => ⟨S1x4x128x256, .f32⟩
  | 80 => ⟨S1x1x4x128x256, .f32⟩
  | 81 => ⟨S1x4x128x256, .f32⟩
  | 82 => ⟨S1x1x4x128x256, .f32⟩
  | 83 => ⟨S1x4x128x256, .f32⟩
  | 84 => ⟨S1x1x4x128x256, .f32⟩
  | 85 => ⟨S1x4x128x256, .f32⟩
  | 86 => ⟨S1x4x1x128x256, .f32⟩
  | 87 => ⟨S_, .f32⟩
  | 88 => ⟨S1x4x32x128x256, .f32⟩
  | 89 => ⟨S1x4x128x256, .f32⟩
  | 90 => ⟨S1x4x128x256, .f32⟩
  | 91 => ⟨S1x4x128x256, .f32⟩
  | 92 => ⟨S1x4x1x128x256, .f32⟩
  | 93 => ⟨S_, .f32⟩
  | 94 => ⟨S1x4x32x128x256, .f32⟩
  | 95 => ⟨S1x4x32x128x256, .f32⟩
  | 96 => ⟨S1x4x128x256, .f32⟩
  | 97 => ⟨S1x4x128x256, .f32⟩
  | 98 => ⟨S1x4x128x256, .f32⟩
  | 99 => ⟨S1x4x1x128x256, .f32⟩
  | 100 => ⟨S_, .f32⟩
  | 101 => ⟨S1x4x32x128x256, .f32⟩
  | 102 => ⟨S1x4x32x128x256, .f32⟩
  | 103 => ⟨S1x4x128x256, .f32⟩
  | 104 => ⟨S1x4x128x256, .f32⟩
  | 105 => ⟨S1x4x128x256, .f32⟩
  | 106 => ⟨S1x4x1x128x256, .f32⟩
  | 107 => ⟨S_, .f32⟩
  | 108 => ⟨S1x4x32x128x256, .f32⟩
  | 109 => ⟨S1x4x32x128x256, .f32⟩
  | 110 => ⟨S1x4x128x256, .f32⟩
  | 111 => ⟨S1x4x128x256, .f32⟩
  | 112 => ⟨S1x4x128x256, .f32⟩
  | 113 => ⟨S1x4x1x128x256, .f32⟩
  | 114 => ⟨S_, .f32⟩
  | 115 => ⟨S1x4x32x128x256, .f32⟩
  | 116 => ⟨S1x4x32x128x256, .f32⟩
  | 117 => ⟨S1x4x128x256, .f32⟩
  | 118 => ⟨S1x4x128x256, .f32⟩
  | 119 => ⟨S1x4x128x256, .f32⟩
  | 120 => ⟨S1x4x1x128x256, .f32⟩
  | 121 => ⟨S_, .f32⟩
  | 122 => ⟨S1x4x32x128x256, .f32⟩
  | 123 => ⟨S1x4x32x128x256, .f32⟩
  | 124 => ⟨S1x4x128x256, .f32⟩
  | 125 => ⟨S1x4x128x256, .f32⟩
  | 126 => ⟨S1x4x128x256, .f32⟩
  | 127 => ⟨S1x4x1x128x256, .f32⟩
  | _ => ⟨S4096x9728, .f32⟩

abbrev hbmTy0_5 (i : Nat) : BufTy := match i % 128 with
  | 0 => ⟨S_, .f32⟩
  | 1 => ⟨S1x4x32x128x256, .f32⟩
  | 2 => ⟨S1x4x32x128x256, .f32⟩
  | 3 => ⟨S1x4x128x256, .f32⟩
  | 4 => ⟨S1x4x128x256, .f32⟩
  | 5 => ⟨S1x4x128x256, .f32⟩
  | 6 => ⟨S1x4x1x128x256, .f32⟩
  | 7 => ⟨S_, .f32⟩
  | 8 => ⟨S1x4x32x128x256, .f32⟩
  | 9 => ⟨S1x4x32x128x256, .f32⟩
  | 10 => ⟨S1x4x128x256, .f32⟩
  | 11 => ⟨S1x4x128x256, .f32⟩
  | 12 => ⟨S1x4x128x256, .f32⟩
  | 13 => ⟨S1x4x1x128x256, .f32⟩
  | 14 => ⟨S_, .f32⟩
  | 15 => ⟨S1x4x32x128x256, .f32⟩
  | 16 => ⟨S1x4x32x128x256, .f32⟩
  | 17 => ⟨S1x4x128x256, .f32⟩
  | 18 => ⟨S1x4x128x256, .f32⟩
  | 19 => ⟨S1x4x128x256, .f32⟩
  | 20 => ⟨S1x4x1x128x256, .f32⟩
  | 21 => ⟨S_, .f32⟩
  | 22 => ⟨S1x4x32x128x256, .f32⟩
  | 23 => ⟨S1x4x32x128x256, .f32⟩
  | 24 => ⟨S1x4x128x256, .f32⟩
  | 25 => ⟨S1x4x128x256, .f32⟩
  | 26 => ⟨S1x4x128x256, .f32⟩
  | 27 => ⟨S1x4x1x128x256, .f32⟩
  | 28 => ⟨S_, .f32⟩
  | 29 => ⟨S1x4x32x128x256, .f32⟩
  | 30 => ⟨S1x4x32x128x256, .f32⟩
  | 31 => ⟨S1x4x128x256, .f32⟩
  | 32 => ⟨S1x4x128x256, .f32⟩
  | 33 => ⟨S1x4x128x256, .f32⟩
  | 34 => ⟨S1x4x1x128x256, .f32⟩
  | 35 => ⟨S_, .f32⟩
  | 36 => ⟨S1x4x32x128x256, .f32⟩
  | 37 => ⟨S1x4x32x128x256, .f32⟩
  | 38 => ⟨S1x4x128x256, .f32⟩
  | 39 => ⟨S1x4x128x256, .f32⟩
  | 40 => ⟨S1x4x128x256, .f32⟩
  | 41 => ⟨S1x4x1x128x256, .f32⟩
  | 42 => ⟨S_, .f32⟩
  | 43 => ⟨S1x4x32x128x256, .f32⟩
  | 44 => ⟨S1x4x32x128x256, .f32⟩
  | 45 => ⟨S1x4x128x256, .f32⟩
  | 46 => ⟨S1x4x128x256, .f32⟩
  | 47 => ⟨S1x4x128x256, .f32⟩
  | 48 => ⟨S1x4x1x128x256, .f32⟩
  | 49 => ⟨S_, .f32⟩
  | 50 => ⟨S1x4x32x128x256, .f32⟩
  | 51 => ⟨S1x4x32x128x256, .f32⟩
  | 52 => ⟨S1x4x128x256, .f32⟩
  | 53 => ⟨S1x4x128x256, .f32⟩
  | 54 => ⟨S1x4x128x256, .f32⟩
  | 55 => ⟨S1x4x1x128x256, .f32⟩
  | 56 => ⟨S_, .f32⟩
  | 57 => ⟨S1x4x32x128x256, .f32⟩
  | 58 => ⟨S1x4x32x128x256, .f32⟩
  | 59 => ⟨S1x4x128x256, .f32⟩
  | 60 => ⟨S1x4x128x256, .f32⟩
  | 61 => ⟨S1x4x128x256, .f32⟩
  | 62 => ⟨S1x4x1x128x256, .f32⟩
  | 63 => ⟨S_, .f32⟩
  | 64 => ⟨S1x4x32x128x256, .f32⟩
  | 65 => ⟨S1x4x32x128x256, .f32⟩
  | 66 => ⟨S1x4x128x256, .f32⟩
  | 67 => ⟨S1x4x128x256, .f32⟩
  | 68 => ⟨S1x4x128x256, .f32⟩
  | 69 => ⟨S1x4x1x128x256, .f32⟩
  | 70 => ⟨S_, .f32⟩
  | 71 => ⟨S1x4x32x128x256, .f32⟩
  | 72 => ⟨S1x4x32x128x256, .f32⟩
  | 73 => ⟨S1x4x128x256, .f32⟩
  | 74 => ⟨S1x4x128x256, .f32⟩
  | 75 => ⟨S1x4x128x256, .f32⟩
  | 76 => ⟨S1x4x1x128x256, .f32⟩
  | 77 => ⟨S_, .f32⟩
  | 78 => ⟨S1x4x32x128x256, .f32⟩
  | 79 => ⟨S1x4x32x128x256, .f32⟩
  | 80 => ⟨S1x4x128x256, .f32⟩
  | 81 => ⟨S1x4x128x256, .f32⟩
  | 82 => ⟨S1x4x128x256, .f32⟩
  | 83 => ⟨S1x4x1x128x256, .f32⟩
  | 84 => ⟨S_, .f32⟩
  | 85 => ⟨S1x4x32x128x256, .f32⟩
  | 86 => ⟨S1x4x32x128x256, .f32⟩
  | 87 => ⟨S1x4x128x256, .f32⟩
  | 88 => ⟨S1x4x128x256, .f32⟩
  | 89 => ⟨S1x4x128x256, .f32⟩
  | 90 => ⟨S1x4x1x128x256, .f32⟩
  | 91 => ⟨S_, .f32⟩
  | 92 => ⟨S1x4x32x128x256, .f32⟩
  | 93 => ⟨S1x4x32x128x256, .f32⟩
  | 94 => ⟨S1x4x128x256, .f32⟩
  | 95 => ⟨S1x4x128x256, .f32⟩
  | 96 => ⟨S1x4x128x256, .f32⟩
  | 97 => ⟨S1x4x1x128x256, .f32⟩
  | 98 => ⟨S_, .f32⟩
  | 99 => ⟨S1x4x32x128x256, .f32⟩
  | 100 => ⟨S1x4x32x128x256, .f32⟩
  | 101 => ⟨S1x4x128x256, .f32⟩
  | 102 => ⟨S1x4x128x256, .f32⟩
  | 103 => ⟨S1x4x128x256, .f32⟩
  | 104 => ⟨S1x4x1x128x256, .f32⟩
  | 105 => ⟨S_, .f32⟩
  | 106 => ⟨S1x4x32x128x256, .f32⟩
  | 107 => ⟨S1x4x32x128x256, .f32⟩
  | 108 => ⟨S1x4x128x256, .f32⟩
  | 109 => ⟨S1x4x128x256, .f32⟩
  | 110 => ⟨S1x4x128x256, .f32⟩
  | 111 => ⟨S1x4x1x128x256, .f32⟩
  | 112 => ⟨S_, .f32⟩
  | 113 => ⟨S1x4x32x128x256, .f32⟩
  | 114 => ⟨S1x4x32x128x256, .f32⟩
  | 115 => ⟨S1x4x128x256, .f32⟩
  | 116 => ⟨S1x4x128x256, .f32⟩
  | 117 => ⟨S1x4x128x256, .f32⟩
  | 118 => ⟨S1x4x1x128x256, .f32⟩
  | 119 => ⟨S_, .f32⟩
  | 120 => ⟨S1x4x32x128x256, .f32⟩
  | 121 => ⟨S1x4x32x128x256, .f32⟩
  | 122 => ⟨S1x4x128x256, .f32⟩
  | 123 => ⟨S1x4x128x256, .f32⟩
  | 124 => ⟨S1x4x128x256, .f32⟩
  | 125 => ⟨S1x4x1x128x256, .f32⟩
  | 126 => ⟨S_, .f32⟩
  | 127 => ⟨S1x4x32x128x256, .f32⟩
  | _ => ⟨S4096x9728, .f32⟩

abbrev hbmTy0_6 (i : Nat) : BufTy := match i % 128 with
  | 0 => ⟨S1x4x32x128x256, .f32⟩
  | 1 => ⟨S1x4x128x256, .f32⟩
  | 2 => ⟨S1x4x128x256, .f32⟩
  | 3 => ⟨S1x4x128x256, .f32⟩
  | 4 => ⟨S1x4x1x128x256, .f32⟩
  | 5 => ⟨S_, .f32⟩
  | 6 => ⟨S1x4x32x128x256, .f32⟩
  | 7 => ⟨S1x4x32x128x256, .f32⟩
  | 8 => ⟨S1x4x128x256, .f32⟩
  | 9 => ⟨S1x4x128x256, .f32⟩
  | 10 => ⟨S1x4x128x256, .f32⟩
  | 11 => ⟨S1x4x1x128x256, .f32⟩
  | 12 => ⟨S_, .f32⟩
  | 13 => ⟨S1x4x32x128x256, .f32⟩
  | 14 => ⟨S1x4x32x128x256, .f32⟩
  | 15 => ⟨S1x4x128x256, .f32⟩
  | 16 => ⟨S1x4x128x256, .f32⟩
  | 17 => ⟨S1x4x128x256, .f32⟩
  | 18 => ⟨S1x4x1x128x256, .f32⟩
  | 19 => ⟨S_, .f32⟩
  | 20 => ⟨S1x4x32x128x256, .f32⟩
  | 21 => ⟨S1x4x32x128x256, .f32⟩
  | 22 => ⟨S1x4x128x256, .f32⟩
  | 23 => ⟨S1x4x128x256, .f32⟩
  | 24 => ⟨S1x4x128x256, .f32⟩
  | 25 => ⟨S1x4x1x128x256, .f32⟩
  | 26 => ⟨S_, .f32⟩
  | 27 => ⟨S1x4x32x128x256, .f32⟩
  | 28 => ⟨S1x4x32x128x256, .f32⟩
  | 29 => ⟨S1x4x128x256, .f32⟩
  | 30 => ⟨S1x4x128x256, .f32⟩
  | 31 => ⟨S1x4x128x256, .f32⟩
  | 32 => ⟨S1x4x1x128x256, .f32⟩
  | 33 => ⟨S_, .f32⟩
  | 34 => ⟨S1x4x32x128x256, .f32⟩
  | 35 => ⟨S1x4x32x128x256, .f32⟩
  | 36 => ⟨S1x4x128x256, .f32⟩
  | 37 => ⟨S1x4x128x256, .f32⟩
  | 38 => ⟨S1x4x128x256, .f32⟩
  | 39 => ⟨S1x4x1x128x256, .f32⟩
  | 40 => ⟨S_, .f32⟩
  | 41 => ⟨S1x4x32x128x256, .f32⟩
  | 42 => ⟨S1x4x32x128x256, .f32⟩
  | 43 => ⟨S1x4x32x256x128, .f32⟩
  | 44 => ⟨S1x4x32x128x256, .f32⟩
  | 45 => ⟨S1x4x32x128x128, .f32⟩
  | 46 => ⟨S1x4x32x128x128, .f32⟩
  | 47 => ⟨S1x4x32x128x128, .f32⟩
  | 48 => ⟨S1x4x32x128x128, .f32⟩
  | 49 => ⟨S1x4x32x256x128, .f32⟩
  | 50 => ⟨S1x4x32x128x256, .f32⟩
  | 51 => ⟨S1x4x32x128x256, .f32⟩
  | 52 => ⟨S1x4x32x128x128, .f32⟩
  | 53 => ⟨S1x4x32x128x128, .f32⟩
  | 54 => ⟨S1x4x32x128x128, .f32⟩
  | 55 => ⟨S1x4x32x128x128, .f32⟩
  | 56 => ⟨S1x4x32x128x128, .f32⟩
  | 57 => ⟨S1x4x32x128x128, .f32⟩
  | 58 => ⟨S1x4x32x128x128, .f32⟩
  | 59 => ⟨S1x32x128x4x256, .f32⟩
  | 60 => ⟨S1x4096x4x256, .f32⟩
  | 61 => ⟨S1x32x128x4x128, .f32⟩
  | 62 => ⟨S1x4096x4x128, .f32⟩
  | 63 => ⟨S1x32x128x4x128, .f32⟩
  | 64 => ⟨S1x4096x4x128, .f32⟩
  | 65 => ⟨S1x4096x1024, .f32⟩
  | 66 => ⟨S_, .f32⟩
  | 67 => ⟨S1x4096x4x128, .f32⟩
  | 68 => ⟨S1x4096x4x128, .f32⟩
  | 69 => ⟨S1x4096x4x64x2, .f32⟩
  | 70 => ⟨S1x4096x4x64x1, .f32⟩
  | 71 => ⟨S1x4096x4x64, .f32⟩
  | 72 => ⟨S1x4096x4x64x1, .f32⟩
  | 73 => ⟨S1x4096x4x64, .f32⟩
  | 74 => ⟨S1x4096x4x64, .f32⟩
  | 75 => ⟨S1x4096x4x64, .f32⟩
  | 76 => ⟨S1x4096x4x64, .f32⟩
  | 77 => ⟨S1x4096x4x64, .f32⟩
  | 78 => ⟨S1x4096x4x64, .f32⟩
  | 79 => ⟨S1x4096x4x64, .f32⟩
  | 80 => ⟨S1x4096x4x64, .f32⟩
  | 81 => ⟨S1x4096x4x64, .f32⟩
  | 82 => ⟨S1x4096x4x64, .f32⟩
  | 83 => ⟨S1x4096x4x64, .f32⟩
  | 84 => ⟨S1x4096x4x64, .f32⟩
  | 85 => ⟨S_, .f32⟩
  | 86 => ⟨S1x4096x4x128, .f32⟩
  | 87 => ⟨S_, .f32⟩
  | 88 => ⟨S1x4096x4x128, .f32⟩
  | 89 => ⟨S1x4096x4x128, .f32⟩
  | 90 => ⟨S1x4096x512, .f32⟩
  | 91 => ⟨S1x4096x4x64x2, .f32⟩
  | 92 => ⟨S1x4096x4x64x1, .f32⟩
  | 93 => ⟨S1x4096x4x64, .f32⟩
  | 94 => ⟨S1x4096x4x64x1, .f32⟩
  | 95 => ⟨S1x4096x4x64, .f32⟩
  | 96 => ⟨S1x4096x4x64, .f32⟩
  | 97 => ⟨S1x4096x4x64, .f32⟩
  | 98 => ⟨S1x4096x4x64, .f32⟩
  | 99 => ⟨S1x4096x4x64, .f32⟩
  | 100 => ⟨S1x4096x4x64, .f32⟩
  | 101 => ⟨S1x4096x4x64, .f32⟩
  | 102 => ⟨S1x4096x4x64, .f32⟩
  | 103 => ⟨S1x4096x4x64, .f32⟩
  | 104 => ⟨S1x4096x4x64, .f32⟩
  | 105 => ⟨S1x4096x4x64, .f32⟩
  | 106 => ⟨S1x4096x4x64, .f32⟩
  | 107 => ⟨S_, .f32⟩
  | 108 => ⟨S1x4096x4x128, .f32⟩
  | 109 => ⟨S_, .f32⟩
  | 110 => ⟨S1x4096x4x128, .f32⟩
  | 111 => ⟨S1x4096x4x128, .f32⟩
  | 112 => ⟨S1x4096x512, .f32⟩
  | 113 => ⟨S4096x512, .f32⟩
  | 114 => ⟨S4096x512, .f32⟩
  | 115 => ⟨S4096x1024, .f32⟩
  | 116 => ⟨S4096x1024, .f32⟩
  | 117 => ⟨S4096x3072, .f32⟩
  | 118 => ⟨S4096x3072, .bf16⟩
  | _ => ⟨S4096x9728, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S4096x9728, .f32⟩

abbrev bufTy : (tb : Table) → Fin (tcTables nBuf tb) → BufTy
  | .hbm, ⟨i, _⟩ => hbmTy i
  | _, _ => ⟨S4096x9728, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_cst : Ref sig .tc := ⟨.hbm, 17, rfl⟩
abbrev main_call0_v3 : Ref sig .tc := ⟨.hbm, 18, rfl⟩
abbrev main_call0_v4 : Ref sig .tc := ⟨.hbm, 19, rfl⟩
abbrev main_call0_cst_0 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_cst_1 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_v15 : Ref sig .tc := ⟨.hbm, 32, rfl⟩
abbrev main_call0_v16 : Ref sig .tc := ⟨.hbm, 33, rfl⟩
abbrev main_v10 : Ref sig .tc := ⟨.hbm, 34, rfl⟩
abbrev main_cst_1 : Ref sig .tc := ⟨.hbm, 35, rfl⟩
abbrev main_v11 : Ref sig .tc := ⟨.hbm, 36, rfl⟩
abbrev main_v12 : Ref sig .tc := ⟨.hbm, 37, rfl⟩
abbrev main_cst_2 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_3 : Ref sig .tc := ⟨.hbm, 71, rfl⟩
abbrev main_cst_4 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_call1_cst : Ref sig .tc := ⟨.hbm, 76, rfl⟩
abbrev main_call1_v3 : Ref sig .tc := ⟨.hbm, 77, rfl⟩
abbrev main_call1_v4 : Ref sig .tc := ⟨.hbm, 78, rfl⟩
abbrev main_call1_cst_0 : Ref sig .tc := ⟨.hbm, 79, rfl⟩
abbrev main_call1_v5 : Ref sig .tc := ⟨.hbm, 80, rfl⟩
abbrev main_call1_v6 : Ref sig .tc := ⟨.hbm, 81, rfl⟩
abbrev main_call1_v7 : Ref sig .tc := ⟨.hbm, 82, rfl⟩
abbrev main_call1_cst_1 : Ref sig .tc := ⟨.hbm, 83, rfl⟩
abbrev main_call1_v8 : Ref sig .tc := ⟨.hbm, 84, rfl⟩
abbrev main_call1_v9 : Ref sig .tc := ⟨.hbm, 85, rfl⟩
abbrev main_call1_v10 : Ref sig .tc := ⟨.hbm, 86, rfl⟩
abbrev main_call1_v11 : Ref sig .tc := ⟨.hbm, 87, rfl⟩
abbrev main_call1_v12 : Ref sig .tc := ⟨.hbm, 88, rfl⟩
abbrev main_call1_v13 : Ref sig .tc := ⟨.hbm, 89, rfl⟩
abbrev main_call1_v14 : Ref sig .tc := ⟨.hbm, 90, rfl⟩
abbrev main_call1_v15 : Ref sig .tc := ⟨.hbm, 91, rfl⟩
abbrev main_call1_v16 : Ref sig .tc := ⟨.hbm, 92, rfl⟩
abbrev main_v45 : Ref sig .tc := ⟨.hbm, 93, rfl⟩
abbrev main_cst_5 : Ref sig .tc := ⟨.hbm, 94, rfl⟩
abbrev main_v46 : Ref sig .tc := ⟨.hbm, 95, rfl⟩
abbrev main_v47 : Ref sig .tc := ⟨.hbm, 96, rfl⟩
abbrev main_cst_6 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_cst_7 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_cst_8 : Ref sig .tc := ⟨.hbm, 140, rfl⟩
abbrev main_v89 : Ref sig .tc := ⟨.hbm, 141, rfl⟩
abbrev main_v90 : Ref sig .tc := ⟨.hbm, 142, rfl⟩
abbrev main_cst_9 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_cst_10 : Ref sig .tc := ⟨.hbm, 155, rfl⟩
abbrev main_v102 : Ref sig .tc := ⟨.hbm, 156, rfl⟩
abbrev main_v103 : Ref sig .tc := ⟨.hbm, 157, rfl⟩
abbrev main_cst_11 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_cst_12 : Ref sig .tc := ⟨.hbm, 167, rfl⟩
abbrev main_call2_v0 : Ref sig .tc := ⟨.hbm, 168, rfl⟩
abbrev main_call2_v1 : Ref sig .tc := ⟨.hbm, 169, rfl⟩
abbrev main_call2_v2 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_cst_13 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_cst_14 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_cst_15 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_cst_16 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_v182 : Ref sig .tc := ⟨.hbm, 245, rfl⟩
abbrev main_v183 : Ref sig .tc := ⟨.hbm, 246, rfl⟩
abbrev main_v184 : Ref sig .tc := ⟨.hbm, 247, rfl⟩
abbrev main_v185 : Ref sig .tc := ⟨.hbm, 248, rfl⟩
abbrev main_v186 : Ref sig .tc := ⟨.hbm, 249, rfl⟩
abbrev main_v187 : Ref sig .tc := ⟨.hbm, 250, rfl⟩
abbrev main_v188 : Ref sig .tc := ⟨.hbm, 251, rfl⟩
abbrev main_v189 : Ref sig .tc := ⟨.hbm, 252, rfl⟩
abbrev main_v190 : Ref sig .tc := ⟨.hbm, 253, rfl⟩
abbrev main_v191 : Ref sig .tc := ⟨.hbm, 254, rfl⟩
abbrev main_v192 : Ref sig .tc := ⟨.hbm, 255, rfl⟩
abbrev main_v193 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_v197 : Ref sig .tc := ⟨.hbm, 260, rfl⟩
abbrev main_v198 : Ref sig .tc := ⟨.hbm, 261, rfl⟩
abbrev main_v199 : Ref sig .tc := ⟨.hbm, 262, rfl⟩
abbrev main_v200 : Ref sig .tc := ⟨.hbm, 263, rfl⟩
abbrev main_v201 : Ref sig .tc := ⟨.hbm, 264, rfl⟩
abbrev main_v202 : Ref sig .tc := ⟨.hbm, 265, rfl⟩
abbrev main_v203 : Ref sig .tc := ⟨.hbm, 266, rfl⟩
abbrev main_v204 : Ref sig .tc := ⟨.hbm, 267, rfl⟩
abbrev main_v205 : Ref sig .tc := ⟨.hbm, 268, rfl⟩
abbrev main_v206 : Ref sig .tc := ⟨.hbm, 269, rfl⟩
abbrev main_v207 : Ref sig .tc := ⟨.hbm, 270, rfl⟩
abbrev main_v208 : Ref sig .tc := ⟨.hbm, 271, rfl⟩
abbrev main_v209 : Ref sig .tc := ⟨.hbm, 272, rfl⟩
abbrev main_v210 : Ref sig .tc := ⟨.hbm, 273, rfl⟩
abbrev main_v211 : Ref sig .tc := ⟨.hbm, 274, rfl⟩
abbrev main_v212 : Ref sig .tc := ⟨.hbm, 275, rfl⟩
abbrev main_v213 : Ref sig .tc := ⟨.hbm, 276, rfl⟩
abbrev main_v214 : Ref sig .tc := ⟨.hbm, 277, rfl⟩
abbrev main_v215 : Ref sig .tc := ⟨.hbm, 278, rfl⟩
abbrev main_v216 : Ref sig .tc := ⟨.hbm, 279, rfl⟩
abbrev main_v217 : Ref sig .tc := ⟨.hbm, 280, rfl⟩
abbrev main_v218 : Ref sig .tc := ⟨.hbm, 281, rfl⟩
abbrev main_v219 : Ref sig .tc := ⟨.hbm, 282, rfl⟩
abbrev main_v220 : Ref sig .tc := ⟨.hbm, 283, rfl⟩
abbrev main_v221 : Ref sig .tc := ⟨.hbm, 284, rfl⟩
abbrev main_v222 : Ref sig .tc := ⟨.hbm, 285, rfl⟩
abbrev main_v223 : Ref sig .tc := ⟨.hbm, 286, rfl⟩
abbrev main_v224 : Ref sig .tc := ⟨.hbm, 287, rfl⟩
abbrev main_v225 : Ref sig .tc := ⟨.hbm, 288, rfl⟩
abbrev main_v226 : Ref sig .tc := ⟨.hbm, 289, rfl⟩
abbrev main_v227 : Ref sig .tc := ⟨.hbm, 290, rfl⟩
abbrev main_v228 : Ref sig .tc := ⟨.hbm, 291, rfl⟩
abbrev main_v229 : Ref sig .tc := ⟨.hbm, 292, rfl⟩
abbrev main_v230 : Ref sig .tc := ⟨.hbm, 293, rfl⟩
abbrev main_v231 : Ref sig .tc := ⟨.hbm, 294, rfl⟩
abbrev main_v232 : Ref sig .tc := ⟨.hbm, 295, rfl⟩
abbrev main_v233 : Ref sig .tc := ⟨.hbm, 296, rfl⟩
abbrev main_v234 : Ref sig .tc := ⟨.hbm, 297, rfl⟩
abbrev main_v235 : Ref sig .tc := ⟨.hbm, 298, rfl⟩
abbrev main_v236 : Ref sig .tc := ⟨.hbm, 299, rfl⟩
abbrev main_v237 : Ref sig .tc := ⟨.hbm, 300, rfl⟩
abbrev main_v238 : Ref sig .tc := ⟨.hbm, 301, rfl⟩
abbrev main_v239 : Ref sig .tc := ⟨.hbm, 302, rfl⟩
abbrev main_v240 : Ref sig .tc := ⟨.hbm, 303, rfl⟩
abbrev main_v241 : Ref sig .tc := ⟨.hbm, 304, rfl⟩
abbrev main_v242 : Ref sig .tc := ⟨.hbm, 305, rfl⟩
abbrev main_v243 : Ref sig .tc := ⟨.hbm, 306, rfl⟩
abbrev main_v244 : Ref sig .tc := ⟨.hbm, 307, rfl⟩
abbrev main_v245 : Ref sig .tc := ⟨.hbm, 308, rfl⟩
abbrev main_v246 : Ref sig .tc := ⟨.hbm, 309, rfl⟩
abbrev main_v247 : Ref sig .tc := ⟨.hbm, 310, rfl⟩
abbrev main_v248 : Ref sig .tc := ⟨.hbm, 311, rfl⟩
abbrev main_v249 : Ref sig .tc := ⟨.hbm, 312, rfl⟩
abbrev main_v250 : Ref sig .tc := ⟨.hbm, 313, rfl⟩
abbrev main_v251 : Ref sig .tc := ⟨.hbm, 314, rfl⟩
abbrev main_v252 : Ref sig .tc := ⟨.hbm, 315, rfl⟩
abbrev main_v253 : Ref sig .tc := ⟨.hbm, 316, rfl⟩
abbrev main_v254 : Ref sig .tc := ⟨.hbm, 317, rfl⟩
abbrev main_v255 : Ref sig .tc := ⟨.hbm, 318, rfl⟩
abbrev main_v256 : Ref sig .tc := ⟨.hbm, 319, rfl⟩
abbrev main_v257 : Ref sig .tc := ⟨.hbm, 320, rfl⟩
abbrev main_v258 : Ref sig .tc := ⟨.hbm, 321, rfl⟩
abbrev main_v259 : Ref sig .tc := ⟨.hbm, 322, rfl⟩
abbrev main_v260 : Ref sig .tc := ⟨.hbm, 323, rfl⟩
abbrev main_v261 : Ref sig .tc := ⟨.hbm, 324, rfl⟩
abbrev main_v262 : Ref sig .tc := ⟨.hbm, 325, rfl⟩
abbrev main_v263 : Ref sig .tc := ⟨.hbm, 326, rfl⟩
abbrev main_v264 : Ref sig .tc := ⟨.hbm, 327, rfl⟩
abbrev main_v265 : Ref sig .tc := ⟨.hbm, 328, rfl⟩
abbrev main_v266 : Ref sig .tc := ⟨.hbm, 329, rfl⟩
abbrev main_v267 : Ref sig .tc := ⟨.hbm, 330, rfl⟩
abbrev main_v268 : Ref sig .tc := ⟨.hbm, 331, rfl⟩
abbrev main_v269 : Ref sig .tc := ⟨.hbm, 332, rfl⟩
abbrev main_v270 : Ref sig .tc := ⟨.hbm, 333, rfl⟩
abbrev main_v271 : Ref sig .tc := ⟨.hbm, 334, rfl⟩
abbrev main_v272 : Ref sig .tc := ⟨.hbm, 335, rfl⟩
abbrev main_v273 : Ref sig .tc := ⟨.hbm, 336, rfl⟩
abbrev main_v274 : Ref sig .tc := ⟨.hbm, 337, rfl⟩
abbrev main_v275 : Ref sig .tc := ⟨.hbm, 338, rfl⟩
abbrev main_v276 : Ref sig .tc := ⟨.hbm, 339, rfl⟩
abbrev main_v277 : Ref sig .tc := ⟨.hbm, 340, rfl⟩
abbrev main_v278 : Ref sig .tc := ⟨.hbm, 341, rfl⟩
abbrev main_v279 : Ref sig .tc := ⟨.hbm, 342, rfl⟩
abbrev main_v280 : Ref sig .tc := ⟨.hbm, 343, rfl⟩
abbrev main_v281 : Ref sig .tc := ⟨.hbm, 344, rfl⟩
abbrev main_v282 : Ref sig .tc := ⟨.hbm, 345, rfl⟩
abbrev main_v283 : Ref sig .tc := ⟨.hbm, 346, rfl⟩
abbrev main_v284 : Ref sig .tc := ⟨.hbm, 347, rfl⟩
abbrev main_v285 : Ref sig .tc := ⟨.hbm, 348, rfl⟩
abbrev main_v286 : Ref sig .tc := ⟨.hbm, 349, rfl⟩
abbrev main_v287 : Ref sig .tc := ⟨.hbm, 350, rfl⟩
abbrev main_v288 : Ref sig .tc := ⟨.hbm, 351, rfl⟩
abbrev main_v289 : Ref sig .tc := ⟨.hbm, 352, rfl⟩
abbrev main_v290 : Ref sig .tc := ⟨.hbm, 353, rfl⟩
abbrev main_v291 : Ref sig .tc := ⟨.hbm, 354, rfl⟩
abbrev main_v292 : Ref sig .tc := ⟨.hbm, 355, rfl⟩
abbrev main_v293 : Ref sig .tc := ⟨.hbm, 356, rfl⟩
abbrev main_v294 : Ref sig .tc := ⟨.hbm, 357, rfl⟩
abbrev main_v295 : Ref sig .tc := ⟨.hbm, 358, rfl⟩
abbrev main_v296 : Ref sig .tc := ⟨.hbm, 359, rfl⟩
abbrev main_v297 : Ref sig .tc := ⟨.hbm, 360, rfl⟩
abbrev main_v298 : Ref sig .tc := ⟨.hbm, 361, rfl⟩
abbrev main_v299 : Ref sig .tc := ⟨.hbm, 362, rfl⟩
abbrev main_v300 : Ref sig .tc := ⟨.hbm, 363, rfl⟩
abbrev main_v301 : Ref sig .tc := ⟨.hbm, 364, rfl⟩
abbrev main_v302 : Ref sig .tc := ⟨.hbm, 365, rfl⟩
abbrev main_v303 : Ref sig .tc := ⟨.hbm, 366, rfl⟩
abbrev main_v304 : Ref sig .tc := ⟨.hbm, 367, rfl⟩
abbrev main_v305 : Ref sig .tc := ⟨.hbm, 368, rfl⟩
abbrev main_v306 : Ref sig .tc := ⟨.hbm, 369, rfl⟩
abbrev main_v307 : Ref sig .tc := ⟨.hbm, 370, rfl⟩
abbrev main_v308 : Ref sig .tc := ⟨.hbm, 371, rfl⟩
abbrev main_v309 : Ref sig .tc := ⟨.hbm, 372, rfl⟩
abbrev main_v310 : Ref sig .tc := ⟨.hbm, 373, rfl⟩
abbrev main_v311 : Ref sig .tc := ⟨.hbm, 374, rfl⟩
abbrev main_v312 : Ref sig .tc := ⟨.hbm, 375, rfl⟩
abbrev main_v313 : Ref sig .tc := ⟨.hbm, 376, rfl⟩
abbrev main_v314 : Ref sig .tc := ⟨.hbm, 377, rfl⟩
abbrev main_v315 : Ref sig .tc := ⟨.hbm, 378, rfl⟩
abbrev main_v316 : Ref sig .tc := ⟨.hbm, 379, rfl⟩
abbrev main_v317 : Ref sig .tc := ⟨.hbm, 380, rfl⟩
abbrev main_v318 : Ref sig .tc := ⟨.hbm, 381, rfl⟩
abbrev main_v319 : Ref sig .tc := ⟨.hbm, 382, rfl⟩
abbrev main_v320 : Ref sig .tc := ⟨.hbm, 383, rfl⟩
abbrev main_v321 : Ref sig .tc := ⟨.hbm, 384, rfl⟩
abbrev main_v322 : Ref sig .tc := ⟨.hbm, 385, rfl⟩
abbrev main_v323 : Ref sig .tc := ⟨.hbm, 386, rfl⟩
abbrev main_v324 : Ref sig .tc := ⟨.hbm, 387, rfl⟩
abbrev main_v325 : Ref sig .tc := ⟨.hbm, 388, rfl⟩
abbrev main_v326 : Ref sig .tc := ⟨.hbm, 389, rfl⟩
abbrev main_v327 : Ref sig .tc := ⟨.hbm, 390, rfl⟩
abbrev main_v328 : Ref sig .tc := ⟨.hbm, 391, rfl⟩
abbrev main_v329 : Ref sig .tc := ⟨.hbm, 392, rfl⟩
abbrev main_v330 : Ref sig .tc := ⟨.hbm, 393, rfl⟩
abbrev main_v331 : Ref sig .tc := ⟨.hbm, 394, rfl⟩
abbrev main_v332 : Ref sig .tc := ⟨.hbm, 395, rfl⟩
abbrev main_v333 : Ref sig .tc := ⟨.hbm, 396, rfl⟩
abbrev main_v334 : Ref sig .tc := ⟨.hbm, 397, rfl⟩
abbrev main_v335 : Ref sig .tc := ⟨.hbm, 398, rfl⟩
abbrev main_v336 : Ref sig .tc := ⟨.hbm, 399, rfl⟩
abbrev main_v337 : Ref sig .tc := ⟨.hbm, 400, rfl⟩
abbrev main_v338 : Ref sig .tc := ⟨.hbm, 401, rfl⟩
abbrev main_v339 : Ref sig .tc := ⟨.hbm, 402, rfl⟩
abbrev main_v340 : Ref sig .tc := ⟨.hbm, 403, rfl⟩
abbrev main_v341 : Ref sig .tc := ⟨.hbm, 404, rfl⟩
abbrev main_v342 : Ref sig .tc := ⟨.hbm, 405, rfl⟩
abbrev main_v343 : Ref sig .tc := ⟨.hbm, 406, rfl⟩
abbrev main_v344 : Ref sig .tc := ⟨.hbm, 407, rfl⟩
abbrev main_v345 : Ref sig .tc := ⟨.hbm, 408, rfl⟩
abbrev main_v346 : Ref sig .tc := ⟨.hbm, 409, rfl⟩
abbrev main_v347 : Ref sig .tc := ⟨.hbm, 410, rfl⟩
abbrev main_v348 : Ref sig .tc := ⟨.hbm, 411, rfl⟩
abbrev main_v349 : Ref sig .tc := ⟨.hbm, 412, rfl⟩
abbrev main_v350 : Ref sig .tc := ⟨.hbm, 413, rfl⟩
abbrev main_v351 : Ref sig .tc := ⟨.hbm, 414, rfl⟩
abbrev main_v352 : Ref sig .tc := ⟨.hbm, 415, rfl⟩
abbrev main_v353 : Ref sig .tc := ⟨.hbm, 416, rfl⟩
abbrev main_v354 : Ref sig .tc := ⟨.hbm, 417, rfl⟩
abbrev main_v355 : Ref sig .tc := ⟨.hbm, 418, rfl⟩
abbrev main_v356 : Ref sig .tc := ⟨.hbm, 419, rfl⟩
abbrev main_v357 : Ref sig .tc := ⟨.hbm, 420, rfl⟩
abbrev main_v358 : Ref sig .tc := ⟨.hbm, 421, rfl⟩
abbrev main_v359 : Ref sig .tc := ⟨.hbm, 422, rfl⟩
abbrev main_v360 : Ref sig .tc := ⟨.hbm, 423, rfl⟩
abbrev main_v361 : Ref sig .tc := ⟨.hbm, 424, rfl⟩
abbrev main_v362 : Ref sig .tc := ⟨.hbm, 425, rfl⟩
abbrev main_v363 : Ref sig .tc := ⟨.hbm, 426, rfl⟩
abbrev main_v364 : Ref sig .tc := ⟨.hbm, 427, rfl⟩
abbrev main_v365 : Ref sig .tc := ⟨.hbm, 428, rfl⟩
abbrev main_v366 : Ref sig .tc := ⟨.hbm, 429, rfl⟩
abbrev main_v367 : Ref sig .tc := ⟨.hbm, 430, rfl⟩
abbrev main_v368 : Ref sig .tc := ⟨.hbm, 431, rfl⟩
abbrev main_cst_17 : Ref sig .tc := ⟨.hbm, 432, rfl⟩
abbrev main_v369 : Ref sig .tc := ⟨.hbm, 433, rfl⟩
abbrev main_v370 : Ref sig .tc := ⟨.hbm, 434, rfl⟩
abbrev main_v371 : Ref sig .tc := ⟨.hbm, 435, rfl⟩
abbrev main_v372 : Ref sig .tc := ⟨.hbm, 436, rfl⟩
abbrev main_v373 : Ref sig .tc := ⟨.hbm, 437, rfl⟩
abbrev main_v374 : Ref sig .tc := ⟨.hbm, 438, rfl⟩
abbrev main_v375 : Ref sig .tc := ⟨.hbm, 439, rfl⟩
abbrev main_v376 : Ref sig .tc := ⟨.hbm, 440, rfl⟩
abbrev main_cst_18 : Ref sig .tc := ⟨.hbm, 441, rfl⟩
abbrev main_v377 : Ref sig .tc := ⟨.hbm, 442, rfl⟩
abbrev main_v378 : Ref sig .tc := ⟨.hbm, 443, rfl⟩
abbrev main_cst_19 : Ref sig .tc := ⟨.hbm, 444, rfl⟩
abbrev main_v379 : Ref sig .tc := ⟨.hbm, 445, rfl⟩
abbrev main_v380 : Ref sig .tc := ⟨.hbm, 446, rfl⟩
abbrev main_v381 : Ref sig .tc := ⟨.hbm, 447, rfl⟩
abbrev main_v382 : Ref sig .tc := ⟨.hbm, 448, rfl⟩
abbrev main_v383 : Ref sig .tc := ⟨.hbm, 449, rfl⟩
abbrev main_cst_20 : Ref sig .tc := ⟨.hbm, 450, rfl⟩
abbrev main_v384 : Ref sig .tc := ⟨.hbm, 451, rfl⟩
abbrev main_v385 : Ref sig .tc := ⟨.hbm, 452, rfl⟩
abbrev main_cst_21 : Ref sig .tc := ⟨.hbm, 453, rfl⟩
abbrev main_v386 : Ref sig .tc := ⟨.hbm, 454, rfl⟩
abbrev main_v387 : Ref sig .tc := ⟨.hbm, 455, rfl⟩
abbrev main_cst_22 : Ref sig .tc := ⟨.hbm, 456, rfl⟩
abbrev main_v388 : Ref sig .tc := ⟨.hbm, 457, rfl⟩
abbrev main_v389 : Ref sig .tc := ⟨.hbm, 458, rfl⟩
abbrev main_v390 : Ref sig .tc := ⟨.hbm, 459, rfl⟩
abbrev main_v391 : Ref sig .tc := ⟨.hbm, 460, rfl⟩
abbrev main_cst_23 : Ref sig .tc := ⟨.hbm, 461, rfl⟩
abbrev main_v392 : Ref sig .tc := ⟨.hbm, 462, rfl⟩
abbrev main_v393 : Ref sig .tc := ⟨.hbm, 463, rfl⟩
abbrev main_v394 : Ref sig .tc := ⟨.hbm, 464, rfl⟩
abbrev main_v395 : Ref sig .tc := ⟨.hbm, 465, rfl⟩
abbrev main_cst_24 : Ref sig .tc := ⟨.hbm, 466, rfl⟩
abbrev main_v396 : Ref sig .tc := ⟨.hbm, 467, rfl⟩
abbrev main_v397 : Ref sig .tc := ⟨.hbm, 468, rfl⟩
abbrev main_v398 : Ref sig .tc := ⟨.hbm, 469, rfl⟩
abbrev main_v399 : Ref sig .tc := ⟨.hbm, 470, rfl⟩
abbrev main_v400 : Ref sig .tc := ⟨.hbm, 471, rfl⟩
abbrev main_call3_v0 : Ref sig .tc := ⟨.hbm, 472, rfl⟩
abbrev main_call3_v1 : Ref sig .tc := ⟨.hbm, 473, rfl⟩
abbrev main_call3_cst : Ref sig .tc := ⟨.hbm, 474, rfl⟩
abbrev main_call3_v2 : Ref sig .tc := ⟨.hbm, 475, rfl⟩
abbrev main_call3_v3 : Ref sig .tc := ⟨.hbm, 476, rfl⟩
abbrev main_call3_cst_0 : Ref sig .tc := ⟨.hbm, 477, rfl⟩
abbrev main_call3_v4 : Ref sig .tc := ⟨.hbm, 478, rfl⟩
abbrev main_v401_2 : Ref sig .tc := ⟨.hbm, 479, rfl⟩
abbrev main_call3_cst_1 : Ref sig .tc := ⟨.hbm, 480, rfl⟩
abbrev main_call3_v6 : Ref sig .tc := ⟨.hbm, 481, rfl⟩
abbrev main_call3_v7 : Ref sig .tc := ⟨.hbm, 482, rfl⟩
abbrev main_v401_1 : Ref sig .tc := ⟨.hbm, 483, rfl⟩
abbrev main_v401_0 : Ref sig .tc := ⟨.hbm, 484, rfl⟩
abbrev main_v402 : Ref sig .tc := ⟨.hbm, 485, rfl⟩
abbrev main_v403 : Ref sig .tc := ⟨.hbm, 486, rfl⟩
abbrev main_v404 : Ref sig .tc := ⟨.hbm, 487, rfl⟩
abbrev main_v405 : Ref sig .tc := ⟨.hbm, 488, rfl⟩
abbrev main_call4_v0 : Ref sig .tc := ⟨.hbm, 489, rfl⟩
abbrev main_call4_v1 : Ref sig .tc := ⟨.hbm, 490, rfl⟩
abbrev main_call4_v2 : Ref sig .tc := ⟨.hbm, 491, rfl⟩
abbrev main_v406 : Ref sig .tc := ⟨.hbm, 492, rfl⟩
abbrev main_v407 : Ref sig .tc := ⟨.hbm, 493, rfl⟩
abbrev main_v408 : Ref sig .tc := ⟨.hbm, 494, rfl⟩
abbrev main_cst_25 : Ref sig .tc := ⟨.hbm, 495, rfl⟩
abbrev main_v409 : Ref sig .tc := ⟨.hbm, 496, rfl⟩
abbrev main_v410 : Ref sig .tc := ⟨.hbm, 497, rfl⟩
abbrev main_v411 : Ref sig .tc := ⟨.hbm, 498, rfl⟩
abbrev main_v412 : Ref sig .tc := ⟨.hbm, 499, rfl⟩
abbrev main_v413 : Ref sig .tc := ⟨.hbm, 500, rfl⟩
abbrev main_v414 : Ref sig .tc := ⟨.hbm, 501, rfl⟩
abbrev main_cst_26 : Ref sig .tc := ⟨.hbm, 502, rfl⟩
abbrev main_v415 : Ref sig .tc := ⟨.hbm, 503, rfl⟩
abbrev main_v416 : Ref sig .tc := ⟨.hbm, 504, rfl⟩
abbrev main_cst_27 : Ref sig .tc := ⟨.hbm, 505, rfl⟩
abbrev main_v417 : Ref sig .tc := ⟨.hbm, 506, rfl⟩
abbrev main_v418 : Ref sig .tc := ⟨.hbm, 507, rfl⟩
abbrev main_cst_28 : Ref sig .tc := ⟨.hbm, 508, rfl⟩
abbrev main_v419 : Ref sig .tc := ⟨.hbm, 509, rfl⟩
abbrev main_v420 : Ref sig .tc := ⟨.hbm, 510, rfl⟩
abbrev main_v421 : Ref sig .tc := ⟨.hbm, 511, rfl⟩
abbrev main_v422 : Ref sig .tc := ⟨.hbm, 512, rfl⟩
abbrev main_v423 : Ref sig .tc := ⟨.hbm, 513, rfl⟩
abbrev main_cst_29 : Ref sig .tc := ⟨.hbm, 514, rfl⟩
abbrev main_v424 : Ref sig .tc := ⟨.hbm, 515, rfl⟩
abbrev main_v425 : Ref sig .tc := ⟨.hbm, 516, rfl⟩
abbrev main_v426 : Ref sig .tc := ⟨.hbm, 517, rfl⟩
abbrev main_v427 : Ref sig .tc := ⟨.hbm, 518, rfl⟩
abbrev main_cst_30 : Ref sig .tc := ⟨.hbm, 519, rfl⟩
abbrev main_v428 : Ref sig .tc := ⟨.hbm, 520, rfl⟩
abbrev main_v429 : Ref sig .tc := ⟨.hbm, 521, rfl⟩
abbrev main_cst_31 : Ref sig .tc := ⟨.hbm, 522, rfl⟩
abbrev main_v430 : Ref sig .tc := ⟨.hbm, 523, rfl⟩
abbrev main_v431 : Ref sig .tc := ⟨.hbm, 524, rfl⟩
abbrev main_v432 : Ref sig .tc := ⟨.hbm, 525, rfl⟩
abbrev main_v433 : Ref sig .tc := ⟨.hbm, 526, rfl⟩
abbrev main_v434 : Ref sig .tc := ⟨.hbm, 527, rfl⟩
abbrev main_v435 : Ref sig .tc := ⟨.hbm, 528, rfl⟩
abbrev main_v436 : Ref sig .tc := ⟨.hbm, 529, rfl⟩
abbrev main_v437 : Ref sig .tc := ⟨.hbm, 530, rfl⟩
abbrev main_v438 : Ref sig .tc := ⟨.hbm, 531, rfl⟩
abbrev main_v439 : Ref sig .tc := ⟨.hbm, 532, rfl⟩
abbrev main_v440 : Ref sig .tc := ⟨.hbm, 533, rfl⟩
abbrev main_v441 : Ref sig .tc := ⟨.hbm, 534, rfl⟩
abbrev main_v442 : Ref sig .tc := ⟨.hbm, 535, rfl⟩
abbrev main_v443 : Ref sig .tc := ⟨.hbm, 536, rfl⟩
abbrev main_v444 : Ref sig .tc := ⟨.hbm, 537, rfl⟩
abbrev main_v445 : Ref sig .tc := ⟨.hbm, 538, rfl⟩
abbrev main_v446 : Ref sig .tc := ⟨.hbm, 539, rfl⟩
abbrev main_v447 : Ref sig .tc := ⟨.hbm, 540, rfl⟩
abbrev main_v448 : Ref sig .tc := ⟨.hbm, 541, rfl⟩
abbrev main_v449 : Ref sig .tc := ⟨.hbm, 542, rfl⟩
abbrev main_v450 : Ref sig .tc := ⟨.hbm, 543, rfl⟩
abbrev main_v451 : Ref sig .tc := ⟨.hbm, 544, rfl⟩
abbrev main_v452 : Ref sig .tc := ⟨.hbm, 545, rfl⟩
abbrev main_v453 : Ref sig .tc := ⟨.hbm, 546, rfl⟩
abbrev main_v454 : Ref sig .tc := ⟨.hbm, 547, rfl⟩
abbrev main_v455 : Ref sig .tc := ⟨.hbm, 548, rfl⟩
abbrev main_v456 : Ref sig .tc := ⟨.hbm, 549, rfl⟩
abbrev main_v457 : Ref sig .tc := ⟨.hbm, 550, rfl⟩
abbrev main_v458 : Ref sig .tc := ⟨.hbm, 551, rfl⟩
abbrev main_v459 : Ref sig .tc := ⟨.hbm, 552, rfl⟩
abbrev main_v460 : Ref sig .tc := ⟨.hbm, 553, rfl⟩
abbrev main_v461 : Ref sig .tc := ⟨.hbm, 554, rfl⟩
abbrev main_v462 : Ref sig .tc := ⟨.hbm, 555, rfl⟩
abbrev main_v463 : Ref sig .tc := ⟨.hbm, 556, rfl⟩
abbrev main_v464 : Ref sig .tc := ⟨.hbm, 557, rfl⟩
abbrev main_v465 : Ref sig .tc := ⟨.hbm, 558, rfl⟩
abbrev main_v466 : Ref sig .tc := ⟨.hbm, 559, rfl⟩
abbrev main_v467 : Ref sig .tc := ⟨.hbm, 560, rfl⟩
abbrev main_v468 : Ref sig .tc := ⟨.hbm, 561, rfl⟩
abbrev main_v469 : Ref sig .tc := ⟨.hbm, 562, rfl⟩
abbrev main_v470 : Ref sig .tc := ⟨.hbm, 563, rfl⟩
abbrev main_v471 : Ref sig .tc := ⟨.hbm, 564, rfl⟩
abbrev main_v472 : Ref sig .tc := ⟨.hbm, 565, rfl⟩
abbrev main_v473 : Ref sig .tc := ⟨.hbm, 566, rfl⟩
abbrev main_v474 : Ref sig .tc := ⟨.hbm, 567, rfl⟩
abbrev main_v475 : Ref sig .tc := ⟨.hbm, 568, rfl⟩
abbrev main_v476 : Ref sig .tc := ⟨.hbm, 569, rfl⟩
abbrev main_v477 : Ref sig .tc := ⟨.hbm, 570, rfl⟩
abbrev main_v478 : Ref sig .tc := ⟨.hbm, 571, rfl⟩
abbrev main_v479 : Ref sig .tc := ⟨.hbm, 572, rfl⟩
abbrev main_v480 : Ref sig .tc := ⟨.hbm, 573, rfl⟩
abbrev main_v481 : Ref sig .tc := ⟨.hbm, 574, rfl⟩
abbrev main_v482 : Ref sig .tc := ⟨.hbm, 575, rfl⟩
abbrev main_v483 : Ref sig .tc := ⟨.hbm, 576, rfl⟩
abbrev main_v484 : Ref sig .tc := ⟨.hbm, 577, rfl⟩
abbrev main_v485 : Ref sig .tc := ⟨.hbm, 578, rfl⟩
abbrev main_v486 : Ref sig .tc := ⟨.hbm, 579, rfl⟩
abbrev main_v487 : Ref sig .tc := ⟨.hbm, 580, rfl⟩
abbrev main_v488 : Ref sig .tc := ⟨.hbm, 581, rfl⟩
abbrev main_v489 : Ref sig .tc := ⟨.hbm, 582, rfl⟩
abbrev main_v490 : Ref sig .tc := ⟨.hbm, 583, rfl⟩
abbrev main_v491 : Ref sig .tc := ⟨.hbm, 584, rfl⟩
abbrev main_v492 : Ref sig .tc := ⟨.hbm, 585, rfl⟩
abbrev main_v493 : Ref sig .tc := ⟨.hbm, 586, rfl⟩
abbrev main_v494 : Ref sig .tc := ⟨.hbm, 587, rfl⟩
abbrev main_v495 : Ref sig .tc := ⟨.hbm, 588, rfl⟩
abbrev main_v496 : Ref sig .tc := ⟨.hbm, 589, rfl⟩
abbrev main_v497 : Ref sig .tc := ⟨.hbm, 590, rfl⟩
abbrev main_v498 : Ref sig .tc := ⟨.hbm, 591, rfl⟩
abbrev main_v499 : Ref sig .tc := ⟨.hbm, 592, rfl⟩
abbrev main_v500 : Ref sig .tc := ⟨.hbm, 593, rfl⟩
abbrev main_v501 : Ref sig .tc := ⟨.hbm, 594, rfl⟩
abbrev main_v502 : Ref sig .tc := ⟨.hbm, 595, rfl⟩
abbrev main_v503 : Ref sig .tc := ⟨.hbm, 596, rfl⟩
abbrev main_v504 : Ref sig .tc := ⟨.hbm, 597, rfl⟩
abbrev main_v505 : Ref sig .tc := ⟨.hbm, 598, rfl⟩
abbrev main_cst_32 : Ref sig .tc := ⟨.hbm, 599, rfl⟩
abbrev main_v506 : Ref sig .tc := ⟨.hbm, 600, rfl⟩
abbrev main_v507 : Ref sig .tc := ⟨.hbm, 601, rfl⟩
abbrev main_v508 : Ref sig .tc := ⟨.hbm, 602, rfl⟩
abbrev main_v509 : Ref sig .tc := ⟨.hbm, 603, rfl⟩
abbrev main_v510 : Ref sig .tc := ⟨.hbm, 604, rfl⟩
abbrev main_cst_33 : Ref sig .tc := ⟨.hbm, 605, rfl⟩
abbrev main_v511 : Ref sig .tc := ⟨.hbm, 606, rfl⟩
abbrev main_v512 : Ref sig .tc := ⟨.hbm, 607, rfl⟩
abbrev main_v513 : Ref sig .tc := ⟨.hbm, 608, rfl⟩
abbrev main_v514 : Ref sig .tc := ⟨.hbm, 609, rfl⟩
abbrev main_v515 : Ref sig .tc := ⟨.hbm, 610, rfl⟩
abbrev main_v516 : Ref sig .tc := ⟨.hbm, 611, rfl⟩
abbrev main_cst_34 : Ref sig .tc := ⟨.hbm, 612, rfl⟩
abbrev main_v517 : Ref sig .tc := ⟨.hbm, 613, rfl⟩
abbrev main_v518 : Ref sig .tc := ⟨.hbm, 614, rfl⟩
abbrev main_v519 : Ref sig .tc := ⟨.hbm, 615, rfl⟩
abbrev main_v520 : Ref sig .tc := ⟨.hbm, 616, rfl⟩
abbrev main_v521 : Ref sig .tc := ⟨.hbm, 617, rfl⟩
abbrev main_v522 : Ref sig .tc := ⟨.hbm, 618, rfl⟩
abbrev main_cst_35 : Ref sig .tc := ⟨.hbm, 619, rfl⟩
abbrev main_v523 : Ref sig .tc := ⟨.hbm, 620, rfl⟩
abbrev main_v524 : Ref sig .tc := ⟨.hbm, 621, rfl⟩
abbrev main_v525 : Ref sig .tc := ⟨.hbm, 622, rfl⟩
abbrev main_v526 : Ref sig .tc := ⟨.hbm, 623, rfl⟩
abbrev main_v527 : Ref sig .tc := ⟨.hbm, 624, rfl⟩
abbrev main_v528 : Ref sig .tc := ⟨.hbm, 625, rfl⟩
abbrev main_cst_36 : Ref sig .tc := ⟨.hbm, 626, rfl⟩
abbrev main_v529 : Ref sig .tc := ⟨.hbm, 627, rfl⟩
abbrev main_v530 : Ref sig .tc := ⟨.hbm, 628, rfl⟩
abbrev main_v531 : Ref sig .tc := ⟨.hbm, 629, rfl⟩
abbrev main_v532 : Ref sig .tc := ⟨.hbm, 630, rfl⟩
abbrev main_v533 : Ref sig .tc := ⟨.hbm, 631, rfl⟩
abbrev main_v534 : Ref sig .tc := ⟨.hbm, 632, rfl⟩
abbrev main_cst_37 : Ref sig .tc := ⟨.hbm, 633, rfl⟩
abbrev main_v535 : Ref sig .tc := ⟨.hbm, 634, rfl⟩
abbrev main_v536 : Ref sig .tc := ⟨.hbm, 635, rfl⟩
abbrev main_v537 : Ref sig .tc := ⟨.hbm, 636, rfl⟩
abbrev main_v538 : Ref sig .tc := ⟨.hbm, 637, rfl⟩
abbrev main_v539 : Ref sig .tc := ⟨.hbm, 638, rfl⟩
abbrev main_v540 : Ref sig .tc := ⟨.hbm, 639, rfl⟩
abbrev main_cst_38 : Ref sig .tc := ⟨.hbm, 640, rfl⟩
abbrev main_v541 : Ref sig .tc := ⟨.hbm, 641, rfl⟩
abbrev main_v542 : Ref sig .tc := ⟨.hbm, 642, rfl⟩
abbrev main_v543 : Ref sig .tc := ⟨.hbm, 643, rfl⟩
abbrev main_v544 : Ref sig .tc := ⟨.hbm, 644, rfl⟩
abbrev main_v545 : Ref sig .tc := ⟨.hbm, 645, rfl⟩
abbrev main_v546 : Ref sig .tc := ⟨.hbm, 646, rfl⟩
abbrev main_cst_39 : Ref sig .tc := ⟨.hbm, 647, rfl⟩
abbrev main_v547 : Ref sig .tc := ⟨.hbm, 648, rfl⟩
abbrev main_v548 : Ref sig .tc := ⟨.hbm, 649, rfl⟩
abbrev main_v549 : Ref sig .tc := ⟨.hbm, 650, rfl⟩
abbrev main_v550 : Ref sig .tc := ⟨.hbm, 651, rfl⟩
abbrev main_v551 : Ref sig .tc := ⟨.hbm, 652, rfl⟩
abbrev main_v552 : Ref sig .tc := ⟨.hbm, 653, rfl⟩
abbrev main_cst_40 : Ref sig .tc := ⟨.hbm, 654, rfl⟩
abbrev main_v553 : Ref sig .tc := ⟨.hbm, 655, rfl⟩
abbrev main_v554 : Ref sig .tc := ⟨.hbm, 656, rfl⟩
abbrev main_v555 : Ref sig .tc := ⟨.hbm, 657, rfl⟩
abbrev main_v556 : Ref sig .tc := ⟨.hbm, 658, rfl⟩
abbrev main_v557 : Ref sig .tc := ⟨.hbm, 659, rfl⟩
abbrev main_v558 : Ref sig .tc := ⟨.hbm, 660, rfl⟩
abbrev main_cst_41 : Ref sig .tc := ⟨.hbm, 661, rfl⟩
abbrev main_v559 : Ref sig .tc := ⟨.hbm, 662, rfl⟩
abbrev main_v560 : Ref sig .tc := ⟨.hbm, 663, rfl⟩
abbrev main_v561 : Ref sig .tc := ⟨.hbm, 664, rfl⟩
abbrev main_v562 : Ref sig .tc := ⟨.hbm, 665, rfl⟩
abbrev main_v563 : Ref sig .tc := ⟨.hbm, 666, rfl⟩
abbrev main_v564 : Ref sig .tc := ⟨.hbm, 667, rfl⟩
abbrev main_cst_42 : Ref sig .tc := ⟨.hbm, 668, rfl⟩
abbrev main_v565 : Ref sig .tc := ⟨.hbm, 669, rfl⟩
abbrev main_v566 : Ref sig .tc := ⟨.hbm, 670, rfl⟩
abbrev main_v567 : Ref sig .tc := ⟨.hbm, 671, rfl⟩
abbrev main_v568 : Ref sig .tc := ⟨.hbm, 672, rfl⟩
abbrev main_v569 : Ref sig .tc := ⟨.hbm, 673, rfl⟩
abbrev main_v570 : Ref sig .tc := ⟨.hbm, 674, rfl⟩
abbrev main_cst_43 : Ref sig .tc := ⟨.hbm, 675, rfl⟩
abbrev main_v571 : Ref sig .tc := ⟨.hbm, 676, rfl⟩
abbrev main_v572 : Ref sig .tc := ⟨.hbm, 677, rfl⟩
abbrev main_v573 : Ref sig .tc := ⟨.hbm, 678, rfl⟩
abbrev main_v574 : Ref sig .tc := ⟨.hbm, 679, rfl⟩
abbrev main_v575 : Ref sig .tc := ⟨.hbm, 680, rfl⟩
abbrev main_v576 : Ref sig .tc := ⟨.hbm, 681, rfl⟩
abbrev main_cst_44 : Ref sig .tc := ⟨.hbm, 682, rfl⟩
abbrev main_v577 : Ref sig .tc := ⟨.hbm, 683, rfl⟩
abbrev main_v578 : Ref sig .tc := ⟨.hbm, 684, rfl⟩
abbrev main_v579 : Ref sig .tc := ⟨.hbm, 685, rfl⟩
abbrev main_v580 : Ref sig .tc := ⟨.hbm, 686, rfl⟩
abbrev main_v581 : Ref sig .tc := ⟨.hbm, 687, rfl⟩
abbrev main_v582 : Ref sig .tc := ⟨.hbm, 688, rfl⟩
abbrev main_cst_45 : Ref sig .tc := ⟨.hbm, 689, rfl⟩
abbrev main_v583 : Ref sig .tc := ⟨.hbm, 690, rfl⟩
abbrev main_v584 : Ref sig .tc := ⟨.hbm, 691, rfl⟩
abbrev main_v585 : Ref sig .tc := ⟨.hbm, 692, rfl⟩
abbrev main_v586 : Ref sig .tc := ⟨.hbm, 693, rfl⟩
abbrev main_v587 : Ref sig .tc := ⟨.hbm, 694, rfl⟩
abbrev main_v588 : Ref sig .tc := ⟨.hbm, 695, rfl⟩
abbrev main_cst_46 : Ref sig .tc := ⟨.hbm, 696, rfl⟩
abbrev main_v589 : Ref sig .tc := ⟨.hbm, 697, rfl⟩
abbrev main_v590 : Ref sig .tc := ⟨.hbm, 698, rfl⟩
abbrev main_v591 : Ref sig .tc := ⟨.hbm, 699, rfl⟩
abbrev main_v592 : Ref sig .tc := ⟨.hbm, 700, rfl⟩
abbrev main_v593 : Ref sig .tc := ⟨.hbm, 701, rfl⟩
abbrev main_v594 : Ref sig .tc := ⟨.hbm, 702, rfl⟩
abbrev main_cst_47 : Ref sig .tc := ⟨.hbm, 703, rfl⟩
abbrev main_v595 : Ref sig .tc := ⟨.hbm, 704, rfl⟩
abbrev main_v596 : Ref sig .tc := ⟨.hbm, 705, rfl⟩
abbrev main_v597 : Ref sig .tc := ⟨.hbm, 706, rfl⟩
abbrev main_v598 : Ref sig .tc := ⟨.hbm, 707, rfl⟩
abbrev main_v599 : Ref sig .tc := ⟨.hbm, 708, rfl⟩
abbrev main_v600 : Ref sig .tc := ⟨.hbm, 709, rfl⟩
abbrev main_cst_48 : Ref sig .tc := ⟨.hbm, 710, rfl⟩
abbrev main_v601 : Ref sig .tc := ⟨.hbm, 711, rfl⟩
abbrev main_v602 : Ref sig .tc := ⟨.hbm, 712, rfl⟩
abbrev main_v603 : Ref sig .tc := ⟨.hbm, 713, rfl⟩
abbrev main_v604 : Ref sig .tc := ⟨.hbm, 714, rfl⟩
abbrev main_v605 : Ref sig .tc := ⟨.hbm, 715, rfl⟩
abbrev main_v606 : Ref sig .tc := ⟨.hbm, 716, rfl⟩
abbrev main_cst_49 : Ref sig .tc := ⟨.hbm, 717, rfl⟩
abbrev main_v607 : Ref sig .tc := ⟨.hbm, 718, rfl⟩
abbrev main_v608 : Ref sig .tc := ⟨.hbm, 719, rfl⟩
abbrev main_v609 : Ref sig .tc := ⟨.hbm, 720, rfl⟩
abbrev main_v610 : Ref sig .tc := ⟨.hbm, 721, rfl⟩
abbrev main_v611 : Ref sig .tc := ⟨.hbm, 722, rfl⟩
abbrev main_v612 : Ref sig .tc := ⟨.hbm, 723, rfl⟩
abbrev main_cst_50 : Ref sig .tc := ⟨.hbm, 724, rfl⟩
abbrev main_v613 : Ref sig .tc := ⟨.hbm, 725, rfl⟩
abbrev main_v614 : Ref sig .tc := ⟨.hbm, 726, rfl⟩
abbrev main_v615 : Ref sig .tc := ⟨.hbm, 727, rfl⟩
abbrev main_v616 : Ref sig .tc := ⟨.hbm, 728, rfl⟩
abbrev main_v617 : Ref sig .tc := ⟨.hbm, 729, rfl⟩
abbrev main_v618 : Ref sig .tc := ⟨.hbm, 730, rfl⟩
abbrev main_cst_51 : Ref sig .tc := ⟨.hbm, 731, rfl⟩
abbrev main_v619 : Ref sig .tc := ⟨.hbm, 732, rfl⟩
abbrev main_v620 : Ref sig .tc := ⟨.hbm, 733, rfl⟩
abbrev main_v621 : Ref sig .tc := ⟨.hbm, 734, rfl⟩
abbrev main_v622 : Ref sig .tc := ⟨.hbm, 735, rfl⟩
abbrev main_v623 : Ref sig .tc := ⟨.hbm, 736, rfl⟩
abbrev main_v624 : Ref sig .tc := ⟨.hbm, 737, rfl⟩
abbrev main_cst_52 : Ref sig .tc := ⟨.hbm, 738, rfl⟩
abbrev main_v625 : Ref sig .tc := ⟨.hbm, 739, rfl⟩
abbrev main_v626 : Ref sig .tc := ⟨.hbm, 740, rfl⟩
abbrev main_v627 : Ref sig .tc := ⟨.hbm, 741, rfl⟩
abbrev main_v628 : Ref sig .tc := ⟨.hbm, 742, rfl⟩
abbrev main_v629 : Ref sig .tc := ⟨.hbm, 743, rfl⟩
abbrev main_v630 : Ref sig .tc := ⟨.hbm, 744, rfl⟩
abbrev main_cst_53 : Ref sig .tc := ⟨.hbm, 745, rfl⟩
abbrev main_v631 : Ref sig .tc := ⟨.hbm, 746, rfl⟩
abbrev main_v632 : Ref sig .tc := ⟨.hbm, 747, rfl⟩
abbrev main_v633 : Ref sig .tc := ⟨.hbm, 748, rfl⟩
abbrev main_v634 : Ref sig .tc := ⟨.hbm, 749, rfl⟩
abbrev main_v635 : Ref sig .tc := ⟨.hbm, 750, rfl⟩
abbrev main_v636 : Ref sig .tc := ⟨.hbm, 751, rfl⟩
abbrev main_cst_54 : Ref sig .tc := ⟨.hbm, 752, rfl⟩
abbrev main_v637 : Ref sig .tc := ⟨.hbm, 753, rfl⟩
abbrev main_v638 : Ref sig .tc := ⟨.hbm, 754, rfl⟩
abbrev main_v639 : Ref sig .tc := ⟨.hbm, 755, rfl⟩
abbrev main_v640 : Ref sig .tc := ⟨.hbm, 756, rfl⟩
abbrev main_v641 : Ref sig .tc := ⟨.hbm, 757, rfl⟩
abbrev main_v642 : Ref sig .tc := ⟨.hbm, 758, rfl⟩
abbrev main_cst_55 : Ref sig .tc := ⟨.hbm, 759, rfl⟩
abbrev main_v643 : Ref sig .tc := ⟨.hbm, 760, rfl⟩
abbrev main_v644 : Ref sig .tc := ⟨.hbm, 761, rfl⟩
abbrev main_v645 : Ref sig .tc := ⟨.hbm, 762, rfl⟩
abbrev main_v646 : Ref sig .tc := ⟨.hbm, 763, rfl⟩
abbrev main_v647 : Ref sig .tc := ⟨.hbm, 764, rfl⟩
abbrev main_v648 : Ref sig .tc := ⟨.hbm, 765, rfl⟩
abbrev main_cst_56 : Ref sig .tc := ⟨.hbm, 766, rfl⟩
abbrev main_v649 : Ref sig .tc := ⟨.hbm, 767, rfl⟩
abbrev main_v650 : Ref sig .tc := ⟨.hbm, 768, rfl⟩
abbrev main_v651 : Ref sig .tc := ⟨.hbm, 769, rfl⟩
abbrev main_v652 : Ref sig .tc := ⟨.hbm, 770, rfl⟩
abbrev main_v653 : Ref sig .tc := ⟨.hbm, 771, rfl⟩
abbrev main_v654 : Ref sig .tc := ⟨.hbm, 772, rfl⟩
abbrev main_cst_57 : Ref sig .tc := ⟨.hbm, 773, rfl⟩
abbrev main_v655 : Ref sig .tc := ⟨.hbm, 774, rfl⟩
abbrev main_v656 : Ref sig .tc := ⟨.hbm, 775, rfl⟩
abbrev main_v657 : Ref sig .tc := ⟨.hbm, 776, rfl⟩
abbrev main_v658 : Ref sig .tc := ⟨.hbm, 777, rfl⟩
abbrev main_v659 : Ref sig .tc := ⟨.hbm, 778, rfl⟩
abbrev main_v660 : Ref sig .tc := ⟨.hbm, 779, rfl⟩
abbrev main_cst_58 : Ref sig .tc := ⟨.hbm, 780, rfl⟩
abbrev main_v661 : Ref sig .tc := ⟨.hbm, 781, rfl⟩
abbrev main_v662 : Ref sig .tc := ⟨.hbm, 782, rfl⟩
abbrev main_v663 : Ref sig .tc := ⟨.hbm, 783, rfl⟩
abbrev main_v664 : Ref sig .tc := ⟨.hbm, 784, rfl⟩
abbrev main_v665 : Ref sig .tc := ⟨.hbm, 785, rfl⟩
abbrev main_v666 : Ref sig .tc := ⟨.hbm, 786, rfl⟩
abbrev main_cst_59 : Ref sig .tc := ⟨.hbm, 787, rfl⟩
abbrev main_v667 : Ref sig .tc := ⟨.hbm, 788, rfl⟩
abbrev main_v668 : Ref sig .tc := ⟨.hbm, 789, rfl⟩
abbrev main_v669 : Ref sig .tc := ⟨.hbm, 790, rfl⟩
abbrev main_v670 : Ref sig .tc := ⟨.hbm, 791, rfl⟩
abbrev main_v671 : Ref sig .tc := ⟨.hbm, 792, rfl⟩
abbrev main_v672 : Ref sig .tc := ⟨.hbm, 793, rfl⟩
abbrev main_cst_60 : Ref sig .tc := ⟨.hbm, 794, rfl⟩
abbrev main_v673 : Ref sig .tc := ⟨.hbm, 795, rfl⟩
abbrev main_v674 : Ref sig .tc := ⟨.hbm, 796, rfl⟩
abbrev main_v675 : Ref sig .tc := ⟨.hbm, 797, rfl⟩
abbrev main_v676 : Ref sig .tc := ⟨.hbm, 798, rfl⟩
abbrev main_v677 : Ref sig .tc := ⟨.hbm, 799, rfl⟩
abbrev main_v678 : Ref sig .tc := ⟨.hbm, 800, rfl⟩
abbrev main_cst_61 : Ref sig .tc := ⟨.hbm, 801, rfl⟩
abbrev main_v679 : Ref sig .tc := ⟨.hbm, 802, rfl⟩
abbrev main_v680 : Ref sig .tc := ⟨.hbm, 803, rfl⟩
abbrev main_v681 : Ref sig .tc := ⟨.hbm, 804, rfl⟩
abbrev main_v682 : Ref sig .tc := ⟨.hbm, 805, rfl⟩
abbrev main_v683 : Ref sig .tc := ⟨.hbm, 806, rfl⟩
abbrev main_v684 : Ref sig .tc := ⟨.hbm, 807, rfl⟩
abbrev main_cst_62 : Ref sig .tc := ⟨.hbm, 808, rfl⟩
abbrev main_v685 : Ref sig .tc := ⟨.hbm, 809, rfl⟩
abbrev main_v686 : Ref sig .tc := ⟨.hbm, 810, rfl⟩
abbrev main_v687 : Ref sig .tc := ⟨.hbm, 811, rfl⟩
abbrev main_v688 : Ref sig .tc := ⟨.hbm, 812, rfl⟩
abbrev main_v689 : Ref sig .tc := ⟨.hbm, 813, rfl⟩
abbrev main_v690 : Ref sig .tc := ⟨.hbm, 814, rfl⟩
abbrev main_v691 : Ref sig .tc := ⟨.hbm, 815, rfl⟩
abbrev main_v692 : Ref sig .tc := ⟨.hbm, 816, rfl⟩
abbrev main_v693 : Ref sig .tc := ⟨.hbm, 817, rfl⟩
abbrev main_v694 : Ref sig .tc := ⟨.hbm, 818, rfl⟩
abbrev main_v695 : Ref sig .tc := ⟨.hbm, 819, rfl⟩
abbrev main_v696 : Ref sig .tc := ⟨.hbm, 820, rfl⟩
abbrev main_v697 : Ref sig .tc := ⟨.hbm, 821, rfl⟩
abbrev main_v698 : Ref sig .tc := ⟨.hbm, 822, rfl⟩
abbrev main_v699 : Ref sig .tc := ⟨.hbm, 823, rfl⟩
abbrev main_v700 : Ref sig .tc := ⟨.hbm, 824, rfl⟩
abbrev main_v701 : Ref sig .tc := ⟨.hbm, 825, rfl⟩
abbrev main_v702 : Ref sig .tc := ⟨.hbm, 826, rfl⟩
abbrev main_v703 : Ref sig .tc := ⟨.hbm, 827, rfl⟩
abbrev main_v704 : Ref sig .tc := ⟨.hbm, 828, rfl⟩
abbrev main_v705 : Ref sig .tc := ⟨.hbm, 829, rfl⟩
abbrev main_v706 : Ref sig .tc := ⟨.hbm, 830, rfl⟩
abbrev main_v707 : Ref sig .tc := ⟨.hbm, 831, rfl⟩
abbrev main_v708 : Ref sig .tc := ⟨.hbm, 832, rfl⟩
abbrev main_v709 : Ref sig .tc := ⟨.hbm, 833, rfl⟩
abbrev main_cst_63 : Ref sig .tc := ⟨.hbm, 834, rfl⟩
abbrev main_v710 : Ref sig .tc := ⟨.hbm, 835, rfl⟩
abbrev main_v711 : Ref sig .tc := ⟨.hbm, 836, rfl⟩
abbrev main_v712 : Ref sig .tc := ⟨.hbm, 837, rfl⟩
abbrev main_v713 : Ref sig .tc := ⟨.hbm, 838, rfl⟩
abbrev main_v714 : Ref sig .tc := ⟨.hbm, 839, rfl⟩
abbrev main_v715 : Ref sig .tc := ⟨.hbm, 840, rfl⟩
abbrev main_v716 : Ref sig .tc := ⟨.hbm, 841, rfl⟩
abbrev main_v717 : Ref sig .tc := ⟨.hbm, 842, rfl⟩
abbrev main_v718 : Ref sig .tc := ⟨.hbm, 843, rfl⟩
abbrev main_v719 : Ref sig .tc := ⟨.hbm, 844, rfl⟩
abbrev main_v720 : Ref sig .tc := ⟨.hbm, 845, rfl⟩
abbrev main_v721 : Ref sig .tc := ⟨.hbm, 846, rfl⟩
abbrev main_v722 : Ref sig .tc := ⟨.hbm, 847, rfl⟩
abbrev main_v723 : Ref sig .tc := ⟨.hbm, 848, rfl⟩
abbrev main_v724 : Ref sig .tc := ⟨.hbm, 849, rfl⟩
abbrev main_v725 : Ref sig .tc := ⟨.hbm, 850, rfl⟩
abbrev main_v726 : Ref sig .tc := ⟨.hbm, 851, rfl⟩
abbrev main_v727 : Ref sig .tc := ⟨.hbm, 852, rfl⟩
abbrev main_cst_64 : Ref sig .tc := ⟨.hbm, 853, rfl⟩
abbrev main_v728 : Ref sig .tc := ⟨.hbm, 854, rfl⟩
abbrev main_cst_65 : Ref sig .tc := ⟨.hbm, 855, rfl⟩
abbrev main_v729 : Ref sig .tc := ⟨.hbm, 856, rfl⟩
abbrev main_v730 : Ref sig .tc := ⟨.hbm, 857, rfl⟩
abbrev main_v731 : Ref sig .tc := ⟨.hbm, 858, rfl⟩
abbrev main_v732 : Ref sig .tc := ⟨.hbm, 859, rfl⟩
abbrev main_v733 : Ref sig .tc := ⟨.hbm, 860, rfl⟩
abbrev main_v734 : Ref sig .tc := ⟨.hbm, 861, rfl⟩
abbrev main_v735 : Ref sig .tc := ⟨.hbm, 862, rfl⟩
abbrev main_v736 : Ref sig .tc := ⟨.hbm, 863, rfl⟩
abbrev main_v737 : Ref sig .tc := ⟨.hbm, 864, rfl⟩
abbrev main_v738 : Ref sig .tc := ⟨.hbm, 865, rfl⟩
abbrev main_v739 : Ref sig .tc := ⟨.hbm, 866, rfl⟩
abbrev main_v740 : Ref sig .tc := ⟨.hbm, 867, rfl⟩
abbrev main_v741 : Ref sig .tc := ⟨.hbm, 868, rfl⟩
abbrev main_v742 : Ref sig .tc := ⟨.hbm, 869, rfl⟩
abbrev main_v743 : Ref sig .tc := ⟨.hbm, 870, rfl⟩
abbrev main_v744 : Ref sig .tc := ⟨.hbm, 871, rfl⟩
abbrev main_v745 : Ref sig .tc := ⟨.hbm, 872, rfl⟩
abbrev main_v746 : Ref sig .tc := ⟨.hbm, 873, rfl⟩
abbrev main_v747 : Ref sig .tc := ⟨.hbm, 874, rfl⟩
abbrev main_cst_66 : Ref sig .tc := ⟨.hbm, 875, rfl⟩
abbrev main_v748 : Ref sig .tc := ⟨.hbm, 876, rfl⟩
abbrev main_cst_67 : Ref sig .tc := ⟨.hbm, 877, rfl⟩
abbrev main_v749 : Ref sig .tc := ⟨.hbm, 878, rfl⟩
abbrev main_v750 : Ref sig .tc := ⟨.hbm, 879, rfl⟩
abbrev main_v751 : Ref sig .tc := ⟨.hbm, 880, rfl⟩
abbrev main_v752 : Ref sig .tc := ⟨.hbm, 881, rfl⟩
abbrev main_v753 : Ref sig .tc := ⟨.hbm, 882, rfl⟩
abbrev main_v754 : Ref sig .tc := ⟨.hbm, 883, rfl⟩
abbrev main_v755 : Ref sig .tc := ⟨.hbm, 884, rfl⟩
abbrev main_v756 : Ref sig .tc := ⟨.hbm, 885, rfl⟩
abbrev main_v757 : Ref sig .tc := ⟨.hbm, 886, rfl⟩

abbrev nD : Nat := 1
abbrev τ : Topo := Topo.v7x

variable {F : FTy → Type} [FloatOps F]
-- ==== InKernel.lean ====
abbrev S1x4096x1024 : Shape := ⟨3, ![1, 4096, 1024]⟩
abbrev S1x1024 : Shape := ⟨2, ![1, 1024]⟩
abbrev S1024x9728 : Shape := ⟨2, ![1024, 9728]⟩
abbrev S4096x9728 : Shape := ⟨2, ![4096, 9728]⟩
abbrev S4096x1024 : Shape := ⟨2, ![4096, 1024]⟩
abbrev S1024x2432 : Shape := ⟨2, ![1024, 2432]⟩
abbrev S1024x1024 : Shape := ⟨2, ![1024, 1024]⟩
abbrev S1x1024x1024 : Shape := ⟨3, ![1, 1024, 1024]⟩
abbrev S1024 : Shape := ⟨1, ![1024]⟩
abbrev S1024x1 : Shape := ⟨2, ![1024, 1]⟩

abbrev nBuf : Space → Nat
  | .hbm => 11
  | .vmem => 13
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1024x9728, .f32⟩
  | .hbm, ⟨3, _⟩ => ⟨S4096x9728, .f32⟩
  | .hbm, ⟨4, _⟩ => ⟨S1x4096x1024, .f32⟩
  | .hbm, ⟨5, _⟩ => ⟨S4096x9728, .bf16⟩
  | .hbm, ⟨6, _⟩ => ⟨S1024x9728, .bf16⟩
  | .hbm, ⟨7, _⟩ => ⟨S4096x1024, .f32⟩
  | .hbm, ⟨8, _⟩ => ⟨S4096x1024, .f32⟩
  | .hbm, ⟨9, _⟩ => ⟨S1x4096x1024, .f32⟩
  | .hbm, ⟨10, _⟩ => ⟨S1x1024, .f32⟩
  | .local _ .vmem, ⟨0, _⟩ => ⟨S1024x2432, .bf16⟩
  | .local _ .vmem, ⟨1, _⟩ => ⟨S1024x2432, .bf16⟩
  | .local _ .vmem, ⟨2, _⟩ => ⟨S1024x2432, .bf16⟩
  | .local _ .vmem, ⟨3, _⟩ => ⟨S1024x2432, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1x1024x1024, .f32⟩
  | .local _ .vmem, ⟨10, _⟩ => ⟨S1x1024x1024, .f32⟩
  | .local _ .vmem, ⟨11, _⟩ => ⟨S1x1024, .f32⟩
  | .local _ .vmem, ⟨12, _⟩ => ⟨S1024x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v18 : BitVec 1 := Scalar.cmpi .eq arg1 c3_i32
  let v19 : BitVec 32 := Scalar.extui v18
  let c0_i32_11 : BitVec 32 := 0#32
  let v20 : BitVec 1 := Scalar.cmpi .ne v19 c0_i32_11
  v20

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2432 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== InReferenceIdeal.lean ====
abbrev S1x4096x1024 : Shape := ⟨3, ![1, 4096, 1024]⟩
abbrev S1x1024 : Shape := ⟨2, ![1, 1024]⟩
abbrev S1024x9728 : Shape := ⟨2, ![1024, 9728]⟩
abbrev S4096x9728 : Shape := ⟨2, ![4096, 9728]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x4096x9728 : Shape := ⟨3, ![1, 4096, 9728]⟩
abbrev S4096 : Shape := ⟨1, ![4096]⟩

abbrev nBuf : Space → Nat
  | .hbm => 57
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1024x9728, .f32⟩
  | .hbm, ⟨3, _⟩ => ⟨S4096x9728, .f32⟩
  | .hbm, ⟨4, _⟩ => ⟨S1x4096x1024, .f32⟩
  | .hbm, ⟨5, _⟩ => ⟨S1024, .f32⟩
  | .hbm, ⟨6, _⟩ => ⟨S1x4096x1024, .f32⟩
  | .hbm, ⟨7, _⟩ => ⟨S_, .f32⟩
  | .hbm, ⟨8, _⟩ => ⟨S1x4096, .f32⟩
  | .hbm, ⟨9, _⟩ => ⟨S1x4096x1, .f32⟩
  | .hbm, ⟨10, _⟩ => ⟨S_, .f32⟩
  | .hbm, ⟨11, _⟩ => ⟨S1x4096x1, .f32⟩
  | .hbm, ⟨12, _⟩ => ⟨S1x4096x1, .f32⟩
  | .hbm, ⟨13, _⟩ => ⟨S_, .f32⟩
  | .hbm, ⟨14, _⟩ => ⟨S1x4096x1, .f32⟩
  | .hbm, ⟨15, _⟩ => ⟨S1x4096x1, .f32⟩
  | .hbm, ⟨16, _⟩ => ⟨S1x4096x1, .f32⟩
  | .hbm, ⟨17, _⟩ => ⟨S1x4096x1, .f32⟩
  | .hbm, ⟨18, _⟩ => ⟨S_, .f32⟩
  | .hbm, ⟨19, _⟩ => ⟨S1x4096x1, .f32⟩
  | .hbm, ⟨20, _⟩ => ⟨S1x4096x1, .f32⟩
  | .hbm, ⟨21, _⟩ => ⟨S1x4096x1024, .f32⟩
  | .hbm, ⟨22, _⟩ => ⟨S1x4096x1024, .f32⟩
  | .hbm, ⟨23, _⟩ => ⟨S1x1x1024, .f32⟩
  | .hbm, ⟨24, _⟩ => ⟨S1x4096x1024, .f32⟩
  | .hbm, ⟨25, _⟩ => ⟨S1x4096x1024, .f32⟩
  | .hbm, ⟨26, _⟩ => ⟨S1x4096x9728, .f32⟩
  | .hbm, ⟨27, _⟩ => ⟨S1x4096x9728, .f32⟩
  | .hbm, ⟨28, _⟩ => ⟨S1x4096x1024, .f32⟩
  | .hbm, ⟨29, _⟩ => ⟨S1x4096x1024, .f32⟩
  | .hbm, ⟨30, _⟩ => ⟨S_, .f32⟩
  | .hbm, ⟨31, _⟩ => ⟨S1x1024, .f32⟩
  | .hbm, ⟨32, _⟩ => ⟨S1x1x1024, .f32⟩
  | .hbm, ⟨33, _⟩ => ⟨S1x4096x1024, .f32⟩
  | .hbm, ⟨34, _⟩ => ⟨S1x4096x1024, .f32⟩
  | .hbm, ⟨35, _⟩ => ⟨S_, .f32⟩
  | .hbm, ⟨36, _⟩ => ⟨S1024, .f32⟩
  | .hbm, ⟨37, _⟩ => ⟨S1x4096x1024, .f32⟩
  | .hbm, ⟨38, _⟩ => ⟨S_, .f32⟩
  | .hbm, ⟨39, _⟩ => ⟨S1x4096, .f32⟩
  | .hbm, ⟨40, _⟩ => ⟨S1x4096x1, .f32⟩
  | .hbm, ⟨41, _⟩ => ⟨S1x4096x1024, .f32⟩
  | .hbm, ⟨42, _⟩ => ⟨S1x4096x1024, .f32⟩
  | .hbm, ⟨43, _⟩ => ⟨S1x4096x1, .f32⟩
  | .hbm, ⟨44, _⟩ => ⟨S_, .f32⟩
  | .hbm, ⟨45, _⟩ => ⟨S1x4096x1, .f32⟩
  | .hbm, ⟨46, _⟩ => ⟨S1x4096x1, .f32⟩
  | .hbm, ⟨47, _⟩ => ⟨S_, .f32⟩
  | .hbm, ⟨48, _⟩ => ⟨S4096, .f32⟩
  | .hbm, ⟨49, _⟩ => ⟨S1x4096, .f32⟩
  | .hbm, ⟨50, _⟩ => ⟨S1x4096x1024, .f32⟩
  | .hbm, ⟨51, _⟩ => ⟨S1x4096x1024, .f32⟩
  | .hbm, ⟨52, _⟩ => ⟨S1x4096x1024, .f32⟩
  | .hbm, ⟨53, _⟩ => ⟨S1x4096x1024, .f32⟩
  | .hbm, ⟨54, _⟩ => ⟨S1x4096x1024, .f32⟩
  | .hbm, ⟨55, _⟩ => ⟨S1x1024, .f32⟩
  | .hbm, ⟨56, _⟩ => ⟨S1x4096x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== WgKernel.lean ====
abbrev S4096x2816 : Shape := ⟨2, ![4096, 2816]⟩
abbrev S4096x1024 : Shape := ⟨2, ![4096, 1024]⟩
abbrev S4096x4x704 : Shape := ⟨3, ![4096, 4, 704]⟩
abbrev S4x4096x704 : Shape := ⟨3, ![4, 4096, 704]⟩
abbrev S4x704x1024 : Shape := ⟨3, ![4, 704, 1024]⟩
abbrev S1x4096x704 : Shape := ⟨3, ![1, 4096, 704]⟩
abbrev S1x704x1024 : Shape := ⟨3, ![1, 704, 1024]⟩
abbrev S704x1024 : Shape := ⟨2, ![704, 1024]⟩
abbrev S4096x704 : Shape := ⟨2, ![4096, 704]⟩

abbrev nBuf : Space → Nat
  | .hbm => 7
  | .vmem => 5
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x4x704, .f32⟩
  | .hbm, ⟨3, _⟩ => ⟨S4x4096x704, .f32⟩
  | .hbm, ⟨4, _⟩ => ⟨S4x4096x704, .bf16⟩
  | .hbm, ⟨5, _⟩ => ⟨S4096x1024, .bf16⟩
  | .hbm, ⟨6, _⟩ => ⟨S4x704x1024, .f32⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .bf16⟩
  | .local _ .vmem, ⟨3, _⟩ => ⟨S1x704x1024, .f32⟩
  | .local _ .vmem, ⟨4, _⟩ => ⟨S1x704x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WgReferenceIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S1024x2816, .f32⟩
  | .hbm, ⟨6, _⟩ => ⟨S2816x1024, .f32⟩
  | .hbm, ⟨7, _⟩ => ⟨S4x704x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GateKernel.lean ====
abbrev S4096x2816 : Shape := ⟨2, ![4096, 2816]⟩
abbrev S4096x1024 : Shape := ⟨2, ![4096, 1024]⟩
abbrev S4096x4x704 : Shape := ⟨3, ![4096, 4, 704]⟩
abbrev S4x4096x704 : Shape := ⟨3, ![4, 4096, 704]⟩
abbrev S4x704x1024 : Shape := ⟨3, ![4, 704, 1024]⟩
abbrev S1x4096x704 : Shape := ⟨3, ![1, 4096, 704]⟩
abbrev S1x704x1024 : Shape := ⟨3, ![1, 704, 1024]⟩
abbrev S704x1024 : Shape := ⟨2, ![704, 1024]⟩
abbrev S4096x704 : Shape := ⟨2, ![4096, 704]⟩

abbrev nBuf : Space → Nat
  | .hbm => 7
  | .vmem => 5
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x4x704, .f32⟩
  | .hbm, ⟨3, _⟩ => ⟨S4x4096x704, .f32⟩
  | .hbm, ⟨4, _⟩ => ⟨S4x4096x704, .bf16⟩
  | .hbm, ⟨5, _⟩ => ⟨S4096x1024, .bf16⟩
  | .hbm, ⟨6, _⟩ => ⟨S4x704x1024, .f32⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .bf16⟩
  | .local _ .vmem, ⟨3, _⟩ => ⟨S1x704x1024, .f32⟩
  | .local _ .vmem, ⟨4, _⟩ => ⟨S1x704x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GateReferenceIdeal.lean ====
abbrev S4096x2816 : Shape := ⟨2, ![4096, 2816]⟩
abbrev S4096x1024 : Shape := ⟨2, ![4096, 1024]⟩
abbrev S_ : Shape := ⟨0, ![]⟩
abbrev S1024x2816 : Shape := ⟨2, ![1024, 2816]⟩
abbrev S2816x1024 : Shape := ⟨2, ![2816, 1024]⟩
abbrev S4x704x1024 : Shape := ⟨3, ![4, 704, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S1024x2816, .f32⟩
  | .hbm, ⟨4, _⟩ => ⟨S4096x2816, .f32⟩
  | .hbm, ⟨5, _⟩ => ⟨S2816x1024, .f32⟩
  | .hbm, ⟨6, _⟩ => ⟨S1024x2816, .f32⟩
  | .hbm, ⟨7, _⟩ => ⟨S2816x1024, .f32⟩
  | .hbm, ⟨8, _⟩ => ⟨S4x704x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UpKernel.lean ====
abbrev S4096x2816 : Shape := ⟨2, ![4096, 2816]⟩
abbrev S4096x1024 : Shape := ⟨2, ![4096, 1024]⟩
abbrev S4096x4x704 : Shape := ⟨3, ![4096, 4, 704]⟩
abbrev S4x4096x704 : Shape := ⟨3, ![4, 4096, 704]⟩
abbrev S4x704x1024 : Shape := ⟨3, ![4, 704, 1024]⟩
abbrev S1x4096x704 : Shape := ⟨3, ![1, 4096, 704]⟩
abbrev S1x704x1024 : Shape := ⟨3, ![1, 704, 1024]⟩
abbrev S704x1024 : Shape := ⟨2, ![704, 1024]⟩
abbrev S4096x704 : Shape := ⟨2, ![4096, 704]⟩

abbrev nBuf : Space → Nat
  | .hbm => 7
  | .vmem => 5
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x4x704, .f32⟩
  | .hbm, ⟨3, _⟩ => ⟨S4x4096x704, .f32⟩
  | .hbm, ⟨4, _⟩ => ⟨S4x4096x704, .bf16⟩
  | .hbm, ⟨5, _⟩ => ⟨S4096x1024, .bf16⟩
  | .hbm, ⟨6, _⟩ => ⟨S4x704x1024, .f32⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .bf16⟩
  | .local _ .vmem, ⟨3, _⟩ => ⟨S1x704x1024, .f32⟩
  | .local _ .vmem, ⟨4, _⟩ => ⟨S1x704x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== UpReferenceIdeal.lean ====
abbrev S4096x2816 : Shape := ⟨2, ![4096, 2816]⟩
abbrev S4096x1024 : Shape := ⟨2, ![4096, 1024]⟩
abbrev S_ : Shape := ⟨0, ![]⟩
abbrev S1024x2816 : Shape := ⟨2, ![1024, 2816]⟩
abbrev S2816x1024 : Shape := ⟨2, ![2816, 1024]⟩
abbrev S4x704x1024 : Shape := ⟨3, ![4, 704, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S1024x2816, .f32⟩
  | .hbm, ⟨4, _⟩ => ⟨S4096x2816, .f32⟩
  | .hbm, ⟨5, _⟩ => ⟨S2816x1024, .f32⟩
  | .hbm, ⟨6, _⟩ => ⟨S1024x2816, .f32⟩
  | .hbm, ⟨7, _⟩ => ⟨S2816x1024, .f32⟩
  | .hbm, ⟨8, _⟩ => ⟨S4x704x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WoutKernel.lean ====
abbrev S4096x1024 : Shape := ⟨2, ![4096, 1024]⟩
abbrev S1024x1024 : Shape := ⟨2, ![1024, 1024]⟩
abbrev S4096x256 : Shape := ⟨2, ![4096, 256]⟩
abbrev S256x1024 : Shape := ⟨2, ![256, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1024x1024, .f32⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .f32⟩
  | .local _ .vmem, ⟨4, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WoutReferenceIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== WattKernel.lean ====
abbrev S4096x512 : Shape := ⟨2, ![4096, 512]⟩
abbrev S4096x1024 : Shape := ⟨2, ![4096, 1024]⟩
abbrev S512x1024 : Shape := ⟨2, ![512, 1024]⟩
abbrev S512x512 : Shape := ⟨2, ![512, 512]⟩

abbrev nBuf : Space → Nat
  | .hbm => 5
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x512, .bf16⟩
  | .hbm, ⟨3, _⟩ => ⟨S4096x1024, .bf16⟩
  | .hbm, ⟨4, _⟩ => ⟨S512x1024, .f32⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S512x512, .f32⟩
  | .local _ .vmem, ⟨4, _⟩ => ⟨S512x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WattReferenceIdeal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S_, .f32⟩
  | .hbm, ⟨3, _⟩ => ⟨S512x1024, .f32⟩
  | .hbm, ⟨4, _⟩ => ⟨S4096x1024, .f32⟩
  | .hbm, ⟨5, _⟩ => ⟨S1024x512, .f32⟩
  | .hbm, ⟨6, _⟩ => ⟨S512x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== WretKernel.lean ====
abbrev S4096x1024 : Shape := ⟨2, ![4096, 1024]⟩
abbrev S1024x1024 : Shape := ⟨2, ![1024, 1024]⟩
abbrev S4096x256 : Shape := ⟨2, ![4096, 256]⟩
abbrev S256x1024 : Shape := ⟨2, ![256, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1024x1024, .f32⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .f32⟩
  | .local _ .vmem, ⟨4, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WretReferenceIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnUpKernel.lean ====
abbrev S4096x1024 : Shape := ⟨2, ![4096, 1024]⟩
abbrev S1024x2816 : Shape := ⟨2, ![1024, 2816]⟩
abbrev S2816x1024 : Shape := ⟨2, ![2816, 1024]⟩
abbrev S4x704x1024 : Shape := ⟨3, ![4, 704, 1024]⟩
abbrev S4x4096x704 : Shape := ⟨3, ![4, 4096, 704]⟩
abbrev S2048x1024 : Shape := ⟨2, ![2048, 1024]⟩
abbrev S1x704x1024 : Shape := ⟨3, ![1, 704, 1024]⟩
abbrev S1x2048x704 : Shape := ⟨3, ![1, 2048, 704]⟩
abbrev S512x1024 : Shape := ⟨2, ![512, 1024]⟩
abbrev S704x1024 : Shape := ⟨2, ![704, 1024]⟩
abbrev S512x704 : Shape := ⟨2, ![512, 704]⟩
abbrev S1x512x704 : Shape := ⟨3, ![1, 512, 704]⟩

abbrev nBuf : Space → Nat
  | .hbm => 13
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S4096x1024, .bf16⟩
  | .hbm, ⟨4, _⟩ => ⟨S2816x1024, .f32⟩
  | .hbm, ⟨5, _⟩ => ⟨S4x704x1024, .f32⟩
  | .hbm, ⟨6, _⟩ => ⟨S4x704x1024, .bf16⟩
  | .hbm, ⟨7, _⟩ => ⟨S2816x1024, .f32⟩
  | .hbm, ⟨8, _⟩ => ⟨S4x704x1024, .f32⟩
  | .hbm, ⟨9, _⟩ => ⟨S4x704x1024, .bf16⟩
  | .hbm, ⟨10, _⟩ => ⟨S4x4096x704, .bf16⟩
  | .hbm, ⟨11, _⟩ => ⟨S4x4096x704, .bf16⟩
  | .hbm, ⟨12, _⟩ => ⟨S4x4096x704, .bf16⟩
  | .local _ .vmem, ⟨0, _⟩ => ⟨S2048x1024, .bf16⟩
  | .local _ .vmem, ⟨1, _⟩ => ⟨S2048x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S1x2048x704, .bf16⟩
  | .local _ .vmem, ⟨7, _⟩ => ⟨S1x2048x704, .bf16⟩
  | .local _ .vmem, ⟨8, _⟩ => ⟨S1x2048x704, .bf16⟩
  | .local _ .vmem, ⟨9, _⟩ => ⟨S1x2048x704, .bf16⟩
  | .local _ .vmem, ⟨10, _⟩ => ⟨S1x2048x704, .bf16⟩
  | .local _ .vmem, ⟨11, _⟩ => ⟨S1x2048x704, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v7_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnUpReferenceIdeal.lean ====
abbrev S4096x1024 : Shape := ⟨2, ![4096, 1024]⟩
abbrev S1024x2816 : Shape := ⟨2, ![1024, 2816]⟩
abbrev S4096x2816 : Shape := ⟨2, ![4096, 2816]⟩
abbrev S_ : Shape := ⟨0, ![]⟩
abbrev S4096x4x704 : Shape := ⟨3, ![4096, 4, 704]⟩
abbrev S4x4096x704 : Shape := ⟨3, ![4, 4096, 704]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S4096x4x704, .f32⟩
  | .hbm, ⟨16, _⟩ => ⟨S4x4096x704, .f32⟩
  | .hbm, ⟨17, _⟩ => ⟨S4x4096x704, .bf16⟩
  | .hbm, ⟨18, _⟩ => ⟨S4096x4x704, .f32⟩
  | .hbm, ⟨19, _⟩ => ⟨S4x4096x704, .f32⟩
  | .hbm, ⟨20, _⟩ => ⟨S4x4096x704, .bf16⟩
  | .hbm, ⟨21, _⟩ => ⟨S4096x4x704, .f32⟩
  | .hbm, ⟨22, _⟩ => ⟨S4x4096x704, .f32⟩
  | .hbm, ⟨23, _⟩ => ⟨S4x4096x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩

abbrev nD : Nat := 1
abbrev τ : Topo := Topo.v7x

variable {F : FTy → Type} [FloatOps F]
-- ==== MixKernel.lean ====
abbrev S4096x512 : Shape := ⟨2, ![4096, 512]⟩
abbrev S4096x1024 : Shape := ⟨2, ![4096, 1024]⟩
abbrev S4096x9728 : Shape := ⟨2, ![4096, 9728]⟩
abbrev S512x1024 : Shape := ⟨2, ![512, 1024]⟩
abbrev S1024x1024 : Shape := ⟨2, ![1024, 1024]⟩
abbrev S1x1024 : Shape := ⟨2, ![1, 1024]⟩
abbrev S512x512 : Shape := ⟨2, ![512, 512]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩

abbrev nBuf : Space → Nat
  | .hbm => 19
  | .vmem => 24
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x9728, .f32⟩
  | .hbm, ⟨3, _⟩ => ⟨S512x1024, .f32⟩
  | .hbm, ⟨4, _⟩ => ⟨S1024x1024, .f32⟩
  | .hbm, ⟨5, _⟩ => ⟨S1024x1024, .f32⟩
  | .hbm, ⟨6, _⟩ => ⟨S4096x1024, .f32⟩
  | .hbm, ⟨7, _⟩ => ⟨S1x1024, .f32⟩
  | .hbm, ⟨8, _⟩ => ⟨S4096x512, .bf16⟩
  | .hbm, ⟨9, _⟩ => ⟨S4096x1024, .bf16⟩
  | .hbm, ⟨10, _⟩ => ⟨S4096x9728, .bf16⟩
  | .hbm, ⟨11, _⟩ => ⟨S512x1024, .bf16⟩
  | .hbm, ⟨12, _⟩ => ⟨S1024x1024, .bf16⟩
  | .hbm, ⟨13, _⟩ => ⟨S1024x1024, .bf16⟩
  | .hbm, ⟨14, _⟩ => ⟨S4096x1024, .bf16⟩
  | .hbm, ⟨15, _⟩ => ⟨S4096x1024, .bf16⟩
  | .hbm, ⟨16, _⟩ => ⟨S4096x1024, .bf16⟩
  | .hbm, ⟨17, _⟩ => ⟨S4096x1024, .f32⟩
  | .hbm, ⟨18, _⟩ => ⟨S4096x1024, .bf16⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S1024x1024, .bf16⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .vmem, ⟨23, _⟩ => ⟨S512x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c512_i32 : BitVec 32 := 512#32
  let v0 : BitVec 32 := Scalar.muli arg0 c512_i32
  let c7680_i32 : BitVec 32 := 7680#32
  let c0_i32 : BitVec 32 := 0#32
  ![v0.toNat, c7680_i32.toNat]

def cc0_transform_3 (i : grid0.Coords) : Fin 2 → Nat :=
  let arg0 : BitVec 32 := BitVec.ofNat 32 (i 0).val
  let c512_i32 : BitVec 32 := 512#32
  let v0 : BitVec 32 := Scalar.muli arg0 c512_i32
  let c8704_i32 : BitVec 32 := 8704#32
  let c0_i32 : BitVec 32 := 0#32
  ![v0.toNat, c8704_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MixReferenceIdeal.lean ====
abbrev S4096x512 : Shape := ⟨2, ![4096, 512]⟩
abbrev S4096x1024 : Shape := ⟨2, ![4096, 1024]⟩
abbrev S4096x9728 : Shape := ⟨2, ![4096, 9728]⟩
abbrev S512x1024 : Shape := ⟨2, ![512, 1024]⟩
abbrev S1024x1024 : Shape := ⟨2, ![1024, 1024]⟩
abbrev S1x1024 : Shape := ⟨2, ![1, 1024]⟩
abbrev S_ : Shape := ⟨0, ![]⟩
abbrev S1024 : Shape := ⟨1, ![1024]⟩
abbrev S4096 : Shape := ⟨1, ![4096]⟩
abbrev S4096x1 : Shape := ⟨2, ![4096, 1]⟩

abbrev nBuf : Space → Nat
  | .hbm => 54
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x9728, .f32⟩
  | .hbm, ⟨3, _⟩ => ⟨S512x1024, .f32⟩
  | .hbm, ⟨4, _⟩ => ⟨S1024x1024, .f32⟩
  | .hbm, ⟨5, _⟩ => ⟨S1024x1024, .f32⟩
  | .hbm, ⟨6, _⟩ => ⟨S4096x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .bf16⟩
  | .hbm, ⟨34, _⟩ => ⟨S4096x1024, .bf16⟩
  | .hbm, ⟨35, _⟩ => ⟨S4096x1024, .bf16⟩
  | .hbm, ⟨36, _⟩ => ⟨S1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S4096x1, .f32⟩
  | .hbm, ⟨48, _⟩ => ⟨S4096x1024, .f32⟩
  | .hbm, ⟨49, _⟩ => ⟨S4096x1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]
-- ==== Proof.Spec.lean ====
/-
  The gradient of the feed-forward half of a layer over the reals, as one list of formulas: the root-mean-square
  normalisation's scale, the two projections, the gate, the gradients of gate and up, of the normalised input, of the
  input and of the gain. Both programs are read against this list. The real identities they differ by are here too: the
  gate written with a hyperbolic tangent, the gate's derivative factored, the two forms of the normalisation's gradient,
  and a sum over 2816 columns cut into four shards of 704.
-/
module

public import Idealize.ShloMosaic.PureOps.Ideal
public import Idealize.ShloMosaic.Lib.Pointwise

@[expose] public section

noncomputable section

namespace Cert.Proof.Grad

open scoped BigOperators
open Idealize.ShloMosaic

/-! ### Sums of reals inside the extended reals, and the constants of the two programs -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The normalisation's guard, the single-precision number nearest a millionth. -/
def eps : ℝ := 8796093 / 8796093022208

theorem eps_pos : 0 < eps := by unfold eps; norm_num

theorem ofBits_eps : Ideal.ofBits .f32 0x358637BD#32 = ((eps : ℝ) : EReal) := by
  simp [Ideal.ofBits, Ideal.ieee, -EReal.coe_mul, eps]; norm_num
theorem ofBits_width : Ideal.ofBits .f32 0x44800000#32 = ((1024 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul]; norm_num

theorem div_coe_coe (a : ℝ) {b : ℝ} (hb : b ≠ 0) : Ideal.div (a : EReal) (b : EReal) = ((a / b : ℝ) : EReal) := by
  rw [Ideal.div_coe hb, ← EReal.coe_mul, mul_one_div]

theorem rsqrt_of_pos {a : ℝ} (ha : 0 < a) : Ideal.rsqrt (a : EReal) = (((Real.sqrt a)⁻¹ : ℝ) : EReal) := by
  rw [Ideal.rsqrt_coe, if_neg (not_lt.2 ha.le), if_neg ha.ne']

/-! ### The formulas -/

/-- Column `j` of shard `s` among the 2816. -/
def col (s : Fin 4) (j : Fin 704) : Fin 2816 := ⟨s.val * 704 + j.val, by have := s.isLt; have := j.isLt; omega⟩

/-- The mean square of a row, guarded. -/
def ms (a : Fin 1024 → ℝ) : ℝ := (∑ k, a k * a k) / 1024 + eps

theorem ms_pos (a : Fin 1024 → ℝ) : 0 < ms a :=
  add_pos_of_nonneg_of_pos (div_nonneg (Finset.sum_nonneg fun k _ => mul_self_nonneg _) (by norm_num)) eps_pos

/-- The scale of a row: one over the root of its guarded mean square. -/
def rs (a : Fin 1024 → ℝ) : ℝ := (Real.sqrt (ms a))⁻¹

/-- The scale as both programs compute it. -/
theorem rsqrt_ms (a : Fin 1024 → ℝ) :
    Ideal.rsqrt (Ideal.div ((∑ k, a k * a k : ℝ) : EReal) (Ideal.ofBits .f32 0x44800000#32) + Ideal.ofBits .f32 0x358637BD#32)
      = (rs a : EReal) := by
  simp only [ofBits_eps, ofBits_width, div_coe_coe _ (by norm_num : (1024 : ℝ) ≠ 0), ← EReal.coe_add]
  exact rsqrt_of_pos (ms_pos a)

/-- The gate's logistic. -/
def sg (z : ℝ) : ℝ := (1 + Real.exp (-z))⁻¹

/-- The gate's gradient at one element, from the activation's gradient `a`, gate `z` and up `u`. -/
def dgate (a z u : ℝ) : ℝ := a * u * sg z * (1 + z * (1 - sg z))

/-- Up's gradient at one element. -/
def dup (a z : ℝ) : ℝ := a * z * sg z

/-- The input's gradient at one element of a row: `a` the row, `y` its normalised input's gradient times the gain. -/
def dnorm (a y : Fin 1024 → ℝ) (k : Fin 1024) : ℝ :=
  rs a * (y k - a k * rs a * ((∑ l, y l * (a l * rs a)) / 1024))

/-- The arguments: the input rows, the gain, the three weight matrices and the gradient that arrives. -/
structure Data where
  x : Fin 4096 → Fin 1024 → ℝ
  g : Fin 1024 → ℝ
  wg : Fin 1024 → Fin 2816 → ℝ
  wu : Fin 1024 → Fin 2816 → ℝ
  wd : Fin 2816 → Fin 1024 → ℝ
  dy : Fin 4096 → Fin 1024 → ℝ

namespace Data
variable (D : Data)

/-- The normalised input. -/
def h (t : Fin 4096) (k : Fin 1024) : ℝ := D.x t k * rs (D.x t) * D.g k
def gate (t : Fin 4096) (n : Fin 2816) : ℝ := ∑ k, D.h t k * D.wg k n
def up (t : Fin 4096) (n : Fin 2816) : ℝ := ∑ k, D.h t k * D.wu k n
/-- The activation's gradient. -/
def da (t : Fin 4096) (n : Fin 2816) : ℝ := ∑ k, D.dy t k * D.wd n k
def dg (t : Fin 4096) (n : Fin 2816) : ℝ := dgate (D.da t n) (D.gate t n) (D.up t n)
def du (t : Fin 4096) (n : Fin 2816) : ℝ := dup (D.da t n) (D.gate t n)
/-- The normalised input's gradient. -/
def dh (t : Fin 4096) (k : Fin 1024) : ℝ := ∑ n, D.dg t n * D.wg k n + ∑ n, D.du t n * D.wu k n
/-- The input's gradient, with the gradient that arrives. -/
def dx (t : Fin 4096) (k : Fin 1024) : ℝ := D.dy t k + dnorm (D.x t) (fun l => D.dh t l * D.g l) k
/-- The gain's gradient. -/
def dgain (k : Fin 1024) : ℝ := ∑ t, D.dh t k * (D.x t k * rs (D.x t))

end Data

/-! ### The identities -/

/-- The logistic through the hyperbolic tangent of half the argument. -/
theorem sg_tanh (z : ℝ) : 1 / 2 * Real.tanh (1 / 2 * z) + 1 / 2 = sg z := by
  have h1 : Real.exp (-z) = Real.exp (-(1 / 2 * z)) * Real.exp (-(1 / 2 * z)) := by rw [← Real.exp_add]; congr 1; ring
  have h2 : Real.exp (1 / 2 * z) * Real.exp (-(1 / 2 * z)) = 1 := by rw [← Real.exp_add]; simp
  have p1 := Real.exp_pos (1 / 2 * z)
  have p2 := Real.exp_pos (-(1 / 2 * z))
  rw [sg, Real.tanh_eq_sinh_div_cosh, Real.sinh_eq, Real.cosh_eq, h1]
  generalize Real.exp (1 / 2 * z) = a at *
  generalize Real.exp (-(1 / 2 * z)) = b at *
  have : (1 + b * b) = b * (a + b) := by linear_combination (-1) * h2
  rw [this]
  have hs : a + b ≠ 0 := by positivity
  have hb : b ≠ 0 := p2.ne'
  field_simp
  linear_combination 2 * h2

/-- The gate's gradient as the sum of the two terms the product rule gives. -/
theorem dgate_two_terms (a z u : ℝ) : a * u * sg z + z * (a * u) * (sg z * (1 - sg z)) = dgate a z u := by
  rw [dgate]; ring

theorem rs_div_ms (a : Fin 1024 → ℝ) : rs a / ms a = rs a * (rs a * rs a) := by
  have h : Real.sqrt (ms a) * Real.sqrt (ms a) = ms a := Real.mul_self_sqrt (ms_pos a).le
  rw [div_eq_mul_inv]; congr 1
  rw [rs, ← mul_inv, h]

/-- The normalisation's gradient as the chain rule through the scale writes it. -/
theorem dnorm_chain (a y : Fin 1024 → ℝ) (k : Fin 1024) :
    y k * rs a + a k * ((∑ l, a l * y l) * (-(1 / 2) * (rs a / ms a)) / 1024)
      + (∑ l, a l * y l) * (-(1 / 2) * (rs a / ms a)) / 1024 * a k = dnorm a y k := by
  have h : ∑ l, y l * (a l * rs a) = rs a * ∑ l, a l * y l := by
    rw [Finset.mul_sum]; exact Finset.sum_congr rfl fun l _ => by ring
  rw [dnorm, h, rs_div_ms]; ring

/-- A sum over the columns, shard by shard. -/
theorem sum_cols (f : Fin 2816 → ℝ) :
    ∑ n, f n = ∑ j, f (col 0 j) + ∑ j, f (col 1 j) + ∑ j, f (col 2 j) + ∑ j, f (col 3 j) := by
  rw [Fin.sum_univ_tiles 4 704 rfl f, Fin.sum_univ_four]; rfl

end Cert.Proof.Grad

end
-- ==== Proof.Finite.lean ====
/-
  The precondition read: every argument's magnitudes are below infinity, so every element is a real number, and the six
  arrays are the six families of reals the mathematics is stated over.
-/
module

public import proofs.«01_k».proof.Defs
public import proofs.«01_k».proof.Proof.Spec
public import Idealize.ShloMosaic.Lib.Pointwise
public import Idealize.ShloMosaic.Lib.Claim

@[expose] public section

set_option maxRecDepth 16384

noncomputable section

namespace Cert.Proof.Fin

open Idealize.ShloMosaic Idealize.SL.Sem Cert.Proof.Grad Cert.Pre_finite

instance facts : Cert.Pre_finite.Facts where
  bcast_S_S4096x1024 := by decide
  bcast_S_S1x1024 := by decide
  bcast_S_S1024x2816 := by decide
  bcast_S_S2816x1024 := by decide

/-- A value whose magnitude is below infinity is the real number it is sent to. -/
theorem real_of_lt (x : EReal) (h : Ideal.cmp .olt (max x (-x)) (Ideal.ofBits .f32 0x7F800000#32) = 1#1) : x = (x.toReal : EReal) := by
  have htop : Ideal.ofBits .f32 0x7F800000#32 = ⊤ := by simp [Ideal.ofBits, Ideal.ieee]
  rw [htop] at h
  have hlt : max x (-x) < ⊤ := by
    by_contra hn
    simp [Ideal.cmp, hn] at h
  refine (EReal.coe_toReal ?_ ?_).symm
  · rintro rfl; simp at hlt
  · rintro rfl; simp at hlt

/-- The same for an array: the comparison's ones are its elements' finiteness. -/
theorem real_of_ones {s : Shape} (a : FVec Ideal s .f32) (hb : S_.BroadcastsInDim s ![])
    (h : cmpf .olt (Host.absf a) (broadcastInDim s ![] hb (constant S_ .f32 0x7F800000#32)) = fun _ => 1#1) (i : s.Idx) :
    a i = ((a i : EReal).toReal : EReal) :=
  real_of_lt _ (congrFun h i)

/-- The reals the six arrays hold. -/
def data (a0 a5 : FVec Ideal S4096x1024 .f32) (a1 : FVec Ideal S1x1024 .f32) (a2 a3 : FVec Ideal S1024x2816 .f32)
    (a4 : FVec Ideal S2816x1024 .f32) : Data where
  x t k := (a0 (ix2 t k) : EReal).toReal
  g k := (a1 (ix2 0 k) : EReal).toReal
  wg k n := (a2 (ix2 k n) : EReal).toReal
  wu k n := (a3 (ix2 k n) : EReal).toReal
  wd n k := (a4 (ix2 n k) : EReal).toReal
  dy t k := (a5 (ix2 t k) : EReal).toReal

end Cert.Proof.Fin

end
-- ==== Proof.Frames.lean ====
/-
  The runs of the three programs with their counters at zero.
-/
module

public import proofs.«01_k».proof.Defs
public import proofs.«01_k».proof.Proof.Finite
public import proofs.«01_k».proof.Proof.Gen.Kernel.Frame
public import proofs.«01_k».proof.Proof.Gen.KernelIdeal.Frame
public import proofs.«01_k».proof.Proof.Gen.ReferenceIdeal.Run

@[expose] public section

set_option maxRecDepth 16384

noncomputable section

namespace Cert.Proof

open Idealize.ShloMosaic Idealize.SL.Sem

theorem frame_kernel : Cert.quiescent_Kernel (hKernel := Cert.Kernel.Gen.facts) := fun m g _ => Cert.Kernel.Gen.frame m g

theorem frame_kernelIdeal : Cert.quiescent_KernelIdeal (hKernelIdeal := Cert.KernelIdeal.Gen.facts) :=
  fun m g _ => Cert.KernelIdeal.Gen.frame m g

theorem frame_kernelIdeal_finite : Cert.quiescent_KernelIdeal_pre_finite (hKernelIdeal := Cert.KernelIdeal.Gen.facts)
    (hPre_finite := Fin.facts) :=
  fun m g _ => Cert.KernelIdeal.Gen.frame m g

theorem frame_referenceIdeal : Cert.quiescent_ReferenceIdeal (hReferenceIdeal := Cert.ReferenceIdeal.Gen.facts) := by
  intro m g _
  exact (θ_run Cert.ReferenceIdeal.defs _ _).mono
    (fun r h => ⟨fun c => (h c).2.2.2.2.2, Idealize.ShloMosaic.sem_eq_zero_of_no_sems (by decide) r.2⟩)
    (Cert.ReferenceIdeal.Value.run m g)

theorem frame_referenceIdeal_finite : Cert.quiescent_ReferenceIdeal_pre_finite
    (hReferenceIdeal := Cert.ReferenceIdeal.Gen.facts) (hPre_finite := Fin.facts) :=
  fun m g _ => frame_referenceIdeal m g trivial

end Cert.Proof

end
-- ==== Proof.RefAt.lean ====
/-
  What the reference program leaves, element by element: its intermediate arrays named in the order the program makes
  them, each read at an index from arguments that are real numbers.
-/
module

public import proofs.«01_k».proof.Proof.Spec
public import proofs.«01_k».proof.Proof.Gen.ReferenceIdeal.Run

@[expose] public section

set_option maxRecDepth 16384

noncomputable section

namespace Cert.Proof.Ref

open Cert.ReferenceIdeal Cert.ReferenceIdeal.Gen Idealize.ShloMosaic Cert.Proof.Grad
open scoped BigOperators

variable (a0 a5 : FVec Ideal S4096x1024 .f32) (a1 : FVec Ideal S1x1024 .f32) (a2 a3 : FVec Ideal S1024x2816 .f32)
  (a4 : FVec Ideal S2816x1024 .f32)

/-! ### The program's arrays -/

def wv : FVec Ideal S4096x1 .f32 := addf (Host.divf (broadcastInDim S4096x1 ![0] bcast_S4096_S4096x1_0 (Host.reduceAdd (mulf a0 a0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))
def wr : FVec Ideal S4096x1 .f32 := Host.rsqrt (wv a0)
/-- The derivative of the scale by the mean square. -/
def wp : FVec Ideal S4096x1 .f32 := mulf (broadcastInDim S4096x1 ![] bcast_S_S4096x1 (constant S_ .f32 0xBF000000#32)) (Host.divf (wr a0) (wv a0))
def wx : FVec Ideal S4096x1024 .f32 := mulf a0 (broadcastInDim S4096x1024 ![0, 1] bcast_S4096x1_S4096x1024_0_1 (wr a0))
def wgain : FVec Ideal S4096x1024 .f32 := broadcastInDim S4096x1024 ![0, 1] bcast_S1x1024_S4096x1024_0_1 (broadcastInDim S1x1024 ![1] bcast_S1024_S1x1024_1 (shapeCast _ a1 shapeCasts_S1x1024_S1024))
def wh : FVec Ideal S4096x1024 .f32 := mulf (wx a0) (wgain a1)
def wgate : FVec Ideal S4096x2816 .f32 := Host.dotGeneral dot_S4096x1024_S1024x2816_S4096x2816_1_0_0_1_n_n none (wh a0 a1) a2
def wsg : FVec Ideal S4096x2816 .f32 := Host.divf (broadcastInDim S4096x2816 ![] bcast_S_S4096x2816 (constant S_ .f32 0x3F800000#32)) (addf (broadcastInDim S4096x2816 ![] bcast_S_S4096x2816 (constant S_ .f32 0x3F800000#32)) (Host.exp (Host.negf (wgate a0 a1 a2))))
def wda : FVec Ideal S4096x2816 .f32 := Host.dotGeneral dot_S4096x1024_S2816x1024_S4096x2816_1_1_0_0_n_n none a5 a4
def wdu : FVec Ideal S4096x2816 .f32 := mulf (mulf (wgate a0 a1 a2) (wsg a0 a1 a2)) (wda a5 a4)
def wdg : FVec Ideal S4096x2816 .f32 := addf (mulf (mulf (wda a5 a4) (wgate a0 a1 a3)) (wsg a0 a1 a2)) (mulf (mulf (wgate a0 a1 a2) (mulf (wda a5 a4) (wgate a0 a1 a3))) (mulf (wsg a0 a1 a2) (subf (broadcastInDim S4096x2816 ![] bcast_S_S4096x2816 (constant S_ .f32 0x3F800000#32)) (wsg a0 a1 a2))))
def wdh : FVec Ideal S4096x1024 .f32 := addf (Host.dotGeneral dot_S4096x2816_S1024x2816_S4096x1024_1_1_0_0_n_n none (wdu a0 a5 a1 a2 a4) a3) (Host.dotGeneral dot_S4096x2816_S1024x2816_S4096x1024_1_1_0_0_n_n none (wdg a0 a5 a1 a2 a3 a4) a2)
def wdgain : FVec Ideal S1x1024 .f32 := broadcastInDim S1x1024 ![1] bcast_S1024_S1x1024_1 (Host.reduceAdd (shapeCast S1x1024 (Host.reduceAdd (mulf (wx a0) (wdh a0 a5 a1 a2 a3 a4)) (constant S_ .f32 0x00000000#32) reducesTo_S4096x1024_S1024_d0 h_S_) shapeCasts_S1024_S1x1024) (constant S_ .f32 0x00000000#32) reducesTo_S1x1024_S1024_d0 h_S_)
def wdy : FVec Ideal S4096x1024 .f32 := mulf (wdh a0 a5 a1 a2 a3 a4) (wgain a1)
/-- The mean square's gradient, over the number of columns. -/
def wq : FVec Ideal S4096x1024 .f32 := broadcastInDim S4096x1024 ![0] bcast_S4096_S4096x1024_0 (Host.reduceAdd (Host.divf (mulf (shapeCast S4096x1 (Host.reduceAdd (mulf a0 (wdy a0 a5 a1 a2 a3 a4)) (constant S_ .f32 0x00000000#32) reducesTo_S4096x1024_S4096_d1 h_S_) shapeCasts_S4096_S4096x1) (wp a0)) (broadcastInDim S4096x1 ![] bcast_S_S4096x1 (constant S_ .f32 0x44800000#32))) (constant S_ .f32 0x00000000#32) reducesTo_S4096x1_S4096_d1 h_S_)
def wdx : FVec Ideal S4096x1024 .f32 := addf a5 (addf (addf (mulf (wdy a0 a5 a1 a2 a3 a4) (broadcastInDim S4096x1024 ![0, 1] bcast_S4096x1_S4096x1024_0_1 (wr a0))) (mulf a0 (wq a0 a5 a1 a2 a3 a4))) (mulf (wq a0 a5 a1 a2 a3 a4) a0))
/-- An array of 2816 columns as four shards of 704. -/
def wshards (w : FVec Ideal S4096x2816 .f32) : FVec Ideal S4x4096x704 .bf16 := truncf .bf16 (transpose S4x4096x704 [1, 0, 2] (shapeCast S4096x4x704 w shapeCasts_S4096x2816_S4096x4x704) transposes_S4096x4x704_S4x4096x704_1_0_2) bitsLt_bf16_f32

/-! ### The arrays at an index, for arguments that are reals -/

/-- The six arguments hold the real numbers of `D`. -/
structure Holds (D : Data) : Prop where
  h0 : ∀ t k, a0 (ix2 t k) = (D.x t k : EReal)
  h1 : ∀ k, a1 (ix2 0 k) = (D.g k : EReal)
  h2 : ∀ k n, a2 (ix2 k n) = (D.wg k n : EReal)
  h3 : ∀ k n, a3 (ix2 k n) = (D.wu k n : EReal)
  h4 : ∀ n k, a4 (ix2 n k) = (D.wd n k : EReal)
  h5 : ∀ t k, a5 (ix2 t k) = (D.dy t k : EReal)

variable {a0 a1 a2 a3 a4 a5} {D : Data} (H : Holds a0 a5 a1 a2 a3 a4 D)
include H

theorem wv_at (t : Fin 4096) : wv a0 (ix2 t 0) = (ms (D.x t) : EReal) := by
  pointwise [wv, H.h0]
  simp only [ofBits_eps, ofBits_width, ← EReal.coe_mul, ← coe_sum, div_coe_coe _ (by norm_num : (1024 : ℝ) ≠ 0), ← EReal.coe_add, ms]

theorem wr_at (t : Fin 4096) : wr a0 (ix2 t 0) = (rs (D.x t) : EReal) := by
  pointwise [wr, wv_at H]
  rw [rsqrt_of_pos (ms_pos _), rs]

theorem wp_at (t : Fin 4096) : wp a0 (ix2 t 0) = ((-(1 / 2) * (rs (D.x t) / ms (D.x t)) : ℝ) : EReal) := by
  pointwise [wp, wv_at H, wr_at H]
  simp only [ofBits_neg_half, div_coe_coe _ (ms_pos _).ne', ← EReal.coe_mul]

theorem wx_at (t : Fin 4096) (k : Fin 1024) : wx a0 (ix2 t k) = ((D.x t k * rs (D.x t) : ℝ) : EReal) := by
  pointwise [wx, wr_at H, H.h0]
  simp only [← EReal.coe_mul]

theorem wgain_at (t : Fin 4096) (k : Fin 1024) : wgain a1 (ix2 t k) = (D.g k : EReal) := by
  pointwise [wgain, H.h1]

theorem wh_at (t : Fin 4096) (k : Fin 1024) : wh a0 a1 (ix2 t k) = (D.h t k : EReal) := by
  pointwise [wh, wx_at H, wgain_at H]
  simp only [← EReal.coe_mul, Data.h]

theorem wgate_at (t : Fin 4096) (n : Fin 2816) : wgate a0 a1 a2 (ix2 t n) = (D.gate t n : EReal) := by
  pointwise [wgate, wh_at H, H.h2]
  simp only [← EReal.coe_mul, ← coe_sum, Data.gate]

theorem wup_at (t : Fin 4096) (n : Fin 2816) : wgate a0 a1 a3 (ix2 t n) = (D.up t n : EReal) := by
  pointwise [wgate, wh_at H, H.h3]
  simp only [← EReal.coe_mul, ← coe_sum, Data.up]

theorem wsg_at (t : Fin 4096) (n : Fin 2816) : wsg a0 a1 a2 (ix2 t n) = (sg (D.gate t n) : EReal) := by
  pointwise [wsg, wgate_at H]
  have h : (1 + Real.exp (-D.gate t n)) ≠ 0 := by positivity
  simp only [← EReal.coe_one, ← EReal.coe_neg, Ideal.exp_coe, ← EReal.coe_add, div_coe_coe _ h, sg, one_div]

theorem wda_at (t : Fin 4096) (n : Fin 2816) : wda a5 a4 (ix2 t n) = (D.da t n : EReal) := by
  pointwise [wda, H.h4, H.h5]
  simp only [← EReal.coe_mul, ← coe_sum, Data.da]

theorem wdu_at (t : Fin 4096) (n : Fin 2816) : wdu a0 a5 a1 a2 a4 (ix2 t n) = (D.du t n : EReal) := by
  pointwise [wdu, wgate_at H, wsg_at H, wda_at H]
  simp only [← EReal.coe_mul, Data.du, dup]
  congr 1; ring

theorem wdg_at (t : Fin 4096) (n : Fin 2816) : wdg a0 a5 a1 a2 a3 a4 (ix2 t n) = (D.dg t n : EReal) := by
  pointwise [wdg, wgate_at H, wup_at H, wsg_at H, wda_at H]
  simp only [← EReal.coe_one, ← EReal.coe_mul, ← EReal.coe_sub, ← EReal.coe_add, Data.dg, dgate_two_terms]

theorem wdh_at (t : Fin 4096) (k : Fin 1024) : wdh a0 a5 a1 a2 a3 a4 (ix2 t k) = (D.dh t k : EReal) := by
  pointwise [wdh, wdu_at H, wdg_at H, H.h2, H.h3]
  simp only [← EReal.coe_mul, ← coe_sum, ← EReal.coe_add, Data.dh]
  rw [add_comm]

theorem wdgain_at (k : Fin 1024) : wdgain a0 a5 a1 a2 a3 a4 (ix2 0 k) = (D.dgain k : EReal) := by
  pointwise [wdgain, wdh_at H, wx_at H]
  simp only [Fin.sum_univ_one, ← EReal.coe_mul, ← coe_sum, Data.dgain, mul_comm]

theorem wdy_at (t : Fin 4096) (k : Fin 1024) : wdy a0 a5 a1 a2 a3 a4 (ix2 t k) = ((D.dh t k * D.g k : ℝ) : EReal) := by
  pointwise [wdy, wdh_at H, wgain_at H]
  simp only [← EReal.coe_mul]

theorem wq_at (t : Fin 4096) (k : Fin 1024) : wq a0 a5 a1 a2 a3 a4 (ix2 t k)
    = (((∑ l, D.x t l * (D.dh t l * D.g l)) * (-(1 / 2) * (rs (D.x t) / ms (D.x t))) / 1024 : ℝ) : EReal) := by
  pointwise [wq, wdy_at H, H.h0]
  simp only [Fin.sum_univ_one, wp_at H, ofBits_width, ← EReal.coe_mul, ← coe_sum, div_coe_coe _ (by norm_num : (1024 : ℝ) ≠ 0)]

theorem wdx_at (t : Fin 4096) (k : Fin 1024) : wdx a0 a5 a1 a2 a3 a4 (ix2 t k) = (D.dx t k : EReal) := by
  pointwise [wdx, wdy_at H, wq_at H, wr_at H, H.h0, H.h5]
  simp only [← EReal.coe_mul, ← EReal.coe_add, Data.dx, ← dnorm_chain]

omit H in
theorem wshards_at (w : FVec Ideal S4096x2816 .f32) (f : Fin 4096 → Fin 2816 → ℝ) (hw : ∀ t n, w (ix2 t n) = (f t n : EReal))
    (s : Fin 4) (t : Fin 4096) (j : Fin 704) : wshards w (ix3 s t j) = (f t (col s j) : EReal) := by
  pointwise [wshards, hw, col]

end Cert.Proof.Ref

end
-- ==== Proof.KerPay.lean ====
/-
  The kernel's own arithmetic at one grid point, element by element: from blocks that hold real numbers, what each shard
  writes for the gradients of gate and up, the gradient of the normalised input the four shards add up to, and the
  input's and the gain's gradients of the block.
-/
module

public import proofs.«01_k».proof.Proof.Spec
public import proofs.«01_k».proof.Proof.Gen.KernelIdeal.Skeleton

@[expose] public section

set_option maxRecDepth 16384

noncomputable section

namespace Cert.Proof.Ker

open Cert.KernelIdeal Cert.KernelIdeal.Gen Idealize.ShloMosaic Cert.Proof.Grad
open scoped BigOperators

variable (D : Data) (row : Fin 256 → Fin 4096) (s : Fin 4)

/-! ### One shard's gradients -/

section Shard
variable (v3 : Vec Ideal S256x1024 .bf16) (v5 : Vec Ideal S1x704x1024 .bf16) (vg vu : Vec Ideal S1x256x704 .bf16)

/-- The loaded blocks of shard `s` hold the real numbers of the rows `row`. -/
structure Shard : Prop where
  hy : ∀ r k, v3 (ix2 r k) = (D.dy (row r) k : EReal)
  hd : ∀ j k, v5 (ix3 0 j k) = (D.wd (col s j) k : EReal)
  hg : ∀ r j, vg (ix3 0 r j) = (D.gate (row r) (col s j) : EReal)
  hu : ∀ r j, vu (ix3 0 r j) = (D.up (row r) (col s j) : EReal)

variable {D row s v3 v5 vg vu} (H : Shard D row s v3 v5 vg vu) (r : Fin 256) (j : Fin 704)
include H

theorem pay3_at : k0_pay3 v3 v5 (ix2 r j) = (D.da (row r) (col s j) : EReal) := by
  pointwise [k0_pay3, k0_pay2, H.hy, H.hd]
  simp only [← EReal.coe_mul, ← coe_sum, Data.da]

theorem pay4_at : k0_pay4 v3 v5 (ix2 r j) = (D.da (row r) (col s j) : EReal) := by
  pointwise [k0_pay4, k0_pay2, H.hy, H.hd]
  simp only [← EReal.coe_mul, ← coe_sum, Data.da]

theorem pay5_at : k0_pay5 v3 v5 (ix2 r j) = (D.da (row r) (col s j) : EReal) := by
  pointwise [k0_pay5, k0_pay2, H.hy, H.hd]
  simp only [← EReal.coe_mul, ← coe_sum, Data.da]

theorem pay6_at : k0_pay6 v3 v5 (ix2 r j) = (D.da (row r) (col s j) : EReal) := by
  pointwise [k0_pay6, k0_pay2, H.hy, H.hd]
  simp only [← EReal.coe_mul, ← coe_sum, Data.da]

theorem pay7_at : k0_pay7 vg (ix2 r j) = (D.gate (row r) (col s j) : EReal) := by
  pointwise [k0_pay7, H.hg]

theorem pay8_at : k0_pay8 vg (ix2 r j) = (sg (D.gate (row r) (col s j)) : EReal) := by
  pointwise [k0_pay8, pay7_at H]
  simp only [ofBits_half, ← EReal.coe_mul, ← EReal.coe_add, Ideal.tanh_coe, sg_tanh]

theorem pay14_at : k0_pay14 vg (ix2 r j) = (D.gate (row r) (col s j) : EReal) := by
  pointwise [k0_pay14, H.hg]

theorem pay15_at : k0_pay15 vg (ix2 r j) = (sg (D.gate (row r) (col s j)) : EReal) := by
  pointwise [k0_pay15, pay14_at H]
  simp only [ofBits_half, ← EReal.coe_mul, ← EReal.coe_add, Ideal.tanh_coe, sg_tanh]

theorem pay22_at : k0_pay22 vg (ix2 r j) = (D.gate (row r) (col s j) : EReal) := by
  pointwise [k0_pay22, H.hg]

theorem pay23_at : k0_pay23 vg (ix2 r j) = (sg (D.gate (row r) (col s j)) : EReal) := by
  pointwise [k0_pay23, pay22_at H]
  simp only [ofBits_half, ← EReal.coe_mul, ← EReal.coe_add, Ideal.tanh_coe, sg_tanh]

theorem pay28_at : k0_pay28 vg (ix2 r j) = (D.gate (row r) (col s j) : EReal) := by
  pointwise [k0_pay28, H.hg]

theorem pay29_at : k0_pay29 vg (ix2 r j) = (sg (D.gate (row r) (col s j)) : EReal) := by
  pointwise [k0_pay29, pay28_at H]
  simp only [ofBits_half, ← EReal.coe_mul, ← EReal.coe_add, Ideal.tanh_coe, sg_tanh]

theorem dg0_at : k0_pay10 (k0_pay3 v3 v5) (k0_pay7 vg) (k0_pay8 vg) (k0_pay9 vu) (ix2 r j) = (D.dg (row r) (col s j) : EReal) := by
  pointwise [k0_pay10, k0_pay9, pay3_at H, pay7_at H, pay8_at H, H.hu]
  simp only [← EReal.coe_one, ← EReal.coe_mul, ← EReal.coe_sub, ← EReal.coe_add, Data.dg, dgate]

theorem du0_at : k0_pay11 (k0_pay3 v3 v5) (k0_pay7 vg) (k0_pay8 vg) (ix2 r j) = (D.du (row r) (col s j) : EReal) := by
  pointwise [k0_pay11, pay3_at H, pay7_at H, pay8_at H]
  simp only [← EReal.coe_mul, Data.du, dup]

theorem dg1_at : k0_pay18 (k0_pay16 (k0_pay4 v3 v5) vg vu) (k0_pay17 vg) (ix2 r j) = (D.dg (row r) (col s j) : EReal) := by
  pointwise [k0_pay18, k0_pay16, k0_pay17, pay4_at H, pay14_at H, pay15_at H, H.hu]
  simp only [← EReal.coe_one, ← EReal.coe_mul, ← EReal.coe_sub, ← EReal.coe_add, Data.dg, dgate]

theorem du1_at : k0_pay19 (k0_pay4 v3 v5) (k0_pay14 vg) (k0_pay15 vg) (ix2 r j) = (D.du (row r) (col s j) : EReal) := by
  pointwise [k0_pay19, pay4_at H, pay14_at H, pay15_at H]
  simp only [← EReal.coe_mul, Data.du, dup]

theorem dg2_at : k0_pay24 (k0_pay5 v3 v5) vg vu (ix2 r j) = (D.dg (row r) (col s j) : EReal) := by
  pointwise [k0_pay24, pay5_at H, pay22_at H, pay23_at H, H.hu]
  simp only [← EReal.coe_one, ← EReal.coe_mul, ← EReal.coe_sub, ← EReal.coe_add, Data.dg, dgate]

theorem du2_at : k0_pay25 (k0_pay5 v3 v5) vg (ix2 r j) = (D.du (row r) (col s j) : EReal) := by
  pointwise [k0_pay25, pay5_at H, pay22_at H, pay23_at H]
  simp only [← EReal.coe_mul, Data.du, dup]

theorem dg3_at : k0_pay30 (k0_pay6 v3 v5) vg vu (ix2 r j) = (D.dg (row r) (col s j) : EReal) := by
  pointwise [k0_pay30, pay6_at H, pay28_at H, pay29_at H, H.hu]
  simp only [← EReal.coe_one, ← EReal.coe_mul, ← EReal.coe_sub, ← EReal.coe_add, Data.dg, dgate]

theorem du3_at : k0_pay31 (k0_pay6 v3 v5) vg (ix2 r j) = (D.du (row r) (col s j) : EReal) := by
  pointwise [k0_pay31, pay6_at H, pay28_at H, pay29_at H]
  simp only [← EReal.coe_mul, Data.du, dup]

end Shard

/-! ### The normalised input's gradient: four shards, two products each -/

section Input
variable (g0 u0 g1 u1 g2 u2 g3 u3 : FVec Ideal S256x704 .bf16) (p0 q0 p1 q1 p2 q2 p3 q3 : Vec Ideal S1x704x1024 .bf16)

/-- A shard's two gradients and its two weight blocks hold the real numbers. -/
structure Pair (s : Fin 4) (gs us : FVec Ideal S256x704 .bf16) (ps qs : Vec Ideal S1x704x1024 .bf16) : Prop where
  hg : ∀ r j, gs (ix2 r j) = (D.dg (row r) (col s j) : EReal)
  hu : ∀ r j, us (ix2 r j) = (D.du (row r) (col s j) : EReal)
  hp : ∀ j k, ps (ix3 0 j k) = (D.wg k (col s j) : EReal)
  hq : ∀ j k, qs (ix3 0 j k) = (D.wu k (col s j) : EReal)

variable {D row g0 u0 g1 u1 g2 u2 g3 u3 p0 q0 p1 q1 p2 q2 p3 q3}
  (H0 : Pair D row 0 g0 u0 p0 q0) (H1 : Pair D row 1 g1 u1 p1 q1) (H2 : Pair D row 2 g2 u2 p2 q2) (H3 : Pair D row 3 g3 u3 p3 q3)
include H0 H1 H2 H3

theorem dh_at (r : Fin 256) (k : Fin 1024) :
    k0_pay36 u3 (k0_pay34 g0 u0 g1 u1 g2 u2 g3 p0 q0 p1 q1 p2 q2 p3) (k0_pay35 q3) (constant S256x1024 .f32 0x00000000#32) (ix2 r k)
      = (D.dh (row r) k : EReal) := by
  pointwise [k0_pay36, k0_pay34, k0_pay35, H0.hg, H0.hu, H0.hp, H0.hq, H1.hg, H1.hu, H1.hp, H1.hq, H2.hg, H2.hu, H2.hp, H2.hq,
    H3.hg, H3.hu, H3.hp, H3.hq]
  simp only [← EReal.coe_mul, ← coe_sum, ← EReal.coe_add, Data.dh]
  rw [sum_cols, sum_cols]
  congr 1; ring

end Input

/-! ### The normalisation's gradient and the gain's -/

section Norm
variable (v134 : FVec Ideal S256x704 .bf16) (v167 : FVec Ideal S256x1024 .f32) (v169 : FVec Ideal S704x1024 .bf16)
  (z : FVec Ideal S256x1024 .f32) (vx : Vec Ideal S256x1024 .f32) (vgain acc : Vec Ideal S1x1024 .f32) (vy : Vec Ideal S256x1024 .f32)
variable {D row v134 v167 v169 z vx vgain acc vy}

theorem rs_at (hx : ∀ r k, vx (ix2 r k) = (D.x (row r) k : EReal)) (r : Fin 256) :
    k0_pay37 vx (ix2 r 0) = (rs (D.x (row r)) : EReal) := by
  pointwise [k0_pay37, hx]
  simp only [ofBits_eps, ofBits_width, ← EReal.coe_mul, ← coe_sum, div_coe_coe _ (by norm_num : (1024 : ℝ) ≠ 0), ← EReal.coe_add]
  exact rsqrt_of_pos (ms_pos (D.x (row r)))

theorem xh_at (hx : ∀ r k, vx (ix2 r k) = (D.x (row r) k : EReal)) (r : Fin 256) (k : Fin 1024) :
    k0_pay38 vx (ix2 r k) = ((D.x (row r) k * rs (D.x (row r)) : ℝ) : EReal) := by
  pointwise [k0_pay38, hx, rs_at hx]
  simp only [← EReal.coe_mul]

/-- The block's part of the gain's gradient, added to what the buffer held. -/
theorem gain_at (hx : ∀ r k, vx (ix2 r k) = (D.x (row r) k : EReal))
    (hh : ∀ r k, k0_pay36 v134 v167 v169 z (ix2 r k) = (D.dh (row r) k : EReal)) (k : Fin 1024) :
    k0_pay39 v134 v167 v169 z vx acc (ix2 0 k)
      = acc (ix2 0 k) + ((∑ r, D.dh (row r) k * (D.x (row r) k * rs (D.x (row r))) : ℝ) : EReal) := by
  pointwise [k0_pay39, xh_at hx, hh]
  simp only [← EReal.coe_mul, ← coe_sum]

theorem dx_at (hx : ∀ r k, vx (ix2 r k) = (D.x (row r) k : EReal))
    (hh : ∀ r k, k0_pay36 v134 v167 v169 z (ix2 r k) = (D.dh (row r) k : EReal))
    (hg : ∀ k, vgain (ix2 0 k) = (D.g k : EReal)) (hy : ∀ r k, vy (ix2 r k) = (D.dy (row r) k : EReal)) (r : Fin 256) (k : Fin 1024) :
    k0_pay40 v134 v167 v169 z vx vgain vy (ix2 r k) = (D.dx (row r) k : EReal) := by
  pointwise [k0_pay40, xh_at hx, rs_at hx, hh, hg, hy]
  simp only [ofBits_width, ← EReal.coe_mul, ← coe_sum, div_coe_coe _ (by norm_num : (1024 : ℝ) ≠ 0), ← EReal.coe_sub, ← EReal.coe_add,
    Data.dx, dnorm]

end Norm

end Cert.Proof.Ker

end
-- ==== Proof.KerEntry.lean ====
/-
  What the host code hands the kernel, element by element: the weight matrices cut into four shards, the gradient that
  arrives, and the gate and up projections of the normalised rows, for arguments that are real numbers.
-/
module

public import proofs.«01_k».proof.Proof.Spec
public import proofs.«01_k».proof.Proof.Gen.KernelIdeal.Frame
public import Idealize.ShloMosaic.Lib.Pipeline.ValueKit
public import Idealize.ShloMosaic.Lib.Claim

@[expose] public section

set_option maxRecDepth 16384

noncomputable section

namespace Cert.Proof.Ker

open Cert.KernelIdeal Cert.KernelIdeal.Gen Idealize.ShloMosaic Idealize.ShloMosaic.TcCoe Idealize.SL.Sem Cert.Proof.Grad
open scoped BigOperators

/-- The six argument arrays hold the real numbers of `D`. -/
structure Holds (a0 a5 : FVec Ideal S4096x1024 .f32) (a1 : FVec Ideal S1x1024 .f32) (a2 a3 : FVec Ideal S1024x2816 .f32)
    (a4 : FVec Ideal S2816x1024 .f32) (D : Data) : Prop where
  h0 : ∀ t k, a0 (ix2 t k) = (D.x t k : EReal)
  h1 : ∀ k, a1 (ix2 0 k) = (D.g k : EReal)
  h2 : ∀ k n, a2 (ix2 k n) = (D.wg k n : EReal)
  h3 : ∀ k n, a3 (ix2 k n) = (D.wu k n : EReal)
  h4 : ∀ n k, a4 (ix2 n k) = (D.wd n k : EReal)
  h5 : ∀ t k, a5 (ix2 t k) = (D.dy t k : EReal)

variable (m : (ℓ : Loc nD τ sig) → Buf (Elt Ideal) ℓ) (c : Dev nD) (D : Data)

/-- Device `c`'s memory holds the real numbers of `D` in the argument arrays. -/
def HoldsAt : Prop :=
  Holds (m ((c : Thread nD τ).loc main_arg0)) (m ((c : Thread nD τ).loc main_arg5)) (m ((c : Thread nD τ).loc main_arg1))
    (m ((c : Thread nD τ).loc main_arg2)) (m ((c : Thread nD τ).loc main_arg3)) (m ((c : Thread nD τ).loc main_arg4)) D

variable {m c D} (H : HoldsAt m c D)
include H

theorem wd_at (s : Fin 4) (j : Fin 704) (k : Fin 1024) :
    (show FVec Ideal S4x704x1024 .bf16 from V m c main_v7) (ix3 s j k) = (D.wd (col s j) k : EReal) := by
  entry_read
  pointwise [H.h4, col]

theorem wg_at (s : Fin 4) (j : Fin 704) (k : Fin 1024) :
    (show FVec Ideal S4x704x1024 .bf16 from V m c main_v2) (ix3 s j k) = (D.wg k (col s j) : EReal) := by
  entry_read
  pointwise [H.h2, col]

theorem wu_at (s : Fin 4) (j : Fin 704) (k : Fin 1024) :
    (show FVec Ideal S4x704x1024 .bf16 from V m c main_v5) (ix3 s j k) = (D.wu k (col s j) : EReal) := by
  entry_read
  pointwise [H.h3, col]

theorem dyb_at (t : Fin 4096) (k : Fin 1024) :
    (show FVec Ideal S4096x1024 .bf16 from V m c main_v21) (ix2 t k) = (D.dy t k : EReal) := by
  entry_read
  pointwise [H.h5]

theorem gate_at (s : Fin 4) (t : Fin 4096) (j : Fin 704) :
    (show FVec Ideal S4x4096x704 .bf16 from V m c main_v24) (ix3 s t j) = (D.gate t (col s j) : EReal) := by
  entry_read
  pointwise [H.h0, H.h1, H.h2, col]
  simp only [rsqrt_ms, ← EReal.coe_mul, ← coe_sum, Data.gate, Data.h]

theorem up_at (s : Fin 4) (t : Fin 4096) (j : Fin 704) :
    (show FVec Ideal S4x4096x704 .bf16 from V m c main_v27) (ix3 s t j) = (D.up t (col s j) : EReal) := by
  entry_read
  pointwise [H.h0, H.h1, H.h3, col]
  simp only [rsqrt_ms, ← EReal.coe_mul, ← coe_sum, Data.up, Data.h]

omit H in
/-- Every window's block at every grid point. -/
theorem idx_val : ∀ t : Fin cfg0.N, win0_0.index t = ![t.val, 0]
    ∧ win0_1.index t = ![t.val, 0]
    ∧ win0_2.index t = ![0, 0, 0]
    ∧ win0_3.index t = ![0, 0, 0]
    ∧ win0_4.index t = ![0, 0, 0]
    ∧ win0_5.index t = ![0, t.val, 0]
    ∧ win0_6.index t = ![0, t.val, 0]
    ∧ win0_7.index t = ![t.val, 0]
    ∧ win0_8.index t = ![0, 0]
    ∧ win0_9.index t = ![0, t.val, 0]
    ∧ win0_10.index t = ![0, t.val, 0]
    ∧ win0_11.index t = ![t.val, 0]
    ∧ win0_12.index t = ![t.val, 0]
    ∧ win0_13.index t = ![0, 0] :=
  (by decide +kernel : ∀ t : Fin grid0.N, _)

omit H in
/-- Row `r` of point `t`'s block among the 4096. -/
def row (t : Fin cfg0.N) (r : Fin 256) : Fin 4096 :=
  ⟨t.val * 256 + r.val, by have h : t.val < 16 := lt_of_lt_of_eq t.isLt N_0; have := r.isLt; omega⟩

/-! ### The blocks of a grid point -/

variable (t : Fin cfg0.N)

theorem blk0_at (r : Fin 256) (k : Fin 1024) :
    (show FVec Ideal S256x1024 .bf16 from iblk m c 0 t) (ix2 r k) = (D.dy (row t r) k : EReal) := by
  refine Eq.trans ?_ (dyb_at H (row t r) k)
  blk_ext [iblk, idx_val t, row]

theorem blk1_at (r : Fin 256) (k : Fin 1024) :
    (show FVec Ideal S256x1024 .f32 from iblk m c 1 t) (ix2 r k) = (D.dy (row t r) k : EReal) := by
  refine Eq.trans ?_ (H.h5 (row t r) k)
  blk_ext [iblk, V, idx_val t, row]

theorem blk2_at (s : Fin 4) (j : Fin 704) (k : Fin 1024) :
    (show FVec Ideal S4x704x1024 .bf16 from iblk m c 2 t) (ix3 s j k) = (D.wd (col s j) k : EReal) := by
  refine Eq.trans ?_ (wd_at H s j k)
  blk_ext [iblk, idx_val t]

theorem blk3_at (s : Fin 4) (j : Fin 704) (k : Fin 1024) :
    (show FVec Ideal S4x704x1024 .bf16 from iblk m c 3 t) (ix3 s j k) = (D.wg k (col s j) : EReal) := by
  refine Eq.trans ?_ (wg_at H s j k)
  blk_ext [iblk, idx_val t]

theorem blk4_at (s : Fin 4) (j : Fin 704) (k : Fin 1024) :
    (show FVec Ideal S4x704x1024 .bf16 from iblk m c 4 t) (ix3 s j k) = (D.wu k (col s j) : EReal) := by
  refine Eq.trans ?_ (wu_at H s j k)
  blk_ext [iblk, idx_val t]

theorem blk5_at (s : Fin 4) (r : Fin 256) (j : Fin 704) :
    (show FVec Ideal S4x256x704 .bf16 from iblk m c 5 t) (ix3 s r j) = (D.gate (row t r) (col s j) : EReal) := by
  refine Eq.trans ?_ (gate_at H s (row t r) j)
  blk_ext [iblk, idx_val t, row]

theorem blk6_at (s : Fin 4) (r : Fin 256) (j : Fin 704) :
    (show FVec Ideal S4x256x704 .bf16 from iblk m c 6 t) (ix3 s r j) = (D.up (row t r) (col s j) : EReal) := by
  refine Eq.trans ?_ (up_at H s (row t r) j)
  blk_ext [iblk, idx_val t, row]

theorem blk7_at (r : Fin 256) (k : Fin 1024) :
    (show FVec Ideal S256x1024 .f32 from iblk m c 7 t) (ix2 r k) = (D.x (row t r) k : EReal) := by
  refine Eq.trans ?_ (H.h0 (row t r) k)
  blk_ext [iblk, V, idx_val t, row]

theorem blk8_at (k : Fin 1024) :
    (show FVec Ideal S1x1024 .f32 from iblk m c 8 t) (ix2 0 k) = (D.g k : EReal) := by
  refine Eq.trans ?_ (H.h1 k)
  blk_ext [iblk, V, idx_val t]

end Cert.Proof.Ker

end
-- ==== Proof.KerValue.lean ====
/-
  The kernel's five result arrays after the run: each grid point's stores read at an index, the gain's gradient summed
  over the sixteen points, for arguments that are real numbers.
-/
module

public import proofs.«01_k».proof.Proof.KerPay
public import proofs.«01_k».proof.Proof.KerEntry
public import proofs.«01_k».proof.Proof.Gen.KernelIdeal.Value

@[expose] public section

set_option maxRecDepth 16384

noncomputable section

namespace Cert.Proof.Ker

open Cert.KernelIdeal Cert.KernelIdeal.Gen Idealize.ShloMosaic Idealize.ShloMosaic.TcCoe Idealize.SL.Sem Cert.Proof.Grad
open Idealize.ShloMosaic.Pipeline (Dat)
open scoped BigOperators

variable {m : (ℓ : Loc nD τ sig) → Buf (Elt Ideal) ℓ} {c : Dev nD} {D : Data} (H : HoldsAt m c D) (t : Fin cfg0.N)
include H

/-! ### The blocks a shard loads -/

theorem shard0 : Shard D (row t) 0 (iblk m c 0 t) (View.ld (iblk m c 2 t) (Rect.unit ![0, 0, 0] ![1, 704, 1024] inb_S4x704x1024_S1x704x1024_0_0_0))
    (View.ld (iblk m c 5 t) (Rect.unit ![0, 0, 0] ![1, 256, 704] inb_S4x256x704_S1x256x704_0_0_0))
    (View.ld (iblk m c 6 t) (Rect.unit ![0, 0, 0] ![1, 256, 704] inb_S4x256x704_S1x256x704_0_0_0)) where
  hy := blk0_at H t
  hd j k := by pointwise; exact blk2_at H t 0 j k
  hg r j := by pointwise; exact blk5_at H t 0 r j
  hu r j := by pointwise; exact blk6_at H t 0 r j

theorem shard1 : Shard D (row t) 1 (iblk m c 0 t) (View.ld (iblk m c 2 t) (Rect.unit ![1, 0, 0] ![1, 704, 1024] inb_S4x704x1024_S1x704x1024_1_0_0))
    (View.ld (iblk m c 5 t) (Rect.unit ![1, 0, 0] ![1, 256, 704] inb_S4x256x704_S1x256x704_1_0_0))
    (View.ld (iblk m c 6 t) (Rect.unit ![1, 0, 0] ![1, 256, 704] inb_S4x256x704_S1x256x704_1_0_0)) where
  hy := blk0_at H t
  hd j k := by pointwise; exact blk2_at H t 1 j k
  hg r j := by pointwise; exact blk5_at H t 1 r j
  hu r j := by pointwise; exact blk6_at H t 1 r j

theorem shard2 : Shard D (row t) 2 (iblk m c 0 t) (View.ld (iblk m c 2 t) (Rect.unit ![2, 0, 0] ![1, 704, 1024] inb_S4x704x1024_S1x704x1024_2_0_0))
    (View.ld (iblk m c 5 t) (Rect.unit ![2, 0, 0] ![1, 256, 704] inb_S4x256x704_S1x256x704_2_0_0))
    (View.ld (iblk m c 6 t) (Rect.unit ![2, 0, 0] ![1, 256, 704] inb_S4x256x704_S1x256x704_2_0_0)) where
  hy := blk0_at H t
  hd j k := by pointwise; exact blk2_at H t 2 j k
  hg r j := by pointwise; exact blk5_at H t 2 r j
  hu r j := by pointwise; exact blk6_at H t 2 r j

theorem shard3 : Shard D (row t) 3 (iblk m c 0 t) (View.ld (iblk m c 2 t) (Rect.unit ![3, 0, 0] ![1, 704, 1024] inb_S4x704x1024_S1x704x1024_3_0_0))
    (View.ld (iblk m c 5 t) (Rect.unit ![3, 0, 0] ![1, 256, 704] inb_S4x256x704_S1x256x704_3_0_0))
    (View.ld (iblk m c 6 t) (Rect.unit ![3, 0, 0] ![1, 256, 704] inb_S4x256x704_S1x256x704_3_0_0)) where
  hy := blk0_at H t
  hd j k := by pointwise; exact blk2_at H t 3 j k
  hg r j := by pointwise; exact blk5_at H t 3 r j
  hu r j := by pointwise; exact blk6_at H t 3 r j

theorem pair0 : Pair D (row t) 0 (k0_pay10 (k0_pay3 (iblk m c 0 t) (View.ld (iblk m c 2 t) (Rect.unit ![0, 0, 0] ![1, 704, 1024] inb_S4x704x1024_S1x704x1024_0_0_0))) (k0_pay7 (View.ld (iblk m c 5 t) (Rect.unit ![0, 0, 0] ![1, 256, 704] inb_S4x256x704_S1x256x704_0_0_0))) (k0_pay8 (View.ld (iblk m c 5 t) (Rect.unit ![0, 0, 0] ![1, 256, 704] inb_S4x256x704_S1x256x704_0_0_0))) (k0_pay9 (View.ld (iblk m c 6 t) (Rect.unit ![0, 0, 0] ![1, 256, 704] inb_S4x256x704_S1x256x704_0_0_0))))
    (k0_pay11 (k0_pay3 (iblk m c 0 t) (View.ld (iblk m c 2 t) (Rect.unit ![0, 0, 0] ![1, 704, 1024] inb_S4x704x1024_S1x704x1024_0_0_0))) (k0_pay7 (View.ld (iblk m c 5 t) (Rect.unit ![0, 0, 0] ![1, 256, 704] inb_S4x256x704_S1x256x704_0_0_0))) (k0_pay8 (View.ld (iblk m c 5 t) (Rect.unit ![0, 0, 0] ![1, 256, 704] inb_S4x256x704_S1x256x704_0_0_0)))) (View.ld (iblk m c 3 t) (Rect.unit ![0, 0, 0] ![1, 704, 1024] inb_S4x704x1024_S1x704x1024_0_0_0)) (View.ld (iblk m c 4 t) (Rect.unit ![0, 0, 0] ![1, 704, 1024] inb_S4x704x1024_S1x704x1024_0_0_0)) where
  hg r j := dg0_at (shard0 H t) r j
  hu r j := du0_at (shard0 H t) r j
  hp j k := by pointwise; exact blk3_at H t 0 j k
  hq j k := by pointwise; exact blk4_at H t 0 j k

theorem pair1 : Pair D (row t) 1 (k0_pay18 (k0_pay16 (k0_pay4 (iblk m c 0 t) (View.ld (iblk m c 2 t) (Rect.unit ![1, 0, 0] ![1, 704, 1024] inb_S4x704x1024_S1x704x1024_1_0_0))) (View.ld (iblk m c 5 t) (Rect.unit ![1, 0, 0] ![1, 256, 704] inb_S4x256x704_S1x256x704_1_0_0)) (View.ld (iblk m c 6 t) (Rect.unit ![1, 0, 0] ![1, 256, 704] inb_S4x256x704_S1x256x704_1_0_0))) (k0_pay17 (View.ld (iblk m c 5 t) (Rect.unit ![1, 0, 0] ![1, 256, 704] inb_S4x256x704_S1x256x704_1_0_0))))
    (k0_pay19 (k0_pay4 (iblk m c 0 t) (View.ld (iblk m c 2 t) (Rect.unit ![1, 0, 0] ![1, 704, 1024] inb_S4x704x1024_S1x704x1024_1_0_0))) (k0_pay14 (View.ld (iblk m c 5 t) (Rect.unit ![1, 0, 0] ![1, 256, 704] inb_S4x256x704_S1x256x704_1_0_0))) (k0_pay15 (View.ld (iblk m c 5 t) (Rect.unit ![1, 0, 0] ![1, 256, 704] inb_S4x256x704_S1x256x704_1_0_0)))) (View.ld (iblk m c 3 t) (Rect.unit ![1, 0, 0] ![1, 704, 1024] inb_S4x704x1024_S1x704x1024_1_0_0)) (View.ld (iblk m c 4 t) (Rect.unit ![1, 0, 0] ![1, 704, 1024] inb_S4x704x1024_S1x704x1024_1_0_0)) where
  hg r j := dg1_at (shard1 H t) r j
  hu r j := du1_at (shard1 H t) r j
  hp j k := by pointwise; exact blk3_at H t 1 j k
  hq j k := by pointwise; exact blk4_at H t 1 j k

theorem pair2 : Pair D (row t) 2 (k0_pay24 (k0_pay5 (iblk m c 0 t) (View.ld (iblk m c 2 t) (Rect.unit ![2, 0, 0] ![1, 704, 1024] inb_S4x704x1024_S1x704x1024_2_0_0))) (View.ld (iblk m c 5 t) (Rect.unit ![2, 0, 0] ![1, 256, 704] inb_S4x256x704_S1x256x704_2_0_0)) (View.ld (iblk m c 6 t) (Rect.unit ![2, 0, 0] ![1, 256, 704] inb_S4x256x704_S1x256x704_2_0_0)))
    (k0_pay25 (k0_pay5 (iblk m c 0 t) (View.ld (iblk m c 2 t) (Rect.unit ![2, 0, 0] ![1, 704, 1024] inb_S4x704x1024_S1x704x1024_2_0_0))) (View.ld (iblk m c 5 t) (Rect.unit ![2, 0, 0] ![1, 256, 704] inb_S4x256x704_S1x256x704_2_0_0))) (View.ld (iblk m c 3 t) (Rect.unit ![2, 0, 0] ![1, 704, 1024] inb_S4x704x1024_S1x704x1024_2_0_0)) (View.ld (iblk m c 4 t) (Rect.unit ![2, 0, 0] ![1, 704, 1024] inb_S4x704x1024_S1x704x1024_2_0_0)) where
  hg r j := dg2_at (shard2 H t) r j
  hu r j := du2_at (shard2 H t) r j
  hp j k := by pointwise; exact blk3_at H t 2 j k
  hq j k := by pointwise; exact blk4_at H t 2 j k

theorem pair3 : Pair D (row t) 3 (k0_pay30 (k0_pay6 (iblk m c 0 t) (View.ld (iblk m c 2 t) (Rect.unit ![3, 0, 0] ![1, 704, 1024] inb_S4x704x1024_S1x704x1024_3_0_0))) (View.ld (iblk m c 5 t) (Rect.unit ![3, 0, 0] ![1, 256, 704] inb_S4x256x704_S1x256x704_3_0_0)) (View.ld (iblk m c 6 t) (Rect.unit ![3, 0, 0] ![1, 256, 704] inb_S4x256x704_S1x256x704_3_0_0)))
    (k0_pay31 (k0_pay6 (iblk m c 0 t) (View.ld (iblk m c 2 t) (Rect.unit ![3, 0, 0] ![1, 704, 1024] inb_S4x704x1024_S1x704x1024_3_0_0))) (View.ld (iblk m c 5 t) (Rect.unit ![3, 0, 0] ![1, 256, 704] inb_S4x256x704_S1x256x704_3_0_0))) (View.ld (iblk m c 3 t) (Rect.unit ![3, 0, 0] ![1, 704, 1024] inb_S4x704x1024_S1x704x1024_3_0_0)) (View.ld (iblk m c 4 t) (Rect.unit ![3, 0, 0] ![1, 704, 1024] inb_S4x704x1024_S1x704x1024_3_0_0)) where
  hg r j := dg3_at (shard3 H t) r j
  hu r j := du3_at (shard3 H t) r j
  hp j k := by pointwise; exact blk3_at H t 3 j k
  hq j k := by pointwise; exact blk4_at H t 3 j k

/-! ### The result arrays -/

omit H in
variable (D) in
/-- The gradient of the gate, by shards. -/
def outDg : FVec Ideal S4x4096x704 .bf16 := fun i => (D.dg (i 1) (col (i 0) (i 2)) : EReal)
omit H in
variable (D) in
/-- The gradient of up, by shards. -/
def outDu : FVec Ideal S4x4096x704 .bf16 := fun i => (D.du (i 1) (col (i 0) (i 2)) : EReal)
omit H in
variable (D) in
/-- The gradient of the input. -/
def outDx : FVec Ideal S4096x1024 .f32 := fun i => (D.dx (i 0) (i 1) : EReal)
omit H in
variable (D) in
/-- The gradient of the gain. -/
def outDgain : FVec Ideal S1x1024 .f32 := fun i => (D.dgain (i 1) : EReal)

omit H in
theorem outDg_eq {i : S4x4096x704.Idx} {s : Fin 4} {r : Fin 4096} {j : Fin 704} (h0 : (i 0 : ℕ) = s) (h1 : (i 1 : ℕ) = r)
    (h2 : (i 2 : ℕ) = j) : (D.dg r (col s j) : EReal) = outDg D i := by
  have e0 : i 0 = s := Fin.ext h0
  have e1 : i 1 = r := Fin.ext h1
  have e2 : i 2 = j := Fin.ext h2
  rw [outDg, e0, e1, e2]
omit H in
theorem outDu_eq {i : S4x4096x704.Idx} {s : Fin 4} {r : Fin 4096} {j : Fin 704} (h0 : (i 0 : ℕ) = s) (h1 : (i 1 : ℕ) = r)
    (h2 : (i 2 : ℕ) = j) : (D.du r (col s j) : EReal) = outDu D i := by
  have e0 : i 0 = s := Fin.ext h0
  have e1 : i 1 = r := Fin.ext h1
  have e2 : i 2 = j := Fin.ext h2
  rw [outDu, e0, e1, e2]
omit H in
theorem outDx_eq {i : S4096x1024.Idx} {r : Fin 4096} {k : Fin 1024} (h0 : (i 0 : ℕ) = r) (h1 : (i 1 : ℕ) = k) :
    (D.dx r k : EReal) = outDx D i := by
  have e0 : i 0 = r := Fin.ext h0
  have e1 : i 1 = k := Fin.ext h1
  rw [outDx, e0, e1]

set_option maxHeartbeats 1600000 in
theorem point9 (y : S4x256x704.Idx) : (outsAt0 m c t.val t.isLt).1 y = outDg D (((cfg0.win 9).blk t).view.emb y) := by
  by_cases hc : t.val % 16 = 0
  · rw [outsAt0_A m c t hc]; frame_out
    canon_tiles x h
    case piece0 =>
      pointwise [k0_pay32]
      refine (dg3_at (shard3 H t) _ _).trans (outDg_eq ?_ ?_ ?_) <;> blk_simp [idx_val t, row] <;> (try simp only [row]) <;> (try omega)
    case piece1 =>
      pointwise [k0_pay26]
      refine (dg2_at (shard2 H t) _ _).trans (outDg_eq ?_ ?_ ?_) <;> blk_simp [idx_val t, row] <;> (try simp only [row]) <;> (try omega)
    case piece2 =>
      pointwise [k0_pay20]
      refine (dg1_at (shard1 H t) _ _).trans (outDg_eq ?_ ?_ ?_) <;> blk_simp [idx_val t, row] <;> (try simp only [row]) <;> (try omega)
    case piece3 =>
      pointwise [k0_pay12]
      refine (dg0_at (shard0 H t) _ _).trans (outDg_eq ?_ ?_ ?_) <;> blk_simp [idx_val t, row] <;> (try simp only [row]) <;> (try omega)
  · rw [outsAt0_B m c t hc]; frame_out
    canon_tiles x h
    case piece0 =>
      pointwise [k0_pay32]
      refine (dg3_at (shard3 H t) _ _).trans (outDg_eq ?_ ?_ ?_) <;> blk_simp [idx_val t, row] <;> (try simp only [row]) <;> (try omega)
    case piece1 =>
      pointwise [k0_pay26]
      refine (dg2_at (shard2 H t) _ _).trans (outDg_eq ?_ ?_ ?_) <;> blk_simp [idx_val t, row] <;> (try simp only [row]) <;> (try omega)
    case piece2 =>
      pointwise [k0_pay20]
      refine (dg1_at (shard1 H t) _ _).trans (outDg_eq ?_ ?_ ?_) <;> blk_simp [idx_val t, row] <;> (try simp only [row]) <;> (try omega)
    case piece3 =>
      pointwise [k0_pay12]
      refine (dg0_at (shard0 H t) _ _).trans (outDg_eq ?_ ?_ ?_) <;> blk_simp [idx_val t, row] <;> (try simp only [row]) <;> (try omega)

set_option maxHeartbeats 1600000 in
theorem point10 (y : S4x256x704.Idx) : (outsAt0 m c t.val t.isLt).2.1 y = outDu D (((cfg0.win 10).blk t).view.emb y) := by
  by_cases hc : t.val % 16 = 0
  · rw [outsAt0_A m c t hc]; frame_out
    canon_tiles x h
    case piece0 =>
      pointwise [k0_pay33]
      refine (du3_at (shard3 H t) _ _).trans (outDu_eq ?_ ?_ ?_) <;> blk_simp [idx_val t, row] <;> (try simp only [row]) <;> (try omega)
    case piece1 =>
      pointwise [k0_pay27]
      refine (du2_at (shard2 H t) _ _).trans (outDu_eq ?_ ?_ ?_) <;> blk_simp [idx_val t, row] <;> (try simp only [row]) <;> (try omega)
    case piece2 =>
      pointwise [k0_pay21]
      refine (du1_at (shard1 H t) _ _).trans (outDu_eq ?_ ?_ ?_) <;> blk_simp [idx_val t, row] <;> (try simp only [row]) <;> (try omega)
    case piece3 =>
      pointwise [k0_pay13]
      refine (du0_at (shard0 H t) _ _).trans (outDu_eq ?_ ?_ ?_) <;> blk_simp [idx_val t, row] <;> (try simp only [row]) <;> (try omega)
  · rw [outsAt0_B m c t hc]; frame_out
    canon_tiles x h
    case piece0 =>
      pointwise [k0_pay33]
      refine (du3_at (shard3 H t) _ _).trans (outDu_eq ?_ ?_ ?_) <;> blk_simp [idx_val t, row] <;> (try simp only [row]) <;> (try omega)
    case piece1 =>
      pointwise [k0_pay27]
      refine (du2_at (shard2 H t) _ _).trans (outDu_eq ?_ ?_ ?_) <;> blk_simp [idx_val t, row] <;> (try simp only [row]) <;> (try omega)
    case piece2 =>
      pointwise [k0_pay21]
      refine (du1_at (shard1 H t) _ _).trans (outDu_eq ?_ ?_ ?_) <;> blk_simp [idx_val t, row] <;> (try simp only [row]) <;> (try omega)
    case piece3 =>
      pointwise [k0_pay13]
      refine (du0_at (shard0 H t) _ _).trans (outDu_eq ?_ ?_ ?_) <;> blk_simp [idx_val t, row] <;> (try simp only [row]) <;> (try omega)

set_option maxHeartbeats 1600000 in
theorem point11 (y : S256x1024.Idx) : (outsAt0 m c t.val t.isLt).2.2.1 y = outDx D (((cfg0.win 11).blk t).view.emb y) := by
  by_cases hc : t.val % 16 = 0
  · rw [outsAt0_A m c t hc]; frame_out
    idx_vars y
    refine (dx_at (row := row t) (blk7_at H t) (dh_at (pair0 H t) (pair1 H t) (pair2 H t) (pair3 H t)) (blk8_at H t) (blk1_at H t) _ _).trans (outDx_eq ?_ ?_) <;>
      blk_simp [idx_val t, row] <;> (try simp only [row]) <;> (try omega)
  · rw [outsAt0_B m c t hc]; frame_out
    idx_vars y
    refine (dx_at (row := row t) (blk7_at H t) (dh_at (pair0 H t) (pair1 H t) (pair2 H t) (pair3 H t)) (blk8_at H t) (blk1_at H t) _ _).trans (outDx_eq ?_ ?_) <;>
      blk_simp [idx_val t, row] <;> (try simp only [row]) <;> (try omega)

set_option maxHeartbeats 1600000 in
theorem point12 (y : S256x1024.Idx) : (outsAt0 m c t.val t.isLt).2.2.2.1 y = outDx D (((cfg0.win 12).blk t).view.emb y) := by
  by_cases hc : t.val % 16 = 0
  · rw [outsAt0_A m c t hc]; frame_out
    idx_vars y
    pointwise [k0_pay41]
    refine (dx_at (row := row t) (blk7_at H t) (dh_at (pair0 H t) (pair1 H t) (pair2 H t) (pair3 H t)) (blk8_at H t) (blk1_at H t) _ _).trans (outDx_eq ?_ ?_) <;>
      blk_simp [idx_val t, row] <;> (try simp only [row]) <;> (try omega)
  · rw [outsAt0_B m c t hc]; frame_out
    idx_vars y
    pointwise [k0_pay41]
    refine (dx_at (row := row t) (blk7_at H t) (dh_at (pair0 H t) (pair1 H t) (pair2 H t) (pair3 H t)) (blk8_at H t) (blk1_at H t) _ _).trans (outDx_eq ?_ ?_) <;>
      blk_simp [idx_val t, row] <;> (try simp only [row]) <;> (try omega)

omit t in
theorem final9 : (dats m 0 c).arrAt 9 (cfgs 0).N = outDg D := by
  refine (dats m 0 c).arrAt_eq_of_covers 9 _ (by decide +kernel) fun t hf y => ?_
  blk_simp
  rw [after0_9]
  exact point9 H t y

omit t in
theorem final10 : (dats m 0 c).arrAt 10 (cfgs 0).N = outDu D := by
  refine (dats m 0 c).arrAt_eq_of_covers 10 _ (by decide +kernel) fun t hf y => ?_
  blk_simp
  rw [after0_10]
  exact point10 H t y

omit t in
theorem final11 : (dats m 0 c).arrAt 11 (cfgs 0).N = outDx D := by
  refine (dats m 0 c).arrAt_eq_of_covers 11 _ (by decide +kernel) fun t hf y => ?_
  blk_simp
  rw [after0_11]
  exact point11 H t y

omit t in
theorem final12 : (dats m 0 c).arrAt 12 (cfgs 0).N = outDx D := by
  refine (dats m 0 c).arrAt_eq_of_covers 12 _ (by decide +kernel) fun t hf y => ?_
  blk_simp
  rw [after0_12]
  exact point12 H t y

omit H in
theorem fill_at (k : Fin 1024) : k0_pay1 (F := Ideal) (ix2 0 k) = 0 := by pointwise [k0_pay1]

omit H in
variable (m c D) in
/-- Point `p`'s part of the gain's gradient at column `k`. -/
def part (p : Fin cfg0.N) (k : Fin 1024) : EReal := ((∑ r, D.dh (row p r) k * (D.x (row p r) k * rs (D.x (row p r))) : ℝ) : EReal)

omit H t in
/-- The sixteen points' parts are the whole sum. -/
theorem parts_sum (k : Fin 1024) : ∑ p, part D p k = (D.dgain k : EReal) := by
  simp only [part]
  rw [← coe_sum, Data.dgain, Fin.sum_univ_tiles 16 256 rfl]
  rfl

omit t in
theorem final13 : (dats m 0 c).arrAt 13 (cfgs 0).N = outDgain D := by
  refine (dats m 0 c).arrAt_eq_of_after_last 13 t0_15 (by decide +kernel) _ fun j => ?_
  blk_simp
  rw [after0_13, Pipeline.eq_sum_fin_of_reset_step_apply_last (fun n h => (outsAt0 m c n h).2.2.2.2) 16 (fun _ => 0)
    (fun p j => part D p (j 1))
    (fun t h j => by
      rw [outsAt0_A m c t h]; frame_out; idx_vars j
      obtain rfl : j0 = 0 := Subsingleton.elim _ _
      refine (gain_at (row := row t) (blk7_at H t) (dh_at (pair0 H t) (pair1 H t) (pair2 H t) (pair3 H t)) _).trans ?_
      rw [fill_at, part])
    (fun t h j => by
      rw [outsAt0_B m c t h]; frame_out; idx_vars j
      obtain rfl : j0 = 0 := Subsingleton.elim _ _
      refine (gain_at (row := row t) (blk7_at H t) (dh_at (pair0 H t) (pair1 H t) (pair2 H t) (pair3 H t)) _).trans ?_
      rw [part])
    (le_of_eq N_0) t0_15 rfl j, zero_add]
  exact parts_sum (j 1)

end Cert.Proof.Ker

end
-- ==== Proof.Value.lean ====
/-
  The kernel's results are the reference's: both are the same formulas over the reals the arguments hold.
-/
module

public import proofs.«01_k».proof.Proof.Finite
public import proofs.«01_k».proof.Proof.RefAt
public import proofs.«01_k».proof.Proof.KerValue

@[expose] public section

set_option maxRecDepth 16384

noncomputable section

namespace Cert.Proof

open Idealize.ShloMosaic Idealize.SL.Sem Cert.Proof.Grad

section reference

open Cert.ReferenceIdeal Ref

variable {a0 a5 : FVec Ideal S4096x1024 .f32} {a1 : FVec Ideal S1x1024 .f32} {a2 a3 : FVec Ideal S1024x2816 .f32}
  {a4 : FVec Ideal S2816x1024 .f32} {D : Data} (H : Ref.Holds a0 a5 a1 a2 a3 a4 D)
include H

theorem ref_dg : wshards (wdg a0 a5 a1 a2 a3 a4) = Ker.outDg D := by
  funext i
  idx_vars i
  exact wshards_at _ D.dg (fun t n => wdg_at H t n) i0 i1 i2

theorem ref_du : wshards (wdu a0 a5 a1 a2 a4) = Ker.outDu D := by
  funext i
  idx_vars i
  exact wshards_at _ D.du (fun t n => wdu_at H t n) i0 i1 i2

theorem ref_dx : wdx a0 a5 a1 a2 a3 a4 = Ker.outDx D := by
  funext i
  idx_vars i
  exact wdx_at H i0 i1

theorem ref_dgain : wdgain a0 a5 a1 a2 a3 a4 = Ker.outDgain D := by
  funext i
  idx_vars i
  obtain rfl : i0 = 0 := Subsingleton.elim _ _
  exact wdgain_at H i1

end reference

section lift

variable (m : (ℓ : Loc Cert.KernelIdeal.nD Cert.KernelIdeal.τ Cert.KernelIdeal.sig) → Buf (Elt Ideal) ℓ) (c : Dev Cert.KernelIdeal.nD)

open Cert.KernelIdeal in
/-- The reals device `c`'s arguments hold. -/
def reals : Data :=
  Fin.data (m ((c.tc : Thread nD τ).loc main_arg0)) (m ((c.tc : Thread nD τ).loc main_arg5)) (m ((c.tc : Thread nD τ).loc main_arg1))
    (m ((c.tc : Thread nD τ).loc main_arg2)) (m ((c.tc : Thread nD τ).loc main_arg3)) (m ((c.tc : Thread nD τ).loc main_arg4))

variable {m} in
theorem holds_kernel (hpre : Cert.Pre_KernelIdeal_finite (hPre_finite := Fin.facts) m) : Ker.HoldsAt m c (reals m c) := by
  obtain ⟨h0, h1, h2, h3, h4, h5⟩ := hpre c
  exact ⟨fun t k => Fin.real_of_ones _ _ h0 _, fun k => Fin.real_of_ones _ _ h1 _, fun k n => Fin.real_of_ones _ _ h2 _,
    fun k n => Fin.real_of_ones _ _ h3 _, fun n k => Fin.real_of_ones _ _ h4 _, fun t k => Fin.real_of_ones _ _ h5 _⟩

end lift

open Cert.ReferenceIdeal in
set_option maxHeartbeats 4000000 in
theorem algebraic : Cert.algebraic_KernelIdeal_ReferenceIdeal_pre_finite (hKernelIdeal := Cert.KernelIdeal.Gen.facts)
    (hReferenceIdeal := Cert.ReferenceIdeal.Gen.facts) (hPre_finite := Fin.facts) := by
  pair_intro
  · run_from Cert.KernelIdeal.Gen.run_main m g
  · have hK := fun c => holds_kernel c hpre
    have hR : ∀ c : Dev nD, Ref.Holds (m' ((c.tc : Thread nD τ).loc main_arg0)) (m' ((c.tc : Thread nD τ).loc main_arg5))
        (m' ((c.tc : Thread nD τ).loc main_arg1)) (m' ((c.tc : Thread nD τ).loc main_arg2)) (m' ((c.tc : Thread nD τ).loc main_arg3))
        (m' ((c.tc : Thread nD τ).loc main_arg4)) (reals m c) := fun c => by
      obtain ⟨e0, e1, e2, e3, e4, e5⟩ := hagree c
      rw [e0, e1, e2, e3, e4, e5]
      obtain ⟨h0, h1, h2, h3, h4, h5⟩ := hK c
      exact ⟨h0, h1, h2, h3, h4, h5⟩
    clear hagree
    run_from Cert.ReferenceIdeal.Value.run m' g'
    · exact (ref_dg (hR c)).trans (Ker.final9 (hK c)).symm
    · exact (ref_du (hR c)).trans (Ker.final10 (hK c)).symm
    · exact (ref_dx (hR c)).trans (Ker.final11 (hK c)).symm
    · exact (ref_dx (hR c)).trans (Ker.final12 (hK c)).symm
    · exact (ref_dgain (hR c)).trans (Ker.final13 (hK c)).symm

end Cert.Proof

end
-- ==== Proof.RetFrames.lean ====
/-
  The runs of the retention's three programs with their counters at zero, and its precondition read.
-/
module

public import proofs.«01_k».proof.Defs
public import proofs.«01_k».proof.Proof.Gen.RetKernel.Frame
public import proofs.«01_k».proof.Proof.Gen.RetKernelIdeal.Frame
public import proofs.«01_k».proof.Proof.Gen.RetReferenceIdeal.Run
public import Idealize.ShloMosaic.Lib.Pointwise
public import Idealize.ShloMosaic.Lib.Claim

@[expose] public section

set_option maxRecDepth 16384

noncomputable section

namespace Cert.Proof

open Idealize.ShloMosaic Idealize.SL.Sem

instance ret_facts : Cert.Pre_ret_finite.Facts where
  bcast_S_S4096x9728 := by decide
  bcast_S_S4096x1024 := by decide

theorem frame_retKernel : Cert.quiescent_RetKernel (hRetKernel := Cert.RetKernel.Gen.facts) := fun m g _ => Cert.RetKernel.Gen.frame m g

theorem frame_retKernelIdeal : Cert.quiescent_RetKernelIdeal (hRetKernelIdeal := Cert.RetKernelIdeal.Gen.facts) :=
  fun m g _ => Cert.RetKernelIdeal.Gen.frame m g

theorem frame_retKernelIdeal_finite : Cert.quiescent_RetKernelIdeal_pre_ret_finite (hRetKernelIdeal := Cert.RetKernelIdeal.Gen.facts)
    (hPre_ret_finite := ret_facts) :=
  fun m g _ => Cert.RetKernelIdeal.Gen.frame m g

theorem frame_retReferenceIdeal : Cert.quiescent_RetReferenceIdeal (hRetReferenceIdeal := Cert.RetReferenceIdeal.Gen.facts) := by
  intro m g _
  exact (θ_run Cert.RetReferenceIdeal.defs _ _).mono
    (fun r h => ⟨fun c => (h c).2, Idealize.ShloMosaic.sem_eq_zero_of_no_sems (by decide) r.2⟩)
    (Cert.RetReferenceIdeal.Value.run m g)

theorem frame_retReferenceIdeal_finite : Cert.quiescent_RetReferenceIdeal_pre_ret_finite
    (hRetReferenceIdeal := Cert.RetReferenceIdeal.Gen.facts) (hPre_ret_finite := ret_facts) :=
  fun m g _ => frame_retReferenceIdeal m g trivial

end Cert.Proof

end
-- ==== Proof.RetSpec.lean ====
/-
  The gradient of the retention branch over the reals, as one list of formulas: the rotation of queries and keys, the
  scores inside a chunk of 128 positions with their decay, the state carried from chunk to chunk, the normalisation of each
  head's output, the gate, and the gradients of queries, keys, values and gate, with the gradient of the state carried
  backwards. Both programs are read against this list.
-/
module

public import proofs.«01_k».proof.Proof.Spec

@[expose] public section

noncomputable section

namespace Cert.Proof.Ret

open scoped BigOperators
open Idealize.ShloMosaic Cert.Proof.Grad

/-! ### The fixed numbers: angles and decays -/

/-- The exponent of frequency `f`: 64 evenly spaced numbers from zero to one. -/
def lin (f : Fin 64) : ℝ := if f.val < 63 then 0 * (1 - f.val / 63) + 1 * (f.val / 63) else 1

/-- The angle of position `t` at frequency `f`. -/
def ang (t : Fin 4096) (f : Fin 64) : ℝ := t.val * (1 / (10000 : ℝ) ^ lin f)

def cs (t : Fin 4096) (f : Fin 64) : ℝ := Real.cos (ang t f)
def sn (t : Fin 4096) (f : Fin 64) : ℝ := Real.sin (ang t f)

/-- The logarithm of head `h`'s decay. -/
def lg (h : Fin 4) : ℝ := Real.log (1 + -(2 : ℝ) ^ ((-5 : ℝ) - h.val))

/-- The decay from position `j` to position `i` of a chunk, zero when `j` comes later. -/
def dm (h : Fin 4) (i j : Fin 128) : ℝ :=
  if (0 : ℝ) ≤ (i.val : ℝ) - j.val then Real.exp (max ((i.val : ℝ) - j.val) 0 * lg h) else 0
/-- The decay from a position to its chunk's end. -/
def zt (h : Fin 4) (i : Fin 128) : ℝ := Real.exp ((127 - (i.val : ℝ)) * lg h)
/-- The decay from the chunk's start to a position. -/
def xi (h : Fin 4) (i : Fin 128) : ℝ := Real.exp (((i.val : ℝ) + 1) * lg h)
/-- The decay across a chunk. -/
def dec (h : Fin 4) : ℝ := Real.exp (128 * lg h)

/-- The keys' scale, the single-precision number nearest one over the root of 128. -/
def ksc : ℝ := 11863283 / 134217728

theorem ofBits_ksc : Ideal.ofBits .f32 0x3DB504F3#32 = ((ksc : ℝ) : EReal) := by
  simp [Ideal.ofBits, Ideal.ieee, -EReal.coe_mul, ksc]; norm_num
theorem ofBits_256 : Ideal.ofBits .f32 0x43800000#32 = ((256 : ℝ) : EReal) := by
  simp [Ideal.ofBits, Ideal.ieee, -EReal.coe_mul]; norm_num
theorem ofBits_128 : Ideal.ofBits .f32 0x43000000#32 = ((128 : ℝ) : EReal) := by
  simp [Ideal.ofBits, Ideal.ieee, -EReal.coe_mul]; norm_num
theorem ofBits_127 : Ideal.ofBits .f32 0x42FE0000#32 = ((127 : ℝ) : EReal) := by
  simp [Ideal.ofBits, Ideal.ieee, -EReal.coe_mul]; norm_num
theorem ofBits_63 : Ideal.ofBits .f32 0x427C0000#32 = ((63 : ℝ) : EReal) := by
  simp [Ideal.ofBits, Ideal.ieee, -EReal.coe_mul]; norm_num
theorem ofBits_theta : Ideal.ofBits .f32 0x461C4000#32 = ((10000 : ℝ) : EReal) := by
  simp [Ideal.ofBits, Ideal.ieee, -EReal.coe_mul]; norm_num
theorem ofBits_neg_five : Ideal.ofBits .f32 0xC0A00000#32 = ((-5 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num

/-- A small number as a word, and the word as a real. -/
theorem sit (k : ℕ) (hk : k < 2147483648) : FloatOps.sitofp (F := Ideal) .f32 (BitVec.ofNat 32 k) = ((k : ℝ) : EReal) := by
  show (((BitVec.ofNat 32 k).toInt : ℝ) : EReal) = ((k : ℝ) : EReal)
  rw [BitVec.toInt_eq_toNat_of_lt (by rw [BitVec.toNat_ofNat]; omega), BitVec.toNat_ofNat, Nat.mod_eq_of_lt (by omega)]
  norm_num

theorem sit_fin {n : ℕ} (k : Fin n) (hn : n ≤ 2147483648) : FloatOps.sitofp (F := Ideal) .f32 (BitVec.ofNat 32 k.val) = ((k.val : ℝ) : EReal) :=
  sit k.val (lt_of_lt_of_le k.isLt hn)

/-- The exponent as both programs compute it. -/
theorem lin_scalar (f : Fin 64) : (if _ : f.val < 63 then
      (0 : EReal) * (1 - Ideal.div (FloatOps.sitofp (F := Ideal) .f32 (BitVec.ofNat 32 f.val)) (Ideal.ofBits .f32 0x427C0000#32))
        + 1 * Ideal.div (FloatOps.sitofp (F := Ideal) .f32 (BitVec.ofNat 32 f.val)) (Ideal.ofBits .f32 0x427C0000#32)
      else 1) = ((lin f : ℝ) : EReal) := by
  rw [sit_fin f (by norm_num), ofBits_63, div_coe_coe _ (by norm_num), lin]
  by_cases h : f.val < 63
  · rw [dif_pos h, if_pos h]
    simp only [← EReal.coe_zero, ← EReal.coe_one, ← EReal.coe_sub, ← EReal.coe_mul, ← EReal.coe_add]
  · rw [dif_neg h, if_neg h]; rfl

/-- The angle as both programs compute it. -/
theorem ang_scalar (t : Fin 4096) (f : Fin 64) :
    ((t.val : ℝ) : EReal) * Ideal.div 1 (Ideal.pow (Ideal.ofBits .f32 0x461C4000#32) ((lin f : ℝ) : EReal)) = ((ang t f : ℝ) : EReal) := by
  have hp : ((10000 : ℝ) ^ lin f) ≠ 0 := (Real.rpow_pos_of_pos (by norm_num) _).ne'
  rw [ofBits_theta, Ideal.pow_coe_coe, Real.rpow_eq_pow, ← EReal.coe_one, div_coe_coe _ hp, ← EReal.coe_mul, ang]

/-- The logarithm of the decay as both programs compute it. -/
theorem lg_scalar (h : Fin 4) : Ideal.log1p (-Ideal.pow (Ideal.ofBits .f32 0x40000000#32)
      (Ideal.ofBits .f32 0xC0A00000#32 - FloatOps.sitofp (F := Ideal) .f32 (BitVec.ofNat 32 h.val))) = ((lg h : ℝ) : EReal) := by
  have hp : (2 : ℝ) ^ ((-5 : ℝ) - h.val) < 1 :=
    Real.rpow_lt_one_of_one_lt_of_neg (by norm_num) (by have : (0 : ℝ) ≤ (h.val : ℝ) := Nat.cast_nonneg _; linarith)
  rw [sit_fin h (by norm_num), ofBits_two, ofBits_neg_five, ← EReal.coe_sub, Ideal.pow_coe_coe, Real.rpow_eq_pow, ← EReal.coe_neg,
    Ideal.log1p, ← EReal.coe_one, ← EReal.coe_add, Ideal.log_coe, if_neg (by linarith), lg]

/-- The decay inside a chunk as both programs compute it. -/
theorem dm_scalar (h : Fin 4) (i j : Fin 128) :
    (if (0 : EReal) ≤ (((i.val : ℝ) - j.val : ℝ) : EReal) then Ideal.exp (max (((i.val : ℝ) - j.val : ℝ) : EReal) 0 * ((lg h : ℝ) : EReal)) else 0)
      = ((dm h i j : ℝ) : EReal) := by
  rw [dm]
  by_cases hc : (0 : ℝ) ≤ (i.val : ℝ) - j.val
  · rw [if_pos hc, if_pos (by exact_mod_cast hc), ← EReal.coe_zero, ← EReal.coe_strictMono.monotone.map_max, ← EReal.coe_mul, Ideal.exp_coe]
  · rw [if_neg hc, if_neg (by exact_mod_cast hc)]; rfl

/-! ### Positions and columns -/

/-- Position `i` of chunk `n` among the 4096. -/
def tok (n : ℕ) (i : Fin 128) : Fin 4096 := Fin.ofNat 4096 (n * 128 + i.val)
/-- The channel after / before one of a pair. -/
def nxt (d : Fin 128) : Fin 128 := Fin.ofNat 128 (d.val + 1)
def prv (d : Fin 128) : Fin 128 := Fin.ofNat 128 (d.val - 1)
/-- The frequency of a channel. -/
def frq (d : Fin 128) : Fin 64 := ⟨d.val / 2, by have := d.isLt; omega⟩

/-- The rotation of a pair of channels, and the rotation back. -/
def rot (t : Fin 4096) (y : Fin 128 → ℝ) (d : Fin 128) : ℝ :=
  if d.val % 2 = 0 then y d * cs t (frq d) - y (nxt d) * sn t (frq d) else y d * cs t (frq d) + y (prv d) * sn t (frq d)
def unrot (t : Fin 4096) (y : Fin 128 → ℝ) (d : Fin 128) : ℝ :=
  if d.val % 2 = 0 then y d * cs t (frq d) + y (nxt d) * sn t (frq d) else y d * cs t (frq d) + -(y (prv d)) * sn t (frq d)

/-- The chunk and the place in it of a position. -/
def ch (t : Fin 4096) : ℕ := t.val / 128
def pos (t : Fin 4096) : Fin 128 := ⟨t.val % 128, Nat.mod_lt _ (by norm_num)⟩

theorem tok_ch_pos (t : Fin 4096) : tok (ch t) (pos t) = t := by
  apply Fin.ext; have := t.isLt; simp only [tok, ch, pos, Fin.val_ofNat]; omega
theorem tok_mk (n : ℕ) (i : Fin 128) (h : n * 128 + i.val < 4096) : (⟨n * 128 + i.val, h⟩ : Fin 4096) = tok n i := by
  apply Fin.ext; simp only [tok, Fin.val_ofNat]; omega
theorem ch_tok (n : Fin 32) (i : Fin 128) : ch (tok n.val i) = n.val := by
  have := n.isLt; have := i.isLt; simp only [tok, ch, Fin.val_ofNat]; omega
theorem pos_tok (n : Fin 32) (i : Fin 128) : pos (tok n.val i) = i := by
  apply Fin.ext; have := n.isLt; have := i.isLt; simp only [tok, pos, Fin.val_ofNat]; omega
theorem val_nxt (d : Fin 128) (h : d.val % 2 = 0) : (nxt d).val = d.val + 1 := by
  have := d.isLt; simp only [nxt, Fin.val_ofNat]; omega
theorem val_prv (d : Fin 128) : (prv d).val = d.val - 1 := by
  have := d.isLt; simp only [prv, Fin.val_ofNat]; omega

/-- The head and the channel in it of a column of 1024, and the columns of a gate and of a pair. -/
def hd (c : Fin 1024) : Fin 4 := ⟨c.val / 256, by have := c.isLt; omega⟩
def ln (c : Fin 1024) : Fin 256 := ⟨c.val % 256, Nat.mod_lt _ (by norm_num)⟩
def gc (c : Fin 1024) : Fin 9728 := ⟨6656 + c.val, by have := c.isLt; omega⟩
def two (f : Fin 64) (b : Fin 2) : Fin 128 := ⟨f.val * 2 + b.val, by have := f.isLt; have := b.isLt; omega⟩

/-- The arguments: the projected rows and the gradient that arrives. -/
structure Data where
  x : Fin 4096 → Fin 9728 → ℝ
  dy : Fin 4096 → Fin 1024 → ℝ

namespace Data
variable (D : Data)

def qcol (h : Fin 4) (d : Fin 128) : Fin 9728 := ⟨4608 + (h.val * 128 + d.val), by have := h.isLt; have := d.isLt; omega⟩
def kcol (h : Fin 4) (d : Fin 128) : Fin 9728 := ⟨5120 + (h.val * 128 + d.val), by have := h.isLt; have := d.isLt; omega⟩
def vcol (h : Fin 4) (e : Fin 256) : Fin 9728 := ⟨5632 + (h.val * 256 + e.val), by have := h.isLt; have := e.isLt; omega⟩
def gcol (h : Fin 4) (e : Fin 256) : Fin 9728 := ⟨6656 + (h.val * 256 + e.val), by have := h.isLt; have := e.isLt; omega⟩
def ocol (h : Fin 4) (e : Fin 256) : Fin 1024 := ⟨h.val * 256 + e.val, by have := h.isLt; have := e.isLt; omega⟩

def qt (t : Fin 4096) (h : Fin 4) (d : Fin 128) : ℝ := rot t (fun d => D.x t (qcol h d)) d
def kt (t : Fin 4096) (h : Fin 4) (d : Fin 128) : ℝ := rot t (fun d => D.x t (kcol h d)) d * ksc
def q (n : ℕ) (h : Fin 4) (i d : Fin 128) : ℝ := D.qt (tok n i) h d
def k (n : ℕ) (h : Fin 4) (i d : Fin 128) : ℝ := D.kt (tok n i) h d
def v (n : ℕ) (h : Fin 4) (i : Fin 128) (e : Fin 256) : ℝ := D.x (tok n i) (vcol h e)
def gr (n : ℕ) (h : Fin 4) (i : Fin 128) (e : Fin 256) : ℝ := D.x (tok n i) (gcol h e)
def dyo (n : ℕ) (h : Fin 4) (i : Fin 128) (e : Fin 256) : ℝ := D.dy (tok n i) (ocol h e)

/-- The decayed scores inside a chunk. -/
def sd (n : ℕ) (h : Fin 4) (i j : Fin 128) : ℝ := (∑ d, D.q n h i d * D.k n h j d) * dm h i j
/-- What a chunk adds to the state. -/
def kv (n : ℕ) (h : Fin 4) (d : Fin 128) (e : Fin 256) : ℝ := ∑ j, D.k n h j d * zt h j * D.v n h j e
/-- The state before chunk `n`. -/
def st : ℕ → Fin 4 → Fin 128 → Fin 256 → ℝ
  | 0 => fun _ _ _ => 0
  | n + 1 => fun h d e => st n h d e * dec h + D.kv n h d e
theorem st_succ (n : ℕ) (h : Fin 4) (d : Fin 128) (e : Fin 256) : D.st (n + 1) h d e = D.st n h d e * dec h + D.kv n h d e := rfl
/-- The retention's output. -/
def o (n : ℕ) (h : Fin 4) (i : Fin 128) (e : Fin 256) : ℝ :=
  (∑ j, D.sd n h i j * D.v n h j e) + ∑ d, D.q n h i d * xi h i * D.st n h d e
def mu (n : ℕ) (h : Fin 4) (i : Fin 128) : ℝ := (∑ e, D.o n h i e) / 256
/-- The output less its head's mean. -/
def cen (n : ℕ) (h : Fin 4) (i : Fin 128) (e : Fin 256) : ℝ := D.o n h i e - D.mu n h i
/-- The guarded variance and the scale. -/
def vr (n : ℕ) (h : Fin 4) (i : Fin 128) : ℝ := (∑ e, D.cen n h i e * D.cen n h i e) / 256 + eps
def sc (n : ℕ) (h : Fin 4) (i : Fin 128) : ℝ := (Real.sqrt (D.vr n h i))⁻¹
def rn (n : ℕ) (h : Fin 4) (i : Fin 128) (e : Fin 256) : ℝ := D.cen n h i e * D.sc n h i

/-- The gradient of the gate's input. -/
def dgr (n : ℕ) (h : Fin 4) (i : Fin 128) (e : Fin 256) : ℝ :=
  D.dyo n h i e * D.rn n h i e * sg (D.gr n h i e) * (1 + D.gr n h i e * (1 - sg (D.gr n h i e)))
/-- The gradient of the normalised output. -/
def dn (n : ℕ) (h : Fin 4) (i : Fin 128) (e : Fin 256) : ℝ := D.dyo n h i e * D.gr n h i e * sg (D.gr n h i e)
/-- The gradient of the retention's output. -/
def do_ (n : ℕ) (h : Fin 4) (i : Fin 128) (e : Fin 256) : ℝ :=
  D.sc n h i * (D.dn n h i e - (∑ e', D.dn n h i e') / 256 - D.rn n h i e * ((∑ e', D.dn n h i e' * D.rn n h i e') / 256))

/-- What a chunk's outputs add to the gradient of the state before it. -/
def qd (n : ℕ) (h : Fin 4) (d : Fin 128) (e : Fin 256) : ℝ := ∑ i, D.q n h i d * xi h i * D.do_ n h i e
/-- The gradient of the state after chunk `31 - s`. -/
def bk : ℕ → Fin 4 → Fin 128 → Fin 256 → ℝ
  | 0 => fun _ _ _ => 0
  | s + 1 => fun h d e => bk s h d e * dec h + D.qd (31 - s) h d e
theorem bk_succ (s : ℕ) (h : Fin 4) (d : Fin 128) (e : Fin 256) : D.bk (s + 1) h d e = D.bk s h d e * dec h + D.qd (31 - s) h d e := rfl
theorem bk_zero (h : Fin 4) (d : Fin 128) (e : Fin 256) : D.bk 0 h d e = 0 := rfl
theorem bk_one (h : Fin 4) (d : Fin 128) (e : Fin 256) : D.bk 1 h d e = D.qd 31 h d e := by
  rw [show (1 : ℕ) = 0 + 1 from rfl, bk_succ, bk, zero_mul, zero_add]
/-- The gradient of the state after chunk `n`. -/
def db (n : ℕ) (h : Fin 4) (d : Fin 128) (e : Fin 256) : ℝ := D.bk (31 - n) h d e

/-- The gradient of the scores. -/
def ds (n : ℕ) (h : Fin 4) (i j : Fin 128) : ℝ := (∑ e, D.do_ n h i e * D.v n h j e) * dm h i j
def dv (n : ℕ) (h : Fin 4) (j : Fin 128) (e : Fin 256) : ℝ :=
  (∑ i, D.sd n h i j * D.do_ n h i e) + ∑ d, D.k n h j d * zt h j * D.db n h d e
def dq (n : ℕ) (h : Fin 4) (i d : Fin 128) : ℝ :=
  (∑ j, D.ds n h i j * D.k n h j d) + (∑ e, D.do_ n h i e * D.st n h d e) * xi h i
def dk (n : ℕ) (h : Fin 4) (j d : Fin 128) : ℝ :=
  (∑ i, D.ds n h i j * D.q n h i d) + (∑ e, D.v n h j e * D.db n h d e) * zt h j

/-- The gradients of the projected queries and keys. -/
def dqx (n : ℕ) (h : Fin 4) (i d : Fin 128) : ℝ := unrot (tok n i) (D.dq n h i) d
def dkx (n : ℕ) (h : Fin 4) (i d : Fin 128) : ℝ := unrot (tok n i) (fun d => D.dk n h i d * ksc) d

/-- The gradient of the projected rows' last 3072 columns: queries, keys, values, gate. -/
def out (t : Fin 4096) (c : Fin 3072) : ℝ :=
  if hq : c.val < 512 then D.dqx (ch t) ⟨c.val / 128, by omega⟩ (pos t) ⟨c.val % 128, by omega⟩
  else if hk : c.val < 1024 then D.dkx (ch t) ⟨(c.val - 512) / 128, by omega⟩ (pos t) ⟨(c.val - 512) % 128, by omega⟩
  else if hv : c.val < 2048 then D.dv (ch t) (hd ⟨c.val - 1024, by omega⟩) (pos t) (ln ⟨c.val - 1024, by omega⟩)
  else D.dgr (ch t) (hd ⟨c.val - 2048, by omega⟩) (pos t) (ln ⟨c.val - 2048, by omega⟩)

theorem gcol_hd_ln (c : Fin 1024) : gcol (hd c) (ln c) = gc c := by
  apply Fin.ext; simp only [gcol, hd, ln, gc]; omega
theorem ocol_hd_ln (c : Fin 1024) : ocol (hd c) (ln c) = c := by
  apply Fin.ext; simp only [ocol, hd, ln]; omega

/-! ### The normalisation's gradient, in the two forms -/

theorem vr_pos (n : ℕ) (h : Fin 4) (i : Fin 128) : 0 < D.vr n h i :=
  add_pos_of_nonneg_of_pos (div_nonneg (Finset.sum_nonneg fun k _ => mul_self_nonneg _) (by norm_num)) eps_pos

theorem sum_cen (n : ℕ) (h : Fin 4) (i : Fin 128) : ∑ e, D.cen n h i e = 0 := by
  simp only [cen, Finset.sum_sub_distrib, Finset.sum_const, Finset.card_univ, Fintype.card_fin, nsmul_eq_mul, mu]
  push_cast
  ring

theorem sc_div (n : ℕ) (h : Fin 4) (i : Fin 128) : D.sc n h i / D.vr n h i = D.sc n h i * (D.sc n h i * D.sc n h i) := by
  have hv := D.vr_pos n h i
  have hs : Real.sqrt (D.vr n h i) * Real.sqrt (D.vr n h i) = D.vr n h i := Real.mul_self_sqrt hv.le
  have h2 : (Real.sqrt (D.vr n h i))⁻¹ * (Real.sqrt (D.vr n h i))⁻¹ = (D.vr n h i)⁻¹ := by rw [← mul_inv, hs]
  rw [div_eq_mul_inv, sc, h2]

/-- The chain rule through the mean and the mean square gives the same gradient. -/
theorem do_chain (n : ℕ) (h : Fin 4) (i : Fin 128) (e : Fin 256) :
    D.do_ n h i e = D.dn n h i e * D.sc n h i
      + (∑ e', D.cen n h i e' * D.dn n h i e') * (-(1 / 2) * (D.sc n h i / D.vr n h i)) / 256 * (2 * D.cen n h i e)
      + ((∑ e', -(D.dn n h i e' * D.sc n h i))
        + ∑ e', -((∑ e'', D.cen n h i e'' * D.dn n h i e'') * (-(1 / 2) * (D.sc n h i / D.vr n h i)) / 256 * (2 * D.cen n h i e'))) / 256 := by
  have h2 : ∑ e', -((∑ e'', D.cen n h i e'' * D.dn n h i e'') * (-(1 / 2) * (D.sc n h i / D.vr n h i)) / 256 * (2 * D.cen n h i e')) = 0 := by
    rw [Finset.sum_neg_distrib, ← Finset.mul_sum, ← Finset.mul_sum, sum_cen]; ring
  have h3 : ∑ e', D.dn n h i e' * D.rn n h i e' = (∑ e', D.cen n h i e' * D.dn n h i e') * D.sc n h i := by
    rw [Finset.sum_mul]; refine Finset.sum_congr rfl fun x _ => ?_; rw [rn]; ring
  rw [h2, Finset.sum_neg_distrib, ← Finset.sum_mul, sc_div, do_, h3, rn]
  ring

/-- The gate's derivative as a sum of two terms. -/
theorem dgr_two (n : ℕ) (h : Fin 4) (i : Fin 128) (e : Fin 256) :
    D.dgr n h i e = D.rn n h i e * D.dyo n h i e * sg (D.gr n h i e)
      + D.gr n h i e * (D.rn n h i e * D.dyo n h i e) * (sg (D.gr n h i e) * (1 - sg (D.gr n h i e))) := by
  rw [dgr]; ring

theorem db_last (h : Fin 4) (d : Fin 128) (e : Fin 256) : D.db 31 h d e = 0 := rfl

end Data

end Cert.Proof.Ret

end
-- ==== Proof.RetRefA.lean ====
/-
  The retention reference's arrays read at an index, first part: rotated queries and keys,
  values, decays.
-/
module

public import proofs.«01_k».proof.Proof.RetSpec
public import proofs.«01_k».proof.Proof.Gen.RetReferenceIdeal.Run
public import Idealize.ShloMosaic.Lib.Pointwise

@[expose] public section

set_option maxRecDepth 16384

noncomputable section

namespace Cert.Proof.RetRef

open Cert.RetReferenceIdeal Cert.RetReferenceIdeal.Gen Cert.RetReferenceIdeal.Value Idealize.ShloMosaic Idealize.ShloMosaic.StableHlo Cert.Proof.Ret
open Cert.Proof.Grad (coe_sum div_coe_coe rsqrt_of_pos ofBits_eps ofBits_half ofBits_neg_half eps eps_pos sg)
open scoped BigOperators

/-- The two arguments hold the real numbers of `D`. -/
structure Holds (V : Valuation τ sig (Elt Ideal)) (D : Data) : Prop where
  h0 : ∀ (t : Fin 4096) (k : Fin 9728), (V (Proc.devRef .tc main_arg0) (ix2 t k) : EReal) = ((D.x t k : ℝ) : EReal)
  h1 : ∀ (t : Fin 4096) (k : Fin 1024), (V (Proc.devRef .tc main_arg1) (ix2 t k) : EReal) = ((D.dy t k : ℝ) : EReal)

theorem zero_const : (constant (F := Ideal) S_ .f32 0x00000000#32 ix0 : EReal) = 0 := by pointwise []
theorem one_const : (constant (F := Ideal) S_ .f32 0x3F800000#32 ix0 : EReal) = 1 := by pointwise []

/-- The sum over an array's two unit axes is its one term. -/
theorem red03 (x : S1x4096x4x1.Idx → EReal) (init : EReal) (t : Fin 4096) (h : Fin 4) :
    Ideal.hostReduceAdd reducesTo_S1x4096x4x1_S4096x4_d0_3 x init (ix2 t h) = init + x (ix4 0 t h 0) := by
  have hd : ∀ (i : S1x4096x4x1.Idx), reducesTo_S1x4096x4x1_S4096x4_d0_3.drop i = ix2 (i 1) (i 2) := by
    intro i; funext b
    match b with
    | ⟨0, _⟩ => exact Fin.ext (reducesTo_S1x4096x4x1_S4096x4_d0_3.drop_apply_val_of_eq i 0 1)
    | ⟨1, _⟩ => exact Fin.ext (reducesTo_S1x4096x4x1_S4096x4_d0_3.drop_apply_val_of_eq i 1 2)
  unfold Ideal.hostReduceAdd
  refine congrArg (init + ·) ((Finset.sum_eq_single (ix4 0 t h 0) ?_ ?_))
  · intro i hi hne
    rw [Finset.mem_filter, hd] at hi
    refine absurd ?_ hne
    have h1 : i 1 = t := congrFun hi.2 0
    have h2 : i 2 = h := congrFun hi.2 1
    rw [eq_ix4 i, h1, h2]
    have h0 : i 0 = (0 : Fin 1) := Subsingleton.elim (α := Fin 1) _ _
    have h3 : i 3 = (0 : Fin 1) := Subsingleton.elim (α := Fin 1) _ _
    rw [h0, h3]
  · intro hn
    exact (hn (Finset.mem_filter.2 ⟨Finset.mem_univ _, hd (ix4 0 t h 0)⟩)).elim

/-- A pair's rotation read off the two columns of its frequency. -/
theorem rot_pair (t : Fin 4096) (y : Fin 128 → ℝ) (d : Fin 128) (a b : Fin 128) (ha : a.val = 2 * (d.val / 2)) (hb : b.val = 1 + 2 * (d.val / 2)) :
    (if _ : d.val % 2 < 1 then (y a : EReal) * Ideal.cos (ang t (frq d) : ℝ) - (y b : EReal) * Ideal.sin (ang t (frq d) : ℝ)
      else (y b : EReal) * Ideal.cos (ang t (frq d) : ℝ) + (y a : EReal) * Ideal.sin (ang t (frq d) : ℝ)) = ((rot t y d : ℝ) : EReal) := by
  rw [rot]
  by_cases h : d.val % 2 = 0
  · have e1 : a = d := Fin.ext (by omega)
    have e2 : b = nxt d := Fin.ext (by rw [val_nxt d h]; omega)
    rw [dif_pos (by omega), if_pos h, e1, e2]
    simp only [Ideal.cos_coe, Ideal.sin_coe, ← EReal.coe_mul, ← EReal.coe_sub, cs, sn]
  · have e1 : b = d := Fin.ext (by omega)
    have e2 : a = prv d := Fin.ext (by rw [val_prv d]; omega)
    rw [dif_neg (by omega), if_neg h, e1, e2]
    simp only [Ideal.cos_coe, Ideal.sin_coe, ← EReal.coe_mul, ← EReal.coe_add, cs, sn]

variable {V : Valuation τ sig (Elt Ideal)} {D : Data}

theorem gv8
    (t : Fin 4096) : (sitofp .f32 (iotaInDim S4096 32 0) : FVec Ideal S4096 .f32) (ix1 t) = ((t.val : ℝ) : EReal) := by
  pointwise []
  exact sit_fin t (by norm_num)
theorem v8_at (H : Holds V D) (t : Fin 4096) : (res_main_v8 V (ix1 t) : EReal) = ((t.val : ℝ) : EReal) :=
  gv8   t

theorem gv19 (wv8 : FVec Ideal S4096 .f32)
    (hv8 : ∀ (t : Fin 4096), wv8 (ix1 t) = ((t.val : ℝ) : EReal))
    (t : Fin 4096) (f : Fin 64) : (mulf (broadcastInDim S4096x64 ![0, 1] bcast_S4096x1_S4096x64_0_1 (broadcastInDim S4096x1 ![0] bcast_S4096_S4096x1_0 wv8)) (broadcastInDim S4096x64 ![0, 1] bcast_S1x64_S4096x64_0_1 (broadcastInDim S1x64 ![1] bcast_S64_S1x64_1 (Host.divf (broadcastInDim S64 ![] bcast_S_S64 (constant S_ .f32 0x3F800000#32)) (Host.powf (broadcastInDim S64 ![] bcast_S_S64 (constant S_ .f32 0x461C4000#32)) (concatenate S64 0 [⟨S63, (addf (mulf (broadcastInDim S63 ![0] bcast_S1_S63_0 (shapeCast _ (id (constant S_ .f32 0x00000000#32)) shapeCasts_S_S1)) (subf (broadcastInDim S63 ![] bcast_S_S63 (constant S_ .f32 0x3F800000#32)) (Host.divf (sitofp .f32 (iotaInDim S63 32 0)) (broadcastInDim S63 ![] bcast_S_S63 (constant S_ .f32 0x427C0000#32))))) (mulf (broadcastInDim S63 ![0] bcast_S1_S63_0 (shapeCast _ (id (constant S_ .f32 0x3F800000#32)) shapeCasts_S_S1)) (Host.divf (sitofp .f32 (iotaInDim S63 32 0)) (broadcastInDim S63 ![] bcast_S_S63 (constant S_ .f32 0x427C0000#32)))))⟩, ⟨S1, (broadcastInDim S1 ![] bcast_S_S1 (id (constant S_ .f32 0x3F800000#32)))⟩] concatenates_S63_S1_S64_d0))))) : FVec Ideal S4096x64 .f32) (ix2 t f) = ((ang t f : ℝ) : EReal) := by
  pointwise [hv8]
  simp only [id, zero_const, one_const]
  rw [lin_scalar, ang_scalar]
theorem v19_at (H : Holds V D) (t : Fin 4096) (f : Fin 64) : (res_main_v19 V (ix2 t f) : EReal) = ((ang t f : ℝ) : EReal) :=
  gv19 (res_main_v8 V) (v8_at H) t f

theorem gv54 (wv8 : FVec Ideal S4096 .f32)
    (hv8 : ∀ (t : Fin 4096), wv8 (ix1 t) = ((t.val : ℝ) : EReal))
    (t : Fin 4096) (f : Fin 64) : (mulf (broadcastInDim S4096x64 ![0, 1] bcast_S4096x1_S4096x64_0_1 (broadcastInDim S4096x1 ![0] bcast_S4096_S4096x1_0 wv8)) (broadcastInDim S4096x64 ![0, 1] bcast_S1x64_S4096x64_0_1 (broadcastInDim S1x64 ![1] bcast_S64_S1x64_1 (Host.divf (broadcastInDim S64 ![] bcast_S_S64 (constant S_ .f32 0x3F800000#32)) (Host.powf (broadcastInDim S64 ![] bcast_S_S64 (constant S_ .f32 0x461C4000#32)) (concatenate S64 0 [⟨S63, (addf (mulf (broadcastInDim S63 ![0] bcast_S1_S63_0 (shapeCast _ (id (constant S_ .f32 0x00000000#32)) shapeCasts_S_S1)) (subf (broadcastInDim S63 ![] bcast_S_S63 (constant S_ .f32 0x3F800000#32)) (Host.divf (sitofp .f32 (iotaInDim S63 32 0)) (broadcastInDim S63 ![] bcast_S_S63 (constant S_ .f32 0x427C0000#32))))) (mulf (broadcastInDim S63 ![0] bcast_S1_S63_0 (shapeCast _ (id (constant S_ .f32 0x3F800000#32)) shapeCasts_S_S1)) (Host.divf (sitofp .f32 (iotaInDim S63 32 0)) (broadcastInDim S63 ![] bcast_S_S63 (constant S_ .f32 0x427C0000#32)))))⟩, ⟨S1, (broadcastInDim S1 ![] bcast_S_S1 (id (constant S_ .f32 0x3F800000#32)))⟩] concatenates_S63_S1_S64_d0))))) : FVec Ideal S4096x64 .f32) (ix2 t f) = ((ang t f : ℝ) : EReal) := by
  pointwise [hv8]
  simp only [id, zero_const, one_const]
  rw [lin_scalar, ang_scalar]
theorem v54_at (H : Holds V D) (t : Fin 4096) (f : Fin 64) : (res_main_v54 V (ix2 t f) : EReal) = ((ang t f : ℝ) : EReal) :=
  gv54 (res_main_v8 V) (v8_at H) t f

theorem gv94
    (h : Fin 4) : (Host.log1p (Host.negf (Host.powf (broadcastInDim S4 ![] bcast_S_S4 (constant S_ .f32 0x40000000#32)) (subf (broadcastInDim S4 ![] bcast_S_S4 (constant S_ .f32 0xC0A00000#32)) (sitofp .f32 (iotaInDim S4 32 0))))) : FVec Ideal S4 .f32) (ix1 h) = ((lg h : ℝ) : EReal) := by
  pointwise []
  exact lg_scalar h
theorem v94_at (H : Holds V D) (h : Fin 4) : (res_main_v94 V (ix1 h) : EReal) = ((lg h : ℝ) : EReal) :=
  gv94   h

theorem gv95
    (i : Fin 128) : (sitofp .f32 (iotaInDim S128 32 0) : FVec Ideal S128 .f32) (ix1 i) = ((i.val : ℝ) : EReal) := by
  pointwise []
  exact sit_fin i (by norm_num)
theorem v95_at (H : Holds V D) (i : Fin 128) : (res_main_v95 V (ix1 i) : EReal) = ((i.val : ℝ) : EReal) :=
  gv95   i

theorem gv100 (wv95 : FVec Ideal S128 .f32)
    (hv95 : ∀ (i : Fin 128), wv95 (ix1 i) = ((i.val : ℝ) : EReal))
    (i j : Fin 128) : (subf (broadcastInDim S128x128 ![0, 1] bcast_S128x1_S128x128_0_1 (broadcastInDim S128x1 ![0] bcast_S128_S128x1_0 wv95)) (broadcastInDim S128x128 ![0, 1] bcast_S1x128_S128x128_0_1 (broadcastInDim S1x128 ![1] bcast_S128_S1x128_1 wv95)) : FVec Ideal S128x128 .f32) (ix2 i j) = (((i.val : ℝ) - j.val : ℝ) : EReal) := by
  pointwise [hv95]
  simp only [← EReal.coe_sub]
theorem v100_at (H : Holds V D) (i j : Fin 128) : (res_main_v100 V (ix2 i j) : EReal) = (((i.val : ℝ) - j.val : ℝ) : EReal) :=
  gv100 (res_main_v95 V) (v95_at H) i j

theorem gv114 (wv100 : FVec Ideal S128x128 .f32) (wv94 : FVec Ideal S4 .f32)
    (hv100 : ∀ (i j : Fin 128), wv100 (ix2 i j) = (((i.val : ℝ) - j.val : ℝ) : EReal))
    (hv94 : ∀ (h : Fin 4), wv94 (ix1 h) = ((lg h : ℝ) : EReal))
    (h : Fin 4) (i j : Fin 128) : (broadcastInDim S1x4x1x128x128 ![1, 3, 4] bcast_S4x128x128_S1x4x1x128x128_1_3_4 (select (broadcastInDim S4x128x128 ![0, 1, 2] bcast_S1x128x128_S4x128x128_0_1_2 (cmpf .oge (broadcastInDim S1x128x128 ![1, 2] bcast_S128x128_S1x128x128_1_2 wv100) (broadcastInDim S1x128x128 ![] bcast_S_S1x128x128 (constant S_ .f32 0x00000000#32)))) (Host.exp (mulf (broadcastInDim S4x128x128 ![0, 1, 2] bcast_S1x128x128_S4x128x128_0_1_2 (broadcastInDim S1x128x128 ![1, 2] bcast_S128x128_S1x128x128_1_2 (maximumf wv100 (broadcastInDim S128x128 ![] bcast_S_S128x128 (constant S_ .f32 0x00000000#32))))) (broadcastInDim S4x128x128 ![0, 1, 2] bcast_S4x1x1_S4x128x128_0_1_2 (broadcastInDim S4x1x1 ![0] bcast_S4_S4x1x1_0 wv94)))) (broadcastInDim S4x128x128 ![] bcast_S_S4x128x128 (id (constant S_ .f32 0x00000000#32)))) : FVec Ideal S1x4x1x128x128 .f32) (ix5 0 h 0 i j) = ((dm h i j : ℝ) : EReal) := by
  pointwise [hv100, hv94]
  simp only [id, zero_const]
  exact dm_scalar h i j
theorem v114_at (H : Holds V D) (h : Fin 4) (i j : Fin 128) : (res_main_v114 V (ix5 0 h 0 i j) : EReal) = ((dm h i j : ℝ) : EReal) :=
  gv114 (res_main_v100 V) (res_main_v94 V) (v100_at H) (v94_at H) h i j

theorem gv134 (wv94 : FVec Ideal S4 .f32) (wv95 : FVec Ideal S128 .f32)
    (hv94 : ∀ (h : Fin 4), wv94 (ix1 h) = ((lg h : ℝ) : EReal))
    (hv95 : ∀ (i : Fin 128), wv95 (ix1 i) = ((i.val : ℝ) : EReal))
    (h : Fin 4) (i : Fin 128) : (broadcastInDim S1x4x1x128x1 ![1, 3] bcast_S4x128_S1x4x1x128x1_1_3 (Host.exp (mulf (broadcastInDim S4x128 ![0, 1] bcast_S1x128_S4x128_0_1 (broadcastInDim S1x128 ![1] bcast_S128_S1x128_1 (subf (broadcastInDim S128 ![] bcast_S_S128 (constant S_ .f32 0x42FE0000#32)) wv95))) (broadcastInDim S4x128 ![0, 1] bcast_S4x1_S4x128_0_1 (broadcastInDim S4x1 ![0] bcast_S4_S4x1_0 wv94)))) : FVec Ideal S1x4x1x128x1 .f32) (ix5 0 h 0 i 0) = ((zt h i : ℝ) : EReal) := by
  pointwise [hv94, hv95]
  simp only [ofBits_127, ← EReal.coe_sub, ← EReal.coe_mul, Ideal.exp_coe, zt]
theorem v134_at (H : Holds V D) (h : Fin 4) (i : Fin 128) : (res_main_v134 V (ix5 0 h 0 i 0) : EReal) = ((zt h i : ℝ) : EReal) :=
  gv134 (res_main_v94 V) (res_main_v95 V) (v94_at H) (v95_at H) h i

theorem gv370 (wv94 : FVec Ideal S4 .f32) (wv95 : FVec Ideal S128 .f32)
    (hv94 : ∀ (h : Fin 4), wv94 (ix1 h) = ((lg h : ℝ) : EReal))
    (hv95 : ∀ (i : Fin 128), wv95 (ix1 i) = ((i.val : ℝ) : EReal))
    (h : Fin 4) (i : Fin 128) : (broadcastInDim S1x4x1x128x1 ![1, 3] bcast_S4x128_S1x4x1x128x1_1_3 (Host.exp (mulf (broadcastInDim S4x128 ![0, 1] bcast_S1x128_S4x128_0_1 (broadcastInDim S1x128 ![1] bcast_S128_S1x128_1 (addf wv95 (broadcastInDim S128 ![] bcast_S_S128 (constant S_ .f32 0x3F800000#32))))) (broadcastInDim S4x128 ![0, 1] bcast_S4x1_S4x128_0_1 (broadcastInDim S4x1 ![0] bcast_S4_S4x1_0 wv94)))) : FVec Ideal S1x4x1x128x1 .f32) (ix5 0 h 0 i 0) = ((xi h i : ℝ) : EReal) := by
  pointwise [hv94, hv95]
  simp only [← EReal.coe_one, ← EReal.coe_add, ← EReal.coe_mul, Ideal.exp_coe, xi]
theorem v370_at (H : Holds V D) (h : Fin 4) (i : Fin 128) : (res_main_v370 V (ix5 0 h 0 i 0) : EReal) = ((xi h i : ℝ) : EReal) :=
  gv370 (res_main_v94 V) (res_main_v95 V) (v94_at H) (v95_at H) h i

theorem gv140 (wv94 : FVec Ideal S4 .f32)
    (hv94 : ∀ (h : Fin 4), wv94 (ix1 h) = ((lg h : ℝ) : EReal))
    (h : Fin 4) : (Host.exp (mulf (broadcastInDim S4 ![] bcast_S_S4 (constant S_ .f32 0x43000000#32)) wv94) : FVec Ideal S4 .f32) (ix1 h) = ((dec h : ℝ) : EReal) := by
  pointwise [hv94]
  simp only [ofBits_128, ← EReal.coe_mul, Ideal.exp_coe, dec]
theorem v140_at (H : Holds V D) (h : Fin 4) : (res_main_v140 V (ix1 h) : EReal) = ((dec h : ℝ) : EReal) :=
  gv140 (res_main_v94 V) (v94_at H) h

theorem gv83 (warg0 : FVec Ideal S4096x9728 .f32) (wv19 : FVec Ideal S4096x64 .f32)
    (harg0 : ∀ (t : Fin 4096) (k : Fin 9728), warg0 (ix2 t k) = ((D.x t k : ℝ) : EReal))
    (hv19 : ∀ (t : Fin 4096) (f : Fin 64), wv19 (ix2 t f) = ((ang t f : ℝ) : EReal))
    (h : Fin 4) (n : Fin 32) (i d : Fin 128) : (transpose S1x4x32x128x128 [0, 3, 1, 2, 4] (shapeCast _ (shapeCast _ (concatenate S1x4096x4x64x2 4 [⟨S1x4096x4x64x1, (broadcastInDim S1x4096x4x64x1 ![0, 1, 2, 3] bcast_S1x4096x4x64_S1x4096x4x64x1_0_1_2_3 (subf (mulf (Host.slice S1x4096x4x64 ![0, 0, 0, 0] ![1, 1, 1, 2] (shapeCast _ (broadcastInDim S1x4096x512 ![1, 2] bcast_S4096x512_S1x4096x512_1_2 (extractStridedSlice S4096x512 ![0, 4608] warg0 slices_S4096x9728_S4096x512_0_4608)) shapeCasts_S1x4096x512_S1x4096x4x128) slicesBy_S1x4096x4x128_S1x4096x4x64_0s1_0s1_0s1_0s2) (broadcastInDim S1x4096x4x64 ![0, 1, 2, 3] bcast_S1x4096x1x64_S1x4096x4x64_0_1_2_3 (broadcastInDim S1x4096x1x64 ![1, 2, 3] bcast_S4096x1x64_S1x4096x1x64_1_2_3 (broadcastInDim S4096x1x64 ![0, 2] bcast_S4096x64_S4096x1x64_0_2 (Host.cos wv19))))) (mulf (Host.slice S1x4096x4x64 ![0, 0, 0, 1] ![1, 1, 1, 2] (shapeCast _ (broadcastInDim S1x4096x512 ![1, 2] bcast_S4096x512_S1x4096x512_1_2 (extractStridedSlice S4096x512 ![0, 4608] warg0 slices_S4096x9728_S4096x512_0_4608)) shapeCasts_S1x4096x512_S1x4096x4x128) slicesBy_S1x4096x4x128_S1x4096x4x64_0s1_0s1_0s1_1s2) (broadcastInDim S1x4096x4x64 ![0, 1, 2, 3] bcast_S1x4096x1x64_S1x4096x4x64_0_1_2_3 (broadcastInDim S1x4096x1x64 ![1, 2, 3] bcast_S4096x1x64_S1x4096x1x64_1_2_3 (broadcastInDim S4096x1x64 ![0, 2] bcast_S4096x64_S4096x1x64_0_2 (Host.sin wv19)))))))⟩, ⟨S1x4096x4x64x1, (broadcastInDim S1x4096x4x64x1 ![0, 1, 2, 3] bcast_S1x4096x4x64_S1x4096x4x64x1_0_1_2_3 (addf (mulf (Host.slice S1x4096x4x64 ![0, 0, 0, 1] ![1, 1, 1, 2] (shapeCast _ (broadcastInDim S1x4096x512 ![1, 2] bcast_S4096x512_S1x4096x512_1_2 (extractStridedSlice S4096x512 ![0, 4608] warg0 slices_S4096x9728_S4096x512_0_4608)) shapeCasts_S1x4096x512_S1x4096x4x128) slicesBy_S1x4096x4x128_S1x4096x4x64_0s1_0s1_0s1_1s2) (broadcastInDim S1x4096x4x64 ![0, 1, 2, 3] bcast_S1x4096x1x64_S1x4096x4x64_0_1_2_3 (broadcastInDim S1x4096x1x64 ![1, 2, 3] bcast_S4096x1x64_S1x4096x1x64_1_2_3 (broadcastInDim S4096x1x64 ![0, 2] bcast_S4096x64_S4096x1x64_0_2 (Host.cos wv19))))) (mulf (Host.slice S1x4096x4x64 ![0, 0, 0, 0] ![1, 1, 1, 2] (shapeCast _ (broadcastInDim S1x4096x512 ![1, 2] bcast_S4096x512_S1x4096x512_1_2 (extractStridedSlice S4096x512 ![0, 4608] warg0 slices_S4096x9728_S4096x512_0_4608)) shapeCasts_S1x4096x512_S1x4096x4x128) slicesBy_S1x4096x4x128_S1x4096x4x64_0s1_0s1_0s1_0s2) (broadcastInDim S1x4096x4x64 ![0, 1, 2, 3] bcast_S1x4096x1x64_S1x4096x4x64_0_1_2_3 (broadcastInDim S1x4096x1x64 ![1, 2, 3] bcast_S4096x1x64_S1x4096x1x64_1_2_3 (broadcastInDim S4096x1x64 ![0, 2] bcast_S4096x64_S4096x1x64_0_2 (Host.sin wv19)))))))⟩] concatenates_S1x4096x4x64x1_S1x4096x4x64x1_S1x4096x4x64x2_d4) shapeCasts_S1x4096x4x64x2_S1x4096x4x128) shapeCasts_S1x4096x4x128_S1x32x128x4x128) transposes_S1x32x128x4x128_S1x4x32x128x128_0_3_1_2_4 : FVec Ideal S1x4x32x128x128 .f32) (ix5 0 h n i d) = ((D.q n.val h i d : ℝ) : EReal) := by
  pointwise [harg0, hv19]
  simp only [tok_mk]
  exact rot_pair (tok n.val i) (fun d => D.x (tok n.val i) (Data.qcol h d)) d ⟨2 * (d.val / 2), by omega⟩ ⟨1 + 2 * (d.val / 2), by omega⟩ rfl rfl
theorem v83_at (H : Holds V D) (h : Fin 4) (n : Fin 32) (i d : Fin 128) : (res_main_v83 V (ix5 0 h n i d) : EReal) = ((D.q n.val h i d : ℝ) : EReal) :=
  gv83 (V (Proc.devRef .tc main_arg0)) (res_main_v19 V) H.h0 (v19_at H) h n i d

theorem gv85 (warg0 : FVec Ideal S4096x9728 .f32) (wv54 : FVec Ideal S4096x64 .f32)
    (harg0 : ∀ (t : Fin 4096) (k : Fin 9728), warg0 (ix2 t k) = ((D.x t k : ℝ) : EReal))
    (hv54 : ∀ (t : Fin 4096) (f : Fin 64), wv54 (ix2 t f) = ((ang t f : ℝ) : EReal))
    (h : Fin 4) (n : Fin 32) (i d : Fin 128) : (transpose S1x4x32x128x128 [0, 3, 1, 2, 4] (shapeCast _ (mulf (shapeCast _ (concatenate S1x4096x4x64x2 4 [⟨S1x4096x4x64x1, (broadcastInDim S1x4096x4x64x1 ![0, 1, 2, 3] bcast_S1x4096x4x64_S1x4096x4x64x1_0_1_2_3 (subf (mulf (Host.slice S1x4096x4x64 ![0, 0, 0, 0] ![1, 1, 1, 2] (shapeCast _ (broadcastInDim S1x4096x512 ![1, 2] bcast_S4096x512_S1x4096x512_1_2 (extractStridedSlice S4096x512 ![0, 5120] warg0 slices_S4096x9728_S4096x512_0_5120)) shapeCasts_S1x4096x512_S1x4096x4x128) slicesBy_S1x4096x4x128_S1x4096x4x64_0s1_0s1_0s1_0s2) (broadcastInDim S1x4096x4x64 ![0, 1, 2, 3] bcast_S1x4096x1x64_S1x4096x4x64_0_1_2_3 (broadcastInDim S1x4096x1x64 ![1, 2, 3] bcast_S4096x1x64_S1x4096x1x64_1_2_3 (broadcastInDim S4096x1x64 ![0, 2] bcast_S4096x64_S4096x1x64_0_2 (Host.cos wv54))))) (mulf (Host.slice S1x4096x4x64 ![0, 0, 0, 1] ![1, 1, 1, 2] (shapeCast _ (broadcastInDim S1x4096x512 ![1, 2] bcast_S4096x512_S1x4096x512_1_2 (extractStridedSlice S4096x512 ![0, 5120] warg0 slices_S4096x9728_S4096x512_0_5120)) shapeCasts_S1x4096x512_S1x4096x4x128) slicesBy_S1x4096x4x128_S1x4096x4x64_0s1_0s1_0s1_1s2) (broadcastInDim S1x4096x4x64 ![0, 1, 2, 3] bcast_S1x4096x1x64_S1x4096x4x64_0_1_2_3 (broadcastInDim S1x4096x1x64 ![1, 2, 3] bcast_S4096x1x64_S1x4096x1x64_1_2_3 (broadcastInDim S4096x1x64 ![0, 2] bcast_S4096x64_S4096x1x64_0_2 (Host.sin wv54)))))))⟩, ⟨S1x4096x4x64x1, (broadcastInDim S1x4096x4x64x1 ![0, 1, 2, 3] bcast_S1x4096x4x64_S1x4096x4x64x1_0_1_2_3 (addf (mulf (Host.slice S1x4096x4x64 ![0, 0, 0, 1] ![1, 1, 1, 2] (shapeCast _ (broadcastInDim S1x4096x512 ![1, 2] bcast_S4096x512_S1x4096x512_1_2 (extractStridedSlice S4096x512 ![0, 5120] warg0 slices_S4096x9728_S4096x512_0_5120)) shapeCasts_S1x4096x512_S1x4096x4x128) slicesBy_S1x4096x4x128_S1x4096x4x64_0s1_0s1_0s1_1s2) (broadcastInDim S1x4096x4x64 ![0, 1, 2, 3] bcast_S1x4096x1x64_S1x4096x4x64_0_1_2_3 (broadcastInDim S1x4096x1x64 ![1, 2, 3] bcast_S4096x1x64_S1x4096x1x64_1_2_3 (broadcastInDim S4096x1x64 ![0, 2] bcast_S4096x64_S4096x1x64_0_2 (Host.cos wv54))))) (mulf (Host.slice S1x4096x4x64 ![0, 0, 0, 0] ![1, 1, 1, 2] (shapeCast _ (broadcastInDim S1x4096x512 ![1, 2] bcast_S4096x512_S1x4096x512_1_2 (extractStridedSlice S4096x512 ![0, 5120] warg0 slices_S4096x9728_S4096x512_0_5120)) shapeCasts_S1x4096x512_S1x4096x4x128) slicesBy_S1x4096x4x128_S1x4096x4x64_0s1_0s1_0s1_0s2) (broadcastInDim S1x4096x4x64 ![0, 1, 2, 3] bcast_S1x4096x1x64_S1x4096x4x64_0_1_2_3 (broadcastInDim S1x4096x1x64 ![1, 2, 3] bcast_S4096x1x64_S1x4096x1x64_1_2_3 (broadcastInDim S4096x1x64 ![0, 2] bcast_S4096x64_S4096x1x64_0_2 (Host.sin wv54)))))))⟩] concatenates_S1x4096x4x64x1_S1x4096x4x64x1_S1x4096x4x64x2_d4) shapeCasts_S1x4096x4x64x2_S1x4096x4x128) (broadcastInDim S1x4096x4x128 ![] bcast_S_S1x4096x4x128 (constant S_ .f32 0x3DB504F3#32))) shapeCasts_S1x4096x4x128_S1x32x128x4x128) transposes_S1x32x128x4x128_S1x4x32x128x128_0_3_1_2_4 : FVec Ideal S1x4x32x128x128 .f32) (ix5 0 h n i d) = ((D.k n.val h i d : ℝ) : EReal) := by
  pointwise [harg0, hv54]
  simp only [tok_mk, ofBits_ksc]
  exact Eq.trans (Ideal.mul_congr (rot_pair (tok n.val i) (fun d => D.x (tok n.val i) (Data.kcol h d)) d ⟨2 * (d.val / 2), by omega⟩ ⟨1 + 2 * (d.val / 2), by omega⟩ rfl rfl) rfl) (EReal.coe_mul _ _).symm
theorem v85_at (H : Holds V D) (h : Fin 4) (n : Fin 32) (i d : Fin 128) : (res_main_v85 V (ix5 0 h n i d) : EReal) = ((D.k n.val h i d : ℝ) : EReal) :=
  gv85 (V (Proc.devRef .tc main_arg0)) (res_main_v54 V) H.h0 (v54_at H) h n i d

theorem gv87 (warg0 : FVec Ideal S4096x9728 .f32)
    (harg0 : ∀ (t : Fin 4096) (k : Fin 9728), warg0 (ix2 t k) = ((D.x t k : ℝ) : EReal))
    (h : Fin 4) (n : Fin 32) (i : Fin 128) (e : Fin 256) : (transpose S1x4x32x128x256 [0, 3, 1, 2, 4] (shapeCast _ (shapeCast _ (broadcastInDim S1x4096x1024 ![1, 2] bcast_S4096x1024_S1x4096x1024_1_2 (extractStridedSlice S4096x1024 ![0, 5632] warg0 slices_S4096x9728_S4096x1024_0_5632)) shapeCasts_S1x4096x1024_S1x4096x4x256) shapeCasts_S1x4096x4x256_S1x32x128x4x256) transposes_S1x32x128x4x256_S1x4x32x128x256_0_3_1_2_4 : FVec Ideal S1x4x32x128x256 .f32) (ix5 0 h n i e) = ((D.v n.val h i e : ℝ) : EReal) := by
  pointwise [harg0]
  simp only [tok_mk]
  rfl
theorem v87_at (H : Holds V D) (h : Fin 4) (n : Fin 32) (i : Fin 128) (e : Fin 256) : (res_main_v87 V (ix5 0 h n i e) : EReal) = ((D.v n.val h i e : ℝ) : EReal) :=
  gv87 (V (Proc.devRef .tc main_arg0)) H.h0 h n i e

theorem gv116 (wv114 : FVec Ideal S1x4x1x128x128 .f32) (wv83 : FVec Ideal S1x4x32x128x128 .f32) (wv85 : FVec Ideal S1x4x32x128x128 .f32)
    (hv114 : ∀ (h : Fin 4) (i j : Fin 128), wv114 (ix5 0 h 0 i j) = ((dm h i j : ℝ) : EReal))
    (hv83 : ∀ (h : Fin 4) (n : Fin 32) (i d : Fin 128), wv83 (ix5 0 h n i d) = ((D.q n.val h i d : ℝ) : EReal))
    (hv85 : ∀ (h : Fin 4) (n : Fin 32) (i d : Fin 128), wv85 (ix5 0 h n i d) = ((D.k n.val h i d : ℝ) : EReal))
    (h : Fin 4) (n : Fin 32) (i j : Fin 128) : (mulf (Host.dotGeneral dot_S1x4x32x128x128_S1x4x32x128x128_S1x4x32x128x128_4_4_3_3_012_012 none wv83 wv85) (broadcastInDim S1x4x32x128x128 ![0, 1, 2, 3, 4] bcast_S1x4x1x128x128_S1x4x32x128x128_0_1_2_3_4 wv114) : FVec Ideal S1x4x32x128x128 .f32) (ix5 0 h n i j) = ((D.sd n.val h i j : ℝ) : EReal) := by
  pointwise [hv114, hv83, hv85]
  simp only [← EReal.coe_mul, ← coe_sum, Data.sd]
theorem v116_at (H : Holds V D) (h : Fin 4) (n : Fin 32) (i j : Fin 128) : (res_main_v116 V (ix5 0 h n i j) : EReal) = ((D.sd n.val h i j : ℝ) : EReal) :=
  gv116 (res_main_v114 V) (res_main_v83 V) (res_main_v85 V) (v114_at H) (v83_at H) (v85_at H) h n i j

theorem gv136 (wv134 : FVec Ideal S1x4x1x128x1 .f32) (wv85 : FVec Ideal S1x4x32x128x128 .f32)
    (hv134 : ∀ (h : Fin 4) (i : Fin 128), wv134 (ix5 0 h 0 i 0) = ((zt h i : ℝ) : EReal))
    (hv85 : ∀ (h : Fin 4) (n : Fin 32) (i d : Fin 128), wv85 (ix5 0 h n i d) = ((D.k n.val h i d : ℝ) : EReal))
    (h : Fin 4) (n : Fin 32) (i d : Fin 128) : (mulf wv85 (broadcastInDim S1x4x32x128x128 ![0, 1, 2, 3, 4] bcast_S1x4x1x128x1_S1x4x32x128x128_0_1_2_3_4 wv134) : FVec Ideal S1x4x32x128x128 .f32) (ix5 0 h n i d) = ((D.k n.val h i d * zt h i : ℝ) : EReal) := by
  pointwise [hv134, hv85]
  simp only [← EReal.coe_mul]
theorem v136_at (H : Holds V D) (h : Fin 4) (n : Fin 32) (i d : Fin 128) : (res_main_v136 V (ix5 0 h n i d) : EReal) = ((D.k n.val h i d * zt h i : ℝ) : EReal) :=
  gv136 (res_main_v134 V) (res_main_v85 V) (v134_at H) (v85_at H) h n i d

theorem gv137 (wv136 : FVec Ideal S1x4x32x128x128 .f32) (wv87 : FVec Ideal S1x4x32x128x256 .f32)
    (hv136 : ∀ (h : Fin 4) (n : Fin 32) (i d : Fin 128), wv136 (ix5 0 h n i d) = ((D.k n.val h i d * zt h i : ℝ) : EReal))
    (hv87 : ∀ (h : Fin 4) (n : Fin 32) (i : Fin 128) (e : Fin 256), wv87 (ix5 0 h n i e) = ((D.v n.val h i e : ℝ) : EReal))
    (h : Fin 4) (n : Fin 32) (d : Fin 128) (e : Fin 256) : (Host.dotGeneral dot_S1x4x32x128x128_S1x4x32x128x256_S1x4x32x128x256_3_3_4_4_012_012 none wv136 wv87 : FVec Ideal S1x4x32x128x256 .f32) (ix5 0 h n d e) = ((D.kv n.val h d e : ℝ) : EReal) := by
  pointwise [hv136, hv87]
  simp only [← EReal.coe_mul, ← coe_sum, Data.kv]
theorem v137_at (H : Holds V D) (h : Fin 4) (n : Fin 32) (d : Fin 128) (e : Fin 256) : (res_main_v137 V (ix5 0 h n d e) : EReal) = ((D.kv n.val h d e : ℝ) : EReal) :=
  gv137 (res_main_v136 V) (res_main_v87 V) (v136_at H) (v87_at H) h n d e

theorem gv372 (wv370 : FVec Ideal S1x4x1x128x1 .f32) (wv83 : FVec Ideal S1x4x32x128x128 .f32)
    (hv370 : ∀ (h : Fin 4) (i : Fin 128), wv370 (ix5 0 h 0 i 0) = ((xi h i : ℝ) : EReal))
    (hv83 : ∀ (h : Fin 4) (n : Fin 32) (i d : Fin 128), wv83 (ix5 0 h n i d) = ((D.q n.val h i d : ℝ) : EReal))
    (h : Fin 4) (n : Fin 32) (i d : Fin 128) : (mulf wv83 (broadcastInDim S1x4x32x128x128 ![0, 1, 2, 3, 4] bcast_S1x4x1x128x1_S1x4x32x128x128_0_1_2_3_4 wv370) : FVec Ideal S1x4x32x128x128 .f32) (ix5 0 h n i d) = ((D.q n.val h i d * xi h i : ℝ) : EReal) := by
  pointwise [hv370, hv83]
  simp only [← EReal.coe_mul]
theorem v372_at (H : Holds V D) (h : Fin 4) (n : Fin 32) (i d : Fin 128) : (res_main_v372 V (ix5 0 h n i d) : EReal) = ((D.q n.val h i d * xi h i : ℝ) : EReal) :=
  gv372 (res_main_v370 V) (res_main_v83 V) (v370_at H) (v83_at H) h n i d

end Cert.Proof.RetRef

end
-- ==== Proof.RetRefB.lean ====
/-
  The retention reference's arrays read at an index, second part: the states before the 32 chunks.
-/
module

public import proofs.«01_k».proof.Proof.RetRefA
public import proofs.«01_k».proof.Proof.Gen.RetReferenceIdeal.Run
public import Idealize.ShloMosaic.Lib.Pointwise

@[expose] public section

set_option maxRecDepth 16384

noncomputable section

namespace Cert.Proof.RetRef

open Cert.RetReferenceIdeal Cert.RetReferenceIdeal.Gen Cert.RetReferenceIdeal.Value Idealize.ShloMosaic Idealize.ShloMosaic.StableHlo Cert.Proof.Ret
open Cert.Proof.Grad (coe_sum div_coe_coe rsqrt_of_pos ofBits_eps ofBits_half ofBits_neg_half eps eps_pos sg)
open scoped BigOperators

variable {V : Valuation τ sig (Elt Ideal)} {D : Data}

theorem gv141
    (h : Fin 4) (d : Fin 128) (e : Fin 256) : (broadcastInDim S1x4x128x256 ![] bcast_S_S1x4x128x256 (constant S_ .f32 0x00000000#32) : FVec Ideal S1x4x128x256 .f32) (ix4 0 h d e) = ((D.st 0 h d e : ℝ) : EReal) := by
  pointwise []
  exact EReal.coe_zero.symm
theorem v141_at (H : Holds V D) (h : Fin 4) (d : Fin 128) (e : Fin 256) : (res_main_v141 V (ix4 0 h d e) : EReal) = ((D.st 0 h d e : ℝ) : EReal) :=
  gv141   h d e

/-- One step of the states: from the state before chunk `n` to the state before the next. -/
theorem st_step (n k : ℕ) (hk : k = n + 1) (sl : FVec Ideal S1x4x1x128x256 .f32) (wv140 : FVec Ideal S4 .f32) (wvp : FVec Ideal S1x4x128x256 .f32)
    (hs : ∀ (h : Fin 4) (d : Fin 128) (e : Fin 256), sl (ix5 0 h 0 d e) = ((D.kv n h d e : ℝ) : EReal))
    (hv140 : ∀ (h : Fin 4), wv140 (ix1 h) = ((dec h : ℝ) : EReal))
    (hp : ∀ (h : Fin 4) (d : Fin 128) (e : Fin 256), wvp (ix4 0 h d e) = ((D.st n h d e : ℝ) : EReal))
    (h : Fin 4) (d : Fin 128) (e : Fin 256) : (addf (mulf wvp (broadcastInDim S1x4x128x256 ![0, 1, 2, 3] bcast_S1x4x1x1_S1x4x128x256_0_1_2_3 (broadcastInDim S1x4x1x1 ![1] bcast_S4_S1x4x1x1_1 wv140))) (shapeCast _ sl shapeCasts_S1x4x1x128x256_S1x4x128x256) : FVec Ideal S1x4x128x256 .f32) (ix4 0 h d e) = ((D.st k h d e : ℝ) : EReal) := by
  subst hk
  pointwise [hs, hv140, hp]
  simp only [← EReal.coe_mul, ← EReal.coe_add]
  exact congrArg Real.toEReal (D.st_succ n h d e).symm

theorem v147_at (H : Holds V D) (h : Fin 4) (d : Fin 128) (e : Fin 256) : (res_main_v147 V (ix4 0 h d e) : EReal) = ((D.st 1 h d e : ℝ) : EReal) := by
  have s := st_step (D := D) 0 1 rfl (extractStridedSlice S1x4x1x128x256 ![0, 0, 0, 0, 0] (res_main_v137 V) slices_S1x4x32x128x256_S1x4x1x128x256_0_0_0_0_0) (res_main_v140 V) (res_main_v141 V) (by intro h d e; pointwise [v137_at H]) (v140_at H) (v141_at H) h d e
  exact s

theorem v153_at (H : Holds V D) (h : Fin 4) (d : Fin 128) (e : Fin 256) : (res_main_v153 V (ix4 0 h d e) : EReal) = ((D.st 2 h d e : ℝ) : EReal) := by
  have s := st_step (D := D) 1 2 rfl (extractStridedSlice S1x4x1x128x256 ![0, 0, 1, 0, 0] (res_main_v137 V) slices_S1x4x32x128x256_S1x4x1x128x256_0_0_1_0_0) (res_main_v140 V) (res_main_v147 V) (by intro h d e; pointwise [v137_at H]) (v140_at H) (v147_at H) h d e
  exact s

theorem v159_at (H : Holds V D) (h : Fin 4) (d : Fin 128) (e : Fin 256) : (res_main_v159 V (ix4 0 h d e) : EReal) = ((D.st 3 h d e : ℝ) : EReal) := by
  have s := st_step (D := D) 2 3 rfl (extractStridedSlice S1x4x1x128x256 ![0, 0, 2, 0, 0] (res_main_v137 V) slices_S1x4x32x128x256_S1x4x1x128x256_0_0_2_0_0) (res_main_v140 V) (res_main_v153 V) (by intro h d e; pointwise [v137_at H]) (v140_at H) (v153_at H) h d e
  exact s

theorem v165_at (H : Holds V D) (h : Fin 4) (d : Fin 128) (e : Fin 256) : (res_main_v165 V (ix4 0 h d e) : EReal) = ((D.st 4 h d e : ℝ) : EReal) := by
  have s := st_step (D := D) 3 4 rfl (extractStridedSlice S1x4x1x128x256 ![0, 0, 3, 0, 0] (res_main_v137 V) slices_S1x4x32x128x256_S1x4x1x128x256_0_0_3_0_0) (res_main_v140 V) (res_main_v159 V) (by intro h d e; pointwise [v137_at H]) (v140_at H) (v159_at H) h d e
  exact s

theorem v171_at (H : Holds V D) (h : Fin 4) (d : Fin 128) (e : Fin 256) : (res_main_v171 V (ix4 0 h d e) : EReal) = ((D.st 5 h d e : ℝ) : EReal) := by
  have s := st_step (D := D) 4 5 rfl (extractStridedSlice S1x4x1x128x256 ![0, 0, 4, 0, 0] (res_main_v137 V) slices_S1x4x32x128x256_S1x4x1x128x256_0_0_4_0_0) (res_main_v140 V) (res_main_v165 V) (by intro h d e; pointwise [v137_at H]) (v140_at H) (v165_at H) h d e
  exact s

theorem v177_at (H : Holds V D) (h : Fin 4) (d : Fin 128) (e : Fin 256) : (res_main_v177 V (ix4 0 h d e) : EReal) = ((D.st 6 h d e : ℝ) : EReal) := by
  have s := st_step (D := D) 5 6 rfl (extractStridedSlice S1x4x1x128x256 ![0, 0, 5, 0, 0] (res_main_v137 V) slices_S1x4x32x128x256_S1x4x1x128x256_0_0_5_0_0) (res_main_v140 V) (res_main_v171 V) (by intro h d e; pointwise [v137_at H]) (v140_at H) (v171_at H) h d e
  exact s

theorem v183_at (H : Holds V D) (h : Fin 4) (d : Fin 128) (e : Fin 256) : (res_main_v183 V (ix4 0 h d e) : EReal) = ((D.st 7 h d e : ℝ) : EReal) := by
  have s := st_step (D := D) 6 7 rfl (extractStridedSlice S1x4x1x128x256 ![0, 0, 6, 0, 0] (res_main_v137 V) slices_S1x4x32x128x256_S1x4x1x128x256_0_0_6_0_0) (res_main_v140 V) (res_main_v177 V) (by intro h d e; pointwise [v137_at H]) (v140_at H) (v177_at H) h d e
  exact s

theorem v189_at (H : Holds V D) (h : Fin 4) (d : Fin 128) (e : Fin 256) : (res_main_v189 V (ix4 0 h d e) : EReal) = ((D.st 8 h d e : ℝ) : EReal) := by
  have s := st_step (D := D) 7 8 rfl (extractStridedSlice S1x4x1x128x256 ![0, 0, 7, 0, 0] (res_main_v137 V) slices_S1x4x32x128x256_S1x4x1x128x256_0_0_7_0_0) (res_main_v140 V) (res_main_v183 V) (by intro h d e; pointwise [v137_at H]) (v140_at H) (v183_at H) h d e
  exact s

theorem v195_at (H : Holds V D) (h : Fin 4) (d : Fin 128) (e : Fin 256) : (res_main_v195 V (ix4 0 h d e) : EReal) = ((D.st 9 h d e : ℝ) : EReal) := by
  have s := st_step (D := D) 8 9 rfl (extractStridedSlice S1x4x1x128x256 ![0, 0, 8, 0, 0] (res_main_v137 V) slices_S1x4x32x128x256_S1x4x1x128x256_0_0_8_0_0) (res_main_v140 V) (res_main_v189 V) (by intro h d e; pointwise [v137_at H]) (v140_at H) (v189_at H) h d e
  exact s

theorem v201_at (H : Holds V D) (h : Fin 4) (d : Fin 128) (e : Fin 256) : (res_main_v201 V (ix4 0 h d e) : EReal) = ((D.st 10 h d e : ℝ) : EReal) := by
  have s := st_step (D := D) 9 10 rfl (extractStridedSlice S1x4x1x128x256 ![0, 0, 9, 0, 0] (res_main_v137 V) slices_S1x4x32x128x256_S1x4x1x128x256_0_0_9_0_0) (res_main_v140 V) (res_main_v195 V) (by intro h d e; pointwise [v137_at H]) (v140_at H) (v195_at H) h d e
  exact s

theorem v207_at (H : Holds V D) (h : Fin 4) (d : Fin 128) (e : Fin 256) : (res_main_v207 V (ix4 0 h d e) : EReal) = ((D.st 11 h d e : ℝ) : EReal) := by
  have s := st_step (D := D) 10 11 rfl (extractStridedSlice S1x4x1x128x256 ![0, 0, 10, 0, 0] (res_main_v137 V) slices_S1x4x32x128x256_S1x4x1x128x256_0_0_10_0_0) (res_main_v140 V) (res_main_v201 V) (by intro h d e; pointwise [v137_at H]) (v140_at H) (v201_at H) h d e
  exact s

theorem v213_at (H : Holds V D) (h : Fin 4) (d : Fin 128) (e : Fin 256) : (res_main_v213 V (ix4 0 h d e) : EReal) = ((D.st 12 h d e : ℝ) : EReal) := by
  have s := st_step (D := D) 11 12 rfl (extractStridedSlice S1x4x1x128x256 ![0, 0, 11, 0, 0] (res_main_v137 V) slices_S1x4x32x128x256_S1x4x1x128x256_0_0_11_0_0) (res_main_v140 V) (res_main_v207 V) (by intro h d e; pointwise [v137_at H]) (v140_at H) (v207_at H) h d e
  exact s

theorem v219_at (H : Holds V D) (h : Fin 4) (d : Fin 128) (e : Fin 256) : (res_main_v219 V (ix4 0 h d e) : EReal) = ((D.st 13 h d e : ℝ) : EReal) := by
  have s := st_step (D := D) 12 13 rfl (extractStridedSlice S1x4x1x128x256 ![0, 0, 12, 0, 0] (res_main_v137 V) slices_S1x4x32x128x256_S1x4x1x128x256_0_0_12_0_0) (res_main_v140 V) (res_main_v213 V) (by intro h d e; pointwise [v137_at H]) (v140_at H) (v213_at H) h d e
  exact s

theorem v225_at (H : Holds V D) (h : Fin 4) (d : Fin 128) (e : Fin 256) : (res_main_v225 V (ix4 0 h d e) : EReal) = ((D.st 14 h d e : ℝ) : EReal) := by
  have s := st_step (D := D) 13 14 rfl (extractStridedSlice S1x4x1x128x256 ![0, 0, 13, 0, 0] (res_main_v137 V) slices_S1x4x32x128x256_S1x4x1x128x256_0_0_13_0_0) (res_main_v140 V) (res_main_v219 V) (by intro h d e; pointwise [v137_at H]) (v140_at H) (v219_at H) h d e
  exact s

theorem v231_at (H : Holds V D) (h : Fin 4) (d : Fin 128) (e : Fin 256) : (res_main_v231 V (ix4 0 h d e) : EReal) = ((D.st 15 h d e : ℝ) : EReal) := by
  have s := st_step (D := D) 14 15 rfl (extractStridedSlice S1x4x1x128x256 ![0, 0, 14, 0, 0] (res_main_v137 V) slices_S1x4x32x128x256_S1x4x1x128x256_0_0_14_0_0) (res_main_v140 V) (res_main_v225 V) (by intro h d e; pointwise [v137_at H]) (v140_at H) (v225_at H) h d e
  exact s

theorem v237_at (H : Holds V D) (h : Fin 4) (d : Fin 128) (e : Fin 256) : (res_main_v237 V (ix4 0 h d e) : EReal) = ((D.st 16 h d e : ℝ) : EReal) := by
  have s := st_step (D := D) 15 16 rfl (extractStridedSlice S1x4x1x128x256 ![0, 0, 15, 0, 0] (res_main_v137 V) slices_S1x4x32x128x256_S1x4x1x128x256_0_0_15_0_0) (res_main_v140 V) (res_main_v231 V) (by intro h d e; pointwise [v137_at H]) (v140_at H) (v231_at H) h d e
  exact s

theorem v243_at (H : Holds V D) (h : Fin 4) (d : Fin 128) (e : Fin 256) : (res_main_v243 V (ix4 0 h d e) : EReal) = ((D.st 17 h d e : ℝ) : EReal) := by
  have s := st_step (D := D) 16 17 rfl (extractStridedSlice S1x4x1x128x256 ![0, 0, 16, 0, 0] (res_main_v137 V) slices_S1x4x32x128x256_S1x4x1x128x256_0_0_16_0_0) (res_main_v140 V) (res_main_v237 V) (by intro h d e; pointwise [v137_at H]) (v140_at H) (v237_at H) h d e
  exact s

theorem v249_at (H : Holds V D) (h : Fin 4) (d : Fin 128) (e : Fin 256) : (res_main_v249 V (ix4 0 h d e) : EReal) = ((D.st 18 h d e : ℝ) : EReal) := by
  have s := st_step (D := D) 17 18 rfl (extractStridedSlice S1x4x1x128x256 ![0, 0, 17, 0, 0] (res_main_v137 V) slices_S1x4x32x128x256_S1x4x1x128x256_0_0_17_0_0) (res_main_v140 V) (res_main_v243 V) (by intro h d e; pointwise [v137_at H]) (v140_at H) (v243_at H) h d e
  exact s

theorem v255_at (H : Holds V D) (h : Fin 4) (d : Fin 128) (e : Fin 256) : (res_main_v255 V (ix4 0 h d e) : EReal) = ((D.st 19 h d e : ℝ) : EReal) := by
  have s := st_step (D := D) 18 19 rfl (extractStridedSlice S1x4x1x128x256 ![0, 0, 18, 0, 0] (res_main_v137 V) slices_S1x4x32x128x256_S1x4x1x128x256_0_0_18_0_0) (res_main_v140 V) (res_main_v249 V) (by intro h d e; pointwise [v137_at H]) (v140_at H) (v249_at H) h d e
  exact s

theorem v261_at (H : Holds V D) (h : Fin 4) (d : Fin 128) (e : Fin 256) : (res_main_v261 V (ix4 0 h d e) : EReal) = ((D.st 20 h d e : ℝ) : EReal) := by
  have s := st_step (D := D) 19 20 rfl (extractStridedSlice S1x4x1x128x256 ![0, 0, 19, 0, 0] (res_main_v137 V) slices_S1x4x32x128x256_S1x4x1x128x256_0_0_19_0_0) (res_main_v140 V) (res_main_v255 V) (by intro h d e; pointwise [v137_at H]) (v140_at H) (v255_at H) h d e
  exact s

theorem v267_at (H : Holds V D) (h : Fin 4) (d : Fin 128) (e : Fin 256) : (res_main_v267 V (ix4 0 h d e) : EReal) = ((D.st 21 h d e : ℝ) : EReal) := by
  have s := st_step (D := D) 20 21 rfl (extractStridedSlice S1x4x1x128x256 ![0, 0, 20, 0, 0] (res_main_v137 V) slices_S1x4x32x128x256_S1x4x1x128x256_0_0_20_0_0) (res_main_v140 V) (res_main_v261 V) (by intro h d e; pointwise [v137_at H]) (v140_at H) (v261_at H) h d e
  exact s

theorem v273_at (H : Holds V D) (h : Fin 4) (d : Fin 128) (e : Fin 256) : (res_main_v273 V (ix4 0 h d e) : EReal) = ((D.st 22 h d e : ℝ) : EReal) := by
  have s := st_step (D := D) 21 22 rfl (extractStridedSlice S1x4x1x128x256 ![0, 0, 21, 0, 0] (res_main_v137 V) slices_S1x4x32x128x256_S1x4x1x128x256_0_0_21_0_0) (res_main_v140 V) (res_main_v267 V) (by intro h d e; pointwise [v137_at H]) (v140_at H) (v267_at H) h d e
  exact s

theorem v279_at (H : Holds V D) (h : Fin 4) (d : Fin 128) (e : Fin 256) : (res_main_v279 V (ix4 0 h d e) : EReal) = ((D.st 23 h d e : ℝ) : EReal) := by
  have s := st_step (D := D) 22 23 rfl (extractStridedSlice S1x4x1x128x256 ![0, 0, 22, 0, 0] (res_main_v137 V) slices_S1x4x32x128x256_S1x4x1x128x256_0_0_22_0_0) (res_main_v140 V) (res_main_v273 V) (by intro h d e; pointwise [v137_at H]) (v140_at H) (v273_at H) h d e
  exact s

theorem v285_at (H : Holds V D) (h : Fin 4) (d : Fin 128) (e : Fin 256) : (res_main_v285 V (ix4 0 h d e) : EReal) = ((D.st 24 h d e : ℝ) : EReal) := by
  have s := st_step (D := D) 23 24 rfl (extractStridedSlice S1x4x1x128x256 ![0, 0, 23, 0, 0] (res_main_v137 V) slices_S1x4x32x128x256_S1x4x1x128x256_0_0_23_0_0) (res_main_v140 V) (res_main_v279 V) (by intro h d e; pointwise [v137_at H]) (v140_at H) (v279_at H) h d e
  exact s

theorem v291_at (H : Holds V D) (h : Fin 4) (d : Fin 128) (e : Fin 256) : (res_main_v291 V (ix4 0 h d e) : EReal) = ((D.st 25 h d e : ℝ) : EReal) := by
  have s := st_step (D := D) 24 25 rfl (extractStridedSlice S1x4x1x128x256 ![0, 0, 24, 0, 0] (res_main_v137 V) slices_S1x4x32x128x256_S1x4x1x128x256_0_0_24_0_0) (res_main_v140 V) (res_main_v285 V) (by intro h d e; pointwise [v137_at H]) (v140_at H) (v285_at H) h d e
  exact s

theorem v297_at (H : Holds V D) (h : Fin 4) (d : Fin 128) (e : Fin 256) : (res_main_v297 V (ix4 0 h d e) : EReal) = ((D.st 26 h d e : ℝ) : EReal) := by
  have s := st_step (D := D) 25 26 rfl (extractStridedSlice S1x4x1x128x256 ![0, 0, 25, 0, 0] (res_main_v137 V) slices_S1x4x32x128x256_S1x4x1x128x256_0_0_25_0_0) (res_main_v140 V) (res_main_v291 V) (by intro h d e; pointwise [v137_at H]) (v140_at H) (v291_at H) h d e
  exact s

theorem v303_at (H : Holds V D) (h : Fin 4) (d : Fin 128) (e : Fin 256) : (res_main_v303 V (ix4 0 h d e) : EReal) = ((D.st 27 h d e : ℝ) : EReal) := by
  have s := st_step (D := D) 26 27 rfl (extractStridedSlice S1x4x1x128x256 ![0, 0, 26, 0, 0] (res_main_v137 V) slices_S1x4x32x128x256_S1x4x1x128x256_0_0_26_0_0) (res_main_v140 V) (res_main_v297 V) (by intro h d e; pointwise [v137_at H]) (v140_at H) (v297_at H) h d e
  exact s

theorem v309_at (H : Holds V D) (h : Fin 4) (d : Fin 128) (e : Fin 256) : (res_main_v309 V (ix4 0 h d e) : EReal) = ((D.st 28 h d e : ℝ) : EReal) := by
  have s := st_step (D := D) 27 28 rfl (extractStridedSlice S1x4x1x128x256 ![0, 0, 27, 0, 0] (res_main_v137 V) slices_S1x4x32x128x256_S1x4x1x128x256_0_0_27_0_0) (res_main_v140 V) (res_main_v303 V) (by intro h d e; pointwise [v137_at H]) (v140_at H) (v303_at H) h d e
  exact s

theorem v315_at (H : Holds V D) (h : Fin 4) (d : Fin 128) (e : Fin 256) : (res_main_v315 V (ix4 0 h d e) : EReal) = ((D.st 29 h d e : ℝ) : EReal) := by
  have s := st_step (D := D) 28 29 rfl (extractStridedSlice S1x4x1x128x256 ![0, 0, 28, 0, 0] (res_main_v137 V) slices_S1x4x32x128x256_S1x4x1x128x256_0_0_28_0_0) (res_main_v140 V) (res_main_v309 V) (by intro h d e; pointwise [v137_at H]) (v140_at H) (v309_at H) h d e
  exact s

theorem v321_at (H : Holds V D) (h : Fin 4) (d : Fin 128) (e : Fin 256) : (res_main_v321 V (ix4 0 h d e) : EReal) = ((D.st 30 h d e : ℝ) : EReal) := by
  have s := st_step (D := D) 29 30 rfl (extractStridedSlice S1x4x1x128x256 ![0, 0, 29, 0, 0] (res_main_v137 V) slices_S1x4x32x128x256_S1x4x1x128x256_0_0_29_0_0) (res_main_v140 V) (res_main_v315 V) (by intro h d e; pointwise [v137_at H]) (v140_at H) (v315_at H) h d e
  exact s

theorem v327_at (H : Holds V D) (h : Fin 4) (d : Fin 128) (e : Fin 256) : (res_main_v327 V (ix4 0 h d e) : EReal) = ((D.st 31 h d e : ℝ) : EReal) := by
  have s := st_step (D := D) 30 31 rfl (extractStridedSlice S1x4x1x128x256 ![0, 0, 30, 0, 0] (res_main_v137 V) slices_S1x4x32x128x256_S1x4x1x128x256_0_0_30_0_0) (res_main_v140 V) (res_main_v321 V) (by intro h d e; pointwise [v137_at H]) (v140_at H) (v321_at H) h d e
  exact s

end Cert.Proof.RetRef

end
-- ==== Proof.RetRefC.lean ====
/-
  The retention reference's arrays read at an index, third part: the outputs, their
  normalisation and its gradient.
-/
module

public import proofs.«01_k».proof.Proof.RetRefB
public import proofs.«01_k».proof.Proof.Gen.RetReferenceIdeal.Run
public import Idealize.ShloMosaic.Lib.Pointwise

@[expose] public section

set_option maxRecDepth 16384

noncomputable section

namespace Cert.Proof.RetRef

open Cert.RetReferenceIdeal Cert.RetReferenceIdeal.Gen Cert.RetReferenceIdeal.Value Idealize.ShloMosaic Idealize.ShloMosaic.StableHlo Cert.Proof.Ret
open Cert.Proof.Grad (coe_sum div_coe_coe rsqrt_of_pos ofBits_eps ofBits_half ofBits_neg_half eps eps_pos sg)
open scoped BigOperators

variable {V : Valuation τ sig (Elt Ideal)} {D : Data}

set_option maxHeartbeats 3200000 in
theorem gv368 (wv141 : FVec Ideal S1x4x128x256 .f32) (wv147 : FVec Ideal S1x4x128x256 .f32) (wv153 : FVec Ideal S1x4x128x256 .f32) (wv159 : FVec Ideal S1x4x128x256 .f32) (wv165 : FVec Ideal S1x4x128x256 .f32) (wv171 : FVec Ideal S1x4x128x256 .f32) (wv177 : FVec Ideal S1x4x128x256 .f32) (wv183 : FVec Ideal S1x4x128x256 .f32) (wv189 : FVec Ideal S1x4x128x256 .f32) (wv195 : FVec Ideal S1x4x128x256 .f32) (wv201 : FVec Ideal S1x4x128x256 .f32) (wv207 : FVec Ideal S1x4x128x256 .f32) (wv213 : FVec Ideal S1x4x128x256 .f32) (wv219 : FVec Ideal S1x4x128x256 .f32) (wv225 : FVec Ideal S1x4x128x256 .f32) (wv231 : FVec Ideal S1x4x128x256 .f32) (wv237 : FVec Ideal S1x4x128x256 .f32) (wv243 : FVec Ideal S1x4x128x256 .f32) (wv249 : FVec Ideal S1x4x128x256 .f32) (wv255 : FVec Ideal S1x4x128x256 .f32) (wv261 : FVec Ideal S1x4x128x256 .f32) (wv267 : FVec Ideal S1x4x128x256 .f32) (wv273 : FVec Ideal S1x4x128x256 .f32) (wv279 : FVec Ideal S1x4x128x256 .f32) (wv285 : FVec Ideal S1x4x128x256 .f32) (wv291 : FVec Ideal S1x4x128x256 .f32) (wv297 : FVec Ideal S1x4x128x256 .f32) (wv303 : FVec Ideal S1x4x128x256 .f32) (wv309 : FVec Ideal S1x4x128x256 .f32) (wv315 : FVec Ideal S1x4x128x256 .f32) (wv321 : FVec Ideal S1x4x128x256 .f32) (wv327 : FVec Ideal S1x4x128x256 .f32)
    (hv141 : ∀ (h : Fin 4) (d : Fin 128) (e : Fin 256), wv141 (ix4 0 h d e) = ((D.st 0 h d e : ℝ) : EReal))
    (hv147 : ∀ (h : Fin 4) (d : Fin 128) (e : Fin 256), wv147 (ix4 0 h d e) = ((D.st 1 h d e : ℝ) : EReal))
    (hv153 : ∀ (h : Fin 4) (d : Fin 128) (e : Fin 256), wv153 (ix4 0 h d e) = ((D.st 2 h d e : ℝ) : EReal))
    (hv159 : ∀ (h : Fin 4) (d : Fin 128) (e : Fin 256), wv159 (ix4 0 h d e) = ((D.st 3 h d e : ℝ) : EReal))
    (hv165 : ∀ (h : Fin 4) (d : Fin 128) (e : Fin 256), wv165 (ix4 0 h d e) = ((D.st 4 h d e : ℝ) : EReal))
    (hv171 : ∀ (h : Fin 4) (d : Fin 128) (e : Fin 256), wv171 (ix4 0 h d e) = ((D.st 5 h d e : ℝ) : EReal))
    (hv177 : ∀ (h : Fin 4) (d : Fin 128) (e : Fin 256), wv177 (ix4 0 h d e) = ((D.st 6 h d e : ℝ) : EReal))
    (hv183 : ∀ (h : Fin 4) (d : Fin 128) (e : Fin 256), wv183 (ix4 0 h d e) = ((D.st 7 h d e : ℝ) : EReal))
    (hv189 : ∀ (h : Fin 4) (d : Fin 128) (e : Fin 256), wv189 (ix4 0 h d e) = ((D.st 8 h d e : ℝ) : EReal))
    (hv195 : ∀ (h : Fin 4) (d : Fin 128) (e : Fin 256), wv195 (ix4 0 h d e) = ((D.st 9 h d e : ℝ) : EReal))
    (hv201 : ∀ (h : Fin 4) (d : Fin 128) (e : Fin 256), wv201 (ix4 0 h d e) = ((D.st 10 h d e : ℝ) : EReal))
    (hv207 : ∀ (h : Fin 4) (d : Fin 128) (e : Fin 256), wv207 (ix4 0 h d e) = ((D.st 11 h d e : ℝ) : EReal))
    (hv213 : ∀ (h : Fin 4) (d : Fin 128) (e : Fin 256), wv213 (ix4 0 h d e) = ((D.st 12 h d e : ℝ) : EReal))
    (hv219 : ∀ (h : Fin 4) (d : Fin 128) (e : Fin 256), wv219 (ix4 0 h d e) = ((D.st 13 h d e : ℝ) : EReal))
    (hv225 : ∀ (h : Fin 4) (d : Fin 128) (e : Fin 256), wv225 (ix4 0 h d e) = ((D.st 14 h d e : ℝ) : EReal))
    (hv231 : ∀ (h : Fin 4) (d : Fin 128) (e : Fin 256), wv231 (ix4 0 h d e) = ((D.st 15 h d e : ℝ) : EReal))
    (hv237 : ∀ (h : Fin 4) (d : Fin 128) (e : Fin 256), wv237 (ix4 0 h d e) = ((D.st 16 h d e : ℝ) : EReal))
    (hv243 : ∀ (h : Fin 4) (d : Fin 128) (e : Fin 256), wv243 (ix4 0 h d e) = ((D.st 17 h d e : ℝ) : EReal))
    (hv249 : ∀ (h : Fin 4) (d : Fin 128) (e : Fin 256), wv249 (ix4 0 h d e) = ((D.st 18 h d e : ℝ) : EReal))
    (hv255 : ∀ (h : Fin 4) (d : Fin 128) (e : Fin 256), wv255 (ix4 0 h d e) = ((D.st 19 h d e : ℝ) : EReal))
    (hv261 : ∀ (h : Fin 4) (d : Fin 128) (e : Fin 256), wv261 (ix4 0 h d e) = ((D.st 20 h d e : ℝ) : EReal))
    (hv267 : ∀ (h : Fin 4) (d : Fin 128) (e : Fin 256), wv267 (ix4 0 h d e) = ((D.st 21 h d e : ℝ) : EReal))
    (hv273 : ∀ (h : Fin 4) (d : Fin 128) (e : Fin 256), wv273 (ix4 0 h d e) = ((D.st 22 h d e : ℝ) : EReal))
    (hv279 : ∀ (h : Fin 4) (d : Fin 128) (e : Fin 256), wv279 (ix4 0 h d e) = ((D.st 23 h d e : ℝ) : EReal))
    (hv285 : ∀ (h : Fin 4) (d : Fin 128) (e : Fin 256), wv285 (ix4 0 h d e) = ((D.st 24 h d e : ℝ) : EReal))
    (hv291 : ∀ (h : Fin 4) (d : Fin 128) (e : Fin 256), wv291 (ix4 0 h d e) = ((D.st 25 h d e : ℝ) : EReal))
    (hv297 : ∀ (h : Fin 4) (d : Fin 128) (e : Fin 256), wv297 (ix4 0 h d e) = ((D.st 26 h d e : ℝ) : EReal))
    (hv303 : ∀ (h : Fin 4) (d : Fin 128) (e : Fin 256), wv303 (ix4 0 h d e) = ((D.st 27 h d e : ℝ) : EReal))
    (hv309 : ∀ (h : Fin 4) (d : Fin 128) (e : Fin 256), wv309 (ix4 0 h d e) = ((D.st 28 h d e : ℝ) : EReal))
    (hv315 : ∀ (h : Fin 4) (d : Fin 128) (e : Fin 256), wv315 (ix4 0 h d e) = ((D.st 29 h d e : ℝ) : EReal))
    (hv321 : ∀ (h : Fin 4) (d : Fin 128) (e : Fin 256), wv321 (ix4 0 h d e) = ((D.st 30 h d e : ℝ) : EReal))
    (hv327 : ∀ (h : Fin 4) (d : Fin 128) (e : Fin 256), wv327 (ix4 0 h d e) = ((D.st 31 h d e : ℝ) : EReal))
    (n : Fin 32) (h : Fin 4) (d : Fin 128) (e : Fin 256) : (concatenate S32x1x4x128x256 0 [⟨S16x1x4x128x256, ((concatenate S16x1x4x128x256 0 [⟨S1x1x4x128x256, ((broadcastInDim S1x1x4x128x256 ![1, 2, 3, 4] bcast_S1x4x128x256_S1x1x4x128x256_1_2_3_4 wv141) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 wv147) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 wv153) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 wv159) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 wv165) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 wv171) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 wv177) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 wv183) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 wv189) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 wv195) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 wv201) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 wv207) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 wv213) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 wv219) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 wv225) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 wv231) : (⟨S1x1x4x128x256, .f32⟩ : BufTy).Contents (Elt Ideal))⟩] concatenates_S1x1x4x128x256_S1x1x4x128x256_S1x1x4x128x256_S1x1x4x128x256_S1x1x4x128x256_S1x1x4x128x256_S1x1x4x128x256_S1x1x4x128x256_S1x1x4x128x256_S1x1x4x128x256_S1x1x4x128x256_S1x1x4x128x256_S1x1x4x128x256_S1x1x4x128x256_S1x1x4x128x256_S1x1x4x128x256_S16x1x4x128x256_d0 : (⟨S16x1x4x128x256, .f32⟩ : BufTy).Contents (Elt Ideal)))⟩, ⟨S16x1x4x128x256, ((concatenate S16x1x4x128x256 0 [⟨S1x1x4x128x256, ((broadcastInDim S1x1x4x128x256 ![1, 2, 3, 4] bcast_S1x4x128x256_S1x1x4x128x256_1_2_3_4 wv237) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 wv243) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 wv249) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 wv255) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 wv261) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 wv267) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 wv273) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 wv279) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 wv285) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 wv291) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 wv297) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 wv303) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 wv309) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 wv315) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 wv321) : (⟨S1x1x4x128x256, .f32⟩ : BufTy).Contents (Elt Ideal))⟩, ⟨S1x1x4x128x256, ((broadcastInDim S1x1x4x128x256 ![1, 2, 3, 4] bcast_S1x4x128x256_S1x1x4x128x256_1_2_3_4 wv327) : (⟨S1x1x4x128x256, .f32⟩ : BufTy).Contents (Elt Ideal))⟩] concatenates_S1x1x4x128x256_S1x1x4x128x256_S1x1x4x128x256_S1x1x4x128x256_S1x1x4x128x256_S1x1x4x128x256_S1x1x4x128x256_S1x1x4x128x256_S1x1x4x128x256_S1x1x4x128x256_S1x1x4x128x256_S1x1x4x128x256_S1x1x4x128x256_S1x1x4x128x256_S1x1x4x128x256_S1x1x4x128x256_S16x1x4x128x256_d0 : (⟨S16x1x4x128x256, .f32⟩ : BufTy).Contents (Elt Ideal)))⟩] concatenates_S16x1x4x128x256_S16x1x4x128x256_S32x1x4x128x256_d0 : FVec Ideal S32x1x4x128x256 .f32) (ix5 n 0 h d e) = ((D.st n.val h d e : ℝ) : EReal) := by
  pointwise [hv141, hv147, hv153, hv159, hv165, hv171, hv177, hv183, hv189, hv195, hv201, hv207, hv213, hv219, hv225, hv231, hv237, hv243, hv249, hv255, hv261, hv267, hv273, hv279, hv285, hv291, hv297, hv303, hv309, hv315, hv321, hv327]
  fin_vals n with hn
  all_goals simp only [hn, Nat.reduceSub, Nat.reduceLT, ↓reduceDIte]
theorem v368_at (H : Holds V D) (n : Fin 32) (h : Fin 4) (d : Fin 128) (e : Fin 256) : (res_main_v368 V (ix5 n 0 h d e) : EReal) = ((D.st n.val h d e : ℝ) : EReal) :=
  gv368 (res_main_v141 V) (res_main_v147 V) (res_main_v153 V) (res_main_v159 V) (res_main_v165 V) (res_main_v171 V) (res_main_v177 V) (res_main_v183 V) (res_main_v189 V) (res_main_v195 V) (res_main_v201 V) (res_main_v207 V) (res_main_v213 V) (res_main_v219 V) (res_main_v225 V) (res_main_v231 V) (res_main_v237 V) (res_main_v243 V) (res_main_v249 V) (res_main_v255 V) (res_main_v261 V) (res_main_v267 V) (res_main_v273 V) (res_main_v279 V) (res_main_v285 V) (res_main_v291 V) (res_main_v297 V) (res_main_v303 V) (res_main_v309 V) (res_main_v315 V) (res_main_v321 V) (res_main_v327 V) (v141_at H) (v147_at H) (v153_at H) (v159_at H) (v165_at H) (v171_at H) (v177_at H) (v183_at H) (v189_at H) (v195_at H) (v201_at H) (v207_at H) (v213_at H) (v219_at H) (v225_at H) (v231_at H) (v237_at H) (v243_at H) (v249_at H) (v255_at H) (v261_at H) (v267_at H) (v273_at H) (v279_at H) (v285_at H) (v291_at H) (v297_at H) (v303_at H) (v309_at H) (v315_at H) (v321_at H) (v327_at H) n h d e

theorem gv376 (wv116 : FVec Ideal S1x4x32x128x128 .f32) (wv368 : FVec Ideal S32x1x4x128x256 .f32) (wv372 : FVec Ideal S1x4x32x128x128 .f32) (wv87 : FVec Ideal S1x4x32x128x256 .f32)
    (hv116 : ∀ (h : Fin 4) (n : Fin 32) (i j : Fin 128), wv116 (ix5 0 h n i j) = ((D.sd n.val h i j : ℝ) : EReal))
    (hv368 : ∀ (n : Fin 32) (h : Fin 4) (d : Fin 128) (e : Fin 256), wv368 (ix5 n 0 h d e) = ((D.st n.val h d e : ℝ) : EReal))
    (hv372 : ∀ (h : Fin 4) (n : Fin 32) (i d : Fin 128), wv372 (ix5 0 h n i d) = ((D.q n.val h i d * xi h i : ℝ) : EReal))
    (hv87 : ∀ (h : Fin 4) (n : Fin 32) (i : Fin 128) (e : Fin 256), wv87 (ix5 0 h n i e) = ((D.v n.val h i e : ℝ) : EReal))
    (t : Fin 4096) (h : Fin 4) (e : Fin 256) : (shapeCast _ (transpose S1x32x128x4x256 [0, 2, 3, 1, 4] (addf (Host.dotGeneral dot_S1x4x32x128x128_S1x4x32x128x256_S1x4x32x128x256_4_3_3_4_012_012 none wv116 wv87) (Host.dotGeneral dot_S1x4x32x128x128_S32x1x4x128x256_S1x4x32x128x256_4_3_3_4_012_120 none wv372 wv368)) transposes_S1x4x32x128x256_S1x32x128x4x256_0_2_3_1_4) shapeCasts_S1x32x128x4x256_S1x4096x4x256 : FVec Ideal S1x4096x4x256 .f32) (ix4 0 t h e) = ((D.o (ch t) h (pos t) e : ℝ) : EReal) := by
  pointwise [hv116, hv368, hv372, hv87]
  simp only [← EReal.coe_mul, ← coe_sum, ← EReal.coe_add, Data.o, ch, pos]
theorem v376_at (H : Holds V D) (t : Fin 4096) (h : Fin 4) (e : Fin 256) : (res_main_v376 V (ix4 0 t h e) : EReal) = ((D.o (ch t) h (pos t) e : ℝ) : EReal) :=
  gv376 (res_main_v116 V) (res_main_v368 V) (res_main_v372 V) (res_main_v87 V) (v116_at H) (v368_at H) (v372_at H) (v87_at H) t h e

theorem gv380 (wv376 : FVec Ideal S1x4096x4x256 .f32)
    (hv376 : ∀ (t : Fin 4096) (h : Fin 4) (e : Fin 256), wv376 (ix4 0 t h e) = ((D.o (ch t) h (pos t) e : ℝ) : EReal))
    (t : Fin 4096) (h : Fin 4) : (Host.divf (broadcastInDim S1x4096x4x1 ![0, 1, 2] bcast_S1x4096x4_S1x4096x4x1_0_1_2 (Host.reduceAdd wv376 (constant S_ .f32 0x00000000#32) reducesTo_S1x4096x4x256_S1x4096x4_d3 h_S_)) (broadcastInDim S1x4096x4x1 ![] bcast_S_S1x4096x4x1 (constant S_ .f32 0x43800000#32)) : FVec Ideal S1x4096x4x1 .f32) (ix4 0 t h 0) = ((D.mu (ch t) h (pos t) : ℝ) : EReal) := by
  pointwise [hv376]
  simp only [ofBits_256, ← coe_sum, div_coe_coe _ (by norm_num : (256 : ℝ) ≠ 0), Data.mu]
theorem v380_at (H : Holds V D) (t : Fin 4096) (h : Fin 4) : (res_main_v380 V (ix4 0 t h 0) : EReal) = ((D.mu (ch t) h (pos t) : ℝ) : EReal) :=
  gv380 (res_main_v376 V) (v376_at H) t h

theorem gv382 (wv376 : FVec Ideal S1x4096x4x256 .f32) (wv380 : FVec Ideal S1x4096x4x1 .f32)
    (hv376 : ∀ (t : Fin 4096) (h : Fin 4) (e : Fin 256), wv376 (ix4 0 t h e) = ((D.o (ch t) h (pos t) e : ℝ) : EReal))
    (hv380 : ∀ (t : Fin 4096) (h : Fin 4), wv380 (ix4 0 t h 0) = ((D.mu (ch t) h (pos t) : ℝ) : EReal))
    (t : Fin 4096) (h : Fin 4) (e : Fin 256) : (subf wv376 (broadcastInDim S1x4096x4x256 ![0, 1, 2, 3] bcast_S1x4096x4x1_S1x4096x4x256_0_1_2_3 wv380) : FVec Ideal S1x4096x4x256 .f32) (ix4 0 t h e) = ((D.cen (ch t) h (pos t) e : ℝ) : EReal) := by
  pointwise [hv376, hv380]
  simp only [← EReal.coe_sub, Data.cen]
theorem v382_at (H : Holds V D) (t : Fin 4096) (h : Fin 4) (e : Fin 256) : (res_main_v382 V (ix4 0 t h e) : EReal) = ((D.cen (ch t) h (pos t) e : ℝ) : EReal) :=
  gv382 (res_main_v376 V) (res_main_v380 V) (v376_at H) (v380_at H) t h e

theorem gv391 (wv376 : FVec Ideal S1x4096x4x256 .f32) (wv380 : FVec Ideal S1x4096x4x1 .f32)
    (hv376 : ∀ (t : Fin 4096) (h : Fin 4) (e : Fin 256), wv376 (ix4 0 t h e) = ((D.o (ch t) h (pos t) e : ℝ) : EReal))
    (hv380 : ∀ (t : Fin 4096) (h : Fin 4), wv380 (ix4 0 t h 0) = ((D.mu (ch t) h (pos t) : ℝ) : EReal))
    (t : Fin 4096) (h : Fin 4) (e : Fin 256) : (subf wv376 (broadcastInDim S1x4096x4x256 ![0, 1, 2, 3] bcast_S1x4096x4x1_S1x4096x4x256_0_1_2_3 wv380) : FVec Ideal S1x4096x4x256 .f32) (ix4 0 t h e) = ((D.cen (ch t) h (pos t) e : ℝ) : EReal) := by
  pointwise [hv376, hv380]
  simp only [← EReal.coe_sub, Data.cen]
theorem v391_at (H : Holds V D) (t : Fin 4096) (h : Fin 4) (e : Fin 256) : (res_main_v391 V (ix4 0 t h e) : EReal) = ((D.cen (ch t) h (pos t) e : ℝ) : EReal) :=
  gv391 (res_main_v376 V) (res_main_v380 V) (v376_at H) (v380_at H) t h e

theorem gv393 (wv382 : FVec Ideal S1x4096x4x256 .f32)
    (hv382 : ∀ (t : Fin 4096) (h : Fin 4) (e : Fin 256), wv382 (ix4 0 t h e) = ((D.cen (ch t) h (pos t) e : ℝ) : EReal))
    (t : Fin 4096) (h : Fin 4) : (addf (Host.divf (broadcastInDim S1x4096x4x1 ![0, 1, 2] bcast_S1x4096x4_S1x4096x4x1_0_1_2 (Host.reduceAdd (mulf wv382 wv382) (constant S_ .f32 0x00000000#32) reducesTo_S1x4096x4x256_S1x4096x4_d3 h_S_)) (broadcastInDim S1x4096x4x1 ![] bcast_S_S1x4096x4x1 (constant S_ .f32 0x43800000#32))) (broadcastInDim S1x4096x4x1 ![] bcast_S_S1x4096x4x1 (constant S_ .f32 0x358637BD#32)) : FVec Ideal S1x4096x4x1 .f32) (ix4 0 t h 0) = ((D.vr (ch t) h (pos t) : ℝ) : EReal) := by
  pointwise [hv382]
  simp only [ofBits_256, ofBits_eps, ← EReal.coe_mul, ← coe_sum, ← EReal.coe_add, div_coe_coe _ (by norm_num : (256 : ℝ) ≠ 0), Data.vr]
theorem v393_at (H : Holds V D) (t : Fin 4096) (h : Fin 4) : (res_main_v393 V (ix4 0 t h 0) : EReal) = ((D.vr (ch t) h (pos t) : ℝ) : EReal) :=
  gv393 (res_main_v382 V) (v382_at H) t h

theorem gv394 (wv393 : FVec Ideal S1x4096x4x1 .f32)
    (hv393 : ∀ (t : Fin 4096) (h : Fin 4), wv393 (ix4 0 t h 0) = ((D.vr (ch t) h (pos t) : ℝ) : EReal))
    (t : Fin 4096) (h : Fin 4) : (Host.rsqrt wv393 : FVec Ideal S1x4096x4x1 .f32) (ix4 0 t h 0) = ((D.sc (ch t) h (pos t) : ℝ) : EReal) := by
  pointwise [hv393]
  exact rsqrt_of_pos (D.vr_pos _ _ _)
theorem v394_at (H : Holds V D) (t : Fin 4096) (h : Fin 4) : (res_main_v394 V (ix4 0 t h 0) : EReal) = ((D.sc (ch t) h (pos t) : ℝ) : EReal) :=
  gv394 (res_main_v393 V) (v393_at H) t h

theorem gv400 (wv391 : FVec Ideal S1x4096x4x256 .f32) (wv394 : FVec Ideal S1x4096x4x1 .f32)
    (hv391 : ∀ (t : Fin 4096) (h : Fin 4) (e : Fin 256), wv391 (ix4 0 t h e) = ((D.cen (ch t) h (pos t) e : ℝ) : EReal))
    (hv394 : ∀ (t : Fin 4096) (h : Fin 4), wv394 (ix4 0 t h 0) = ((D.sc (ch t) h (pos t) : ℝ) : EReal))
    (t : Fin 4096) (c : Fin 1024) : (shapeCast _ (mulf wv391 (broadcastInDim S1x4096x4x256 ![0, 1, 2, 3] bcast_S1x4096x4x1_S1x4096x4x256_0_1_2_3 wv394)) shapeCasts_S1x4096x4x256_S1x4096x1024 : FVec Ideal S1x4096x1024 .f32) (ix3 0 t c) = ((D.rn (ch t) (hd c) (pos t) (ln c) : ℝ) : EReal) := by
  pointwise [hv391, hv394]
  simp only [← EReal.coe_mul, Data.rn, hd, ln]
theorem v400_at (H : Holds V D) (t : Fin 4096) (c : Fin 1024) : (res_main_v400 V (ix3 0 t c) : EReal) = ((D.rn (ch t) (hd c) (pos t) (ln c) : ℝ) : EReal) :=
  gv400 (res_main_v391 V) (res_main_v394 V) (v391_at H) (v394_at H) t c

theorem gv7 (warg0 : FVec Ideal S4096x9728 .f32)
    (harg0 : ∀ (t : Fin 4096) (k : Fin 9728), warg0 (ix2 t k) = ((D.x t k : ℝ) : EReal))
    (t : Fin 4096) (c : Fin 1024) : (broadcastInDim S1x4096x1024 ![1, 2] bcast_S4096x1024_S1x4096x1024_1_2 (extractStridedSlice S4096x1024 ![0, 6656] warg0 slices_S4096x9728_S4096x1024_0_6656) : FVec Ideal S1x4096x1024 .f32) (ix3 0 t c) = ((D.x t (gc c) : ℝ) : EReal) := by
  pointwise [harg0]
  simp only [gc]
theorem v7_at (H : Holds V D) (t : Fin 4096) (c : Fin 1024) : (res_main_v7 V (ix3 0 t c) : EReal) = ((D.x t (gc c) : ℝ) : EReal) :=
  gv7 (V (Proc.devRef .tc main_arg0)) H.h0 t c

theorem gv401_2 (wv7 : FVec Ideal S1x4096x1024 .f32)
    (hv7 : ∀ (t : Fin 4096) (c : Fin 1024), wv7 (ix3 0 t c) = ((D.x t (gc c) : ℝ) : EReal))
    (t : Fin 4096) (c : Fin 1024) : (Host.divf (broadcastInDim S1x4096x1024 ![] bcast_S_S1x4096x1024 (constant S_ .f32 0x3F800000#32)) (addf (broadcastInDim S1x4096x1024 ![] bcast_S_S1x4096x1024 (constant S_ .f32 0x3F800000#32)) (Host.exp (Host.negf wv7))) : FVec Ideal S1x4096x1024 .f32) (ix3 0 t c) = ((sg (D.x t (gc c)) : ℝ) : EReal) := by
  pointwise [hv7]
  have h : (1 + Real.exp (-D.x t (gc c))) ≠ 0 := by positivity
  simp only [← EReal.coe_one, ← EReal.coe_neg, Ideal.exp_coe, ← EReal.coe_add, div_coe_coe _ h, sg, one_div]
theorem v401_2_at (H : Holds V D) (t : Fin 4096) (c : Fin 1024) : (res_main_v401_2 V (ix3 0 t c) : EReal) = ((sg (D.x t (gc c)) : ℝ) : EReal) :=
  gv401_2 (res_main_v7 V) (v7_at H) t c

theorem gv401_0 (wv401_2 : FVec Ideal S1x4096x1024 .f32) (wv7 : FVec Ideal S1x4096x1024 .f32)
    (hv401_2 : ∀ (t : Fin 4096) (c : Fin 1024), wv401_2 (ix3 0 t c) = ((sg (D.x t (gc c)) : ℝ) : EReal))
    (hv7 : ∀ (t : Fin 4096) (c : Fin 1024), wv7 (ix3 0 t c) = ((D.x t (gc c) : ℝ) : EReal))
    (t : Fin 4096) (c : Fin 1024) : (mulf wv7 wv401_2 : FVec Ideal S1x4096x1024 .f32) (ix3 0 t c) = ((D.x t (gc c) * sg (D.x t (gc c)) : ℝ) : EReal) := by
  pointwise [hv401_2, hv7]
  simp only [← EReal.coe_mul]
theorem v401_0_at (H : Holds V D) (t : Fin 4096) (c : Fin 1024) : (res_main_v401_0 V (ix3 0 t c) : EReal) = ((D.x t (gc c) * sg (D.x t (gc c)) : ℝ) : EReal) :=
  gv401_0 (res_main_v401_2 V) (res_main_v7 V) (v401_2_at H) (v7_at H) t c

theorem gv403 (warg1 : FVec Ideal S4096x1024 .f32)
    (harg1 : ∀ (t : Fin 4096) (k : Fin 1024), warg1 (ix2 t k) = ((D.dy t k : ℝ) : EReal))
    (t : Fin 4096) (c : Fin 1024) : (broadcastInDim S1x4096x1024 ![1, 2] bcast_S4096x1024_S1x4096x1024_1_2 warg1 : FVec Ideal S1x4096x1024 .f32) (ix3 0 t c) = ((D.dy t c : ℝ) : EReal) := by
  pointwise [harg1]
theorem v403_at (H : Holds V D) (t : Fin 4096) (c : Fin 1024) : (res_main_v403 V (ix3 0 t c) : EReal) = ((D.dy t c : ℝ) : EReal) :=
  gv403 (V (Proc.devRef .tc main_arg1)) H.h1 t c

theorem gv404 (wv400 : FVec Ideal S1x4096x1024 .f32) (wv403 : FVec Ideal S1x4096x1024 .f32)
    (hv400 : ∀ (t : Fin 4096) (c : Fin 1024), wv400 (ix3 0 t c) = ((D.rn (ch t) (hd c) (pos t) (ln c) : ℝ) : EReal))
    (hv403 : ∀ (t : Fin 4096) (c : Fin 1024), wv403 (ix3 0 t c) = ((D.dy t c : ℝ) : EReal))
    (t : Fin 4096) (c : Fin 1024) : (mulf wv400 wv403 : FVec Ideal S1x4096x1024 .f32) (ix3 0 t c) = ((D.rn (ch t) (hd c) (pos t) (ln c) * D.dy t c : ℝ) : EReal) := by
  pointwise [hv400, hv403]
  simp only [← EReal.coe_mul]
theorem v404_at (H : Holds V D) (t : Fin 4096) (c : Fin 1024) : (res_main_v404 V (ix3 0 t c) : EReal) = ((D.rn (ch t) (hd c) (pos t) (ln c) * D.dy t c : ℝ) : EReal) :=
  gv404 (res_main_v400 V) (res_main_v403 V) (v400_at H) (v403_at H) t c

theorem gv407 (wv401_0 : FVec Ideal S1x4096x1024 .f32) (wv403 : FVec Ideal S1x4096x1024 .f32)
    (hv401_0 : ∀ (t : Fin 4096) (c : Fin 1024), wv401_0 (ix3 0 t c) = ((D.x t (gc c) * sg (D.x t (gc c)) : ℝ) : EReal))
    (hv403 : ∀ (t : Fin 4096) (c : Fin 1024), wv403 (ix3 0 t c) = ((D.dy t c : ℝ) : EReal))
    (t : Fin 4096) (h : Fin 4) (e : Fin 256) : (shapeCast _ (mulf wv403 wv401_0) shapeCasts_S1x4096x1024_S1x4096x4x256 : FVec Ideal S1x4096x4x256 .f32) (ix4 0 t h e) = ((D.dn (ch t) h (pos t) e : ℝ) : EReal) := by
  pointwise [hv401_0, hv403]
  simp only [← EReal.coe_mul, Data.dn, Data.dyo, Data.gr, tok_ch_pos, mul_assoc, gc, Data.gcol, Data.ocol]
theorem v407_at (H : Holds V D) (t : Fin 4096) (h : Fin 4) (e : Fin 256) : (res_main_v407 V (ix4 0 t h e) : EReal) = ((D.dn (ch t) h (pos t) e : ℝ) : EReal) :=
  gv407 (res_main_v401_0 V) (res_main_v403 V) (v401_0_at H) (v403_at H) t h e

theorem gv412 (wv394 : FVec Ideal S1x4096x4x1 .f32) (wv407 : FVec Ideal S1x4096x4x256 .f32)
    (hv394 : ∀ (t : Fin 4096) (h : Fin 4), wv394 (ix4 0 t h 0) = ((D.sc (ch t) h (pos t) : ℝ) : EReal))
    (hv407 : ∀ (t : Fin 4096) (h : Fin 4) (e : Fin 256), wv407 (ix4 0 t h e) = ((D.dn (ch t) h (pos t) e : ℝ) : EReal))
    (t : Fin 4096) (h : Fin 4) (e : Fin 256) : (mulf wv407 (broadcastInDim S1x4096x4x256 ![0, 1, 2, 3] bcast_S1x4096x4x1_S1x4096x4x256_0_1_2_3 wv394) : FVec Ideal S1x4096x4x256 .f32) (ix4 0 t h e) = ((D.dn (ch t) h (pos t) e * D.sc (ch t) h (pos t) : ℝ) : EReal) := by
  pointwise [hv394, hv407]
  simp only [← EReal.coe_mul]
theorem v412_at (H : Holds V D) (t : Fin 4096) (h : Fin 4) (e : Fin 256) : (res_main_v412 V (ix4 0 t h e) : EReal) = ((D.dn (ch t) h (pos t) e * D.sc (ch t) h (pos t) : ℝ) : EReal) :=
  gv412 (res_main_v394 V) (res_main_v407 V) (v394_at H) (v407_at H) t h e

theorem gv422 (wv382 : FVec Ideal S1x4096x4x256 .f32) (wv391 : FVec Ideal S1x4096x4x256 .f32) (wv393 : FVec Ideal S1x4096x4x1 .f32) (wv394 : FVec Ideal S1x4096x4x1 .f32) (wv407 : FVec Ideal S1x4096x4x256 .f32)
    (hv382 : ∀ (t : Fin 4096) (h : Fin 4) (e : Fin 256), wv382 (ix4 0 t h e) = ((D.cen (ch t) h (pos t) e : ℝ) : EReal))
    (hv391 : ∀ (t : Fin 4096) (h : Fin 4) (e : Fin 256), wv391 (ix4 0 t h e) = ((D.cen (ch t) h (pos t) e : ℝ) : EReal))
    (hv393 : ∀ (t : Fin 4096) (h : Fin 4), wv393 (ix4 0 t h 0) = ((D.vr (ch t) h (pos t) : ℝ) : EReal))
    (hv394 : ∀ (t : Fin 4096) (h : Fin 4), wv394 (ix4 0 t h 0) = ((D.sc (ch t) h (pos t) : ℝ) : EReal))
    (hv407 : ∀ (t : Fin 4096) (h : Fin 4) (e : Fin 256), wv407 (ix4 0 t h e) = ((D.dn (ch t) h (pos t) e : ℝ) : EReal))
    (t : Fin 4096) (h : Fin 4) (e : Fin 256) : (mulf (broadcastInDim S1x4096x4x256 ![0, 1, 2] bcast_S1x4096x4_S1x4096x4x256_0_1_2 (broadcastInDim S1x4096x4 ![1, 2] bcast_S4096x4_S1x4096x4_1_2 (Host.reduceAdd (Host.divf (mulf (shapeCast _ (Host.reduceAdd (mulf wv391 wv407) (constant S_ .f32 0x00000000#32) reducesTo_S1x4096x4x256_S1x4096x4_d3 h_S_) shapeCasts_S1x4096x4_S1x4096x4x1) (mulf (broadcastInDim S1x4096x4x1 ![] bcast_S_S1x4096x4x1 (constant S_ .f32 0xBF000000#32)) (Host.divf wv394 wv393))) (broadcastInDim S1x4096x4x1 ![] bcast_S_S1x4096x4x1 (constant S_ .f32 0x43800000#32))) (constant S_ .f32 0x00000000#32) reducesTo_S1x4096x4x1_S4096x4_d0_3 h_S_))) (mulf (broadcastInDim S1x4096x4x256 ![] bcast_S_S1x4096x4x256 (constant S_ .f32 0x40000000#32)) wv382) : FVec Ideal S1x4096x4x256 .f32) (ix4 0 t h e) = (((∑ e', D.cen (ch t) h (pos t) e' * D.dn (ch t) h (pos t) e') * (-(1 / 2) * (D.sc (ch t) h (pos t) / D.vr (ch t) h (pos t))) / 256 * (2 * D.cen (ch t) h (pos t) e) : ℝ) : EReal) := by
  pointwise [hv382, hv391, hv393, hv394, hv407]
  simp only [red03, zero_add]
  pointwise [hv391, hv393, hv394, hv407]
  simp only [hv391, hv393, hv394, hv407, ofBits_neg_half, ofBits_256, ofBits_two, ← EReal.coe_mul, ← coe_sum, ← EReal.coe_add, div_coe_coe _ (by norm_num : (256 : ℝ) ≠ 0), div_coe_coe _ (D.vr_pos _ _ _).ne']
theorem v422_at (H : Holds V D) (t : Fin 4096) (h : Fin 4) (e : Fin 256) : (res_main_v422 V (ix4 0 t h e) : EReal) = (((∑ e', D.cen (ch t) h (pos t) e' * D.dn (ch t) h (pos t) e') * (-(1 / 2) * (D.sc (ch t) h (pos t) / D.vr (ch t) h (pos t))) / 256 * (2 * D.cen (ch t) h (pos t) e) : ℝ) : EReal) :=
  gv422 (res_main_v382 V) (res_main_v391 V) (res_main_v393 V) (res_main_v394 V) (res_main_v407 V) (v382_at H) (v391_at H) (v393_at H) (v394_at H) (v407_at H) t h e

theorem gv435 (wv412 : FVec Ideal S1x4096x4x256 .f32) (wv422 : FVec Ideal S1x4096x4x256 .f32)
    (hv412 : ∀ (t : Fin 4096) (h : Fin 4) (e : Fin 256), wv412 (ix4 0 t h e) = ((D.dn (ch t) h (pos t) e * D.sc (ch t) h (pos t) : ℝ) : EReal))
    (hv422 : ∀ (t : Fin 4096) (h : Fin 4) (e : Fin 256), wv422 (ix4 0 t h e) = (((∑ e', D.cen (ch t) h (pos t) e' * D.dn (ch t) h (pos t) e') * (-(1 / 2) * (D.sc (ch t) h (pos t) / D.vr (ch t) h (pos t))) / 256 * (2 * D.cen (ch t) h (pos t) e) : ℝ) : EReal))
    (h : Fin 4) (n : Fin 32) (i : Fin 128) (e : Fin 256) : (transpose S1x4x32x128x256 [0, 3, 1, 2, 4] (shapeCast _ (addf (addf wv412 wv422) (broadcastInDim S1x4096x4x256 ![0, 1, 2] bcast_S1x4096x4_S1x4096x4x256_0_1_2 (broadcastInDim S1x4096x4 ![1, 2] bcast_S4096x4_S1x4096x4_1_2 (Host.reduceAdd (Host.divf (addf (shapeCast _ (Host.reduceAdd (Host.negf wv412) (constant S_ .f32 0x00000000#32) reducesTo_S1x4096x4x256_S1x4096x4_d3 h_S_) shapeCasts_S1x4096x4_S1x4096x4x1) (shapeCast _ (Host.reduceAdd (Host.negf wv422) (constant S_ .f32 0x00000000#32) reducesTo_S1x4096x4x256_S1x4096x4_d3 h_S_) shapeCasts_S1x4096x4_S1x4096x4x1)) (broadcastInDim S1x4096x4x1 ![] bcast_S_S1x4096x4x1 (constant S_ .f32 0x43800000#32))) (constant S_ .f32 0x00000000#32) reducesTo_S1x4096x4x1_S4096x4_d0_3 h_S_)))) shapeCasts_S1x4096x4x256_S1x32x128x4x256) transposes_S1x32x128x4x256_S1x4x32x128x256_0_3_1_2_4 : FVec Ideal S1x4x32x128x256 .f32) (ix5 0 h n i e) = ((D.do_ n.val h i e : ℝ) : EReal) := by
  pointwise [hv412, hv422]
  simp only [red03, zero_add]
  pointwise [hv412, hv422]
  simp only [tok_mk, ch_tok, pos_tok, ofBits_256, ← EReal.coe_neg, ← EReal.coe_mul, ← coe_sum, ← EReal.coe_add, div_coe_coe _ (by norm_num : (256 : ℝ) ≠ 0)]
  exact congrArg Real.toEReal (D.do_chain n.val h i e).symm
theorem v435_at (H : Holds V D) (h : Fin 4) (n : Fin 32) (i : Fin 128) (e : Fin 256) : (res_main_v435 V (ix5 0 h n i e) : EReal) = ((D.do_ n.val h i e : ℝ) : EReal) :=
  gv435 (res_main_v412 V) (res_main_v422 V) (v412_at H) (v422_at H) h n i e

theorem gv437 (wv372 : FVec Ideal S1x4x32x128x128 .f32) (wv435 : FVec Ideal S1x4x32x128x256 .f32)
    (hv372 : ∀ (h : Fin 4) (n : Fin 32) (i d : Fin 128), wv372 (ix5 0 h n i d) = ((D.q n.val h i d * xi h i : ℝ) : EReal))
    (hv435 : ∀ (h : Fin 4) (n : Fin 32) (i : Fin 128) (e : Fin 256), wv435 (ix5 0 h n i e) = ((D.do_ n.val h i e : ℝ) : EReal))
    (n : Fin 32) (h : Fin 4) (d : Fin 128) (e : Fin 256) : (transpose S32x1x4x128x256 [2, 0, 1, 4, 3] (Host.dotGeneral dot_S1x4x32x128x256_S1x4x32x128x128_S1x4x32x256x128_3_3_4_4_012_012 none wv435 wv372) transposes_S1x4x32x256x128_S32x1x4x128x256_2_0_1_4_3 : FVec Ideal S32x1x4x128x256 .f32) (ix5 n 0 h d e) = ((D.qd n.val h d e : ℝ) : EReal) := by
  pointwise [hv372, hv435]
  simp only [← EReal.coe_mul, ← coe_sum]
  exact congrArg Real.toEReal (Finset.sum_congr rfl fun i _ => mul_comm _ _)
theorem v437_at (H : Holds V D) (n : Fin 32) (h : Fin 4) (d : Fin 128) (e : Fin 256) : (res_main_v437 V (ix5 n 0 h d e) : EReal) = ((D.qd n.val h d e : ℝ) : EReal) :=
  gv437 (res_main_v372 V) (res_main_v435 V) (v372_at H) (v435_at H) n h d e

end Cert.Proof.RetRef

end
-- ==== Proof.RetRefD.lean ====
/-
  The retention reference's arrays read at an index, fourth part: the gradients of the states.
-/
module

public import proofs.«01_k».proof.Proof.RetRefC
public import proofs.«01_k».proof.Proof.Gen.RetReferenceIdeal.Run
public import Idealize.ShloMosaic.Lib.Pointwise

@[expose] public section

set_option maxRecDepth 16384

noncomputable section

namespace Cert.Proof.RetRef

open Cert.RetReferenceIdeal Cert.RetReferenceIdeal.Gen Cert.RetReferenceIdeal.Value Idealize.ShloMosaic Idealize.ShloMosaic.StableHlo Cert.Proof.Ret
open Cert.Proof.Grad (coe_sum div_coe_coe rsqrt_of_pos ofBits_eps ofBits_half ofBits_neg_half eps eps_pos sg)
open scoped BigOperators

variable {V : Valuation τ sig (Elt Ideal)} {D : Data}

theorem gv504 (wv437 : FVec Ideal S32x1x4x128x256 .f32)
    (hv437 : ∀ (n : Fin 32) (h : Fin 4) (d : Fin 128) (e : Fin 256), wv437 (ix5 n 0 h d e) = ((D.qd n.val h d e : ℝ) : EReal))
    (h : Fin 4) (d : Fin 128) (e : Fin 256) : (shapeCast _ (extractStridedSlice S1x1x4x128x256 ![31, 0, 0, 0, 0] wv437 slices_S32x1x4x128x256_S1x1x4x128x256_31_0_0_0_0) shapeCasts_S1x1x4x128x256_S1x4x128x256 : FVec Ideal S1x4x128x256 .f32) (ix4 0 h d e) = ((D.bk 1 h d e : ℝ) : EReal) := by
  pointwise [hv437]
  exact congrArg Real.toEReal (D.bk_one h d e).symm
theorem v504_at (H : Holds V D) (h : Fin 4) (d : Fin 128) (e : Fin 256) : (res_main_v504 V (ix4 0 h d e) : EReal) = ((D.bk 1 h d e : ℝ) : EReal) :=
  gv504 (res_main_v437 V) (v437_at H) h d e

/-- One step of the states' gradients, from the last chunk backwards. -/
theorem bk_step (s k o : ℕ) (hk : k = s + 1) (ho : o = 31 - s) (sl : FVec Ideal S1x1x4x128x256 .f32) (wv140 : FVec Ideal S4 .f32) (wvp : FVec Ideal S1x4x128x256 .f32)
    (hs : ∀ (h : Fin 4) (d : Fin 128) (e : Fin 256), sl (ix5 0 0 h d e) = ((D.qd o h d e : ℝ) : EReal))
    (hv140 : ∀ (h : Fin 4), wv140 (ix1 h) = ((dec h : ℝ) : EReal))
    (hp : ∀ (h : Fin 4) (d : Fin 128) (e : Fin 256), wvp (ix4 0 h d e) = ((D.bk s h d e : ℝ) : EReal))
    (h : Fin 4) (d : Fin 128) (e : Fin 256) : (addf (shapeCast _ sl shapeCasts_S1x1x4x128x256_S1x4x128x256) (mulf wvp (broadcastInDim S1x4x128x256 ![0, 1, 2, 3] bcast_S1x4x1x1_S1x4x128x256_0_1_2_3 (broadcastInDim S1x4x1x1 ![1] bcast_S4_S1x4x1x1_1 wv140))) : FVec Ideal S1x4x128x256 .f32) (ix4 0 h d e) = ((D.bk k h d e : ℝ) : EReal) := by
  subst hk ho
  pointwise [hs, hv140, hp]
  simp only [← EReal.coe_mul, ← EReal.coe_add]
  exact congrArg Real.toEReal ((add_comm _ _).trans (D.bk_succ s h d e).symm)

theorem v509_at (H : Holds V D) (h : Fin 4) (d : Fin 128) (e : Fin 256) : (res_main_v509 V (ix4 0 h d e) : EReal) = ((D.bk 2 h d e : ℝ) : EReal) := by
  have s := bk_step (D := D) 1 2 30 rfl rfl (extractStridedSlice S1x1x4x128x256 ![30, 0, 0, 0, 0] (res_main_v437 V) slices_S32x1x4x128x256_S1x1x4x128x256_30_0_0_0_0) (res_main_v140 V) (res_main_v504 V) (by intro h d e; pointwise [v437_at H]) (v140_at H) (v504_at H) h d e
  exact s

theorem v515_at (H : Holds V D) (h : Fin 4) (d : Fin 128) (e : Fin 256) : (res_main_v515 V (ix4 0 h d e) : EReal) = ((D.bk 3 h d e : ℝ) : EReal) := by
  have s := bk_step (D := D) 2 3 29 rfl rfl (extractStridedSlice S1x1x4x128x256 ![29, 0, 0, 0, 0] (res_main_v437 V) slices_S32x1x4x128x256_S1x1x4x128x256_29_0_0_0_0) (res_main_v140 V) (res_main_v509 V) (by intro h d e; pointwise [v437_at H]) (v140_at H) (v509_at H) h d e
  exact s

theorem v521_at (H : Holds V D) (h : Fin 4) (d : Fin 128) (e : Fin 256) : (res_main_v521 V (ix4 0 h d e) : EReal) = ((D.bk 4 h d e : ℝ) : EReal) := by
  have s := bk_step (D := D) 3 4 28 rfl rfl (extractStridedSlice S1x1x4x128x256 ![28, 0, 0, 0, 0] (res_main_v437 V) slices_S32x1x4x128x256_S1x1x4x128x256_28_0_0_0_0) (res_main_v140 V) (res_main_v515 V) (by intro h d e; pointwise [v437_at H]) (v140_at H) (v515_at H) h d e
  exact s

theorem v527_at (H : Holds V D) (h : Fin 4) (d : Fin 128) (e : Fin 256) : (res_main_v527 V (ix4 0 h d e) : EReal) = ((D.bk 5 h d e : ℝ) : EReal) := by
  have s := bk_step (D := D) 4 5 27 rfl rfl (extractStridedSlice S1x1x4x128x256 ![27, 0, 0, 0, 0] (res_main_v437 V) slices_S32x1x4x128x256_S1x1x4x128x256_27_0_0_0_0) (res_main_v140 V) (res_main_v521 V) (by intro h d e; pointwise [v437_at H]) (v140_at H) (v521_at H) h d e
  exact s

theorem v533_at (H : Holds V D) (h : Fin 4) (d : Fin 128) (e : Fin 256) : (res_main_v533 V (ix4 0 h d e) : EReal) = ((D.bk 6 h d e : ℝ) : EReal) := by
  have s := bk_step (D := D) 5 6 26 rfl rfl (extractStridedSlice S1x1x4x128x256 ![26, 0, 0, 0, 0] (res_main_v437 V) slices_S32x1x4x128x256_S1x1x4x128x256_26_0_0_0_0) (res_main_v140 V) (res_main_v527 V) (by intro h d e; pointwise [v437_at H]) (v140_at H) (v527_at H) h d e
  exact s

theorem v539_at (H : Holds V D) (h : Fin 4) (d : Fin 128) (e : Fin 256) : (res_main_v539 V (ix4 0 h d e) : EReal) = ((D.bk 7 h d e : ℝ) : EReal) := by
  have s := bk_step (D := D) 6 7 25 rfl rfl (extractStridedSlice S1x1x4x128x256 ![25, 0, 0, 0, 0] (res_main_v437 V) slices_S32x1x4x128x256_S1x1x4x128x256_25_0_0_0_0) (res_main_v140 V) (res_main_v533 V) (by intro h d e; pointwise [v437_at H]) (v140_at H) (v533_at H) h d e
  exact s

theorem v545_at (H : Holds V D) (h : Fin 4) (d : Fin 128) (e : Fin 256) : (res_main_v545 V (ix4 0 h d e) : EReal) = ((D.bk 8 h d e : ℝ) : EReal) := by
  have s := bk_step (D := D) 7 8 24 rfl rfl (extractStridedSlice S1x1x4x128x256 ![24, 0, 0, 0, 0] (res_main_v437 V) slices_S32x1x4x128x256_S1x1x4x128x256_24_0_0_0_0) (res_main_v140 V) (res_main_v539 V) (by intro h d e; pointwise [v437_at H]) (v140_at H) (v539_at H) h d e
  exact s

theorem v551_at (H : Holds V D) (h : Fin 4) (d : Fin 128) (e : Fin 256) : (res_main_v551 V (ix4 0 h d e) : EReal) = ((D.bk 9 h d e : ℝ) : EReal) := by
  have s := bk_step (D := D) 8 9 23 rfl rfl (extractStridedSlice S1x1x4x128x256 ![23, 0, 0, 0, 0] (res_main_v437 V) slices_S32x1x4x128x256_S1x1x4x128x256_23_0_0_0_0) (res_main_v140 V) (res_main_v545 V) (by intro h d e; pointwise [v437_at H]) (v140_at H) (v545_at H) h d e
  exact s

theorem v557_at (H : Holds V D) (h : Fin 4) (d : Fin 128) (e : Fin 256) : (res_main_v557 V (ix4 0 h d e) : EReal) = ((D.bk 10 h d e : ℝ) : EReal) := by
  have s := bk_step (D := D) 9 10 22 rfl rfl (extractStridedSlice S1x1x4x128x256 ![22, 0, 0, 0, 0] (res_main_v437 V) slices_S32x1x4x128x256_S1x1x4x128x256_22_0_0_0_0) (res_main_v140 V) (res_main_v551 V) (by intro h d e; pointwise [v437_at H]) (v140_at H) (v551_at H) h d e
  exact s

theorem v563_at (H : Holds V D) (h : Fin 4) (d : Fin 128) (e : Fin 256) : (res_main_v563 V (ix4 0 h d e) : EReal) = ((D.bk 11 h d e : ℝ) : EReal) := by
  have s := bk_step (D := D) 10 11 21 rfl rfl (extractStridedSlice S1x1x4x128x256 ![21, 0, 0, 0, 0] (res_main_v437 V) slices_S32x1x4x128x256_S1x1x4x128x256_21_0_0_0_0) (res_main_v140 V) (res_main_v557 V) (by intro h d e; pointwise [v437_at H]) (v140_at H) (v557_at H) h d e
  exact s

theorem v569_at (H : Holds V D) (h : Fin 4) (d : Fin 128) (e : Fin 256) : (res_main_v569 V (ix4 0 h d e) : EReal) = ((D.bk 12 h d e : ℝ) : EReal) := by
  have s := bk_step (D := D) 11 12 20 rfl rfl (extractStridedSlice S1x1x4x128x256 ![20, 0, 0, 0, 0] (res_main_v437 V) slices_S32x1x4x128x256_S1x1x4x128x256_20_0_0_0_0) (res_main_v140 V) (res_main_v563 V) (by intro h d e; pointwise [v437_at H]) (v140_at H) (v563_at H) h d e
  exact s

theorem v575_at (H : Holds V D) (h : Fin 4) (d : Fin 128) (e : Fin 256) : (res_main_v575 V (ix4 0 h d e) : EReal) = ((D.bk 13 h d e : ℝ) : EReal) := by
  have s := bk_step (D := D) 12 13 19 rfl rfl (extractStridedSlice S1x1x4x128x256 ![19, 0, 0, 0, 0] (res_main_v437 V) slices_S32x1x4x128x256_S1x1x4x128x256_19_0_0_0_0) (res_main_v140 V) (res_main_v569 V) (by intro h d e; pointwise [v437_at H]) (v140_at H) (v569_at H) h d e
  exact s

theorem v581_at (H : Holds V D) (h : Fin 4) (d : Fin 128) (e : Fin 256) : (res_main_v581 V (ix4 0 h d e) : EReal) = ((D.bk 14 h d e : ℝ) : EReal) := by
  have s := bk_step (D := D) 13 14 18 rfl rfl (extractStridedSlice S1x1x4x128x256 ![18, 0, 0, 0, 0] (res_main_v437 V) slices_S32x1x4x128x256_S1x1x4x128x256_18_0_0_0_0) (res_main_v140 V) (res_main_v575 V) (by intro h d e; pointwise [v437_at H]) (v140_at H) (v575_at H) h d e
  exact s

theorem v587_at (H : Holds V D) (h : Fin 4) (d : Fin 128) (e : Fin 256) : (res_main_v587 V (ix4 0 h d e) : EReal) = ((D.bk 15 h d e : ℝ) : EReal) := by
  have s := bk_step (D := D) 14 15 17 rfl rfl (extractStridedSlice S1x1x4x128x256 ![17, 0, 0, 0, 0] (res_main_v437 V) slices_S32x1x4x128x256_S1x1x4x128x256_17_0_0_0_0) (res_main_v140 V) (res_main_v581 V) (by intro h d e; pointwise [v437_at H]) (v140_at H) (v581_at H) h d e
  exact s

theorem v593_at (H : Holds V D) (h : Fin 4) (d : Fin 128) (e : Fin 256) : (res_main_v593 V (ix4 0 h d e) : EReal) = ((D.bk 16 h d e : ℝ) : EReal) := by
  have s := bk_step (D := D) 15 16 16 rfl rfl (extractStridedSlice S1x1x4x128x256 ![16, 0, 0, 0, 0] (res_main_v437 V) slices_S32x1x4x128x256_S1x1x4x128x256_16_0_0_0_0) (res_main_v140 V) (res_main_v587 V) (by intro h d e; pointwise [v437_at H]) (v140_at H) (v587_at H) h d e
  exact s

theorem v599_at (H : Holds V D) (h : Fin 4) (d : Fin 128) (e : Fin 256) : (res_main_v599 V (ix4 0 h d e) : EReal) = ((D.bk 17 h d e : ℝ) : EReal) := by
  have s := bk_step (D := D) 16 17 15 rfl rfl (extractStridedSlice S1x1x4x128x256 ![15, 0, 0, 0, 0] (res_main_v437 V) slices_S32x1x4x128x256_S1x1x4x128x256_15_0_0_0_0) (res_main_v140 V) (res_main_v593 V) (by intro h d e; pointwise [v437_at H]) (v140_at H) (v593_at H) h d e
  exact s

theorem v605_at (H : Holds V D) (h : Fin 4) (d : Fin 128) (e : Fin 256) : (res_main_v605 V (ix4 0 h d e) : EReal) = ((D.bk 18 h d e : ℝ) : EReal) := by
  have s := bk_step (D := D) 17 18 14 rfl rfl (extractStridedSlice S1x1x4x128x256 ![14, 0, 0, 0, 0] (res_main_v437 V) slices_S32x1x4x128x256_S1x1x4x128x256_14_0_0_0_0) (res_main_v140 V) (res_main_v599 V) (by intro h d e; pointwise [v437_at H]) (v140_at H) (v599_at H) h d e
  exact s

theorem v611_at (H : Holds V D) (h : Fin 4) (d : Fin 128) (e : Fin 256) : (res_main_v611 V (ix4 0 h d e) : EReal) = ((D.bk 19 h d e : ℝ) : EReal) := by
  have s := bk_step (D := D) 18 19 13 rfl rfl (extractStridedSlice S1x1x4x128x256 ![13, 0, 0, 0, 0] (res_main_v437 V) slices_S32x1x4x128x256_S1x1x4x128x256_13_0_0_0_0) (res_main_v140 V) (res_main_v605 V) (by intro h d e; pointwise [v437_at H]) (v140_at H) (v605_at H) h d e
  exact s

theorem v617_at (H : Holds V D) (h : Fin 4) (d : Fin 128) (e : Fin 256) : (res_main_v617 V (ix4 0 h d e) : EReal) = ((D.bk 20 h d e : ℝ) : EReal) := by
  have s := bk_step (D := D) 19 20 12 rfl rfl (extractStridedSlice S1x1x4x128x256 ![12, 0, 0, 0, 0] (res_main_v437 V) slices_S32x1x4x128x256_S1x1x4x128x256_12_0_0_0_0) (res_main_v140 V) (res_main_v611 V) (by intro h d e; pointwise [v437_at H]) (v140_at H) (v611_at H) h d e
  exact s

theorem v623_at (H : Holds V D) (h : Fin 4) (d : Fin 128) (e : Fin 256) : (res_main_v623 V (ix4 0 h d e) : EReal) = ((D.bk 21 h d e : ℝ) : EReal) := by
  have s := bk_step (D := D) 20 21 11 rfl rfl (extractStridedSlice S1x1x4x128x256 ![11, 0, 0, 0, 0] (res_main_v437 V) slices_S32x1x4x128x256_S1x1x4x128x256_11_0_0_0_0) (res_main_v140 V) (res_main_v617 V) (by intro h d e; pointwise [v437_at H]) (v140_at H) (v617_at H) h d e
  exact s

theorem v629_at (H : Holds V D) (h : Fin 4) (d : Fin 128) (e : Fin 256) : (res_main_v629 V (ix4 0 h d e) : EReal) = ((D.bk 22 h d e : ℝ) : EReal) := by
  have s := bk_step (D := D) 21 22 10 rfl rfl (extractStridedSlice S1x1x4x128x256 ![10, 0, 0, 0, 0] (res_main_v437 V) slices_S32x1x4x128x256_S1x1x4x128x256_10_0_0_0_0) (res_main_v140 V) (res_main_v623 V) (by intro h d e; pointwise [v437_at H]) (v140_at H) (v623_at H) h d e
  exact s

theorem v635_at (H : Holds V D) (h : Fin 4) (d : Fin 128) (e : Fin 256) : (res_main_v635 V (ix4 0 h d e) : EReal) = ((D.bk 23 h d e : ℝ) : EReal) := by
  have s := bk_step (D := D) 22 23 9 rfl rfl (extractStridedSlice S1x1x4x128x256 ![9, 0, 0, 0, 0] (res_main_v437 V) slices_S32x1x4x128x256_S1x1x4x128x256_9_0_0_0_0) (res_main_v140 V) (res_main_v629 V) (by intro h d e; pointwise [v437_at H]) (v140_at H) (v629_at H) h d e
  exact s

theorem v641_at (H : Holds V D) (h : Fin 4) (d : Fin 128) (e : Fin 256) : (res_main_v641 V (ix4 0 h d e) : EReal) = ((D.bk 24 h d e : ℝ) : EReal) := by
  have s := bk_step (D := D) 23 24 8 rfl rfl (extractStridedSlice S1x1x4x128x256 ![8, 0, 0, 0, 0] (res_main_v437 V) slices_S32x1x4x128x256_S1x1x4x128x256_8_0_0_0_0) (res_main_v140 V) (res_main_v635 V) (by intro h d e; pointwise [v437_at H]) (v140_at H) (v635_at H) h d e
  exact s

theorem v647_at (H : Holds V D) (h : Fin 4) (d : Fin 128) (e : Fin 256) : (res_main_v647 V (ix4 0 h d e) : EReal) = ((D.bk 25 h d e : ℝ) : EReal) := by
  have s := bk_step (D := D) 24 25 7 rfl rfl (extractStridedSlice S1x1x4x128x256 ![7, 0, 0, 0, 0] (res_main_v437 V) slices_S32x1x4x128x256_S1x1x4x128x256_7_0_0_0_0) (res_main_v140 V) (res_main_v641 V) (by intro h d e; pointwise [v437_at H]) (v140_at H) (v641_at H) h d e
  exact s

theorem v653_at (H : Holds V D) (h : Fin 4) (d : Fin 128) (e : Fin 256) : (res_main_v653 V (ix4 0 h d e) : EReal) = ((D.bk 26 h d e : ℝ) : EReal) := by
  have s := bk_step (D := D) 25 26 6 rfl rfl (extractStridedSlice S1x1x4x128x256 ![6, 0, 0, 0, 0] (res_main_v437 V) slices_S32x1x4x128x256_S1x1x4x128x256_6_0_0_0_0) (res_main_v140 V) (res_main_v647 V) (by intro h d e; pointwise [v437_at H]) (v140_at H) (v647_at H) h d e
  exact s

theorem v659_at (H : Holds V D) (h : Fin 4) (d : Fin 128) (e : Fin 256) : (res_main_v659 V (ix4 0 h d e) : EReal) = ((D.bk 27 h d e : ℝ) : EReal) := by
  have s := bk_step (D := D) 26 27 5 rfl rfl (extractStridedSlice S1x1x4x128x256 ![5, 0, 0, 0, 0] (res_main_v437 V) slices_S32x1x4x128x256_S1x1x4x128x256_5_0_0_0_0) (res_main_v140 V) (res_main_v653 V) (by intro h d e; pointwise [v437_at H]) (v140_at H) (v653_at H) h d e
  exact s

theorem v665_at (H : Holds V D) (h : Fin 4) (d : Fin 128) (e : Fin 256) : (res_main_v665 V (ix4 0 h d e) : EReal) = ((D.bk 28 h d e : ℝ) : EReal) := by
  have s := bk_step (D := D) 27 28 4 rfl rfl (extractStridedSlice S1x1x4x128x256 ![4, 0, 0, 0, 0] (res_main_v437 V) slices_S32x1x4x128x256_S1x1x4x128x256_4_0_0_0_0) (res_main_v140 V) (res_main_v659 V) (by intro h d e; pointwise [v437_at H]) (v140_at H) (v659_at H) h d e
  exact s

theorem v671_at (H : Holds V D) (h : Fin 4) (d : Fin 128) (e : Fin 256) : (res_main_v671 V (ix4 0 h d e) : EReal) = ((D.bk 29 h d e : ℝ) : EReal) := by
  have s := bk_step (D := D) 28 29 3 rfl rfl (extractStridedSlice S1x1x4x128x256 ![3, 0, 0, 0, 0] (res_main_v437 V) slices_S32x1x4x128x256_S1x1x4x128x256_3_0_0_0_0) (res_main_v140 V) (res_main_v665 V) (by intro h d e; pointwise [v437_at H]) (v140_at H) (v665_at H) h d e
  exact s

theorem v677_at (H : Holds V D) (h : Fin 4) (d : Fin 128) (e : Fin 256) : (res_main_v677 V (ix4 0 h d e) : EReal) = ((D.bk 30 h d e : ℝ) : EReal) := by
  have s := bk_step (D := D) 29 30 2 rfl rfl (extractStridedSlice S1x1x4x128x256 ![2, 0, 0, 0, 0] (res_main_v437 V) slices_S32x1x4x128x256_S1x1x4x128x256_2_0_0_0_0) (res_main_v140 V) (res_main_v671 V) (by intro h d e; pointwise [v437_at H]) (v140_at H) (v671_at H) h d e
  exact s

set_option maxHeartbeats 3200000 in
theorem gv590 (wv504 : FVec Ideal S1x4x128x256 .f32) (wv509 : FVec Ideal S1x4x128x256 .f32) (wv515 : FVec Ideal S1x4x128x256 .f32) (wv521 : FVec Ideal S1x4x128x256 .f32) (wv527 : FVec Ideal S1x4x128x256 .f32) (wv533 : FVec Ideal S1x4x128x256 .f32) (wv539 : FVec Ideal S1x4x128x256 .f32) (wv545 : FVec Ideal S1x4x128x256 .f32) (wv551 : FVec Ideal S1x4x128x256 .f32) (wv557 : FVec Ideal S1x4x128x256 .f32) (wv563 : FVec Ideal S1x4x128x256 .f32) (wv569 : FVec Ideal S1x4x128x256 .f32) (wv575 : FVec Ideal S1x4x128x256 .f32) (wv581 : FVec Ideal S1x4x128x256 .f32) (wv587 : FVec Ideal S1x4x128x256 .f32)
    (hv504 : ∀ (h : Fin 4) (d : Fin 128) (e : Fin 256), wv504 (ix4 0 h d e) = ((D.bk 1 h d e : ℝ) : EReal))
    (hv509 : ∀ (h : Fin 4) (d : Fin 128) (e : Fin 256), wv509 (ix4 0 h d e) = ((D.bk 2 h d e : ℝ) : EReal))
    (hv515 : ∀ (h : Fin 4) (d : Fin 128) (e : Fin 256), wv515 (ix4 0 h d e) = ((D.bk 3 h d e : ℝ) : EReal))
    (hv521 : ∀ (h : Fin 4) (d : Fin 128) (e : Fin 256), wv521 (ix4 0 h d e) = ((D.bk 4 h d e : ℝ) : EReal))
    (hv527 : ∀ (h : Fin 4) (d : Fin 128) (e : Fin 256), wv527 (ix4 0 h d e) = ((D.bk 5 h d e : ℝ) : EReal))
    (hv533 : ∀ (h : Fin 4) (d : Fin 128) (e : Fin 256), wv533 (ix4 0 h d e) = ((D.bk 6 h d e : ℝ) : EReal))
    (hv539 : ∀ (h : Fin 4) (d : Fin 128) (e : Fin 256), wv539 (ix4 0 h d e) = ((D.bk 7 h d e : ℝ) : EReal))
    (hv545 : ∀ (h : Fin 4) (d : Fin 128) (e : Fin 256), wv545 (ix4 0 h d e) = ((D.bk 8 h d e : ℝ) : EReal))
    (hv551 : ∀ (h : Fin 4) (d : Fin 128) (e : Fin 256), wv551 (ix4 0 h d e) = ((D.bk 9 h d e : ℝ) : EReal))
    (hv557 : ∀ (h : Fin 4) (d : Fin 128) (e : Fin 256), wv557 (ix4 0 h d e) = ((D.bk 10 h d e : ℝ) : EReal))
    (hv563 : ∀ (h : Fin 4) (d : Fin 128) (e : Fin 256), wv563 (ix4 0 h d e) = ((D.bk 11 h d e : ℝ) : EReal))
    (hv569 : ∀ (h : Fin 4) (d : Fin 128) (e : Fin 256), wv569 (ix4 0 h d e) = ((D.bk 12 h d e : ℝ) : EReal))
    (hv575 : ∀ (h : Fin 4) (d : Fin 128) (e : Fin 256), wv575 (ix4 0 h d e) = ((D.bk 13 h d e : ℝ) : EReal))
    (hv581 : ∀ (h : Fin 4) (d : Fin 128) (e : Fin 256), wv581 (ix4 0 h d e) = ((D.bk 14 h d e : ℝ) : EReal))
    (hv587 : ∀ (h : Fin 4) (d : Fin 128) (e : Fin 256), wv587 (ix4 0 h d e) = ((D.bk 15 h d e : ℝ) : EReal))
    (h : Fin 4) (n : Fin 32) (d : Fin 128) (e : Fin 256) : (addf (addf (addf (addf (addf (addf (addf (addf (addf (addf (addf (addf (addf (addf (pad S1x4x32x128x256 ![0, 0, 30, 0, 0] ![0, 0, 1, 0, 0] ![0, 0, 0, 0, 0] (broadcastInDim S1x4x1x128x256 ![0, 1, 3, 4] bcast_S1x4x128x256_S1x4x1x128x256_0_1_3_4 wv504) (constant S_ .f32 0x00000000#32) pads_S1x4x1x128x256_S1x4x32x128x256_000_000_3010_000_000 h_S_) (pad S1x4x32x128x256 ![0, 0, 29, 0, 0] ![0, 0, 2, 0, 0] ![0, 0, 0, 0, 0] (broadcastInDim S1x4x1x128x256 ![0, 1, 3, 4] bcast_S1x4x128x256_S1x4x1x128x256_0_1_3_4 wv509) (constant S_ .f32 0x00000000#32) pads_S1x4x1x128x256_S1x4x32x128x256_000_000_2920_000_000 h_S_)) (pad S1x4x32x128x256 ![0, 0, 28, 0, 0] ![0, 0, 3, 0, 0] ![0, 0, 0, 0, 0] (broadcastInDim S1x4x1x128x256 ![0, 1, 3, 4] bcast_S1x4x128x256_S1x4x1x128x256_0_1_3_4 wv515) (constant S_ .f32 0x00000000#32) pads_S1x4x1x128x256_S1x4x32x128x256_000_000_2830_000_000 h_S_)) (pad S1x4x32x128x256 ![0, 0, 27, 0, 0] ![0, 0, 4, 0, 0] ![0, 0, 0, 0, 0] (broadcastInDim S1x4x1x128x256 ![0, 1, 3, 4] bcast_S1x4x128x256_S1x4x1x128x256_0_1_3_4 wv521) (constant S_ .f32 0x00000000#32) pads_S1x4x1x128x256_S1x4x32x128x256_000_000_2740_000_000 h_S_)) (pad S1x4x32x128x256 ![0, 0, 26, 0, 0] ![0, 0, 5, 0, 0] ![0, 0, 0, 0, 0] (broadcastInDim S1x4x1x128x256 ![0, 1, 3, 4] bcast_S1x4x128x256_S1x4x1x128x256_0_1_3_4 wv527) (constant S_ .f32 0x00000000#32) pads_S1x4x1x128x256_S1x4x32x128x256_000_000_2650_000_000 h_S_)) (pad S1x4x32x128x256 ![0, 0, 25, 0, 0] ![0, 0, 6, 0, 0] ![0, 0, 0, 0, 0] (broadcastInDim S1x4x1x128x256 ![0, 1, 3, 4] bcast_S1x4x128x256_S1x4x1x128x256_0_1_3_4 wv533) (constant S_ .f32 0x00000000#32) pads_S1x4x1x128x256_S1x4x32x128x256_000_000_2560_000_000 h_S_)) (pad S1x4x32x128x256 ![0, 0, 24, 0, 0] ![0, 0, 7, 0, 0] ![0, 0, 0, 0, 0] (broadcastInDim S1x4x1x128x256 ![0, 1, 3, 4] bcast_S1x4x128x256_S1x4x1x128x256_0_1_3_4 wv539) (constant S_ .f32 0x00000000#32) pads_S1x4x1x128x256_S1x4x32x128x256_000_000_2470_000_000 h_S_)) (pad S1x4x32x128x256 ![0, 0, 23, 0, 0] ![0, 0, 8, 0, 0] ![0, 0, 0, 0, 0] (broadcastInDim S1x4x1x128x256 ![0, 1, 3, 4] bcast_S1x4x128x256_S1x4x1x128x256_0_1_3_4 wv545) (constant S_ .f32 0x00000000#32) pads_S1x4x1x128x256_S1x4x32x128x256_000_000_2380_000_000 h_S_)) (pad S1x4x32x128x256 ![0, 0, 22, 0, 0] ![0, 0, 9, 0, 0] ![0, 0, 0, 0, 0] (broadcastInDim S1x4x1x128x256 ![0, 1, 3, 4] bcast_S1x4x128x256_S1x4x1x128x256_0_1_3_4 wv551) (constant S_ .f32 0x00000000#32) pads_S1x4x1x128x256_S1x4x32x128x256_000_000_2290_000_000 h_S_)) (pad S1x4x32x128x256 ![0, 0, 21, 0, 0] ![0, 0, 10, 0, 0] ![0, 0, 0, 0, 0] (broadcastInDim S1x4x1x128x256 ![0, 1, 3, 4] bcast_S1x4x128x256_S1x4x1x128x256_0_1_3_4 wv557) (constant S_ .f32 0x00000000#32) pads_S1x4x1x128x256_S1x4x32x128x256_000_000_21100_000_000 h_S_)) (pad S1x4x32x128x256 ![0, 0, 20, 0, 0] ![0, 0, 11, 0, 0] ![0, 0, 0, 0, 0] (broadcastInDim S1x4x1x128x256 ![0, 1, 3, 4] bcast_S1x4x128x256_S1x4x1x128x256_0_1_3_4 wv563) (constant S_ .f32 0x00000000#32) pads_S1x4x1x128x256_S1x4x32x128x256_000_000_20110_000_000 h_S_)) (pad S1x4x32x128x256 ![0, 0, 19, 0, 0] ![0, 0, 12, 0, 0] ![0, 0, 0, 0, 0] (broadcastInDim S1x4x1x128x256 ![0, 1, 3, 4] bcast_S1x4x128x256_S1x4x1x128x256_0_1_3_4 wv569) (constant S_ .f32 0x00000000#32) pads_S1x4x1x128x256_S1x4x32x128x256_000_000_19120_000_000 h_S_)) (pad S1x4x32x128x256 ![0, 0, 18, 0, 0] ![0, 0, 13, 0, 0] ![0, 0, 0, 0, 0] (broadcastInDim S1x4x1x128x256 ![0, 1, 3, 4] bcast_S1x4x128x256_S1x4x1x128x256_0_1_3_4 wv575) (constant S_ .f32 0x00000000#32) pads_S1x4x1x128x256_S1x4x32x128x256_000_000_18130_000_000 h_S_)) (pad S1x4x32x128x256 ![0, 0, 17, 0, 0] ![0, 0, 14, 0, 0] ![0, 0, 0, 0, 0] (broadcastInDim S1x4x1x128x256 ![0, 1, 3, 4] bcast_S1x4x128x256_S1x4x1x128x256_0_1_3_4 wv581) (constant S_ .f32 0x00000000#32) pads_S1x4x1x128x256_S1x4x32x128x256_000_000_17140_000_000 h_S_)) (pad S1x4x32x128x256 ![0, 0, 16, 0, 0] ![0, 0, 15, 0, 0] ![0, 0, 0, 0, 0] (broadcastInDim S1x4x1x128x256 ![0, 1, 3, 4] bcast_S1x4x128x256_S1x4x1x128x256_0_1_3_4 wv587) (constant S_ .f32 0x00000000#32) pads_S1x4x1x128x256_S1x4x32x128x256_000_000_16150_000_000 h_S_) : FVec Ideal S1x4x32x128x256 .f32) (ix5 0 h n d e) = ((if 16 ≤ n.val then D.db n.val h d e else 0 : ℝ) : EReal) := by
  pointwise [hv504, hv509, hv515, hv521, hv527, hv533, hv539, hv545, hv551, hv557, hv563, hv569, hv575, hv581, hv587]
  fin_vals n with hn
  all_goals simp [hn, Data.db, Data.bk_zero]
theorem v590_at (H : Holds V D) (h : Fin 4) (n : Fin 32) (d : Fin 128) (e : Fin 256) : (res_main_v590 V (ix5 0 h n d e) : EReal) = ((if 16 ≤ n.val then D.db n.val h d e else 0 : ℝ) : EReal) :=
  gv590 (res_main_v504 V) (res_main_v509 V) (res_main_v515 V) (res_main_v521 V) (res_main_v527 V) (res_main_v533 V) (res_main_v539 V) (res_main_v545 V) (res_main_v551 V) (res_main_v557 V) (res_main_v563 V) (res_main_v569 V) (res_main_v575 V) (res_main_v581 V) (res_main_v587 V) (v504_at H) (v509_at H) (v515_at H) (v521_at H) (v527_at H) (v533_at H) (v539_at H) (v545_at H) (v551_at H) (v557_at H) (v563_at H) (v569_at H) (v575_at H) (v581_at H) (v587_at H) h n d e

set_option maxHeartbeats 3200000 in
theorem gv680 (wv590 : FVec Ideal S1x4x32x128x256 .f32) (wv593 : FVec Ideal S1x4x128x256 .f32) (wv599 : FVec Ideal S1x4x128x256 .f32) (wv605 : FVec Ideal S1x4x128x256 .f32) (wv611 : FVec Ideal S1x4x128x256 .f32) (wv617 : FVec Ideal S1x4x128x256 .f32) (wv623 : FVec Ideal S1x4x128x256 .f32) (wv629 : FVec Ideal S1x4x128x256 .f32) (wv635 : FVec Ideal S1x4x128x256 .f32) (wv641 : FVec Ideal S1x4x128x256 .f32) (wv647 : FVec Ideal S1x4x128x256 .f32) (wv653 : FVec Ideal S1x4x128x256 .f32) (wv659 : FVec Ideal S1x4x128x256 .f32) (wv665 : FVec Ideal S1x4x128x256 .f32) (wv671 : FVec Ideal S1x4x128x256 .f32) (wv677 : FVec Ideal S1x4x128x256 .f32)
    (hv590 : ∀ (h : Fin 4) (n : Fin 32) (d : Fin 128) (e : Fin 256), wv590 (ix5 0 h n d e) = ((if 16 ≤ n.val then D.db n.val h d e else 0 : ℝ) : EReal))
    (hv593 : ∀ (h : Fin 4) (d : Fin 128) (e : Fin 256), wv593 (ix4 0 h d e) = ((D.bk 16 h d e : ℝ) : EReal))
    (hv599 : ∀ (h : Fin 4) (d : Fin 128) (e : Fin 256), wv599 (ix4 0 h d e) = ((D.bk 17 h d e : ℝ) : EReal))
    (hv605 : ∀ (h : Fin 4) (d : Fin 128) (e : Fin 256), wv605 (ix4 0 h d e) = ((D.bk 18 h d e : ℝ) : EReal))
    (hv611 : ∀ (h : Fin 4) (d : Fin 128) (e : Fin 256), wv611 (ix4 0 h d e) = ((D.bk 19 h d e : ℝ) : EReal))
    (hv617 : ∀ (h : Fin 4) (d : Fin 128) (e : Fin 256), wv617 (ix4 0 h d e) = ((D.bk 20 h d e : ℝ) : EReal))
    (hv623 : ∀ (h : Fin 4) (d : Fin 128) (e : Fin 256), wv623 (ix4 0 h d e) = ((D.bk 21 h d e : ℝ) : EReal))
    (hv629 : ∀ (h : Fin 4) (d : Fin 128) (e : Fin 256), wv629 (ix4 0 h d e) = ((D.bk 22 h d e : ℝ) : EReal))
    (hv635 : ∀ (h : Fin 4) (d : Fin 128) (e : Fin 256), wv635 (ix4 0 h d e) = ((D.bk 23 h d e : ℝ) : EReal))
    (hv641 : ∀ (h : Fin 4) (d : Fin 128) (e : Fin 256), wv641 (ix4 0 h d e) = ((D.bk 24 h d e : ℝ) : EReal))
    (hv647 : ∀ (h : Fin 4) (d : Fin 128) (e : Fin 256), wv647 (ix4 0 h d e) = ((D.bk 25 h d e : ℝ) : EReal))
    (hv653 : ∀ (h : Fin 4) (d : Fin 128) (e : Fin 256), wv653 (ix4 0 h d e) = ((D.bk 26 h d e : ℝ) : EReal))
    (hv659 : ∀ (h : Fin 4) (d : Fin 128) (e : Fin 256), wv659 (ix4 0 h d e) = ((D.bk 27 h d e : ℝ) : EReal))
    (hv665 : ∀ (h : Fin 4) (d : Fin 128) (e : Fin 256), wv665 (ix4 0 h d e) = ((D.bk 28 h d e : ℝ) : EReal))
    (hv671 : ∀ (h : Fin 4) (d : Fin 128) (e : Fin 256), wv671 (ix4 0 h d e) = ((D.bk 29 h d e : ℝ) : EReal))
    (hv677 : ∀ (h : Fin 4) (d : Fin 128) (e : Fin 256), wv677 (ix4 0 h d e) = ((D.bk 30 h d e : ℝ) : EReal))
    (h : Fin 4) (n : Fin 32) (d : Fin 128) (e : Fin 256) : (addf (addf (addf (addf (addf (addf (addf (addf (addf (addf (addf (addf (addf (addf (addf wv590 (pad S1x4x32x128x256 ![0, 0, 15, 0, 0] ![0, 0, 16, 0, 0] ![0, 0, 0, 0, 0] (broadcastInDim S1x4x1x128x256 ![0, 1, 3, 4] bcast_S1x4x128x256_S1x4x1x128x256_0_1_3_4 wv593) (constant S_ .f32 0x00000000#32) pads_S1x4x1x128x256_S1x4x32x128x256_000_000_15160_000_000 h_S_)) (pad S1x4x32x128x256 ![0, 0, 14, 0, 0] ![0, 0, 17, 0, 0] ![0, 0, 0, 0, 0] (broadcastInDim S1x4x1x128x256 ![0, 1, 3, 4] bcast_S1x4x128x256_S1x4x1x128x256_0_1_3_4 wv599) (constant S_ .f32 0x00000000#32) pads_S1x4x1x128x256_S1x4x32x128x256_000_000_14170_000_000 h_S_)) (pad S1x4x32x128x256 ![0, 0, 13, 0, 0] ![0, 0, 18, 0, 0] ![0, 0, 0, 0, 0] (broadcastInDim S1x4x1x128x256 ![0, 1, 3, 4] bcast_S1x4x128x256_S1x4x1x128x256_0_1_3_4 wv605) (constant S_ .f32 0x00000000#32) pads_S1x4x1x128x256_S1x4x32x128x256_000_000_13180_000_000 h_S_)) (pad S1x4x32x128x256 ![0, 0, 12, 0, 0] ![0, 0, 19, 0, 0] ![0, 0, 0, 0, 0] (broadcastInDim S1x4x1x128x256 ![0, 1, 3, 4] bcast_S1x4x128x256_S1x4x1x128x256_0_1_3_4 wv611) (constant S_ .f32 0x00000000#32) pads_S1x4x1x128x256_S1x4x32x128x256_000_000_12190_000_000 h_S_)) (pad S1x4x32x128x256 ![0, 0, 11, 0, 0] ![0, 0, 20, 0, 0] ![0, 0, 0, 0, 0] (broadcastInDim S1x4x1x128x256 ![0, 1, 3, 4] bcast_S1x4x128x256_S1x4x1x128x256_0_1_3_4 wv617) (constant S_ .f32 0x00000000#32) pads_S1x4x1x128x256_S1x4x32x128x256_000_000_11200_000_000 h_S_)) (pad S1x4x32x128x256 ![0, 0, 10, 0, 0] ![0, 0, 21, 0, 0] ![0, 0, 0, 0, 0] (broadcastInDim S1x4x1x128x256 ![0, 1, 3, 4] bcast_S1x4x128x256_S1x4x1x128x256_0_1_3_4 wv623) (constant S_ .f32 0x00000000#32) pads_S1x4x1x128x256_S1x4x32x128x256_000_000_10210_000_000 h_S_)) (pad S1x4x32x128x256 ![0, 0, 9, 0, 0] ![0, 0, 22, 0, 0] ![0, 0, 0, 0, 0] (broadcastInDim S1x4x1x128x256 ![0, 1, 3, 4] bcast_S1x4x128x256_S1x4x1x128x256_0_1_3_4 wv629) (constant S_ .f32 0x00000000#32) pads_S1x4x1x128x256_S1x4x32x128x256_000_000_9220_000_000 h_S_)) (pad S1x4x32x128x256 ![0, 0, 8, 0, 0] ![0, 0, 23, 0, 0] ![0, 0, 0, 0, 0] (broadcastInDim S1x4x1x128x256 ![0, 1, 3, 4] bcast_S1x4x128x256_S1x4x1x128x256_0_1_3_4 wv635) (constant S_ .f32 0x00000000#32) pads_S1x4x1x128x256_S1x4x32x128x256_000_000_8230_000_000 h_S_)) (pad S1x4x32x128x256 ![0, 0, 7, 0, 0] ![0, 0, 24, 0, 0] ![0, 0, 0, 0, 0] (broadcastInDim S1x4x1x128x256 ![0, 1, 3, 4] bcast_S1x4x128x256_S1x4x1x128x256_0_1_3_4 wv641) (constant S_ .f32 0x00000000#32) pads_S1x4x1x128x256_S1x4x32x128x256_000_000_7240_000_000 h_S_)) (pad S1x4x32x128x256 ![0, 0, 6, 0, 0] ![0, 0, 25, 0, 0] ![0, 0, 0, 0, 0] (broadcastInDim S1x4x1x128x256 ![0, 1, 3, 4] bcast_S1x4x128x256_S1x4x1x128x256_0_1_3_4 wv647) (constant S_ .f32 0x00000000#32) pads_S1x4x1x128x256_S1x4x32x128x256_000_000_6250_000_000 h_S_)) (pad S1x4x32x128x256 ![0, 0, 5, 0, 0] ![0, 0, 26, 0, 0] ![0, 0, 0, 0, 0] (broadcastInDim S1x4x1x128x256 ![0, 1, 3, 4] bcast_S1x4x128x256_S1x4x1x128x256_0_1_3_4 wv653) (constant S_ .f32 0x00000000#32) pads_S1x4x1x128x256_S1x4x32x128x256_000_000_5260_000_000 h_S_)) (pad S1x4x32x128x256 ![0, 0, 4, 0, 0] ![0, 0, 27, 0, 0] ![0, 0, 0, 0, 0] (broadcastInDim S1x4x1x128x256 ![0, 1, 3, 4] bcast_S1x4x128x256_S1x4x1x128x256_0_1_3_4 wv659) (constant S_ .f32 0x00000000#32) pads_S1x4x1x128x256_S1x4x32x128x256_000_000_4270_000_000 h_S_)) (pad S1x4x32x128x256 ![0, 0, 3, 0, 0] ![0, 0, 28, 0, 0] ![0, 0, 0, 0, 0] (broadcastInDim S1x4x1x128x256 ![0, 1, 3, 4] bcast_S1x4x128x256_S1x4x1x128x256_0_1_3_4 wv665) (constant S_ .f32 0x00000000#32) pads_S1x4x1x128x256_S1x4x32x128x256_000_000_3280_000_000 h_S_)) (pad S1x4x32x128x256 ![0, 0, 2, 0, 0] ![0, 0, 29, 0, 0] ![0, 0, 0, 0, 0] (broadcastInDim S1x4x1x128x256 ![0, 1, 3, 4] bcast_S1x4x128x256_S1x4x1x128x256_0_1_3_4 wv671) (constant S_ .f32 0x00000000#32) pads_S1x4x1x128x256_S1x4x32x128x256_000_000_2290_000_000_2 h_S_)) (pad S1x4x32x128x256 ![0, 0, 1, 0, 0] ![0, 0, 30, 0, 0] ![0, 0, 0, 0, 0] (broadcastInDim S1x4x1x128x256 ![0, 1, 3, 4] bcast_S1x4x128x256_S1x4x1x128x256_0_1_3_4 wv677) (constant S_ .f32 0x00000000#32) pads_S1x4x1x128x256_S1x4x32x128x256_000_000_1300_000_000 h_S_) : FVec Ideal S1x4x32x128x256 .f32) (ix5 0 h n d e) = ((if 1 ≤ n.val then D.db n.val h d e else 0 : ℝ) : EReal) := by
  pointwise [hv590, hv593, hv599, hv605, hv611, hv617, hv623, hv629, hv635, hv641, hv647, hv653, hv659, hv665, hv671, hv677]
  fin_vals n with hn
  all_goals simp [hn, Data.db, Data.bk_zero]
theorem v680_at (H : Holds V D) (h : Fin 4) (n : Fin 32) (d : Fin 128) (e : Fin 256) : (res_main_v680 V (ix5 0 h n d e) : EReal) = ((if 1 ≤ n.val then D.db n.val h d e else 0 : ℝ) : EReal) :=
  gv680 (res_main_v590 V) (res_main_v593 V) (res_main_v599 V) (res_main_v605 V) (res_main_v611 V) (res_main_v617 V) (res_main_v623 V) (res_main_v629 V) (res_main_v635 V) (res_main_v641 V) (res_main_v647 V) (res_main_v653 V) (res_main_v659 V) (res_main_v665 V) (res_main_v671 V) (res_main_v677 V) (v590_at H) (v593_at H) (v599_at H) (v605_at H) (v611_at H) (v617_at H) (v623_at H) (v629_at H) (v635_at H) (v641_at H) (v647_at H) (v653_at H) (v659_at H) (v665_at H) (v671_at H) (v677_at H) h n d e

theorem gv686 (wv140 : FVec Ideal S4 .f32) (wv437 : FVec Ideal S32x1x4x128x256 .f32) (wv677 : FVec Ideal S1x4x128x256 .f32) (wv680 : FVec Ideal S1x4x32x128x256 .f32)
    (hv140 : ∀ (h : Fin 4), wv140 (ix1 h) = ((dec h : ℝ) : EReal))
    (hv437 : ∀ (n : Fin 32) (h : Fin 4) (d : Fin 128) (e : Fin 256), wv437 (ix5 n 0 h d e) = ((D.qd n.val h d e : ℝ) : EReal))
    (hv677 : ∀ (h : Fin 4) (d : Fin 128) (e : Fin 256), wv677 (ix4 0 h d e) = ((D.bk 30 h d e : ℝ) : EReal))
    (hv680 : ∀ (h : Fin 4) (n : Fin 32) (d : Fin 128) (e : Fin 256), wv680 (ix5 0 h n d e) = ((if 1 ≤ n.val then D.db n.val h d e else 0 : ℝ) : EReal))
    (h : Fin 4) (n : Fin 32) (d : Fin 128) (e : Fin 256) : (addf wv680 (pad S1x4x32x128x256 ![0, 0, 0, 0, 0] ![0, 0, 31, 0, 0] ![0, 0, 0, 0, 0] (broadcastInDim S1x4x1x128x256 ![0, 1, 3, 4] bcast_S1x4x128x256_S1x4x1x128x256_0_1_3_4 (addf (shapeCast _ (extractStridedSlice S1x1x4x128x256 ![1, 0, 0, 0, 0] wv437 slices_S32x1x4x128x256_S1x1x4x128x256_1_0_0_0_0) shapeCasts_S1x1x4x128x256_S1x4x128x256) (mulf wv677 (broadcastInDim S1x4x128x256 ![0, 1, 2, 3] bcast_S1x4x1x1_S1x4x128x256_0_1_2_3 (broadcastInDim S1x4x1x1 ![1] bcast_S4_S1x4x1x1_1 wv140))))) (constant S_ .f32 0x00000000#32) pads_S1x4x1x128x256_S1x4x32x128x256_000_000_0310_000_000 h_S_) : FVec Ideal S1x4x32x128x256 .f32) (ix5 0 h n d e) = ((D.db n.val h d e : ℝ) : EReal) := by
  pointwise [hv140, hv437, hv677, hv680]
  simp only [← EReal.coe_mul, ← EReal.coe_add]
  have h31 : D.qd (31 - 30) h d e + D.bk 30 h d e * dec h = D.bk 31 h d e := (add_comm _ _).trans (D.bk_succ 30 h d e).symm
  by_cases hn : n.val < 1
  · rw [dif_pos hn, if_neg (by omega), show n.val = 0 by omega, EReal.coe_zero, zero_add]
    exact congrArg Real.toEReal h31
  · rw [dif_neg hn, if_pos (by omega), add_zero]
theorem v686_at (H : Holds V D) (h : Fin 4) (n : Fin 32) (d : Fin 128) (e : Fin 256) : (res_main_v686 V (ix5 0 h n d e) : EReal) = ((D.db n.val h d e : ℝ) : EReal) :=
  gv686 (res_main_v140 V) (res_main_v437 V) (res_main_v677 V) (res_main_v680 V) (v140_at H) (v437_at H) (v677_at H) (v680_at H) h n d e

end Cert.Proof.RetRef

end
-- ==== Proof.RetRefE.lean ====
/-
  The retention reference's arrays read at an index, last part: the four gradients.
-/
module

public import proofs.«01_k».proof.Proof.RetRefD
public import proofs.«01_k».proof.Proof.Gen.RetReferenceIdeal.Run
public import Idealize.ShloMosaic.Lib.Pointwise

@[expose] public section

set_option maxRecDepth 16384

noncomputable section

namespace Cert.Proof.RetRef

open Cert.RetReferenceIdeal Cert.RetReferenceIdeal.Gen Cert.RetReferenceIdeal.Value Idealize.ShloMosaic Idealize.ShloMosaic.StableHlo Cert.Proof.Ret
open Cert.Proof.Grad (coe_sum div_coe_coe rsqrt_of_pos ofBits_eps ofBits_half ofBits_neg_half eps eps_pos sg)
open scoped BigOperators

/-- A pair's rotation back, written into interleaved columns. -/
theorem unrot_pair (t : Fin 4096) (y : Fin 128 → ℝ) (d : Fin 128) (P : Prop) [Decidable P] (hP : P) :
    (if h : P ∧ 1 ≤ d.val ∧ (d.val - 1) % 2 = 0 ∧ (d.val - 1) / 2 < 64 then
        ((y (two ⟨(d.val - 1) / 2, h.2.2.2⟩ 1) * Real.cos (ang t ⟨(d.val - 1) / 2, h.2.2.2⟩)
          + -y (two ⟨(d.val - 1) / 2, h.2.2.2⟩ 0) * Real.sin (ang t ⟨(d.val - 1) / 2, h.2.2.2⟩) : ℝ) : EReal) else 0)
      + (if h : P ∧ d.val % 2 = 0 ∧ d.val / 2 < 64 then
        ((y (two ⟨d.val / 2, h.2.2⟩ 1) * Real.sin (ang t ⟨d.val / 2, h.2.2⟩)
          + y (two ⟨d.val / 2, h.2.2⟩ 0) * Real.cos (ang t ⟨d.val / 2, h.2.2⟩) : ℝ) : EReal) else 0)
      = ((unrot t y d : ℝ) : EReal) := by
  rw [unrot]
  by_cases h : d.val % 2 = 0
  · rw [dif_neg (by omega), dif_pos ⟨hP, h, by omega⟩, if_pos h, zero_add]
    have e0 : two ⟨d.val / 2, by omega⟩ 0 = d := Fin.ext (by simp only [two, Fin.val_zero]; omega)
    have e1 : two ⟨d.val / 2, by omega⟩ 1 = nxt d := Fin.ext (by rw [val_nxt d h]; simp only [two, Fin.val_one]; omega)
    rw [e0, e1, add_comm]
    rfl
  · rw [dif_pos ⟨hP, by omega, by omega, by omega⟩, dif_neg (by omega), if_neg h, add_zero]
    have hf : (⟨(d.val - 1) / 2, by omega⟩ : Fin 64) = frq d := Fin.ext (by simp only [frq]; omega)
    have e0 : two (frq d) 0 = prv d := Fin.ext (by rw [val_prv]; simp only [two, frq, Fin.val_zero]; omega)
    have e1 : two (frq d) 1 = d := Fin.ext (by simp only [two, frq, Fin.val_one]; omega)
    rw [hf, e0, e1]
    rfl

variable {V : Valuation τ sig (Elt Ideal)} {D : Data}

theorem gv698 (wv114 : FVec Ideal S1x4x1x128x128 .f32) (wv435 : FVec Ideal S1x4x32x128x256 .f32) (wv87 : FVec Ideal S1x4x32x128x256 .f32)
    (hv114 : ∀ (h : Fin 4) (i j : Fin 128), wv114 (ix5 0 h 0 i j) = ((dm h i j : ℝ) : EReal))
    (hv435 : ∀ (h : Fin 4) (n : Fin 32) (i : Fin 128) (e : Fin 256), wv435 (ix5 0 h n i e) = ((D.do_ n.val h i e : ℝ) : EReal))
    (hv87 : ∀ (h : Fin 4) (n : Fin 32) (i : Fin 128) (e : Fin 256), wv87 (ix5 0 h n i e) = ((D.v n.val h i e : ℝ) : EReal))
    (h : Fin 4) (n : Fin 32) (i j : Fin 128) : (mulf (Host.dotGeneral dot_S1x4x32x128x256_S1x4x32x128x256_S1x4x32x128x128_4_4_3_3_012_012 none wv435 wv87) (broadcastInDim S1x4x32x128x128 ![0, 1, 2, 3, 4] bcast_S1x4x1x128x128_S1x4x32x128x128_0_1_2_3_4 wv114) : FVec Ideal S1x4x32x128x128 .f32) (ix5 0 h n i j) = ((D.ds n.val h i j : ℝ) : EReal) := by
  pointwise [hv114, hv435, hv87]
  simp only [← EReal.coe_mul, ← coe_sum, Data.ds]
theorem v698_at (H : Holds V D) (h : Fin 4) (n : Fin 32) (i j : Fin 128) : (res_main_v698 V (ix5 0 h n i j) : EReal) = ((D.ds n.val h i j : ℝ) : EReal) :=
  gv698 (res_main_v114 V) (res_main_v435 V) (res_main_v87 V) (v114_at H) (v435_at H) (v87_at H) h n i j

theorem gv712 (wv134 : FVec Ideal S1x4x1x128x1 .f32) (wv686 : FVec Ideal S1x4x32x128x256 .f32) (wv698 : FVec Ideal S1x4x32x128x128 .f32) (wv83 : FVec Ideal S1x4x32x128x128 .f32) (wv87 : FVec Ideal S1x4x32x128x256 .f32)
    (hv134 : ∀ (h : Fin 4) (i : Fin 128), wv134 (ix5 0 h 0 i 0) = ((zt h i : ℝ) : EReal))
    (hv686 : ∀ (h : Fin 4) (n : Fin 32) (d : Fin 128) (e : Fin 256), wv686 (ix5 0 h n d e) = ((D.db n.val h d e : ℝ) : EReal))
    (hv698 : ∀ (h : Fin 4) (n : Fin 32) (i j : Fin 128), wv698 (ix5 0 h n i j) = ((D.ds n.val h i j : ℝ) : EReal))
    (hv83 : ∀ (h : Fin 4) (n : Fin 32) (i d : Fin 128), wv83 (ix5 0 h n i d) = ((D.q n.val h i d : ℝ) : EReal))
    (hv87 : ∀ (h : Fin 4) (n : Fin 32) (i : Fin 128) (e : Fin 256), wv87 (ix5 0 h n i e) = ((D.v n.val h i e : ℝ) : EReal))
    (t : Fin 4096) (h : Fin 4) (f : Fin 64) (b : Fin 2) : (shapeCast _ (mulf (shapeCast _ (transpose S1x32x128x4x128 [0, 2, 3, 1, 4] (addf (mulf (transpose S1x4x32x128x128 [0, 1, 2, 4, 3] (Host.dotGeneral dot_S1x4x32x128x256_S1x4x32x128x256_S1x4x32x128x128_4_4_3_3_012_012 none wv686 wv87) transposes_S1x4x32x128x128_S1x4x32x128x128_0_1_2_4_3) (broadcastInDim S1x4x32x128x128 ![0, 1, 2, 3, 4] bcast_S1x4x1x128x1_S1x4x32x128x128_0_1_2_3_4 wv134)) (Host.dotGeneral dot_S1x4x32x128x128_S1x4x32x128x128_S1x4x32x128x128_3_3_4_4_012_012 none wv698 wv83)) transposes_S1x4x32x128x128_S1x32x128x4x128_0_2_3_1_4) shapeCasts_S1x32x128x4x128_S1x4096x4x128) (broadcastInDim S1x4096x4x128 ![] bcast_S_S1x4096x4x128 (constant S_ .f32 0x3DB504F3#32))) shapeCasts_S1x4096x4x128_S1x4096x4x64x2 : FVec Ideal S1x4096x4x64x2 .f32) (ix5 0 t h f b) = ((D.dk (ch t) h (pos t) (two f b) * ksc : ℝ) : EReal) := by
  pointwise [hv134, hv686, hv698, hv83, hv87]
  simp only [ofBits_ksc, ← EReal.coe_mul, ← coe_sum, ← EReal.coe_add]
  refine congrArg Real.toEReal (congrArg (· * ksc) ?_)
  rw [Data.dk, add_comm]
  exact congrArg₂ (· + ·) rfl (congrArg (· * _) (Finset.sum_congr rfl fun e _ => mul_comm _ _))
theorem v712_at (H : Holds V D) (t : Fin 4096) (h : Fin 4) (f : Fin 64) (b : Fin 2) : (res_main_v712 V (ix5 0 t h f b) : EReal) = ((D.dk (ch t) h (pos t) (two f b) * ksc : ℝ) : EReal) :=
  gv712 (res_main_v134 V) (res_main_v686 V) (res_main_v698 V) (res_main_v83 V) (res_main_v87 V) (v134_at H) (v686_at H) (v698_at H) (v83_at H) (v87_at H) t h f b

theorem gv714 (wv712 : FVec Ideal S1x4096x4x64x2 .f32)
    (hv712 : ∀ (t : Fin 4096) (h : Fin 4) (f : Fin 64) (b : Fin 2), wv712 (ix5 0 t h f b) = ((D.dk (ch t) h (pos t) (two f b) * ksc : ℝ) : EReal))
    (t : Fin 4096) (h : Fin 4) (f : Fin 64) : (shapeCast _ (extractStridedSlice S1x4096x4x64x1 ![0, 0, 0, 0, 0] wv712 slices_S1x4096x4x64x2_S1x4096x4x64x1_0_0_0_0_0) shapeCasts_S1x4096x4x64x1_S1x4096x4x64 : FVec Ideal S1x4096x4x64 .f32) (ix4 0 t h f) = ((D.dk (ch t) h (pos t) (two f 0) * ksc : ℝ) : EReal) := by
  pointwise [hv712]
theorem v714_at (H : Holds V D) (t : Fin 4096) (h : Fin 4) (f : Fin 64) : (res_main_v714 V (ix4 0 t h f) : EReal) = ((D.dk (ch t) h (pos t) (two f 0) * ksc : ℝ) : EReal) :=
  gv714 (res_main_v712 V) (v712_at H) t h f

theorem gv716 (wv712 : FVec Ideal S1x4096x4x64x2 .f32)
    (hv712 : ∀ (t : Fin 4096) (h : Fin 4) (f : Fin 64) (b : Fin 2), wv712 (ix5 0 t h f b) = ((D.dk (ch t) h (pos t) (two f b) * ksc : ℝ) : EReal))
    (t : Fin 4096) (h : Fin 4) (f : Fin 64) : (shapeCast _ (extractStridedSlice S1x4096x4x64x1 ![0, 0, 0, 0, 1] wv712 slices_S1x4096x4x64x2_S1x4096x4x64x1_0_0_0_0_1) shapeCasts_S1x4096x4x64x1_S1x4096x4x64 : FVec Ideal S1x4096x4x64 .f32) (ix4 0 t h f) = ((D.dk (ch t) h (pos t) (two f 1) * ksc : ℝ) : EReal) := by
  pointwise [hv712]
theorem v716_at (H : Holds V D) (t : Fin 4096) (h : Fin 4) (f : Fin 64) : (res_main_v716 V (ix4 0 t h f) : EReal) = ((D.dk (ch t) h (pos t) (two f 1) * ksc : ℝ) : EReal) :=
  gv716 (res_main_v712 V) (v712_at H) t h f

theorem gv732 (wv368 : FVec Ideal S32x1x4x128x256 .f32) (wv370 : FVec Ideal S1x4x1x128x1 .f32) (wv435 : FVec Ideal S1x4x32x128x256 .f32) (wv698 : FVec Ideal S1x4x32x128x128 .f32) (wv85 : FVec Ideal S1x4x32x128x128 .f32)
    (hv368 : ∀ (n : Fin 32) (h : Fin 4) (d : Fin 128) (e : Fin 256), wv368 (ix5 n 0 h d e) = ((D.st n.val h d e : ℝ) : EReal))
    (hv370 : ∀ (h : Fin 4) (i : Fin 128), wv370 (ix5 0 h 0 i 0) = ((xi h i : ℝ) : EReal))
    (hv435 : ∀ (h : Fin 4) (n : Fin 32) (i : Fin 128) (e : Fin 256), wv435 (ix5 0 h n i e) = ((D.do_ n.val h i e : ℝ) : EReal))
    (hv698 : ∀ (h : Fin 4) (n : Fin 32) (i j : Fin 128), wv698 (ix5 0 h n i j) = ((D.ds n.val h i j : ℝ) : EReal))
    (hv85 : ∀ (h : Fin 4) (n : Fin 32) (i d : Fin 128), wv85 (ix5 0 h n i d) = ((D.k n.val h i d : ℝ) : EReal))
    (t : Fin 4096) (h : Fin 4) (f : Fin 64) (b : Fin 2) : (shapeCast _ (shapeCast _ (transpose S1x32x128x4x128 [0, 2, 3, 1, 4] (addf (mulf (Host.dotGeneral dot_S1x4x32x128x256_S32x1x4x128x256_S1x4x32x128x128_4_4_3_3_012_120 none wv435 wv368) (broadcastInDim S1x4x32x128x128 ![0, 1, 2, 3, 4] bcast_S1x4x1x128x1_S1x4x32x128x128_0_1_2_3_4 wv370)) (Host.dotGeneral dot_S1x4x32x128x128_S1x4x32x128x128_S1x4x32x128x128_4_3_3_4_012_012 none wv698 wv85)) transposes_S1x4x32x128x128_S1x32x128x4x128_0_2_3_1_4) shapeCasts_S1x32x128x4x128_S1x4096x4x128) shapeCasts_S1x4096x4x128_S1x4096x4x64x2 : FVec Ideal S1x4096x4x64x2 .f32) (ix5 0 t h f b) = ((D.dq (ch t) h (pos t) (two f b) : ℝ) : EReal) := by
  pointwise [hv368, hv370, hv435, hv698, hv85]
  simp only [← EReal.coe_mul, ← coe_sum, ← EReal.coe_add]
  refine congrArg Real.toEReal ?_
  rw [Data.dq, add_comm]
  rfl
theorem v732_at (H : Holds V D) (t : Fin 4096) (h : Fin 4) (f : Fin 64) (b : Fin 2) : (res_main_v732 V (ix5 0 t h f b) : EReal) = ((D.dq (ch t) h (pos t) (two f b) : ℝ) : EReal) :=
  gv732 (res_main_v368 V) (res_main_v370 V) (res_main_v435 V) (res_main_v698 V) (res_main_v85 V) (v368_at H) (v370_at H) (v435_at H) (v698_at H) (v85_at H) t h f b

theorem gv734 (wv732 : FVec Ideal S1x4096x4x64x2 .f32)
    (hv732 : ∀ (t : Fin 4096) (h : Fin 4) (f : Fin 64) (b : Fin 2), wv732 (ix5 0 t h f b) = ((D.dq (ch t) h (pos t) (two f b) : ℝ) : EReal))
    (t : Fin 4096) (h : Fin 4) (f : Fin 64) : (shapeCast _ (extractStridedSlice S1x4096x4x64x1 ![0, 0, 0, 0, 0] wv732 slices_S1x4096x4x64x2_S1x4096x4x64x1_0_0_0_0_0) shapeCasts_S1x4096x4x64x1_S1x4096x4x64 : FVec Ideal S1x4096x4x64 .f32) (ix4 0 t h f) = ((D.dq (ch t) h (pos t) (two f 0) : ℝ) : EReal) := by
  pointwise [hv732]
theorem v734_at (H : Holds V D) (t : Fin 4096) (h : Fin 4) (f : Fin 64) : (res_main_v734 V (ix4 0 t h f) : EReal) = ((D.dq (ch t) h (pos t) (two f 0) : ℝ) : EReal) :=
  gv734 (res_main_v732 V) (v732_at H) t h f

theorem gv736 (wv732 : FVec Ideal S1x4096x4x64x2 .f32)
    (hv732 : ∀ (t : Fin 4096) (h : Fin 4) (f : Fin 64) (b : Fin 2), wv732 (ix5 0 t h f b) = ((D.dq (ch t) h (pos t) (two f b) : ℝ) : EReal))
    (t : Fin 4096) (h : Fin 4) (f : Fin 64) : (shapeCast _ (extractStridedSlice S1x4096x4x64x1 ![0, 0, 0, 0, 1] wv732 slices_S1x4096x4x64x2_S1x4096x4x64x1_0_0_0_0_1) shapeCasts_S1x4096x4x64x1_S1x4096x4x64 : FVec Ideal S1x4096x4x64 .f32) (ix4 0 t h f) = ((D.dq (ch t) h (pos t) (two f 1) : ℝ) : EReal) := by
  pointwise [hv732]
theorem v736_at (H : Holds V D) (t : Fin 4096) (h : Fin 4) (f : Fin 64) : (res_main_v736 V (ix4 0 t h f) : EReal) = ((D.dq (ch t) h (pos t) (two f 1) : ℝ) : EReal) :=
  gv736 (res_main_v732 V) (v732_at H) t h f

theorem gv757p0 (wv19 : FVec Ideal S4096x64 .f32) (wv734 : FVec Ideal S1x4096x4x64 .f32) (wv736 : FVec Ideal S1x4096x4x64 .f32)
    (hv19 : ∀ (t : Fin 4096) (f : Fin 64), wv19 (ix2 t f) = ((ang t f : ℝ) : EReal))
    (hv734 : ∀ (t : Fin 4096) (h : Fin 4) (f : Fin 64), wv734 (ix4 0 t h f) = ((D.dq (ch t) h (pos t) (two f 0) : ℝ) : EReal))
    (hv736 : ∀ (t : Fin 4096) (h : Fin 4) (f : Fin 64), wv736 (ix4 0 t h f) = ((D.dq (ch t) h (pos t) (two f 1) : ℝ) : EReal))
    (t : Fin 4096) (c : Fin 512) : (shapeCast _ (shapeCast _ (addf (pad S1x4096x4x128 ![0, 0, 0, 1] ![0, 0, 0, 0] ![0, 0, 0, 1] (addf (mulf wv736 (broadcastInDim S1x4096x4x64 ![0, 1, 2, 3] bcast_S1x4096x1x64_S1x4096x4x64_0_1_2_3 (broadcastInDim S1x4096x1x64 ![1, 2, 3] bcast_S4096x1x64_S1x4096x1x64_1_2_3 (broadcastInDim S4096x1x64 ![0, 2] bcast_S4096x64_S4096x1x64_0_2 (Host.cos wv19))))) (mulf (Host.negf wv734) (broadcastInDim S1x4096x4x64 ![0, 1, 2, 3] bcast_S1x4096x1x64_S1x4096x4x64_0_1_2_3 (broadcastInDim S1x4096x1x64 ![1, 2, 3] bcast_S4096x1x64_S1x4096x1x64_1_2_3 (broadcastInDim S4096x1x64 ![0, 2] bcast_S4096x64_S4096x1x64_0_2 (Host.sin wv19)))))) (constant S_ .f32 0x00000000#32) pads_S1x4096x4x64_S1x4096x4x128_000_000_000_101 h_S_) (pad S1x4096x4x128 ![0, 0, 0, 0] ![0, 0, 0, 1] ![0, 0, 0, 1] (addf (mulf wv736 (broadcastInDim S1x4096x4x64 ![0, 1, 2, 3] bcast_S1x4096x1x64_S1x4096x4x64_0_1_2_3 (broadcastInDim S1x4096x1x64 ![1, 2, 3] bcast_S4096x1x64_S1x4096x1x64_1_2_3 (broadcastInDim S4096x1x64 ![0, 2] bcast_S4096x64_S4096x1x64_0_2 (Host.sin wv19))))) (mulf wv734 (broadcastInDim S1x4096x4x64 ![0, 1, 2, 3] bcast_S1x4096x1x64_S1x4096x4x64_0_1_2_3 (broadcastInDim S1x4096x1x64 ![1, 2, 3] bcast_S4096x1x64_S1x4096x1x64_1_2_3 (broadcastInDim S4096x1x64 ![0, 2] bcast_S4096x64_S4096x1x64_0_2 (Host.cos wv19)))))) (constant S_ .f32 0x00000000#32) pads_S1x4096x4x64_S1x4096x4x128_000_000_000_011 h_S_)) shapeCasts_S1x4096x4x128_S1x4096x512) shapeCasts_S1x4096x512_S4096x512 : FVec Ideal S4096x512 .f32) (ix2 t c) = ((D.dqx (ch t) ⟨c.val / 128, by omega⟩ (pos t) ⟨c.val % 128, by omega⟩ : ℝ) : EReal) := by
  pointwise [hv19, hv734, hv736]
  simp only [Ideal.cos_coe, Ideal.sin_coe, ← EReal.coe_neg, ← EReal.coe_mul, ← EReal.coe_add]
  refine Eq.trans (unrot_pair t (D.dq (ch t) ⟨c.val / 128, by omega⟩ (pos t)) ⟨c.val % 128, by omega⟩ (c.val / 128 < 4) (by omega)) (congrArg Real.toEReal ?_)
  rw [Data.dqx, tok_ch_pos]

theorem gv757p1 (wv54 : FVec Ideal S4096x64 .f32) (wv714 : FVec Ideal S1x4096x4x64 .f32) (wv716 : FVec Ideal S1x4096x4x64 .f32)
    (hv54 : ∀ (t : Fin 4096) (f : Fin 64), wv54 (ix2 t f) = ((ang t f : ℝ) : EReal))
    (hv714 : ∀ (t : Fin 4096) (h : Fin 4) (f : Fin 64), wv714 (ix4 0 t h f) = ((D.dk (ch t) h (pos t) (two f 0) * ksc : ℝ) : EReal))
    (hv716 : ∀ (t : Fin 4096) (h : Fin 4) (f : Fin 64), wv716 (ix4 0 t h f) = ((D.dk (ch t) h (pos t) (two f 1) * ksc : ℝ) : EReal))
    (t : Fin 4096) (c : Fin 512) : (shapeCast _ (shapeCast _ (addf (pad S1x4096x4x128 ![0, 0, 0, 1] ![0, 0, 0, 0] ![0, 0, 0, 1] (addf (mulf wv716 (broadcastInDim S1x4096x4x64 ![0, 1, 2, 3] bcast_S1x4096x1x64_S1x4096x4x64_0_1_2_3 (broadcastInDim S1x4096x1x64 ![1, 2, 3] bcast_S4096x1x64_S1x4096x1x64_1_2_3 (broadcastInDim S4096x1x64 ![0, 2] bcast_S4096x64_S4096x1x64_0_2 (Host.cos wv54))))) (mulf (Host.negf wv714) (broadcastInDim S1x4096x4x64 ![0, 1, 2, 3] bcast_S1x4096x1x64_S1x4096x4x64_0_1_2_3 (broadcastInDim S1x4096x1x64 ![1, 2, 3] bcast_S4096x1x64_S1x4096x1x64_1_2_3 (broadcastInDim S4096x1x64 ![0, 2] bcast_S4096x64_S4096x1x64_0_2 (Host.sin wv54)))))) (constant S_ .f32 0x00000000#32) pads_S1x4096x4x64_S1x4096x4x128_000_000_000_101 h_S_) (pad S1x4096x4x128 ![0, 0, 0, 0] ![0, 0, 0, 1] ![0, 0, 0, 1] (addf (mulf wv716 (broadcastInDim S1x4096x4x64 ![0, 1, 2, 3] bcast_S1x4096x1x64_S1x4096x4x64_0_1_2_3 (broadcastInDim S1x4096x1x64 ![1, 2, 3] bcast_S4096x1x64_S1x4096x1x64_1_2_3 (broadcastInDim S4096x1x64 ![0, 2] bcast_S4096x64_S4096x1x64_0_2 (Host.sin wv54))))) (mulf wv714 (broadcastInDim S1x4096x4x64 ![0, 1, 2, 3] bcast_S1x4096x1x64_S1x4096x4x64_0_1_2_3 (broadcastInDim S1x4096x1x64 ![1, 2, 3] bcast_S4096x1x64_S1x4096x1x64_1_2_3 (broadcastInDim S4096x1x64 ![0, 2] bcast_S4096x64_S4096x1x64_0_2 (Host.cos wv54)))))) (constant S_ .f32 0x00000000#32) pads_S1x4096x4x64_S1x4096x4x128_000_000_000_011 h_S_)) shapeCasts_S1x4096x4x128_S1x4096x512) shapeCasts_S1x4096x512_S4096x512 : FVec Ideal S4096x512 .f32) (ix2 t c) = ((D.dkx (ch t) ⟨c.val / 128, by omega⟩ (pos t) ⟨c.val % 128, by omega⟩ : ℝ) : EReal) := by
  pointwise [hv54, hv714, hv716]
  simp only [Ideal.cos_coe, Ideal.sin_coe, ← EReal.coe_neg, ← EReal.coe_mul, ← EReal.coe_add]
  refine Eq.trans (unrot_pair t (fun d => D.dk (ch t) ⟨c.val / 128, by omega⟩ (pos t) d * ksc) ⟨c.val % 128, by omega⟩ (c.val / 128 < 4) (by omega)) (congrArg Real.toEReal ?_)
  rw [Data.dkx, tok_ch_pos]

theorem gv757p2 (wv116 : FVec Ideal S1x4x32x128x128 .f32) (wv136 : FVec Ideal S1x4x32x128x128 .f32) (wv435 : FVec Ideal S1x4x32x128x256 .f32) (wv686 : FVec Ideal S1x4x32x128x256 .f32)
    (hv116 : ∀ (h : Fin 4) (n : Fin 32) (i j : Fin 128), wv116 (ix5 0 h n i j) = ((D.sd n.val h i j : ℝ) : EReal))
    (hv136 : ∀ (h : Fin 4) (n : Fin 32) (i d : Fin 128), wv136 (ix5 0 h n i d) = ((D.k n.val h i d * zt h i : ℝ) : EReal))
    (hv435 : ∀ (h : Fin 4) (n : Fin 32) (i : Fin 128) (e : Fin 256), wv435 (ix5 0 h n i e) = ((D.do_ n.val h i e : ℝ) : EReal))
    (hv686 : ∀ (h : Fin 4) (n : Fin 32) (d : Fin 128) (e : Fin 256), wv686 (ix5 0 h n d e) = ((D.db n.val h d e : ℝ) : EReal))
    (t : Fin 4096) (c : Fin 1024) : (shapeCast _ (shapeCast _ (shapeCast _ (transpose S1x32x128x4x256 [0, 2, 3, 1, 4] (addf (transpose S1x4x32x128x256 [0, 1, 2, 4, 3] (Host.dotGeneral dot_S1x4x32x128x256_S1x4x32x128x128_S1x4x32x256x128_3_4_4_3_012_012 none wv686 wv136) transposes_S1x4x32x256x128_S1x4x32x128x256_0_1_2_4_3) (transpose S1x4x32x128x256 [0, 1, 2, 4, 3] (Host.dotGeneral dot_S1x4x32x128x256_S1x4x32x128x128_S1x4x32x256x128_3_3_4_4_012_012 none wv435 wv116) transposes_S1x4x32x256x128_S1x4x32x128x256_0_1_2_4_3)) transposes_S1x4x32x128x256_S1x32x128x4x256_0_2_3_1_4) shapeCasts_S1x32x128x4x256_S1x4096x4x256) shapeCasts_S1x4096x4x256_S1x4096x1024) shapeCasts_S1x4096x1024_S4096x1024 : FVec Ideal S4096x1024 .f32) (ix2 t c) = ((D.dv (ch t) (hd c) (pos t) (ln c) : ℝ) : EReal) := by
  pointwise [hv116, hv136, hv435, hv686]
  simp only [← EReal.coe_mul, ← coe_sum, ← EReal.coe_add]
  exact congrArg Real.toEReal ((add_comm _ _).trans (congrArg₂ (· + ·) (Finset.sum_congr rfl fun i _ => mul_comm _ _) (Finset.sum_congr rfl fun i _ => mul_comm _ _)))

theorem gv757p3 (wv401_2 : FVec Ideal S1x4096x1024 .f32) (wv404 : FVec Ideal S1x4096x1024 .f32) (wv7 : FVec Ideal S1x4096x1024 .f32)
    (hv401_2 : ∀ (t : Fin 4096) (c : Fin 1024), wv401_2 (ix3 0 t c) = ((sg (D.x t (gc c)) : ℝ) : EReal))
    (hv404 : ∀ (t : Fin 4096) (c : Fin 1024), wv404 (ix3 0 t c) = ((D.rn (ch t) (hd c) (pos t) (ln c) * D.dy t c : ℝ) : EReal))
    (hv7 : ∀ (t : Fin 4096) (c : Fin 1024), wv7 (ix3 0 t c) = ((D.x t (gc c) : ℝ) : EReal))
    (t : Fin 4096) (c : Fin 1024) : (shapeCast _ (addf (mulf wv404 wv401_2) (mulf (mulf wv7 wv404) (mulf wv401_2 (subf (broadcastInDim S1x4096x1024 ![] bcast_S_S1x4096x1024 (constant S_ .f32 0x3F800000#32)) wv401_2)))) shapeCasts_S1x4096x1024_S4096x1024 : FVec Ideal S4096x1024 .f32) (ix2 t c) = ((D.dgr (ch t) (hd c) (pos t) (ln c) : ℝ) : EReal) := by
  pointwise [hv401_2, hv404, hv7]
  simp only [← EReal.coe_one, ← EReal.coe_sub, ← EReal.coe_mul, ← coe_sum, ← EReal.coe_add]
  have h1 : D.dyo (ch t) (hd c) (pos t) (ln c) = D.dy t c := by rw [Data.dyo, tok_ch_pos, Data.ocol_hd_ln]
  have h2 : D.gr (ch t) (hd c) (pos t) (ln c) = D.x t (gc c) := by rw [Data.gr, tok_ch_pos, Data.gcol_hd_ln]
  rw [Data.dgr_two, h1, h2]

/-- The array the reference ends with. -/
def outArr (D : Data) : FVec Ideal S4096x3072 .bf16 := fun i => ((D.out (i 0) (i 1) : ℝ) : EReal)

/-- Four blocks of columns side by side. -/
theorem cat (p0 p1 : FVec Ideal S4096x512 .f32) (p2 p3 : FVec Ideal S4096x1024 .f32) (D : Data)
    (h0 : ∀ (t : Fin 4096) (c : Fin 512), p0 (ix2 t c) = ((D.dqx (ch t) ⟨c.val / 128, by omega⟩ (pos t) ⟨c.val % 128, by omega⟩ : ℝ) : EReal))
    (h1 : ∀ (t : Fin 4096) (c : Fin 512), p1 (ix2 t c) = ((D.dkx (ch t) ⟨c.val / 128, by omega⟩ (pos t) ⟨c.val % 128, by omega⟩ : ℝ) : EReal))
    (h2 : ∀ (t : Fin 4096) (c : Fin 1024), p2 (ix2 t c) = ((D.dv (ch t) (hd c) (pos t) (ln c) : ℝ) : EReal))
    (h3 : ∀ (t : Fin 4096) (c : Fin 1024), p3 (ix2 t c) = ((D.dgr (ch t) (hd c) (pos t) (ln c) : ℝ) : EReal)) :
    (truncf .bf16 ((concatenate S4096x3072 1 [⟨S4096x512, (p0 : (⟨S4096x512, .f32⟩ : BufTy).Contents (Elt Ideal))⟩, ⟨S4096x512, (p1 : (⟨S4096x512, .f32⟩ : BufTy).Contents (Elt Ideal))⟩, ⟨S4096x1024, (p2 : (⟨S4096x1024, .f32⟩ : BufTy).Contents (Elt Ideal))⟩, ⟨S4096x1024, (p3 : (⟨S4096x1024, .f32⟩ : BufTy).Contents (Elt Ideal))⟩] concatenates_S4096x512_S4096x512_S4096x1024_S4096x1024_S4096x3072_d1 : (⟨S4096x3072, .f32⟩ : BufTy).Contents (Elt Ideal))) bitsLt_bf16_f32 : FVec Ideal S4096x3072 .bf16) = outArr D := by
  funext i
  idx_vars i
  simp only [outArr, ix2_0, ix2_1]
  pointwise [h0, h1, h2, h3]
  rw [Data.out]
  by_cases c0 : i1.val < 512
  · rw [dif_pos c0, dif_pos c0]
  · rw [dif_neg c0, dif_neg c0]
    by_cases c1 : i1.val < 1024
    · rw [dif_pos (by omega), dif_pos c1]
    · rw [dif_neg (by omega), dif_neg c1]
      by_cases c2 : i1.val < 2048
      · rw [dif_pos (by omega), dif_pos c2]
        simp only [Nat.sub_sub]
      · rw [dif_neg (by omega), dif_neg c2]
        simp only [Nat.sub_sub]

/-- The result's composed term at arrays that hold the listed reals. -/
theorem gv757 (wv116 : FVec Ideal S1x4x32x128x128 .f32) (wv136 : FVec Ideal S1x4x32x128x128 .f32) (wv19 : FVec Ideal S4096x64 .f32) (wv401_2 : FVec Ideal S1x4096x1024 .f32) (wv404 : FVec Ideal S1x4096x1024 .f32) (wv435 : FVec Ideal S1x4x32x128x256 .f32) (wv54 : FVec Ideal S4096x64 .f32) (wv686 : FVec Ideal S1x4x32x128x256 .f32) (wv7 : FVec Ideal S1x4096x1024 .f32) (wv714 : FVec Ideal S1x4096x4x64 .f32) (wv716 : FVec Ideal S1x4096x4x64 .f32) (wv734 : FVec Ideal S1x4096x4x64 .f32) (wv736 : FVec Ideal S1x4096x4x64 .f32)
    (hv116 : ∀ (h : Fin 4) (n : Fin 32) (i j : Fin 128), wv116 (ix5 0 h n i j) = ((D.sd n.val h i j : ℝ) : EReal))
    (hv136 : ∀ (h : Fin 4) (n : Fin 32) (i d : Fin 128), wv136 (ix5 0 h n i d) = ((D.k n.val h i d * zt h i : ℝ) : EReal))
    (hv19 : ∀ (t : Fin 4096) (f : Fin 64), wv19 (ix2 t f) = ((ang t f : ℝ) : EReal))
    (hv401_2 : ∀ (t : Fin 4096) (c : Fin 1024), wv401_2 (ix3 0 t c) = ((sg (D.x t (gc c)) : ℝ) : EReal))
    (hv404 : ∀ (t : Fin 4096) (c : Fin 1024), wv404 (ix3 0 t c) = ((D.rn (ch t) (hd c) (pos t) (ln c) * D.dy t c : ℝ) : EReal))
    (hv435 : ∀ (h : Fin 4) (n : Fin 32) (i : Fin 128) (e : Fin 256), wv435 (ix5 0 h n i e) = ((D.do_ n.val h i e : ℝ) : EReal))
    (hv54 : ∀ (t : Fin 4096) (f : Fin 64), wv54 (ix2 t f) = ((ang t f : ℝ) : EReal))
    (hv686 : ∀ (h : Fin 4) (n : Fin 32) (d : Fin 128) (e : Fin 256), wv686 (ix5 0 h n d e) = ((D.db n.val h d e : ℝ) : EReal))
    (hv7 : ∀ (t : Fin 4096) (c : Fin 1024), wv7 (ix3 0 t c) = ((D.x t (gc c) : ℝ) : EReal))
    (hv714 : ∀ (t : Fin 4096) (h : Fin 4) (f : Fin 64), wv714 (ix4 0 t h f) = ((D.dk (ch t) h (pos t) (two f 0) * ksc : ℝ) : EReal))
    (hv716 : ∀ (t : Fin 4096) (h : Fin 4) (f : Fin 64), wv716 (ix4 0 t h f) = ((D.dk (ch t) h (pos t) (two f 1) * ksc : ℝ) : EReal))
    (hv734 : ∀ (t : Fin 4096) (h : Fin 4) (f : Fin 64), wv734 (ix4 0 t h f) = ((D.dq (ch t) h (pos t) (two f 0) : ℝ) : EReal))
    (hv736 : ∀ (t : Fin 4096) (h : Fin 4) (f : Fin 64), wv736 (ix4 0 t h f) = ((D.dq (ch t) h (pos t) (two f 1) : ℝ) : EReal)) :
    (truncf .bf16 ((concatenate S4096x3072 1 [⟨S4096x512, ((shapeCast _ (shapeCast _ (addf (pad S1x4096x4x128 ![0, 0, 0, 1] ![0, 0, 0, 0] ![0, 0, 0, 1] (addf (mulf wv736 (broadcastInDim S1x4096x4x64 ![0, 1, 2, 3] bcast_S1x4096x1x64_S1x4096x4x64_0_1_2_3 (broadcastInDim S1x4096x1x64 ![1, 2, 3] bcast_S4096x1x64_S1x4096x1x64_1_2_3 (broadcastInDim S4096x1x64 ![0, 2] bcast_S4096x64_S4096x1x64_0_2 (Host.cos wv19))))) (mulf (Host.negf wv734) (broadcastInDim S1x4096x4x64 ![0, 1, 2, 3] bcast_S1x4096x1x64_S1x4096x4x64_0_1_2_3 (broadcastInDim S1x4096x1x64 ![1, 2, 3] bcast_S4096x1x64_S1x4096x1x64_1_2_3 (broadcastInDim S4096x1x64 ![0, 2] bcast_S4096x64_S4096x1x64_0_2 (Host.sin wv19)))))) (constant S_ .f32 0x00000000#32) pads_S1x4096x4x64_S1x4096x4x128_000_000_000_101 h_S_) (pad S1x4096x4x128 ![0, 0, 0, 0] ![0, 0, 0, 1] ![0, 0, 0, 1] (addf (mulf wv736 (broadcastInDim S1x4096x4x64 ![0, 1, 2, 3] bcast_S1x4096x1x64_S1x4096x4x64_0_1_2_3 (broadcastInDim S1x4096x1x64 ![1, 2, 3] bcast_S4096x1x64_S1x4096x1x64_1_2_3 (broadcastInDim S4096x1x64 ![0, 2] bcast_S4096x64_S4096x1x64_0_2 (Host.sin wv19))))) (mulf wv734 (broadcastInDim S1x4096x4x64 ![0, 1, 2, 3] bcast_S1x4096x1x64_S1x4096x4x64_0_1_2_3 (broadcastInDim S1x4096x1x64 ![1, 2, 3] bcast_S4096x1x64_S1x4096x1x64_1_2_3 (broadcastInDim S4096x1x64 ![0, 2] bcast_S4096x64_S4096x1x64_0_2 (Host.cos wv19)))))) (constant S_ .f32 0x00000000#32) pads_S1x4096x4x64_S1x4096x4x128_000_000_000_011 h_S_)) shapeCasts_S1x4096x4x128_S1x4096x512) shapeCasts_S1x4096x512_S4096x512) : (⟨S4096x512, .f32⟩ : BufTy).Contents (Elt Ideal))⟩, ⟨S4096x512, ((shapeCast _ (shapeCast _ (addf (pad S1x4096x4x128 ![0, 0, 0, 1] ![0, 0, 0, 0] ![0, 0, 0, 1] (addf (mulf wv716 (broadcastInDim S1x4096x4x64 ![0, 1, 2, 3] bcast_S1x4096x1x64_S1x4096x4x64_0_1_2_3 (broadcastInDim S1x4096x1x64 ![1, 2, 3] bcast_S4096x1x64_S1x4096x1x64_1_2_3 (broadcastInDim S4096x1x64 ![0, 2] bcast_S4096x64_S4096x1x64_0_2 (Host.cos wv54))))) (mulf (Host.negf wv714) (broadcastInDim S1x4096x4x64 ![0, 1, 2, 3] bcast_S1x4096x1x64_S1x4096x4x64_0_1_2_3 (broadcastInDim S1x4096x1x64 ![1, 2, 3] bcast_S4096x1x64_S1x4096x1x64_1_2_3 (broadcastInDim S4096x1x64 ![0, 2] bcast_S4096x64_S4096x1x64_0_2 (Host.sin wv54)))))) (constant S_ .f32 0x00000000#32) pads_S1x4096x4x64_S1x4096x4x128_000_000_000_101 h_S_) (pad S1x4096x4x128 ![0, 0, 0, 0] ![0, 0, 0, 1] ![0, 0, 0, 1] (addf (mulf wv716 (broadcastInDim S1x4096x4x64 ![0, 1, 2, 3] bcast_S1x4096x1x64_S1x4096x4x64_0_1_2_3 (broadcastInDim S1x4096x1x64 ![1, 2, 3] bcast_S4096x1x64_S1x4096x1x64_1_2_3 (broadcastInDim S4096x1x64 ![0, 2] bcast_S4096x64_S4096x1x64_0_2 (Host.sin wv54))))) (mulf wv714 (broadcastInDim S1x4096x4x64 ![0, 1, 2, 3] bcast_S1x4096x1x64_S1x4096x4x64_0_1_2_3 (broadcastInDim S1x4096x1x64 ![1, 2, 3] bcast_S4096x1x64_S1x4096x1x64_1_2_3 (broadcastInDim S4096x1x64 ![0, 2] bcast_S4096x64_S4096x1x64_0_2 (Host.cos wv54)))))) (constant S_ .f32 0x00000000#32) pads_S1x4096x4x64_S1x4096x4x128_000_000_000_011 h_S_)) shapeCasts_S1x4096x4x128_S1x4096x512) shapeCasts_S1x4096x512_S4096x512) : (⟨S4096x512, .f32⟩ : BufTy).Contents (Elt Ideal))⟩, ⟨S4096x1024, ((shapeCast _ (shapeCast _ (shapeCast _ (transpose S1x32x128x4x256 [0, 2, 3, 1, 4] (addf (transpose S1x4x32x128x256 [0, 1, 2, 4, 3] (Host.dotGeneral dot_S1x4x32x128x256_S1x4x32x128x128_S1x4x32x256x128_3_4_4_3_012_012 none wv686 wv136) transposes_S1x4x32x256x128_S1x4x32x128x256_0_1_2_4_3) (transpose S1x4x32x128x256 [0, 1, 2, 4, 3] (Host.dotGeneral dot_S1x4x32x128x256_S1x4x32x128x128_S1x4x32x256x128_3_3_4_4_012_012 none wv435 wv116) transposes_S1x4x32x256x128_S1x4x32x128x256_0_1_2_4_3)) transposes_S1x4x32x128x256_S1x32x128x4x256_0_2_3_1_4) shapeCasts_S1x32x128x4x256_S1x4096x4x256) shapeCasts_S1x4096x4x256_S1x4096x1024) shapeCasts_S1x4096x1024_S4096x1024) : (⟨S4096x1024, .f32⟩ : BufTy).Contents (Elt Ideal))⟩, ⟨S4096x1024, ((shapeCast _ (addf (mulf wv404 wv401_2) (mulf (mulf wv7 wv404) (mulf wv401_2 (subf (broadcastInDim S1x4096x1024 ![] bcast_S_S1x4096x1024 (constant S_ .f32 0x3F800000#32)) wv401_2)))) shapeCasts_S1x4096x1024_S4096x1024) : (⟨S4096x1024, .f32⟩ : BufTy).Contents (Elt Ideal))⟩] concatenates_S4096x512_S4096x512_S4096x1024_S4096x1024_S4096x3072_d1 : (⟨S4096x3072, .f32⟩ : BufTy).Contents (Elt Ideal))) bitsLt_bf16_f32 : FVec Ideal S4096x3072 .bf16) = outArr D :=
  cat _ _ _ _ D (gv757p0 wv19 wv734 wv736 hv19 hv734 hv736) (gv757p1 wv54 wv714 wv716 hv54 hv714 hv716) (gv757p2 wv116 wv136 wv435 wv686 hv116 hv136 hv435 hv686) (gv757p3 wv401_2 wv404 wv7 hv401_2 hv404 hv7)

end Cert.Proof.RetRef

end
-- ==== Proof.RetRefF.lean ====
/-
  The term the reference's run ends with, at arguments that hold real numbers.
-/
module

public import proofs.«01_k».proof.Proof.RetRefE

@[expose] public section

set_option maxRecDepth 16384

noncomputable section

namespace Cert.Proof.RetRef

open Cert.RetReferenceIdeal Cert.RetReferenceIdeal.Gen Cert.RetReferenceIdeal.Value Idealize.ShloMosaic Idealize.ShloMosaic.TcCoe Idealize.SL.Sem Cert.Proof.Ret

variable {V : Valuation τ sig (Elt Ideal)} {D : Data}

set_option maxHeartbeats 1600000 in
theorem result (H : Holds V D) : (truncf .bf16 ((concatenate S4096x3072 1 [⟨S4096x512, ((shapeCast _ (shapeCast _ (addf (pad S1x4096x4x128 ![0, 0, 0, 1] ![0, 0, 0, 0] ![0, 0, 0, 1] (addf (mulf (res_main_v736 V) (broadcastInDim S1x4096x4x64 ![0, 1, 2, 3] bcast_S1x4096x1x64_S1x4096x4x64_0_1_2_3 (res_main_v33 V))) (mulf (Host.negf (res_main_v734 V)) (broadcastInDim S1x4096x4x64 ![0, 1, 2, 3] bcast_S1x4096x1x64_S1x4096x4x64_0_1_2_3 (res_main_v29 V)))) (constant S_ .f32 0x00000000#32) pads_S1x4096x4x64_S1x4096x4x128_000_000_000_101 h_S_) (pad S1x4096x4x128 ![0, 0, 0, 0] ![0, 0, 0, 1] ![0, 0, 0, 1] (addf (mulf (res_main_v736 V) (broadcastInDim S1x4096x4x64 ![0, 1, 2, 3] bcast_S1x4096x1x64_S1x4096x4x64_0_1_2_3 (res_main_v36 V))) (mulf (res_main_v734 V) (broadcastInDim S1x4096x4x64 ![0, 1, 2, 3] bcast_S1x4096x1x64_S1x4096x4x64_0_1_2_3 (res_main_v26 V)))) (constant S_ .f32 0x00000000#32) pads_S1x4096x4x64_S1x4096x4x128_000_000_000_011 h_S_)) shapeCasts_S1x4096x4x128_S1x4096x512) shapeCasts_S1x4096x512_S4096x512) : (⟨S4096x512, .f32⟩ : BufTy).Contents (Elt Ideal))⟩, ⟨S4096x512, ((shapeCast _ (shapeCast _ (addf (pad S1x4096x4x128 ![0, 0, 0, 1] ![0, 0, 0, 0] ![0, 0, 0, 1] (addf (mulf (res_main_v716 V) (broadcastInDim S1x4096x4x64 ![0, 1, 2, 3] bcast_S1x4096x1x64_S1x4096x4x64_0_1_2_3 (res_main_v68 V))) (mulf (Host.negf (res_main_v714 V)) (broadcastInDim S1x4096x4x64 ![0, 1, 2, 3] bcast_S1x4096x1x64_S1x4096x4x64_0_1_2_3 (res_main_v64 V)))) (constant S_ .f32 0x00000000#32) pads_S1x4096x4x64_S1x4096x4x128_000_000_000_101 h_S_) (pad S1x4096x4x128 ![0, 0, 0, 0] ![0, 0, 0, 1] ![0, 0, 0, 1] (addf (mulf (res_main_v716 V) (broadcastInDim S1x4096x4x64 ![0, 1, 2, 3] bcast_S1x4096x1x64_S1x4096x4x64_0_1_2_3 (res_main_v71 V))) (mulf (res_main_v714 V) (broadcastInDim S1x4096x4x64 ![0, 1, 2, 3] bcast_S1x4096x1x64_S1x4096x4x64_0_1_2_3 (res_main_v61 V)))) (constant S_ .f32 0x00000000#32) pads_S1x4096x4x64_S1x4096x4x128_000_000_000_011 h_S_)) shapeCasts_S1x4096x4x128_S1x4096x512) shapeCasts_S1x4096x512_S4096x512) : (⟨S4096x512, .f32⟩ : BufTy).Contents (Elt Ideal))⟩, ⟨S4096x1024, ((shapeCast _ (shapeCast _ (shapeCast _ (transpose S1x32x128x4x256 [0, 2, 3, 1, 4] (addf (transpose S1x4x32x128x256 [0, 1, 2, 4, 3] (Host.dotGeneral (φ₁ := .f32) (φ₂ := .f32) dot_S1x4x32x128x256_S1x4x32x128x128_S1x4x32x256x128_3_4_4_3_012_012 none (res_main_v686 V) (res_main_v136 V)) transposes_S1x4x32x256x128_S1x4x32x128x256_0_1_2_4_3) (transpose S1x4x32x128x256 [0, 1, 2, 4, 3] (Host.dotGeneral (φ₁ := .f32) (φ₂ := .f32) dot_S1x4x32x128x256_S1x4x32x128x128_S1x4x32x256x128_3_3_4_4_012_012 none (res_main_v435 V) (res_main_v116 V)) transposes_S1x4x32x256x128_S1x4x32x128x256_0_1_2_4_3)) transposes_S1x4x32x128x256_S1x32x128x4x256_0_2_3_1_4) shapeCasts_S1x32x128x4x256_S1x4096x4x256) shapeCasts_S1x4096x4x256_S1x4096x1024) shapeCasts_S1x4096x1024_S4096x1024) : (⟨S4096x1024, .f32⟩ : BufTy).Contents (Elt Ideal))⟩, ⟨S4096x1024, ((shapeCast _ (addf (mulf (res_main_v404 V) (res_main_v401_2 V)) (mulf (mulf (res_main_v7 V) (res_main_v404 V)) (mulf (res_main_v401_2 V) (subf (broadcastInDim S1x4096x1024 ![] bcast_S_S1x4096x1024 (constant S_ .f32 0x3F800000#32)) (res_main_v401_2 V))))) shapeCasts_S1x4096x1024_S4096x1024) : (⟨S4096x1024, .f32⟩ : BufTy).Contents (Elt Ideal))⟩] concatenates_S4096x512_S4096x512_S4096x1024_S4096x1024_S4096x3072_d1 : (⟨S4096x3072, .f32⟩ : BufTy).Contents (Elt Ideal))) bitsLt_bf16_f32 : FVec Ideal S4096x3072 .bf16) = outArr D :=
  gv757 (res_main_v116 V) (res_main_v136 V) (res_main_v19 V) (res_main_v401_2 V) (res_main_v404 V) (res_main_v435 V) (res_main_v54 V) (res_main_v686 V) (res_main_v7 V) (res_main_v714 V) (res_main_v716 V) (res_main_v734 V) (res_main_v736 V) (v116_at H) (v136_at H) (v19_at H) (v401_2_at H) (v404_at H) (v435_at H) (v54_at H) (v686_at H) (v7_at H) (v714_at H) (v716_at H) (v734_at H) (v736_at H)

end Cert.Proof.RetRef

end
-- ==== Proof.RetPay.lean ====
/-
  The kernel's own arithmetic at one grid point, element by element: from blocks that hold real numbers, what each head
  writes.
-/
module

public import proofs.«01_k».proof.Proof.RetSpec
public import proofs.«01_k».proof.Proof.Gen.RetKernelIdeal.Skeleton
public import Idealize.ShloMosaic.Lib.Pointwise

@[expose] public section

set_option maxRecDepth 16384

noncomputable section

namespace Cert.Proof.RetHost

open Cert.RetKernelIdeal Cert.RetKernelIdeal.Gen Idealize.ShloMosaic Cert.Proof.Ret
open Cert.Proof.Grad (coe_sum div_coe_coe ofBits_half sg sg_tanh)
open scoped BigOperators

variable {D : Data} {n : ℕ} {h : Fin 4}

/-- The channel before, around the end. -/
def pre (d : Fin 128) : Fin 128 := Fin.ofNat 128 (d.val + 127)
/-- The keys' gradient from a given gradient of the state. -/
def dkX (D : Data) (n : ℕ) (h : Fin 4) (X : Fin 128 → Fin 256 → ℝ) (j d : Fin 128) : ℝ :=
  (∑ i, D.ds n h i j * D.q n h i d) + (∑ e, D.v n h j e * X d e) * Ret.zt h j

theorem ofBits_one : Ideal.ofBits .f32 0x3F800000#32 = ((1 : ℝ) : EReal) := by
  pointwise; norm_num [Ideal.ofBits]
theorem nxt_eq (d : Fin 128) (p : (d.val + 128 - 127) % 128 < 128) : (⟨(d.val + 128 - 127) % 128, p⟩ : Fin 128) = nxt d := by
  apply Fin.ext; show (d.val + 128 - 127) % 128 = (d.val + 1) % 128; omega
theorem pre_eq (d : Fin 128) (p : (d.val + 128 - 1) % 128 < 128) : (⟨(d.val + 128 - 1) % 128, p⟩ : Fin 128) = pre d := by
  apply Fin.ext; show (d.val + 128 - 1) % 128 = (d.val + 127) % 128; omega
theorem val_nxt' (d : Fin 128) : (nxt d).val = (d.val + 1) % 128 := rfl
theorem val_pre (d : Fin 128) : (pre d).val = (d.val + 127) % 128 := rfl

/-- The three products by the cosine and the two masked sine tables, the last two carried to the neighbouring channel, are
    the rotation undone. -/
theorem unrot_tables (t : Fin 4096) (y : Fin 128 → ℝ) (d : Fin 128) :
    y d * cs t (frq d) + y (nxt d) * (if (nxt d).val % 2 = 0 then 0 else sn t (frq (nxt d)))
      + y (pre d) * (if (pre d).val % 2 = 0 then -sn t (frq (pre d)) else 0) = unrot t y d := by
  unfold unrot
  by_cases hd : d.val % 2 = 0
  · have h1 : ¬ (nxt d).val % 2 = 0 := by rw [val_nxt']; omega
    have h2 : ¬ (pre d).val % 2 = 0 := by rw [val_pre]; omega
    have h3 : frq (nxt d) = frq d := by apply Fin.ext; show (nxt d).val / 2 = d.val / 2; rw [val_nxt']; omega
    rw [if_neg h1, if_neg h2, if_pos hd, h3]; ring
  · have h1 : (nxt d).val % 2 = 0 := by rw [val_nxt']; omega
    have h2 : (pre d).val % 2 = 0 := by rw [val_pre]; omega
    have h4 : pre d = prv d := by apply Fin.ext; show (d.val + 127) % 128 = (d.val - 1) % 128; omega
    have h3 : frq (prv d) = frq d := by rw [← h4]; apply Fin.ext; show (pre d).val / 2 = d.val / 2; rw [val_pre]; omega
    rw [if_pos h1, if_pos h2, if_neg hd, h4, h3]; ring

theorem dqx_tables (D : Data) (n : ℕ) (h : Fin 4) (i d : Fin 128) :
    D.dq n h i d * cs (tok n i) (frq d) + D.dq n h i (nxt d) * (if (nxt d).val % 2 = 0 then 0 else sn (tok n i) (frq (nxt d)))
      + D.dq n h i (pre d) * (if (pre d).val % 2 = 0 then -sn (tok n i) (frq (pre d)) else 0) = D.dqx n h i d :=
  unrot_tables (tok n i) (D.dq n h i) d

theorem dkx_tables (D : Data) (n : ℕ) (h : Fin 4) (i d : Fin 128) :
    D.dk n h i d * (cs (tok n i) (frq d) * ksc) + D.dk n h i (nxt d) * ((if (nxt d).val % 2 = 0 then 0 else sn (tok n i) (frq (nxt d))) * ksc)
      + D.dk n h i (pre d) * ((if (pre d).val % 2 = 0 then -sn (tok n i) (frq (pre d)) else 0) * ksc) = D.dkx n h i d := by
  refine Eq.trans ?_ (unrot_tables (tok n i) (fun d => D.dk n h i d * ksc) d)
  ring

/-! ### Head 0 -/

theorem do0 {rn : Vec Ideal S128x256 .bf16} {g : Vec Ideal S128x256 .bf16} {dy : Vec Ideal S128x256 .bf16} {rs : Vec Ideal S128x1 .f32}
    (Hrn : ∀ i e, rn (ix2 i e) = (D.rn n h i e : EReal)) (Hg : ∀ i e, g (ix2 i e) = (D.gr n h i e : EReal)) (Hdy : ∀ i e, dy (ix2 i e) = (D.dyo n h i e : EReal)) (Hrs : ∀ i, rs (ix2 i 0) = (D.sc n h i : EReal))
    (i : Fin 128) (e : Fin 256) :
    (k0_pay10 (k0_pay5 rn) (k0_pay8 g dy) (k0_pay9 rs)) (ix2 i e) = (D.do_ n h i e : EReal) := by
  pointwise [k0_pay3, k0_pay4, k0_pay5, k0_pay6, k0_pay8, k0_pay9, k0_pay10, Hrn, Hg, Hdy, Hrs]
  simp only [ofBits_half, ofBits_256, ← EReal.coe_mul, ← EReal.coe_add, Ideal.tanh_coe, sg_tanh, ← coe_sum, div_coe_coe _ (by norm_num : (256 : ℝ) ≠ 0), ← EReal.coe_sub]
  rfl

theorem dgr0 {g : Vec Ideal S128x256 .bf16} {rn : Vec Ideal S128x256 .bf16} {dy : Vec Ideal S128x256 .bf16}
    (Hg : ∀ i e, g (ix2 i e) = (D.gr n h i e : EReal)) (Hrn : ∀ i e, rn (ix2 i e) = (D.rn n h i e : EReal)) (Hdy : ∀ i e, dy (ix2 i e) = (D.dyo n h i e : EReal))
    (i : Fin 128) (e : Fin 256) :
    (k0_pay7 g rn dy) (ix2 i e) = (D.dgr n h i e : EReal) := by
  pointwise [k0_pay3, k0_pay4, k0_pay5, k0_pay6, k0_pay7, Hg, Hrn, Hdy]
  simp only [ofBits_half, ofBits_one, ← EReal.coe_mul, ← EReal.coe_add, Ideal.tanh_coe, sg_tanh, ← EReal.coe_sub]
  rfl

theorem sd0 {q : Vec Ideal S128x128 .bf16} {k : Vec Ideal S128x128 .bf16} {dm : Vec Ideal S1x128x128 .f32}
    (Hq : ∀ i d, q (ix2 i d) = (D.q n h i d : EReal)) (Hk : ∀ i d, k (ix2 i d) = (D.k n h i d : EReal)) (Hdm : ∀ i j, dm (ix3 0 i j) = (Ret.dm h i j : EReal))
    (i j : Fin 128) :
    (k0_pay75 (k0_pay36 (k0_pay32 q) k) dm) (ix2 i j) = (D.sd n h i j : EReal) := by
  pointwise [k0_pay32, k0_pay33, k0_pay36, k0_pay75, Hq, Hk, Hdm]
  simp only [← EReal.coe_mul, ← coe_sum]
  rfl

theorem ds0 {w : FVec Ideal S128x256 .bf16} {v : Vec Ideal S128x256 .bf16} {dm : Vec Ideal S1x128x128 .f32}
    (Hw : ∀ i e, w (ix2 i e) = (D.do_ n h i e : EReal)) (Hv : ∀ i e, v (ix2 i e) = (D.v n h i e : EReal)) (Hdm : ∀ i j, dm (ix3 0 i j) = (Ret.dm h i j : EReal))
    (i j : Fin 128) :
    (k0_pay76 (k0_pay37 w v) dm) (ix2 i j) = (D.ds n h i j : EReal) := by
  pointwise [k0_pay34, k0_pay37, k0_pay76, Hw, Hv, Hdm]
  simp only [← EReal.coe_mul, ← coe_sum]
  rfl

theorem dv0 {w : FVec Ideal S128x256 .bf16} {k : Vec Ideal S128x128 .bf16} {dR : Vec Ideal S1x128x256 .f32} {zt : Vec Ideal S1x128x128 .f32} {sd : FVec Ideal S128x128 .bf16}
    {X : Fin 128 → Fin 256 → ℝ} (Hw : ∀ i e, w (ix2 i e) = (D.do_ n h i e : EReal)) (Hk : ∀ i d, k (ix2 i d) = (D.k n h i d : EReal)) (HdR : ∀ d e, dR (ix3 0 d e) = (X d e : EReal)) (Hzt : ∀ i d, zt (ix3 0 i d) = (Ret.zt h i : EReal)) (Hsd : ∀ i j, sd (ix2 i j) = (D.sd n h i j : EReal))
    (j : Fin 128) (e : Fin 256) :
    (k0_pay83 w (k0_pay38 k dR zt) sd) (ix2 j e) = (((∑ i, D.sd n h i j * D.do_ n h i e) + ∑ d, D.k n h j d * Ret.zt h j * X d e : ℝ) : EReal) := by
  pointwise [k0_pay33, k0_pay35, k0_pay38, k0_pay83, Hw, Hk, HdR, Hzt, Hsd]
  simp only [← EReal.coe_mul, ← coe_sum, ← EReal.coe_add]

theorem dR0 {w : FVec Ideal S128x256 .bf16} {q : Vec Ideal S128x128 .bf16} {xi : Vec Ideal S1x128x128 .f32} {dR : Vec Ideal S1x128x256 .f32} {dec : Vec Ideal S1x1x256 .f32}
    {X : Fin 128 → Fin 256 → ℝ} (Hw : ∀ i e, w (ix2 i e) = (D.do_ n h i e : EReal)) (Hq : ∀ i d, q (ix2 i d) = (D.q n h i d : EReal)) (Hxi : ∀ i d, xi (ix3 0 i d) = (Ret.xi h i : EReal)) (HdR : ∀ d e, dR (ix3 0 d e) = (X d e : EReal)) (Hdec : ∀ e, dec (ix3 0 0 e) = (Ret.dec h : EReal))
    (a : Fin 1) (d : Fin 128) (e : Fin 256) :
    (k0_pay88 (k0_pay41 w (k0_pay32 q) xi) (k0_pay86 dR) (k0_pay87 dec)) (ix3 a d e) = ((X d e * Ret.dec h + D.qd n h d e : ℝ) : EReal) := by
  pointwise [k0_pay32, k0_pay41, k0_pay86, k0_pay87, k0_pay88, Hw, Hq, Hxi, HdR, Hdec]
  simp only [← EReal.coe_mul, ← coe_sum, ← EReal.coe_add]
  rfl

theorem dq0 {k : Vec Ideal S128x128 .bf16} {w : FVec Ideal S128x256 .bf16} {st : Vec Ideal S1x1x128x256 .bf16} {ds : FVec Ideal S128x128 .bf16} {xi : Vec Ideal S1x128x128 .f32} {t0 : Vec Ideal S1x1x128x128 .f32} {t1 : Vec Ideal S1x1x128x128 .f32} {t2 : Vec Ideal S1x1x128x128 .f32}
    {TC TA TB : Fin 128 → Fin 128 → ℝ} (Hk : ∀ i d, k (ix2 i d) = (D.k n h i d : EReal)) (Hw : ∀ i e, w (ix2 i e) = (D.do_ n h i e : EReal)) (Hst : ∀ d e, st (ix4 0 0 d e) = (D.st n h d e : EReal)) (Hds : ∀ i j, ds (ix2 i j) = (D.ds n h i j : EReal)) (Hxi : ∀ i d, xi (ix3 0 i d) = (Ret.xi h i : EReal)) (Ht0 : ∀ i d, t0 (ix4 0 0 i d) = (TC i d : EReal)) (Ht1 : ∀ i d, t1 (ix4 0 0 i d) = (TA i d : EReal)) (Ht2 : ∀ i d, t2 (ix4 0 0 i d) = (TB i d : EReal))
    (i d : Fin 128) :
    (k0_pay89 (k0_pay84 (k0_pay33 k) (k0_pay39 w st) ds xi) t0 t1 t2) (ix2 i d) = ((D.dq n h i d * TC i d + D.dq n h i (nxt d) * TA i (nxt d) + D.dq n h i (pre d) * TB i (pre d) : ℝ) : EReal) := by
  pointwise [k0_pay33, k0_pay39, k0_pay84, k0_pay89, Hk, Hw, Hst, Hds, Hxi, Ht0, Ht1, Ht2]
  simp only [← EReal.coe_mul, ← coe_sum, ← EReal.coe_add]
  simp only [nxt_eq, pre_eq]
  rfl

theorem dk0 {q : Vec Ideal S128x128 .bf16} {v : Vec Ideal S128x256 .bf16} {dR : Vec Ideal S1x128x256 .f32} {ds : FVec Ideal S128x128 .bf16} {zt : Vec Ideal S1x128x128 .f32} {t0 : Vec Ideal S1x1x128x128 .f32} {t1 : Vec Ideal S1x1x128x128 .f32} {t2 : Vec Ideal S1x1x128x128 .f32}
    {X : Fin 128 → Fin 256 → ℝ} {TC TA TB : Fin 128 → Fin 128 → ℝ} (Hq : ∀ i d, q (ix2 i d) = (D.q n h i d : EReal)) (Hv : ∀ i e, v (ix2 i e) = (D.v n h i e : EReal)) (HdR : ∀ d e, dR (ix3 0 d e) = (X d e : EReal)) (Hds : ∀ i j, ds (ix2 i j) = (D.ds n h i j : EReal)) (Hzt : ∀ i d, zt (ix3 0 i d) = (Ret.zt h i : EReal)) (Ht0 : ∀ i d, t0 (ix4 0 0 i d) = (TC i d : EReal)) (Ht1 : ∀ i d, t1 (ix4 0 0 i d) = (TA i d : EReal)) (Ht2 : ∀ i d, t2 (ix4 0 0 i d) = (TB i d : EReal))
    (i d : Fin 128) :
    (k0_pay92 (k0_pay85 (k0_pay32 q) (k0_pay40 v dR) ds zt) (k0_pay90 t0) (k0_pay91 t1) t2) (ix2 i d) = ((dkX D n h X i d * TC i d + dkX D n h X i (nxt d) * TA i (nxt d) + dkX D n h X i (pre d) * TB i (pre d) : ℝ) : EReal) := by
  pointwise [k0_pay32, k0_pay34, k0_pay35, k0_pay40, k0_pay85, k0_pay90, k0_pay91, k0_pay92, Hq, Hv, HdR, Hds, Hzt, Ht0, Ht1, Ht2]
  simp only [← EReal.coe_mul, ← coe_sum, ← EReal.coe_add]
  simp only [nxt_eq, pre_eq]
  rfl

/-! ### Head 1 -/

theorem do1 {g : Vec Ideal S128x256 .bf16} {rn : Vec Ideal S128x256 .bf16} {dy : Vec Ideal S128x256 .bf16} {rs : Vec Ideal S128x1 .f32}
    (Hg : ∀ i e, g (ix2 i e) = (D.gr n h i e : EReal)) (Hrn : ∀ i e, rn (ix2 i e) = (D.rn n h i e : EReal)) (Hdy : ∀ i e, dy (ix2 i e) = (D.dyo n h i e : EReal)) (Hrs : ∀ i, rs (ix2 i 0) = (D.sc n h i : EReal))
    (i : Fin 128) (e : Fin 256) :
    (k0_pay17 (k0_pay11 g) (k0_pay12 g) (k0_pay13 rn) (k0_pay14 dy) rs) (ix2 i e) = (D.do_ n h i e : EReal) := by
  pointwise [k0_pay11, k0_pay12, k0_pay13, k0_pay14, k0_pay17, Hg, Hrn, Hdy, Hrs]
  simp only [ofBits_half, ofBits_256, ← EReal.coe_mul, ← EReal.coe_add, Ideal.tanh_coe, sg_tanh, ← coe_sum, div_coe_coe _ (by norm_num : (256 : ℝ) ≠ 0), ← EReal.coe_sub]
  rfl

theorem dgr1 {g : Vec Ideal S128x256 .bf16} {rn : Vec Ideal S128x256 .bf16} {dy : Vec Ideal S128x256 .bf16}
    (Hg : ∀ i e, g (ix2 i e) = (D.gr n h i e : EReal)) (Hrn : ∀ i e, rn (ix2 i e) = (D.rn n h i e : EReal)) (Hdy : ∀ i e, dy (ix2 i e) = (D.dyo n h i e : EReal))
    (i : Fin 128) (e : Fin 256) :
    (k0_pay16 (k0_pay15 g rn dy)) (ix2 i e) = (D.dgr n h i e : EReal) := by
  pointwise [k0_pay11, k0_pay12, k0_pay13, k0_pay14, k0_pay15, k0_pay16, Hg, Hrn, Hdy]
  simp only [ofBits_half, ofBits_one, ← EReal.coe_mul, ← EReal.coe_add, Ideal.tanh_coe, sg_tanh, ← EReal.coe_sub]
  rfl

theorem sd1 {q : Vec Ideal S128x128 .bf16} {k : Vec Ideal S128x128 .bf16} {dm : Vec Ideal S1x128x128 .f32}
    (Hq : ∀ i d, q (ix2 i d) = (D.q n h i d : EReal)) (Hk : ∀ i d, k (ix2 i d) = (D.k n h i d : EReal)) (Hdm : ∀ i j, dm (ix3 0 i j) = (Ret.dm h i j : EReal))
    (i j : Fin 128) :
    (k0_pay77 (k0_pay46 (k0_pay42 q) (k0_pay43 k)) dm) (ix2 i j) = (D.sd n h i j : EReal) := by
  pointwise [k0_pay42, k0_pay43, k0_pay46, k0_pay77, Hq, Hk, Hdm]
  simp only [← EReal.coe_mul, ← coe_sum]
  rfl

theorem ds1 {w : FVec Ideal S128x256 .bf16} {v : Vec Ideal S128x256 .bf16} {dm : Vec Ideal S1x128x128 .f32}
    (Hw : ∀ i e, w (ix2 i e) = (D.do_ n h i e : EReal)) (Hv : ∀ i e, v (ix2 i e) = (D.v n h i e : EReal)) (Hdm : ∀ i j, dm (ix3 0 i j) = (Ret.dm h i j : EReal))
    (i j : Fin 128) :
    (k0_pay78 (k0_pay47 w (k0_pay44 v)) dm) (ix2 i j) = (D.ds n h i j : EReal) := by
  pointwise [k0_pay44, k0_pay47, k0_pay78, Hw, Hv, Hdm]
  simp only [← EReal.coe_mul, ← coe_sum]
  rfl

theorem dv1 {w : FVec Ideal S128x256 .bf16} {k : Vec Ideal S128x128 .bf16} {dR : Vec Ideal S1x128x256 .f32} {zt : Vec Ideal S1x128x128 .f32} {sd : FVec Ideal S128x128 .bf16}
    {X : Fin 128 → Fin 256 → ℝ} (Hw : ∀ i e, w (ix2 i e) = (D.do_ n h i e : EReal)) (Hk : ∀ i d, k (ix2 i d) = (D.k n h i d : EReal)) (HdR : ∀ d e, dR (ix3 0 d e) = (X d e : EReal)) (Hzt : ∀ i d, zt (ix3 0 i d) = (Ret.zt h i : EReal)) (Hsd : ∀ i j, sd (ix2 i j) = (D.sd n h i j : EReal))
    (j : Fin 128) (e : Fin 256) :
    (k0_pay93 w (k0_pay48 (k0_pay43 k) dR zt) sd) (ix2 j e) = (((∑ i, D.sd n h i j * D.do_ n h i e) + ∑ d, D.k n h j d * Ret.zt h j * X d e : ℝ) : EReal) := by
  pointwise [k0_pay43, k0_pay45, k0_pay48, k0_pay93, Hw, Hk, HdR, Hzt, Hsd]
  simp only [← EReal.coe_mul, ← coe_sum, ← EReal.coe_add]

theorem dR1 {w : FVec Ideal S128x256 .bf16} {q : Vec Ideal S128x128 .bf16} {xi : Vec Ideal S1x128x128 .f32} {dR : Vec Ideal S1x128x256 .f32} {dec : Vec Ideal S1x1x256 .f32}
    {X : Fin 128 → Fin 256 → ℝ} (Hw : ∀ i e, w (ix2 i e) = (D.do_ n h i e : EReal)) (Hq : ∀ i d, q (ix2 i d) = (D.q n h i d : EReal)) (Hxi : ∀ i d, xi (ix3 0 i d) = (Ret.xi h i : EReal)) (HdR : ∀ d e, dR (ix3 0 d e) = (X d e : EReal)) (Hdec : ∀ e, dec (ix3 0 0 e) = (Ret.dec h : EReal))
    (a : Fin 1) (d : Fin 128) (e : Fin 256) :
    (k0_pay97 (k0_pay51 w (k0_pay42 q) xi) (k0_pay96 dR) dec) (ix3 a d e) = ((X d e * Ret.dec h + D.qd n h d e : ℝ) : EReal) := by
  pointwise [k0_pay42, k0_pay51, k0_pay96, k0_pay97, Hw, Hq, Hxi, HdR, Hdec]
  simp only [← EReal.coe_mul, ← coe_sum, ← EReal.coe_add]
  rfl

theorem dq1 {k : Vec Ideal S128x128 .bf16} {w : FVec Ideal S128x256 .bf16} {st : Vec Ideal S1x1x128x256 .bf16} {ds : FVec Ideal S128x128 .bf16} {xi : Vec Ideal S1x128x128 .f32} {t0 : Vec Ideal S1x1x128x128 .f32} {t1 : Vec Ideal S1x1x128x128 .f32} {t2 : Vec Ideal S1x1x128x128 .f32}
    {TC TA TB : Fin 128 → Fin 128 → ℝ} (Hk : ∀ i d, k (ix2 i d) = (D.k n h i d : EReal)) (Hw : ∀ i e, w (ix2 i e) = (D.do_ n h i e : EReal)) (Hst : ∀ d e, st (ix4 0 0 d e) = (D.st n h d e : EReal)) (Hds : ∀ i j, ds (ix2 i j) = (D.ds n h i j : EReal)) (Hxi : ∀ i d, xi (ix3 0 i d) = (Ret.xi h i : EReal)) (Ht0 : ∀ i d, t0 (ix4 0 0 i d) = (TC i d : EReal)) (Ht1 : ∀ i d, t1 (ix4 0 0 i d) = (TA i d : EReal)) (Ht2 : ∀ i d, t2 (ix4 0 0 i d) = (TB i d : EReal))
    (i d : Fin 128) :
    (k0_pay98 (k0_pay94 (k0_pay43 k) (k0_pay49 w st) ds xi) t0 t1 t2) (ix2 i d) = ((D.dq n h i d * TC i d + D.dq n h i (nxt d) * TA i (nxt d) + D.dq n h i (pre d) * TB i (pre d) : ℝ) : EReal) := by
  pointwise [k0_pay43, k0_pay49, k0_pay94, k0_pay98, Hk, Hw, Hst, Hds, Hxi, Ht0, Ht1, Ht2]
  simp only [← EReal.coe_mul, ← coe_sum, ← EReal.coe_add]
  simp only [nxt_eq, pre_eq]
  rfl

theorem dk1 {q : Vec Ideal S128x128 .bf16} {v : Vec Ideal S128x256 .bf16} {dR : Vec Ideal S1x128x256 .f32} {ds : FVec Ideal S128x128 .bf16} {zt : Vec Ideal S1x128x128 .f32} {t0 : Vec Ideal S1x1x128x128 .f32} {t1 : Vec Ideal S1x1x128x128 .f32} {t2 : Vec Ideal S1x1x128x128 .f32}
    {X : Fin 128 → Fin 256 → ℝ} {TC TA TB : Fin 128 → Fin 128 → ℝ} (Hq : ∀ i d, q (ix2 i d) = (D.q n h i d : EReal)) (Hv : ∀ i e, v (ix2 i e) = (D.v n h i e : EReal)) (HdR : ∀ d e, dR (ix3 0 d e) = (X d e : EReal)) (Hds : ∀ i j, ds (ix2 i j) = (D.ds n h i j : EReal)) (Hzt : ∀ i d, zt (ix3 0 i d) = (Ret.zt h i : EReal)) (Ht0 : ∀ i d, t0 (ix4 0 0 i d) = (TC i d : EReal)) (Ht1 : ∀ i d, t1 (ix4 0 0 i d) = (TA i d : EReal)) (Ht2 : ∀ i d, t2 (ix4 0 0 i d) = (TB i d : EReal))
    (i d : Fin 128) :
    (k0_pay101 (k0_pay95 (k0_pay42 q) (k0_pay50 (k0_pay44 v) dR) ds zt) (k0_pay99 t0) (k0_pay100 t1) t2) (ix2 i d) = ((dkX D n h X i d * TC i d + dkX D n h X i (nxt d) * TA i (nxt d) + dkX D n h X i (pre d) * TB i (pre d) : ℝ) : EReal) := by
  pointwise [k0_pay42, k0_pay44, k0_pay45, k0_pay50, k0_pay95, k0_pay99, k0_pay100, k0_pay101, Hq, Hv, HdR, Hds, Hzt, Ht0, Ht1, Ht2]
  simp only [← EReal.coe_mul, ← coe_sum, ← EReal.coe_add]
  simp only [nxt_eq, pre_eq]
  rfl

/-! ### Head 2 -/

theorem do2 {g : Vec Ideal S128x256 .bf16} {rn : Vec Ideal S128x256 .bf16} {dy : Vec Ideal S128x256 .bf16} {rs : Vec Ideal S128x1 .f32}
    (Hg : ∀ i e, g (ix2 i e) = (D.gr n h i e : EReal)) (Hrn : ∀ i e, rn (ix2 i e) = (D.rn n h i e : EReal)) (Hdy : ∀ i e, dy (ix2 i e) = (D.dyo n h i e : EReal)) (Hrs : ∀ i, rs (ix2 i 0) = (D.sc n h i : EReal))
    (i : Fin 128) (e : Fin 256) :
    (k0_pay25 (k0_pay18 g) (k0_pay19 g) (k0_pay20 rn) (k0_pay21 dy) rs) (ix2 i e) = (D.do_ n h i e : EReal) := by
  pointwise [k0_pay18, k0_pay19, k0_pay20, k0_pay21, k0_pay25, Hg, Hrn, Hdy, Hrs]
  simp only [ofBits_half, ofBits_256, ← EReal.coe_mul, ← EReal.coe_add, Ideal.tanh_coe, sg_tanh, ← coe_sum, div_coe_coe _ (by norm_num : (256 : ℝ) ≠ 0), ← EReal.coe_sub]
  rfl

theorem dgr2 {g : Vec Ideal S128x256 .bf16} {rn : Vec Ideal S128x256 .bf16} {dy : Vec Ideal S128x256 .bf16}
    (Hg : ∀ i e, g (ix2 i e) = (D.gr n h i e : EReal)) (Hrn : ∀ i e, rn (ix2 i e) = (D.rn n h i e : EReal)) (Hdy : ∀ i e, dy (ix2 i e) = (D.dyo n h i e : EReal))
    (i : Fin 128) (e : Fin 256) :
    (k0_pay24 (k0_pay18 g) (k0_pay19 g) (k0_pay22 g rn dy) k0_pay23) (ix2 i e) = (D.dgr n h i e : EReal) := by
  pointwise [k0_pay18, k0_pay19, k0_pay20, k0_pay21, k0_pay22, k0_pay23, k0_pay24, Hg, Hrn, Hdy]
  simp only [ofBits_half, ofBits_one, ← EReal.coe_mul, ← EReal.coe_add, Ideal.tanh_coe, sg_tanh, ← EReal.coe_sub]
  rfl

theorem sd2 {q : Vec Ideal S128x128 .bf16} {k : Vec Ideal S128x128 .bf16} {dm : Vec Ideal S1x128x128 .f32}
    (Hq : ∀ i d, q (ix2 i d) = (D.q n h i d : EReal)) (Hk : ∀ i d, k (ix2 i d) = (D.k n h i d : EReal)) (Hdm : ∀ i j, dm (ix3 0 i j) = (Ret.dm h i j : EReal))
    (i j : Fin 128) :
    (k0_pay79 (k0_pay57 (k0_pay52 q) (k0_pay53 k)) dm) (ix2 i j) = (D.sd n h i j : EReal) := by
  pointwise [k0_pay52, k0_pay53, k0_pay57, k0_pay79, Hq, Hk, Hdm]
  simp only [← EReal.coe_mul, ← coe_sum]
  rfl

theorem ds2 {w : FVec Ideal S128x256 .bf16} {v : Vec Ideal S128x256 .bf16} {dm : Vec Ideal S1x128x128 .f32}
    (Hw : ∀ i e, w (ix2 i e) = (D.do_ n h i e : EReal)) (Hv : ∀ i e, v (ix2 i e) = (D.v n h i e : EReal)) (Hdm : ∀ i j, dm (ix3 0 i j) = (Ret.dm h i j : EReal))
    (i j : Fin 128) :
    (k0_pay80 (k0_pay58 w (k0_pay54 v)) dm) (ix2 i j) = (D.ds n h i j : EReal) := by
  pointwise [k0_pay54, k0_pay58, k0_pay80, Hw, Hv, Hdm]
  simp only [← EReal.coe_mul, ← coe_sum]
  rfl

theorem dv2 {w : FVec Ideal S128x256 .bf16} {dR : Vec Ideal S1x128x256 .f32} {k : Vec Ideal S128x128 .bf16} {zt : Vec Ideal S1x128x128 .f32} {sd : FVec Ideal S128x128 .bf16}
    {X : Fin 128 → Fin 256 → ℝ} (Hw : ∀ i e, w (ix2 i e) = (D.do_ n h i e : EReal)) (HdR : ∀ d e, dR (ix3 0 d e) = (X d e : EReal)) (Hk : ∀ i d, k (ix2 i d) = (D.k n h i d : EReal)) (Hzt : ∀ i d, zt (ix3 0 i d) = (Ret.zt h i : EReal)) (Hsd : ∀ i j, sd (ix2 i j) = (D.sd n h i j : EReal))
    (j : Fin 128) (e : Fin 256) :
    (k0_pay102 w (k0_pay59 (k0_pay55 dR) (k0_pay56 k) zt) sd) (ix2 j e) = (((∑ i, D.sd n h i j * D.do_ n h i e) + ∑ d, D.k n h j d * Ret.zt h j * X d e : ℝ) : EReal) := by
  pointwise [k0_pay53, k0_pay55, k0_pay56, k0_pay59, k0_pay102, Hw, HdR, Hk, Hzt, Hsd]
  simp only [← EReal.coe_mul, ← coe_sum, ← EReal.coe_add]

theorem dR2 {w : FVec Ideal S128x256 .bf16} {q : Vec Ideal S128x128 .bf16} {xi : Vec Ideal S1x128x128 .f32} {dR : Vec Ideal S1x128x256 .f32} {dec : Vec Ideal S1x1x256 .f32}
    {X : Fin 128 → Fin 256 → ℝ} (Hw : ∀ i e, w (ix2 i e) = (D.do_ n h i e : EReal)) (Hq : ∀ i d, q (ix2 i d) = (D.q n h i d : EReal)) (Hxi : ∀ i d, xi (ix3 0 i d) = (Ret.xi h i : EReal)) (HdR : ∀ d e, dR (ix3 0 d e) = (X d e : EReal)) (Hdec : ∀ e, dec (ix3 0 0 e) = (Ret.dec h : EReal))
    (a : Fin 1) (d : Fin 128) (e : Fin 256) :
    (k0_pay106 (k0_pay62 w (k0_pay52 q) xi) (k0_pay105 dR) dec) (ix3 a d e) = ((X d e * Ret.dec h + D.qd n h d e : ℝ) : EReal) := by
  pointwise [k0_pay52, k0_pay62, k0_pay105, k0_pay106, Hw, Hq, Hxi, HdR, Hdec]
  simp only [← EReal.coe_mul, ← coe_sum, ← EReal.coe_add]
  rfl

theorem dq2 {k : Vec Ideal S128x128 .bf16} {w : FVec Ideal S128x256 .bf16} {st : Vec Ideal S1x1x128x256 .bf16} {ds : FVec Ideal S128x128 .bf16} {xi : Vec Ideal S1x128x128 .f32} {t0 : Vec Ideal S1x1x128x128 .f32} {t1 : Vec Ideal S1x1x128x128 .f32} {t2 : Vec Ideal S1x1x128x128 .f32}
    {TC TA TB : Fin 128 → Fin 128 → ℝ} (Hk : ∀ i d, k (ix2 i d) = (D.k n h i d : EReal)) (Hw : ∀ i e, w (ix2 i e) = (D.do_ n h i e : EReal)) (Hst : ∀ d e, st (ix4 0 0 d e) = (D.st n h d e : EReal)) (Hds : ∀ i j, ds (ix2 i j) = (D.ds n h i j : EReal)) (Hxi : ∀ i d, xi (ix3 0 i d) = (Ret.xi h i : EReal)) (Ht0 : ∀ i d, t0 (ix4 0 0 i d) = (TC i d : EReal)) (Ht1 : ∀ i d, t1 (ix4 0 0 i d) = (TA i d : EReal)) (Ht2 : ∀ i d, t2 (ix4 0 0 i d) = (TB i d : EReal))
    (i d : Fin 128) :
    (k0_pay107 (k0_pay103 (k0_pay53 k) (k0_pay60 w st) ds xi) t0 t1 t2) (ix2 i d) = ((D.dq n h i d * TC i d + D.dq n h i (nxt d) * TA i (nxt d) + D.dq n h i (pre d) * TB i (pre d) : ℝ) : EReal) := by
  pointwise [k0_pay53, k0_pay60, k0_pay103, k0_pay107, Hk, Hw, Hst, Hds, Hxi, Ht0, Ht1, Ht2]
  simp only [← EReal.coe_mul, ← coe_sum, ← EReal.coe_add]
  simp only [nxt_eq, pre_eq]
  rfl

theorem dk2 {q : Vec Ideal S128x128 .bf16} {v : Vec Ideal S128x256 .bf16} {dR : Vec Ideal S1x128x256 .f32} {ds : FVec Ideal S128x128 .bf16} {zt : Vec Ideal S1x128x128 .f32} {t0 : Vec Ideal S1x1x128x128 .f32} {t1 : Vec Ideal S1x1x128x128 .f32} {t2 : Vec Ideal S1x1x128x128 .f32}
    {X : Fin 128 → Fin 256 → ℝ} {TC TA TB : Fin 128 → Fin 128 → ℝ} (Hq : ∀ i d, q (ix2 i d) = (D.q n h i d : EReal)) (Hv : ∀ i e, v (ix2 i e) = (D.v n h i e : EReal)) (HdR : ∀ d e, dR (ix3 0 d e) = (X d e : EReal)) (Hds : ∀ i j, ds (ix2 i j) = (D.ds n h i j : EReal)) (Hzt : ∀ i d, zt (ix3 0 i d) = (Ret.zt h i : EReal)) (Ht0 : ∀ i d, t0 (ix4 0 0 i d) = (TC i d : EReal)) (Ht1 : ∀ i d, t1 (ix4 0 0 i d) = (TA i d : EReal)) (Ht2 : ∀ i d, t2 (ix4 0 0 i d) = (TB i d : EReal))
    (i d : Fin 128) :
    (k0_pay109 (k0_pay104 (k0_pay52 q) (k0_pay61 (k0_pay54 v) (k0_pay55 dR)) ds zt) (k0_pay108 t0) t1 t2) (ix2 i d) = ((dkX D n h X i d * TC i d + dkX D n h X i (nxt d) * TA i (nxt d) + dkX D n h X i (pre d) * TB i (pre d) : ℝ) : EReal) := by
  pointwise [k0_pay52, k0_pay54, k0_pay55, k0_pay61, k0_pay104, k0_pay108, k0_pay109, Hq, Hv, HdR, Hds, Hzt, Ht0, Ht1, Ht2]
  simp only [← EReal.coe_mul, ← coe_sum, ← EReal.coe_add]
  simp only [nxt_eq, pre_eq]
  rfl

/-! ### Head 3 -/

theorem do3 {g : Vec Ideal S128x256 .bf16} {rn : Vec Ideal S128x256 .bf16} {dy : Vec Ideal S128x256 .bf16} {rs : Vec Ideal S128x1 .f32}
    (Hg : ∀ i e, g (ix2 i e) = (D.gr n h i e : EReal)) (Hrn : ∀ i e, rn (ix2 i e) = (D.rn n h i e : EReal)) (Hdy : ∀ i e, dy (ix2 i e) = (D.dyo n h i e : EReal)) (Hrs : ∀ i, rs (ix2 i 0) = (D.sc n h i : EReal))
    (i : Fin 128) (e : Fin 256) :
    (k0_pay31 (k0_pay26 g) (k0_pay27 g) rn dy rs) (ix2 i e) = (D.do_ n h i e : EReal) := by
  pointwise [k0_pay26, k0_pay27, k0_pay28, k0_pay29, k0_pay31, Hg, Hrn, Hdy, Hrs]
  simp only [ofBits_half, ofBits_256, ← EReal.coe_mul, ← EReal.coe_add, Ideal.tanh_coe, sg_tanh, ← coe_sum, div_coe_coe _ (by norm_num : (256 : ℝ) ≠ 0), ← EReal.coe_sub]
  rfl

theorem dgr3 {g : Vec Ideal S128x256 .bf16} {rn : Vec Ideal S128x256 .bf16} {dy : Vec Ideal S128x256 .bf16}
    (Hg : ∀ i e, g (ix2 i e) = (D.gr n h i e : EReal)) (Hrn : ∀ i e, rn (ix2 i e) = (D.rn n h i e : EReal)) (Hdy : ∀ i e, dy (ix2 i e) = (D.dyo n h i e : EReal))
    (i : Fin 128) (e : Fin 256) :
    (k0_pay30 (k0_pay26 g) (k0_pay27 g) rn dy) (ix2 i e) = (D.dgr n h i e : EReal) := by
  pointwise [k0_pay26, k0_pay27, k0_pay28, k0_pay29, k0_pay30, Hg, Hrn, Hdy]
  simp only [ofBits_half, ofBits_one, ← EReal.coe_mul, ← EReal.coe_add, Ideal.tanh_coe, sg_tanh, ← EReal.coe_sub]
  rfl

theorem sd3 {q : Vec Ideal S128x128 .bf16} {k : Vec Ideal S128x128 .bf16} {dm : Vec Ideal S1x128x128 .f32}
    (Hq : ∀ i d, q (ix2 i d) = (D.q n h i d : EReal)) (Hk : ∀ i d, k (ix2 i d) = (D.k n h i d : EReal)) (Hdm : ∀ i j, dm (ix3 0 i j) = (Ret.dm h i j : EReal))
    (i j : Fin 128) :
    (k0_pay81 (k0_pay69 (k0_pay63 q) (k0_pay64 k)) dm) (ix2 i j) = (D.sd n h i j : EReal) := by
  pointwise [k0_pay63, k0_pay64, k0_pay69, k0_pay81, Hq, Hk, Hdm]
  simp only [← EReal.coe_mul, ← coe_sum]
  rfl

theorem ds3 {w : FVec Ideal S128x256 .bf16} {v : Vec Ideal S128x256 .bf16} {dm : Vec Ideal S1x128x128 .f32}
    (Hw : ∀ i e, w (ix2 i e) = (D.do_ n h i e : EReal)) (Hv : ∀ i e, v (ix2 i e) = (D.v n h i e : EReal)) (Hdm : ∀ i j, dm (ix3 0 i j) = (Ret.dm h i j : EReal))
    (i j : Fin 128) :
    (k0_pay82 (k0_pay70 w (k0_pay65 v)) dm) (ix2 i j) = (D.ds n h i j : EReal) := by
  pointwise [k0_pay65, k0_pay70, k0_pay82, Hw, Hv, Hdm]
  simp only [← EReal.coe_mul, ← coe_sum]
  rfl

theorem dv3 {w : FVec Ideal S128x256 .bf16} {dR : Vec Ideal S1x128x256 .f32} {k : Vec Ideal S128x128 .bf16} {zt : Vec Ideal S1x128x128 .f32} {sd : FVec Ideal S128x128 .bf16}
    {X : Fin 128 → Fin 256 → ℝ} (Hw : ∀ i e, w (ix2 i e) = (D.do_ n h i e : EReal)) (HdR : ∀ d e, dR (ix3 0 d e) = (X d e : EReal)) (Hk : ∀ i d, k (ix2 i d) = (D.k n h i d : EReal)) (Hzt : ∀ i d, zt (ix3 0 i d) = (Ret.zt h i : EReal)) (Hsd : ∀ i j, sd (ix2 i j) = (D.sd n h i j : EReal))
    (j : Fin 128) (e : Fin 256) :
    (k0_pay110 w (k0_pay71 (k0_pay66 dR) (k0_pay67 k zt)) sd) (ix2 j e) = (((∑ i, D.sd n h i j * D.do_ n h i e) + ∑ d, D.k n h j d * Ret.zt h j * X d e : ℝ) : EReal) := by
  pointwise [k0_pay64, k0_pay66, k0_pay67, k0_pay71, k0_pay110, Hw, HdR, Hk, Hzt, Hsd]
  simp only [← EReal.coe_mul, ← coe_sum, ← EReal.coe_add]

theorem dR3 {w : FVec Ideal S128x256 .bf16} {q : Vec Ideal S128x128 .bf16} {xi : Vec Ideal S1x128x128 .f32} {dR : Vec Ideal S1x128x256 .f32} {dec : Vec Ideal S1x1x256 .f32}
    {X : Fin 128 → Fin 256 → ℝ} (Hw : ∀ i e, w (ix2 i e) = (D.do_ n h i e : EReal)) (Hq : ∀ i d, q (ix2 i d) = (D.q n h i d : EReal)) (Hxi : ∀ i d, xi (ix3 0 i d) = (Ret.xi h i : EReal)) (HdR : ∀ d e, dR (ix3 0 d e) = (X d e : EReal)) (Hdec : ∀ e, dec (ix3 0 0 e) = (Ret.dec h : EReal))
    (a : Fin 1) (d : Fin 128) (e : Fin 256) :
    (k0_pay114 (k0_pay74 w (k0_pay68 q) xi) (k0_pay113 dR) dec) (ix3 a d e) = ((X d e * Ret.dec h + D.qd n h d e : ℝ) : EReal) := by
  pointwise [k0_pay63, k0_pay68, k0_pay74, k0_pay113, k0_pay114, Hw, Hq, Hxi, HdR, Hdec]
  simp only [← EReal.coe_mul, ← coe_sum, ← EReal.coe_add]
  rfl

theorem dq3 {k : Vec Ideal S128x128 .bf16} {w : FVec Ideal S128x256 .bf16} {st : Vec Ideal S1x1x128x256 .bf16} {ds : FVec Ideal S128x128 .bf16} {xi : Vec Ideal S1x128x128 .f32} {t0 : Vec Ideal S1x1x128x128 .f32} {t1 : Vec Ideal S1x1x128x128 .f32} {t2 : Vec Ideal S1x1x128x128 .f32}
    {TC TA TB : Fin 128 → Fin 128 → ℝ} (Hk : ∀ i d, k (ix2 i d) = (D.k n h i d : EReal)) (Hw : ∀ i e, w (ix2 i e) = (D.do_ n h i e : EReal)) (Hst : ∀ d e, st (ix4 0 0 d e) = (D.st n h d e : EReal)) (Hds : ∀ i j, ds (ix2 i j) = (D.ds n h i j : EReal)) (Hxi : ∀ i d, xi (ix3 0 i d) = (Ret.xi h i : EReal)) (Ht0 : ∀ i d, t0 (ix4 0 0 i d) = (TC i d : EReal)) (Ht1 : ∀ i d, t1 (ix4 0 0 i d) = (TA i d : EReal)) (Ht2 : ∀ i d, t2 (ix4 0 0 i d) = (TB i d : EReal))
    (i d : Fin 128) :
    (k0_pay115 (k0_pay111 (k0_pay64 k) (k0_pay72 w st) ds xi) t0 t1 t2) (ix2 i d) = ((D.dq n h i d * TC i d + D.dq n h i (nxt d) * TA i (nxt d) + D.dq n h i (pre d) * TB i (pre d) : ℝ) : EReal) := by
  pointwise [k0_pay64, k0_pay72, k0_pay111, k0_pay115, Hk, Hw, Hst, Hds, Hxi, Ht0, Ht1, Ht2]
  simp only [← EReal.coe_mul, ← coe_sum, ← EReal.coe_add]
  simp only [nxt_eq, pre_eq]
  rfl

theorem dk3 {q : Vec Ideal S128x128 .bf16} {v : Vec Ideal S128x256 .bf16} {dR : Vec Ideal S1x128x256 .f32} {ds : FVec Ideal S128x128 .bf16} {zt : Vec Ideal S1x128x128 .f32} {t0 : Vec Ideal S1x1x128x128 .f32} {t1 : Vec Ideal S1x1x128x128 .f32} {t2 : Vec Ideal S1x1x128x128 .f32}
    {X : Fin 128 → Fin 256 → ℝ} {TC TA TB : Fin 128 → Fin 128 → ℝ} (Hq : ∀ i d, q (ix2 i d) = (D.q n h i d : EReal)) (Hv : ∀ i e, v (ix2 i e) = (D.v n h i e : EReal)) (HdR : ∀ d e, dR (ix3 0 d e) = (X d e : EReal)) (Hds : ∀ i j, ds (ix2 i j) = (D.ds n h i j : EReal)) (Hzt : ∀ i d, zt (ix3 0 i d) = (Ret.zt h i : EReal)) (Ht0 : ∀ i d, t0 (ix4 0 0 i d) = (TC i d : EReal)) (Ht1 : ∀ i d, t1 (ix4 0 0 i d) = (TA i d : EReal)) (Ht2 : ∀ i d, t2 (ix4 0 0 i d) = (TB i d : EReal))
    (i d : Fin 128) :
    (k0_pay1 (k0_pay112 (k0_pay63 q) (k0_pay73 (k0_pay65 v) (k0_pay66 dR)) ds zt) (k0_pay116 t0) t1 t2) (ix2 i d) = ((dkX D n h X i d * TC i d + dkX D n h X i (nxt d) * TA i (nxt d) + dkX D n h X i (pre d) * TB i (pre d) : ℝ) : EReal) := by
  pointwise [k0_pay1, k0_pay63, k0_pay65, k0_pay66, k0_pay73, k0_pay112, k0_pay116, Hq, Hv, HdR, Hds, Hzt, Ht0, Ht1, Ht2]
  simp only [← EReal.coe_mul, ← coe_sum, ← EReal.coe_add]
  simp only [nxt_eq, pre_eq]
  rfl

end Cert.Proof.RetHost

end
-- ==== Proof.RetHost.lean ====
/-
  The host code before the retention kernel as one list of operations, each of which writes a buffer of its own: what a
  buffer holds when the kernel starts is its operation applied to what the operation's operands hold then.
-/
module

public import proofs.«01_k».proof.Proof.RetSpec
public import proofs.«01_k».proof.Proof.Gen.RetKernelIdeal.Frame
public import Idealize.ShloMosaic.Lib.Pipeline.ValueKit
public import Idealize.ShloMosaic.Lib.StableHlo.RunRead
public import Idealize.ShloMosaic.Lib.Claim

@[expose] public section

set_option maxRecDepth 16384

noncomputable section

namespace Cert.Proof.RetHost

open Cert.RetKernelIdeal Cert.RetKernelIdeal.Gen Idealize.ShloMosaic Idealize.ShloMosaic.TcCoe Idealize.ShloMosaic.StableHlo Idealize.SL.Sem Cert.Proof.Ret
open Cert.Proof.Grad (coe_sum div_coe_coe rsqrt_of_pos ofBits_eps ofBits_half ofBits_neg_half eps eps_pos sg)
open scoped BigOperators

variable (m : (ℓ : Loc nD τ sig) → Buf (Elt Ideal) ℓ) (c : Dev nD)

/-- The host operations before the kernel, in order. -/
abbrev HL : List (HloOp τ sig (Elt Ideal)) := List.flatten [hostOps0, hostOps0_1, hostOps0_2, hostOps0_3, hostOps0_4, hostOps0_5, hostOps0_6, hostOps0_7, hostOps0_8, hostOps0_9, hostOps0_10, hostOps0_11, hostOps0_12, hostOps0_13, hostOps0_14]

/-- The buffers they write, in order. -/
abbrev HW : List (Ref sig .tc) := [main_cst, main_cst_0, main_call0_v0, main_call0_v1, main_call0_v2, main_call0_cst, main_call0_v3, main_call0_v4, main_call0_cst_0, main_call0_v5, main_call0_v6, main_call0_v7, main_call0_cst_1, main_call0_v8, main_call0_v9, main_call0_v10, main_call0_v11, main_call0_v12, main_call0_v13, main_call0_v14, main_call0_v15, main_call0_v16, main_v0, main_cst_1, main_v1, main_v2, main_cst_2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_cst_3, main_v49, main_v50, main_v51, main_v52, main_v53, main_v54, main_v55, main_v56, main_cst_4, main_v57, main_v58, main_cst_5, main_v59, main_v60, main_v61, main_v62, main_v63, main_v64, main_v65, main_v66, main_v67, main_v68, main_v69, main_cst_6, main_v70, main_v71, main_cst_7, main_v72, main_v73, main_v74, main_v75, main_v76, main_v77, main_v78, main_v79, main_cst_8, main_call1_v0, main_call1_v1, main_call1_v2, main_v80, main_v81, main_v82, main_v83, main_v84, main_v85, main_cst_9, main_v86, main_v87, main_v88, main_v89, main_v90, main_v91, main_v92, main_v93, main_cst_10, main_v94, main_v95, main_v96, main_v97, main_v98, main_v99, main_v100, main_v101, main_v102, main_v103, main_v104, main_v105, main_cst_11, main_v106, main_v107, main_v108, main_v109, main_v110, main_cst_12, main_v111, main_v112, main_v113, main_v114, main_v115, main_v116, main_v117, main_v118, main_v119, main_v120, main_v121, main_v122, main_v123, main_v124, main_v125, main_v126, main_v127, main_v128, main_v129, main_v130, main_v131, main_v132, main_v133, main_v134, main_v135, main_v136, main_v137, main_v138, main_v139, main_v140, main_v141, main_v142, main_v143, main_v144, main_v145, main_v146, main_v147, main_v148, main_v149, main_v150, main_v151, main_v152, main_v153, main_v154, main_v155, main_v156, main_v157, main_v158, main_v159, main_v160, main_v161, main_v162, main_v163, main_v164, main_v165, main_v166, main_v167, main_v168, main_v169, main_v170, main_v171, main_v172, main_v173, main_v174, main_v175, main_v176, main_v177, main_v178, main_v179, main_v180, main_v181, main_v182, main_v183, main_v184, main_v185, main_v186, main_v187, main_v188, main_v189, main_v190, main_v191, main_v192, main_v193, main_v194, main_v195, main_v196, main_v197, main_v198, main_v199, main_v200, main_v201, main_v202, main_v203, main_v204, main_v205, main_v206, main_v207, main_v208, main_v209, main_v210, main_v211, main_v212, main_v213, main_v214, main_v215, main_cst_13, main_v216, main_v217, main_cst_14, main_v218, main_v219, main_v220, main_v221, main_v222, main_cst_15, main_v223, main_v224, main_cst_16, main_v225, main_v226, main_cst_17, main_v227, main_v228, main_v229, main_v230, main_v231, main_v232, main_v233, main_v234, main_v235, main_v236, main_v237, main_v238, main_v239, main_v240, main_v241, main_v242, main_v243, main_v244, main_v245, main_v246, main_v247, main_v248, main_v249, main_v250, main_v251, main_cst_18, main_cst_19, main_call2_v0, main_call2_v1, main_call2_v2, main_call2_cst, main_call2_v3, main_call2_v4, main_call2_cst_0, main_call2_v5, main_call2_v6, main_call2_v7, main_call2_cst_1, main_call2_v8, main_call2_v9, main_call2_v10, main_call2_v11, main_call2_v12, main_call2_v13, main_call2_v14, main_call2_v15, main_call2_v16, main_v252, main_cst_20, main_v253, main_v254, main_cst_21, main_v255, main_v256, main_v257, main_v258, main_v259, main_v260, main_v261, main_v262, main_v263, main_v264, main_v265, main_v266, main_v267, main_v268, main_c, main_call3_v0, main_call3_c, main_call3_v1, main_call3_c_0, main_call3_v2, main_call3_v3, main_call3_v4, main_call3_c_1, main_call3_v5, main_call3_v6, main_call3_c_2, main_call3_v7, main_call3_v8, main_call3_c_3, main_call3_v9, main_call3_v10, main_call3_v11, main_call3_v12, main_call3_v13, main_call3_v14, main_v269, main_c_22, main_v270, main_v271, main_v272, main_cst_23, main_call4_v0, main_call4_v1, main_call4_v2, main_v273, main_v274, main_cst_24, main_call5_v0, main_call5_v1, main_call5_v2, main_v275, main_v276, main_v277, main_v278, main_v279, main_cst_25, main_v280, main_v281, main_v282, main_v283, main_v284, main_v285, main_v286, main_cst_26, main_v287, main_v288, main_cst_27, main_v289, main_v290, main_v291, main_v292, main_v293, main_v294, main_v295, main_v296, main_v297, main_v298, main_v299, main_cst_28, main_v300, main_v301, main_cst_29, main_v302, main_v303, main_v304, main_v305, main_v306, main_v307, main_v308, main_v309, main_cst_30, main_call6_v0, main_call6_v1, main_call6_v2, main_v310, main_cst_31, main_v311, main_v312, main_v313, main_v314, main_v315, main_v316, main_v317, main_v318, main_cst_32, main_v319, main_v320, main_v321, main_v322, main_v323, main_v324, main_v325, main_v326, main_cst_33, main_v327, main_v328, main_v329, main_v330, main_v331, main_v332, main_v333, main_v334, main_v335]

theorem hl_writes : HL.map HloOp.writes = HW.map fun w => {Proc.devRef (τ := τ) .tc w} := rfl
theorem hw_idx : HW.map (fun w => w.idx.val) = List.range' 2 444 := rfl

theorem not_mem {a : Ref sig .tc} {i : ℕ} (h : a.idx.val < i + 2) : a ∉ HW.drop i := by
  intro hm
  have h1 := List.mem_map_of_mem (f := fun w : Ref sig .tc => w.idx.val) hm
  rw [List.map_drop, hw_idx, List.drop_range', List.mem_range'] at h1
  obtain ⟨k, hk, he⟩ := h1
  omega

theorem upto_at {a : Ref sig .tc} (i : ℕ) (h : a.idx.val < i + 2) :
    upto HL (fun b => m (c, b)) i (Proc.devRef .tc a) = V m c a := by
  have e : after HL (fun b => m (c, b)) = after (HL.drop i) (upto HL (fun b => m (c, b)) i) := by
    rw [upto, ← after_append, List.take_append_drop]
  show _ = after HL (fun b => m (c, b)) (Proc.devRef .tc a)
  rw [e]
  exact (after_unwritten (HW.drop i) (by rw [List.map_drop, List.map_drop, hl_writes]) (not_mem h) _).symm

theorem step_at {op : HloOp τ sig (Elt Ideal)} {y : Ref sig .tc} (i : ℕ) (hop : HL[i]? = some op) (hy : y.idx.val < i + 3) :
    V m c y = op.result (upto HL (fun b => m (c, b)) i) (Proc.devRef .tc y) := by
  obtain ⟨hi, hg⟩ := List.getElem?_eq_some_iff.1 hop
  refine after_last_write (HW.drop (i + 1)) (i := i) (rest := HL.drop (i + 1)) ?_ ?_ (not_mem hy) _
  · rw [← hg]; exact List.drop_eq_getElem_cons hi
  · rw [List.map_drop, List.map_drop, hl_writes]

/-- What the buffer holds when the kernel starts. -/
@[irreducible] def R (r : Ref sig .tc) : r.ty.Contents (Elt Ideal) := V m c r

theorem R_eq (r : Ref sig .tc) : R m c r = V m c r := by unfold R; rfl

theorem upto_R {a : Ref sig .tc} (i : ℕ) (h : a.idx.val < i + 2) :
    upto HL (fun b => m (c, b)) i (Proc.devRef .tc a) = R m c a := (upto_at m c i h).trans (R_eq m c a).symm

variable {a b d y : Ref sig .tc}

theorem nul {v : y.ty.Contents (Elt Ideal)} {hy} (i : ℕ) (hop : HL[i]? = some (nullary y v hy)) (h1 : y.idx.val < i + 3) :
    R m c y = v := (R_eq m c _).trans <| (step_at m c i hop h1).trans (nullary_result' v hy _)

theorem un {f : a.ty.Contents (Elt Ideal) → y.ty.Contents (Elt Ideal)} {ha hy} (i : ℕ) (hop : HL[i]? = some (unary a y f ha hy))
    (h1 : y.idx.val < i + 3) (h2 : a.idx.val < i + 2) : R m c y = f (R m c a) :=
  (R_eq m c _).trans <| (step_at m c i hop h1).trans ((unary_result' f ha hy _).trans (congrArg f (upto_R m c i h2)))

theorem bin {f : a.ty.Contents (Elt Ideal) → b.ty.Contents (Elt Ideal) → y.ty.Contents (Elt Ideal)} {ha hb hy} (i : ℕ)
    (hop : HL[i]? = some (binary a b y f ha hb hy)) (h1 : y.idx.val < i + 3) (h2 : a.idx.val < i + 2) (h3 : b.idx.val < i + 2) :
    R m c y = f (R m c a) (R m c b) :=
  (R_eq m c _).trans <| (step_at m c i hop h1).trans ((binary_result' f ha hb hy _).trans (congrArg₂ f (upto_R m c i h2) (upto_R m c i h3)))

theorem ter {f : d.ty.Contents (Elt Ideal) → a.ty.Contents (Elt Ideal) → b.ty.Contents (Elt Ideal) → y.ty.Contents (Elt Ideal)} {hd ha hb hy} (i : ℕ)
    (hop : HL[i]? = some (ternary d a b y f hd ha hb hy)) (h1 : y.idx.val < i + 3) (h0 : d.idx.val < i + 2) (h2 : a.idx.val < i + 2)
    (h3 : b.idx.val < i + 2) : R m c y = f (R m c d) (R m c a) (R m c b) :=
  (R_eq m c _).trans <| (step_at m c i hop h1).trans ((ternary_result' f hd ha hb hy _).trans (by
    rw [upto_R m c i h0, upto_R m c i h2, upto_R m c i h3]))

variable {Ta Tb Td Ty : BufTy}

theorem tbin (x : TRef sig Ta) (z : TRef sig Tb) (y : TRef sig Ty) (f : Ta.Contents (Elt Ideal) → Tb.Contents (Elt Ideal) → Ty.Contents (Elt Ideal)) (i : ℕ)
    (hop : HL[i]? = some (TRef.binary x z y f)) (h1 : y.ref.idx.val < i + 3) (h2 : x.ref.idx.val < i + 2) (h3 : z.ref.idx.val < i + 2) :
    y.ofBuf (R m c y.ref) = f (x.ofBuf (R m c x.ref)) (z.ofBuf (R m c z.ref)) := by
  rw [bin m c i hop h1 h2 h3]
  simp only [TRef.toBuf, TRef.ofBuf, cast_cast, cast_eq]

theorem tter (w : TRef sig Td) (x : TRef sig Ta) (z : TRef sig Tb) (y : TRef sig Ty)
    (f : Td.Contents (Elt Ideal) → Ta.Contents (Elt Ideal) → Tb.Contents (Elt Ideal) → Ty.Contents (Elt Ideal)) (i : ℕ)
    (hop : HL[i]? = some (TRef.ternary w x z y f)) (h1 : y.ref.idx.val < i + 3) (h0 : w.ref.idx.val < i + 2) (h2 : x.ref.idx.val < i + 2) (h3 : z.ref.idx.val < i + 2) :
    y.ofBuf (R m c y.ref) = f (w.ofBuf (R m c w.ref)) (x.ofBuf (R m c x.ref)) (z.ofBuf (R m c z.ref)) := by
  rw [ter m c i hop h1 h0 h2 h3]
  simp only [TRef.toBuf, TRef.ofBuf, cast_cast, cast_eq]

theorem res {he hn ha hy} (i : ℕ) (hop : HL[i]? = some (reshape a y he hn ha hy)) (h1 : y.idx.val < i + 3) (h2 : a.idx.val < i + 2) :
    R m c y = fun i => he ▸ shapeCast y.ty.shape (R m c a) hn i :=
  (R_eq m c _).trans <| (step_at m c i hop h1).trans ((reshape_result' he hn ha hy _).trans (by rw [upto_R m c i h2]))

theorem nar {n : ℕ} {xs : Fin n → Ref sig .tc} {f : ((k : Fin n) → (xs k).ty.Contents (Elt Ideal)) → y.ty.Contents (Elt Ideal)} {hxs hy} (i : ℕ)
    (hop : HL[i]? = some (nary xs y f hxs hy)) (h1 : y.idx.val < i + 3) (h2 : ∀ k, (xs k).idx.val < i + 2) :
    R m c y = f (fun k => R m c (xs k)) :=
  (R_eq m c _).trans <| (step_at m c i hop h1).trans ((nary_result' xs f hxs hy _).trans (congrArg f (funext fun k => upto_R m c i (h2 k))))

end Cert.Proof.RetHost

end
-- ==== Proof.RetHostD.lean ====
/-
  The buffers of the retention kernel's host code, as they stand when the kernel starts.
-/
module

public import proofs.«01_k».proof.Proof.RetHost

@[expose] public section

set_option maxRecDepth 16384

noncomputable section

namespace Cert.Proof.RetHost

open Cert.RetKernelIdeal Cert.RetKernelIdeal.Gen Idealize.ShloMosaic Idealize.ShloMosaic.TcCoe Idealize.ShloMosaic.StableHlo Idealize.SL.Sem Cert.Proof.Ret
open Cert.Proof.Grad (coe_sum div_coe_coe rsqrt_of_pos ofBits_eps ofBits_half ofBits_neg_half eps eps_pos sg)
open scoped BigOperators

variable (m : (ℓ : Loc nD τ sig) → Buf (Elt Ideal) ℓ) (c : Dev nD)

/-! ### The buffers -/

def arg0 : FVec Ideal S4096x9728 .f32 := R m c main_arg0
def arg1 : FVec Ideal S4096x1024 .f32 := R m c main_arg1
def cst : FVec Ideal S_ .f32 := R m c main_cst
def cst_0 : FVec Ideal S_ .f32 := R m c main_cst_0
def call0_v0 : FVec Ideal S_ .f32 := R m c main_call0_v0
def call0_v1 : FVec Ideal S_ .f32 := R m c main_call0_v1
def call0_v2 : FVec Ideal S_ .f32 := R m c main_call0_v2
def call0_cst : FVec Ideal S_ .f32 := R m c main_call0_cst
def call0_v3 : FVec Ideal S_ .f32 := R m c main_call0_v3
def call0_v4 : FVec Ideal S63 .f32 := R m c main_call0_v4
def call0_cst_0 : FVec Ideal S_ .f32 := R m c main_call0_cst_0
def call0_v5 : FVec Ideal S63 .f32 := R m c main_call0_v5
def call0_v6 : FVec Ideal S63 .f32 := R m c main_call0_v6
def call0_v7 : FVec Ideal S1 .f32 := R m c main_call0_v7
def call0_cst_1 : FVec Ideal S_ .f32 := R m c main_call0_cst_1
def call0_v8 : FVec Ideal S63 .f32 := R m c main_call0_v8
def call0_v9 : FVec Ideal S63 .f32 := R m c main_call0_v9
def call0_v10 : FVec Ideal S63 .f32 := R m c main_call0_v10
def call0_v11 : FVec Ideal S63 .f32 := R m c main_call0_v11
def call0_v12 : FVec Ideal S1 .f32 := R m c main_call0_v12
def call0_v13 : FVec Ideal S63 .f32 := R m c main_call0_v13
def call0_v14 : FVec Ideal S63 .f32 := R m c main_call0_v14
def call0_v15 : FVec Ideal S63 .f32 := R m c main_call0_v15
def call0_v16 : FVec Ideal S1 .f32 := R m c main_call0_v16
def v0 : FVec Ideal S64 .f32 := R m c main_v0
def cst_1 : FVec Ideal S_ .f32 := R m c main_cst_1
def v1 : FVec Ideal S64 .f32 := R m c main_v1
def v2 : FVec Ideal S64 .f32 := R m c main_v2
def cst_2 : FVec Ideal S_ .f32 := R m c main_cst_2
def v3 : FVec Ideal S64 .f32 := R m c main_v3
def v4 : FVec Ideal S64 .f32 := R m c main_v4
def v5 : FVec Ideal S4096 .f32 := R m c main_v5
def v6 : FVec Ideal S4096x1 .f32 := R m c main_v6
def v7 : FVec Ideal S1x64 .f32 := R m c main_v7
def v8 : FVec Ideal S4096x64 .f32 := R m c main_v8
def v9 : FVec Ideal S4096x64 .f32 := R m c main_v9
def v10 : FVec Ideal S4096x64 .f32 := R m c main_v10
def v11 : FVec Ideal S4096x64 .f32 := R m c main_v11
def v12 : FVec Ideal S4096x1x64 .f32 := R m c main_v12
def v13 : FVec Ideal S4096x64 .f32 := R m c main_v13
def v14 : FVec Ideal S4096x1x64 .f32 := R m c main_v14
def v15 : FVec Ideal S4096x512 .f32 := R m c main_v15
def v16 : FVec Ideal S4096x4x128 .f32 := R m c main_v16
def v17 : FVec Ideal S4096x4x64 .f32 := R m c main_v17
def v18 : FVec Ideal S4096x4x64 .f32 := R m c main_v18
def v19 : FVec Ideal S4096x4x64 .f32 := R m c main_v19
def v20 : FVec Ideal S4096x4x64 .f32 := R m c main_v20
def v21 : FVec Ideal S4096x4x64 .f32 := R m c main_v21
def v22 : FVec Ideal S4096x4x64 .f32 := R m c main_v22
def v23 : FVec Ideal S4096x4x64 .f32 := R m c main_v23
def v24 : FVec Ideal S4096x4x64 .f32 := R m c main_v24
def v25 : FVec Ideal S4096x4x64 .f32 := R m c main_v25
def v26 : FVec Ideal S4096x4x64 .f32 := R m c main_v26
def v27 : FVec Ideal S4096x4x64 .f32 := R m c main_v27
def v28 : FVec Ideal S4096x4x64 .f32 := R m c main_v28
def v29 : FVec Ideal S4096x4x64x1 .f32 := R m c main_v29
def v30 : FVec Ideal S4096x4x64x1 .f32 := R m c main_v30
def v31 : FVec Ideal S4096x4x64x2 .f32 := R m c main_v31
def v32 : FVec Ideal S4096x512 .f32 := R m c main_v32
def v33 : FVec Ideal S4096x4x128 .f32 := R m c main_v33
def v34 : FVec Ideal S4096x4x64 .f32 := R m c main_v34
def v35 : FVec Ideal S4096x4x64 .f32 := R m c main_v35
def v36 : FVec Ideal S4096x4x64 .f32 := R m c main_v36
def v37 : FVec Ideal S4096x4x64 .f32 := R m c main_v37
def v38 : FVec Ideal S4096x4x64 .f32 := R m c main_v38
def v39 : FVec Ideal S4096x4x64 .f32 := R m c main_v39
def v40 : FVec Ideal S4096x4x64 .f32 := R m c main_v40
def v41 : FVec Ideal S4096x4x64 .f32 := R m c main_v41
def v42 : FVec Ideal S4096x4x64 .f32 := R m c main_v42
def v43 : FVec Ideal S4096x4x64 .f32 := R m c main_v43
def v44 : FVec Ideal S4096x4x64 .f32 := R m c main_v44
def v45 : FVec Ideal S4096x4x64 .f32 := R m c main_v45
def v46 : FVec Ideal S4096x4x64x1 .f32 := R m c main_v46
def v47 : FVec Ideal S4096x4x64x1 .f32 := R m c main_v47
def v48 : FVec Ideal S4096x4x64x2 .f32 := R m c main_v48
def cst_3 : FVec Ideal S_ .f32 := R m c main_cst_3
def v49 : FVec Ideal S4096x4x64x2 .f32 := R m c main_v49
def v50 : FVec Ideal S4096x4x64x2 .f32 := R m c main_v50
def v51 : FVec Ideal S4096x1024 .f32 := R m c main_v51
def v52 : FVec Ideal S4096x4x256 .f32 := R m c main_v52
def v53 : FVec Ideal S32x128x4x64x2 .f32 := R m c main_v53
def v54 : FVec Ideal S32x128x4x64x2 .f32 := R m c main_v54
def v55 : FVec Ideal S32x128x4x256 .f32 := R m c main_v55
def v56 : FVec Ideal S4 .f32 := R m c main_v56
def cst_4 : FVec Ideal S_ .f32 := R m c main_cst_4
def v57 : FVec Ideal S4 .f32 := R m c main_v57
def v58 : FVec Ideal S4 .f32 := R m c main_v58
def cst_5 : FVec Ideal S_ .f32 := R m c main_cst_5
def v59 : FVec Ideal S4 .f32 := R m c main_v59
def v60 : FVec Ideal S4 .f32 := R m c main_v60
def v61 : FVec Ideal S4 .f32 := R m c main_v61
def v62 : FVec Ideal S4 .f32 := R m c main_v62
def v63 : FVec Ideal S128 .f32 := R m c main_v63
def v64 : FVec Ideal S128x1 .f32 := R m c main_v64
def v65 : FVec Ideal S1x128 .f32 := R m c main_v65
def v66 : FVec Ideal S128x128 .f32 := R m c main_v66
def v67 : FVec Ideal S128x128 .f32 := R m c main_v67
def v68 : FVec Ideal S128x128 .f32 := R m c main_v68
def v69 : FVec Ideal S1x128x128 .f32 := R m c main_v69
def cst_6 : FVec Ideal S_ .f32 := R m c main_cst_6
def v70 : FVec Ideal S1x128x128 .f32 := R m c main_v70
def v71 : BufTy.Contents (Elt Ideal) ⟨S1x128x128, .i1⟩ := R m c main_v71
def cst_7 : FVec Ideal S_ .f32 := R m c main_cst_7
def v72 : FVec Ideal S128x128 .f32 := R m c main_v72
def v73 : FVec Ideal S128x128 .f32 := R m c main_v73
def v74 : FVec Ideal S1x128x128 .f32 := R m c main_v74
def v75 : FVec Ideal S4x1x1 .f32 := R m c main_v75
def v76 : FVec Ideal S4x128x128 .f32 := R m c main_v76
def v77 : FVec Ideal S4x128x128 .f32 := R m c main_v77
def v78 : FVec Ideal S4x128x128 .f32 := R m c main_v78
def v79 : FVec Ideal S4x128x128 .f32 := R m c main_v79
def cst_8 : FVec Ideal S_ .f32 := R m c main_cst_8
def call1_v0 : FVec Ideal S_ .f32 := R m c main_call1_v0
def call1_v1 : BufTy.Contents (Elt Ideal) ⟨S4x128x128, .i1⟩ := R m c main_call1_v1
def call1_v2 : FVec Ideal S4x128x128 .f32 := R m c main_call1_v2
def v80 : FVec Ideal S4x128x128 .f32 := R m c main_v80
def v81 : FVec Ideal S32x4x128x128 .f32 := R m c main_v81
def v82 : FVec Ideal S1x4x128x128 .f32 := R m c main_v82
def v83 : FVec Ideal S32x4x128x128 .f32 := R m c main_v83
def v84 : FVec Ideal S32x4x128x128 .f32 := R m c main_v84
def v85 : FVec Ideal S32x4x128x256 .f32 := R m c main_v85
def cst_9 : FVec Ideal S_ .f32 := R m c main_cst_9
def v86 : FVec Ideal S128 .f32 := R m c main_v86
def v87 : FVec Ideal S128 .f32 := R m c main_v87
def v88 : FVec Ideal S128x1 .f32 := R m c main_v88
def v89 : FVec Ideal S1x4 .f32 := R m c main_v89
def v90 : FVec Ideal S128x4 .f32 := R m c main_v90
def v91 : FVec Ideal S128x4 .f32 := R m c main_v91
def v92 : FVec Ideal S128x4 .f32 := R m c main_v92
def v93 : FVec Ideal S128x4 .f32 := R m c main_v93
def cst_10 : FVec Ideal S_ .f32 := R m c main_cst_10
def v94 : FVec Ideal S128 .f32 := R m c main_v94
def v95 : FVec Ideal S128 .f32 := R m c main_v95
def v96 : FVec Ideal S128x1 .f32 := R m c main_v96
def v97 : FVec Ideal S1x4 .f32 := R m c main_v97
def v98 : FVec Ideal S128x4 .f32 := R m c main_v98
def v99 : FVec Ideal S128x4 .f32 := R m c main_v99
def v100 : FVec Ideal S128x4 .f32 := R m c main_v100
def v101 : FVec Ideal S128x4 .f32 := R m c main_v101
def v102 : FVec Ideal S1x128x4x1x1 .f32 := R m c main_v102
def v103 : FVec Ideal S32x128x4x64x2 .f32 := R m c main_v103
def v104 : FVec Ideal S32x128x4x64x2 .f32 := R m c main_v104
def v105 : FVec Ideal S32x4x64x2x256 .f32 := R m c main_v105
def cst_11 : FVec Ideal S_ .f32 := R m c main_cst_11
def v106 : FVec Ideal S4 .f32 := R m c main_v106
def v107 : FVec Ideal S4 .f32 := R m c main_v107
def v108 : FVec Ideal S4 .f32 := R m c main_v108
def v109 : FVec Ideal S1x4x1x1x1 .f32 := R m c main_v109
def v110 : FVec Ideal S1x4x64x2x256 .f32 := R m c main_v110
def cst_12 : FVec Ideal S_ .f32 := R m c main_cst_12
def v111 : FVec Ideal S1x4x64x2x256 .f32 := R m c main_v111
def v112 : FVec Ideal S1x4x64x2x256 .f32 := R m c main_v112
def v113 : FVec Ideal S1x4x64x2x256 .f32 := R m c main_v113
def v114 : FVec Ideal S1x4x64x2x256 .f32 := R m c main_v114
def v115 : FVec Ideal S1x4x64x2x256 .f32 := R m c main_v115
def v116 : FVec Ideal S1x4x64x2x256 .f32 := R m c main_v116
def v117 : FVec Ideal S1x4x64x2x256 .f32 := R m c main_v117
def v118 : FVec Ideal S1x4x64x2x256 .f32 := R m c main_v118
def v119 : FVec Ideal S1x4x64x2x256 .f32 := R m c main_v119
def v120 : FVec Ideal S1x4x64x2x256 .f32 := R m c main_v120
def v121 : FVec Ideal S1x4x64x2x256 .f32 := R m c main_v121
def v122 : FVec Ideal S1x4x64x2x256 .f32 := R m c main_v122
def v123 : FVec Ideal S1x4x64x2x256 .f32 := R m c main_v123
def v124 : FVec Ideal S1x4x64x2x256 .f32 := R m c main_v124
def v125 : FVec Ideal S1x4x64x2x256 .f32 := R m c main_v125
def v126 : FVec Ideal S1x4x64x2x256 .f32 := R m c main_v126
def v127 : FVec Ideal S1x4x64x2x256 .f32 := R m c main_v127
def v128 : FVec Ideal S1x4x64x2x256 .f32 := R m c main_v128
def v129 : FVec Ideal S1x4x64x2x256 .f32 := R m c main_v129
def v130 : FVec Ideal S1x4x64x2x256 .f32 := R m c main_v130
def v131 : FVec Ideal S1x4x64x2x256 .f32 := R m c main_v131
def v132 : FVec Ideal S1x4x64x2x256 .f32 := R m c main_v132
def v133 : FVec Ideal S1x4x64x2x256 .f32 := R m c main_v133
def v134 : FVec Ideal S1x4x64x2x256 .f32 := R m c main_v134
def v135 : FVec Ideal S1x4x64x2x256 .f32 := R m c main_v135
def v136 : FVec Ideal S1x4x64x2x256 .f32 := R m c main_v136
def v137 : FVec Ideal S1x4x64x2x256 .f32 := R m c main_v137
def v138 : FVec Ideal S1x4x64x2x256 .f32 := R m c main_v138
def v139 : FVec Ideal S1x4x64x2x256 .f32 := R m c main_v139
def v140 : FVec Ideal S1x4x64x2x256 .f32 := R m c main_v140
def v141 : FVec Ideal S1x4x64x2x256 .f32 := R m c main_v141
def v142 : FVec Ideal S1x4x64x2x256 .f32 := R m c main_v142
def v143 : FVec Ideal S1x4x64x2x256 .f32 := R m c main_v143
def v144 : FVec Ideal S1x4x64x2x256 .f32 := R m c main_v144
def v145 : FVec Ideal S1x4x64x2x256 .f32 := R m c main_v145
def v146 : FVec Ideal S1x4x64x2x256 .f32 := R m c main_v146
def v147 : FVec Ideal S1x4x64x2x256 .f32 := R m c main_v147
def v148 : FVec Ideal S1x4x64x2x256 .f32 := R m c main_v148
def v149 : FVec Ideal S1x4x64x2x256 .f32 := R m c main_v149
def v150 : FVec Ideal S1x4x64x2x256 .f32 := R m c main_v150
def v151 : FVec Ideal S1x4x64x2x256 .f32 := R m c main_v151
def v152 : FVec Ideal S1x4x64x2x256 .f32 := R m c main_v152
def v153 : FVec Ideal S1x4x64x2x256 .f32 := R m c main_v153
def v154 : FVec Ideal S1x4x64x2x256 .f32 := R m c main_v154
def v155 : FVec Ideal S1x4x64x2x256 .f32 := R m c main_v155
def v156 : FVec Ideal S1x4x64x2x256 .f32 := R m c main_v156
def v157 : FVec Ideal S1x4x64x2x256 .f32 := R m c main_v157
def v158 : FVec Ideal S1x4x64x2x256 .f32 := R m c main_v158
def v159 : FVec Ideal S1x4x64x2x256 .f32 := R m c main_v159
def v160 : FVec Ideal S1x4x64x2x256 .f32 := R m c main_v160
def v161 : FVec Ideal S1x4x64x2x256 .f32 := R m c main_v161
def v162 : FVec Ideal S1x4x64x2x256 .f32 := R m c main_v162
def v163 : FVec Ideal S1x4x64x2x256 .f32 := R m c main_v163
def v164 : FVec Ideal S1x4x64x2x256 .f32 := R m c main_v164
def v165 : FVec Ideal S1x4x64x2x256 .f32 := R m c main_v165
def v166 : FVec Ideal S1x4x64x2x256 .f32 := R m c main_v166
def v167 : FVec Ideal S1x4x64x2x256 .f32 := R m c main_v167
def v168 : FVec Ideal S1x4x64x2x256 .f32 := R m c main_v168
def v169 : FVec Ideal S1x4x64x2x256 .f32 := R m c main_v169
def v170 : FVec Ideal S1x4x64x2x256 .f32 := R m c main_v170
def v171 : FVec Ideal S1x4x64x2x256 .f32 := R m c main_v171
def v172 : FVec Ideal S1x4x64x2x256 .f32 := R m c main_v172
def v173 : FVec Ideal S1x4x64x2x256 .f32 := R m c main_v173
def v174 : FVec Ideal S1x4x64x2x256 .f32 := R m c main_v174
def v175 : FVec Ideal S1x4x64x2x256 .f32 := R m c main_v175
def v176 : FVec Ideal S1x4x64x2x256 .f32 := R m c main_v176
def v177 : FVec Ideal S1x4x64x2x256 .f32 := R m c main_v177
def v178 : FVec Ideal S1x4x64x2x256 .f32 := R m c main_v178
def v179 : FVec Ideal S1x4x64x2x256 .f32 := R m c main_v179
def v180 : FVec Ideal S1x4x64x2x256 .f32 := R m c main_v180
def v181 : FVec Ideal S1x4x64x2x256 .f32 := R m c main_v181
def v182 : FVec Ideal S1x4x64x2x256 .f32 := R m c main_v182
def v183 : FVec Ideal S1x4x64x2x256 .f32 := R m c main_v183
def v184 : FVec Ideal S1x4x64x2x256 .f32 := R m c main_v184
def v185 : FVec Ideal S1x4x64x2x256 .f32 := R m c main_v185
def v186 : FVec Ideal S1x4x64x2x256 .f32 := R m c main_v186
def v187 : FVec Ideal S1x4x64x2x256 .f32 := R m c main_v187
def v188 : FVec Ideal S1x4x64x2x256 .f32 := R m c main_v188
def v189 : FVec Ideal S1x4x64x2x256 .f32 := R m c main_v189
def v190 : FVec Ideal S1x4x64x2x256 .f32 := R m c main_v190
def v191 : FVec Ideal S1x4x64x2x256 .f32 := R m c main_v191
def v192 : FVec Ideal S1x4x64x2x256 .f32 := R m c main_v192
def v193 : FVec Ideal S1x4x64x2x256 .f32 := R m c main_v193
def v194 : FVec Ideal S1x4x64x2x256 .f32 := R m c main_v194
def v195 : FVec Ideal S1x4x64x2x256 .f32 := R m c main_v195
def v196 : FVec Ideal S1x4x64x2x256 .f32 := R m c main_v196
def v197 : FVec Ideal S1x4x64x2x256 .f32 := R m c main_v197
def v198 : FVec Ideal S1x4x64x2x256 .f32 := R m c main_v198
def v199 : FVec Ideal S1x4x64x2x256 .f32 := R m c main_v199
def v200 : FVec Ideal S1x4x64x2x256 .f32 := R m c main_v200
def v201 : FVec Ideal S1x4x64x2x256 .f32 := R m c main_v201
def v202 : FVec Ideal S1x4x64x2x256 .f32 := R m c main_v202
def v203 : FVec Ideal S1x4x64x2x256 .f32 := R m c main_v203
def v204 : FVec Ideal S1x4x64x2x256 .f32 := R m c main_v204
def v205 : FVec Ideal S1x4x64x2x256 .f32 := R m c main_v205
def v206 : FVec Ideal S1x4x64x2x256 .f32 := R m c main_v206
def v207 : FVec Ideal S1x4x64x2x256 .f32 := R m c main_v207
def v208 : FVec Ideal S16x4x64x2x256 .f32 := R m c main_v208
def v209 : FVec Ideal S16x4x64x2x256 .f32 := R m c main_v209
def v210 : FVec Ideal S32x4x64x2x256 .f32 := R m c main_v210
def v211 : FVec Ideal S1x128x4x1x1 .f32 := R m c main_v211
def v212 : FVec Ideal S32x128x4x64x2 .f32 := R m c main_v212
def v213 : FVec Ideal S32x128x4x64x2 .f32 := R m c main_v213
def v214 : FVec Ideal S32x4x128x256 .f32 := R m c main_v214
def v215 : FVec Ideal S32x4x128x256 .f32 := R m c main_v215
def cst_13 : FVec Ideal S_ .f32 := R m c main_cst_13
def v216 : FVec Ideal S32x4x128 .f32 := R m c main_v216
def v217 : FVec Ideal S32x4x128x1 .f32 := R m c main_v217
def cst_14 : FVec Ideal S_ .f32 := R m c main_cst_14
def v218 : FVec Ideal S32x4x128x1 .f32 := R m c main_v218
def v219 : FVec Ideal S32x4x128x1 .f32 := R m c main_v219
def v220 : FVec Ideal S32x4x128x256 .f32 := R m c main_v220
def v221 : FVec Ideal S32x4x128x256 .f32 := R m c main_v221
def v222 : FVec Ideal S32x4x128x256 .f32 := R m c main_v222
def cst_15 : FVec Ideal S_ .f32 := R m c main_cst_15
def v223 : FVec Ideal S32x4x128 .f32 := R m c main_v223
def v224 : FVec Ideal S32x4x128x1 .f32 := R m c main_v224
def cst_16 : FVec Ideal S_ .f32 := R m c main_cst_16
def v225 : FVec Ideal S32x4x128x1 .f32 := R m c main_v225
def v226 : FVec Ideal S32x4x128x1 .f32 := R m c main_v226
def cst_17 : FVec Ideal S_ .f32 := R m c main_cst_17
def v227 : FVec Ideal S32x4x128x1 .f32 := R m c main_v227
def v228 : FVec Ideal S32x4x128x1 .f32 := R m c main_v228
def v229 : FVec Ideal S32x4x128x1 .f32 := R m c main_v229
def v230 : FVec Ideal S32x4x128x256 .f32 := R m c main_v230
def v231 : FVec Ideal S32x4x128x256 .f32 := R m c main_v231
def v232 : FVec Ideal S32x4x128x256 .f32 := R m c main_v232
def v233 : FVec Ideal S32x4x128x256 .f32 := R m c main_v233
def v234 : FVec Ideal S32x128x4x1 .f32 := R m c main_v234
def v235 : FVec Ideal S32x128x4x16 .f32 := R m c main_v235
def v236 : FVec Ideal S4096x64 .f32 := R m c main_v236
def v237 : FVec Ideal S32x128x4x256 .f32 := R m c main_v237
def v238 : FVec Ideal S4096x1024 .f32 := R m c main_v238
def v239 : FVec Ideal S4096x1024 .bf16 := R m c main_v239
def v240 : FVec Ideal S4096x128 .f32 := R m c main_v240
def v241 : FVec Ideal S32x4x128x256 .f32 := R m c main_v241
def v242 : FVec Ideal S4x32x128x256 .f32 := R m c main_v242
def v243 : FVec Ideal S4x32x128x256 .bf16 := R m c main_v243
def v244 : FVec Ideal S4096x4608 .f32 := R m c main_v244
def v245 : FVec Ideal S4096x512 .f32 := R m c main_v245
def v246 : FVec Ideal S4096x512 .f32 := R m c main_v246
def v247 : FVec Ideal S4096x4096 .f32 := R m c main_v247
def v248 : FVec Ideal S4096x9728 .f32 := R m c main_v248
def v249 : FVec Ideal S4096x9728 .bf16 := R m c main_v249
def v250 : FVec Ideal S4096x1024 .bf16 := R m c main_v250
def v251 : FVec Ideal S4096 .f32 := R m c main_v251
def cst_18 : FVec Ideal S_ .f32 := R m c main_cst_18
def cst_19 : FVec Ideal S_ .f32 := R m c main_cst_19
def call2_v0 : FVec Ideal S_ .f32 := R m c main_call2_v0
def call2_v1 : FVec Ideal S_ .f32 := R m c main_call2_v1
def call2_v2 : FVec Ideal S_ .f32 := R m c main_call2_v2
def call2_cst : FVec Ideal S_ .f32 := R m c main_call2_cst
def call2_v3 : FVec Ideal S_ .f32 := R m c main_call2_v3
def call2_v4 : FVec Ideal S63 .f32 := R m c main_call2_v4
def call2_cst_0 : FVec Ideal S_ .f32 := R m c main_call2_cst_0
def call2_v5 : FVec Ideal S63 .f32 := R m c main_call2_v5
def call2_v6 : FVec Ideal S63 .f32 := R m c main_call2_v6
def call2_v7 : FVec Ideal S1 .f32 := R m c main_call2_v7
def call2_cst_1 : FVec Ideal S_ .f32 := R m c main_call2_cst_1
def call2_v8 : FVec Ideal S63 .f32 := R m c main_call2_v8
def call2_v9 : FVec Ideal S63 .f32 := R m c main_call2_v9
def call2_v10 : FVec Ideal S63 .f32 := R m c main_call2_v10
def call2_v11 : FVec Ideal S63 .f32 := R m c main_call2_v11
def call2_v12 : FVec Ideal S1 .f32 := R m c main_call2_v12
def call2_v13 : FVec Ideal S63 .f32 := R m c main_call2_v13
def call2_v14 : FVec Ideal S63 .f32 := R m c main_call2_v14
def call2_v15 : FVec Ideal S63 .f32 := R m c main_call2_v15
def call2_v16 : FVec Ideal S1 .f32 := R m c main_call2_v16
def v252 : FVec Ideal S64 .f32 := R m c main_v252
def cst_20 : FVec Ideal S_ .f32 := R m c main_cst_20
def v253 : FVec Ideal S64 .f32 := R m c main_v253
def v254 : FVec Ideal S64 .f32 := R m c main_v254
def cst_21 : FVec Ideal S_ .f32 := R m c main_cst_21
def v255 : FVec Ideal S64 .f32 := R m c main_v255
def v256 : FVec Ideal S64 .f32 := R m c main_v256
def v257 : FVec Ideal S4096x1 .f32 := R m c main_v257
def v258 : FVec Ideal S1x64 .f32 := R m c main_v258
def v259 : FVec Ideal S4096x64 .f32 := R m c main_v259
def v260 : FVec Ideal S4096x64 .f32 := R m c main_v260
def v261 : FVec Ideal S4096x64 .f32 := R m c main_v261
def v262 : FVec Ideal S4096x64 .f32 := R m c main_v262
def v263 : FVec Ideal S4096x64x2 .f32 := R m c main_v263
def v264 : FVec Ideal S4096x128 .f32 := R m c main_v264
def v265 : FVec Ideal S4096x64 .f32 := R m c main_v265
def v266 : FVec Ideal S4096x64x2 .f32 := R m c main_v266
def v267 : FVec Ideal S4096x128 .f32 := R m c main_v267
def v268 : BufTy.Contents (Elt Ideal) ⟨S128, .i32⟩ := R m c main_v268
def ctwo : BufTy.Contents (Elt Ideal) ⟨S_, .i32⟩ := R m c main_c
def call3_v0 : BufTy.Contents (Elt Ideal) ⟨S_, .i32⟩ := R m c main_call3_v0
def call3_c : BufTy.Contents (Elt Ideal) ⟨S_, .i32⟩ := R m c main_call3_c
def call3_v1 : BufTy.Contents (Elt Ideal) ⟨S_, .i1⟩ := R m c main_call3_v1
def call3_c_0 : BufTy.Contents (Elt Ideal) ⟨S_, .i32⟩ := R m c main_call3_c_0
def call3_v2 : BufTy.Contents (Elt Ideal) ⟨S_, .i32⟩ := R m c main_call3_v2
def call3_v3 : BufTy.Contents (Elt Ideal) ⟨S128, .i32⟩ := R m c main_call3_v3
def call3_v4 : BufTy.Contents (Elt Ideal) ⟨S128, .i32⟩ := R m c main_call3_v4
def call3_c_1 : BufTy.Contents (Elt Ideal) ⟨S_, .i32⟩ := R m c main_call3_c_1
def call3_v5 : BufTy.Contents (Elt Ideal) ⟨S128, .i32⟩ := R m c main_call3_v5
def call3_v6 : BufTy.Contents (Elt Ideal) ⟨S128, .i1⟩ := R m c main_call3_v6
def call3_c_2 : BufTy.Contents (Elt Ideal) ⟨S_, .i32⟩ := R m c main_call3_c_2
def call3_v7 : BufTy.Contents (Elt Ideal) ⟨S128, .i32⟩ := R m c main_call3_v7
def call3_v8 : BufTy.Contents (Elt Ideal) ⟨S128, .i1⟩ := R m c main_call3_v8
def call3_c_3 : BufTy.Contents (Elt Ideal) ⟨S_, .i32⟩ := R m c main_call3_c_3
def call3_v9 : BufTy.Contents (Elt Ideal) ⟨S_, .i1⟩ := R m c main_call3_v9
def call3_v10 : BufTy.Contents (Elt Ideal) ⟨S128, .i1⟩ := R m c main_call3_v10
def call3_v11 : BufTy.Contents (Elt Ideal) ⟨S128, .i1⟩ := R m c main_call3_v11
def call3_v12 : BufTy.Contents (Elt Ideal) ⟨S128, .i1⟩ := R m c main_call3_v12
def call3_v13 : BufTy.Contents (Elt Ideal) ⟨S128, .i32⟩ := R m c main_call3_v13
def call3_v14 : BufTy.Contents (Elt Ideal) ⟨S128, .i32⟩ := R m c main_call3_v14
def v269 : BufTy.Contents (Elt Ideal) ⟨S128, .i32⟩ := R m c main_v269
def c_22 : BufTy.Contents (Elt Ideal) ⟨S_, .i32⟩ := R m c main_c_22
def v270 : BufTy.Contents (Elt Ideal) ⟨S128, .i32⟩ := R m c main_v270
def v271 : BufTy.Contents (Elt Ideal) ⟨S128, .i1⟩ := R m c main_v271
def v272 : BufTy.Contents (Elt Ideal) ⟨S1x128, .i1⟩ := R m c main_v272
def cst_23 : FVec Ideal S_ .f32 := R m c main_cst_23
def call4_v0 : FVec Ideal S_ .f32 := R m c main_call4_v0
def call4_v1 : BufTy.Contents (Elt Ideal) ⟨S4096x128, .i1⟩ := R m c main_call4_v1
def call4_v2 : FVec Ideal S4096x128 .f32 := R m c main_call4_v2
def v273 : FVec Ideal S4096x128 .f32 := R m c main_v273
def v274 : FVec Ideal S4096x128 .f32 := R m c main_v274
def cst_24 : FVec Ideal S_ .f32 := R m c main_cst_24
def call5_v0 : FVec Ideal S_ .f32 := R m c main_call5_v0
def call5_v1 : BufTy.Contents (Elt Ideal) ⟨S4096x128, .i1⟩ := R m c main_call5_v1
def call5_v2 : FVec Ideal S4096x128 .f32 := R m c main_call5_v2
def v275 : FVec Ideal S4096x128 .f32 := R m c main_v275
def v276 : FVec Ideal S1x4096x128 .f32 := R m c main_v276
def v277 : FVec Ideal S1x4096x128 .f32 := R m c main_v277
def v278 : FVec Ideal S1x4096x128 .f32 := R m c main_v278
def v279 : FVec Ideal S3x4096x128 .f32 := R m c main_v279
def cst_25 : FVec Ideal S_ .f32 := R m c main_cst_25
def v280 : FVec Ideal S3x4096x128 .f32 := R m c main_v280
def v281 : FVec Ideal S3x4096x128 .f32 := R m c main_v281
def v282 : FVec Ideal S1x3x4096x128 .f32 := R m c main_v282
def v283 : FVec Ideal S1x3x4096x128 .f32 := R m c main_v283
def v284 : FVec Ideal S1x3x4096x128 .f32 := R m c main_v284
def v285 : FVec Ideal S3x3x4096x128 .f32 := R m c main_v285
def v286 : FVec Ideal S4 .f32 := R m c main_v286
def cst_26 : FVec Ideal S_ .f32 := R m c main_cst_26
def v287 : FVec Ideal S4 .f32 := R m c main_v287
def v288 : FVec Ideal S4 .f32 := R m c main_v288
def cst_27 : FVec Ideal S_ .f32 := R m c main_cst_27
def v289 : FVec Ideal S4 .f32 := R m c main_v289
def v290 : FVec Ideal S4 .f32 := R m c main_v290
def v291 : FVec Ideal S4 .f32 := R m c main_v291
def v292 : FVec Ideal S4 .f32 := R m c main_v292
def v293 : FVec Ideal S128 .f32 := R m c main_v293
def v294 : FVec Ideal S128x1 .f32 := R m c main_v294
def v295 : FVec Ideal S1x128 .f32 := R m c main_v295
def v296 : FVec Ideal S128x128 .f32 := R m c main_v296
def v297 : FVec Ideal S128x128 .f32 := R m c main_v297
def v298 : FVec Ideal S128x128 .f32 := R m c main_v298
def v299 : FVec Ideal S1x128x128 .f32 := R m c main_v299
def cst_28 : FVec Ideal S_ .f32 := R m c main_cst_28
def v300 : FVec Ideal S1x128x128 .f32 := R m c main_v300
def v301 : BufTy.Contents (Elt Ideal) ⟨S1x128x128, .i1⟩ := R m c main_v301
def cst_29 : FVec Ideal S_ .f32 := R m c main_cst_29
def v302 : FVec Ideal S128x128 .f32 := R m c main_v302
def v303 : FVec Ideal S128x128 .f32 := R m c main_v303
def v304 : FVec Ideal S1x128x128 .f32 := R m c main_v304
def v305 : FVec Ideal S4x1x1 .f32 := R m c main_v305
def v306 : FVec Ideal S4x128x128 .f32 := R m c main_v306
def v307 : FVec Ideal S4x128x128 .f32 := R m c main_v307
def v308 : FVec Ideal S4x128x128 .f32 := R m c main_v308
def v309 : FVec Ideal S4x128x128 .f32 := R m c main_v309
def cst_30 : FVec Ideal S_ .f32 := R m c main_cst_30
def call6_v0 : FVec Ideal S_ .f32 := R m c main_call6_v0
def call6_v1 : BufTy.Contents (Elt Ideal) ⟨S4x128x128, .i1⟩ := R m c main_call6_v1
def call6_v2 : FVec Ideal S4x128x128 .f32 := R m c main_call6_v2
def v310 : FVec Ideal S4x128x128 .f32 := R m c main_v310
def cst_31 : FVec Ideal S_ .f32 := R m c main_cst_31
def v311 : FVec Ideal S128 .f32 := R m c main_v311
def v312 : FVec Ideal S128 .f32 := R m c main_v312
def v313 : FVec Ideal S1x128 .f32 := R m c main_v313
def v314 : FVec Ideal S4x1 .f32 := R m c main_v314
def v315 : FVec Ideal S4x128 .f32 := R m c main_v315
def v316 : FVec Ideal S4x128 .f32 := R m c main_v316
def v317 : FVec Ideal S4x128 .f32 := R m c main_v317
def v318 : FVec Ideal S4x128 .f32 := R m c main_v318
def cst_32 : FVec Ideal S_ .f32 := R m c main_cst_32
def v319 : FVec Ideal S128 .f32 := R m c main_v319
def v320 : FVec Ideal S128 .f32 := R m c main_v320
def v321 : FVec Ideal S1x128 .f32 := R m c main_v321
def v322 : FVec Ideal S4x1 .f32 := R m c main_v322
def v323 : FVec Ideal S4x128 .f32 := R m c main_v323
def v324 : FVec Ideal S4x128 .f32 := R m c main_v324
def v325 : FVec Ideal S4x128 .f32 := R m c main_v325
def v326 : FVec Ideal S4x128 .f32 := R m c main_v326
def cst_33 : FVec Ideal S_ .f32 := R m c main_cst_33
def v327 : FVec Ideal S4 .f32 := R m c main_v327
def v328 : FVec Ideal S4 .f32 := R m c main_v328
def v329 : FVec Ideal S4 .f32 := R m c main_v329
def v330 : FVec Ideal S4x128x1 .f32 := R m c main_v330
def v331 : FVec Ideal S4x128x128 .f32 := R m c main_v331
def v332 : FVec Ideal S4x128x1 .f32 := R m c main_v332
def v333 : FVec Ideal S4x128x128 .f32 := R m c main_v333
def v334 : FVec Ideal S4x1x1 .f32 := R m c main_v334
def v335 : FVec Ideal S4x8x256 .f32 := R m c main_v335

end Cert.Proof.RetHost

end
-- ==== Proof.RetHostEA.lean ====
/-
  The retention kernel's host operations as equations between buffers, part 1.
-/
module

public import proofs.«01_k».proof.Proof.RetHostD

@[expose] public section

set_option maxRecDepth 16384

noncomputable section

namespace Cert.Proof.RetHost

open Cert.RetKernelIdeal Cert.RetKernelIdeal.Gen Idealize.ShloMosaic Idealize.ShloMosaic.TcCoe Idealize.ShloMosaic.StableHlo Idealize.SL.Sem Cert.Proof.Ret
open Cert.Proof.Grad (coe_sum div_coe_coe rsqrt_of_pos ofBits_eps ofBits_half ofBits_neg_half eps eps_pos sg)
open scoped BigOperators

variable (m : (ℓ : Loc nD τ sig) → Buf (Elt Ideal) ℓ) (c : Dev nD)

theorem e_cst : cst m c = (constant S_ .f32 0x00000000#32) := by
  have h := nul m c 0 rfl (by decide)
  exact h
theorem e_cst_0 : cst_0 m c = (constant S_ .f32 0x3F800000#32) := by
  have h := nul m c 1 rfl (by decide)
  exact h
theorem e_call0_v0 : call0_v0 m c = (cst m c) := by
  have h := un m c 2 rfl (by decide) (by decide)
  exact h
theorem e_call0_v1 : call0_v1 m c = (cst_0 m c) := by
  have h := un m c 3 rfl (by decide) (by decide)
  exact h
theorem e_call0_v2 : call0_v2 m c = subf (call0_v1 m c) (call0_v0 m c) := by
  have h := tbin m c (.of main_call0_v1 : TRef sig ⟨S_, .f32⟩) (.of main_call0_v0 : TRef sig ⟨S_, .f32⟩) (.of main_call0_v2 : TRef sig ⟨S_, .f32⟩) (fun (u : FVec Ideal S_ .f32) (v : FVec Ideal S_ .f32) => subf u v : (⟨S_, .f32⟩ : BufTy).Contents (Elt Ideal) → (⟨S_, .f32⟩ : BufTy).Contents (Elt Ideal) → (⟨S_, .f32⟩ : BufTy).Contents (Elt Ideal)) 4 rfl (by decide) (by decide) (by decide)
  exact h
theorem e_call0_cst : call0_cst m c = (constant S_ .f32 0x427C0000#32) := by
  have h := nul m c 5 rfl (by decide)
  exact h
theorem e_call0_v3 : call0_v3 m c = Host.divf (call0_v2 m c) (call0_cst m c) := by
  have h := tbin m c (.of main_call0_v2 : TRef sig ⟨S_, .f32⟩) (.of main_call0_cst : TRef sig ⟨S_, .f32⟩) (.of main_call0_v3 : TRef sig ⟨S_, .f32⟩) (fun (u : FVec Ideal S_ .f32) (v : FVec Ideal S_ .f32) => Host.divf u v : (⟨S_, .f32⟩ : BufTy).Contents (Elt Ideal) → (⟨S_, .f32⟩ : BufTy).Contents (Elt Ideal) → (⟨S_, .f32⟩ : BufTy).Contents (Elt Ideal)) 6 rfl (by decide) (by decide) (by decide)
  exact h
theorem e_call0_v4 : call0_v4 m c = (sitofp .f32 (iotaInDim S63 32 0)) := by
  have h := nul m c 7 rfl (by decide)
  exact h
theorem e_call0_cst_0 : call0_cst_0 m c = (constant S_ .f32 0x427C0000#32) := by
  have h := nul m c 8 rfl (by decide)
  exact h
theorem e_call0_v5 : call0_v5 m c = (broadcastInDim S63 ![] bcast_S_S63) (call0_cst_0 m c) := by
  have h := un m c 9 rfl (by decide) (by decide)
  exact h
theorem e_call0_v6 : call0_v6 m c = Host.divf (call0_v4 m c) (call0_v5 m c) := by
  have h := tbin m c (.of main_call0_v4 : TRef sig ⟨S63, .f32⟩) (.of main_call0_v5 : TRef sig ⟨S63, .f32⟩) (.of main_call0_v6 : TRef sig ⟨S63, .f32⟩) (fun (u : FVec Ideal S63 .f32) (v : FVec Ideal S63 .f32) => Host.divf u v : (⟨S63, .f32⟩ : BufTy).Contents (Elt Ideal) → (⟨S63, .f32⟩ : BufTy).Contents (Elt Ideal) → (⟨S63, .f32⟩ : BufTy).Contents (Elt Ideal)) 10 rfl (by decide) (by decide) (by decide)
  exact h
theorem e_call0_v7 : call0_v7 m c = shapeCast S1 (call0_v0 m c) shapeCasts_S_S1 := by
  have h := res m c 11 rfl (by decide) (by decide)
  exact h
theorem e_call0_cst_1 : call0_cst_1 m c = (constant S_ .f32 0x3F800000#32) := by
  have h := nul m c 12 rfl (by decide)
  exact h
theorem e_call0_v8 : call0_v8 m c = (broadcastInDim S63 ![] bcast_S_S63) (call0_cst_1 m c) := by
  have h := un m c 13 rfl (by decide) (by decide)
  exact h
theorem e_call0_v9 : call0_v9 m c = subf (call0_v8 m c) (call0_v6 m c) := by
  have h := tbin m c (.of main_call0_v8 : TRef sig ⟨S63, .f32⟩) (.of main_call0_v6 : TRef sig ⟨S63, .f32⟩) (.of main_call0_v9 : TRef sig ⟨S63, .f32⟩) (fun (u : FVec Ideal S63 .f32) (v : FVec Ideal S63 .f32) => subf u v : (⟨S63, .f32⟩ : BufTy).Contents (Elt Ideal) → (⟨S63, .f32⟩ : BufTy).Contents (Elt Ideal) → (⟨S63, .f32⟩ : BufTy).Contents (Elt Ideal)) 14 rfl (by decide) (by decide) (by decide)
  exact h
theorem e_call0_v10 : call0_v10 m c = (broadcastInDim S63 ![0] bcast_S1_S63_0) (call0_v7 m c) := by
  have h := un m c 15 rfl (by decide) (by decide)
  exact h
theorem e_call0_v11 : call0_v11 m c = mulf (call0_v10 m c) (call0_v9 m c) := by
  have h := tbin m c (.of main_call0_v10 : TRef sig ⟨S63, .f32⟩) (.of main_call0_v9 : TRef sig ⟨S63, .f32⟩) (.of main_call0_v11 : TRef sig ⟨S63, .f32⟩) (fun (u : FVec Ideal S63 .f32) (v : FVec Ideal S63 .f32) => mulf u v : (⟨S63, .f32⟩ : BufTy).Contents (Elt Ideal) → (⟨S63, .f32⟩ : BufTy).Contents (Elt Ideal) → (⟨S63, .f32⟩ : BufTy).Contents (Elt Ideal)) 16 rfl (by decide) (by decide) (by decide)
  exact h
theorem e_call0_v12 : call0_v12 m c = shapeCast S1 (call0_v1 m c) shapeCasts_S_S1 := by
  have h := res m c 17 rfl (by decide) (by decide)
  exact h
theorem e_call0_v13 : call0_v13 m c = (broadcastInDim S63 ![0] bcast_S1_S63_0) (call0_v12 m c) := by
  have h := un m c 18 rfl (by decide) (by decide)
  exact h
theorem e_call0_v14 : call0_v14 m c = mulf (call0_v13 m c) (call0_v6 m c) := by
  have h := tbin m c (.of main_call0_v13 : TRef sig ⟨S63, .f32⟩) (.of main_call0_v6 : TRef sig ⟨S63, .f32⟩) (.of main_call0_v14 : TRef sig ⟨S63, .f32⟩) (fun (u : FVec Ideal S63 .f32) (v : FVec Ideal S63 .f32) => mulf u v : (⟨S63, .f32⟩ : BufTy).Contents (Elt Ideal) → (⟨S63, .f32⟩ : BufTy).Contents (Elt Ideal) → (⟨S63, .f32⟩ : BufTy).Contents (Elt Ideal)) 19 rfl (by decide) (by decide) (by decide)
  exact h
theorem e_call0_v15 : call0_v15 m c = addf (call0_v11 m c) (call0_v14 m c) := by
  have h := tbin m c (.of main_call0_v11 : TRef sig ⟨S63, .f32⟩) (.of main_call0_v14 : TRef sig ⟨S63, .f32⟩) (.of main_call0_v15 : TRef sig ⟨S63, .f32⟩) (fun (u : FVec Ideal S63 .f32) (v : FVec Ideal S63 .f32) => addf u v : (⟨S63, .f32⟩ : BufTy).Contents (Elt Ideal) → (⟨S63, .f32⟩ : BufTy).Contents (Elt Ideal) → (⟨S63, .f32⟩ : BufTy).Contents (Elt Ideal)) 20 rfl (by decide) (by decide) (by decide)
  exact h
theorem e_call0_v16 : call0_v16 m c = (broadcastInDim S1 ![] bcast_S_S1) (call0_v1 m c) := by
  have h := un m c 21 rfl (by decide) (by decide)
  exact h
theorem e_v0 : v0 m c = concatenate S64 0 [⟨S63, (call0_v15 m c)⟩, ⟨S1, (call0_v16 m c)⟩] concatenates_S63_S1_S64_d0 := by
  have h := tbin m c (.of main_call0_v15 : TRef sig ⟨S63, .f32⟩) (.of main_call0_v16 : TRef sig ⟨S1, .f32⟩) (.of main_v0 : TRef sig ⟨S64, .f32⟩) ((fun a b => concatenate S64 0 [⟨S63, a⟩, ⟨S1, b⟩] concatenates_S63_S1_S64_d0) : (⟨S63, .f32⟩ : BufTy).Contents (Elt Ideal) → (⟨S1, .f32⟩ : BufTy).Contents (Elt Ideal) → (⟨S64, .f32⟩ : BufTy).Contents (Elt Ideal)) 22 rfl (by decide) (by decide) (by decide)
  exact h
theorem e_cst_1 : cst_1 m c = (constant S_ .f32 0x461C4000#32) := by
  have h := nul m c 23 rfl (by decide)
  exact h
theorem e_v1 : v1 m c = (broadcastInDim S64 ![] bcast_S_S64) (cst_1 m c) := by
  have h := un m c 24 rfl (by decide) (by decide)
  exact h
theorem e_v2 : v2 m c = (Host.powf) (v1 m c) (v0 m c) := by
  have h := bin m c 25 rfl (by decide) (by decide) (by decide)
  exact h
theorem e_cst_2 : cst_2 m c = (constant S_ .f32 0x3F800000#32) := by
  have h := nul m c 26 rfl (by decide)
  exact h
theorem e_v3 : v3 m c = (broadcastInDim S64 ![] bcast_S_S64) (cst_2 m c) := by
  have h := un m c 27 rfl (by decide) (by decide)
  exact h
theorem e_v4 : v4 m c = (Host.divf) (v3 m c) (v2 m c) := by
  have h := bin m c 28 rfl (by decide) (by decide) (by decide)
  exact h
theorem e_v5 : v5 m c = (sitofp .f32 (iotaInDim S4096 32 0)) := by
  have h := nul m c 29 rfl (by decide)
  exact h
theorem e_v6 : v6 m c = (broadcastInDim S4096x1 ![0] bcast_S4096_S4096x1_0) (v5 m c) := by
  have h := un m c 30 rfl (by decide) (by decide)
  exact h
theorem e_v7 : v7 m c = (broadcastInDim S1x64 ![1] bcast_S64_S1x64_1) (v4 m c) := by
  have h := un m c 31 rfl (by decide) (by decide)
  exact h
theorem e_v8 : v8 m c = (broadcastInDim S4096x64 ![0, 1] bcast_S4096x1_S4096x64_0_1) (v6 m c) := by
  have h := un m c 32 rfl (by decide) (by decide)
  exact h
theorem e_v9 : v9 m c = (broadcastInDim S4096x64 ![0, 1] bcast_S1x64_S4096x64_0_1) (v7 m c) := by
  have h := un m c 33 rfl (by decide) (by decide)
  exact h
theorem e_v10 : v10 m c = (mulf) (v8 m c) (v9 m c) := by
  have h := bin m c 34 rfl (by decide) (by decide) (by decide)
  exact h
theorem e_v11 : v11 m c = (Host.cos) (v10 m c) := by
  have h := un m c 35 rfl (by decide) (by decide)
  exact h
theorem e_v12 : v12 m c = (broadcastInDim S4096x1x64 ![0, 2] bcast_S4096x64_S4096x1x64_0_2) (v11 m c) := by
  have h := un m c 36 rfl (by decide) (by decide)
  exact h
theorem e_v13 : v13 m c = (Host.sin) (v10 m c) := by
  have h := un m c 37 rfl (by decide) (by decide)
  exact h
theorem e_v14 : v14 m c = (broadcastInDim S4096x1x64 ![0, 2] bcast_S4096x64_S4096x1x64_0_2) (v13 m c) := by
  have h := un m c 38 rfl (by decide) (by decide)
  exact h
theorem e_v15 : v15 m c = (extractStridedSlice S4096x512 ![0, 4608] (arg0 m c) slices_S4096x9728_S4096x512_0_4608) := by
  have h := un m c 39 rfl (by decide) (by decide)
  exact h
theorem e_v16 : v16 m c = shapeCast S4096x4x128 (v15 m c) shapeCasts_S4096x512_S4096x4x128 := by
  have h := res m c 40 rfl (by decide) (by decide)
  exact h
theorem e_v17 : v17 m c = (Host.slice S4096x4x64 ![0, 0, 0] ![1, 1, 2] (v16 m c) slicesBy_S4096x4x128_S4096x4x64_0s1_0s1_0s2) := by
  have h := un m c 41 rfl (by decide) (by decide)
  exact h
theorem e_v18 : v18 m c = (Host.slice S4096x4x64 ![0, 0, 1] ![1, 1, 2] (v16 m c) slicesBy_S4096x4x128_S4096x4x64_0s1_0s1_1s2) := by
  have h := un m c 42 rfl (by decide) (by decide)
  exact h
theorem e_v19 : v19 m c = (broadcastInDim S4096x4x64 ![0, 1, 2] bcast_S4096x1x64_S4096x4x64_0_1_2) (v12 m c) := by
  have h := un m c 43 rfl (by decide) (by decide)
  exact h
theorem e_v20 : v20 m c = (mulf) (v17 m c) (v19 m c) := by
  have h := bin m c 44 rfl (by decide) (by decide) (by decide)
  exact h
theorem e_v21 : v21 m c = (broadcastInDim S4096x4x64 ![0, 1, 2] bcast_S4096x1x64_S4096x4x64_0_1_2) (v14 m c) := by
  have h := un m c 45 rfl (by decide) (by decide)
  exact h
theorem e_v22 : v22 m c = (mulf) (v18 m c) (v21 m c) := by
  have h := bin m c 46 rfl (by decide) (by decide) (by decide)
  exact h
theorem e_v23 : v23 m c = (subf) (v20 m c) (v22 m c) := by
  have h := bin m c 47 rfl (by decide) (by decide) (by decide)
  exact h
theorem e_v24 : v24 m c = (broadcastInDim S4096x4x64 ![0, 1, 2] bcast_S4096x1x64_S4096x4x64_0_1_2) (v12 m c) := by
  have h := un m c 48 rfl (by decide) (by decide)
  exact h
theorem e_v25 : v25 m c = (mulf) (v18 m c) (v24 m c) := by
  have h := bin m c 49 rfl (by decide) (by decide) (by decide)
  exact h
theorem e_v26 : v26 m c = (broadcastInDim S4096x4x64 ![0, 1, 2] bcast_S4096x1x64_S4096x4x64_0_1_2) (v14 m c) := by
  have h := un m c 50 rfl (by decide) (by decide)
  exact h
theorem e_v27 : v27 m c = (mulf) (v17 m c) (v26 m c) := by
  have h := bin m c 51 rfl (by decide) (by decide) (by decide)
  exact h
theorem e_v28 : v28 m c = (addf) (v25 m c) (v27 m c) := by
  have h := bin m c 52 rfl (by decide) (by decide) (by decide)
  exact h
theorem e_v29 : v29 m c = (broadcastInDim S4096x4x64x1 ![0, 1, 2] bcast_S4096x4x64_S4096x4x64x1_0_1_2) (v23 m c) := by
  have h := un m c 53 rfl (by decide) (by decide)
  exact h
theorem e_v30 : v30 m c = (broadcastInDim S4096x4x64x1 ![0, 1, 2] bcast_S4096x4x64_S4096x4x64x1_0_1_2) (v28 m c) := by
  have h := un m c 54 rfl (by decide) (by decide)
  exact h
theorem e_v31 : v31 m c = concatenate S4096x4x64x2 3 [⟨S4096x4x64x1, (v29 m c)⟩, ⟨S4096x4x64x1, (v30 m c)⟩] concatenates_S4096x4x64x1_S4096x4x64x1_S4096x4x64x2_d3 := by
  have h := bin m c 55 rfl (by decide) (by decide) (by decide)
  exact h
theorem e_v32 : v32 m c = (extractStridedSlice S4096x512 ![0, 5120] (arg0 m c) slices_S4096x9728_S4096x512_0_5120) := by
  have h := un m c 56 rfl (by decide) (by decide)
  exact h
theorem e_v33 : v33 m c = shapeCast S4096x4x128 (v32 m c) shapeCasts_S4096x512_S4096x4x128 := by
  have h := res m c 57 rfl (by decide) (by decide)
  exact h
theorem e_v34 : v34 m c = (Host.slice S4096x4x64 ![0, 0, 0] ![1, 1, 2] (v33 m c) slicesBy_S4096x4x128_S4096x4x64_0s1_0s1_0s2) := by
  have h := un m c 58 rfl (by decide) (by decide)
  exact h
theorem e_v35 : v35 m c = (Host.slice S4096x4x64 ![0, 0, 1] ![1, 1, 2] (v33 m c) slicesBy_S4096x4x128_S4096x4x64_0s1_0s1_1s2) := by
  have h := un m c 59 rfl (by decide) (by decide)
  exact h
theorem e_v36 : v36 m c = (broadcastInDim S4096x4x64 ![0, 1, 2] bcast_S4096x1x64_S4096x4x64_0_1_2) (v12 m c) := by
  have h := un m c 60 rfl (by decide) (by decide)
  exact h
theorem e_v37 : v37 m c = (mulf) (v34 m c) (v36 m c) := by
  have h := bin m c 61 rfl (by decide) (by decide) (by decide)
  exact h
theorem e_v38 : v38 m c = (broadcastInDim S4096x4x64 ![0, 1, 2] bcast_S4096x1x64_S4096x4x64_0_1_2) (v14 m c) := by
  have h := un m c 62 rfl (by decide) (by decide)
  exact h
theorem e_v39 : v39 m c = (mulf) (v35 m c) (v38 m c) := by
  have h := bin m c 63 rfl (by decide) (by decide) (by decide)
  exact h
theorem e_v40 : v40 m c = (subf) (v37 m c) (v39 m c) := by
  have h := bin m c 64 rfl (by decide) (by decide) (by decide)
  exact h
theorem e_v41 : v41 m c = (broadcastInDim S4096x4x64 ![0, 1, 2] bcast_S4096x1x64_S4096x4x64_0_1_2) (v12 m c) := by
  have h := un m c 65 rfl (by decide) (by decide)
  exact h
theorem e_v42 : v42 m c = (mulf) (v35 m c) (v41 m c) := by
  have h := bin m c 66 rfl (by decide) (by decide) (by decide)
  exact h
theorem e_v43 : v43 m c = (broadcastInDim S4096x4x64 ![0, 1, 2] bcast_S4096x1x64_S4096x4x64_0_1_2) (v14 m c) := by
  have h := un m c 67 rfl (by decide) (by decide)
  exact h
theorem e_v44 : v44 m c = (mulf) (v34 m c) (v43 m c) := by
  have h := bin m c 68 rfl (by decide) (by decide) (by decide)
  exact h
theorem e_v45 : v45 m c = (addf) (v42 m c) (v44 m c) := by
  have h := bin m c 69 rfl (by decide) (by decide) (by decide)
  exact h
theorem e_v46 : v46 m c = (broadcastInDim S4096x4x64x1 ![0, 1, 2] bcast_S4096x4x64_S4096x4x64x1_0_1_2) (v40 m c) := by
  have h := un m c 70 rfl (by decide) (by decide)
  exact h
theorem e_v47 : v47 m c = (broadcastInDim S4096x4x64x1 ![0, 1, 2] bcast_S4096x4x64_S4096x4x64x1_0_1_2) (v45 m c) := by
  have h := un m c 71 rfl (by decide) (by decide)
  exact h
theorem e_v48 : v48 m c = concatenate S4096x4x64x2 3 [⟨S4096x4x64x1, (v46 m c)⟩, ⟨S4096x4x64x1, (v47 m c)⟩] concatenates_S4096x4x64x1_S4096x4x64x1_S4096x4x64x2_d3 := by
  have h := bin m c 72 rfl (by decide) (by decide) (by decide)
  exact h
theorem e_cst_3 : cst_3 m c = (constant S_ .f32 0x3DB504F3#32) := by
  have h := nul m c 73 rfl (by decide)
  exact h
theorem e_v49 : v49 m c = (broadcastInDim S4096x4x64x2 ![] bcast_S_S4096x4x64x2) (cst_3 m c) := by
  have h := un m c 74 rfl (by decide) (by decide)
  exact h
theorem e_v50 : v50 m c = (mulf) (v48 m c) (v49 m c) := by
  have h := bin m c 75 rfl (by decide) (by decide) (by decide)
  exact h
theorem e_v51 : v51 m c = (extractStridedSlice S4096x1024 ![0, 5632] (arg0 m c) slices_S4096x9728_S4096x1024_0_5632) := by
  have h := un m c 76 rfl (by decide) (by decide)
  exact h
theorem e_v52 : v52 m c = shapeCast S4096x4x256 (v51 m c) shapeCasts_S4096x1024_S4096x4x256 := by
  have h := res m c 77 rfl (by decide) (by decide)
  exact h
theorem e_v53 : v53 m c = shapeCast S32x128x4x64x2 (v31 m c) shapeCasts_S4096x4x64x2_S32x128x4x64x2 := by
  have h := res m c 78 rfl (by decide) (by decide)
  exact h
theorem e_v54 : v54 m c = shapeCast S32x128x4x64x2 (v50 m c) shapeCasts_S4096x4x64x2_S32x128x4x64x2 := by
  have h := res m c 79 rfl (by decide) (by decide)
  exact h
theorem e_v55 : v55 m c = shapeCast S32x128x4x256 (v52 m c) shapeCasts_S4096x4x256_S32x128x4x256 := by
  have h := res m c 80 rfl (by decide) (by decide)
  exact h
theorem e_v56 : v56 m c = (sitofp .f32 (iotaInDim S4 32 0)) := by
  have h := nul m c 81 rfl (by decide)
  exact h
theorem e_cst_4 : cst_4 m c = (constant S_ .f32 0xC0A00000#32) := by
  have h := nul m c 82 rfl (by decide)
  exact h
theorem e_v57 : v57 m c = (broadcastInDim S4 ![] bcast_S_S4) (cst_4 m c) := by
  have h := un m c 83 rfl (by decide) (by decide)
  exact h
theorem e_v58 : v58 m c = (subf) (v57 m c) (v56 m c) := by
  have h := bin m c 84 rfl (by decide) (by decide) (by decide)
  exact h
theorem e_cst_5 : cst_5 m c = (constant S_ .f32 0x40000000#32) := by
  have h := nul m c 85 rfl (by decide)
  exact h
theorem e_v59 : v59 m c = (broadcastInDim S4 ![] bcast_S_S4) (cst_5 m c) := by
  have h := un m c 86 rfl (by decide) (by decide)
  exact h
theorem e_v60 : v60 m c = (Host.powf) (v59 m c) (v58 m c) := by
  have h := bin m c 87 rfl (by decide) (by decide) (by decide)
  exact h
theorem e_v61 : v61 m c = (Host.negf) (v60 m c) := by
  have h := un m c 88 rfl (by decide) (by decide)
  exact h
theorem e_v62 : v62 m c = (Host.log1p) (v61 m c) := by
  have h := un m c 89 rfl (by decide) (by decide)
  exact h
theorem e_v63 : v63 m c = (sitofp .f32 (iotaInDim S128 32 0)) := by
  have h := nul m c 90 rfl (by decide)
  exact h
theorem e_v64 : v64 m c = (broadcastInDim S128x1 ![0] bcast_S128_S128x1_0) (v63 m c) := by
  have h := un m c 91 rfl (by decide) (by decide)
  exact h
theorem e_v65 : v65 m c = (broadcastInDim S1x128 ![1] bcast_S128_S1x128_1) (v63 m c) := by
  have h := un m c 92 rfl (by decide) (by decide)
  exact h
theorem e_v66 : v66 m c = (broadcastInDim S128x128 ![0, 1] bcast_S128x1_S128x128_0_1) (v64 m c) := by
  have h := un m c 93 rfl (by decide) (by decide)
  exact h
theorem e_v67 : v67 m c = (broadcastInDim S128x128 ![0, 1] bcast_S1x128_S128x128_0_1) (v65 m c) := by
  have h := un m c 94 rfl (by decide) (by decide)
  exact h
theorem e_v68 : v68 m c = (subf) (v66 m c) (v67 m c) := by
  have h := bin m c 95 rfl (by decide) (by decide) (by decide)
  exact h
theorem e_v69 : v69 m c = (broadcastInDim S1x128x128 ![1, 2] bcast_S128x128_S1x128x128_1_2) (v68 m c) := by
  have h := un m c 96 rfl (by decide) (by decide)
  exact h
theorem e_cst_6 : cst_6 m c = (constant S_ .f32 0x00000000#32) := by
  have h := nul m c 97 rfl (by decide)
  exact h
theorem e_v70 : v70 m c = (broadcastInDim S1x128x128 ![] bcast_S_S1x128x128) (cst_6 m c) := by
  have h := un m c 98 rfl (by decide) (by decide)
  exact h
theorem e_v71 : v71 m c = (cmpf .oge) (v69 m c) (v70 m c) := by
  have h := bin m c 99 rfl (by decide) (by decide) (by decide)
  exact h
theorem e_cst_7 : cst_7 m c = (constant S_ .f32 0x00000000#32) := by
  have h := nul m c 100 rfl (by decide)
  exact h
theorem e_v72 : v72 m c = (broadcastInDim S128x128 ![] bcast_S_S128x128) (cst_7 m c) := by
  have h := un m c 101 rfl (by decide) (by decide)
  exact h
theorem e_v73 : v73 m c = (maximumf) (v68 m c) (v72 m c) := by
  have h := bin m c 102 rfl (by decide) (by decide) (by decide)
  exact h
theorem e_v74 : v74 m c = (broadcastInDim S1x128x128 ![1, 2] bcast_S128x128_S1x128x128_1_2) (v73 m c) := by
  have h := un m c 103 rfl (by decide) (by decide)
  exact h
theorem e_v75 : v75 m c = (broadcastInDim S4x1x1 ![0] bcast_S4_S4x1x1_0) (v62 m c) := by
  have h := un m c 104 rfl (by decide) (by decide)
  exact h
theorem e_v76 : v76 m c = (broadcastInDim S4x128x128 ![0, 1, 2] bcast_S1x128x128_S4x128x128_0_1_2) (v74 m c) := by
  have h := un m c 105 rfl (by decide) (by decide)
  exact h
theorem e_v77 : v77 m c = (broadcastInDim S4x128x128 ![0, 1, 2] bcast_S4x1x1_S4x128x128_0_1_2) (v75 m c) := by
  have h := un m c 106 rfl (by decide) (by decide)
  exact h
theorem e_v78 : v78 m c = (mulf) (v76 m c) (v77 m c) := by
  have h := bin m c 107 rfl (by decide) (by decide) (by decide)
  exact h
theorem e_v79 : v79 m c = (Host.exp) (v78 m c) := by
  have h := un m c 108 rfl (by decide) (by decide)
  exact h
theorem e_cst_8 : cst_8 m c = (constant S_ .f32 0x00000000#32) := by
  have h := nul m c 109 rfl (by decide)
  exact h
theorem e_call1_v0 : call1_v0 m c = (cst_8 m c) := by
  have h := un m c 110 rfl (by decide) (by decide)
  exact h
theorem e_call1_v1 : call1_v1 m c = (broadcastInDim S4x128x128 ![0, 1, 2] bcast_S1x128x128_S4x128x128_0_1_2) (v71 m c) := by
  have h := un m c 111 rfl (by decide) (by decide)
  exact h
theorem e_call1_v2 : call1_v2 m c = (broadcastInDim S4x128x128 ![] bcast_S_S4x128x128) (call1_v0 m c) := by
  have h := un m c 112 rfl (by decide) (by decide)
  exact h
theorem e_v80 : v80 m c = select (call1_v1 m c) (v79 m c) (call1_v2 m c) := by
  have h := tter m c (.of main_call1_v1 : TRef sig ⟨S4x128x128, .i1⟩) (.of main_v79 : TRef sig ⟨S4x128x128, .f32⟩) (.of main_call1_v2 : TRef sig ⟨S4x128x128, .f32⟩) (.of main_v80 : TRef sig ⟨S4x128x128, .f32⟩) (fun (u : BufTy.Contents (Elt Ideal) ⟨S4x128x128, .i1⟩) (v : FVec Ideal S4x128x128 .f32) (w : FVec Ideal S4x128x128 .f32) => select u v w : (⟨S4x128x128, .i1⟩ : BufTy).Contents (Elt Ideal) → (⟨S4x128x128, .f32⟩ : BufTy).Contents (Elt Ideal) → (⟨S4x128x128, .f32⟩ : BufTy).Contents (Elt Ideal) → (⟨S4x128x128, .f32⟩ : BufTy).Contents (Elt Ideal)) 113 rfl (by decide) (by decide) (by decide) (by decide)
  exact h
theorem e_v81 : v81 m c = Host.dotGeneral dot_S32x128x4x64x2_S32x128x4x64x2_S32x4x128x128_34_34_1_1_02_02 none (v53 m c) (v54 m c) := by
  have h := bin m c 114 rfl (by decide) (by decide) (by decide)
  exact h

end Cert.Proof.RetHost

end
-- ==== Proof.RetHostEB.lean ====
/-
  The retention kernel's host operations as equations between buffers, part 2.
-/
module

public import proofs.«01_k».proof.Proof.RetHostD

@[expose] public section

set_option maxRecDepth 16384

noncomputable section

namespace Cert.Proof.RetHost

open Cert.RetKernelIdeal Cert.RetKernelIdeal.Gen Idealize.ShloMosaic Idealize.ShloMosaic.TcCoe Idealize.ShloMosaic.StableHlo Idealize.SL.Sem Cert.Proof.Ret
open Cert.Proof.Grad (coe_sum div_coe_coe rsqrt_of_pos ofBits_eps ofBits_half ofBits_neg_half eps eps_pos sg)
open scoped BigOperators

variable (m : (ℓ : Loc nD τ sig) → Buf (Elt Ideal) ℓ) (c : Dev nD)

theorem e_v82 : v82 m c = (broadcastInDim S1x4x128x128 ![1, 2, 3] bcast_S4x128x128_S1x4x128x128_1_2_3) (v80 m c) := by
  have h := un m c 115 rfl (by decide) (by decide)
  exact h
theorem e_v83 : v83 m c = (broadcastInDim S32x4x128x128 ![0, 1, 2, 3] bcast_S1x4x128x128_S32x4x128x128_0_1_2_3) (v82 m c) := by
  have h := un m c 116 rfl (by decide) (by decide)
  exact h
theorem e_v84 : v84 m c = (mulf) (v81 m c) (v83 m c) := by
  have h := bin m c 117 rfl (by decide) (by decide) (by decide)
  exact h
theorem e_v85 : v85 m c = Host.dotGeneral dot_S32x4x128x128_S32x128x4x256_S32x4x128x256_3_1_2_3_01_02 none (v84 m c) (v55 m c) := by
  have h := bin m c 118 rfl (by decide) (by decide) (by decide)
  exact h
theorem e_cst_9 : cst_9 m c = (constant S_ .f32 0x42FE0000#32) := by
  have h := nul m c 119 rfl (by decide)
  exact h
theorem e_v86 : v86 m c = (broadcastInDim S128 ![] bcast_S_S128) (cst_9 m c) := by
  have h := un m c 120 rfl (by decide) (by decide)
  exact h
theorem e_v87 : v87 m c = (subf) (v86 m c) (v63 m c) := by
  have h := bin m c 121 rfl (by decide) (by decide) (by decide)
  exact h
theorem e_v88 : v88 m c = (broadcastInDim S128x1 ![0] bcast_S128_S128x1_0) (v87 m c) := by
  have h := un m c 122 rfl (by decide) (by decide)
  exact h
theorem e_v89 : v89 m c = (broadcastInDim S1x4 ![1] bcast_S4_S1x4_1) (v62 m c) := by
  have h := un m c 123 rfl (by decide) (by decide)
  exact h
theorem e_v90 : v90 m c = (broadcastInDim S128x4 ![0, 1] bcast_S128x1_S128x4_0_1) (v88 m c) := by
  have h := un m c 124 rfl (by decide) (by decide)
  exact h
theorem e_v91 : v91 m c = (broadcastInDim S128x4 ![0, 1] bcast_S1x4_S128x4_0_1) (v89 m c) := by
  have h := un m c 125 rfl (by decide) (by decide)
  exact h
theorem e_v92 : v92 m c = (mulf) (v90 m c) (v91 m c) := by
  have h := bin m c 126 rfl (by decide) (by decide) (by decide)
  exact h
theorem e_v93 : v93 m c = (Host.exp) (v92 m c) := by
  have h := un m c 127 rfl (by decide) (by decide)
  exact h
theorem e_cst_10 : cst_10 m c = (constant S_ .f32 0x3F800000#32) := by
  have h := nul m c 128 rfl (by decide)
  exact h
theorem e_v94 : v94 m c = (broadcastInDim S128 ![] bcast_S_S128) (cst_10 m c) := by
  have h := un m c 129 rfl (by decide) (by decide)
  exact h
theorem e_v95 : v95 m c = (addf) (v63 m c) (v94 m c) := by
  have h := bin m c 130 rfl (by decide) (by decide) (by decide)
  exact h
theorem e_v96 : v96 m c = (broadcastInDim S128x1 ![0] bcast_S128_S128x1_0) (v95 m c) := by
  have h := un m c 131 rfl (by decide) (by decide)
  exact h
theorem e_v97 : v97 m c = (broadcastInDim S1x4 ![1] bcast_S4_S1x4_1) (v62 m c) := by
  have h := un m c 132 rfl (by decide) (by decide)
  exact h
theorem e_v98 : v98 m c = (broadcastInDim S128x4 ![0, 1] bcast_S128x1_S128x4_0_1) (v96 m c) := by
  have h := un m c 133 rfl (by decide) (by decide)
  exact h
theorem e_v99 : v99 m c = (broadcastInDim S128x4 ![0, 1] bcast_S1x4_S128x4_0_1) (v97 m c) := by
  have h := un m c 134 rfl (by decide) (by decide)
  exact h
theorem e_v100 : v100 m c = (mulf) (v98 m c) (v99 m c) := by
  have h := bin m c 135 rfl (by decide) (by decide) (by decide)
  exact h
theorem e_v101 : v101 m c = (Host.exp) (v100 m c) := by
  have h := un m c 136 rfl (by decide) (by decide)
  exact h
theorem e_v102 : v102 m c = (broadcastInDim S1x128x4x1x1 ![1, 2] bcast_S128x4_S1x128x4x1x1_1_2) (v93 m c) := by
  have h := un m c 137 rfl (by decide) (by decide)
  exact h
theorem e_v103 : v103 m c = (broadcastInDim S32x128x4x64x2 ![0, 1, 2, 3, 4] bcast_S1x128x4x1x1_S32x128x4x64x2_0_1_2_3_4) (v102 m c) := by
  have h := un m c 138 rfl (by decide) (by decide)
  exact h
theorem e_v104 : v104 m c = (mulf) (v54 m c) (v103 m c) := by
  have h := bin m c 139 rfl (by decide) (by decide) (by decide)
  exact h
theorem e_v105 : v105 m c = Host.dotGeneral dot_S32x128x4x64x2_S32x128x4x256_S32x4x64x2x256_1_1_34_3_02_02 none (v104 m c) (v55 m c) := by
  have h := bin m c 140 rfl (by decide) (by decide) (by decide)
  exact h
theorem e_cst_11 : cst_11 m c = (constant S_ .f32 0x43000000#32) := by
  have h := nul m c 141 rfl (by decide)
  exact h
theorem e_v106 : v106 m c = (broadcastInDim S4 ![] bcast_S_S4) (cst_11 m c) := by
  have h := un m c 142 rfl (by decide) (by decide)
  exact h
theorem e_v107 : v107 m c = (mulf) (v106 m c) (v62 m c) := by
  have h := bin m c 143 rfl (by decide) (by decide) (by decide)
  exact h
theorem e_v108 : v108 m c = (Host.exp) (v107 m c) := by
  have h := un m c 144 rfl (by decide) (by decide)
  exact h
theorem e_v109 : v109 m c = (broadcastInDim S1x4x1x1x1 ![1] bcast_S4_S1x4x1x1x1_1) (v108 m c) := by
  have h := un m c 145 rfl (by decide) (by decide)
  exact h
theorem e_v110 : v110 m c = (broadcastInDim S1x4x64x2x256 ![0, 1, 2, 3, 4] bcast_S1x4x1x1x1_S1x4x64x2x256_0_1_2_3_4) (v109 m c) := by
  have h := un m c 146 rfl (by decide) (by decide)
  exact h
theorem e_cst_12 : cst_12 m c = (constant S_ .f32 0x00000000#32) := by
  have h := nul m c 147 rfl (by decide)
  exact h
theorem e_v111 : v111 m c = (broadcastInDim S1x4x64x2x256 ![] bcast_S_S1x4x64x2x256) (cst_12 m c) := by
  have h := un m c 148 rfl (by decide) (by decide)
  exact h
theorem e_v112 : v112 m c = (mulf) (v111 m c) (v110 m c) := by
  have h := bin m c 149 rfl (by decide) (by decide) (by decide)
  exact h
theorem e_v113 : v113 m c = (extractStridedSlice S1x4x64x2x256 ![0, 0, 0, 0, 0] (v105 m c) slices_S32x4x64x2x256_S1x4x64x2x256_0_0_0_0_0) := by
  have h := un m c 150 rfl (by decide) (by decide)
  exact h
theorem e_v114 : v114 m c = (addf) (v112 m c) (v113 m c) := by
  have h := bin m c 151 rfl (by decide) (by decide) (by decide)
  exact h
theorem e_v115 : v115 m c = (mulf) (v114 m c) (v110 m c) := by
  have h := bin m c 152 rfl (by decide) (by decide) (by decide)
  exact h
theorem e_v116 : v116 m c = (extractStridedSlice S1x4x64x2x256 ![1, 0, 0, 0, 0] (v105 m c) slices_S32x4x64x2x256_S1x4x64x2x256_1_0_0_0_0) := by
  have h := un m c 153 rfl (by decide) (by decide)
  exact h
theorem e_v117 : v117 m c = (addf) (v115 m c) (v116 m c) := by
  have h := bin m c 154 rfl (by decide) (by decide) (by decide)
  exact h
theorem e_v118 : v118 m c = (mulf) (v117 m c) (v110 m c) := by
  have h := bin m c 155 rfl (by decide) (by decide) (by decide)
  exact h
theorem e_v119 : v119 m c = (extractStridedSlice S1x4x64x2x256 ![2, 0, 0, 0, 0] (v105 m c) slices_S32x4x64x2x256_S1x4x64x2x256_2_0_0_0_0) := by
  have h := un m c 156 rfl (by decide) (by decide)
  exact h
theorem e_v120 : v120 m c = (addf) (v118 m c) (v119 m c) := by
  have h := bin m c 157 rfl (by decide) (by decide) (by decide)
  exact h
theorem e_v121 : v121 m c = (mulf) (v120 m c) (v110 m c) := by
  have h := bin m c 158 rfl (by decide) (by decide) (by decide)
  exact h
theorem e_v122 : v122 m c = (extractStridedSlice S1x4x64x2x256 ![3, 0, 0, 0, 0] (v105 m c) slices_S32x4x64x2x256_S1x4x64x2x256_3_0_0_0_0) := by
  have h := un m c 159 rfl (by decide) (by decide)
  exact h
theorem e_v123 : v123 m c = (addf) (v121 m c) (v122 m c) := by
  have h := bin m c 160 rfl (by decide) (by decide) (by decide)
  exact h
theorem e_v124 : v124 m c = (mulf) (v123 m c) (v110 m c) := by
  have h := bin m c 161 rfl (by decide) (by decide) (by decide)
  exact h
theorem e_v125 : v125 m c = (extractStridedSlice S1x4x64x2x256 ![4, 0, 0, 0, 0] (v105 m c) slices_S32x4x64x2x256_S1x4x64x2x256_4_0_0_0_0) := by
  have h := un m c 162 rfl (by decide) (by decide)
  exact h
theorem e_v126 : v126 m c = (addf) (v124 m c) (v125 m c) := by
  have h := bin m c 163 rfl (by decide) (by decide) (by decide)
  exact h
theorem e_v127 : v127 m c = (mulf) (v126 m c) (v110 m c) := by
  have h := bin m c 164 rfl (by decide) (by decide) (by decide)
  exact h
theorem e_v128 : v128 m c = (extractStridedSlice S1x4x64x2x256 ![5, 0, 0, 0, 0] (v105 m c) slices_S32x4x64x2x256_S1x4x64x2x256_5_0_0_0_0) := by
  have h := un m c 165 rfl (by decide) (by decide)
  exact h
theorem e_v129 : v129 m c = (addf) (v127 m c) (v128 m c) := by
  have h := bin m c 166 rfl (by decide) (by decide) (by decide)
  exact h
theorem e_v130 : v130 m c = (mulf) (v129 m c) (v110 m c) := by
  have h := bin m c 167 rfl (by decide) (by decide) (by decide)
  exact h
theorem e_v131 : v131 m c = (extractStridedSlice S1x4x64x2x256 ![6, 0, 0, 0, 0] (v105 m c) slices_S32x4x64x2x256_S1x4x64x2x256_6_0_0_0_0) := by
  have h := un m c 168 rfl (by decide) (by decide)
  exact h
theorem e_v132 : v132 m c = (addf) (v130 m c) (v131 m c) := by
  have h := bin m c 169 rfl (by decide) (by decide) (by decide)
  exact h
theorem e_v133 : v133 m c = (mulf) (v132 m c) (v110 m c) := by
  have h := bin m c 170 rfl (by decide) (by decide) (by decide)
  exact h
theorem e_v134 : v134 m c = (extractStridedSlice S1x4x64x2x256 ![7, 0, 0, 0, 0] (v105 m c) slices_S32x4x64x2x256_S1x4x64x2x256_7_0_0_0_0) := by
  have h := un m c 171 rfl (by decide) (by decide)
  exact h
theorem e_v135 : v135 m c = (addf) (v133 m c) (v134 m c) := by
  have h := bin m c 172 rfl (by decide) (by decide) (by decide)
  exact h
theorem e_v136 : v136 m c = (mulf) (v135 m c) (v110 m c) := by
  have h := bin m c 173 rfl (by decide) (by decide) (by decide)
  exact h
theorem e_v137 : v137 m c = (extractStridedSlice S1x4x64x2x256 ![8, 0, 0, 0, 0] (v105 m c) slices_S32x4x64x2x256_S1x4x64x2x256_8_0_0_0_0) := by
  have h := un m c 174 rfl (by decide) (by decide)
  exact h
theorem e_v138 : v138 m c = (addf) (v136 m c) (v137 m c) := by
  have h := bin m c 175 rfl (by decide) (by decide) (by decide)
  exact h
theorem e_v139 : v139 m c = (mulf) (v138 m c) (v110 m c) := by
  have h := bin m c 176 rfl (by decide) (by decide) (by decide)
  exact h
theorem e_v140 : v140 m c = (extractStridedSlice S1x4x64x2x256 ![9, 0, 0, 0, 0] (v105 m c) slices_S32x4x64x2x256_S1x4x64x2x256_9_0_0_0_0) := by
  have h := un m c 177 rfl (by decide) (by decide)
  exact h
theorem e_v141 : v141 m c = (addf) (v139 m c) (v140 m c) := by
  have h := bin m c 178 rfl (by decide) (by decide) (by decide)
  exact h
theorem e_v142 : v142 m c = (mulf) (v141 m c) (v110 m c) := by
  have h := bin m c 179 rfl (by decide) (by decide) (by decide)
  exact h
theorem e_v143 : v143 m c = (extractStridedSlice S1x4x64x2x256 ![10, 0, 0, 0, 0] (v105 m c) slices_S32x4x64x2x256_S1x4x64x2x256_10_0_0_0_0) := by
  have h := un m c 180 rfl (by decide) (by decide)
  exact h
theorem e_v144 : v144 m c = (addf) (v142 m c) (v143 m c) := by
  have h := bin m c 181 rfl (by decide) (by decide) (by decide)
  exact h
theorem e_v145 : v145 m c = (mulf) (v144 m c) (v110 m c) := by
  have h := bin m c 182 rfl (by decide) (by decide) (by decide)
  exact h
theorem e_v146 : v146 m c = (extractStridedSlice S1x4x64x2x256 ![11, 0, 0, 0, 0] (v105 m c) slices_S32x4x64x2x256_S1x4x64x2x256_11_0_0_0_0) := by
  have h := un m c 183 rfl (by decide) (by decide)
  exact h
theorem e_v147 : v147 m c = (addf) (v145 m c) (v146 m c) := by
  have h := bin m c 184 rfl (by decide) (by decide) (by decide)
  exact h
theorem e_v148 : v148 m c = (mulf) (v147 m c) (v110 m c) := by
  have h := bin m c 185 rfl (by decide) (by decide) (by decide)
  exact h
theorem e_v149 : v149 m c = (extractStridedSlice S1x4x64x2x256 ![12, 0, 0, 0, 0] (v105 m c) slices_S32x4x64x2x256_S1x4x64x2x256_12_0_0_0_0) := by
  have h := un m c 186 rfl (by decide) (by decide)
  exact h
theorem e_v150 : v150 m c = (addf) (v148 m c) (v149 m c) := by
  have h := bin m c 187 rfl (by decide) (by decide) (by decide)
  exact h
theorem e_v151 : v151 m c = (mulf) (v150 m c) (v110 m c) := by
  have h := bin m c 188 rfl (by decide) (by decide) (by decide)
  exact h
theorem e_v152 : v152 m c = (extractStridedSlice S1x4x64x2x256 ![13, 0, 0, 0, 0] (v105 m c) slices_S32x4x64x2x256_S1x4x64x2x256_13_0_0_0_0) := by
  have h := un m c 189 rfl (by decide) (by decide)
  exact h
theorem e_v153 : v153 m c = (addf) (v151 m c) (v152 m c) := by
  have h := bin m c 190 rfl (by decide) (by decide) (by decide)
  exact h
theorem e_v154 : v154 m c = (mulf) (v153 m c) (v110 m c) := by
  have h := bin m c 191 rfl (by decide) (by decide) (by decide)
  exact h
theorem e_v155 : v155 m c = (extractStridedSlice S1x4x64x2x256 ![14, 0, 0, 0, 0] (v105 m c) slices_S32x4x64x2x256_S1x4x64x2x256_14_0_0_0_0) := by
  have h := un m c 192 rfl (by decide) (by decide)
  exact h
theorem e_v156 : v156 m c = (addf) (v154 m c) (v155 m c) := by
  have h := bin m c 193 rfl (by decide) (by decide) (by decide)
  exact h
theorem e_v157 : v157 m c = (mulf) (v156 m c) (v110 m c) := by
  have h := bin m c 194 rfl (by decide) (by decide) (by decide)
  exact h
theorem e_v158 : v158 m c = (extractStridedSlice S1x4x64x2x256 ![15, 0, 0, 0, 0] (v105 m c) slices_S32x4x64x2x256_S1x4x64x2x256_15_0_0_0_0) := by
  have h := un m c 195 rfl (by decide) (by decide)
  exact h
theorem e_v159 : v159 m c = (addf) (v157 m c) (v158 m c) := by
  have h := bin m c 196 rfl (by decide) (by decide) (by decide)
  exact h
theorem e_v160 : v160 m c = (mulf) (v159 m c) (v110 m c) := by
  have h := bin m c 197 rfl (by decide) (by decide) (by decide)
  exact h
theorem e_v161 : v161 m c = (extractStridedSlice S1x4x64x2x256 ![16, 0, 0, 0, 0] (v105 m c) slices_S32x4x64x2x256_S1x4x64x2x256_16_0_0_0_0) := by
  have h := un m c 198 rfl (by decide) (by decide)
  exact h
theorem e_v162 : v162 m c = (addf) (v160 m c) (v161 m c) := by
  have h := bin m c 199 rfl (by decide) (by decide) (by decide)
  exact h
theorem e_v163 : v163 m c = (mulf) (v162 m c) (v110 m c) := by
  have h := bin m c 200 rfl (by decide) (by decide) (by decide)
  exact h
theorem e_v164 : v164 m c = (extractStridedSlice S1x4x64x2x256 ![17, 0, 0, 0, 0] (v105 m c) slices_S32x4x64x2x256_S1x4x64x2x256_17_0_0_0_0) := by
  have h := un m c 201 rfl (by decide) (by decide)
  exact h
theorem e_v165 : v165 m c = (addf) (v163 m c) (v164 m c) := by
  have h := bin m c 202 rfl (by decide) (by decide) (by decide)
  exact h
theorem e_v166 : v166 m c = (mulf) (v165 m c) (v110 m c) := by
  have h := bin m c 203 rfl (by decide) (by decide) (by decide)
  exact h
theorem e_v167 : v167 m c = (extractStridedSlice S1x4x64x2x256 ![18, 0, 0, 0, 0] (v105 m c) slices_S32x4x64x2x256_S1x4x64x2x256_18_0_0_0_0) := by
  have h := un m c 204 rfl (by decide) (by decide)
  exact h
theorem e_v168 : v168 m c = (addf) (v166 m c) (v167 m c) := by
  have h := bin m c 205 rfl (by decide) (by decide) (by decide)
  exact h
theorem e_v169 : v169 m c = (mulf) (v168 m c) (v110 m c) := by
  have h := bin m c 206 rfl (by decide) (by decide) (by decide)
  exact h
theorem e_v170 : v170 m c = (extractStridedSlice S1x4x64x2x256 ![19, 0, 0, 0, 0] (v105 m c) slices_S32x4x64x2x256_S1x4x64x2x256_19_0_0_0_0) := by
  have h := un m c 207 rfl (by decide) (by decide)
  exact h
theorem e_v171 : v171 m c = (addf) (v169 m c) (v170 m c) := by
  have h := bin m c 208 rfl (by decide) (by decide) (by decide)
  exact h
theorem e_v172 : v172 m c = (mulf) (v171 m c) (v110 m c) := by
  have h := bin m c 209 rfl (by decide) (by decide) (by decide)
  exact h
theorem e_v173 : v173 m c = (extractStridedSlice S1x4x64x2x256 ![20, 0, 0, 0, 0] (v105 m c) slices_S32x4x64x2x256_S1x4x64x2x256_20_0_0_0_0) := by
  have h := un m c 210 rfl (by decide) (by decide)
  exact h
theorem e_v174 : v174 m c = (addf) (v172 m c) (v173 m c) := by
  have h := bin m c 211 rfl (by decide) (by decide) (by decide)
  exact h
theorem e_v175 : v175 m c = (mulf) (v174 m c) (v110 m c) := by
  have h := bin m c 212 rfl (by decide) (by decide) (by decide)
  exact h
theorem e_v176 : v176 m c = (extractStridedSlice S1x4x64x2x256 ![21, 0, 0, 0, 0] (v105 m c) slices_S32x4x64x2x256_S1x4x64x2x256_21_0_0_0_0) := by
  have h := un m c 213 rfl (by decide) (by decide)
  exact h
theorem e_v177 : v177 m c = (addf) (v175 m c) (v176 m c) := by
  have h := bin m c 214 rfl (by decide) (by decide) (by decide)
  exact h
theorem e_v178 : v178 m c = (mulf) (v177 m c) (v110 m c) := by
  have h := bin m c 215 rfl (by decide) (by decide) (by decide)
  exact h
theorem e_v179 : v179 m c = (extractStridedSlice S1x4x64x2x256 ![22, 0, 0, 0, 0] (v105 m c) slices_S32x4x64x2x256_S1x4x64x2x256_22_0_0_0_0) := by
  have h := un m c 216 rfl (by decide) (by decide)
  exact h
theorem e_v180 : v180 m c = (addf) (v178 m c) (v179 m c) := by
  have h := bin m c 217 rfl (by decide) (by decide) (by decide)
  exact h
theorem e_v181 : v181 m c = (mulf) (v180 m c) (v110 m c) := by
  have h := bin m c 218 rfl (by decide) (by decide) (by decide)
  exact h
theorem e_v182 : v182 m c = (extractStridedSlice S1x4x64x2x256 ![23, 0, 0, 0, 0] (v105 m c) slices_S32x4x64x2x256_S1x4x64x2x256_23_0_0_0_0) := by
  have h := un m c 219 rfl (by decide) (by decide)
  exact h
theorem e_v183 : v183 m c = (addf) (v181 m c) (v182 m c) := by
  have h := bin m c 220 rfl (by decide) (by decide) (by decide)
  exact h
theorem e_v184 : v184 m c = (mulf) (v183 m c) (v110 m c) := by
  have h := bin m c 221 rfl (by decide) (by decide) (by decide)
  exact h
theorem e_v185 : v185 m c = (extractStridedSlice S1x4x64x2x256 ![24, 0, 0, 0, 0] (v105 m c) slices_S32x4x64x2x256_S1x4x64x2x256_24_0_0_0_0) := by
  have h := un m c 222 rfl (by decide) (by decide)
  exact h
theorem e_v186 : v186 m c = (addf) (v184 m c) (v185 m c) := by
  have h := bin m c 223 rfl (by decide) (by decide) (by decide)
  exact h
theorem e_v187 : v187 m c = (mulf) (v186 m c) (v110 m c) := by
  have h := bin m c 224 rfl (by decide) (by decide) (by decide)
  exact h
theorem e_v188 : v188 m c = (extractStridedSlice S1x4x64x2x256 ![25, 0, 0, 0, 0] (v105 m c) slices_S32x4x64x2x256_S1x4x64x2x256_25_0_0_0_0) := by
  have h := un m c 225 rfl (by decide) (by decide)
  exact h
theorem e_v189 : v189 m c = (addf) (v187 m c) (v188 m c) := by
  have h := bin m c 226 rfl (by decide) (by decide) (by decide)
  exact h
theorem e_v190 : v190 m c = (mulf) (v189 m c) (v110 m c) := by
  have h := bin m c 227 rfl (by decide) (by decide) (by decide)
  exact h
theorem e_v191 : v191 m c = (extractStridedSlice S1x4x64x2x256 ![26, 0, 0, 0, 0] (v105 m c) slices_S32x4x64x2x256_S1x4x64x2x256_26_0_0_0_0) := by
  have h := un m c 228 rfl (by decide) (by decide)
  exact h
theorem e_v192 : v192 m c = (addf) (v190 m c) (v191 m c) := by
  have h := bin m c 229 rfl (by decide) (by decide) (by decide)
  exact h
theorem e_v193 : v193 m c = (mulf) (v192 m c) (v110 m c) := by
  have h := bin m c 230 rfl (by decide) (by decide) (by decide)
  exact h
theorem e_v194 : v194 m c = (extractStridedSlice S1x4x64x2x256 ![27, 0, 0, 0, 0] (v105 m c) slices_S32x4x64x2x256_S1x4x64x2x256_27_0_0_0_0) := by
  have h := un m c 231 rfl (by decide) (by decide)
  exact h
theorem e_v195 : v195 m c = (addf) (v193 m c) (v194 m c) := by
  have h := bin m c 232 rfl (by decide) (by decide) (by decide)
  exact h
theorem e_v196 : v196 m c = (mulf) (v195 m c) (v110 m c) := by
  have h := bin m c 233 rfl (by decide) (by decide) (by decide)
  exact h
theorem e_v197 : v197 m c = (extractStridedSlice S1x4x64x2x256 ![28, 0, 0, 0, 0] (v105 m c) slices_S32x4x64x2x256_S1x4x64x2x256_28_0_0_0_0) := by
  have h := un m c 234 rfl (by decide) (by decide)
  exact h
theorem e_v198 : v198 m c = (addf) (v196 m c) (v197 m c) := by
  have h := bin m c 235 rfl (by decide) (by decide) (by decide)
  exact h
theorem e_v199 : v199 m c = (mulf) (v198 m c) (v110 m c) := by
  have h := bin m c 236 rfl (by decide) (by decide) (by decide)
  exact h
theorem e_v200 : v200 m c = (extractStridedSlice S1x4x64x2x256 ![29, 0, 0, 0, 0] (v105 m c) slices_S32x4x64x2x256_S1x4x64x2x256_29_0_0_0_0) := by
  have h := un m c 237 rfl (by decide) (by decide)
  exact h
theorem e_v201 : v201 m c = (addf) (v199 m c) (v200 m c) := by
  have h := bin m c 238 rfl (by decide) (by decide) (by decide)
  exact h
theorem e_v202 : v202 m c = (mulf) (v201 m c) (v110 m c) := by
  have h := bin m c 239 rfl (by decide) (by decide) (by decide)
  exact h
theorem e_v203 : v203 m c = (extractStridedSlice S1x4x64x2x256 ![30, 0, 0, 0, 0] (v105 m c) slices_S32x4x64x2x256_S1x4x64x2x256_30_0_0_0_0) := by
  have h := un m c 240 rfl (by decide) (by decide)
  exact h
theorem e_v204 : v204 m c = (addf) (v202 m c) (v203 m c) := by
  have h := bin m c 241 rfl (by decide) (by decide) (by decide)
  exact h
theorem e_v205 : v205 m c = (mulf) (v204 m c) (v110 m c) := by
  have h := bin m c 242 rfl (by decide) (by decide) (by decide)
  exact h
theorem e_v206 : v206 m c = (extractStridedSlice S1x4x64x2x256 ![31, 0, 0, 0, 0] (v105 m c) slices_S32x4x64x2x256_S1x4x64x2x256_31_0_0_0_0) := by
  have h := un m c 243 rfl (by decide) (by decide)
  exact h
theorem e_v207 : v207 m c = (addf) (v205 m c) (v206 m c) := by
  have h := bin m c 244 rfl (by decide) (by decide) (by decide)
  exact h
theorem e_v208 : v208 m c = concatenate S16x4x64x2x256 0 [⟨S1x4x64x2x256, (v111 m c)⟩, ⟨S1x4x64x2x256, (v114 m c)⟩, ⟨S1x4x64x2x256, (v117 m c)⟩, ⟨S1x4x64x2x256, (v120 m c)⟩, ⟨S1x4x64x2x256, (v123 m c)⟩, ⟨S1x4x64x2x256, (v126 m c)⟩, ⟨S1x4x64x2x256, (v129 m c)⟩, ⟨S1x4x64x2x256, (v132 m c)⟩, ⟨S1x4x64x2x256, (v135 m c)⟩, ⟨S1x4x64x2x256, (v138 m c)⟩, ⟨S1x4x64x2x256, (v141 m c)⟩, ⟨S1x4x64x2x256, (v144 m c)⟩, ⟨S1x4x64x2x256, (v147 m c)⟩, ⟨S1x4x64x2x256, (v150 m c)⟩, ⟨S1x4x64x2x256, (v153 m c)⟩, ⟨S1x4x64x2x256, (v156 m c)⟩] concatenates_S1x4x64x2x256_S1x4x64x2x256_S1x4x64x2x256_S1x4x64x2x256_S1x4x64x2x256_S1x4x64x2x256_S1x4x64x2x256_S1x4x64x2x256_S1x4x64x2x256_S1x4x64x2x256_S1x4x64x2x256_S1x4x64x2x256_S1x4x64x2x256_S1x4x64x2x256_S1x4x64x2x256_S1x4x64x2x256_S16x4x64x2x256_d0 := by
  have h := nar m c 245 rfl (by decide) (by decide)
  exact h
theorem e_v209 : v209 m c = concatenate S16x4x64x2x256 0 [⟨S1x4x64x2x256, (v159 m c)⟩, ⟨S1x4x64x2x256, (v162 m c)⟩, ⟨S1x4x64x2x256, (v165 m c)⟩, ⟨S1x4x64x2x256, (v168 m c)⟩, ⟨S1x4x64x2x256, (v171 m c)⟩, ⟨S1x4x64x2x256, (v174 m c)⟩, ⟨S1x4x64x2x256, (v177 m c)⟩, ⟨S1x4x64x2x256, (v180 m c)⟩, ⟨S1x4x64x2x256, (v183 m c)⟩, ⟨S1x4x64x2x256, (v186 m c)⟩, ⟨S1x4x64x2x256, (v189 m c)⟩, ⟨S1x4x64x2x256, (v192 m c)⟩, ⟨S1x4x64x2x256, (v195 m c)⟩, ⟨S1x4x64x2x256, (v198 m c)⟩, ⟨S1x4x64x2x256, (v201 m c)⟩, ⟨S1x4x64x2x256, (v204 m c)⟩] concatenates_S1x4x64x2x256_S1x4x64x2x256_S1x4x64x2x256_S1x4x64x2x256_S1x4x64x2x256_S1x4x64x2x256_S1x4x64x2x256_S1x4x64x2x256_S1x4x64x2x256_S1x4x64x2x256_S1x4x64x2x256_S1x4x64x2x256_S1x4x64x2x256_S1x4x64x2x256_S1x4x64x2x256_S1x4x64x2x256_S16x4x64x2x256_d0 := by
  have h := nar m c 246 rfl (by decide) (by decide)
  exact h
theorem e_v210 : v210 m c = concatenate S32x4x64x2x256 0 [⟨S16x4x64x2x256, (v208 m c)⟩, ⟨S16x4x64x2x256, (v209 m c)⟩] concatenates_S16x4x64x2x256_S16x4x64x2x256_S32x4x64x2x256_d0 := by
  have h := bin m c 247 rfl (by decide) (by decide) (by decide)
  exact h
theorem e_v211 : v211 m c = (broadcastInDim S1x128x4x1x1 ![1, 2] bcast_S128x4_S1x128x4x1x1_1_2) (v101 m c) := by
  have h := un m c 248 rfl (by decide) (by decide)
  exact h
theorem e_v212 : v212 m c = (broadcastInDim S32x128x4x64x2 ![0, 1, 2, 3, 4] bcast_S1x128x4x1x1_S32x128x4x64x2_0_1_2_3_4) (v211 m c) := by
  have h := un m c 249 rfl (by decide) (by decide)
  exact h
theorem e_v213 : v213 m c = (mulf) (v53 m c) (v212 m c) := by
  have h := bin m c 250 rfl (by decide) (by decide) (by decide)
  exact h
theorem e_v214 : v214 m c = Host.dotGeneral dot_S32x128x4x64x2_S32x4x64x2x256_S32x4x128x256_34_23_1_4_02_01 none (v213 m c) (v210 m c) := by
  have h := bin m c 251 rfl (by decide) (by decide) (by decide)
  exact h
theorem e_v215 : v215 m c = (addf) (v85 m c) (v214 m c) := by
  have h := bin m c 252 rfl (by decide) (by decide) (by decide)
  exact h
theorem e_cst_13 : cst_13 m c = (constant S_ .f32 0x00000000#32) := by
  have h := nul m c 253 rfl (by decide)
  exact h
theorem e_v216 : v216 m c = Host.reduceAdd (v215 m c) (cst_13 m c) reducesTo_S32x4x128x256_S32x4x128_d3 h_S_ := by
  have h := bin m c 254 rfl (by decide) (by decide) (by decide)
  exact h
theorem e_v217 : v217 m c = (broadcastInDim S32x4x128x1 ![0, 1, 2] bcast_S32x4x128_S32x4x128x1_0_1_2) (v216 m c) := by
  have h := un m c 255 rfl (by decide) (by decide)
  exact h
theorem e_cst_14 : cst_14 m c = (constant S_ .f32 0x43800000#32) := by
  have h := nul m c 256 rfl (by decide)
  exact h
theorem e_v218 : v218 m c = (broadcastInDim S32x4x128x1 ![] bcast_S_S32x4x128x1) (cst_14 m c) := by
  have h := un m c 257 rfl (by decide) (by decide)
  exact h
theorem e_v219 : v219 m c = (Host.divf) (v217 m c) (v218 m c) := by
  have h := bin m c 258 rfl (by decide) (by decide) (by decide)
  exact h
theorem e_v220 : v220 m c = (broadcastInDim S32x4x128x256 ![0, 1, 2, 3] bcast_S32x4x128x1_S32x4x128x256_0_1_2_3) (v219 m c) := by
  have h := un m c 259 rfl (by decide) (by decide)
  exact h

end Cert.Proof.RetHost

end
-- ==== Proof.RetHostEC.lean ====
/-
  The retention kernel's host operations as equations between buffers, part 3.
-/
module

public import proofs.«01_k».proof.Proof.RetHostD

@[expose] public section

set_option maxRecDepth 16384

noncomputable section

namespace Cert.Proof.RetHost

open Cert.RetKernelIdeal Cert.RetKernelIdeal.Gen Idealize.ShloMosaic Idealize.ShloMosaic.TcCoe Idealize.ShloMosaic.StableHlo Idealize.SL.Sem Cert.Proof.Ret
open Cert.Proof.Grad (coe_sum div_coe_coe rsqrt_of_pos ofBits_eps ofBits_half ofBits_neg_half eps eps_pos sg)
open scoped BigOperators

variable (m : (ℓ : Loc nD τ sig) → Buf (Elt Ideal) ℓ) (c : Dev nD)

theorem e_v221 : v221 m c = (subf) (v215 m c) (v220 m c) := by
  have h := bin m c 260 rfl (by decide) (by decide) (by decide)
  exact h
theorem e_v222 : v222 m c = (mulf) (v221 m c) (v221 m c) := by
  have h := bin m c 261 rfl (by decide) (by decide) (by decide)
  exact h
theorem e_cst_15 : cst_15 m c = (constant S_ .f32 0x00000000#32) := by
  have h := nul m c 262 rfl (by decide)
  exact h
theorem e_v223 : v223 m c = Host.reduceAdd (v222 m c) (cst_15 m c) reducesTo_S32x4x128x256_S32x4x128_d3 h_S_ := by
  have h := bin m c 263 rfl (by decide) (by decide) (by decide)
  exact h
theorem e_v224 : v224 m c = (broadcastInDim S32x4x128x1 ![0, 1, 2] bcast_S32x4x128_S32x4x128x1_0_1_2) (v223 m c) := by
  have h := un m c 264 rfl (by decide) (by decide)
  exact h
theorem e_cst_16 : cst_16 m c = (constant S_ .f32 0x43800000#32) := by
  have h := nul m c 265 rfl (by decide)
  exact h
theorem e_v225 : v225 m c = (broadcastInDim S32x4x128x1 ![] bcast_S_S32x4x128x1) (cst_16 m c) := by
  have h := un m c 266 rfl (by decide) (by decide)
  exact h
theorem e_v226 : v226 m c = (Host.divf) (v224 m c) (v225 m c) := by
  have h := bin m c 267 rfl (by decide) (by decide) (by decide)
  exact h
theorem e_cst_17 : cst_17 m c = (constant S_ .f32 0x358637BD#32) := by
  have h := nul m c 268 rfl (by decide)
  exact h
theorem e_v227 : v227 m c = (broadcastInDim S32x4x128x1 ![] bcast_S_S32x4x128x1) (cst_17 m c) := by
  have h := un m c 269 rfl (by decide) (by decide)
  exact h
theorem e_v228 : v228 m c = (addf) (v226 m c) (v227 m c) := by
  have h := bin m c 270 rfl (by decide) (by decide) (by decide)
  exact h
theorem e_v229 : v229 m c = (Host.rsqrt) (v228 m c) := by
  have h := un m c 271 rfl (by decide) (by decide)
  exact h
theorem e_v230 : v230 m c = (broadcastInDim S32x4x128x256 ![0, 1, 2, 3] bcast_S32x4x128x1_S32x4x128x256_0_1_2_3) (v219 m c) := by
  have h := un m c 272 rfl (by decide) (by decide)
  exact h
theorem e_v231 : v231 m c = (subf) (v215 m c) (v230 m c) := by
  have h := bin m c 273 rfl (by decide) (by decide) (by decide)
  exact h
theorem e_v232 : v232 m c = (broadcastInDim S32x4x128x256 ![0, 1, 2, 3] bcast_S32x4x128x1_S32x4x128x256_0_1_2_3) (v229 m c) := by
  have h := un m c 274 rfl (by decide) (by decide)
  exact h
theorem e_v233 : v233 m c = (mulf) (v231 m c) (v232 m c) := by
  have h := bin m c 275 rfl (by decide) (by decide) (by decide)
  exact h
theorem e_v234 : v234 m c = (transpose S32x128x4x1 [0, 2, 1, 3] (v229 m c) transposes_S32x4x128x1_S32x128x4x1_0_2_1_3) := by
  have h := un m c 276 rfl (by decide) (by decide)
  exact h
theorem e_v235 : v235 m c = (broadcastInDim S32x128x4x16 ![0, 1, 2, 3] bcast_S32x128x4x1_S32x128x4x16_0_1_2_3) (v234 m c) := by
  have h := un m c 277 rfl (by decide) (by decide)
  exact h
theorem e_v236 : v236 m c = shapeCast S4096x64 (v235 m c) shapeCasts_S32x128x4x16_S4096x64 := by
  have h := res m c 278 rfl (by decide) (by decide)
  exact h
theorem e_v237 : v237 m c = (transpose S32x128x4x256 [0, 2, 1, 3] (v233 m c) transposes_S32x4x128x256_S32x128x4x256_0_2_1_3) := by
  have h := un m c 279 rfl (by decide) (by decide)
  exact h
theorem e_v238 : v238 m c = shapeCast S4096x1024 (v237 m c) shapeCasts_S32x128x4x256_S4096x1024 := by
  have h := res m c 280 rfl (by decide) (by decide)
  exact h
theorem e_v239 : v239 m c = (truncf .bf16 (v238 m c) bitsLt_bf16_f32) := by
  have h := un m c 281 rfl (by decide) (by decide)
  exact h
theorem e_v240 : v240 m c = concatenate S4096x128 1 [⟨S4096x64, (v236 m c)⟩, ⟨S4096x64, (v236 m c)⟩] concatenates_S4096x64_S4096x64_S4096x128_d1 := by
  have h := bin m c 282 rfl (by decide) (by decide) (by decide)
  exact h
theorem e_v241 : v241 m c = shapeCast S32x4x128x256 (v210 m c) shapeCasts_S32x4x64x2x256_S32x4x128x256 := by
  have h := res m c 283 rfl (by decide) (by decide)
  exact h
theorem e_v242 : v242 m c = (transpose S4x32x128x256 [1, 0, 2, 3] (v241 m c) transposes_S32x4x128x256_S4x32x128x256_1_0_2_3) := by
  have h := un m c 284 rfl (by decide) (by decide)
  exact h
theorem e_v243 : v243 m c = (truncf .bf16 (v242 m c) bitsLt_bf16_f32) := by
  have h := un m c 285 rfl (by decide) (by decide)
  exact h
theorem e_v244 : v244 m c = (extractStridedSlice S4096x4608 ![0, 0] (arg0 m c) slices_S4096x9728_S4096x4608_0_0) := by
  have h := un m c 286 rfl (by decide) (by decide)
  exact h
theorem e_v245 : v245 m c = shapeCast S4096x512 (v31 m c) shapeCasts_S4096x4x64x2_S4096x512 := by
  have h := res m c 287 rfl (by decide) (by decide)
  exact h
theorem e_v246 : v246 m c = shapeCast S4096x512 (v50 m c) shapeCasts_S4096x4x64x2_S4096x512 := by
  have h := res m c 288 rfl (by decide) (by decide)
  exact h
theorem e_v247 : v247 m c = (extractStridedSlice S4096x4096 ![0, 5632] (arg0 m c) slices_S4096x9728_S4096x4096_0_5632) := by
  have h := un m c 289 rfl (by decide) (by decide)
  exact h
theorem e_v248 : v248 m c = concatenate S4096x9728 1 [⟨S4096x4608, (v244 m c)⟩, ⟨S4096x512, (v245 m c)⟩, ⟨S4096x512, (v246 m c)⟩, ⟨S4096x4096, (v247 m c)⟩] concatenates_S4096x4608_S4096x512_S4096x512_S4096x4096_S4096x9728_d1 := by
  have h := nar m c 290 rfl (by decide) (by decide)
  exact h
theorem e_v249 : v249 m c = (truncf .bf16 (v248 m c) bitsLt_bf16_f32) := by
  have h := un m c 291 rfl (by decide) (by decide)
  exact h
theorem e_v250 : v250 m c = (truncf .bf16 (arg1 m c) bitsLt_bf16_f32) := by
  have h := un m c 292 rfl (by decide) (by decide)
  exact h
theorem e_v251 : v251 m c = (sitofp .f32 (iotaInDim S4096 32 0)) := by
  have h := nul m c 293 rfl (by decide)
  exact h
theorem e_cst_18 : cst_18 m c = (constant S_ .f32 0x00000000#32) := by
  have h := nul m c 294 rfl (by decide)
  exact h
theorem e_cst_19 : cst_19 m c = (constant S_ .f32 0x3F800000#32) := by
  have h := nul m c 295 rfl (by decide)
  exact h
theorem e_call2_v0 : call2_v0 m c = (cst_18 m c) := by
  have h := un m c 296 rfl (by decide) (by decide)
  exact h
theorem e_call2_v1 : call2_v1 m c = (cst_19 m c) := by
  have h := un m c 297 rfl (by decide) (by decide)
  exact h
theorem e_call2_v2 : call2_v2 m c = subf (call2_v1 m c) (call2_v0 m c) := by
  have h := tbin m c (.of main_call2_v1 : TRef sig ⟨S_, .f32⟩) (.of main_call2_v0 : TRef sig ⟨S_, .f32⟩) (.of main_call2_v2 : TRef sig ⟨S_, .f32⟩) (fun (u : FVec Ideal S_ .f32) (v : FVec Ideal S_ .f32) => subf u v : (⟨S_, .f32⟩ : BufTy).Contents (Elt Ideal) → (⟨S_, .f32⟩ : BufTy).Contents (Elt Ideal) → (⟨S_, .f32⟩ : BufTy).Contents (Elt Ideal)) 298 rfl (by decide) (by decide) (by decide)
  exact h
theorem e_call2_cst : call2_cst m c = (constant S_ .f32 0x427C0000#32) := by
  have h := nul m c 299 rfl (by decide)
  exact h
theorem e_call2_v3 : call2_v3 m c = Host.divf (call2_v2 m c) (call2_cst m c) := by
  have h := tbin m c (.of main_call2_v2 : TRef sig ⟨S_, .f32⟩) (.of main_call2_cst : TRef sig ⟨S_, .f32⟩) (.of main_call2_v3 : TRef sig ⟨S_, .f32⟩) (fun (u : FVec Ideal S_ .f32) (v : FVec Ideal S_ .f32) => Host.divf u v : (⟨S_, .f32⟩ : BufTy).Contents (Elt Ideal) → (⟨S_, .f32⟩ : BufTy).Contents (Elt Ideal) → (⟨S_, .f32⟩ : BufTy).Contents (Elt Ideal)) 300 rfl (by decide) (by decide) (by decide)
  exact h
theorem e_call2_v4 : call2_v4 m c = (sitofp .f32 (iotaInDim S63 32 0)) := by
  have h := nul m c 301 rfl (by decide)
  exact h
theorem e_call2_cst_0 : call2_cst_0 m c = (constant S_ .f32 0x427C0000#32) := by
  have h := nul m c 302 rfl (by decide)
  exact h
theorem e_call2_v5 : call2_v5 m c = (broadcastInDim S63 ![] bcast_S_S63) (call2_cst_0 m c) := by
  have h := un m c 303 rfl (by decide) (by decide)
  exact h
theorem e_call2_v6 : call2_v6 m c = Host.divf (call2_v4 m c) (call2_v5 m c) := by
  have h := tbin m c (.of main_call2_v4 : TRef sig ⟨S63, .f32⟩) (.of main_call2_v5 : TRef sig ⟨S63, .f32⟩) (.of main_call2_v6 : TRef sig ⟨S63, .f32⟩) (fun (u : FVec Ideal S63 .f32) (v : FVec Ideal S63 .f32) => Host.divf u v : (⟨S63, .f32⟩ : BufTy).Contents (Elt Ideal) → (⟨S63, .f32⟩ : BufTy).Contents (Elt Ideal) → (⟨S63, .f32⟩ : BufTy).Contents (Elt Ideal)) 304 rfl (by decide) (by decide) (by decide)
  exact h
theorem e_call2_v7 : call2_v7 m c = shapeCast S1 (call2_v0 m c) shapeCasts_S_S1 := by
  have h := res m c 305 rfl (by decide) (by decide)
  exact h
theorem e_call2_cst_1 : call2_cst_1 m c = (constant S_ .f32 0x3F800000#32) := by
  have h := nul m c 306 rfl (by decide)
  exact h
theorem e_call2_v8 : call2_v8 m c = (broadcastInDim S63 ![] bcast_S_S63) (call2_cst_1 m c) := by
  have h := un m c 307 rfl (by decide) (by decide)
  exact h
theorem e_call2_v9 : call2_v9 m c = subf (call2_v8 m c) (call2_v6 m c) := by
  have h := tbin m c (.of main_call2_v8 : TRef sig ⟨S63, .f32⟩) (.of main_call2_v6 : TRef sig ⟨S63, .f32⟩) (.of main_call2_v9 : TRef sig ⟨S63, .f32⟩) (fun (u : FVec Ideal S63 .f32) (v : FVec Ideal S63 .f32) => subf u v : (⟨S63, .f32⟩ : BufTy).Contents (Elt Ideal) → (⟨S63, .f32⟩ : BufTy).Contents (Elt Ideal) → (⟨S63, .f32⟩ : BufTy).Contents (Elt Ideal)) 308 rfl (by decide) (by decide) (by decide)
  exact h
theorem e_call2_v10 : call2_v10 m c = (broadcastInDim S63 ![0] bcast_S1_S63_0) (call2_v7 m c) := by
  have h := un m c 309 rfl (by decide) (by decide)
  exact h
theorem e_call2_v11 : call2_v11 m c = mulf (call2_v10 m c) (call2_v9 m c) := by
  have h := tbin m c (.of main_call2_v10 : TRef sig ⟨S63, .f32⟩) (.of main_call2_v9 : TRef sig ⟨S63, .f32⟩) (.of main_call2_v11 : TRef sig ⟨S63, .f32⟩) (fun (u : FVec Ideal S63 .f32) (v : FVec Ideal S63 .f32) => mulf u v : (⟨S63, .f32⟩ : BufTy).Contents (Elt Ideal) → (⟨S63, .f32⟩ : BufTy).Contents (Elt Ideal) → (⟨S63, .f32⟩ : BufTy).Contents (Elt Ideal)) 310 rfl (by decide) (by decide) (by decide)
  exact h
theorem e_call2_v12 : call2_v12 m c = shapeCast S1 (call2_v1 m c) shapeCasts_S_S1 := by
  have h := res m c 311 rfl (by decide) (by decide)
  exact h
theorem e_call2_v13 : call2_v13 m c = (broadcastInDim S63 ![0] bcast_S1_S63_0) (call2_v12 m c) := by
  have h := un m c 312 rfl (by decide) (by decide)
  exact h
theorem e_call2_v14 : call2_v14 m c = mulf (call2_v13 m c) (call2_v6 m c) := by
  have h := tbin m c (.of main_call2_v13 : TRef sig ⟨S63, .f32⟩) (.of main_call2_v6 : TRef sig ⟨S63, .f32⟩) (.of main_call2_v14 : TRef sig ⟨S63, .f32⟩) (fun (u : FVec Ideal S63 .f32) (v : FVec Ideal S63 .f32) => mulf u v : (⟨S63, .f32⟩ : BufTy).Contents (Elt Ideal) → (⟨S63, .f32⟩ : BufTy).Contents (Elt Ideal) → (⟨S63, .f32⟩ : BufTy).Contents (Elt Ideal)) 313 rfl (by decide) (by decide) (by decide)
  exact h
theorem e_call2_v15 : call2_v15 m c = addf (call2_v11 m c) (call2_v14 m c) := by
  have h := tbin m c (.of main_call2_v11 : TRef sig ⟨S63, .f32⟩) (.of main_call2_v14 : TRef sig ⟨S63, .f32⟩) (.of main_call2_v15 : TRef sig ⟨S63, .f32⟩) (fun (u : FVec Ideal S63 .f32) (v : FVec Ideal S63 .f32) => addf u v : (⟨S63, .f32⟩ : BufTy).Contents (Elt Ideal) → (⟨S63, .f32⟩ : BufTy).Contents (Elt Ideal) → (⟨S63, .f32⟩ : BufTy).Contents (Elt Ideal)) 314 rfl (by decide) (by decide) (by decide)
  exact h
theorem e_call2_v16 : call2_v16 m c = (broadcastInDim S1 ![] bcast_S_S1) (call2_v1 m c) := by
  have h := un m c 315 rfl (by decide) (by decide)
  exact h
theorem e_v252 : v252 m c = concatenate S64 0 [⟨S63, (call2_v15 m c)⟩, ⟨S1, (call2_v16 m c)⟩] concatenates_S63_S1_S64_d0 := by
  have h := tbin m c (.of main_call2_v15 : TRef sig ⟨S63, .f32⟩) (.of main_call2_v16 : TRef sig ⟨S1, .f32⟩) (.of main_v252 : TRef sig ⟨S64, .f32⟩) ((fun a b => concatenate S64 0 [⟨S63, a⟩, ⟨S1, b⟩] concatenates_S63_S1_S64_d0) : (⟨S63, .f32⟩ : BufTy).Contents (Elt Ideal) → (⟨S1, .f32⟩ : BufTy).Contents (Elt Ideal) → (⟨S64, .f32⟩ : BufTy).Contents (Elt Ideal)) 316 rfl (by decide) (by decide) (by decide)
  exact h
theorem e_cst_20 : cst_20 m c = (constant S_ .f32 0x461C4000#32) := by
  have h := nul m c 317 rfl (by decide)
  exact h
theorem e_v253 : v253 m c = (broadcastInDim S64 ![] bcast_S_S64) (cst_20 m c) := by
  have h := un m c 318 rfl (by decide) (by decide)
  exact h
theorem e_v254 : v254 m c = (Host.powf) (v253 m c) (v252 m c) := by
  have h := bin m c 319 rfl (by decide) (by decide) (by decide)
  exact h
theorem e_cst_21 : cst_21 m c = (constant S_ .f32 0x3F800000#32) := by
  have h := nul m c 320 rfl (by decide)
  exact h
theorem e_v255 : v255 m c = (broadcastInDim S64 ![] bcast_S_S64) (cst_21 m c) := by
  have h := un m c 321 rfl (by decide) (by decide)
  exact h
theorem e_v256 : v256 m c = (Host.divf) (v255 m c) (v254 m c) := by
  have h := bin m c 322 rfl (by decide) (by decide) (by decide)
  exact h
theorem e_v257 : v257 m c = (broadcastInDim S4096x1 ![0] bcast_S4096_S4096x1_0) (v251 m c) := by
  have h := un m c 323 rfl (by decide) (by decide)
  exact h
theorem e_v258 : v258 m c = (broadcastInDim S1x64 ![1] bcast_S64_S1x64_1) (v256 m c) := by
  have h := un m c 324 rfl (by decide) (by decide)
  exact h
theorem e_v259 : v259 m c = (broadcastInDim S4096x64 ![0, 1] bcast_S4096x1_S4096x64_0_1) (v257 m c) := by
  have h := un m c 325 rfl (by decide) (by decide)
  exact h
theorem e_v260 : v260 m c = (broadcastInDim S4096x64 ![0, 1] bcast_S1x64_S4096x64_0_1) (v258 m c) := by
  have h := un m c 326 rfl (by decide) (by decide)
  exact h
theorem e_v261 : v261 m c = (mulf) (v259 m c) (v260 m c) := by
  have h := bin m c 327 rfl (by decide) (by decide) (by decide)
  exact h
theorem e_v262 : v262 m c = (Host.cos) (v261 m c) := by
  have h := un m c 328 rfl (by decide) (by decide)
  exact h
theorem e_v263 : v263 m c = (broadcastInDim S4096x64x2 ![0, 1] bcast_S4096x64_S4096x64x2_0_1) (v262 m c) := by
  have h := un m c 329 rfl (by decide) (by decide)
  exact h

end Cert.Proof.RetHost

end
-- ==== Proof.RetHostEE.lean ====
/-
  The retention kernel's host operations as equations between buffers, part 4.
-/
module

public import proofs.«01_k».proof.Proof.RetHostD

@[expose] public section

set_option maxRecDepth 16384

noncomputable section

namespace Cert.Proof.RetHost

open Cert.RetKernelIdeal Cert.RetKernelIdeal.Gen Idealize.ShloMosaic Idealize.ShloMosaic.TcCoe Idealize.ShloMosaic.StableHlo Idealize.SL.Sem Cert.Proof.Ret
open Cert.Proof.Grad (coe_sum div_coe_coe rsqrt_of_pos ofBits_eps ofBits_half ofBits_neg_half eps eps_pos sg)
open scoped BigOperators

variable (m : (ℓ : Loc nD τ sig) → Buf (Elt Ideal) ℓ) (c : Dev nD)

theorem e_v264 : v264 m c = shapeCast S4096x128 (v263 m c) shapeCasts_S4096x64x2_S4096x128 := by
  have h := res m c 330 rfl (by decide) (by decide)
  exact h
theorem e_v265 : v265 m c = (Host.sin) (v261 m c) := by
  have h := un m c 331 rfl (by decide) (by decide)
  exact h
theorem e_v266 : v266 m c = (broadcastInDim S4096x64x2 ![0, 1] bcast_S4096x64_S4096x64x2_0_1) (v265 m c) := by
  have h := un m c 332 rfl (by decide) (by decide)
  exact h
theorem e_v267 : v267 m c = shapeCast S4096x128 (v266 m c) shapeCasts_S4096x64x2_S4096x128 := by
  have h := res m c 333 rfl (by decide) (by decide)
  exact h
theorem e_v268 : v268 m c = (iotaInDim S128 32 0) := by
  have h := nul m c 334 rfl (by decide)
  exact h
theorem e_ctwo : ctwo m c = (constantI S_ 32 2#32) := by
  have h := nul m c 335 rfl (by decide)
  exact h
theorem e_call3_v0 : call3_v0 m c = (ctwo m c) := by
  have h := un m c 336 rfl (by decide) (by decide)
  exact h
theorem e_call3_c : call3_c m c = (constantI S_ 32 0#32) := by
  have h := nul m c 337 rfl (by decide)
  exact h
theorem e_call3_v1 : call3_v1 m c = (cmpi .eq) (call3_v0 m c) (call3_c m c) := by
  have h := tbin m c (.of main_call3_v0 : TRef sig ⟨S_, .i32⟩) (.of main_call3_c : TRef sig ⟨S_, .i32⟩) (.of main_call3_v1 : TRef sig ⟨S_, .i1⟩) (fun (u : BufTy.Contents (Elt Ideal) ⟨S_, .i32⟩) (v : BufTy.Contents (Elt Ideal) ⟨S_, .i32⟩) => (cmpi .eq) u v : (⟨S_, .i32⟩ : BufTy).Contents (Elt Ideal) → (⟨S_, .i32⟩ : BufTy).Contents (Elt Ideal) → (⟨S_, .i1⟩ : BufTy).Contents (Elt Ideal)) 338 rfl (by decide) (by decide) (by decide)
  exact h
theorem e_call3_c_0 : call3_c_0 m c = (constantI S_ 32 1#32) := by
  have h := nul m c 339 rfl (by decide)
  exact h
theorem e_call3_v2 : call3_v2 m c = select (call3_v1 m c) (call3_c_0 m c) (call3_v0 m c) := by
  have h := tter m c (.of main_call3_v1 : TRef sig ⟨S_, .i1⟩) (.of main_call3_c_0 : TRef sig ⟨S_, .i32⟩) (.of main_call3_v0 : TRef sig ⟨S_, .i32⟩) (.of main_call3_v2 : TRef sig ⟨S_, .i32⟩) (fun (u : BufTy.Contents (Elt Ideal) ⟨S_, .i1⟩) (v : BufTy.Contents (Elt Ideal) ⟨S_, .i32⟩) (w : BufTy.Contents (Elt Ideal) ⟨S_, .i32⟩) => select u v w : (⟨S_, .i1⟩ : BufTy).Contents (Elt Ideal) → (⟨S_, .i32⟩ : BufTy).Contents (Elt Ideal) → (⟨S_, .i32⟩ : BufTy).Contents (Elt Ideal) → (⟨S_, .i32⟩ : BufTy).Contents (Elt Ideal)) 340 rfl (by decide) (by decide) (by decide) (by decide)
  exact h
theorem e_call3_v3 : call3_v3 m c = (broadcastInDim S128 ![] bcast_S_S128) (call3_v2 m c) := by
  have h := un m c 341 rfl (by decide) (by decide)
  exact h
theorem e_call3_v4 : call3_v4 m c = Host.remsi (v268 m c) (call3_v3 m c) := by
  have h := tbin m c (.of main_v268 : TRef sig ⟨S128, .i32⟩) (.of main_call3_v3 : TRef sig ⟨S128, .i32⟩) (.of main_call3_v4 : TRef sig ⟨S128, .i32⟩) (fun (u : BufTy.Contents (Elt Ideal) ⟨S128, .i32⟩) (v : BufTy.Contents (Elt Ideal) ⟨S128, .i32⟩) => Host.remsi u v : (⟨S128, .i32⟩ : BufTy).Contents (Elt Ideal) → (⟨S128, .i32⟩ : BufTy).Contents (Elt Ideal) → (⟨S128, .i32⟩ : BufTy).Contents (Elt Ideal)) 342 rfl (by decide) (by decide) (by decide)
  exact h
theorem e_call3_c_1 : call3_c_1 m c = (constantI S_ 32 0#32) := by
  have h := nul m c 343 rfl (by decide)
  exact h
theorem e_call3_v5 : call3_v5 m c = (broadcastInDim S128 ![] bcast_S_S128) (call3_c_1 m c) := by
  have h := un m c 344 rfl (by decide) (by decide)
  exact h
theorem e_call3_v6 : call3_v6 m c = (cmpi .ne) (call3_v4 m c) (call3_v5 m c) := by
  have h := tbin m c (.of main_call3_v4 : TRef sig ⟨S128, .i32⟩) (.of main_call3_v5 : TRef sig ⟨S128, .i32⟩) (.of main_call3_v6 : TRef sig ⟨S128, .i1⟩) (fun (u : BufTy.Contents (Elt Ideal) ⟨S128, .i32⟩) (v : BufTy.Contents (Elt Ideal) ⟨S128, .i32⟩) => (cmpi .ne) u v : (⟨S128, .i32⟩ : BufTy).Contents (Elt Ideal) → (⟨S128, .i32⟩ : BufTy).Contents (Elt Ideal) → (⟨S128, .i1⟩ : BufTy).Contents (Elt Ideal)) 345 rfl (by decide) (by decide) (by decide)
  exact h
theorem e_call3_c_2 : call3_c_2 m c = (constantI S_ 32 0#32) := by
  have h := nul m c 346 rfl (by decide)
  exact h
theorem e_call3_v7 : call3_v7 m c = (broadcastInDim S128 ![] bcast_S_S128) (call3_c_2 m c) := by
  have h := un m c 347 rfl (by decide) (by decide)
  exact h
theorem e_call3_v8 : call3_v8 m c = (cmpi .slt) (call3_v4 m c) (call3_v7 m c) := by
  have h := tbin m c (.of main_call3_v4 : TRef sig ⟨S128, .i32⟩) (.of main_call3_v7 : TRef sig ⟨S128, .i32⟩) (.of main_call3_v8 : TRef sig ⟨S128, .i1⟩) (fun (u : BufTy.Contents (Elt Ideal) ⟨S128, .i32⟩) (v : BufTy.Contents (Elt Ideal) ⟨S128, .i32⟩) => (cmpi .slt) u v : (⟨S128, .i32⟩ : BufTy).Contents (Elt Ideal) → (⟨S128, .i32⟩ : BufTy).Contents (Elt Ideal) → (⟨S128, .i1⟩ : BufTy).Contents (Elt Ideal)) 348 rfl (by decide) (by decide) (by decide)
  exact h
theorem e_call3_c_3 : call3_c_3 m c = (constantI S_ 32 0#32) := by
  have h := nul m c 349 rfl (by decide)
  exact h
theorem e_call3_v9 : call3_v9 m c = (cmpi .slt) (call3_v2 m c) (call3_c_3 m c) := by
  have h := tbin m c (.of main_call3_v2 : TRef sig ⟨S_, .i32⟩) (.of main_call3_c_3 : TRef sig ⟨S_, .i32⟩) (.of main_call3_v9 : TRef sig ⟨S_, .i1⟩) (fun (u : BufTy.Contents (Elt Ideal) ⟨S_, .i32⟩) (v : BufTy.Contents (Elt Ideal) ⟨S_, .i32⟩) => (cmpi .slt) u v : (⟨S_, .i32⟩ : BufTy).Contents (Elt Ideal) → (⟨S_, .i32⟩ : BufTy).Contents (Elt Ideal) → (⟨S_, .i1⟩ : BufTy).Contents (Elt Ideal)) 350 rfl (by decide) (by decide) (by decide)
  exact h
theorem e_call3_v10 : call3_v10 m c = (broadcastInDim S128 ![] bcast_S_S128) (call3_v9 m c) := by
  have h := un m c 351 rfl (by decide) (by decide)
  exact h
theorem e_call3_v11 : call3_v11 m c = (cmpi .ne) (call3_v8 m c) (call3_v10 m c) := by
  have h := tbin m c (.of main_call3_v8 : TRef sig ⟨S128, .i1⟩) (.of main_call3_v10 : TRef sig ⟨S128, .i1⟩) (.of main_call3_v11 : TRef sig ⟨S128, .i1⟩) (fun (u : BufTy.Contents (Elt Ideal) ⟨S128, .i1⟩) (v : BufTy.Contents (Elt Ideal) ⟨S128, .i1⟩) => (cmpi .ne) u v : (⟨S128, .i1⟩ : BufTy).Contents (Elt Ideal) → (⟨S128, .i1⟩ : BufTy).Contents (Elt Ideal) → (⟨S128, .i1⟩ : BufTy).Contents (Elt Ideal)) 352 rfl (by decide) (by decide) (by decide)
  exact h
theorem e_call3_v12 : call3_v12 m c = andi (call3_v11 m c) (call3_v6 m c) := by
  have h := tbin m c (.of main_call3_v11 : TRef sig ⟨S128, .i1⟩) (.of main_call3_v6 : TRef sig ⟨S128, .i1⟩) (.of main_call3_v12 : TRef sig ⟨S128, .i1⟩) (fun (u : BufTy.Contents (Elt Ideal) ⟨S128, .i1⟩) (v : BufTy.Contents (Elt Ideal) ⟨S128, .i1⟩) => andi u v : (⟨S128, .i1⟩ : BufTy).Contents (Elt Ideal) → (⟨S128, .i1⟩ : BufTy).Contents (Elt Ideal) → (⟨S128, .i1⟩ : BufTy).Contents (Elt Ideal)) 353 rfl (by decide) (by decide) (by decide)
  exact h
theorem e_call3_v13 : call3_v13 m c = (broadcastInDim S128 ![] bcast_S_S128) (call3_v2 m c) := by
  have h := un m c 354 rfl (by decide) (by decide)
  exact h
theorem e_call3_v14 : call3_v14 m c = addi (call3_v4 m c) (call3_v13 m c) := by
  have h := tbin m c (.of main_call3_v4 : TRef sig ⟨S128, .i32⟩) (.of main_call3_v13 : TRef sig ⟨S128, .i32⟩) (.of main_call3_v14 : TRef sig ⟨S128, .i32⟩) (fun (u : BufTy.Contents (Elt Ideal) ⟨S128, .i32⟩) (v : BufTy.Contents (Elt Ideal) ⟨S128, .i32⟩) => addi u v : (⟨S128, .i32⟩ : BufTy).Contents (Elt Ideal) → (⟨S128, .i32⟩ : BufTy).Contents (Elt Ideal) → (⟨S128, .i32⟩ : BufTy).Contents (Elt Ideal)) 355 rfl (by decide) (by decide) (by decide)
  exact h
theorem e_v269 : v269 m c = select (call3_v12 m c) (call3_v14 m c) (call3_v4 m c) := by
  have h := tter m c (.of main_call3_v12 : TRef sig ⟨S128, .i1⟩) (.of main_call3_v14 : TRef sig ⟨S128, .i32⟩) (.of main_call3_v4 : TRef sig ⟨S128, .i32⟩) (.of main_v269 : TRef sig ⟨S128, .i32⟩) (fun (u : BufTy.Contents (Elt Ideal) ⟨S128, .i1⟩) (v : BufTy.Contents (Elt Ideal) ⟨S128, .i32⟩) (w : BufTy.Contents (Elt Ideal) ⟨S128, .i32⟩) => select u v w : (⟨S128, .i1⟩ : BufTy).Contents (Elt Ideal) → (⟨S128, .i32⟩ : BufTy).Contents (Elt Ideal) → (⟨S128, .i32⟩ : BufTy).Contents (Elt Ideal) → (⟨S128, .i32⟩ : BufTy).Contents (Elt Ideal)) 356 rfl (by decide) (by decide) (by decide) (by decide)
  exact h
theorem e_c_22 : c_22 m c = (constantI S_ 32 0#32) := by
  have h := nul m c 357 rfl (by decide)
  exact h
theorem e_v270 : v270 m c = (broadcastInDim S128 ![] bcast_S_S128) (c_22 m c) := by
  have h := un m c 358 rfl (by decide) (by decide)
  exact h
theorem e_v271 : v271 m c = (cmpi .eq) (v269 m c) (v270 m c) := by
  have h := bin m c 359 rfl (by decide) (by decide) (by decide)
  exact h
theorem e_v272 : v272 m c = (broadcastInDim S1x128 ![1] bcast_S128_S1x128_1) (v271 m c) := by
  have h := un m c 360 rfl (by decide) (by decide)
  exact h
theorem e_cst_23 : cst_23 m c = (constant S_ .f32 0x00000000#32) := by
  have h := nul m c 361 rfl (by decide)
  exact h
theorem e_call4_v0 : call4_v0 m c = (cst_23 m c) := by
  have h := un m c 362 rfl (by decide) (by decide)
  exact h
theorem e_call4_v1 : call4_v1 m c = (broadcastInDim S4096x128 ![0, 1] bcast_S1x128_S4096x128_0_1) (v272 m c) := by
  have h := un m c 363 rfl (by decide) (by decide)
  exact h
theorem e_call4_v2 : call4_v2 m c = (broadcastInDim S4096x128 ![] bcast_S_S4096x128) (call4_v0 m c) := by
  have h := un m c 364 rfl (by decide) (by decide)
  exact h
theorem e_v273 : v273 m c = select (call4_v1 m c) (call4_v2 m c) (v267 m c) := by
  have h := tter m c (.of main_call4_v1 : TRef sig ⟨S4096x128, .i1⟩) (.of main_call4_v2 : TRef sig ⟨S4096x128, .f32⟩) (.of main_v267 : TRef sig ⟨S4096x128, .f32⟩) (.of main_v273 : TRef sig ⟨S4096x128, .f32⟩) (fun (u : BufTy.Contents (Elt Ideal) ⟨S4096x128, .i1⟩) (v : FVec Ideal S4096x128 .f32) (w : FVec Ideal S4096x128 .f32) => select u v w : (⟨S4096x128, .i1⟩ : BufTy).Contents (Elt Ideal) → (⟨S4096x128, .f32⟩ : BufTy).Contents (Elt Ideal) → (⟨S4096x128, .f32⟩ : BufTy).Contents (Elt Ideal) → (⟨S4096x128, .f32⟩ : BufTy).Contents (Elt Ideal)) 365 rfl (by decide) (by decide) (by decide) (by decide)
  exact h
theorem e_v274 : v274 m c = (Host.negf) (v267 m c) := by
  have h := un m c 366 rfl (by decide) (by decide)
  exact h
theorem e_cst_24 : cst_24 m c = (constant S_ .f32 0x00000000#32) := by
  have h := nul m c 367 rfl (by decide)
  exact h
theorem e_call5_v0 : call5_v0 m c = (cst_24 m c) := by
  have h := un m c 368 rfl (by decide) (by decide)
  exact h
theorem e_call5_v1 : call5_v1 m c = (broadcastInDim S4096x128 ![0, 1] bcast_S1x128_S4096x128_0_1) (v272 m c) := by
  have h := un m c 369 rfl (by decide) (by decide)
  exact h
theorem e_call5_v2 : call5_v2 m c = (broadcastInDim S4096x128 ![] bcast_S_S4096x128) (call5_v0 m c) := by
  have h := un m c 370 rfl (by decide) (by decide)
  exact h
theorem e_v275 : v275 m c = select (call5_v1 m c) (v274 m c) (call5_v2 m c) := by
  have h := tter m c (.of main_call5_v1 : TRef sig ⟨S4096x128, .i1⟩) (.of main_v274 : TRef sig ⟨S4096x128, .f32⟩) (.of main_call5_v2 : TRef sig ⟨S4096x128, .f32⟩) (.of main_v275 : TRef sig ⟨S4096x128, .f32⟩) (fun (u : BufTy.Contents (Elt Ideal) ⟨S4096x128, .i1⟩) (v : FVec Ideal S4096x128 .f32) (w : FVec Ideal S4096x128 .f32) => select u v w : (⟨S4096x128, .i1⟩ : BufTy).Contents (Elt Ideal) → (⟨S4096x128, .f32⟩ : BufTy).Contents (Elt Ideal) → (⟨S4096x128, .f32⟩ : BufTy).Contents (Elt Ideal) → (⟨S4096x128, .f32⟩ : BufTy).Contents (Elt Ideal)) 371 rfl (by decide) (by decide) (by decide) (by decide)
  exact h
theorem e_v276 : v276 m c = (broadcastInDim S1x4096x128 ![1, 2] bcast_S4096x128_S1x4096x128_1_2) (v264 m c) := by
  have h := un m c 372 rfl (by decide) (by decide)
  exact h
theorem e_v277 : v277 m c = (broadcastInDim S1x4096x128 ![1, 2] bcast_S4096x128_S1x4096x128_1_2) (v273 m c) := by
  have h := un m c 373 rfl (by decide) (by decide)
  exact h
theorem e_v278 : v278 m c = (broadcastInDim S1x4096x128 ![1, 2] bcast_S4096x128_S1x4096x128_1_2) (v275 m c) := by
  have h := un m c 374 rfl (by decide) (by decide)
  exact h
theorem e_v279 : v279 m c = concatenate S3x4096x128 0 [⟨S1x4096x128, (v276 m c)⟩, ⟨S1x4096x128, (v277 m c)⟩, ⟨S1x4096x128, (v278 m c)⟩] concatenates_S1x4096x128_S1x4096x128_S1x4096x128_S3x4096x128_d0 := by
  have h := nar m c 375 rfl (by decide) (by decide)
  exact h
theorem e_cst_25 : cst_25 m c = (constant S_ .f32 0x3DB504F3#32) := by
  have h := nul m c 376 rfl (by decide)
  exact h
theorem e_v280 : v280 m c = (broadcastInDim S3x4096x128 ![] bcast_S_S3x4096x128) (cst_25 m c) := by
  have h := un m c 377 rfl (by decide) (by decide)
  exact h
theorem e_v281 : v281 m c = (mulf) (v279 m c) (v280 m c) := by
  have h := bin m c 378 rfl (by decide) (by decide) (by decide)
  exact h
theorem e_v282 : v282 m c = (broadcastInDim S1x3x4096x128 ![1, 2, 3] bcast_S3x4096x128_S1x3x4096x128_1_2_3) (v279 m c) := by
  have h := un m c 379 rfl (by decide) (by decide)
  exact h
theorem e_v283 : v283 m c = (broadcastInDim S1x3x4096x128 ![1, 2, 3] bcast_S3x4096x128_S1x3x4096x128_1_2_3) (v279 m c) := by
  have h := un m c 380 rfl (by decide) (by decide)
  exact h
theorem e_v284 : v284 m c = (broadcastInDim S1x3x4096x128 ![1, 2, 3] bcast_S3x4096x128_S1x3x4096x128_1_2_3) (v281 m c) := by
  have h := un m c 381 rfl (by decide) (by decide)
  exact h
theorem e_v285 : v285 m c = concatenate S3x3x4096x128 0 [⟨S1x3x4096x128, (v282 m c)⟩, ⟨S1x3x4096x128, (v283 m c)⟩, ⟨S1x3x4096x128, (v284 m c)⟩] concatenates_S1x3x4096x128_S1x3x4096x128_S1x3x4096x128_S3x3x4096x128_d0 := by
  have h := nar m c 382 rfl (by decide) (by decide)
  exact h
theorem e_v286 : v286 m c = (sitofp .f32 (iotaInDim S4 32 0)) := by
  have h := nul m c 383 rfl (by decide)
  exact h
theorem e_cst_26 : cst_26 m c = (constant S_ .f32 0xC0A00000#32) := by
  have h := nul m c 384 rfl (by decide)
  exact h
theorem e_v287 : v287 m c = (broadcastInDim S4 ![] bcast_S_S4) (cst_26 m c) := by
  have h := un m c 385 rfl (by decide) (by decide)
  exact h
theorem e_v288 : v288 m c = (subf) (v287 m c) (v286 m c) := by
  have h := bin m c 386 rfl (by decide) (by decide) (by decide)
  exact h
theorem e_cst_27 : cst_27 m c = (constant S_ .f32 0x40000000#32) := by
  have h := nul m c 387 rfl (by decide)
  exact h
theorem e_v289 : v289 m c = (broadcastInDim S4 ![] bcast_S_S4) (cst_27 m c) := by
  have h := un m c 388 rfl (by decide) (by decide)
  exact h
theorem e_v290 : v290 m c = (Host.powf) (v289 m c) (v288 m c) := by
  have h := bin m c 389 rfl (by decide) (by decide) (by decide)
  exact h
theorem e_v291 : v291 m c = (Host.negf) (v290 m c) := by
  have h := un m c 390 rfl (by decide) (by decide)
  exact h
theorem e_v292 : v292 m c = (Host.log1p) (v291 m c) := by
  have h := un m c 391 rfl (by decide) (by decide)
  exact h
theorem e_v293 : v293 m c = (sitofp .f32 (iotaInDim S128 32 0)) := by
  have h := nul m c 392 rfl (by decide)
  exact h
theorem e_v294 : v294 m c = (broadcastInDim S128x1 ![0] bcast_S128_S128x1_0) (v293 m c) := by
  have h := un m c 393 rfl (by decide) (by decide)
  exact h
theorem e_v295 : v295 m c = (broadcastInDim S1x128 ![1] bcast_S128_S1x128_1) (v293 m c) := by
  have h := un m c 394 rfl (by decide) (by decide)
  exact h
theorem e_v296 : v296 m c = (broadcastInDim S128x128 ![0, 1] bcast_S128x1_S128x128_0_1) (v294 m c) := by
  have h := un m c 395 rfl (by decide) (by decide)
  exact h
theorem e_v297 : v297 m c = (broadcastInDim S128x128 ![0, 1] bcast_S1x128_S128x128_0_1) (v295 m c) := by
  have h := un m c 396 rfl (by decide) (by decide)
  exact h
theorem e_v298 : v298 m c = (subf) (v296 m c) (v297 m c) := by
  have h := bin m c 397 rfl (by decide) (by decide) (by decide)
  exact h
theorem e_v299 : v299 m c = (broadcastInDim S1x128x128 ![1, 2] bcast_S128x128_S1x128x128_1_2) (v298 m c) := by
  have h := un m c 398 rfl (by decide) (by decide)
  exact h
theorem e_cst_28 : cst_28 m c = (constant S_ .f32 0x00000000#32) := by
  have h := nul m c 399 rfl (by decide)
  exact h
theorem e_v300 : v300 m c = (broadcastInDim S1x128x128 ![] bcast_S_S1x128x128) (cst_28 m c) := by
  have h := un m c 400 rfl (by decide) (by decide)
  exact h
theorem e_v301 : v301 m c = (cmpf .oge) (v299 m c) (v300 m c) := by
  have h := bin m c 401 rfl (by decide) (by decide) (by decide)
  exact h
theorem e_cst_29 : cst_29 m c = (constant S_ .f32 0x00000000#32) := by
  have h := nul m c 402 rfl (by decide)
  exact h
theorem e_v302 : v302 m c = (broadcastInDim S128x128 ![] bcast_S_S128x128) (cst_29 m c) := by
  have h := un m c 403 rfl (by decide) (by decide)
  exact h
theorem e_v303 : v303 m c = (maximumf) (v298 m c) (v302 m c) := by
  have h := bin m c 404 rfl (by decide) (by decide) (by decide)
  exact h
theorem e_v304 : v304 m c = (broadcastInDim S1x128x128 ![1, 2] bcast_S128x128_S1x128x128_1_2) (v303 m c) := by
  have h := un m c 405 rfl (by decide) (by decide)
  exact h
theorem e_v305 : v305 m c = (broadcastInDim S4x1x1 ![0] bcast_S4_S4x1x1_0) (v292 m c) := by
  have h := un m c 406 rfl (by decide) (by decide)
  exact h
theorem e_v306 : v306 m c = (broadcastInDim S4x128x128 ![0, 1, 2] bcast_S1x128x128_S4x128x128_0_1_2) (v304 m c) := by
  have h := un m c 407 rfl (by decide) (by decide)
  exact h
theorem e_v307 : v307 m c = (broadcastInDim S4x128x128 ![0, 1, 2] bcast_S4x1x1_S4x128x128_0_1_2) (v305 m c) := by
  have h := un m c 408 rfl (by decide) (by decide)
  exact h
theorem e_v308 : v308 m c = (mulf) (v306 m c) (v307 m c) := by
  have h := bin m c 409 rfl (by decide) (by decide) (by decide)
  exact h
theorem e_v309 : v309 m c = (Host.exp) (v308 m c) := by
  have h := un m c 410 rfl (by decide) (by decide)
  exact h
theorem e_cst_30 : cst_30 m c = (constant S_ .f32 0x00000000#32) := by
  have h := nul m c 411 rfl (by decide)
  exact h
theorem e_call6_v0 : call6_v0 m c = (cst_30 m c) := by
  have h := un m c 412 rfl (by decide) (by decide)
  exact h
theorem e_call6_v1 : call6_v1 m c = (broadcastInDim S4x128x128 ![0, 1, 2] bcast_S1x128x128_S4x128x128_0_1_2) (v301 m c) := by
  have h := un m c 413 rfl (by decide) (by decide)
  exact h
theorem e_call6_v2 : call6_v2 m c = (broadcastInDim S4x128x128 ![] bcast_S_S4x128x128) (call6_v0 m c) := by
  have h := un m c 414 rfl (by decide) (by decide)
  exact h
theorem e_v310 : v310 m c = select (call6_v1 m c) (v309 m c) (call6_v2 m c) := by
  have h := tter m c (.of main_call6_v1 : TRef sig ⟨S4x128x128, .i1⟩) (.of main_v309 : TRef sig ⟨S4x128x128, .f32⟩) (.of main_call6_v2 : TRef sig ⟨S4x128x128, .f32⟩) (.of main_v310 : TRef sig ⟨S4x128x128, .f32⟩) (fun (u : BufTy.Contents (Elt Ideal) ⟨S4x128x128, .i1⟩) (v : FVec Ideal S4x128x128 .f32) (w : FVec Ideal S4x128x128 .f32) => select u v w : (⟨S4x128x128, .i1⟩ : BufTy).Contents (Elt Ideal) → (⟨S4x128x128, .f32⟩ : BufTy).Contents (Elt Ideal) → (⟨S4x128x128, .f32⟩ : BufTy).Contents (Elt Ideal) → (⟨S4x128x128, .f32⟩ : BufTy).Contents (Elt Ideal)) 415 rfl (by decide) (by decide) (by decide) (by decide)
  exact h
theorem e_cst_31 : cst_31 m c = (constant S_ .f32 0x42FE0000#32) := by
  have h := nul m c 416 rfl (by decide)
  exact h
theorem e_v311 : v311 m c = (broadcastInDim S128 ![] bcast_S_S128) (cst_31 m c) := by
  have h := un m c 417 rfl (by decide) (by decide)
  exact h
theorem e_v312 : v312 m c = (subf) (v311 m c) (v293 m c) := by
  have h := bin m c 418 rfl (by decide) (by decide) (by decide)
  exact h
theorem e_v313 : v313 m c = (broadcastInDim S1x128 ![1] bcast_S128_S1x128_1) (v312 m c) := by
  have h := un m c 419 rfl (by decide) (by decide)
  exact h
theorem e_v314 : v314 m c = (broadcastInDim S4x1 ![0] bcast_S4_S4x1_0) (v292 m c) := by
  have h := un m c 420 rfl (by decide) (by decide)
  exact h
theorem e_v315 : v315 m c = (broadcastInDim S4x128 ![0, 1] bcast_S1x128_S4x128_0_1) (v313 m c) := by
  have h := un m c 421 rfl (by decide) (by decide)
  exact h
theorem e_v316 : v316 m c = (broadcastInDim S4x128 ![0, 1] bcast_S4x1_S4x128_0_1) (v314 m c) := by
  have h := un m c 422 rfl (by decide) (by decide)
  exact h
theorem e_v317 : v317 m c = (mulf) (v315 m c) (v316 m c) := by
  have h := bin m c 423 rfl (by decide) (by decide) (by decide)
  exact h
theorem e_v318 : v318 m c = (Host.exp) (v317 m c) := by
  have h := un m c 424 rfl (by decide) (by decide)
  exact h
theorem e_cst_32 : cst_32 m c = (constant S_ .f32 0x3F800000#32) := by
  have h := nul m c 425 rfl (by decide)
  exact h
theorem e_v319 : v319 m c = (broadcastInDim S128 ![] bcast_S_S128) (cst_32 m c) := by
  have h := un m c 426 rfl (by decide) (by decide)
  exact h
theorem e_v320 : v320 m c = (addf) (v293 m c) (v319 m c) := by
  have h := bin m c 427 rfl (by decide) (by decide) (by decide)
  exact h
theorem e_v321 : v321 m c = (broadcastInDim S1x128 ![1] bcast_S128_S1x128_1) (v320 m c) := by
  have h := un m c 428 rfl (by decide) (by decide)
  exact h
theorem e_v322 : v322 m c = (broadcastInDim S4x1 ![0] bcast_S4_S4x1_0) (v292 m c) := by
  have h := un m c 429 rfl (by decide) (by decide)
  exact h
theorem e_v323 : v323 m c = (broadcastInDim S4x128 ![0, 1] bcast_S1x128_S4x128_0_1) (v321 m c) := by
  have h := un m c 430 rfl (by decide) (by decide)
  exact h
theorem e_v324 : v324 m c = (broadcastInDim S4x128 ![0, 1] bcast_S4x1_S4x128_0_1) (v322 m c) := by
  have h := un m c 431 rfl (by decide) (by decide)
  exact h
theorem e_v325 : v325 m c = (mulf) (v323 m c) (v324 m c) := by
  have h := bin m c 432 rfl (by decide) (by decide) (by decide)
  exact h
theorem e_v326 : v326 m c = (Host.exp) (v325 m c) := by
  have h := un m c 433 rfl (by decide) (by decide)
  exact h
theorem e_cst_33 : cst_33 m c = (constant S_ .f32 0x43000000#32) := by
  have h := nul m c 434 rfl (by decide)
  exact h
theorem e_v327 : v327 m c = (broadcastInDim S4 ![] bcast_S_S4) (cst_33 m c) := by
  have h := un m c 435 rfl (by decide) (by decide)
  exact h
theorem e_v328 : v328 m c = (mulf) (v327 m c) (v292 m c) := by
  have h := bin m c 436 rfl (by decide) (by decide) (by decide)
  exact h
theorem e_v329 : v329 m c = (Host.exp) (v328 m c) := by
  have h := un m c 437 rfl (by decide) (by decide)
  exact h
theorem e_v330 : v330 m c = (broadcastInDim S4x128x1 ![0, 1] bcast_S4x128_S4x128x1_0_1) (v318 m c) := by
  have h := un m c 438 rfl (by decide) (by decide)
  exact h
theorem e_v331 : v331 m c = (broadcastInDim S4x128x128 ![0, 1, 2] bcast_S4x128x1_S4x128x128_0_1_2) (v330 m c) := by
  have h := un m c 439 rfl (by decide) (by decide)
  exact h
theorem e_v332 : v332 m c = (broadcastInDim S4x128x1 ![0, 1] bcast_S4x128_S4x128x1_0_1) (v326 m c) := by
  have h := un m c 440 rfl (by decide) (by decide)
  exact h
theorem e_v333 : v333 m c = (broadcastInDim S4x128x128 ![0, 1, 2] bcast_S4x128x1_S4x128x128_0_1_2) (v332 m c) := by
  have h := un m c 441 rfl (by decide) (by decide)
  exact h
theorem e_v334 : v334 m c = (broadcastInDim S4x1x1 ![0] bcast_S4_S4x1x1_0) (v329 m c) := by
  have h := un m c 442 rfl (by decide) (by decide)
  exact h
theorem e_v335 : v335 m c = (broadcastInDim S4x8x256 ![0, 1, 2] bcast_S4x1x1_S4x8x256_0_1_2) (v334 m c) := by
  have h := un m c 443 rfl (by decide) (by decide)
  exact h

end Cert.Proof.RetHost

end
-- ==== Proof.RetKerA.lean ====
/-
  The retention kernel's host arrays read at an index, first part: rotated queries and keys, decays.
-/
module

public import proofs.«01_k».proof.Proof.RetHostEA
public import proofs.«01_k».proof.Proof.RetHostEB
public import proofs.«01_k».proof.Proof.RetHostEC
public import proofs.«01_k».proof.Proof.RetHostEE
public import Idealize.ShloMosaic.Lib.Pointwise

@[expose] public section

set_option maxRecDepth 16384

noncomputable section

namespace Cert.Proof.RetHost

open Cert.RetKernelIdeal Cert.RetKernelIdeal.Gen Idealize.ShloMosaic Idealize.ShloMosaic.TcCoe Idealize.ShloMosaic.StableHlo Idealize.SL.Sem Cert.Proof.Ret
open Cert.Proof.Grad (coe_sum div_coe_coe rsqrt_of_pos ofBits_eps ofBits_half ofBits_neg_half eps eps_pos sg)
open scoped BigOperators

variable (m : (ℓ : Loc nD τ sig) → Buf (Elt Ideal) ℓ) (c : Dev nD)

/-- The two arguments hold the real numbers of `D`. -/
structure Holds (D : Data) : Prop where
  h0 : ∀ (t : Fin 4096) (k : Fin 9728), arg0 m c (ix2 t k) = ((D.x t k : ℝ) : EReal)
  h1 : ∀ (t : Fin 4096) (k : Fin 1024), arg1 m c (ix2 t k) = ((D.dy t k : ℝ) : EReal)

/-- A pair's rotation read off the two channels of its frequency. -/
theorem rot_two (t : Fin 4096) (y : Fin 128 → ℝ) (f : Fin 64) (b : Fin 2) (p q : Fin 128) (hp : p.val = 2 * f.val) (hq : q.val = 1 + 2 * f.val) :
    (if _ : b.val < 1 then (y p : EReal) * Ideal.cos (ang t f : ℝ) - (y q : EReal) * Ideal.sin (ang t f : ℝ)
      else (y q : EReal) * Ideal.cos (ang t f : ℝ) + (y p : EReal) * Ideal.sin (ang t f : ℝ)) = ((rot t y (two f b) : ℝ) : EReal) := by
  have hf : frq (two f b) = f := Fin.ext (by have := b.isLt; simp only [frq, two]; omega)
  have hv : (two f b).val = f.val * 2 + b.val := rfl
  have := b.isLt
  rw [rot, hf]
  by_cases h : b.val < 1
  · have hm : (two f b).val % 2 = 0 := by omega
    have e1 : p = two f b := Fin.ext (by omega)
    have e2 : q = nxt (two f b) := Fin.ext (by rw [val_nxt _ hm]; omega)
    rw [dif_pos h, if_pos hm, e1, e2]
    simp only [Ideal.cos_coe, Ideal.sin_coe, ← EReal.coe_mul, ← EReal.coe_sub, cs, sn]
  · have hm : ¬ (two f b).val % 2 = 0 := by omega
    have e1 : q = two f b := Fin.ext (by omega)
    have e2 : p = prv (two f b) := Fin.ext (by rw [val_prv]; omega)
    rw [dif_neg h, if_neg hm, e1, e2]
    simp only [Ideal.cos_coe, Ideal.sin_coe, ← EReal.coe_mul, ← EReal.coe_add, cs, sn]

variable {m c} {D : Data} (H : Holds m c D)
include H

theorem v5_at (t : Fin 4096) : v5 m c (ix1 t) = ((t.val : ℝ) : EReal) := by
  rw [e_v5]
  pointwise []
  exact sit_fin t (by norm_num)

theorem v10_at (t : Fin 4096) (f : Fin 64) : v10 m c (ix2 t f) = ((ang t f : ℝ) : EReal) := by
  rw [e_v10, e_v9, e_v8, e_v7, e_v6, e_v4, e_v3, e_cst_2, e_v2, e_v1, e_cst_1, e_v0, e_call0_v16, e_call0_v15, e_call0_v14, e_call0_v13, e_call0_v12, e_call0_v11, e_call0_v10, e_call0_v9, e_call0_v8, e_call0_cst_1, e_call0_v7, e_call0_v6, e_call0_v5, e_call0_cst_0, e_call0_v4, e_call0_v1, e_call0_v0, e_cst_0, e_cst]
  pointwise [v5_at H]
  have e := lin_scalar f
  rw [one_mul] at e
  rw [e, ang_scalar]

theorem v31_at (t : Fin 4096) (h : Fin 4) (f : Fin 64) (b : Fin 2) : v31 m c (ix4 t h f b) = ((D.qt t h (two f b) : ℝ) : EReal) := by
  rw [e_v31, e_v30, e_v29, e_v28, e_v27, e_v26, e_v25, e_v24, e_v23, e_v22, e_v21, e_v20, e_v19, e_v18, e_v17, e_v16, e_v15, e_v14, e_v13, e_v12, e_v11]
  pointwise [H.h0, v10_at H]
  exact rot_two t (fun d => D.x t (Data.qcol h d)) f b ⟨2 * f.val, by omega⟩ ⟨1 + 2 * f.val, by omega⟩ rfl rfl

theorem v50_at (t : Fin 4096) (h : Fin 4) (f : Fin 64) (b : Fin 2) : v50 m c (ix4 t h f b) = ((D.kt t h (two f b) : ℝ) : EReal) := by
  rw [e_v50, e_v49, e_cst_3, e_v48, e_v47, e_v46, e_v45, e_v44, e_v43, e_v42, e_v41, e_v40, e_v39, e_v38, e_v37, e_v36, e_v35, e_v34, e_v33, e_v32, e_v14, e_v13, e_v12, e_v11]
  pointwise [H.h0, v10_at H]
  rw [ofBits_ksc]
  exact Eq.trans (Ideal.mul_congr (rot_two t (fun d => D.x t (Data.kcol h d)) f b ⟨2 * f.val, by omega⟩ ⟨1 + 2 * f.val, by omega⟩ rfl rfl) rfl) (EReal.coe_mul _ _).symm

theorem v62_at (h : Fin 4) : v62 m c (ix1 h) = ((lg h : ℝ) : EReal) := by
  rw [e_v62, e_v61, e_v60, e_v59, e_cst_5, e_v58, e_v57, e_cst_4, e_v56]
  pointwise []
  exact lg_scalar h

theorem v63_at (i : Fin 128) : v63 m c (ix1 i) = ((i.val : ℝ) : EReal) := by
  rw [e_v63]
  pointwise []
  exact sit_fin i (by norm_num)

theorem v68_at (i j : Fin 128) : v68 m c (ix2 i j) = (((i.val : ℝ) - j.val : ℝ) : EReal) := by
  rw [e_v68, e_v67, e_v66, e_v65, e_v64]
  pointwise [v63_at H]
  simp only [← EReal.coe_sub]

theorem v80_at (h : Fin 4) (i j : Fin 128) : v80 m c (ix3 h i j) = ((dm h i j : ℝ) : EReal) := by
  rw [e_v80, e_call1_v2, e_call1_v1, e_call1_v0, e_cst_8, e_v79, e_v78, e_v77, e_v76, e_v75, e_v74, e_v73, e_v72, e_cst_7, e_v71, e_v70, e_cst_6, e_v69]
  pointwise [v62_at H, v68_at H]
  exact dm_scalar h i j

theorem v93_at (i : Fin 128) (h : Fin 4) : v93 m c (ix2 i h) = ((zt h i : ℝ) : EReal) := by
  rw [e_v93, e_v92, e_v91, e_v90, e_v89, e_v88, e_v87, e_v86, e_cst_9]
  pointwise [v62_at H, v63_at H]
  simp only [ofBits_127, ← EReal.coe_sub, ← EReal.coe_mul, Ideal.exp_coe, zt]

theorem v101_at (i : Fin 128) (h : Fin 4) : v101 m c (ix2 i h) = ((xi h i : ℝ) : EReal) := by
  rw [e_v101, e_v100, e_v99, e_v98, e_v97, e_v96, e_v95, e_v94, e_cst_10]
  pointwise [v62_at H, v63_at H]
  simp only [← EReal.coe_one, ← EReal.coe_add, ← EReal.coe_mul, Ideal.exp_coe, xi]

theorem v110_at (h : Fin 4) (f : Fin 64) (b : Fin 2) (e : Fin 256) : v110 m c (ix5 0 h f b e) = ((dec h : ℝ) : EReal) := by
  rw [e_v110, e_v109, e_v108, e_v107, e_v106, e_cst_11]
  pointwise [v62_at H]
  simp only [ofBits_128, ← EReal.coe_mul, Ideal.exp_coe, dec]

end Cert.Proof.RetHost

end
-- ==== Proof.RetKerB.lean ====
/-
  The retention kernel's host arrays read at an index, second part: the states before the 32 chunks.
-/
module

public import proofs.«01_k».proof.Proof.RetKerA

@[expose] public section

set_option maxRecDepth 16384

noncomputable section

namespace Cert.Proof.RetHost

open Cert.RetKernelIdeal Cert.RetKernelIdeal.Gen Idealize.ShloMosaic Idealize.ShloMosaic.TcCoe Idealize.ShloMosaic.StableHlo Idealize.SL.Sem Cert.Proof.Ret
open Cert.Proof.Grad (coe_sum div_coe_coe rsqrt_of_pos ofBits_eps ofBits_half ofBits_neg_half eps eps_pos sg)
open scoped BigOperators

variable (m : (ℓ : Loc nD τ sig) → Buf (Elt Ideal) ℓ) (c : Dev nD)

/-- A sum over the 64 frequencies and the two channels of each is the sum over the 128 channels. -/
theorem sum_two (g : Fin 128 → ℝ) : ∑ f : Fin 64, ∑ b : Fin 2, g (two f b) = ∑ d, g d := by
  rw [← Finset.sum_product']
  exact Fintype.sum_equiv (finProdFinEquiv (m := 64) (n := 2)) _ _ fun p => congrArg g (Fin.ext (by
    show p.1.val * 2 + p.2.val = p.2.val + 2 * p.1.val; omega))

variable {m c} {D : Data} (H : Holds m c D)
include H

theorem v53_at (n : Fin 32) (i : Fin 128) (h : Fin 4) (f : Fin 64) (b : Fin 2) : v53 m c (ix5 n i h f b) = ((D.q n.val h i (two f b) : ℝ) : EReal) := by
  rw [e_v53]
  pointwise [v31_at H]
  rw [tok_mk]; rfl

theorem v54_at (n : Fin 32) (i : Fin 128) (h : Fin 4) (f : Fin 64) (b : Fin 2) : v54 m c (ix5 n i h f b) = ((D.k n.val h i (two f b) : ℝ) : EReal) := by
  rw [e_v54]
  pointwise [v50_at H]
  rw [tok_mk]; rfl

theorem v55_at (n : Fin 32) (i : Fin 128) (h : Fin 4) (e : Fin 256) : v55 m c (ix4 n i h e) = ((D.v n.val h i e : ℝ) : EReal) := by
  rw [e_v55, e_v52, e_v51]
  pointwise [H.h0]
  rw [tok_mk]; rfl

theorem v84_at (n : Fin 32) (h : Fin 4) (i j : Fin 128) : v84 m c (ix4 n h i j) = ((D.sd n.val h i j : ℝ) : EReal) := by
  rw [e_v84, e_v83, e_v82, e_v81]
  pointwise [v53_at H, v54_at H, v80_at H]
  simp only [← EReal.coe_mul, ← coe_sum]
  exact congrArg (fun z : ℝ => ((z * dm h i j : ℝ) : EReal)) (sum_two fun d => D.q n.val h i d * D.k n.val h j d)

theorem v104_at (n : Fin 32) (i : Fin 128) (h : Fin 4) (f : Fin 64) (b : Fin 2) : v104 m c (ix5 n i h f b) = ((D.k n.val h i (two f b) * zt h i : ℝ) : EReal) := by
  rw [e_v104, e_v103, e_v102]
  pointwise [v54_at H, v93_at H]
  simp only [← EReal.coe_mul]

theorem v105_at (n : Fin 32) (h : Fin 4) (f : Fin 64) (b : Fin 2) (e : Fin 256) : v105 m c (ix5 n h f b e) = ((D.kv n.val h (two f b) e : ℝ) : EReal) := by
  rw [e_v105]
  pointwise [v104_at H, v55_at H]
  simp only [← EReal.coe_mul, ← coe_sum, Data.kv]

theorem v213_at (n : Fin 32) (i : Fin 128) (h : Fin 4) (f : Fin 64) (b : Fin 2) : v213 m c (ix5 n i h f b) = ((D.q n.val h i (two f b) * xi h i : ℝ) : EReal) := by
  rw [e_v213, e_v212, e_v211]
  pointwise [v101_at H, v53_at H]
  simp only [← EReal.coe_mul]

theorem v111_at (h : Fin 4) (f : Fin 64) (b : Fin 2) (e : Fin 256) : v111 m c (ix5 0 h f b e) = ((D.st 0 h (two f b) e : ℝ) : EReal) := by
  rw [e_v111, e_cst_12]
  pointwise []
  exact EReal.coe_zero.symm

theorem v114_at (h : Fin 4) (f : Fin 64) (b : Fin 2) (e : Fin 256) : v114 m c (ix5 0 h f b e) = ((D.st 1 h (two f b) e : ℝ) : EReal) := by
  rw [e_v114, e_v113, e_v112]
  pointwise [v105_at H, v110_at H, v111_at H]
  simp only [← EReal.coe_mul, ← EReal.coe_add]
  exact congrArg Real.toEReal (D.st_succ 0 h (two f b) e).symm

theorem v117_at (h : Fin 4) (f : Fin 64) (b : Fin 2) (e : Fin 256) : v117 m c (ix5 0 h f b e) = ((D.st 2 h (two f b) e : ℝ) : EReal) := by
  rw [e_v117, e_v116, e_v115]
  pointwise [v105_at H, v110_at H, v114_at H]
  simp only [← EReal.coe_mul, ← EReal.coe_add]
  exact congrArg Real.toEReal (D.st_succ 1 h (two f b) e).symm

theorem v120_at (h : Fin 4) (f : Fin 64) (b : Fin 2) (e : Fin 256) : v120 m c (ix5 0 h f b e) = ((D.st 3 h (two f b) e : ℝ) : EReal) := by
  rw [e_v120, e_v119, e_v118]
  pointwise [v105_at H, v110_at H, v117_at H]
  simp only [← EReal.coe_mul, ← EReal.coe_add]
  exact congrArg Real.toEReal (D.st_succ 2 h (two f b) e).symm

theorem v123_at (h : Fin 4) (f : Fin 64) (b : Fin 2) (e : Fin 256) : v123 m c (ix5 0 h f b e) = ((D.st 4 h (two f b) e : ℝ) : EReal) := by
  rw [e_v123, e_v122, e_v121]
  pointwise [v105_at H, v110_at H, v120_at H]
  simp only [← EReal.coe_mul, ← EReal.coe_add]
  exact congrArg Real.toEReal (D.st_succ 3 h (two f b) e).symm

theorem v126_at (h : Fin 4) (f : Fin 64) (b : Fin 2) (e : Fin 256) : v126 m c (ix5 0 h f b e) = ((D.st 5 h (two f b) e : ℝ) : EReal) := by
  rw [e_v126, e_v125, e_v124]
  pointwise [v105_at H, v110_at H, v123_at H]
  simp only [← EReal.coe_mul, ← EReal.coe_add]
  exact congrArg Real.toEReal (D.st_succ 4 h (two f b) e).symm

theorem v129_at (h : Fin 4) (f : Fin 64) (b : Fin 2) (e : Fin 256) : v129 m c (ix5 0 h f b e) = ((D.st 6 h (two f b) e : ℝ) : EReal) := by
  rw [e_v129, e_v128, e_v127]
  pointwise [v105_at H, v110_at H, v126_at H]
  simp only [← EReal.coe_mul, ← EReal.coe_add]
  exact congrArg Real.toEReal (D.st_succ 5 h (two f b) e).symm

theorem v132_at (h : Fin 4) (f : Fin 64) (b : Fin 2) (e : Fin 256) : v132 m c (ix5 0 h f b e) = ((D.st 7 h (two f b) e : ℝ) : EReal) := by
  rw [e_v132, e_v131, e_v130]
  pointwise [v105_at H, v110_at H, v129_at H]
  simp only [← EReal.coe_mul, ← EReal.coe_add]
  exact congrArg Real.toEReal (D.st_succ 6 h (two f b) e).symm

theorem v135_at (h : Fin 4) (f : Fin 64) (b : Fin 2) (e : Fin 256) : v135 m c (ix5 0 h f b e) = ((D.st 8 h (two f b) e : ℝ) : EReal) := by
  rw [e_v135, e_v134, e_v133]
  pointwise [v105_at H, v110_at H, v132_at H]
  simp only [← EReal.coe_mul, ← EReal.coe_add]
  exact congrArg Real.toEReal (D.st_succ 7 h (two f b) e).symm

theorem v138_at (h : Fin 4) (f : Fin 64) (b : Fin 2) (e : Fin 256) : v138 m c (ix5 0 h f b e) = ((D.st 9 h (two f b) e : ℝ) : EReal) := by
  rw [e_v138, e_v137, e_v136]
  pointwise [v105_at H, v110_at H, v135_at H]
  simp only [← EReal.coe_mul, ← EReal.coe_add]
  exact congrArg Real.toEReal (D.st_succ 8 h (two f b) e).symm

theorem v141_at (h : Fin 4) (f : Fin 64) (b : Fin 2) (e : Fin 256) : v141 m c (ix5 0 h f b e) = ((D.st 10 h (two f b) e : ℝ) : EReal) := by
  rw [e_v141, e_v140, e_v139]
  pointwise [v105_at H, v110_at H, v138_at H]
  simp only [← EReal.coe_mul, ← EReal.coe_add]
  exact congrArg Real.toEReal (D.st_succ 9 h (two f b) e).symm

theorem v144_at (h : Fin 4) (f : Fin 64) (b : Fin 2) (e : Fin 256) : v144 m c (ix5 0 h f b e) = ((D.st 11 h (two f b) e : ℝ) : EReal) := by
  rw [e_v144, e_v143, e_v142]
  pointwise [v105_at H, v110_at H, v141_at H]
  simp only [← EReal.coe_mul, ← EReal.coe_add]
  exact congrArg Real.toEReal (D.st_succ 10 h (two f b) e).symm

theorem v147_at (h : Fin 4) (f : Fin 64) (b : Fin 2) (e : Fin 256) : v147 m c (ix5 0 h f b e) = ((D.st 12 h (two f b) e : ℝ) : EReal) := by
  rw [e_v147, e_v146, e_v145]
  pointwise [v105_at H, v110_at H, v144_at H]
  simp only [← EReal.coe_mul, ← EReal.coe_add]
  exact congrArg Real.toEReal (D.st_succ 11 h (two f b) e).symm

theorem v150_at (h : Fin 4) (f : Fin 64) (b : Fin 2) (e : Fin 256) : v150 m c (ix5 0 h f b e) = ((D.st 13 h (two f b) e : ℝ) : EReal) := by
  rw [e_v150, e_v149, e_v148]
  pointwise [v105_at H, v110_at H, v147_at H]
  simp only [← EReal.coe_mul, ← EReal.coe_add]
  exact congrArg Real.toEReal (D.st_succ 12 h (two f b) e).symm

theorem v153_at (h : Fin 4) (f : Fin 64) (b : Fin 2) (e : Fin 256) : v153 m c (ix5 0 h f b e) = ((D.st 14 h (two f b) e : ℝ) : EReal) := by
  rw [e_v153, e_v152, e_v151]
  pointwise [v105_at H, v110_at H, v150_at H]
  simp only [← EReal.coe_mul, ← EReal.coe_add]
  exact congrArg Real.toEReal (D.st_succ 13 h (two f b) e).symm

theorem v156_at (h : Fin 4) (f : Fin 64) (b : Fin 2) (e : Fin 256) : v156 m c (ix5 0 h f b e) = ((D.st 15 h (two f b) e : ℝ) : EReal) := by
  rw [e_v156, e_v155, e_v154]
  pointwise [v105_at H, v110_at H, v153_at H]
  simp only [← EReal.coe_mul, ← EReal.coe_add]
  exact congrArg Real.toEReal (D.st_succ 14 h (two f b) e).symm

theorem v159_at (h : Fin 4) (f : Fin 64) (b : Fin 2) (e : Fin 256) : v159 m c (ix5 0 h f b e) = ((D.st 16 h (two f b) e : ℝ) : EReal) := by
  rw [e_v159, e_v158, e_v157]
  pointwise [v105_at H, v110_at H, v156_at H]
  simp only [← EReal.coe_mul, ← EReal.coe_add]
  exact congrArg Real.toEReal (D.st_succ 15 h (two f b) e).symm

theorem v162_at (h : Fin 4) (f : Fin 64) (b : Fin 2) (e : Fin 256) : v162 m c (ix5 0 h f b e) = ((D.st 17 h (two f b) e : ℝ) : EReal) := by
  rw [e_v162, e_v161, e_v160]
  pointwise [v105_at H, v110_at H, v159_at H]
  simp only [← EReal.coe_mul, ← EReal.coe_add]
  exact congrArg Real.toEReal (D.st_succ 16 h (two f b) e).symm

theorem v165_at (h : Fin 4) (f : Fin 64) (b : Fin 2) (e : Fin 256) : v165 m c (ix5 0 h f b e) = ((D.st 18 h (two f b) e : ℝ) : EReal) := by
  rw [e_v165, e_v164, e_v163]
  pointwise [v105_at H, v110_at H, v162_at H]
  simp only [← EReal.coe_mul, ← EReal.coe_add]
  exact congrArg Real.toEReal (D.st_succ 17 h (two f b) e).symm

theorem v168_at (h : Fin 4) (f : Fin 64) (b : Fin 2) (e : Fin 256) : v168 m c (ix5 0 h f b e) = ((D.st 19 h (two f b) e : ℝ) : EReal) := by
  rw [e_v168, e_v167, e_v166]
  pointwise [v105_at H, v110_at H, v165_at H]
  simp only [← EReal.coe_mul, ← EReal.coe_add]
  exact congrArg Real.toEReal (D.st_succ 18 h (two f b) e).symm

theorem v171_at (h : Fin 4) (f : Fin 64) (b : Fin 2) (e : Fin 256) : v171 m c (ix5 0 h f b e) = ((D.st 20 h (two f b) e : ℝ) : EReal) := by
  rw [e_v171, e_v170, e_v169]
  pointwise [v105_at H, v110_at H, v168_at H]
  simp only [← EReal.coe_mul, ← EReal.coe_add]
  exact congrArg Real.toEReal (D.st_succ 19 h (two f b) e).symm

theorem v174_at (h : Fin 4) (f : Fin 64) (b : Fin 2) (e : Fin 256) : v174 m c (ix5 0 h f b e) = ((D.st 21 h (two f b) e : ℝ) : EReal) := by
  rw [e_v174, e_v173, e_v172]
  pointwise [v105_at H, v110_at H, v171_at H]
  simp only [← EReal.coe_mul, ← EReal.coe_add]
  exact congrArg Real.toEReal (D.st_succ 20 h (two f b) e).symm

theorem v177_at (h : Fin 4) (f : Fin 64) (b : Fin 2) (e : Fin 256) : v177 m c (ix5 0 h f b e) = ((D.st 22 h (two f b) e : ℝ) : EReal) := by
  rw [e_v177, e_v176, e_v175]
  pointwise [v105_at H, v110_at H, v174_at H]
  simp only [← EReal.coe_mul, ← EReal.coe_add]
  exact congrArg Real.toEReal (D.st_succ 21 h (two f b) e).symm

theorem v180_at (h : Fin 4) (f : Fin 64) (b : Fin 2) (e : Fin 256) : v180 m c (ix5 0 h f b e) = ((D.st 23 h (two f b) e : ℝ) : EReal) := by
  rw [e_v180, e_v179, e_v178]
  pointwise [v105_at H, v110_at H, v177_at H]
  simp only [← EReal.coe_mul, ← EReal.coe_add]
  exact congrArg Real.toEReal (D.st_succ 22 h (two f b) e).symm

theorem v183_at (h : Fin 4) (f : Fin 64) (b : Fin 2) (e : Fin 256) : v183 m c (ix5 0 h f b e) = ((D.st 24 h (two f b) e : ℝ) : EReal) := by
  rw [e_v183, e_v182, e_v181]
  pointwise [v105_at H, v110_at H, v180_at H]
  simp only [← EReal.coe_mul, ← EReal.coe_add]
  exact congrArg Real.toEReal (D.st_succ 23 h (two f b) e).symm

theorem v186_at (h : Fin 4) (f : Fin 64) (b : Fin 2) (e : Fin 256) : v186 m c (ix5 0 h f b e) = ((D.st 25 h (two f b) e : ℝ) : EReal) := by
  rw [e_v186, e_v185, e_v184]
  pointwise [v105_at H, v110_at H, v183_at H]
  simp only [← EReal.coe_mul, ← EReal.coe_add]
  exact congrArg Real.toEReal (D.st_succ 24 h (two f b) e).symm

theorem v189_at (h : Fin 4) (f : Fin 64) (b : Fin 2) (e : Fin 256) : v189 m c (ix5 0 h f b e) = ((D.st 26 h (two f b) e : ℝ) : EReal) := by
  rw [e_v189, e_v188, e_v187]
  pointwise [v105_at H, v110_at H, v186_at H]
  simp only [← EReal.coe_mul, ← EReal.coe_add]
  exact congrArg Real.toEReal (D.st_succ 25 h (two f b) e).symm

theorem v192_at (h : Fin 4) (f : Fin 64) (b : Fin 2) (e : Fin 256) : v192 m c (ix5 0 h f b e) = ((D.st 27 h (two f b) e : ℝ) : EReal) := by
  rw [e_v192, e_v191, e_v190]
  pointwise [v105_at H, v110_at H, v189_at H]
  simp only [← EReal.coe_mul, ← EReal.coe_add]
  exact congrArg Real.toEReal (D.st_succ 26 h (two f b) e).symm

theorem v195_at (h : Fin 4) (f : Fin 64) (b : Fin 2) (e : Fin 256) : v195 m c (ix5 0 h f b e) = ((D.st 28 h (two f b) e : ℝ) : EReal) := by
  rw [e_v195, e_v194, e_v193]
  pointwise [v105_at H, v110_at H, v192_at H]
  simp only [← EReal.coe_mul, ← EReal.coe_add]
  exact congrArg Real.toEReal (D.st_succ 27 h (two f b) e).symm

theorem v198_at (h : Fin 4) (f : Fin 64) (b : Fin 2) (e : Fin 256) : v198 m c (ix5 0 h f b e) = ((D.st 29 h (two f b) e : ℝ) : EReal) := by
  rw [e_v198, e_v197, e_v196]
  pointwise [v105_at H, v110_at H, v195_at H]
  simp only [← EReal.coe_mul, ← EReal.coe_add]
  exact congrArg Real.toEReal (D.st_succ 28 h (two f b) e).symm

theorem v201_at (h : Fin 4) (f : Fin 64) (b : Fin 2) (e : Fin 256) : v201 m c (ix5 0 h f b e) = ((D.st 30 h (two f b) e : ℝ) : EReal) := by
  rw [e_v201, e_v200, e_v199]
  pointwise [v105_at H, v110_at H, v198_at H]
  simp only [← EReal.coe_mul, ← EReal.coe_add]
  exact congrArg Real.toEReal (D.st_succ 29 h (two f b) e).symm

theorem v204_at (h : Fin 4) (f : Fin 64) (b : Fin 2) (e : Fin 256) : v204 m c (ix5 0 h f b e) = ((D.st 31 h (two f b) e : ℝ) : EReal) := by
  rw [e_v204, e_v203, e_v202]
  pointwise [v105_at H, v110_at H, v201_at H]
  simp only [← EReal.coe_mul, ← EReal.coe_add]
  exact congrArg Real.toEReal (D.st_succ 30 h (two f b) e).symm

end Cert.Proof.RetHost

end
-- ==== Proof.RetKerC.lean ====
/-
  The retention kernel's host arrays read at an index, third part: the forward pass's saved values
  and the packed rows.
-/
module

public import proofs.«01_k».proof.Proof.RetKerB
public import Idealize.ShloMosaic.Lib.Pipeline.ValueKit

@[expose] public section

set_option maxRecDepth 16384

noncomputable section

namespace Cert.Proof.RetHost

open Cert.RetKernelIdeal Cert.RetKernelIdeal.Gen Idealize.ShloMosaic Idealize.ShloMosaic.TcCoe Idealize.ShloMosaic.StableHlo Idealize.SL.Sem Cert.Proof.Ret
open Cert.Proof.Grad (coe_sum div_coe_coe rsqrt_of_pos ofBits_eps ofBits_half ofBits_neg_half eps eps_pos sg)
open scoped BigOperators

variable (m : (ℓ : Loc nD τ sig) → Buf (Elt Ideal) ℓ) (c : Dev nD)

/-- A channel from its frequency and its place in the pair. -/
theorem two_div (d : Fin 128) (f : Fin 64) (b : Fin 2) (hf : f.val = d.val / 2) (hb : b.val = d.val % 2) : two f b = d :=
  Fin.ext (by simp only [two, hf, hb]; omega)

/-- One state of the joined ones. -/
theorem piece (S : ℕ → Fin 4 → Fin 128 → Fin 256 → ℝ) (w : FVec Ideal S1x4x64x2x256 .f32) (k : ℕ)
    (hw : ∀ (h : Fin 4) (f : Fin 64) (b : Fin 2) (e : Fin 256), w (ix5 0 h f b e) = ((S k h (two f b) e : ℝ) : EReal))
    (n : Fin 16) (h : Fin 4) (f : Fin 64) (b : Fin 2) (e : Fin 256) :
    PieceAt (t := S16x4x64x2x256) 0 (ix5 n h f b e) ((S n.val h (two f b) e : ℝ) : EReal) S1x4x64x2x256 w k := by
  intro hk hr i h0 hi
  have e0 : n.val = k := hk
  have hx : i = ix5 0 h f b e := by
    funext x
    apply Fin.ext
    match x with
    | ⟨0, _⟩ => exact h0
    | ⟨1, _⟩ => exact hi 1 (by decide)
    | ⟨2, _⟩ => exact hi 2 (by decide)
    | ⟨3, _⟩ => exact hi 3 (by decide)
    | ⟨4, _⟩ => exact hi 4 (by decide)
  rw [hx, hw, e0]

/-- Sixteen states joined, read at a state. -/
theorem cat16 (S : ℕ → Fin 4 → Fin 128 → Fin 256 → ℝ) (w0 w1 w2 w3 w4 w5 w6 w7 w8 w9 w10 w11 w12 w13 w14 w15 : FVec Ideal S1x4x64x2x256 .f32)
    (h0 : ∀ (h : Fin 4) (f : Fin 64) (b : Fin 2) (e : Fin 256), w0 (ix5 0 h f b e) = ((S 0 h (two f b) e : ℝ) : EReal))
    (h1 : ∀ (h : Fin 4) (f : Fin 64) (b : Fin 2) (e : Fin 256), w1 (ix5 0 h f b e) = ((S 1 h (two f b) e : ℝ) : EReal))
    (h2 : ∀ (h : Fin 4) (f : Fin 64) (b : Fin 2) (e : Fin 256), w2 (ix5 0 h f b e) = ((S 2 h (two f b) e : ℝ) : EReal))
    (h3 : ∀ (h : Fin 4) (f : Fin 64) (b : Fin 2) (e : Fin 256), w3 (ix5 0 h f b e) = ((S 3 h (two f b) e : ℝ) : EReal))
    (h4 : ∀ (h : Fin 4) (f : Fin 64) (b : Fin 2) (e : Fin 256), w4 (ix5 0 h f b e) = ((S 4 h (two f b) e : ℝ) : EReal))
    (h5 : ∀ (h : Fin 4) (f : Fin 64) (b : Fin 2) (e : Fin 256), w5 (ix5 0 h f b e) = ((S 5 h (two f b) e : ℝ) : EReal))
    (h6 : ∀ (h : Fin 4) (f : Fin 64) (b : Fin 2) (e : Fin 256), w6 (ix5 0 h f b e) = ((S 6 h (two f b) e : ℝ) : EReal))
    (h7 : ∀ (h : Fin 4) (f : Fin 64) (b : Fin 2) (e : Fin 256), w7 (ix5 0 h f b e) = ((S 7 h (two f b) e : ℝ) : EReal))
    (h8 : ∀ (h : Fin 4) (f : Fin 64) (b : Fin 2) (e : Fin 256), w8 (ix5 0 h f b e) = ((S 8 h (two f b) e : ℝ) : EReal))
    (h9 : ∀ (h : Fin 4) (f : Fin 64) (b : Fin 2) (e : Fin 256), w9 (ix5 0 h f b e) = ((S 9 h (two f b) e : ℝ) : EReal))
    (h10 : ∀ (h : Fin 4) (f : Fin 64) (b : Fin 2) (e : Fin 256), w10 (ix5 0 h f b e) = ((S 10 h (two f b) e : ℝ) : EReal))
    (h11 : ∀ (h : Fin 4) (f : Fin 64) (b : Fin 2) (e : Fin 256), w11 (ix5 0 h f b e) = ((S 11 h (two f b) e : ℝ) : EReal))
    (h12 : ∀ (h : Fin 4) (f : Fin 64) (b : Fin 2) (e : Fin 256), w12 (ix5 0 h f b e) = ((S 12 h (two f b) e : ℝ) : EReal))
    (h13 : ∀ (h : Fin 4) (f : Fin 64) (b : Fin 2) (e : Fin 256), w13 (ix5 0 h f b e) = ((S 13 h (two f b) e : ℝ) : EReal))
    (h14 : ∀ (h : Fin 4) (f : Fin 64) (b : Fin 2) (e : Fin 256), w14 (ix5 0 h f b e) = ((S 14 h (two f b) e : ℝ) : EReal))
    (h15 : ∀ (h : Fin 4) (f : Fin 64) (b : Fin 2) (e : Fin 256), w15 (ix5 0 h f b e) = ((S 15 h (two f b) e : ℝ) : EReal))
    (n : Fin 16) (h : Fin 4) (f : Fin 64) (b : Fin 2) (e : Fin 256) :
    (concatenate S16x4x64x2x256 0 [⟨S1x4x64x2x256, w0⟩, ⟨S1x4x64x2x256, w1⟩, ⟨S1x4x64x2x256, w2⟩, ⟨S1x4x64x2x256, w3⟩, ⟨S1x4x64x2x256, w4⟩, ⟨S1x4x64x2x256, w5⟩, ⟨S1x4x64x2x256, w6⟩, ⟨S1x4x64x2x256, w7⟩, ⟨S1x4x64x2x256, w8⟩, ⟨S1x4x64x2x256, w9⟩, ⟨S1x4x64x2x256, w10⟩, ⟨S1x4x64x2x256, w11⟩, ⟨S1x4x64x2x256, w12⟩, ⟨S1x4x64x2x256, w13⟩, ⟨S1x4x64x2x256, w14⟩, ⟨S1x4x64x2x256, w15⟩] concatenates_S1x4x64x2x256_S1x4x64x2x256_S1x4x64x2x256_S1x4x64x2x256_S1x4x64x2x256_S1x4x64x2x256_S1x4x64x2x256_S1x4x64x2x256_S1x4x64x2x256_S1x4x64x2x256_S1x4x64x2x256_S1x4x64x2x256_S1x4x64x2x256_S1x4x64x2x256_S1x4x64x2x256_S1x4x64x2x256_S16x4x64x2x256_d0 : FVec Ideal S16x4x64x2x256 .f32) (ix5 n h f b e) = ((S n.val h (two f b) e : ℝ) : EReal) :=
  concatenate_unit_eq 0 _ _ (ix5 n h f b e) _ rfl ⟨piece S w0 0 h0 n h f b e, piece S w1 1 h1 n h f b e, piece S w2 2 h2 n h f b e, piece S w3 3 h3 n h f b e, piece S w4 4 h4 n h f b e, piece S w5 5 h5 n h f b e, piece S w6 6 h6 n h f b e, piece S w7 7 h7 n h f b e, piece S w8 8 h8 n h f b e, piece S w9 9 h9 n h f b e, piece S w10 10 h10 n h f b e, piece S w11 11 h11 n h f b e, piece S w12 12 h12 n h f b e, piece S w13 13 h13 n h f b e, piece S w14 14 h14 n h f b e, piece S w15 15 h15 n h f b e, trivial⟩

variable {m c} {D : Data} (H : Holds m c D)
include H

theorem v208_at (n : Fin 16) (h : Fin 4) (f : Fin 64) (b : Fin 2) (e : Fin 256) : v208 m c (ix5 n h f b e) = ((D.st (n.val) h (two f b) e : ℝ) : EReal) := by
  rw [e_v208]
  exact cat16 (fun k => D.st k) _ _ _ _ _ _ _ _ _ _ _ _ _ _ _ _ (v111_at H) (v114_at H) (v117_at H) (v120_at H) (v123_at H) (v126_at H) (v129_at H) (v132_at H) (v135_at H) (v138_at H) (v141_at H) (v144_at H) (v147_at H) (v150_at H) (v153_at H) (v156_at H) n h f b e

theorem v209_at (n : Fin 16) (h : Fin 4) (f : Fin 64) (b : Fin 2) (e : Fin 256) : v209 m c (ix5 n h f b e) = ((D.st (16 + n.val) h (two f b) e : ℝ) : EReal) := by
  rw [e_v209]
  exact cat16 (fun k => D.st (16 + k)) _ _ _ _ _ _ _ _ _ _ _ _ _ _ _ _ (v159_at H) (v162_at H) (v165_at H) (v168_at H) (v171_at H) (v174_at H) (v177_at H) (v180_at H) (v183_at H) (v186_at H) (v189_at H) (v192_at H) (v195_at H) (v198_at H) (v201_at H) (v204_at H) n h f b e

theorem v210_at (n : Fin 32) (h : Fin 4) (f : Fin 64) (b : Fin 2) (e : Fin 256) : v210 m c (ix5 n h f b e) = ((D.st n.val h (two f b) e : ℝ) : EReal) := by
  rw [e_v210]
  pointwise [v208_at H, v209_at H]
  by_cases hn : n.val < 16
  · rw [dif_pos hn]
  · rw [dif_neg hn, show 16 + (n.val - 16) = n.val by omega]

theorem v215_at (n : Fin 32) (h : Fin 4) (i : Fin 128) (e : Fin 256) : v215 m c (ix4 n h i e) = ((D.o n.val h i e : ℝ) : EReal) := by
  rw [e_v215, e_v214, e_v85]
  pointwise [v210_at H, v213_at H, v55_at H, v84_at H]
  simp only [← EReal.coe_mul, ← coe_sum, ← EReal.coe_add]
  exact congrArg (fun z : ℝ => (((∑ j, D.sd n.val h i j * D.v n.val h j e) + z : ℝ) : EReal)) (sum_two fun d => D.q n.val h i d * xi h i * D.st n.val h d e)

theorem v219_at (n : Fin 32) (h : Fin 4) (i : Fin 128) : v219 m c (ix4 n h i 0) = ((D.mu n.val h i : ℝ) : EReal) := by
  rw [e_v219, e_v218, e_cst_14, e_v217, e_v216, e_cst_13]
  pointwise [v215_at H]
  simp only [ofBits_256, ← coe_sum, div_coe_coe _ (by norm_num : (256 : ℝ) ≠ 0), Data.mu]

theorem v221_at (n : Fin 32) (h : Fin 4) (i : Fin 128) (e : Fin 256) : v221 m c (ix4 n h i e) = ((D.cen n.val h i e : ℝ) : EReal) := by
  rw [e_v221, e_v220]
  pointwise [v215_at H, v219_at H]
  simp only [← EReal.coe_sub, Data.cen]

theorem v231_at (n : Fin 32) (h : Fin 4) (i : Fin 128) (e : Fin 256) : v231 m c (ix4 n h i e) = ((D.cen n.val h i e : ℝ) : EReal) := by
  rw [e_v231, e_v230]
  pointwise [v215_at H, v219_at H]
  simp only [← EReal.coe_sub, Data.cen]

theorem v229_at (n : Fin 32) (h : Fin 4) (i : Fin 128) : v229 m c (ix4 n h i 0) = ((D.sc n.val h i : ℝ) : EReal) := by
  rw [e_v229, e_v228, e_v227, e_cst_17, e_v226, e_v225, e_cst_16, e_v224, e_v223, e_cst_15, e_v222]
  pointwise [v221_at H]
  simp only [ofBits_256, ofBits_eps, ← EReal.coe_mul, ← coe_sum, ← EReal.coe_add, div_coe_coe _ (by norm_num : (256 : ℝ) ≠ 0)]
  exact rsqrt_of_pos (D.vr_pos _ _ _)

theorem v233_at (n : Fin 32) (h : Fin 4) (i : Fin 128) (e : Fin 256) : v233 m c (ix4 n h i e) = ((D.rn n.val h i e : ℝ) : EReal) := by
  rw [e_v233, e_v232]
  pointwise [v229_at H, v231_at H]
  simp only [← EReal.coe_mul, Data.rn]

theorem v239_at (t : Fin 4096) (k : Fin 1024) : v239 m c (ix2 t k) = ((D.rn (ch t) (hd k) (pos t) (ln k) : ℝ) : EReal) := by
  rw [e_v239, e_v238, e_v237]
  pointwise [v233_at H]
  simp only [ch, hd, pos, ln]

theorem v240_at (t : Fin 4096) (h : Fin 4) : v240 m c (ix2 t ⟨16 * h.val, by omega⟩) = ((D.sc (ch t) h (pos t) : ℝ) : EReal) := by
  rw [e_v240, e_v236, e_v235, e_v234]
  pointwise [v229_at H]
  rw [dif_pos (by omega)]; rfl

theorem v243_at (h : Fin 4) (n : Fin 32) (d : Fin 128) (e : Fin 256) : v243 m c (ix4 h n d e) = ((D.st n.val h d e : ℝ) : EReal) := by
  rw [e_v243, e_v242, e_v241]
  pointwise [v210_at H]
  rw [two_div d _ _ rfl rfl]

theorem v249_q (t : Fin 4096) (h : Fin 4) (d : Fin 128) : v249 m c (ix2 t (Data.qcol h d)) = ((D.qt t h d : ℝ) : EReal) := by
  rw [e_v249, e_v248, e_v247, e_v246, e_v245, e_v244]
  pointwise [H.h0, v31_at H, v50_at H]
  have e : (Data.qcol h d).val = 4608 + (h.val * 128 + d.val) := rfl
  have hh := h.isLt
  have hd := d.isLt
  rw [dif_neg (by omega), dif_pos (by omega), two_div d _ _ (by simp only [e]; omega) (by simp only [e]; omega)]
  exact congrArg (fun z => ((D.qt t z d : ℝ) : EReal)) (Fin.ext (by simp only [e]; omega))

theorem v249_k (t : Fin 4096) (h : Fin 4) (d : Fin 128) : v249 m c (ix2 t (Data.kcol h d)) = ((D.kt t h d : ℝ) : EReal) := by
  rw [e_v249, e_v248, e_v247, e_v246, e_v245, e_v244]
  pointwise [H.h0, v31_at H, v50_at H]
  have e : (Data.kcol h d).val = 5120 + (h.val * 128 + d.val) := rfl
  have hh := h.isLt
  have hd := d.isLt
  rw [dif_neg (by omega), dif_neg (by omega), dif_pos (by omega), two_div d _ _ (by simp only [e]; omega) (by simp only [e]; omega)]
  exact congrArg (fun z => ((D.kt t z d : ℝ) : EReal)) (Fin.ext (by simp only [e]; omega))

theorem v249_v (t : Fin 4096) (h : Fin 4) (e : Fin 256) : v249 m c (ix2 t (Data.vcol h e)) = ((D.x t (Data.vcol h e) : ℝ) : EReal) := by
  rw [e_v249, e_v248, e_v247, e_v246, e_v245, e_v244]
  pointwise [H.h0, v31_at H, v50_at H]
  have e' : (Data.vcol h e).val = 5632 + (h.val * 256 + e.val) := rfl
  rw [dif_neg (by omega), dif_neg (by omega), dif_neg (by omega)]
  exact congrArg (fun z => ((D.x t z : ℝ) : EReal)) (Fin.ext (by simp only [e']; omega))

theorem v249_g (t : Fin 4096) (h : Fin 4) (e : Fin 256) : v249 m c (ix2 t (Data.gcol h e)) = ((D.x t (Data.gcol h e) : ℝ) : EReal) := by
  rw [e_v249, e_v248, e_v247, e_v246, e_v245, e_v244]
  pointwise [H.h0, v31_at H, v50_at H]
  have e' : (Data.gcol h e).val = 6656 + (h.val * 256 + e.val) := rfl
  rw [dif_neg (by omega), dif_neg (by omega), dif_neg (by omega)]
  exact congrArg (fun z => ((D.x t z : ℝ) : EReal)) (Fin.ext (by simp only [e']; omega))

theorem v250_at (t : Fin 4096) (k : Fin 1024) : v250 m c (ix2 t k) = ((D.dy t k : ℝ) : EReal) := by
  rw [e_v250]
  pointwise [H.h1]

end Cert.Proof.RetHost

end
-- ==== Proof.RetKerD.lean ====
/-
  The retention kernel's host arrays read at an index, fourth part: the rotation tables and the decays.
-/
module

public import proofs.«01_k».proof.Proof.RetKerA

@[expose] public section

set_option maxRecDepth 16384

noncomputable section

namespace Cert.Proof.RetHost

open Cert.RetKernelIdeal Cert.RetKernelIdeal.Gen Idealize.ShloMosaic Idealize.ShloMosaic.TcCoe Idealize.ShloMosaic.StableHlo Idealize.SL.Sem Cert.Proof.Ret
open Cert.Proof.Grad (coe_sum div_coe_coe rsqrt_of_pos ofBits_eps ofBits_half ofBits_neg_half eps eps_pos sg)
open scoped BigOperators

variable (m : (ℓ : Loc nD τ sig) → Buf (Elt Ideal) ℓ) (c : Dev nD)

variable {m c} {D : Data} (H : Holds m c D)
include H

theorem v251_at (t : Fin 4096) : v251 m c (ix1 t) = ((t.val : ℝ) : EReal) := by
  rw [e_v251]
  pointwise []
  exact sit_fin t (by norm_num)

theorem v261_at (t : Fin 4096) (f : Fin 64) : v261 m c (ix2 t f) = ((ang t f : ℝ) : EReal) := by
  rw [e_v261, e_v260, e_v259, e_v258, e_v257, e_v256, e_v255, e_cst_21, e_v254, e_v253, e_cst_20, e_v252, e_call2_v16, e_call2_v15, e_call2_v14, e_call2_v13, e_call2_v12, e_call2_v11, e_call2_v10, e_call2_v9, e_call2_v8, e_call2_cst_1, e_call2_v7, e_call2_v6, e_call2_v5, e_call2_cst_0, e_call2_v4, e_call2_v1, e_call2_v0, e_cst_19, e_cst_18]
  pointwise [v251_at H]
  have e := lin_scalar f
  rw [one_mul] at e
  rw [e, ang_scalar]

theorem v264_at (t : Fin 4096) (d : Fin 128) : v264 m c (ix2 t d) = ((cs t (frq d) : ℝ) : EReal) := by
  rw [e_v264, e_v263, e_v262]
  pointwise [v261_at H]
  simp only [Ideal.cos_coe, cs, frq]

theorem v267_at (t : Fin 4096) (d : Fin 128) : v267 m c (ix2 t d) = ((sn t (frq d) : ℝ) : EReal) := by
  rw [e_v267, e_v266, e_v265]
  pointwise [v261_at H]
  simp only [Ideal.sin_coe, sn, frq]

theorem v271_at (d : Fin 128) : v271 m c (ix1 d) = if d.val % 2 = 0 then 1#1 else 0#1 := by
  rw [e_v271, e_v270, e_c_22, e_v269, e_call3_v14, e_call3_v13, e_call3_v12, e_call3_v11, e_call3_v10, e_call3_v9, e_call3_c_3, e_call3_v8, e_call3_v7, e_call3_c_2, e_call3_v6, e_call3_v5, e_call3_c_1, e_call3_v4, e_call3_v3, e_call3_v2, e_call3_c_0, e_call3_v1, e_call3_c, e_call3_v0, e_ctwo, e_v268]
  pointwise []
  clear H
  revert d
  decide +kernel

theorem v273_at (t : Fin 4096) (d : Fin 128) : v273 m c (ix2 t d) = ((if d.val % 2 = 0 then 0 else sn t (frq d) : ℝ) : EReal) := by
  rw [e_v273, e_call4_v2, e_call4_v1, e_call4_v0, e_cst_23, e_v272]
  pointwise [v267_at H, v271_at H]
  by_cases hd : d.val % 2 = 0
  · rw [if_pos hd, if_pos hd]; rfl
  · rw [if_neg hd, if_neg hd]; rfl

theorem v275_at (t : Fin 4096) (d : Fin 128) : v275 m c (ix2 t d) = ((if d.val % 2 = 0 then -sn t (frq d) else 0 : ℝ) : EReal) := by
  rw [e_v275, e_call5_v2, e_call5_v1, e_call5_v0, e_cst_24, e_v274, e_v272]
  pointwise [v267_at H, v271_at H]
  by_cases hd : d.val % 2 = 0
  · rw [if_pos hd, if_pos hd]; rfl
  · rw [if_neg hd, if_neg hd]; rfl

theorem v285_10 (t : Fin 4096) (d : Fin 128) : v285 m c (ix4 1 0 t d) = ((cs t (frq d) : ℝ) : EReal) := by
  rw [e_v285, e_v284, e_v283, e_v282, e_v281, e_v280, e_cst_25, e_v279, e_v278, e_v277, e_v276]
  pointwise [v264_at H, v273_at H, v275_at H]

theorem v285_11 (t : Fin 4096) (d : Fin 128) : v285 m c (ix4 1 1 t d) = ((if d.val % 2 = 0 then 0 else sn t (frq d) : ℝ) : EReal) := by
  rw [e_v285, e_v284, e_v283, e_v282, e_v281, e_v280, e_cst_25, e_v279, e_v278, e_v277, e_v276]
  pointwise [v264_at H, v273_at H, v275_at H]

theorem v285_12 (t : Fin 4096) (d : Fin 128) : v285 m c (ix4 1 2 t d) = ((if d.val % 2 = 0 then -sn t (frq d) else 0 : ℝ) : EReal) := by
  rw [e_v285, e_v284, e_v283, e_v282, e_v281, e_v280, e_cst_25, e_v279, e_v278, e_v277, e_v276]
  pointwise [v264_at H, v273_at H, v275_at H]

theorem v285_20 (t : Fin 4096) (d : Fin 128) : v285 m c (ix4 2 0 t d) = (((cs t (frq d)) * ksc : ℝ) : EReal) := by
  rw [e_v285, e_v284, e_v283, e_v282, e_v281, e_v280, e_cst_25, e_v279, e_v278, e_v277, e_v276]
  pointwise [v264_at H, v273_at H, v275_at H]
  simp only [ofBits_ksc, ← EReal.coe_mul]

theorem v285_21 (t : Fin 4096) (d : Fin 128) : v285 m c (ix4 2 1 t d) = (((if d.val % 2 = 0 then 0 else sn t (frq d)) * ksc : ℝ) : EReal) := by
  rw [e_v285, e_v284, e_v283, e_v282, e_v281, e_v280, e_cst_25, e_v279, e_v278, e_v277, e_v276]
  pointwise [v264_at H, v273_at H, v275_at H]
  simp only [ofBits_ksc, ← EReal.coe_mul]

theorem v285_22 (t : Fin 4096) (d : Fin 128) : v285 m c (ix4 2 2 t d) = (((if d.val % 2 = 0 then -sn t (frq d) else 0) * ksc : ℝ) : EReal) := by
  rw [e_v285, e_v284, e_v283, e_v282, e_v281, e_v280, e_cst_25, e_v279, e_v278, e_v277, e_v276]
  pointwise [v264_at H, v273_at H, v275_at H]
  simp only [ofBits_ksc, ← EReal.coe_mul]

theorem v292_at (h : Fin 4) : v292 m c (ix1 h) = ((lg h : ℝ) : EReal) := by
  rw [e_v292, e_v291, e_v290, e_v289, e_cst_27, e_v288, e_v287, e_cst_26, e_v286]
  pointwise []
  exact lg_scalar h

theorem v293_at (i : Fin 128) : v293 m c (ix1 i) = ((i.val : ℝ) : EReal) := by
  rw [e_v293]
  pointwise []
  exact sit_fin i (by norm_num)

theorem v298_at (i j : Fin 128) : v298 m c (ix2 i j) = (((i.val : ℝ) - j.val : ℝ) : EReal) := by
  rw [e_v298, e_v297, e_v296, e_v295, e_v294]
  pointwise [v293_at H]
  simp only [← EReal.coe_sub]

theorem v310_at (h : Fin 4) (i j : Fin 128) : v310 m c (ix3 h i j) = ((dm h i j : ℝ) : EReal) := by
  rw [e_v310, e_call6_v2, e_call6_v1, e_call6_v0, e_cst_30, e_v309, e_v308, e_v307, e_v306, e_v305, e_v304, e_v303, e_v302, e_cst_29, e_v301, e_v300, e_cst_28, e_v299]
  pointwise [v292_at H, v298_at H]
  exact dm_scalar h i j

theorem v331_at (h : Fin 4) (i d : Fin 128) : v331 m c (ix3 h i d) = ((zt h i : ℝ) : EReal) := by
  rw [e_v331, e_v330, e_v318, e_v317, e_v316, e_v315, e_v314, e_v313, e_v312, e_v311, e_cst_31]
  pointwise [v292_at H, v293_at H]
  simp only [ofBits_127, ← EReal.coe_sub, ← EReal.coe_mul, Ideal.exp_coe, zt]

theorem v333_at (h : Fin 4) (i d : Fin 128) : v333 m c (ix3 h i d) = ((xi h i : ℝ) : EReal) := by
  rw [e_v333, e_v332, e_v326, e_v325, e_v324, e_v323, e_v322, e_v321, e_v320, e_v319, e_cst_32]
  pointwise [v292_at H, v293_at H]
  simp only [← EReal.coe_one, ← EReal.coe_add, ← EReal.coe_mul, Ideal.exp_coe, xi]

theorem v335_at (h : Fin 4) (k : Fin 8) (e : Fin 256) : v335 m c (ix3 h k e) = ((dec h : ℝ) : EReal) := by
  rw [e_v335, e_v334, e_v329, e_v328, e_v327, e_cst_33]
  pointwise [v292_at H]
  simp only [ofBits_128, ← EReal.coe_mul, Ideal.exp_coe, dec]

end Cert.Proof.RetHost

end
-- ==== Proof.RetBlk.lean ====
/-
  The blocks that the retention kernel loads at a grid point, element by element, for arguments that are real numbers:
  point `t` works on chunk `31 - t`.
-/
module

public import proofs.«01_k».proof.Proof.RetKerC
public import proofs.«01_k».proof.Proof.RetKerD
public import proofs.«01_k».proof.Proof.Gen.RetKernelIdeal.Value

@[expose] public section

set_option maxRecDepth 16384

noncomputable section

namespace Cert.Proof.RetHost

open Cert.RetKernelIdeal Cert.RetKernelIdeal.Gen Idealize.ShloMosaic Idealize.ShloMosaic.TcCoe Idealize.SL.Sem Cert.Proof.Ret
open scoped BigOperators

theorem N_0 : cfg0.N = 32 := by decide +kernel

/-- Where each window's block lies at a grid point. -/
theorem idx_val : ∀ t : Fin cfg0.N, win0_0.index t = ![31 - t.val, 9]
    ∧ win0_1.index t = ![31 - t.val, 10]
    ∧ win0_2.index t = ![31 - t.val, 11]
    ∧ win0_3.index t = ![31 - t.val, 12]
    ∧ win0_4.index t = ![31 - t.val, 13]
    ∧ win0_5.index t = ![31 - t.val, 14]
    ∧ win0_6.index t = ![31 - t.val, 0]
    ∧ win0_7.index t = ![31 - t.val, 0]
    ∧ win0_8.index t = ![31 - t.val, 0]
    ∧ win0_9.index t = ![0, 31 - t.val, 0, 0]
    ∧ win0_10.index t = ![1, 0, 31 - t.val, 0]
    ∧ win0_11.index t = ![2, 0, 31 - t.val, 0]
    ∧ win0_12.index t = ![0, 0, 0]
    ∧ win0_13.index t = ![0, 0, 0]
    ∧ win0_14.index t = ![0, 0, 0]
    ∧ win0_15.index t = ![0, 0, 0]
    ∧ win0_16.index t = ![31 - t.val, 0] :=
  (by decide +kernel : ∀ t : Fin grid0.N, _)

/-- The chunk of a grid point. -/
def cn (t : Fin cfg0.N) : ℕ := 31 - t.val
theorem tok_val (t : Fin cfg0.N) (i : Fin 128) : (tok (cn t) i).val = (31 - t.val) * 128 + i.val := by
  have := i.isLt
  show (cn t * 128 + i.val) % 4096 = _
  unfold cn
  omega
theorem t_lt (t : Fin cfg0.N) : t.val < 32 := lt_of_lt_of_eq t.isLt N_0
theorem ch_cn (t : Fin cfg0.N) (i : Fin 128) : ch (tok (cn t) i) = cn t :=
  ch_tok ⟨31 - t.val, by omega⟩ i
theorem pos_cn (t : Fin cfg0.N) (i : Fin 128) : pos (tok (cn t) i) = i :=
  pos_tok ⟨31 - t.val, by omega⟩ i

variable {m : (ℓ : Loc nD τ sig) → Buf (Elt Ideal) ℓ} {c : Dev nD} {D : Data} (H : Holds m c D) (t : Fin cfg0.N)
include H

theorem blk0 (h : Fin 4) (i d : Fin 128) (k : Fin 512) (hk : k.val = h.val * 128 + d.val) :
    (show FVec Ideal S128x512 .bf16 from iblk m c 0 t) (ix2 i k) = (D.q (cn t) h i d : EReal) := by
  refine Eq.trans ?_ (v249_q H (tok (cn t) i) h d)
  have hv := tok_val t
  have ht := t_lt t
  have hi := hv i
  have hc : (Data.qcol h d).val = 4608 + (h.val * 128 + d.val) := rfl
  rw [v249, R_eq]
  blk_ext [iblk, idx_val t]

theorem blk1 (h : Fin 4) (i d : Fin 128) (k : Fin 512) (hk : k.val = h.val * 128 + d.val) :
    (show FVec Ideal S128x512 .bf16 from iblk m c 1 t) (ix2 i k) = (D.k (cn t) h i d : EReal) := by
  refine Eq.trans ?_ (v249_k H (tok (cn t) i) h d)
  have hv := tok_val t
  have ht := t_lt t
  have hi := hv i
  have hc : (Data.kcol h d).val = 5120 + (h.val * 128 + d.val) := rfl
  rw [v249, R_eq]
  blk_ext [iblk, idx_val t]

theorem blk2 (h : Fin 4) (i : Fin 128) (e : Fin 256) (k : Fin 512) (hk : k.val + 0 = h.val * 256 + e.val) :
    (show FVec Ideal S128x512 .bf16 from iblk m c 2 t) (ix2 i k) = (D.v (cn t) h i e : EReal) := by
  refine Eq.trans ?_ (v249_v H (tok (cn t) i) h e)
  have hv := tok_val t
  have ht := t_lt t
  have hi := hv i
  have hc : (Data.vcol h e).val = 5632 + (h.val * 256 + e.val) := rfl
  rw [v249, R_eq]
  blk_ext [iblk, idx_val t]

theorem blk3 (h : Fin 4) (i : Fin 128) (e : Fin 256) (k : Fin 512) (hk : k.val + 512 = h.val * 256 + e.val) :
    (show FVec Ideal S128x512 .bf16 from iblk m c 3 t) (ix2 i k) = (D.v (cn t) h i e : EReal) := by
  refine Eq.trans ?_ (v249_v H (tok (cn t) i) h e)
  have hv := tok_val t
  have ht := t_lt t
  have hi := hv i
  have hc : (Data.vcol h e).val = 5632 + (h.val * 256 + e.val) := rfl
  rw [v249, R_eq]
  blk_ext [iblk, idx_val t]

theorem blk4 (h : Fin 4) (i : Fin 128) (e : Fin 256) (k : Fin 512) (hk : k.val + 0 = h.val * 256 + e.val) :
    (show FVec Ideal S128x512 .bf16 from iblk m c 4 t) (ix2 i k) = (D.gr (cn t) h i e : EReal) := by
  refine Eq.trans ?_ (v249_g H (tok (cn t) i) h e)
  have hv := tok_val t
  have ht := t_lt t
  have hi := hv i
  have hc : (Data.gcol h e).val = 6656 + (h.val * 256 + e.val) := rfl
  rw [v249, R_eq]
  blk_ext [iblk, idx_val t]

theorem blk5 (h : Fin 4) (i : Fin 128) (e : Fin 256) (k : Fin 512) (hk : k.val + 512 = h.val * 256 + e.val) :
    (show FVec Ideal S128x512 .bf16 from iblk m c 5 t) (ix2 i k) = (D.gr (cn t) h i e : EReal) := by
  refine Eq.trans ?_ (v249_g H (tok (cn t) i) h e)
  have hv := tok_val t
  have ht := t_lt t
  have hi := hv i
  have hc : (Data.gcol h e).val = 6656 + (h.val * 256 + e.val) := rfl
  rw [v249, R_eq]
  blk_ext [iblk, idx_val t]

theorem blk6 (h : Fin 4) (i : Fin 128) (e : Fin 256) (k : Fin 1024) (hk : k.val = h.val * 256 + e.val) :
    (show FVec Ideal S128x1024 .bf16 from iblk m c 6 t) (ix2 i k) = (D.rn (cn t) h i e : EReal) := by
  have e1 : hd k = h := by apply Fin.ext; show k.val / 256 = h.val; have := e.isLt; omega
  have e2 : ln k = e := by apply Fin.ext; show k.val % 256 = e.val; have := e.isLt; omega
  have e3 := v239_at H (tok (cn t) i) k
  rw [ch_cn, pos_cn, e1, e2] at e3
  refine Eq.trans ?_ e3
  have hi := tok_val t i
  have ht := t_lt t
  rw [v239, R_eq]
  blk_ext [iblk, idx_val t]

theorem blk7 (h : Fin 4) (i : Fin 128) (k : Fin 128) (hk : k.val = 16 * h.val) :
    (show FVec Ideal S128x128 .f32 from iblk m c 7 t) (ix2 i k) = (D.sc (cn t) h i : EReal) := by
  have e3 := v240_at H (tok (cn t) i) h
  rw [ch_cn, pos_cn] at e3
  refine Eq.trans ?_ e3
  have hi := tok_val t i
  have ht := t_lt t
  rw [v240, R_eq]
  blk_ext [iblk, idx_val t]

theorem blk8 (h : Fin 4) (i : Fin 128) (e : Fin 256) (k : Fin 1024) (hk : k.val = h.val * 256 + e.val) :
    (show FVec Ideal S128x1024 .bf16 from iblk m c 8 t) (ix2 i k) = (D.dyo (cn t) h i e : EReal) := by
  refine Eq.trans ?_ (v250_at H (tok (cn t) i) (Data.ocol h e))
  have hi := tok_val t i
  have ht := t_lt t
  have hc : (Data.ocol h e).val = h.val * 256 + e.val := rfl
  rw [v250, R_eq]
  blk_ext [iblk, idx_val t]

theorem blk9 (h : Fin 4) (d : Fin 128) (e : Fin 256) :
    (show FVec Ideal S4x1x128x256 .bf16 from iblk m c 9 t) (ix4 h 0 d e) = (D.st (cn t) h d e : EReal) := by
  refine Eq.trans ?_ (v243_at H h ⟨31 - t.val, by omega⟩ d e)
  have ht := t_lt t
  rw [v243, R_eq]
  blk_ext [iblk, idx_val t]

theorem blk10_0 (i d : Fin 128) :
    (show FVec Ideal S1x3x128x128 .f32 from iblk m c 10 t) (ix4 0 0 i d) = ((cs (tok (cn t) i) (frq d) : ℝ) : EReal) := by
  refine Eq.trans ?_ (v285_10 H (tok (cn t) i) d)
  have hi := tok_val t i
  have ht := t_lt t
  rw [v285, R_eq]
  blk_ext [iblk, idx_val t]

theorem blk10_1 (i d : Fin 128) :
    (show FVec Ideal S1x3x128x128 .f32 from iblk m c 10 t) (ix4 0 1 i d) = (((if d.val % 2 = 0 then 0 else sn (tok (cn t) i) (frq d)) : ℝ) : EReal) := by
  refine Eq.trans ?_ (v285_11 H (tok (cn t) i) d)
  have hi := tok_val t i
  have ht := t_lt t
  rw [v285, R_eq]
  blk_ext [iblk, idx_val t]

theorem blk10_2 (i d : Fin 128) :
    (show FVec Ideal S1x3x128x128 .f32 from iblk m c 10 t) (ix4 0 2 i d) = (((if d.val % 2 = 0 then -sn (tok (cn t) i) (frq d) else 0) : ℝ) : EReal) := by
  refine Eq.trans ?_ (v285_12 H (tok (cn t) i) d)
  have hi := tok_val t i
  have ht := t_lt t
  rw [v285, R_eq]
  blk_ext [iblk, idx_val t]

theorem blk11_0 (i d : Fin 128) :
    (show FVec Ideal S1x3x128x128 .f32 from iblk m c 11 t) (ix4 0 0 i d) = ((cs (tok (cn t) i) (frq d) * ksc : ℝ) : EReal) := by
  refine Eq.trans ?_ (v285_20 H (tok (cn t) i) d)
  have hi := tok_val t i
  have ht := t_lt t
  rw [v285, R_eq]
  blk_ext [iblk, idx_val t]

theorem blk11_1 (i d : Fin 128) :
    (show FVec Ideal S1x3x128x128 .f32 from iblk m c 11 t) (ix4 0 1 i d) = (((if d.val % 2 = 0 then 0 else sn (tok (cn t) i) (frq d)) * ksc : ℝ) : EReal) := by
  refine Eq.trans ?_ (v285_21 H (tok (cn t) i) d)
  have hi := tok_val t i
  have ht := t_lt t
  rw [v285, R_eq]
  blk_ext [iblk, idx_val t]

theorem blk11_2 (i d : Fin 128) :
    (show FVec Ideal S1x3x128x128 .f32 from iblk m c 11 t) (ix4 0 2 i d) = (((if d.val % 2 = 0 then -sn (tok (cn t) i) (frq d) else 0) * ksc : ℝ) : EReal) := by
  refine Eq.trans ?_ (v285_22 H (tok (cn t) i) d)
  have hi := tok_val t i
  have ht := t_lt t
  rw [v285, R_eq]
  blk_ext [iblk, idx_val t]

theorem blk12 (h : Fin 4) (i j : Fin 128) :
    (show FVec Ideal S4x128x128 .f32 from iblk m c 12 t) (ix3 h i j) = (Ret.dm h i j : EReal) := by
  refine Eq.trans ?_ (v310_at H h i j)
  rw [v310, R_eq]
  blk_ext [iblk, idx_val t]

theorem blk13 (h : Fin 4) (i j : Fin 128) :
    (show FVec Ideal S4x128x128 .f32 from iblk m c 13 t) (ix3 h i j) = (Ret.zt h i : EReal) := by
  refine Eq.trans ?_ (v331_at H h i j)
  rw [v331, R_eq]
  blk_ext [iblk, idx_val t]

theorem blk14 (h : Fin 4) (i j : Fin 128) :
    (show FVec Ideal S4x128x128 .f32 from iblk m c 14 t) (ix3 h i j) = (Ret.xi h i : EReal) := by
  refine Eq.trans ?_ (v333_at H h i j)
  rw [v333, R_eq]
  blk_ext [iblk, idx_val t]

theorem blk15 (h : Fin 4) (k : Fin 8) (e : Fin 256) :
    (show FVec Ideal S4x8x256 .f32 from iblk m c 15 t) (ix3 h k e) = (Ret.dec h : EReal) := by
  refine Eq.trans ?_ (v335_at H h k e)
  rw [v335, R_eq]
  blk_ext [iblk, idx_val t]

end Cert.Proof.RetHost

end
-- ==== Proof.RetPoint.lean ====
/-
  What the retention kernel leaves at a grid point: the row block of its result and the carried gradient of the state.
-/
module

public import proofs.«01_k».proof.Proof.RetPay
public import proofs.«01_k».proof.Proof.RetBlk
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof.RetHost

open Cert.RetKernelIdeal Cert.RetKernelIdeal.Gen Idealize.ShloMosaic Idealize.ShloMosaic.TcCoe Idealize.SL.Sem Cert.Proof.Ret
open scoped BigOperators

/-! ### Sixteen stores of columns, and four of heads -/

theorem cover16 (p0 : Vec Ideal S128x128 .bf16) (p1 : Vec Ideal S128x128 .bf16) (p2 : Vec Ideal S128x256 .bf16) (p3 : Vec Ideal S128x128 .bf16) (p4 : Vec Ideal S128x128 .bf16) (p5 : Vec Ideal S128x256 .bf16) (p6 : Vec Ideal S128x128 .bf16) (p7 : Vec Ideal S128x128 .bf16) (p8 : Vec Ideal S128x256 .bf16) (p9 : Vec Ideal S128x128 .bf16) (p10 : Vec Ideal S128x128 .bf16) (p11 : Vec Ideal S128x256 .bf16) (p12 : Vec Ideal S128x256 .bf16) (p13 : Vec Ideal S128x256 .bf16) (p14 : Vec Ideal S128x256 .bf16) (p15 : Vec Ideal S128x256 .bf16)
    (y : S128x3072.Idx) : ∃ p ∈ ([⟨Rect.unit ![0, 896] ![128, 128] inb_S128x3072_S128x128_0_896, p0⟩,
      ⟨Rect.unit ![0, 384] ![128, 128] inb_S128x3072_S128x128_0_384, p1⟩,
      ⟨Rect.unit ![0, 1792] ![128, 256] inb_S128x3072_S128x256_0_1792, p2⟩,
      ⟨Rect.unit ![0, 768] ![128, 128] inb_S128x3072_S128x128_0_768, p3⟩,
      ⟨Rect.unit ![0, 256] ![128, 128] inb_S128x3072_S128x128_0_256, p4⟩,
      ⟨Rect.unit ![0, 1536] ![128, 256] inb_S128x3072_S128x256_0_1536, p5⟩,
      ⟨Rect.unit ![0, 640] ![128, 128] inb_S128x3072_S128x128_0_640, p6⟩,
      ⟨Rect.unit ![0, 128] ![128, 128] inb_S128x3072_S128x128_0_128, p7⟩,
      ⟨Rect.unit ![0, 1280] ![128, 256] inb_S128x3072_S128x256_0_1280, p8⟩,
      ⟨Rect.unit ![0, 512] ![128, 128] inb_S128x3072_S128x128_0_512, p9⟩,
      ⟨Rect.unit ![0, 0] ![128, 128] inb_S128x3072_S128x128_0_0, p10⟩,
      ⟨Rect.unit ![0, 1024] ![128, 256] inb_S128x3072_S128x256_0_1024, p11⟩,
      ⟨Rect.unit ![0, 2816] ![128, 256] inb_S128x3072_S128x256_0_2816, p12⟩,
      ⟨Rect.unit ![0, 2560] ![128, 256] inb_S128x3072_S128x256_0_2560, p13⟩,
      ⟨Rect.unit ![0, 2304] ![128, 256] inb_S128x3072_S128x256_0_2304, p14⟩,
      ⟨Rect.unit ![0, 2048] ![128, 256] inb_S128x3072_S128x256_0_2048, p15⟩] :
      List (View.Piece (Elt Ideal) S128x3072 .bf16)), y ∈ p.1.set :=
  View.cover_of_tiledBy _ ![128, 128] (by sl_kernel_rfl) y

theorem tile128 (G : S128x3072.Idx → EReal) (y : S128x3072.Idx) (o : ℕ) (ho : o + 128 ≤ 3072) (p : Vec Ideal S128x128 .bf16)
    (hp : ∀ (i : Fin 128) (d : Fin 128), p (ix2 i d) = G (ix2 i ⟨o + d.val, by omega⟩)) :
    View.TileAt (Val := Elt Ideal) (e := .bf16) (S := S128x3072) y ![0, o] ![128, 128] p (G y) := by
  intro x hx
  have h0 := hx 0
  have h1 := hx 1
  idx_vars x
  idx_vars y
  refine (hp _ _).trans (congrArg G ?_)
  have h0' : y0.val = 0 + x0.val := h0
  have h1' : y1.val = o + x1.val := h1
  have e0 : x0 = y0 := Fin.ext (by omega)
  subst e0
  exact congrArg (ix2 x0) (Fin.ext h1'.symm)

theorem tile256 (G : S128x3072.Idx → EReal) (y : S128x3072.Idx) (o : ℕ) (ho : o + 256 ≤ 3072) (p : Vec Ideal S128x256 .bf16)
    (hp : ∀ (i : Fin 128) (d : Fin 256), p (ix2 i d) = G (ix2 i ⟨o + d.val, by omega⟩)) :
    View.TileAt (Val := Elt Ideal) (e := .bf16) (S := S128x3072) y ![0, o] ![128, 256] p (G y) := by
  intro x hx
  have h0 := hx 0
  have h1 := hx 1
  idx_vars x
  idx_vars y
  refine (hp _ _).trans (congrArg G ?_)
  have h0' : y0.val = 0 + x0.val := h0
  have h1' : y1.val = o + x1.val := h1
  have e0 : x0 = y0 := Fin.ext (by omega)
  subst e0
  exact congrArg (ix2 x0) (Fin.ext h1'.symm)

theorem canon16 (G : S128x3072.Idx → EReal) (p0 : Vec Ideal S128x128 .bf16) (p1 : Vec Ideal S128x128 .bf16) (p2 : Vec Ideal S128x256 .bf16) (p3 : Vec Ideal S128x128 .bf16) (p4 : Vec Ideal S128x128 .bf16) (p5 : Vec Ideal S128x256 .bf16) (p6 : Vec Ideal S128x128 .bf16) (p7 : Vec Ideal S128x128 .bf16) (p8 : Vec Ideal S128x256 .bf16) (p9 : Vec Ideal S128x128 .bf16) (p10 : Vec Ideal S128x128 .bf16) (p11 : Vec Ideal S128x256 .bf16) (p12 : Vec Ideal S128x256 .bf16) (p13 : Vec Ideal S128x256 .bf16) (p14 : Vec Ideal S128x256 .bf16) (p15 : Vec Ideal S128x256 .bf16)
    (h0 : ∀ (i : Fin 128) (d : Fin 128), p0 (ix2 i d) = G (ix2 i ⟨896 + d.val, by omega⟩))
    (h1 : ∀ (i : Fin 128) (d : Fin 128), p1 (ix2 i d) = G (ix2 i ⟨384 + d.val, by omega⟩))
    (h2 : ∀ (i : Fin 128) (d : Fin 256), p2 (ix2 i d) = G (ix2 i ⟨1792 + d.val, by omega⟩))
    (h3 : ∀ (i : Fin 128) (d : Fin 128), p3 (ix2 i d) = G (ix2 i ⟨768 + d.val, by omega⟩))
    (h4 : ∀ (i : Fin 128) (d : Fin 128), p4 (ix2 i d) = G (ix2 i ⟨256 + d.val, by omega⟩))
    (h5 : ∀ (i : Fin 128) (d : Fin 256), p5 (ix2 i d) = G (ix2 i ⟨1536 + d.val, by omega⟩))
    (h6 : ∀ (i : Fin 128) (d : Fin 128), p6 (ix2 i d) = G (ix2 i ⟨640 + d.val, by omega⟩))
    (h7 : ∀ (i : Fin 128) (d : Fin 128), p7 (ix2 i d) = G (ix2 i ⟨128 + d.val, by omega⟩))
    (h8 : ∀ (i : Fin 128) (d : Fin 256), p8 (ix2 i d) = G (ix2 i ⟨1280 + d.val, by omega⟩))
    (h9 : ∀ (i : Fin 128) (d : Fin 128), p9 (ix2 i d) = G (ix2 i ⟨512 + d.val, by omega⟩))
    (h10 : ∀ (i : Fin 128) (d : Fin 128), p10 (ix2 i d) = G (ix2 i ⟨0 + d.val, by omega⟩))
    (h11 : ∀ (i : Fin 128) (d : Fin 256), p11 (ix2 i d) = G (ix2 i ⟨1024 + d.val, by omega⟩))
    (h12 : ∀ (i : Fin 128) (d : Fin 256), p12 (ix2 i d) = G (ix2 i ⟨2816 + d.val, by omega⟩))
    (h13 : ∀ (i : Fin 128) (d : Fin 256), p13 (ix2 i d) = G (ix2 i ⟨2560 + d.val, by omega⟩))
    (h14 : ∀ (i : Fin 128) (d : Fin 256), p14 (ix2 i d) = G (ix2 i ⟨2304 + d.val, by omega⟩))
    (h15 : ∀ (i : Fin 128) (d : Fin 256), p15 (ix2 i d) = G (ix2 i ⟨2048 + d.val, by omega⟩))
    (y : S128x3072.Idx) : View.canon ([⟨Rect.unit ![0, 896] ![128, 128] inb_S128x3072_S128x128_0_896, p0⟩,
      ⟨Rect.unit ![0, 384] ![128, 128] inb_S128x3072_S128x128_0_384, p1⟩,
      ⟨Rect.unit ![0, 1792] ![128, 256] inb_S128x3072_S128x256_0_1792, p2⟩,
      ⟨Rect.unit ![0, 768] ![128, 128] inb_S128x3072_S128x128_0_768, p3⟩,
      ⟨Rect.unit ![0, 256] ![128, 128] inb_S128x3072_S128x128_0_256, p4⟩,
      ⟨Rect.unit ![0, 1536] ![128, 256] inb_S128x3072_S128x256_0_1536, p5⟩,
      ⟨Rect.unit ![0, 640] ![128, 128] inb_S128x3072_S128x128_0_640, p6⟩,
      ⟨Rect.unit ![0, 128] ![128, 128] inb_S128x3072_S128x128_0_128, p7⟩,
      ⟨Rect.unit ![0, 1280] ![128, 256] inb_S128x3072_S128x256_0_1280, p8⟩,
      ⟨Rect.unit ![0, 512] ![128, 128] inb_S128x3072_S128x128_0_512, p9⟩,
      ⟨Rect.unit ![0, 0] ![128, 128] inb_S128x3072_S128x128_0_0, p10⟩,
      ⟨Rect.unit ![0, 1024] ![128, 256] inb_S128x3072_S128x256_0_1024, p11⟩,
      ⟨Rect.unit ![0, 2816] ![128, 256] inb_S128x3072_S128x256_0_2816, p12⟩,
      ⟨Rect.unit ![0, 2560] ![128, 256] inb_S128x3072_S128x256_0_2560, p13⟩,
      ⟨Rect.unit ![0, 2304] ![128, 256] inb_S128x3072_S128x256_0_2304, p14⟩,
      ⟨Rect.unit ![0, 2048] ![128, 256] inb_S128x3072_S128x256_0_2048, p15⟩] :
      List (View.Piece (Elt Ideal) S128x3072 .bf16)) y = G y := by
  refine View.canon_eq_of_allAt _ _ _ (cover16 _ _ _ _ _ _ _ _ _ _ _ _ _ _ _ _ y) ?_
  refine View.allAt_cons_unit _ _ _ _ _ (tile128 G y 896 (by omega) p0 h0) ?_
  refine View.allAt_cons_unit _ _ _ _ _ (tile128 G y 384 (by omega) p1 h1) ?_
  refine View.allAt_cons_unit _ _ _ _ _ (tile256 G y 1792 (by omega) p2 h2) ?_
  refine View.allAt_cons_unit _ _ _ _ _ (tile128 G y 768 (by omega) p3 h3) ?_
  refine View.allAt_cons_unit _ _ _ _ _ (tile128 G y 256 (by omega) p4 h4) ?_
  refine View.allAt_cons_unit _ _ _ _ _ (tile256 G y 1536 (by omega) p5 h5) ?_
  refine View.allAt_cons_unit _ _ _ _ _ (tile128 G y 640 (by omega) p6 h6) ?_
  refine View.allAt_cons_unit _ _ _ _ _ (tile128 G y 128 (by omega) p7 h7) ?_
  refine View.allAt_cons_unit _ _ _ _ _ (tile256 G y 1280 (by omega) p8 h8) ?_
  refine View.allAt_cons_unit _ _ _ _ _ (tile128 G y 512 (by omega) p9 h9) ?_
  refine View.allAt_cons_unit _ _ _ _ _ (tile128 G y 0 (by omega) p10 h10) ?_
  refine View.allAt_cons_unit _ _ _ _ _ (tile256 G y 1024 (by omega) p11 h11) ?_
  refine View.allAt_cons_unit _ _ _ _ _ (tile256 G y 2816 (by omega) p12 h12) ?_
  refine View.allAt_cons_unit _ _ _ _ _ (tile256 G y 2560 (by omega) p13 h13) ?_
  refine View.allAt_cons_unit _ _ _ _ _ (tile256 G y 2304 (by omega) p14 h14) ?_
  refine View.allAt_cons_unit _ _ _ _ _ (tile256 G y 2048 (by omega) p15 h15) ?_
  exact View.allAt_nil _ _

theorem tileS (G : S4x128x256.Idx → EReal) (h : Fin 4) (k : ℕ) (hk : k = h.val) (p : Vec Ideal S1x128x256 .f32)
    (inb : ∀ a, (![k, 0, 0] : Fin 3 → ℕ) a + (![1, 128, 256] : Fin 3 → ℕ) a ≤ S4x128x256.size a)
    (hp : ∀ (a : Fin 1) (d : Fin 128) (e : Fin 256), p (ix3 a d e) = G (ix3 h d e)) :
    ∀ x : (Rect.unit ![k, 0, 0] ![1, 128, 256] inb : Rect S4x128x256).shape.Idx, p x = G ((Rect.unit ![k, 0, 0] ![1, 128, 256] inb : Rect S4x128x256).emb x) := by
  intro x
  idx_vars x
  refine (hp _ _ _).trans (congrArg G ?_)
  blk_ext []

theorem cover4 (p3 p2 p1 p0 : Vec Ideal S1x128x256 .f32) (y : S4x128x256.Idx) :
    ∃ p ∈ ([⟨Rect.unit ![3, 0, 0] ![1, 128, 256] inb_S4x128x256_S1x128x256_3_0_0, p3⟩, ⟨Rect.unit ![2, 0, 0] ![1, 128, 256] inb_S4x128x256_S1x128x256_2_0_0, p2⟩, ⟨Rect.unit ![1, 0, 0] ![1, 128, 256] inb_S4x128x256_S1x128x256_1_0_0, p1⟩, ⟨Rect.unit ![0, 0, 0] ![1, 128, 256] inb_S4x128x256_S1x128x256_0_0_0, p0⟩] : List (View.Piece (Elt Ideal) S4x128x256 .f32)), y ∈ p.1.set :=
  View.cover_of_tiledBy _ ![1, 128, 256] (by sl_kernel_rfl) y

theorem canon4 (G : S4x128x256.Idx → EReal) (p3 p2 p1 p0 : Vec Ideal S1x128x256 .f32) (L : List (View.Piece (Elt Ideal) S4x128x256 .f32))
    (h3 : ∀ (a : Fin 1) (d : Fin 128) (e : Fin 256), p3 (ix3 a d e) = G (ix3 3 d e))
    (h2 : ∀ (a : Fin 1) (d : Fin 128) (e : Fin 256), p2 (ix3 a d e) = G (ix3 2 d e))
    (h1 : ∀ (a : Fin 1) (d : Fin 128) (e : Fin 256), p1 (ix3 a d e) = G (ix3 1 d e))
    (h0 : ∀ (a : Fin 1) (d : Fin 128) (e : Fin 256), p0 (ix3 a d e) = G (ix3 0 d e)) (y : S4x128x256.Idx) :
    View.canon ((⟨Rect.unit ![3, 0, 0] ![1, 128, 256] inb_S4x128x256_S1x128x256_3_0_0, p3⟩ : View.Piece (Elt Ideal) S4x128x256 .f32) :: ⟨Rect.unit ![2, 0, 0] ![1, 128, 256] inb_S4x128x256_S1x128x256_2_0_0, p2⟩ :: ⟨Rect.unit ![1, 0, 0] ![1, 128, 256] inb_S4x128x256_S1x128x256_1_0_0, p1⟩ :: ⟨Rect.unit ![0, 0, 0] ![1, 128, 256] inb_S4x128x256_S1x128x256_0_0_0, p0⟩ :: L) y = G y :=
  View.canon_append_of_piecesOf (s := S4x128x256) (e := .f32) (Val := Elt Ideal) G L [⟨Rect.unit ![3, 0, 0] ![1, 128, 256] inb_S4x128x256_S1x128x256_3_0_0, p3⟩, ⟨Rect.unit ![2, 0, 0] ![1, 128, 256] inb_S4x128x256_S1x128x256_2_0_0, p2⟩, ⟨Rect.unit ![1, 0, 0] ![1, 128, 256] inb_S4x128x256_S1x128x256_1_0_0, p1⟩, ⟨Rect.unit ![0, 0, 0] ![1, 128, 256] inb_S4x128x256_S1x128x256_0_0_0, p0⟩]
    ⟨tileS G 3 3 rfl p3 inb_S4x128x256_S1x128x256_3_0_0 h3, tileS G 2 2 rfl p2 inb_S4x128x256_S1x128x256_2_0_0 h2, tileS G 1 1 rfl p1 inb_S4x128x256_S1x128x256_1_0_0 h1, tileS G 0 0 rfl p0 inb_S4x128x256_S1x128x256_0_0_0 h0, trivial⟩ y (cover4 p3 p2 p1 p0 y)

/-! ### The result's columns -/

section Columns
variable (D : Data) (t : Fin cfg0.N)

theorem cn_sub : 31 - cn t = t.val := by have := t_lt t; unfold cn; omega
theorem db_cn (h : Fin 4) : D.db (cn t) h = D.bk t.val h := by
  funext d e; show D.bk (31 - cn t) h d e = _; rw [cn_sub]
theorem dkX_cn (h : Fin 4) (i d : Fin 128) : dkX D (cn t) h (D.bk t.val h) i d = D.dk (cn t) h i d := by
  rw [← db_cn]; rfl
theorem bk_next (h : Fin 4) (d : Fin 128) (e : Fin 256) : D.bk t.val h d e * Ret.dec h + D.qd (cn t) h d e = D.bk (t.val + 1) h d e := rfl

theorem out_dq (h : Fin 4) (i d : Fin 128) (k : Fin 3072) (hk : k.val = h.val * 128 + d.val) :
    D.out (tok (cn t) i) k = D.dqx (cn t) h i d := by
  have h1 := h.isLt; have h2 := d.isLt
  unfold Data.out
  rw [dif_pos (by omega), ch_cn, pos_cn]
  congr 1 <;> apply Fin.ext
  · show k.val / 128 = h.val; omega
  · show k.val % 128 = d.val; omega
theorem out_dk (h : Fin 4) (i d : Fin 128) (k : Fin 3072) (hk : k.val = 512 + (h.val * 128 + d.val)) :
    D.out (tok (cn t) i) k = D.dkx (cn t) h i d := by
  have h1 := h.isLt; have h2 := d.isLt
  unfold Data.out
  rw [dif_neg (by omega), dif_pos (by omega), ch_cn, pos_cn]
  congr 1 <;> apply Fin.ext
  · show (k.val - 512) / 128 = h.val; omega
  · show (k.val - 512) % 128 = d.val; omega
theorem out_dv (h : Fin 4) (i : Fin 128) (e : Fin 256) (k : Fin 3072) (hk : k.val = 1024 + (h.val * 256 + e.val)) :
    D.out (tok (cn t) i) k = D.dv (cn t) h i e := by
  have h1 := h.isLt; have h2 := e.isLt
  unfold Data.out
  rw [dif_neg (by omega), dif_neg (by omega), dif_pos (by omega), ch_cn, pos_cn]
  congr 1 <;> apply Fin.ext
  · show (k.val - 1024) / 256 = h.val; omega
  · show (k.val - 1024) % 256 = e.val; omega
theorem out_dgr (h : Fin 4) (i : Fin 128) (e : Fin 256) (k : Fin 3072) (hk : k.val = 2048 + (h.val * 256 + e.val)) :
    D.out (tok (cn t) i) k = D.dgr (cn t) h i e := by
  have h1 := h.isLt; have h2 := e.isLt
  unfold Data.out
  rw [dif_neg (by omega), dif_neg (by omega), dif_neg (by omega), ch_cn, pos_cn]
  congr 1 <;> apply Fin.ext
  · show (k.val - 2048) / 256 = h.val; omega
  · show (k.val - 2048) % 256 = e.val; omega
end Columns

/-! ### What each head loads -/

section Point
variable {m : (ℓ : Loc nD τ sig) → Buf (Elt Ideal) ℓ} {c : Dev nD} {D : Data} (H : Holds m c D) (t : Fin cfg0.N)
include H

theorem ld_q0 (i d : Fin 128) : (show Vec Ideal S128x128 .bf16 from (View.ld (iblk m c 0 t) (Rect.unit ![0, 0] ![128, 128] inb_S128x512_S128x128_0_0))) (ix2 i d) = ((D.q (cn t) 0 i d : ℝ) : EReal) := by
  pointwise; exact blk0 H t 0 i d _ (by simp; try omega)
theorem ld_k0 (i d : Fin 128) : (show Vec Ideal S128x128 .bf16 from (View.ld (iblk m c 1 t) (Rect.unit ![0, 0] ![128, 128] inb_S128x512_S128x128_0_0))) (ix2 i d) = ((D.k (cn t) 0 i d : ℝ) : EReal) := by
  pointwise; exact blk1 H t 0 i d _ (by simp; try omega)
theorem ld_v0 (i : Fin 128) (e : Fin 256) : (show Vec Ideal S128x256 .bf16 from (View.ld (iblk m c 2 t) (Rect.unit ![0, 0] ![128, 256] inb_S128x512_S128x256_0_0))) (ix2 i e) = ((D.v (cn t) 0 i e : ℝ) : EReal) := by
  pointwise; exact blk2 H t 0 i e _ (by simp; try omega)
theorem ld_g0 (i : Fin 128) (e : Fin 256) : (show Vec Ideal S128x256 .bf16 from (View.ld (iblk m c 4 t) (Rect.unit ![0, 0] ![128, 256] inb_S128x512_S128x256_0_0))) (ix2 i e) = ((D.gr (cn t) 0 i e : ℝ) : EReal) := by
  pointwise; exact blk4 H t 0 i e _ (by simp; try omega)
theorem ld_rn0 (i : Fin 128) (e : Fin 256) : (show Vec Ideal S128x256 .bf16 from (View.ld (iblk m c 6 t) (Rect.unit ![0, 0] ![128, 256] inb_S128x1024_S128x256_0_0))) (ix2 i e) = ((D.rn (cn t) 0 i e : ℝ) : EReal) := by
  pointwise; exact blk6 H t 0 i e _ (by simp; try omega)
theorem ld_dy0 (i : Fin 128) (e : Fin 256) : (show Vec Ideal S128x256 .bf16 from (View.ld (iblk m c 8 t) (Rect.unit ![0, 0] ![128, 256] inb_S128x1024_S128x256_0_0))) (ix2 i e) = ((D.dyo (cn t) 0 i e : ℝ) : EReal) := by
  pointwise; exact blk8 H t 0 i e _ (by simp; try omega)
theorem ld_rs0 (i : Fin 128) : (show Vec Ideal S128x1 .f32 from (View.ld (iblk m c 7 t) (Rect.unit ![0, 0] ![128, 1] inb_S128x128_S128x1_0_0))) (ix2 i 0) = ((D.sc (cn t) 0 i : ℝ) : EReal) := by
  pointwise; exact blk7 H t 0 i _ (by simp; try omega)
theorem ld_st0 (d : Fin 128) (e : Fin 256) : (show Vec Ideal S1x1x128x256 .bf16 from (View.ld (iblk m c 9 t) (Rect.unit ![0, 0, 0, 0] ![1, 1, 128, 256] inb_S4x1x128x256_S1x1x128x256_0_0_0_0))) (ix4 0 0 d e) = ((D.st (cn t) 0 d e : ℝ) : EReal) := by
  pointwise; exact blk9 H t 0 d e
theorem ld_dm0 (i j : Fin 128) : (show Vec Ideal S1x128x128 .f32 from (View.ld (iblk m c 12 t) (Rect.unit ![0, 0, 0] ![1, 128, 128] inb_S4x128x128_S1x128x128_0_0_0))) (ix3 0 i j) = ((Ret.dm 0 i j : ℝ) : EReal) := by
  pointwise; exact blk12 H t 0 i j
theorem ld_zt0 (i j : Fin 128) : (show Vec Ideal S1x128x128 .f32 from (View.ld (iblk m c 13 t) (Rect.unit ![0, 0, 0] ![1, 128, 128] inb_S4x128x128_S1x128x128_0_0_0))) (ix3 0 i j) = ((Ret.zt 0 i : ℝ) : EReal) := by
  pointwise; exact blk13 H t 0 i j
theorem ld_xi0 (i j : Fin 128) : (show Vec Ideal S1x128x128 .f32 from (View.ld (iblk m c 14 t) (Rect.unit ![0, 0, 0] ![1, 128, 128] inb_S4x128x128_S1x128x128_0_0_0))) (ix3 0 i j) = ((Ret.xi 0 i : ℝ) : EReal) := by
  pointwise; exact blk14 H t 0 i j
theorem ld_dec0 (e : Fin 256) : (show Vec Ideal S1x1x256 .f32 from (View.ld (iblk m c 15 t) (Rect.unit ![0, 0, 0] ![1, 1, 256] inb_S4x8x256_S1x1x256_0_0_0))) (ix3 0 0 e) = ((Ret.dec 0 : ℝ) : EReal) := by
  pointwise; exact blk15 H t 0 0 e
theorem ld_q1 (i d : Fin 128) : (show Vec Ideal S128x128 .bf16 from (View.ld (iblk m c 0 t) (Rect.unit ![0, 128] ![128, 128] inb_S128x512_S128x128_0_128))) (ix2 i d) = ((D.q (cn t) 1 i d : ℝ) : EReal) := by
  pointwise; exact blk0 H t 1 i d _ (by simp; try omega)
theorem ld_k1 (i d : Fin 128) : (show Vec Ideal S128x128 .bf16 from (View.ld (iblk m c 1 t) (Rect.unit ![0, 128] ![128, 128] inb_S128x512_S128x128_0_128))) (ix2 i d) = ((D.k (cn t) 1 i d : ℝ) : EReal) := by
  pointwise; exact blk1 H t 1 i d _ (by simp; try omega)
theorem ld_v1 (i : Fin 128) (e : Fin 256) : (show Vec Ideal S128x256 .bf16 from (View.ld (iblk m c 2 t) (Rect.unit ![0, 256] ![128, 256] inb_S128x512_S128x256_0_256))) (ix2 i e) = ((D.v (cn t) 1 i e : ℝ) : EReal) := by
  pointwise; exact blk2 H t 1 i e _ (by simp; try omega)
theorem ld_g1 (i : Fin 128) (e : Fin 256) : (show Vec Ideal S128x256 .bf16 from (View.ld (iblk m c 4 t) (Rect.unit ![0, 256] ![128, 256] inb_S128x512_S128x256_0_256))) (ix2 i e) = ((D.gr (cn t) 1 i e : ℝ) : EReal) := by
  pointwise; exact blk4 H t 1 i e _ (by simp; try omega)
theorem ld_rn1 (i : Fin 128) (e : Fin 256) : (show Vec Ideal S128x256 .bf16 from (View.ld (iblk m c 6 t) (Rect.unit ![0, 256] ![128, 256] inb_S128x1024_S128x256_0_256))) (ix2 i e) = ((D.rn (cn t) 1 i e : ℝ) : EReal) := by
  pointwise; exact blk6 H t 1 i e _ (by simp; try omega)
theorem ld_dy1 (i : Fin 128) (e : Fin 256) : (show Vec Ideal S128x256 .bf16 from (View.ld (iblk m c 8 t) (Rect.unit ![0, 256] ![128, 256] inb_S128x1024_S128x256_0_256))) (ix2 i e) = ((D.dyo (cn t) 1 i e : ℝ) : EReal) := by
  pointwise; exact blk8 H t 1 i e _ (by simp; try omega)
theorem ld_rs1 (i : Fin 128) : (show Vec Ideal S128x1 .f32 from (View.ld (iblk m c 7 t) (Rect.unit ![0, 16] ![128, 1] inb_S128x128_S128x1_0_16))) (ix2 i 0) = ((D.sc (cn t) 1 i : ℝ) : EReal) := by
  pointwise; exact blk7 H t 1 i _ (by simp; try omega)
theorem ld_st1 (d : Fin 128) (e : Fin 256) : (show Vec Ideal S1x1x128x256 .bf16 from (View.ld (iblk m c 9 t) (Rect.unit ![1, 0, 0, 0] ![1, 1, 128, 256] inb_S4x1x128x256_S1x1x128x256_1_0_0_0))) (ix4 0 0 d e) = ((D.st (cn t) 1 d e : ℝ) : EReal) := by
  pointwise; exact blk9 H t 1 d e
theorem ld_dm1 (i j : Fin 128) : (show Vec Ideal S1x128x128 .f32 from (View.ld (iblk m c 12 t) (Rect.unit ![1, 0, 0] ![1, 128, 128] inb_S4x128x128_S1x128x128_1_0_0))) (ix3 0 i j) = ((Ret.dm 1 i j : ℝ) : EReal) := by
  pointwise; exact blk12 H t 1 i j
theorem ld_zt1 (i j : Fin 128) : (show Vec Ideal S1x128x128 .f32 from (View.ld (iblk m c 13 t) (Rect.unit ![1, 0, 0] ![1, 128, 128] inb_S4x128x128_S1x128x128_1_0_0))) (ix3 0 i j) = ((Ret.zt 1 i : ℝ) : EReal) := by
  pointwise; exact blk13 H t 1 i j
theorem ld_xi1 (i j : Fin 128) : (show Vec Ideal S1x128x128 .f32 from (View.ld (iblk m c 14 t) (Rect.unit ![1, 0, 0] ![1, 128, 128] inb_S4x128x128_S1x128x128_1_0_0))) (ix3 0 i j) = ((Ret.xi 1 i : ℝ) : EReal) := by
  pointwise; exact blk14 H t 1 i j
theorem ld_dec1 (e : Fin 256) : (show Vec Ideal S1x1x256 .f32 from (View.ld (iblk m c 15 t) (Rect.unit ![1, 0, 0] ![1, 1, 256] inb_S4x8x256_S1x1x256_1_0_0))) (ix3 0 0 e) = ((Ret.dec 1 : ℝ) : EReal) := by
  pointwise; exact blk15 H t 1 0 e
theorem ld_q2 (i d : Fin 128) : (show Vec Ideal S128x128 .bf16 from (View.ld (iblk m c 0 t) (Rect.unit ![0, 256] ![128, 128] inb_S128x512_S128x128_0_256))) (ix2 i d) = ((D.q (cn t) 2 i d : ℝ) : EReal) := by
  pointwise; exact blk0 H t 2 i d _ (by simp; try omega)
theorem ld_k2 (i d : Fin 128) : (show Vec Ideal S128x128 .bf16 from (View.ld (iblk m c 1 t) (Rect.unit ![0, 256] ![128, 128] inb_S128x512_S128x128_0_256))) (ix2 i d) = ((D.k (cn t) 2 i d : ℝ) : EReal) := by
  pointwise; exact blk1 H t 2 i d _ (by simp; try omega)
theorem ld_v2 (i : Fin 128) (e : Fin 256) : (show Vec Ideal S128x256 .bf16 from (View.ld (iblk m c 3 t) (Rect.unit ![0, 0] ![128, 256] inb_S128x512_S128x256_0_0))) (ix2 i e) = ((D.v (cn t) 2 i e : ℝ) : EReal) := by
  pointwise; exact blk3 H t 2 i e _ (by simp; try omega)
theorem ld_g2 (i : Fin 128) (e : Fin 256) : (show Vec Ideal S128x256 .bf16 from (View.ld (iblk m c 5 t) (Rect.unit ![0, 0] ![128, 256] inb_S128x512_S128x256_0_0))) (ix2 i e) = ((D.gr (cn t) 2 i e : ℝ) : EReal) := by
  pointwise; exact blk5 H t 2 i e _ (by simp; try omega)
theorem ld_rn2 (i : Fin 128) (e : Fin 256) : (show Vec Ideal S128x256 .bf16 from (View.ld (iblk m c 6 t) (Rect.unit ![0, 512] ![128, 256] inb_S128x1024_S128x256_0_512))) (ix2 i e) = ((D.rn (cn t) 2 i e : ℝ) : EReal) := by
  pointwise; exact blk6 H t 2 i e _ (by simp; try omega)
theorem ld_dy2 (i : Fin 128) (e : Fin 256) : (show Vec Ideal S128x256 .bf16 from (View.ld (iblk m c 8 t) (Rect.unit ![0, 512] ![128, 256] inb_S128x1024_S128x256_0_512))) (ix2 i e) = ((D.dyo (cn t) 2 i e : ℝ) : EReal) := by
  pointwise; exact blk8 H t 2 i e _ (by simp; try omega)
theorem ld_rs2 (i : Fin 128) : (show Vec Ideal S128x1 .f32 from (View.ld (iblk m c 7 t) (Rect.unit ![0, 32] ![128, 1] inb_S128x128_S128x1_0_32))) (ix2 i 0) = ((D.sc (cn t) 2 i : ℝ) : EReal) := by
  pointwise; exact blk7 H t 2 i _ (by simp; try omega)
theorem ld_st2 (d : Fin 128) (e : Fin 256) : (show Vec Ideal S1x1x128x256 .bf16 from (View.ld (iblk m c 9 t) (Rect.unit ![2, 0, 0, 0] ![1, 1, 128, 256] inb_S4x1x128x256_S1x1x128x256_2_0_0_0))) (ix4 0 0 d e) = ((D.st (cn t) 2 d e : ℝ) : EReal) := by
  pointwise; exact blk9 H t 2 d e
theorem ld_dm2 (i j : Fin 128) : (show Vec Ideal S1x128x128 .f32 from (View.ld (iblk m c 12 t) (Rect.unit ![2, 0, 0] ![1, 128, 128] inb_S4x128x128_S1x128x128_2_0_0))) (ix3 0 i j) = ((Ret.dm 2 i j : ℝ) : EReal) := by
  pointwise; exact blk12 H t 2 i j
theorem ld_zt2 (i j : Fin 128) : (show Vec Ideal S1x128x128 .f32 from (View.ld (iblk m c 13 t) (Rect.unit ![2, 0, 0] ![1, 128, 128] inb_S4x128x128_S1x128x128_2_0_0))) (ix3 0 i j) = ((Ret.zt 2 i : ℝ) : EReal) := by
  pointwise; exact blk13 H t 2 i j
theorem ld_xi2 (i j : Fin 128) : (show Vec Ideal S1x128x128 .f32 from (View.ld (iblk m c 14 t) (Rect.unit ![2, 0, 0] ![1, 128, 128] inb_S4x128x128_S1x128x128_2_0_0))) (ix3 0 i j) = ((Ret.xi 2 i : ℝ) : EReal) := by
  pointwise; exact blk14 H t 2 i j
theorem ld_dec2 (e : Fin 256) : (show Vec Ideal S1x1x256 .f32 from (View.ld (iblk m c 15 t) (Rect.unit ![2, 0, 0] ![1, 1, 256] inb_S4x8x256_S1x1x256_2_0_0))) (ix3 0 0 e) = ((Ret.dec 2 : ℝ) : EReal) := by
  pointwise; exact blk15 H t 2 0 e
theorem ld_q3 (i d : Fin 128) : (show Vec Ideal S128x128 .bf16 from (View.ld (iblk m c 0 t) (Rect.unit ![0, 384] ![128, 128] inb_S128x512_S128x128_0_384))) (ix2 i d) = ((D.q (cn t) 3 i d : ℝ) : EReal) := by
  pointwise; exact blk0 H t 3 i d _ (by simp; try omega)
theorem ld_k3 (i d : Fin 128) : (show Vec Ideal S128x128 .bf16 from (View.ld (iblk m c 1 t) (Rect.unit ![0, 384] ![128, 128] inb_S128x512_S128x128_0_384))) (ix2 i d) = ((D.k (cn t) 3 i d : ℝ) : EReal) := by
  pointwise; exact blk1 H t 3 i d _ (by simp; try omega)
theorem ld_v3 (i : Fin 128) (e : Fin 256) : (show Vec Ideal S128x256 .bf16 from (View.ld (iblk m c 3 t) (Rect.unit ![0, 256] ![128, 256] inb_S128x512_S128x256_0_256))) (ix2 i e) = ((D.v (cn t) 3 i e : ℝ) : EReal) := by
  pointwise; exact blk3 H t 3 i e _ (by simp; try omega)
theorem ld_g3 (i : Fin 128) (e : Fin 256) : (show Vec Ideal S128x256 .bf16 from (View.ld (iblk m c 5 t) (Rect.unit ![0, 256] ![128, 256] inb_S128x512_S128x256_0_256))) (ix2 i e) = ((D.gr (cn t) 3 i e : ℝ) : EReal) := by
  pointwise; exact blk5 H t 3 i e _ (by simp; try omega)
theorem ld_rn3 (i : Fin 128) (e : Fin 256) : (show Vec Ideal S128x256 .bf16 from (View.ld (iblk m c 6 t) (Rect.unit ![0, 768] ![128, 256] inb_S128x1024_S128x256_0_768))) (ix2 i e) = ((D.rn (cn t) 3 i e : ℝ) : EReal) := by
  pointwise; exact blk6 H t 3 i e _ (by simp; try omega)
theorem ld_dy3 (i : Fin 128) (e : Fin 256) : (show Vec Ideal S128x256 .bf16 from (View.ld (iblk m c 8 t) (Rect.unit ![0, 768] ![128, 256] inb_S128x1024_S128x256_0_768))) (ix2 i e) = ((D.dyo (cn t) 3 i e : ℝ) : EReal) := by
  pointwise; exact blk8 H t 3 i e _ (by simp; try omega)
theorem ld_rs3 (i : Fin 128) : (show Vec Ideal S128x1 .f32 from (View.ld (iblk m c 7 t) (Rect.unit ![0, 48] ![128, 1] inb_S128x128_S128x1_0_48))) (ix2 i 0) = ((D.sc (cn t) 3 i : ℝ) : EReal) := by
  pointwise; exact blk7 H t 3 i _ (by simp; try omega)
theorem ld_st3 (d : Fin 128) (e : Fin 256) : (show Vec Ideal S1x1x128x256 .bf16 from (View.ld (iblk m c 9 t) (Rect.unit ![3, 0, 0, 0] ![1, 1, 128, 256] inb_S4x1x128x256_S1x1x128x256_3_0_0_0))) (ix4 0 0 d e) = ((D.st (cn t) 3 d e : ℝ) : EReal) := by
  pointwise; exact blk9 H t 3 d e
theorem ld_dm3 (i j : Fin 128) : (show Vec Ideal S1x128x128 .f32 from (View.ld (iblk m c 12 t) (Rect.unit ![3, 0, 0] ![1, 128, 128] inb_S4x128x128_S1x128x128_3_0_0))) (ix3 0 i j) = ((Ret.dm 3 i j : ℝ) : EReal) := by
  pointwise; exact blk12 H t 3 i j
theorem ld_zt3 (i j : Fin 128) : (show Vec Ideal S1x128x128 .f32 from (View.ld (iblk m c 13 t) (Rect.unit ![3, 0, 0] ![1, 128, 128] inb_S4x128x128_S1x128x128_3_0_0))) (ix3 0 i j) = ((Ret.zt 3 i : ℝ) : EReal) := by
  pointwise; exact blk13 H t 3 i j
theorem ld_xi3 (i j : Fin 128) : (show Vec Ideal S1x128x128 .f32 from (View.ld (iblk m c 14 t) (Rect.unit ![3, 0, 0] ![1, 128, 128] inb_S4x128x128_S1x128x128_3_0_0))) (ix3 0 i j) = ((Ret.xi 3 i : ℝ) : EReal) := by
  pointwise; exact blk14 H t 3 i j
theorem ld_dec3 (e : Fin 256) : (show Vec Ideal S1x1x256 .f32 from (View.ld (iblk m c 15 t) (Rect.unit ![3, 0, 0] ![1, 1, 256] inb_S4x8x256_S1x1x256_3_0_0))) (ix3 0 0 e) = ((Ret.dec 3 : ℝ) : EReal) := by
  pointwise; exact blk15 H t 3 0 e
theorem ld_a0 (i d : Fin 128) : (show Vec Ideal S1x1x128x128 .f32 from (View.ld (iblk m c 10 t) (Rect.unit ![0, 0, 0, 0] ![1, 1, 128, 128] inb_S1x3x128x128_S1x1x128x128_0_0_0_0))) (ix4 0 0 i d) = ((cs (tok (cn t) i) (frq d) : ℝ) : EReal) := by
  pointwise; exact blk10_0 H t i d
theorem ld_a1 (i d : Fin 128) : (show Vec Ideal S1x1x128x128 .f32 from (View.ld (iblk m c 10 t) (Rect.unit ![0, 1, 0, 0] ![1, 1, 128, 128] inb_S1x3x128x128_S1x1x128x128_0_1_0_0))) (ix4 0 0 i d) = (((if d.val % 2 = 0 then 0 else sn (tok (cn t) i) (frq d)) : ℝ) : EReal) := by
  pointwise; exact blk10_1 H t i d
theorem ld_a2 (i d : Fin 128) : (show Vec Ideal S1x1x128x128 .f32 from (View.ld (iblk m c 10 t) (Rect.unit ![0, 2, 0, 0] ![1, 1, 128, 128] inb_S1x3x128x128_S1x1x128x128_0_2_0_0))) (ix4 0 0 i d) = (((if d.val % 2 = 0 then -sn (tok (cn t) i) (frq d) else 0) : ℝ) : EReal) := by
  pointwise; exact blk10_2 H t i d
theorem ld_b0 (i d : Fin 128) : (show Vec Ideal S1x1x128x128 .f32 from (View.ld (iblk m c 11 t) (Rect.unit ![0, 0, 0, 0] ![1, 1, 128, 128] inb_S1x3x128x128_S1x1x128x128_0_0_0_0))) (ix4 0 0 i d) = ((cs (tok (cn t) i) (frq d) * ksc : ℝ) : EReal) := by
  pointwise; exact blk11_0 H t i d
theorem ld_b1 (i d : Fin 128) : (show Vec Ideal S1x1x128x128 .f32 from (View.ld (iblk m c 11 t) (Rect.unit ![0, 1, 0, 0] ![1, 1, 128, 128] inb_S1x3x128x128_S1x1x128x128_0_1_0_0))) (ix4 0 0 i d) = (((if d.val % 2 = 0 then 0 else sn (tok (cn t) i) (frq d)) * ksc : ℝ) : EReal) := by
  pointwise; exact blk11_1 H t i d
theorem ld_b2 (i d : Fin 128) : (show Vec Ideal S1x1x128x128 .f32 from (View.ld (iblk m c 11 t) (Rect.unit ![0, 2, 0, 0] ![1, 1, 128, 128] inb_S1x3x128x128_S1x1x128x128_0_2_0_0))) (ix4 0 0 i d) = (((if d.val % 2 = 0 then -sn (tok (cn t) i) (frq d) else 0) * ksc : ℝ) : EReal) := by
  pointwise; exact blk11_2 H t i d

omit H in
theorem ld_dR0 (S : Vec Ideal S4x128x256 .f32) (HS : ∀ h d e, S (ix3 h d e) = ((D.bk t.val h d e : ℝ) : EReal)) (d : Fin 128) (e : Fin 256) :
    (show Vec Ideal S1x128x256 .f32 from (View.ld S (Rect.unit ![0, 0, 0] ![1, 128, 256] inb_S4x128x256_S1x128x256_0_0_0))) (ix3 0 d e) = ((D.bk t.val 0 d e : ℝ) : EReal) := by
  pointwise; exact HS 0 d e
omit H in
theorem ld_dR1 (S : Vec Ideal S4x128x256 .f32) (HS : ∀ h d e, S (ix3 h d e) = ((D.bk t.val h d e : ℝ) : EReal)) (d : Fin 128) (e : Fin 256) :
    (show Vec Ideal S1x128x256 .f32 from (View.ld S (Rect.unit ![1, 0, 0] ![1, 128, 256] inb_S4x128x256_S1x128x256_1_0_0))) (ix3 0 d e) = ((D.bk t.val 1 d e : ℝ) : EReal) := by
  pointwise; exact HS 1 d e
omit H in
theorem ld_dR2 (S : Vec Ideal S4x128x256 .f32) (HS : ∀ h d e, S (ix3 h d e) = ((D.bk t.val h d e : ℝ) : EReal)) (d : Fin 128) (e : Fin 256) :
    (show Vec Ideal S1x128x256 .f32 from (View.ld S (Rect.unit ![2, 0, 0] ![1, 128, 256] inb_S4x128x256_S1x128x256_2_0_0))) (ix3 0 d e) = ((D.bk t.val 2 d e : ℝ) : EReal) := by
  pointwise; exact HS 2 d e
omit H in
theorem ld_dR3 (S : Vec Ideal S4x128x256 .f32) (HS : ∀ h d e, S (ix3 h d e) = ((D.bk t.val h d e : ℝ) : EReal)) (d : Fin 128) (e : Fin 256) :
    (show Vec Ideal S1x128x256 .f32 from (View.ld S (Rect.unit ![3, 0, 0] ![1, 128, 256] inb_S4x128x256_S1x128x256_3_0_0))) (ix3 0 d e) = ((D.bk t.val 3 d e : ℝ) : EReal) := by
  pointwise; exact HS 3 d e

/-! ### What each head stores -/

theorem p_do0 (i : Fin 128) (e : Fin 256) :
    (k0_pay10 (k0_pay5 (View.ld (iblk m c 6 t) (Rect.unit ![0, 0] ![128, 256] inb_S128x1024_S128x256_0_0))) (k0_pay8 (View.ld (iblk m c 4 t) (Rect.unit ![0, 0] ![128, 256] inb_S128x512_S128x256_0_0)) (View.ld (iblk m c 8 t) (Rect.unit ![0, 0] ![128, 256] inb_S128x1024_S128x256_0_0))) (k0_pay9 (View.ld (iblk m c 7 t) (Rect.unit ![0, 0] ![128, 1] inb_S128x128_S128x1_0_0)))) (ix2 i e) = ((D.do_ (cn t) 0 i e : ℝ) : EReal) :=
  do0 (ld_rn0 H t) (ld_g0 H t) (ld_dy0 H t) (ld_rs0 H t) i e

theorem p_dgr0 (i : Fin 128) (e : Fin 256) :
    (k0_pay7 (View.ld (iblk m c 4 t) (Rect.unit ![0, 0] ![128, 256] inb_S128x512_S128x256_0_0)) (View.ld (iblk m c 6 t) (Rect.unit ![0, 0] ![128, 256] inb_S128x1024_S128x256_0_0)) (View.ld (iblk m c 8 t) (Rect.unit ![0, 0] ![128, 256] inb_S128x1024_S128x256_0_0))) (ix2 i e) = ((D.out (tok (cn t) i) ⟨2048 + e.val, by omega⟩ : ℝ) : EReal) := by
  rw [out_dgr D t 0 i e _ (by simp; try omega)]
  exact dgr0 (ld_g0 H t) (ld_rn0 H t) (ld_dy0 H t) i e

theorem p_sd0 (i j : Fin 128) :
    (k0_pay75 (k0_pay36 (k0_pay32 (View.ld (iblk m c 0 t) (Rect.unit ![0, 0] ![128, 128] inb_S128x512_S128x128_0_0))) (View.ld (iblk m c 1 t) (Rect.unit ![0, 0] ![128, 128] inb_S128x512_S128x128_0_0))) (View.ld (iblk m c 12 t) (Rect.unit ![0, 0, 0] ![1, 128, 128] inb_S4x128x128_S1x128x128_0_0_0))) (ix2 i j) = ((D.sd (cn t) 0 i j : ℝ) : EReal) :=
  sd0 (ld_q0 H t) (ld_k0 H t) (ld_dm0 H t) i j

theorem p_ds0 (i j : Fin 128) :
    (k0_pay76 (k0_pay37 (k0_pay10 (k0_pay5 (View.ld (iblk m c 6 t) (Rect.unit ![0, 0] ![128, 256] inb_S128x1024_S128x256_0_0))) (k0_pay8 (View.ld (iblk m c 4 t) (Rect.unit ![0, 0] ![128, 256] inb_S128x512_S128x256_0_0)) (View.ld (iblk m c 8 t) (Rect.unit ![0, 0] ![128, 256] inb_S128x1024_S128x256_0_0))) (k0_pay9 (View.ld (iblk m c 7 t) (Rect.unit ![0, 0] ![128, 1] inb_S128x128_S128x1_0_0)))) (View.ld (iblk m c 2 t) (Rect.unit ![0, 0] ![128, 256] inb_S128x512_S128x256_0_0))) (View.ld (iblk m c 12 t) (Rect.unit ![0, 0, 0] ![1, 128, 128] inb_S4x128x128_S1x128x128_0_0_0))) (ix2 i j) = ((D.ds (cn t) 0 i j : ℝ) : EReal) :=
  ds0 (p_do0 H t) (ld_v0 H t) (ld_dm0 H t) i j

theorem p_dv0 (S : Vec Ideal S4x128x256 .f32) (HS : ∀ h d e, S (ix3 h d e) = ((D.bk t.val h d e : ℝ) : EReal)) (i : Fin 128) (e : Fin 256) :
    (k0_pay83 (k0_pay10 (k0_pay5 (View.ld (iblk m c 6 t) (Rect.unit ![0, 0] ![128, 256] inb_S128x1024_S128x256_0_0))) (k0_pay8 (View.ld (iblk m c 4 t) (Rect.unit ![0, 0] ![128, 256] inb_S128x512_S128x256_0_0)) (View.ld (iblk m c 8 t) (Rect.unit ![0, 0] ![128, 256] inb_S128x1024_S128x256_0_0))) (k0_pay9 (View.ld (iblk m c 7 t) (Rect.unit ![0, 0] ![128, 1] inb_S128x128_S128x1_0_0)))) (k0_pay38 (View.ld (iblk m c 1 t) (Rect.unit ![0, 0] ![128, 128] inb_S128x512_S128x128_0_0)) (View.ld S (Rect.unit ![0, 0, 0] ![1, 128, 256] inb_S4x128x256_S1x128x256_0_0_0)) (View.ld (iblk m c 13 t) (Rect.unit ![0, 0, 0] ![1, 128, 128] inb_S4x128x128_S1x128x128_0_0_0))) (k0_pay75 (k0_pay36 (k0_pay32 (View.ld (iblk m c 0 t) (Rect.unit ![0, 0] ![128, 128] inb_S128x512_S128x128_0_0))) (View.ld (iblk m c 1 t) (Rect.unit ![0, 0] ![128, 128] inb_S128x512_S128x128_0_0))) (View.ld (iblk m c 12 t) (Rect.unit ![0, 0, 0] ![1, 128, 128] inb_S4x128x128_S1x128x128_0_0_0)))) (ix2 i e) = ((D.out (tok (cn t) i) ⟨1024 + e.val, by omega⟩ : ℝ) : EReal) := by
  rw [out_dv D t 0 i e _ (by simp; try omega)]
  refine (dv0 (p_do0 H t) (ld_k0 H t) (ld_dR0 t S HS) (ld_zt0 H t) (p_sd0 H t) i e).trans ?_
  rw [← db_cn]; rfl

theorem p_dR0 (S : Vec Ideal S4x128x256 .f32) (HS : ∀ h d e, S (ix3 h d e) = ((D.bk t.val h d e : ℝ) : EReal)) (a : Fin 1) (d : Fin 128) (e : Fin 256) :
    (k0_pay88 (k0_pay41 (k0_pay10 (k0_pay5 (View.ld (iblk m c 6 t) (Rect.unit ![0, 0] ![128, 256] inb_S128x1024_S128x256_0_0))) (k0_pay8 (View.ld (iblk m c 4 t) (Rect.unit ![0, 0] ![128, 256] inb_S128x512_S128x256_0_0)) (View.ld (iblk m c 8 t) (Rect.unit ![0, 0] ![128, 256] inb_S128x1024_S128x256_0_0))) (k0_pay9 (View.ld (iblk m c 7 t) (Rect.unit ![0, 0] ![128, 1] inb_S128x128_S128x1_0_0)))) (k0_pay32 (View.ld (iblk m c 0 t) (Rect.unit ![0, 0] ![128, 128] inb_S128x512_S128x128_0_0))) (View.ld (iblk m c 14 t) (Rect.unit ![0, 0, 0] ![1, 128, 128] inb_S4x128x128_S1x128x128_0_0_0))) (k0_pay86 (View.ld S (Rect.unit ![0, 0, 0] ![1, 128, 256] inb_S4x128x256_S1x128x256_0_0_0))) (k0_pay87 (View.ld (iblk m c 15 t) (Rect.unit ![0, 0, 0] ![1, 1, 256] inb_S4x8x256_S1x1x256_0_0_0)))) (ix3 a d e) = ((D.bk (t.val + 1) 0 d e : ℝ) : EReal) :=
  dR0 (p_do0 H t) (ld_q0 H t) (ld_xi0 H t) (ld_dR0 t S HS) (ld_dec0 H t) a d e

theorem p_dq0 (i d : Fin 128) :
    (k0_pay89 (k0_pay84 (k0_pay33 (View.ld (iblk m c 1 t) (Rect.unit ![0, 0] ![128, 128] inb_S128x512_S128x128_0_0))) (k0_pay39 (k0_pay10 (k0_pay5 (View.ld (iblk m c 6 t) (Rect.unit ![0, 0] ![128, 256] inb_S128x1024_S128x256_0_0))) (k0_pay8 (View.ld (iblk m c 4 t) (Rect.unit ![0, 0] ![128, 256] inb_S128x512_S128x256_0_0)) (View.ld (iblk m c 8 t) (Rect.unit ![0, 0] ![128, 256] inb_S128x1024_S128x256_0_0))) (k0_pay9 (View.ld (iblk m c 7 t) (Rect.unit ![0, 0] ![128, 1] inb_S128x128_S128x1_0_0)))) (View.ld (iblk m c 9 t) (Rect.unit ![0, 0, 0, 0] ![1, 1, 128, 256] inb_S4x1x128x256_S1x1x128x256_0_0_0_0))) (k0_pay76 (k0_pay37 (k0_pay10 (k0_pay5 (View.ld (iblk m c 6 t) (Rect.unit ![0, 0] ![128, 256] inb_S128x1024_S128x256_0_0))) (k0_pay8 (View.ld (iblk m c 4 t) (Rect.unit ![0, 0] ![128, 256] inb_S128x512_S128x256_0_0)) (View.ld (iblk m c 8 t) (Rect.unit ![0, 0] ![128, 256] inb_S128x1024_S128x256_0_0))) (k0_pay9 (View.ld (iblk m c 7 t) (Rect.unit ![0, 0] ![128, 1] inb_S128x128_S128x1_0_0)))) (View.ld (iblk m c 2 t) (Rect.unit ![0, 0] ![128, 256] inb_S128x512_S128x256_0_0))) (View.ld (iblk m c 12 t) (Rect.unit ![0, 0, 0] ![1, 128, 128] inb_S4x128x128_S1x128x128_0_0_0))) (View.ld (iblk m c 14 t) (Rect.unit ![0, 0, 0] ![1, 128, 128] inb_S4x128x128_S1x128x128_0_0_0))) (View.ld (iblk m c 10 t) (Rect.unit ![0, 0, 0, 0] ![1, 1, 128, 128] inb_S1x3x128x128_S1x1x128x128_0_0_0_0)) (View.ld (iblk m c 10 t) (Rect.unit ![0, 1, 0, 0] ![1, 1, 128, 128] inb_S1x3x128x128_S1x1x128x128_0_1_0_0)) (View.ld (iblk m c 10 t) (Rect.unit ![0, 2, 0, 0] ![1, 1, 128, 128] inb_S1x3x128x128_S1x1x128x128_0_2_0_0))) (ix2 i d) = ((D.out (tok (cn t) i) ⟨0 + d.val, by omega⟩ : ℝ) : EReal) := by
  rw [out_dq D t 0 i d _ (by simp; try omega), ← dqx_tables]
  exact dq0 (ld_k0 H t) (p_do0 H t) (ld_st0 H t) (p_ds0 H t) (ld_xi0 H t) (ld_a0 H t) (ld_a1 H t) (ld_a2 H t) i d

theorem p_dk0 (S : Vec Ideal S4x128x256 .f32) (HS : ∀ h d e, S (ix3 h d e) = ((D.bk t.val h d e : ℝ) : EReal)) (i d : Fin 128) :
    (k0_pay92 (k0_pay85 (k0_pay32 (View.ld (iblk m c 0 t) (Rect.unit ![0, 0] ![128, 128] inb_S128x512_S128x128_0_0))) (k0_pay40 (View.ld (iblk m c 2 t) (Rect.unit ![0, 0] ![128, 256] inb_S128x512_S128x256_0_0)) (View.ld S (Rect.unit ![0, 0, 0] ![1, 128, 256] inb_S4x128x256_S1x128x256_0_0_0))) (k0_pay76 (k0_pay37 (k0_pay10 (k0_pay5 (View.ld (iblk m c 6 t) (Rect.unit ![0, 0] ![128, 256] inb_S128x1024_S128x256_0_0))) (k0_pay8 (View.ld (iblk m c 4 t) (Rect.unit ![0, 0] ![128, 256] inb_S128x512_S128x256_0_0)) (View.ld (iblk m c 8 t) (Rect.unit ![0, 0] ![128, 256] inb_S128x1024_S128x256_0_0))) (k0_pay9 (View.ld (iblk m c 7 t) (Rect.unit ![0, 0] ![128, 1] inb_S128x128_S128x1_0_0)))) (View.ld (iblk m c 2 t) (Rect.unit ![0, 0] ![128, 256] inb_S128x512_S128x256_0_0))) (View.ld (iblk m c 12 t) (Rect.unit ![0, 0, 0] ![1, 128, 128] inb_S4x128x128_S1x128x128_0_0_0))) (View.ld (iblk m c 13 t) (Rect.unit ![0, 0, 0] ![1, 128, 128] inb_S4x128x128_S1x128x128_0_0_0))) (k0_pay90 (View.ld (iblk m c 11 t) (Rect.unit ![0, 0, 0, 0] ![1, 1, 128, 128] inb_S1x3x128x128_S1x1x128x128_0_0_0_0))) (k0_pay91 (View.ld (iblk m c 11 t) (Rect.unit ![0, 1, 0, 0] ![1, 1, 128, 128] inb_S1x3x128x128_S1x1x128x128_0_1_0_0))) (View.ld (iblk m c 11 t) (Rect.unit ![0, 2, 0, 0] ![1, 1, 128, 128] inb_S1x3x128x128_S1x1x128x128_0_2_0_0))) (ix2 i d) = ((D.out (tok (cn t) i) ⟨512 + d.val, by omega⟩ : ℝ) : EReal) := by
  rw [out_dk D t 0 i d _ (by simp; try omega), ← dkx_tables, ← dkX_cn, ← dkX_cn, ← dkX_cn]
  exact dk0 (ld_q0 H t) (ld_v0 H t) (ld_dR0 t S HS) (p_ds0 H t) (ld_zt0 H t) (ld_b0 H t) (ld_b1 H t) (ld_b2 H t) i d

theorem p_do1 (i : Fin 128) (e : Fin 256) :
    (k0_pay17 (k0_pay11 (View.ld (iblk m c 4 t) (Rect.unit ![0, 256] ![128, 256] inb_S128x512_S128x256_0_256))) (k0_pay12 (View.ld (iblk m c 4 t) (Rect.unit ![0, 256] ![128, 256] inb_S128x512_S128x256_0_256))) (k0_pay13 (View.ld (iblk m c 6 t) (Rect.unit ![0, 256] ![128, 256] inb_S128x1024_S128x256_0_256))) (k0_pay14 (View.ld (iblk m c 8 t) (Rect.unit ![0, 256] ![128, 256] inb_S128x1024_S128x256_0_256))) (View.ld (iblk m c 7 t) (Rect.unit ![0, 16] ![128, 1] inb_S128x128_S128x1_0_16))) (ix2 i e) = ((D.do_ (cn t) 1 i e : ℝ) : EReal) :=
  do1 (ld_g1 H t) (ld_rn1 H t) (ld_dy1 H t) (ld_rs1 H t) i e

theorem p_dgr1 (i : Fin 128) (e : Fin 256) :
    (k0_pay16 (k0_pay15 (View.ld (iblk m c 4 t) (Rect.unit ![0, 256] ![128, 256] inb_S128x512_S128x256_0_256)) (View.ld (iblk m c 6 t) (Rect.unit ![0, 256] ![128, 256] inb_S128x1024_S128x256_0_256)) (View.ld (iblk m c 8 t) (Rect.unit ![0, 256] ![128, 256] inb_S128x1024_S128x256_0_256)))) (ix2 i e) = ((D.out (tok (cn t) i) ⟨2304 + e.val, by omega⟩ : ℝ) : EReal) := by
  rw [out_dgr D t 1 i e _ (by simp; try omega)]
  exact dgr1 (ld_g1 H t) (ld_rn1 H t) (ld_dy1 H t) i e

theorem p_sd1 (i j : Fin 128) :
    (k0_pay77 (k0_pay46 (k0_pay42 (View.ld (iblk m c 0 t) (Rect.unit ![0, 128] ![128, 128] inb_S128x512_S128x128_0_128))) (k0_pay43 (View.ld (iblk m c 1 t) (Rect.unit ![0, 128] ![128, 128] inb_S128x512_S128x128_0_128)))) (View.ld (iblk m c 12 t) (Rect.unit ![1, 0, 0] ![1, 128, 128] inb_S4x128x128_S1x128x128_1_0_0))) (ix2 i j) = ((D.sd (cn t) 1 i j : ℝ) : EReal) :=
  sd1 (ld_q1 H t) (ld_k1 H t) (ld_dm1 H t) i j

theorem p_ds1 (i j : Fin 128) :
    (k0_pay78 (k0_pay47 (k0_pay17 (k0_pay11 (View.ld (iblk m c 4 t) (Rect.unit ![0, 256] ![128, 256] inb_S128x512_S128x256_0_256))) (k0_pay12 (View.ld (iblk m c 4 t) (Rect.unit ![0, 256] ![128, 256] inb_S128x512_S128x256_0_256))) (k0_pay13 (View.ld (iblk m c 6 t) (Rect.unit ![0, 256] ![128, 256] inb_S128x1024_S128x256_0_256))) (k0_pay14 (View.ld (iblk m c 8 t) (Rect.unit ![0, 256] ![128, 256] inb_S128x1024_S128x256_0_256))) (View.ld (iblk m c 7 t) (Rect.unit ![0, 16] ![128, 1] inb_S128x128_S128x1_0_16))) (k0_pay44 (View.ld (iblk m c 2 t) (Rect.unit ![0, 256] ![128, 256] inb_S128x512_S128x256_0_256)))) (View.ld (iblk m c 12 t) (Rect.unit ![1, 0, 0] ![1, 128, 128] inb_S4x128x128_S1x128x128_1_0_0))) (ix2 i j) = ((D.ds (cn t) 1 i j : ℝ) : EReal) :=
  ds1 (p_do1 H t) (ld_v1 H t) (ld_dm1 H t) i j

theorem p_dv1 (S : Vec Ideal S4x128x256 .f32) (HS : ∀ h d e, S (ix3 h d e) = ((D.bk t.val h d e : ℝ) : EReal)) (i : Fin 128) (e : Fin 256) :
    (k0_pay93 (k0_pay17 (k0_pay11 (View.ld (iblk m c 4 t) (Rect.unit ![0, 256] ![128, 256] inb_S128x512_S128x256_0_256))) (k0_pay12 (View.ld (iblk m c 4 t) (Rect.unit ![0, 256] ![128, 256] inb_S128x512_S128x256_0_256))) (k0_pay13 (View.ld (iblk m c 6 t) (Rect.unit ![0, 256] ![128, 256] inb_S128x1024_S128x256_0_256))) (k0_pay14 (View.ld (iblk m c 8 t) (Rect.unit ![0, 256] ![128, 256] inb_S128x1024_S128x256_0_256))) (View.ld (iblk m c 7 t) (Rect.unit ![0, 16] ![128, 1] inb_S128x128_S128x1_0_16))) (k0_pay48 (k0_pay43 (View.ld (iblk m c 1 t) (Rect.unit ![0, 128] ![128, 128] inb_S128x512_S128x128_0_128))) (View.ld S (Rect.unit ![1, 0, 0] ![1, 128, 256] inb_S4x128x256_S1x128x256_1_0_0)) (View.ld (iblk m c 13 t) (Rect.unit ![1, 0, 0] ![1, 128, 128] inb_S4x128x128_S1x128x128_1_0_0))) (k0_pay77 (k0_pay46 (k0_pay42 (View.ld (iblk m c 0 t) (Rect.unit ![0, 128] ![128, 128] inb_S128x512_S128x128_0_128))) (k0_pay43 (View.ld (iblk m c 1 t) (Rect.unit ![0, 128] ![128, 128] inb_S128x512_S128x128_0_128)))) (View.ld (iblk m c 12 t) (Rect.unit ![1, 0, 0] ![1, 128, 128] inb_S4x128x128_S1x128x128_1_0_0)))) (ix2 i e) = ((D.out (tok (cn t) i) ⟨1280 + e.val, by omega⟩ : ℝ) : EReal) := by
  rw [out_dv D t 1 i e _ (by simp; try omega)]
  refine (dv1 (p_do1 H t) (ld_k1 H t) (ld_dR1 t S HS) (ld_zt1 H t) (p_sd1 H t) i e).trans ?_
  rw [← db_cn]; rfl

theorem p_dR1 (S : Vec Ideal S4x128x256 .f32) (HS : ∀ h d e, S (ix3 h d e) = ((D.bk t.val h d e : ℝ) : EReal)) (a : Fin 1) (d : Fin 128) (e : Fin 256) :
    (k0_pay97 (k0_pay51 (k0_pay17 (k0_pay11 (View.ld (iblk m c 4 t) (Rect.unit ![0, 256] ![128, 256] inb_S128x512_S128x256_0_256))) (k0_pay12 (View.ld (iblk m c 4 t) (Rect.unit ![0, 256] ![128, 256] inb_S128x512_S128x256_0_256))) (k0_pay13 (View.ld (iblk m c 6 t) (Rect.unit ![0, 256] ![128, 256] inb_S128x1024_S128x256_0_256))) (k0_pay14 (View.ld (iblk m c 8 t) (Rect.unit ![0, 256] ![128, 256] inb_S128x1024_S128x256_0_256))) (View.ld (iblk m c 7 t) (Rect.unit ![0, 16] ![128, 1] inb_S128x128_S128x1_0_16))) (k0_pay42 (View.ld (iblk m c 0 t) (Rect.unit ![0, 128] ![128, 128] inb_S128x512_S128x128_0_128))) (View.ld (iblk m c 14 t) (Rect.unit ![1, 0, 0] ![1, 128, 128] inb_S4x128x128_S1x128x128_1_0_0))) (k0_pay96 (View.ld S (Rect.unit ![1, 0, 0] ![1, 128, 256] inb_S4x128x256_S1x128x256_1_0_0))) (View.ld (iblk m c 15 t) (Rect.unit ![1, 0, 0] ![1, 1, 256] inb_S4x8x256_S1x1x256_1_0_0))) (ix3 a d e) = ((D.bk (t.val + 1) 1 d e : ℝ) : EReal) :=
  dR1 (p_do1 H t) (ld_q1 H t) (ld_xi1 H t) (ld_dR1 t S HS) (ld_dec1 H t) a d e

theorem p_dq1 (i d : Fin 128) :
    (k0_pay98 (k0_pay94 (k0_pay43 (View.ld (iblk m c 1 t) (Rect.unit ![0, 128] ![128, 128] inb_S128x512_S128x128_0_128))) (k0_pay49 (k0_pay17 (k0_pay11 (View.ld (iblk m c 4 t) (Rect.unit ![0, 256] ![128, 256] inb_S128x512_S128x256_0_256))) (k0_pay12 (View.ld (iblk m c 4 t) (Rect.unit ![0, 256] ![128, 256] inb_S128x512_S128x256_0_256))) (k0_pay13 (View.ld (iblk m c 6 t) (Rect.unit ![0, 256] ![128, 256] inb_S128x1024_S128x256_0_256))) (k0_pay14 (View.ld (iblk m c 8 t) (Rect.unit ![0, 256] ![128, 256] inb_S128x1024_S128x256_0_256))) (View.ld (iblk m c 7 t) (Rect.unit ![0, 16] ![128, 1] inb_S128x128_S128x1_0_16))) (View.ld (iblk m c 9 t) (Rect.unit ![1, 0, 0, 0] ![1, 1, 128, 256] inb_S4x1x128x256_S1x1x128x256_1_0_0_0))) (k0_pay78 (k0_pay47 (k0_pay17 (k0_pay11 (View.ld (iblk m c 4 t) (Rect.unit ![0, 256] ![128, 256] inb_S128x512_S128x256_0_256))) (k0_pay12 (View.ld (iblk m c 4 t) (Rect.unit ![0, 256] ![128, 256] inb_S128x512_S128x256_0_256))) (k0_pay13 (View.ld (iblk m c 6 t) (Rect.unit ![0, 256] ![128, 256] inb_S128x1024_S128x256_0_256))) (k0_pay14 (View.ld (iblk m c 8 t) (Rect.unit ![0, 256] ![128, 256] inb_S128x1024_S128x256_0_256))) (View.ld (iblk m c 7 t) (Rect.unit ![0, 16] ![128, 1] inb_S128x128_S128x1_0_16))) (k0_pay44 (View.ld (iblk m c 2 t) (Rect.unit ![0, 256] ![128, 256] inb_S128x512_S128x256_0_256)))) (View.ld (iblk m c 12 t) (Rect.unit ![1, 0, 0] ![1, 128, 128] inb_S4x128x128_S1x128x128_1_0_0))) (View.ld (iblk m c 14 t) (Rect.unit ![1, 0, 0] ![1, 128, 128] inb_S4x128x128_S1x128x128_1_0_0))) (View.ld (iblk m c 10 t) (Rect.unit ![0, 0, 0, 0] ![1, 1, 128, 128] inb_S1x3x128x128_S1x1x128x128_0_0_0_0)) (View.ld (iblk m c 10 t) (Rect.unit ![0, 1, 0, 0] ![1, 1, 128, 128] inb_S1x3x128x128_S1x1x128x128_0_1_0_0)) (View.ld (iblk m c 10 t) (Rect.unit ![0, 2, 0, 0] ![1, 1, 128, 128] inb_S1x3x128x128_S1x1x128x128_0_2_0_0))) (ix2 i d) = ((D.out (tok (cn t) i) ⟨128 + d.val, by omega⟩ : ℝ) : EReal) := by
  rw [out_dq D t 1 i d _ (by simp; try omega), ← dqx_tables]
  exact dq1 (ld_k1 H t) (p_do1 H t) (ld_st1 H t) (p_ds1 H t) (ld_xi1 H t) (ld_a0 H t) (ld_a1 H t) (ld_a2 H t) i d

theorem p_dk1 (S : Vec Ideal S4x128x256 .f32) (HS : ∀ h d e, S (ix3 h d e) = ((D.bk t.val h d e : ℝ) : EReal)) (i d : Fin 128) :
    (k0_pay101 (k0_pay95 (k0_pay42 (View.ld (iblk m c 0 t) (Rect.unit ![0, 128] ![128, 128] inb_S128x512_S128x128_0_128))) (k0_pay50 (k0_pay44 (View.ld (iblk m c 2 t) (Rect.unit ![0, 256] ![128, 256] inb_S128x512_S128x256_0_256))) (View.ld S (Rect.unit ![1, 0, 0] ![1, 128, 256] inb_S4x128x256_S1x128x256_1_0_0))) (k0_pay78 (k0_pay47 (k0_pay17 (k0_pay11 (View.ld (iblk m c 4 t) (Rect.unit ![0, 256] ![128, 256] inb_S128x512_S128x256_0_256))) (k0_pay12 (View.ld (iblk m c 4 t) (Rect.unit ![0, 256] ![128, 256] inb_S128x512_S128x256_0_256))) (k0_pay13 (View.ld (iblk m c 6 t) (Rect.unit ![0, 256] ![128, 256] inb_S128x1024_S128x256_0_256))) (k0_pay14 (View.ld (iblk m c 8 t) (Rect.unit ![0, 256] ![128, 256] inb_S128x1024_S128x256_0_256))) (View.ld (iblk m c 7 t) (Rect.unit ![0, 16] ![128, 1] inb_S128x128_S128x1_0_16))) (k0_pay44 (View.ld (iblk m c 2 t) (Rect.unit ![0, 256] ![128, 256] inb_S128x512_S128x256_0_256)))) (View.ld (iblk m c 12 t) (Rect.unit ![1, 0, 0] ![1, 128, 128] inb_S4x128x128_S1x128x128_1_0_0))) (View.ld (iblk m c 13 t) (Rect.unit ![1, 0, 0] ![1, 128, 128] inb_S4x128x128_S1x128x128_1_0_0))) (k0_pay99 (View.ld (iblk m c 11 t) (Rect.unit ![0, 0, 0, 0] ![1, 1, 128, 128] inb_S1x3x128x128_S1x1x128x128_0_0_0_0))) (k0_pay100 (View.ld (iblk m c 11 t) (Rect.unit ![0, 1, 0, 0] ![1, 1, 128, 128] inb_S1x3x128x128_S1x1x128x128_0_1_0_0))) (View.ld (iblk m c 11 t) (Rect.unit ![0, 2, 0, 0] ![1, 1, 128, 128] inb_S1x3x128x128_S1x1x128x128_0_2_0_0))) (ix2 i d) = ((D.out (tok (cn t) i) ⟨640 + d.val, by omega⟩ : ℝ) : EReal) := by
  rw [out_dk D t 1 i d _ (by simp; try omega), ← dkx_tables, ← dkX_cn, ← dkX_cn, ← dkX_cn]
  exact dk1 (ld_q1 H t) (ld_v1 H t) (ld_dR1 t S HS) (p_ds1 H t) (ld_zt1 H t) (ld_b0 H t) (ld_b1 H t) (ld_b2 H t) i d

theorem p_do2 (i : Fin 128) (e : Fin 256) :
    (k0_pay25 (k0_pay18 (View.ld (iblk m c 5 t) (Rect.unit ![0, 0] ![128, 256] inb_S128x512_S128x256_0_0))) (k0_pay19 (View.ld (iblk m c 5 t) (Rect.unit ![0, 0] ![128, 256] inb_S128x512_S128x256_0_0))) (k0_pay20 (View.ld (iblk m c 6 t) (Rect.unit ![0, 512] ![128, 256] inb_S128x1024_S128x256_0_512))) (k0_pay21 (View.ld (iblk m c 8 t) (Rect.unit ![0, 512] ![128, 256] inb_S128x1024_S128x256_0_512))) (View.ld (iblk m c 7 t) (Rect.unit ![0, 32] ![128, 1] inb_S128x128_S128x1_0_32))) (ix2 i e) = ((D.do_ (cn t) 2 i e : ℝ) : EReal) :=
  do2 (ld_g2 H t) (ld_rn2 H t) (ld_dy2 H t) (ld_rs2 H t) i e

theorem p_dgr2 (i : Fin 128) (e : Fin 256) :
    (k0_pay24 (k0_pay18 (View.ld (iblk m c 5 t) (Rect.unit ![0, 0] ![128, 256] inb_S128x512_S128x256_0_0))) (k0_pay19 (View.ld (iblk m c 5 t) (Rect.unit ![0, 0] ![128, 256] inb_S128x512_S128x256_0_0))) (k0_pay22 (View.ld (iblk m c 5 t) (Rect.unit ![0, 0] ![128, 256] inb_S128x512_S128x256_0_0)) (View.ld (iblk m c 6 t) (Rect.unit ![0, 512] ![128, 256] inb_S128x1024_S128x256_0_512)) (View.ld (iblk m c 8 t) (Rect.unit ![0, 512] ![128, 256] inb_S128x1024_S128x256_0_512))) k0_pay23) (ix2 i e) = ((D.out (tok (cn t) i) ⟨2560 + e.val, by omega⟩ : ℝ) : EReal) := by
  rw [out_dgr D t 2 i e _ (by simp; try omega)]
  exact dgr2 (ld_g2 H t) (ld_rn2 H t) (ld_dy2 H t) i e

theorem p_sd2 (i j : Fin 128) :
    (k0_pay79 (k0_pay57 (k0_pay52 (View.ld (iblk m c 0 t) (Rect.unit ![0, 256] ![128, 128] inb_S128x512_S128x128_0_256))) (k0_pay53 (View.ld (iblk m c 1 t) (Rect.unit ![0, 256] ![128, 128] inb_S128x512_S128x128_0_256)))) (View.ld (iblk m c 12 t) (Rect.unit ![2, 0, 0] ![1, 128, 128] inb_S4x128x128_S1x128x128_2_0_0))) (ix2 i j) = ((D.sd (cn t) 2 i j : ℝ) : EReal) :=
  sd2 (ld_q2 H t) (ld_k2 H t) (ld_dm2 H t) i j

theorem p_ds2 (i j : Fin 128) :
    (k0_pay80 (k0_pay58 (k0_pay25 (k0_pay18 (View.ld (iblk m c 5 t) (Rect.unit ![0, 0] ![128, 256] inb_S128x512_S128x256_0_0))) (k0_pay19 (View.ld (iblk m c 5 t) (Rect.unit ![0, 0] ![128, 256] inb_S128x512_S128x256_0_0))) (k0_pay20 (View.ld (iblk m c 6 t) (Rect.unit ![0, 512] ![128, 256] inb_S128x1024_S128x256_0_512))) (k0_pay21 (View.ld (iblk m c 8 t) (Rect.unit ![0, 512] ![128, 256] inb_S128x1024_S128x256_0_512))) (View.ld (iblk m c 7 t) (Rect.unit ![0, 32] ![128, 1] inb_S128x128_S128x1_0_32))) (k0_pay54 (View.ld (iblk m c 3 t) (Rect.unit ![0, 0] ![128, 256] inb_S128x512_S128x256_0_0)))) (View.ld (iblk m c 12 t) (Rect.unit ![2, 0, 0] ![1, 128, 128] inb_S4x128x128_S1x128x128_2_0_0))) (ix2 i j) = ((D.ds (cn t) 2 i j : ℝ) : EReal) :=
  ds2 (p_do2 H t) (ld_v2 H t) (ld_dm2 H t) i j

theorem p_dv2 (S : Vec Ideal S4x128x256 .f32) (HS : ∀ h d e, S (ix3 h d e) = ((D.bk t.val h d e : ℝ) : EReal)) (i : Fin 128) (e : Fin 256) :
    (k0_pay102 (k0_pay25 (k0_pay18 (View.ld (iblk m c 5 t) (Rect.unit ![0, 0] ![128, 256] inb_S128x512_S128x256_0_0))) (k0_pay19 (View.ld (iblk m c 5 t) (Rect.unit ![0, 0] ![128, 256] inb_S128x512_S128x256_0_0))) (k0_pay20 (View.ld (iblk m c 6 t) (Rect.unit ![0, 512] ![128, 256] inb_S128x1024_S128x256_0_512))) (k0_pay21 (View.ld (iblk m c 8 t) (Rect.unit ![0, 512] ![128, 256] inb_S128x1024_S128x256_0_512))) (View.ld (iblk m c 7 t) (Rect.unit ![0, 32] ![128, 1] inb_S128x128_S128x1_0_32))) (k0_pay59 (k0_pay55 (View.ld S (Rect.unit ![2, 0, 0] ![1, 128, 256] inb_S4x128x256_S1x128x256_2_0_0))) (k0_pay56 (View.ld (iblk m c 1 t) (Rect.unit ![0, 256] ![128, 128] inb_S128x512_S128x128_0_256))) (View.ld (iblk m c 13 t) (Rect.unit ![2, 0, 0] ![1, 128, 128] inb_S4x128x128_S1x128x128_2_0_0))) (k0_pay79 (k0_pay57 (k0_pay52 (View.ld (iblk m c 0 t) (Rect.unit ![0, 256] ![128, 128] inb_S128x512_S128x128_0_256))) (k0_pay53 (View.ld (iblk m c 1 t) (Rect.unit ![0, 256] ![128, 128] inb_S128x512_S128x128_0_256)))) (View.ld (iblk m c 12 t) (Rect.unit ![2, 0, 0] ![1, 128, 128] inb_S4x128x128_S1x128x128_2_0_0)))) (ix2 i e) = ((D.out (tok (cn t) i) ⟨1536 + e.val, by omega⟩ : ℝ) : EReal) := by
  rw [out_dv D t 2 i e _ (by simp; try omega)]
  refine (dv2 (p_do2 H t) (ld_dR2 t S HS) (ld_k2 H t) (ld_zt2 H t) (p_sd2 H t) i e).trans ?_
  rw [← db_cn]; rfl

theorem p_dR2 (S : Vec Ideal S4x128x256 .f32) (HS : ∀ h d e, S (ix3 h d e) = ((D.bk t.val h d e : ℝ) : EReal)) (a : Fin 1) (d : Fin 128) (e : Fin 256) :
    (k0_pay106 (k0_pay62 (k0_pay25 (k0_pay18 (View.ld (iblk m c 5 t) (Rect.unit ![0, 0] ![128, 256] inb_S128x512_S128x256_0_0))) (k0_pay19 (View.ld (iblk m c 5 t) (Rect.unit ![0, 0] ![128, 256] inb_S128x512_S128x256_0_0))) (k0_pay20 (View.ld (iblk m c 6 t) (Rect.unit ![0, 512] ![128, 256] inb_S128x1024_S128x256_0_512))) (k0_pay21 (View.ld (iblk m c 8 t) (Rect.unit ![0, 512] ![128, 256] inb_S128x1024_S128x256_0_512))) (View.ld (iblk m c 7 t) (Rect.unit ![0, 32] ![128, 1] inb_S128x128_S128x1_0_32))) (k0_pay52 (View.ld (iblk m c 0 t) (Rect.unit ![0, 256] ![128, 128] inb_S128x512_S128x128_0_256))) (View.ld (iblk m c 14 t) (Rect.unit ![2, 0, 0] ![1, 128, 128] inb_S4x128x128_S1x128x128_2_0_0))) (k0_pay105 (View.ld S (Rect.unit ![2, 0, 0] ![1, 128, 256] inb_S4x128x256_S1x128x256_2_0_0))) (View.ld (iblk m c 15 t) (Rect.unit ![2, 0, 0] ![1, 1, 256] inb_S4x8x256_S1x1x256_2_0_0))) (ix3 a d e) = ((D.bk (t.val + 1) 2 d e : ℝ) : EReal) :=
  dR2 (p_do2 H t) (ld_q2 H t) (ld_xi2 H t) (ld_dR2 t S HS) (ld_dec2 H t) a d e

theorem p_dq2 (i d : Fin 128) :
    (k0_pay107 (k0_pay103 (k0_pay53 (View.ld (iblk m c 1 t) (Rect.unit ![0, 256] ![128, 128] inb_S128x512_S128x128_0_256))) (k0_pay60 (k0_pay25 (k0_pay18 (View.ld (iblk m c 5 t) (Rect.unit ![0, 0] ![128, 256] inb_S128x512_S128x256_0_0))) (k0_pay19 (View.ld (iblk m c 5 t) (Rect.unit ![0, 0] ![128, 256] inb_S128x512_S128x256_0_0))) (k0_pay20 (View.ld (iblk m c 6 t) (Rect.unit ![0, 512] ![128, 256] inb_S128x1024_S128x256_0_512))) (k0_pay21 (View.ld (iblk m c 8 t) (Rect.unit ![0, 512] ![128, 256] inb_S128x1024_S128x256_0_512))) (View.ld (iblk m c 7 t) (Rect.unit ![0, 32] ![128, 1] inb_S128x128_S128x1_0_32))) (View.ld (iblk m c 9 t) (Rect.unit ![2, 0, 0, 0] ![1, 1, 128, 256] inb_S4x1x128x256_S1x1x128x256_2_0_0_0))) (k0_pay80 (k0_pay58 (k0_pay25 (k0_pay18 (View.ld (iblk m c 5 t) (Rect.unit ![0, 0] ![128, 256] inb_S128x512_S128x256_0_0))) (k0_pay19 (View.ld (iblk m c 5 t) (Rect.unit ![0, 0] ![128, 256] inb_S128x512_S128x256_0_0))) (k0_pay20 (View.ld (iblk m c 6 t) (Rect.unit ![0, 512] ![128, 256] inb_S128x1024_S128x256_0_512))) (k0_pay21 (View.ld (iblk m c 8 t) (Rect.unit ![0, 512] ![128, 256] inb_S128x1024_S128x256_0_512))) (View.ld (iblk m c 7 t) (Rect.unit ![0, 32] ![128, 1] inb_S128x128_S128x1_0_32))) (k0_pay54 (View.ld (iblk m c 3 t) (Rect.unit ![0, 0] ![128, 256] inb_S128x512_S128x256_0_0)))) (View.ld (iblk m c 12 t) (Rect.unit ![2, 0, 0] ![1, 128, 128] inb_S4x128x128_S1x128x128_2_0_0))) (View.ld (iblk m c 14 t) (Rect.unit ![2, 0, 0] ![1, 128, 128] inb_S4x128x128_S1x128x128_2_0_0))) (View.ld (iblk m c 10 t) (Rect.unit ![0, 0, 0, 0] ![1, 1, 128, 128] inb_S1x3x128x128_S1x1x128x128_0_0_0_0)) (View.ld (iblk m c 10 t) (Rect.unit ![0, 1, 0, 0] ![1, 1, 128, 128] inb_S1x3x128x128_S1x1x128x128_0_1_0_0)) (View.ld (iblk m c 10 t) (Rect.unit ![0, 2, 0, 0] ![1, 1, 128, 128] inb_S1x3x128x128_S1x1x128x128_0_2_0_0))) (ix2 i d) = ((D.out (tok (cn t) i) ⟨256 + d.val, by omega⟩ : ℝ) : EReal) := by
  rw [out_dq D t 2 i d _ (by simp; try omega), ← dqx_tables]
  exact dq2 (ld_k2 H t) (p_do2 H t) (ld_st2 H t) (p_ds2 H t) (ld_xi2 H t) (ld_a0 H t) (ld_a1 H t) (ld_a2 H t) i d

theorem p_dk2 (S : Vec Ideal S4x128x256 .f32) (HS : ∀ h d e, S (ix3 h d e) = ((D.bk t.val h d e : ℝ) : EReal)) (i d : Fin 128) :
    (k0_pay109 (k0_pay104 (k0_pay52 (View.ld (iblk m c 0 t) (Rect.unit ![0, 256] ![128, 128] inb_S128x512_S128x128_0_256))) (k0_pay61 (k0_pay54 (View.ld (iblk m c 3 t) (Rect.unit ![0, 0] ![128, 256] inb_S128x512_S128x256_0_0))) (k0_pay55 (View.ld S (Rect.unit ![2, 0, 0] ![1, 128, 256] inb_S4x128x256_S1x128x256_2_0_0)))) (k0_pay80 (k0_pay58 (k0_pay25 (k0_pay18 (View.ld (iblk m c 5 t) (Rect.unit ![0, 0] ![128, 256] inb_S128x512_S128x256_0_0))) (k0_pay19 (View.ld (iblk m c 5 t) (Rect.unit ![0, 0] ![128, 256] inb_S128x512_S128x256_0_0))) (k0_pay20 (View.ld (iblk m c 6 t) (Rect.unit ![0, 512] ![128, 256] inb_S128x1024_S128x256_0_512))) (k0_pay21 (View.ld (iblk m c 8 t) (Rect.unit ![0, 512] ![128, 256] inb_S128x1024_S128x256_0_512))) (View.ld (iblk m c 7 t) (Rect.unit ![0, 32] ![128, 1] inb_S128x128_S128x1_0_32))) (k0_pay54 (View.ld (iblk m c 3 t) (Rect.unit ![0, 0] ![128, 256] inb_S128x512_S128x256_0_0)))) (View.ld (iblk m c 12 t) (Rect.unit ![2, 0, 0] ![1, 128, 128] inb_S4x128x128_S1x128x128_2_0_0))) (View.ld (iblk m c 13 t) (Rect.unit ![2, 0, 0] ![1, 128, 128] inb_S4x128x128_S1x128x128_2_0_0))) (k0_pay108 (View.ld (iblk m c 11 t) (Rect.unit ![0, 0, 0, 0] ![1, 1, 128, 128] inb_S1x3x128x128_S1x1x128x128_0_0_0_0))) (View.ld (iblk m c 11 t) (Rect.unit ![0, 1, 0, 0] ![1, 1, 128, 128] inb_S1x3x128x128_S1x1x128x128_0_1_0_0)) (View.ld (iblk m c 11 t) (Rect.unit ![0, 2, 0, 0] ![1, 1, 128, 128] inb_S1x3x128x128_S1x1x128x128_0_2_0_0))) (ix2 i d) = ((D.out (tok (cn t) i) ⟨768 + d.val, by omega⟩ : ℝ) : EReal) := by
  rw [out_dk D t 2 i d _ (by simp; try omega), ← dkx_tables, ← dkX_cn, ← dkX_cn, ← dkX_cn]
  exact dk2 (ld_q2 H t) (ld_v2 H t) (ld_dR2 t S HS) (p_ds2 H t) (ld_zt2 H t) (ld_b0 H t) (ld_b1 H t) (ld_b2 H t) i d

theorem p_do3 (i : Fin 128) (e : Fin 256) :
    (k0_pay31 (k0_pay26 (View.ld (iblk m c 5 t) (Rect.unit ![0, 256] ![128, 256] inb_S128x512_S128x256_0_256))) (k0_pay27 (View.ld (iblk m c 5 t) (Rect.unit ![0, 256] ![128, 256] inb_S128x512_S128x256_0_256))) (View.ld (iblk m c 6 t) (Rect.unit ![0, 768] ![128, 256] inb_S128x1024_S128x256_0_768)) (View.ld (iblk m c 8 t) (Rect.unit ![0, 768] ![128, 256] inb_S128x1024_S128x256_0_768)) (View.ld (iblk m c 7 t) (Rect.unit ![0, 48] ![128, 1] inb_S128x128_S128x1_0_48))) (ix2 i e) = ((D.do_ (cn t) 3 i e : ℝ) : EReal) :=
  do3 (ld_g3 H t) (ld_rn3 H t) (ld_dy3 H t) (ld_rs3 H t) i e

theorem p_dgr3 (i : Fin 128) (e : Fin 256) :
    (k0_pay30 (k0_pay26 (View.ld (iblk m c 5 t) (Rect.unit ![0, 256] ![128, 256] inb_S128x512_S128x256_0_256))) (k0_pay27 (View.ld (iblk m c 5 t) (Rect.unit ![0, 256] ![128, 256] inb_S128x512_S128x256_0_256))) (View.ld (iblk m c 6 t) (Rect.unit ![0, 768] ![128, 256] inb_S128x1024_S128x256_0_768)) (View.ld (iblk m c 8 t) (Rect.unit ![0, 768] ![128, 256] inb_S128x1024_S128x256_0_768))) (ix2 i e) = ((D.out (tok (cn t) i) ⟨2816 + e.val, by omega⟩ : ℝ) : EReal) := by
  rw [out_dgr D t 3 i e _ (by simp; try omega)]
  exact dgr3 (ld_g3 H t) (ld_rn3 H t) (ld_dy3 H t) i e

theorem p_sd3 (i j : Fin 128) :
    (k0_pay81 (k0_pay69 (k0_pay63 (View.ld (iblk m c 0 t) (Rect.unit ![0, 384] ![128, 128] inb_S128x512_S128x128_0_384))) (k0_pay64 (View.ld (iblk m c 1 t) (Rect.unit ![0, 384] ![128, 128] inb_S128x512_S128x128_0_384)))) (View.ld (iblk m c 12 t) (Rect.unit ![3, 0, 0] ![1, 128, 128] inb_S4x128x128_S1x128x128_3_0_0))) (ix2 i j) = ((D.sd (cn t) 3 i j : ℝ) : EReal) :=
  sd3 (ld_q3 H t) (ld_k3 H t) (ld_dm3 H t) i j

theorem p_ds3 (i j : Fin 128) :
    (k0_pay82 (k0_pay70 (k0_pay31 (k0_pay26 (View.ld (iblk m c 5 t) (Rect.unit ![0, 256] ![128, 256] inb_S128x512_S128x256_0_256))) (k0_pay27 (View.ld (iblk m c 5 t) (Rect.unit ![0, 256] ![128, 256] inb_S128x512_S128x256_0_256))) (View.ld (iblk m c 6 t) (Rect.unit ![0, 768] ![128, 256] inb_S128x1024_S128x256_0_768)) (View.ld (iblk m c 8 t) (Rect.unit ![0, 768] ![128, 256] inb_S128x1024_S128x256_0_768)) (View.ld (iblk m c 7 t) (Rect.unit ![0, 48] ![128, 1] inb_S128x128_S128x1_0_48))) (k0_pay65 (View.ld (iblk m c 3 t) (Rect.unit ![0, 256] ![128, 256] inb_S128x512_S128x256_0_256)))) (View.ld (iblk m c 12 t) (Rect.unit ![3, 0, 0] ![1, 128, 128] inb_S4x128x128_S1x128x128_3_0_0))) (ix2 i j) = ((D.ds (cn t) 3 i j : ℝ) : EReal) :=
  ds3 (p_do3 H t) (ld_v3 H t) (ld_dm3 H t) i j

theorem p_dv3 (S : Vec Ideal S4x128x256 .f32) (HS : ∀ h d e, S (ix3 h d e) = ((D.bk t.val h d e : ℝ) : EReal)) (i : Fin 128) (e : Fin 256) :
    (k0_pay110 (k0_pay31 (k0_pay26 (View.ld (iblk m c 5 t) (Rect.unit ![0, 256] ![128, 256] inb_S128x512_S128x256_0_256))) (k0_pay27 (View.ld (iblk m c 5 t) (Rect.unit ![0, 256] ![128, 256] inb_S128x512_S128x256_0_256))) (View.ld (iblk m c 6 t) (Rect.unit ![0, 768] ![128, 256] inb_S128x1024_S128x256_0_768)) (View.ld (iblk m c 8 t) (Rect.unit ![0, 768] ![128, 256] inb_S128x1024_S128x256_0_768)) (View.ld (iblk m c 7 t) (Rect.unit ![0, 48] ![128, 1] inb_S128x128_S128x1_0_48))) (k0_pay71 (k0_pay66 (View.ld S (Rect.unit ![3, 0, 0] ![1, 128, 256] inb_S4x128x256_S1x128x256_3_0_0))) (k0_pay67 (View.ld (iblk m c 1 t) (Rect.unit ![0, 384] ![128, 128] inb_S128x512_S128x128_0_384)) (View.ld (iblk m c 13 t) (Rect.unit ![3, 0, 0] ![1, 128, 128] inb_S4x128x128_S1x128x128_3_0_0)))) (k0_pay81 (k0_pay69 (k0_pay63 (View.ld (iblk m c 0 t) (Rect.unit ![0, 384] ![128, 128] inb_S128x512_S128x128_0_384))) (k0_pay64 (View.ld (iblk m c 1 t) (Rect.unit ![0, 384] ![128, 128] inb_S128x512_S128x128_0_384)))) (View.ld (iblk m c 12 t) (Rect.unit ![3, 0, 0] ![1, 128, 128] inb_S4x128x128_S1x128x128_3_0_0)))) (ix2 i e) = ((D.out (tok (cn t) i) ⟨1792 + e.val, by omega⟩ : ℝ) : EReal) := by
  rw [out_dv D t 3 i e _ (by simp; try omega)]
  refine (dv3 (p_do3 H t) (ld_dR3 t S HS) (ld_k3 H t) (ld_zt3 H t) (p_sd3 H t) i e).trans ?_
  rw [← db_cn]; rfl

theorem p_dR3 (S : Vec Ideal S4x128x256 .f32) (HS : ∀ h d e, S (ix3 h d e) = ((D.bk t.val h d e : ℝ) : EReal)) (a : Fin 1) (d : Fin 128) (e : Fin 256) :
    (k0_pay114 (k0_pay74 (k0_pay31 (k0_pay26 (View.ld (iblk m c 5 t) (Rect.unit ![0, 256] ![128, 256] inb_S128x512_S128x256_0_256))) (k0_pay27 (View.ld (iblk m c 5 t) (Rect.unit ![0, 256] ![128, 256] inb_S128x512_S128x256_0_256))) (View.ld (iblk m c 6 t) (Rect.unit ![0, 768] ![128, 256] inb_S128x1024_S128x256_0_768)) (View.ld (iblk m c 8 t) (Rect.unit ![0, 768] ![128, 256] inb_S128x1024_S128x256_0_768)) (View.ld (iblk m c 7 t) (Rect.unit ![0, 48] ![128, 1] inb_S128x128_S128x1_0_48))) (k0_pay68 (View.ld (iblk m c 0 t) (Rect.unit ![0, 384] ![128, 128] inb_S128x512_S128x128_0_384))) (View.ld (iblk m c 14 t) (Rect.unit ![3, 0, 0] ![1, 128, 128] inb_S4x128x128_S1x128x128_3_0_0))) (k0_pay113 (View.ld S (Rect.unit ![3, 0, 0] ![1, 128, 256] inb_S4x128x256_S1x128x256_3_0_0))) (View.ld (iblk m c 15 t) (Rect.unit ![3, 0, 0] ![1, 1, 256] inb_S4x8x256_S1x1x256_3_0_0))) (ix3 a d e) = ((D.bk (t.val + 1) 3 d e : ℝ) : EReal) :=
  dR3 (p_do3 H t) (ld_q3 H t) (ld_xi3 H t) (ld_dR3 t S HS) (ld_dec3 H t) a d e

theorem p_dq3 (i d : Fin 128) :
    (k0_pay115 (k0_pay111 (k0_pay64 (View.ld (iblk m c 1 t) (Rect.unit ![0, 384] ![128, 128] inb_S128x512_S128x128_0_384))) (k0_pay72 (k0_pay31 (k0_pay26 (View.ld (iblk m c 5 t) (Rect.unit ![0, 256] ![128, 256] inb_S128x512_S128x256_0_256))) (k0_pay27 (View.ld (iblk m c 5 t) (Rect.unit ![0, 256] ![128, 256] inb_S128x512_S128x256_0_256))) (View.ld (iblk m c 6 t) (Rect.unit ![0, 768] ![128, 256] inb_S128x1024_S128x256_0_768)) (View.ld (iblk m c 8 t) (Rect.unit ![0, 768] ![128, 256] inb_S128x1024_S128x256_0_768)) (View.ld (iblk m c 7 t) (Rect.unit ![0, 48] ![128, 1] inb_S128x128_S128x1_0_48))) (View.ld (iblk m c 9 t) (Rect.unit ![3, 0, 0, 0] ![1, 1, 128, 256] inb_S4x1x128x256_S1x1x128x256_3_0_0_0))) (k0_pay82 (k0_pay70 (k0_pay31 (k0_pay26 (View.ld (iblk m c 5 t) (Rect.unit ![0, 256] ![128, 256] inb_S128x512_S128x256_0_256))) (k0_pay27 (View.ld (iblk m c 5 t) (Rect.unit ![0, 256] ![128, 256] inb_S128x512_S128x256_0_256))) (View.ld (iblk m c 6 t) (Rect.unit ![0, 768] ![128, 256] inb_S128x1024_S128x256_0_768)) (View.ld (iblk m c 8 t) (Rect.unit ![0, 768] ![128, 256] inb_S128x1024_S128x256_0_768)) (View.ld (iblk m c 7 t) (Rect.unit ![0, 48] ![128, 1] inb_S128x128_S128x1_0_48))) (k0_pay65 (View.ld (iblk m c 3 t) (Rect.unit ![0, 256] ![128, 256] inb_S128x512_S128x256_0_256)))) (View.ld (iblk m c 12 t) (Rect.unit ![3, 0, 0] ![1, 128, 128] inb_S4x128x128_S1x128x128_3_0_0))) (View.ld (iblk m c 14 t) (Rect.unit ![3, 0, 0] ![1, 128, 128] inb_S4x128x128_S1x128x128_3_0_0))) (View.ld (iblk m c 10 t) (Rect.unit ![0, 0, 0, 0] ![1, 1, 128, 128] inb_S1x3x128x128_S1x1x128x128_0_0_0_0)) (View.ld (iblk m c 10 t) (Rect.unit ![0, 1, 0, 0] ![1, 1, 128, 128] inb_S1x3x128x128_S1x1x128x128_0_1_0_0)) (View.ld (iblk m c 10 t) (Rect.unit ![0, 2, 0, 0] ![1, 1, 128, 128] inb_S1x3x128x128_S1x1x128x128_0_2_0_0))) (ix2 i d) = ((D.out (tok (cn t) i) ⟨384 + d.val, by omega⟩ : ℝ) : EReal) := by
  rw [out_dq D t 3 i d _ (by simp; try omega), ← dqx_tables]
  exact dq3 (ld_k3 H t) (p_do3 H t) (ld_st3 H t) (p_ds3 H t) (ld_xi3 H t) (ld_a0 H t) (ld_a1 H t) (ld_a2 H t) i d

theorem p_dk3 (S : Vec Ideal S4x128x256 .f32) (HS : ∀ h d e, S (ix3 h d e) = ((D.bk t.val h d e : ℝ) : EReal)) (i d : Fin 128) :
    (k0_pay1 (k0_pay112 (k0_pay63 (View.ld (iblk m c 0 t) (Rect.unit ![0, 384] ![128, 128] inb_S128x512_S128x128_0_384))) (k0_pay73 (k0_pay65 (View.ld (iblk m c 3 t) (Rect.unit ![0, 256] ![128, 256] inb_S128x512_S128x256_0_256))) (k0_pay66 (View.ld S (Rect.unit ![3, 0, 0] ![1, 128, 256] inb_S4x128x256_S1x128x256_3_0_0)))) (k0_pay82 (k0_pay70 (k0_pay31 (k0_pay26 (View.ld (iblk m c 5 t) (Rect.unit ![0, 256] ![128, 256] inb_S128x512_S128x256_0_256))) (k0_pay27 (View.ld (iblk m c 5 t) (Rect.unit ![0, 256] ![128, 256] inb_S128x512_S128x256_0_256))) (View.ld (iblk m c 6 t) (Rect.unit ![0, 768] ![128, 256] inb_S128x1024_S128x256_0_768)) (View.ld (iblk m c 8 t) (Rect.unit ![0, 768] ![128, 256] inb_S128x1024_S128x256_0_768)) (View.ld (iblk m c 7 t) (Rect.unit ![0, 48] ![128, 1] inb_S128x128_S128x1_0_48))) (k0_pay65 (View.ld (iblk m c 3 t) (Rect.unit ![0, 256] ![128, 256] inb_S128x512_S128x256_0_256)))) (View.ld (iblk m c 12 t) (Rect.unit ![3, 0, 0] ![1, 128, 128] inb_S4x128x128_S1x128x128_3_0_0))) (View.ld (iblk m c 13 t) (Rect.unit ![3, 0, 0] ![1, 128, 128] inb_S4x128x128_S1x128x128_3_0_0))) (k0_pay116 (View.ld (iblk m c 11 t) (Rect.unit ![0, 0, 0, 0] ![1, 1, 128, 128] inb_S1x3x128x128_S1x1x128x128_0_0_0_0))) (View.ld (iblk m c 11 t) (Rect.unit ![0, 1, 0, 0] ![1, 1, 128, 128] inb_S1x3x128x128_S1x1x128x128_0_1_0_0)) (View.ld (iblk m c 11 t) (Rect.unit ![0, 2, 0, 0] ![1, 1, 128, 128] inb_S1x3x128x128_S1x1x128x128_0_2_0_0))) (ix2 i d) = ((D.out (tok (cn t) i) ⟨896 + d.val, by omega⟩ : ℝ) : EReal) := by
  rw [out_dk D t 3 i d _ (by simp; try omega), ← dkx_tables, ← dkX_cn, ← dkX_cn, ← dkX_cn]
  exact dk3 (ld_q3 H t) (ld_v3 H t) (ld_dR3 t S HS) (p_ds3 H t) (ld_zt3 H t) (ld_b0 H t) (ld_b1 H t) (ld_b2 H t) i d

/-! ### The grid point -/

/-- The result's row block, as the mathematics has it. -/
def G16 (D : Data) (t : Fin cfg0.N) : S128x3072.Idx → EReal := fun y => ((D.out (tok (cn t) (y 0)) (y 1) : ℝ) : EReal)
/-- The carried gradient of the state. -/
def GS (D : Data) (s : ℕ) : S4x128x256.Idx → EReal := fun y => ((D.bk s (y 0) (y 1) (y 2) : ℝ) : EReal)

omit H in
theorem zeros_at (D : Data) (h : Fin 4) (d : Fin 128) (e : Fin 256) : (k0_pay2 (F := Ideal)) (ix3 h d e) = ((D.bk 0 h d e : ℝ) : EReal) := by
  rw [Data.bk_zero]; pointwise [k0_pay2]; norm_num

set_option maxHeartbeats 1600000 in
theorem out_A (hc : t.val % 32 = 0) (y : S128x3072.Idx) : (outsAt0 m c t.val t.isLt).1 y = G16 D t y := by
  have e0 : t.val = 0 := by have := t_lt t; omega
  have HS : ∀ h d e, (k0_pay2 (F := Ideal)) (ix3 h d e) = ((D.bk t.val h d e : ℝ) : EReal) := by rw [e0]; exact zeros_at D
  rw [outsAt0_A m c t hc]; frame_out
  simp (config := {decide := true}) only [↓ View.readCov_fill, ↓ View.readCov_skip]
  exact canon16 (G16 D t) _ _ _ _ _ _ _ _ _ _ _ _ _ _ _ _
    (p_dk3 H t _ HS) (p_dq3 H t) (p_dv3 H t _ HS) (p_dk2 H t _ HS) (p_dq2 H t) (p_dv2 H t _ HS) (p_dk1 H t _ HS) (p_dq1 H t) (p_dv1 H t _ HS) (p_dk0 H t _ HS) (p_dq0 H t) (p_dv0 H t _ HS) (p_dgr3 H t) (p_dgr2 H t) (p_dgr1 H t) (p_dgr0 H t) y

set_option maxHeartbeats 1600000 in
theorem scr_A (hc : t.val % 32 = 0) (y : S4x128x256.Idx) : (outsAt0 m c t.val t.isLt).2 y = GS D (t.val + 1) y := by
  have e0 : t.val = 0 := by have := t_lt t; omega
  have HS : ∀ h d e, (k0_pay2 (F := Ideal)) (ix3 h d e) = ((D.bk t.val h d e : ℝ) : EReal) := by rw [e0]; exact zeros_at D
  rw [outsAt0_A m c t hc]; frame_out
  simp (config := {decide := true}) only [↓ View.readCov_fill, ↓ View.readCov_skip]
  exact canon4 (GS D (t.val + 1)) _ _ _ _ _ (p_dR3 H t _ HS) (p_dR2 H t _ HS) (p_dR1 H t _ HS) (p_dR0 H t _ HS) y

set_option maxHeartbeats 1600000 in
theorem out_B (hc : ¬ t.val % 32 = 0) (HP : ∀ h d e, (outsAt0 m c (t.val - 1) (Nat.lt_of_le_of_lt (Nat.sub_le t.val 1) t.isLt)).2 (ix3 h d e) = ((D.bk t.val h d e : ℝ) : EReal)) (y : S128x3072.Idx) : (outsAt0 m c t.val t.isLt).1 y = G16 D t y := by
  rw [outsAt0_B m c t hc]; frame_out
  simp only [read_unread_whole]
  exact canon16 (G16 D t) _ _ _ _ _ _ _ _ _ _ _ _ _ _ _ _
    (p_dk3 H t _ HP) (p_dq3 H t) (p_dv3 H t _ HP) (p_dk2 H t _ HP) (p_dq2 H t) (p_dv2 H t _ HP) (p_dk1 H t _ HP) (p_dq1 H t) (p_dv1 H t _ HP) (p_dk0 H t _ HP) (p_dq0 H t) (p_dv0 H t _ HP) (p_dgr3 H t) (p_dgr2 H t) (p_dgr1 H t) (p_dgr0 H t) y

set_option maxHeartbeats 1600000 in
theorem scr_B (hc : ¬ t.val % 32 = 0) (HP : ∀ h d e, (outsAt0 m c (t.val - 1) (Nat.lt_of_le_of_lt (Nat.sub_le t.val 1) t.isLt)).2 (ix3 h d e) = ((D.bk t.val h d e : ℝ) : EReal)) (y : S4x128x256.Idx) : (outsAt0 m c t.val t.isLt).2 y = GS D (t.val + 1) y := by
  rw [outsAt0_B m c t hc]; frame_out
  simp only [read_unread_whole]
  exact canon4 (GS D (t.val + 1)) _ _ _ _ _ (p_dR3 H t _ HP) (p_dR2 H t _ HP) (p_dR1 H t _ HP) (p_dR0 H t _ HP) y

end Point

end Cert.Proof.RetHost

end
-- ==== Proof.RetFinal.lean ====
/-
  The retention kernel's result array: the carried gradient of the state by induction over the grid, then the row blocks
  of the result put together.
-/
module

public import proofs.«01_k».proof.Proof.RetPoint

@[expose] public section

set_option maxRecDepth 16384

noncomputable section

namespace Cert.Proof.RetHost

open Cert.RetKernelIdeal Cert.RetKernelIdeal.Gen Idealize.ShloMosaic Idealize.ShloMosaic.TcCoe Idealize.SL.Sem Cert.Proof.Ret
open scoped BigOperators

variable {m : (ℓ : Loc nD τ sig) → Buf (Elt Ideal) ℓ} {c : Dev nD} {D : Data} (H : Holds m c D)
include H

/-- After grid point `n` the carried array holds the gradient of the state before the `n + 1` chunks already walked. -/
theorem scr_all : ∀ (n : ℕ) (hn : n < cfg0.N) (y : S4x128x256.Idx), (outsAt0 m c n hn).2 y = GS D (n + 1) y := by
  intro n
  induction n with
  | zero => exact fun hn y => scr_A H ⟨0, hn⟩ rfl y
  | succ n ih =>
    intro hn y
    have hN : n + 1 < 32 := lt_of_lt_of_eq hn N_0
    exact scr_B H ⟨n + 1, hn⟩ (by show ¬ (n + 1) % 32 = 0; omega) (fun h d e => ih (Nat.lt_of_succ_lt hn) (ix3 h d e)) y

theorem out_all (t : Fin cfg0.N) (y : S128x3072.Idx) : (outsAt0 m c t.val t.isLt).1 y = G16 D t y := by
  by_cases hc : t.val % 32 = 0
  · exact out_A H t hc y
  · obtain ⟨n, hn⟩ := t
    cases n with
    | zero => exact absurd rfl hc
    | succ n => exact out_B H ⟨n + 1, hn⟩ hc (fun h d e => scr_all H n (Nat.lt_of_succ_lt hn) (ix3 h d e)) y

/-- The array the kernel ends with. -/
def outArr (D : Data) : S4096x3072.Idx → EReal := fun i => ((D.out (i 0) (i 1) : ℝ) : EReal)

theorem final16 : (dats m 0 c).arrAt 16 (cfgs 0).N = outArr D := by
  refine (dats m 0 c).arrAt_eq_of_covers 16 _ (by decide +kernel) fun t hf y => ?_
  blk_simp
  rw [after0_16]
  refine (out_all H t y).trans ?_
  have e : (win0_16.blk t).view.emb y = ix2 (tok (cn t) (y 0)) (y 1) := by
    have ht := tok_val t (y 0)
    idx_vars y
    blk_ext [idx_val t]
  exact (congrArg (outArr D) e).symm

end Cert.Proof.RetHost

end
-- ==== Proof.RetValue.lean ====
/-
  The retention's algebraic claim: both sides end with the same formula over the reals the two arguments hold.
-/
module

public import proofs.«01_k».proof.Proof.Finite
public import proofs.«01_k».proof.Proof.RetFrames
public import proofs.«01_k».proof.Proof.RetRefF
public import proofs.«01_k».proof.Proof.RetFinal
public import proofs.«01_k».proof.Proof.Gen.RetKernelIdeal.Value

@[expose] public section

set_option maxRecDepth 16384

noncomputable section

namespace Cert.Proof

open Idealize.ShloMosaic Idealize.SL.Sem

section lift

open Cert.RetKernelIdeal

variable (m : (ℓ : Loc nD τ sig) → Buf (Elt Ideal) ℓ) (c : Dev nD)

/-- The reals two arrays hold. -/
def retData (a0 : FVec Ideal S4096x9728 .f32) (a1 : FVec Ideal S4096x1024 .f32) : Ret.Data where
  x t k := (a0 (ix2 t k) : EReal).toReal
  dy t k := (a1 (ix2 t k) : EReal).toReal

/-- The reals device `c`'s arguments hold. -/
def retReals : Ret.Data := retData (m ((c.tc : Thread nD τ).loc main_arg0)) (m ((c.tc : Thread nD τ).loc main_arg1))

variable {m} in
theorem ret_reals (hpre : Cert.Pre_RetKernelIdeal_ret_finite (hPre_ret_finite := ret_facts) m) :
    (∀ (t : Fin 4096) (k : Fin 9728), (m ((c.tc : Thread nD τ).loc main_arg0) (ix2 t k) : EReal) = (((retReals m c).x t k : ℝ) : EReal))
    ∧ ∀ (t : Fin 4096) (k : Fin 1024), (m ((c.tc : Thread nD τ).loc main_arg1) (ix2 t k) : EReal) = (((retReals m c).dy t k : ℝ) : EReal) := by
  obtain ⟨h0, h1⟩ := hpre c
  exact ⟨fun t k => Fin.real_of_ones _ _ h0 _, fun t k => Fin.real_of_ones _ _ h1 _⟩

variable {m} in
theorem ret_holds (hpre : Cert.Pre_RetKernelIdeal_ret_finite (hPre_ret_finite := ret_facts) m) : RetHost.Holds m c (retReals m c) := by
  obtain ⟨h0, h1⟩ := ret_reals c hpre
  refine ⟨fun t k => ?_, fun t k => ?_⟩
  · rw [RetHost.arg0, RetHost.R_eq, Cert.RetKernelIdeal.Gen.V_main_arg0]; exact h0 t k
  · rw [RetHost.arg1, RetHost.R_eq, Cert.RetKernelIdeal.Gen.V_main_arg1]; exact h1 t k

end lift

open Cert.RetReferenceIdeal Idealize.ShloMosaic.StableHlo in
theorem ret_holds_reference {m : (ℓ : Loc Cert.RetKernelIdeal.nD Cert.RetKernelIdeal.τ Cert.RetKernelIdeal.sig) → Buf (Elt Ideal) ℓ}
    (m' : (ℓ : Loc nD τ sig) → Buf (Elt Ideal) ℓ) (c : Dev nD)
    (hpre : Cert.Pre_RetKernelIdeal_ret_finite (hPre_ret_finite := ret_facts) m)
    (e0 : m' ((c.tc : Thread nD τ).loc main_arg0) = m ((c.tc : Thread Cert.RetKernelIdeal.nD Cert.RetKernelIdeal.τ).loc Cert.RetKernelIdeal.main_arg0))
    (e1 : m' ((c.tc : Thread nD τ).loc main_arg1) = m ((c.tc : Thread Cert.RetKernelIdeal.nD Cert.RetKernelIdeal.τ).loc Cert.RetKernelIdeal.main_arg1)) :
    RetRef.Holds (launchContents m' c) (retReals m c) := by
  obtain ⟨h0, h1⟩ := ret_reals c hpre
  exact ⟨fun t k => (congrFun e0 (ix2 t k)).trans (h0 t k), fun t k => (congrFun e1 (ix2 t k)).trans (h1 t k)⟩

set_option maxHeartbeats 4000000 in
theorem ret_algebraic : Cert.algebraic_RetKernelIdeal_RetReferenceIdeal_pre_ret_finite (hRetKernelIdeal := Cert.RetKernelIdeal.Gen.facts)
    (hRetReferenceIdeal := Cert.RetReferenceIdeal.Gen.facts) (hPre_ret_finite := ret_facts) := fun m g m' g' hpre hagree =>
  ⟨fun c => RetHost.outArr (retReals m c),
    (θ_run Cert.RetKernelIdeal.defs _ _).mono
      (fun r h c => ⟨(h c).1.trans (RetHost.final16 (ret_holds c hpre)), (h c).2⟩) (Cert.RetKernelIdeal.Value.run_blocks m g),
    (θ_run Cert.RetReferenceIdeal.defs _ _).mono
      (fun r h c => ⟨(h c).1.trans (RetRef.result (ret_holds_reference m' c hpre (hagree c).1 (hagree c).2)), (h c).2⟩)
      (Cert.RetReferenceIdeal.Value.run m' g')⟩

end Cert.Proof

end
-- ==== Proof.InSpec.lean ====
/-
  The gradient of the mixer's input projection over the reals, as one list of formulas: the normalised input's gradient,
  the input's with the gradient that arrives beside it, and the gain's. Both programs are read against this list.
-/
module

public import proofs.«01_k».proof.Proof.Spec

@[expose] public section

noncomputable section

namespace Cert.Proof.Inp

open scoped BigOperators
open Idealize.ShloMosaic Cert.Proof.Grad

/-- The arguments: the input rows, the gain, the projection's weights, the projection's gradient and the gradient that
    arrives beside it. -/
structure Data where
  x : Fin 4096 → Fin 1024 → ℝ
  g : Fin 1024 → ℝ
  w : Fin 1024 → Fin 9728 → ℝ
  dp : Fin 4096 → Fin 9728 → ℝ
  dy : Fin 4096 → Fin 1024 → ℝ

namespace Data
variable (D : Data)

/-- The normalised input's gradient. -/
def dh (t : Fin 4096) (k : Fin 1024) : ℝ := ∑ n, D.dp t n * D.w k n
/-- The input's gradient, with the gradient that arrives. -/
def dx (t : Fin 4096) (k : Fin 1024) : ℝ := D.dy t k + dnorm (D.x t) (fun l => D.dh t l * D.g l) k
/-- The gain's gradient. -/
def dgain (k : Fin 1024) : ℝ := ∑ t, D.dh t k * (D.x t k * rs (D.x t))

end Data

/-- Column `j` of slice `s` among the 9728. -/
def slc (s : Fin 4) (j : Fin 2432) : Fin 9728 := ⟨s.val * 2432 + j.val, by have := s.isLt; have := j.isLt; omega⟩

/-- A sum over the columns, slice by slice. -/
theorem sum_slc (f : Fin 9728 → ℝ) : ∑ n, f n = ∑ s, ∑ j, f (slc s j) := Fin.sum_univ_tiles 4 2432 rfl f

end Cert.Proof.Inp

end
-- ==== Proof.InRef.lean ====
/-
  What the input projection's reference leaves, element by element: its intermediate arrays named in the order the
  program makes them, each read at an index from arguments that are real numbers.
-/
module

public import proofs.«01_k».proof.Proof.InSpec
public import proofs.«01_k».proof.Proof.Gen.InReferenceIdeal.Run

@[expose] public section

set_option maxRecDepth 16384

noncomputable section

namespace Cert.Proof.InRef

open Cert.InReferenceIdeal Cert.InReferenceIdeal.Gen Idealize.ShloMosaic Cert.Proof.Inp
open Cert.Proof.Grad hiding Data
open scoped BigOperators

variable (a0 a4 : FVec Ideal S1x4096x1024 .f32) (a1 : FVec Ideal S1x1024 .f32) (a2 : FVec Ideal S1024x9728 .f32)
  (a3 : FVec Ideal S4096x9728 .f32)

/-! ### The program's arrays -/

def wv : FVec Ideal S1x4096x1 .f32 := addf (Host.divf (broadcastInDim S1x4096x1 ![0, 1] bcast_S1x4096_S1x4096x1_0_1 (Host.reduceAdd (mulf a0 a0) (constant S_ .f32 0x00000000#32) reducesTo_S1x4096x1024_S1x4096_d2 h_S_)) (broadcastInDim S1x4096x1 ![] bcast_S_S1x4096x1 (constant S_ .f32 0x44800000#32))) (broadcastInDim S1x4096x1 ![] bcast_S_S1x4096x1 (constant S_ .f32 0x358637BD#32))
def wr : FVec Ideal S1x4096x1 .f32 := Host.rsqrt (wv a0)
/-- The derivative of the scale by the mean square. -/
def wp : FVec Ideal S1x4096x1 .f32 := mulf (broadcastInDim S1x4096x1 ![] bcast_S_S1x4096x1 (constant S_ .f32 0xBF000000#32)) (Host.divf (wr a0) (wv a0))
def wx : FVec Ideal S1x4096x1024 .f32 := mulf a0 (broadcastInDim S1x4096x1024 ![0, 1, 2] bcast_S1x4096x1_S1x4096x1024_0_1_2 (wr a0))
def wgain : FVec Ideal S1x4096x1024 .f32 := broadcastInDim S1x4096x1024 ![0, 1, 2] bcast_S1x1x1024_S1x4096x1024_0_1_2 (broadcastInDim S1x1x1024 ![2] bcast_S1024_S1x1x1024_2 (shapeCast _ a1 shapeCasts_S1x1024_S1024))
def wdh : FVec Ideal S1x4096x1024 .f32 := Host.dotGeneral (φ₁ := .f32) (φ₂ := .f32) dot_S1x4096x9728_S1024x9728_S1x4096x1024_2_1_01_0_n_n none (broadcastInDim S1x4096x9728 ![1, 2] bcast_S4096x9728_S1x4096x9728_1_2 a3) a2
def wdy : FVec Ideal S1x4096x1024 .f32 := mulf (wdh a2 a3) (wgain a1)
/-- The mean square's gradient, over the number of columns. -/
def wq : FVec Ideal S1x4096x1024 .f32 := broadcastInDim S1x4096x1024 ![0, 1] bcast_S1x4096_S1x4096x1024_0_1 (broadcastInDim S1x4096 ![1] bcast_S4096_S1x4096_1 (Host.reduceAdd (Host.divf (mulf (shapeCast S1x4096x1 (Host.reduceAdd (mulf a0 (wdy a1 a2 a3)) (constant S_ .f32 0x00000000#32) reducesTo_S1x4096x1024_S1x4096_d2 h_S_) shapeCasts_S1x4096_S1x4096x1) (wp a0)) (broadcastInDim S1x4096x1 ![] bcast_S_S1x4096x1 (constant S_ .f32 0x44800000#32))) (constant S_ .f32 0x00000000#32) reducesTo_S1x4096x1_S4096_d0_2 h_S_))
def wdx : FVec Ideal S1x4096x1024 .f32 := addf a4 (addf (addf (mulf (wdy a1 a2 a3) (broadcastInDim S1x4096x1024 ![0, 1, 2] bcast_S1x4096x1_S1x4096x1024_0_1_2 (wr a0))) (mulf a0 (wq a0 a1 a2 a3))) (mulf (wq a0 a1 a2 a3) a0))

def wdgain : FVec Ideal S1x1024 .f32 := broadcastInDim S1x1024 ![1] bcast_S1024_S1x1024_1 (Host.reduceAdd (shapeCast S1x1x1024 (Host.reduceAdd (mulf (wx a0) (wdh a2 a3)) (constant S_ .f32 0x00000000#32) reducesTo_S1x4096x1024_S1x1024_d1 h_S_) shapeCasts_S1x1024_S1x1x1024) (constant S_ .f32 0x00000000#32) reducesTo_S1x1x1024_S1024_d0_1 h_S_)

/-! ### Sums along axes of one element beside a kept one -/

theorem sum_rows (v : FVec Ideal S1x4096x1 .f32) (t : Fin 4096) :
    Ideal.hostReduceAdd reducesTo_S1x4096x1_S4096_d0_2 v 0 (ix1 t) = v (ix3 0 t 0) := by
  show 0 + ∑ i ∈ Finset.univ.filter (fun i => (reducesTo_S1x4096x1_S4096_d0_2).drop i = ix1 t), v i = _
  have e : Finset.univ.filter (fun i => (reducesTo_S1x4096x1_S4096_d0_2).drop i = ix1 t) = {ix3 0 t 0} := by
    ext i
    simp only [Finset.mem_filter, Finset.mem_univ, true_and, Finset.mem_singleton]
    constructor
    · intro e
      idx_vars i
      obtain rfl : i0 = 0 := Subsingleton.elim _ _
      obtain rfl : i2 = 0 := Subsingleton.elim _ _
      obtain rfl : i1 = t := Fin.ext (congrArg Fin.val (congrFun e 0))
      rfl
    · rintro rfl
      funext b
      match b with
      | ⟨0, _⟩ => rfl
  rw [e, Finset.sum_singleton, zero_add]

theorem sum_columns (v : FVec Ideal S1x1x1024 .f32) (k : Fin 1024) :
    Ideal.hostReduceAdd reducesTo_S1x1x1024_S1024_d0_1 v 0 (ix1 k) = v (ix3 0 0 k) := by
  show 0 + ∑ i ∈ Finset.univ.filter (fun i => (reducesTo_S1x1x1024_S1024_d0_1).drop i = ix1 k), v i = _
  have e : Finset.univ.filter (fun i => (reducesTo_S1x1x1024_S1024_d0_1).drop i = ix1 k) = {ix3 0 0 k} := by
    ext i
    simp only [Finset.mem_filter, Finset.mem_univ, true_and, Finset.mem_singleton]
    constructor
    · intro e
      idx_vars i
      obtain rfl : i0 = 0 := Subsingleton.elim _ _
      obtain rfl : i1 = 0 := Subsingleton.elim _ _
      obtain rfl : i2 = k := Fin.ext (congrArg Fin.val (congrFun e 0))
      rfl
    · rintro rfl
      funext b
      match b with
      | ⟨0, _⟩ => rfl
  rw [e, Finset.sum_singleton, zero_add]

/-! ### The arrays at an index, for arguments that are reals -/

/-- The five arguments hold the real numbers of `D`. -/
structure Holds (D : Data) : Prop where
  h0 : ∀ t k, a0 (ix3 0 t k) = (D.x t k : EReal)
  h1 : ∀ k, a1 (ix2 0 k) = (D.g k : EReal)
  h2 : ∀ k n, a2 (ix2 k n) = (D.w k n : EReal)
  h3 : ∀ t n, a3 (ix2 t n) = (D.dp t n : EReal)
  h4 : ∀ t k, a4 (ix3 0 t k) = (D.dy t k : EReal)

variable {a0 a1 a2 a3 a4} {D : Data} (H : Holds a0 a4 a1 a2 a3 D)
include H

theorem wv_at (t : Fin 4096) : wv a0 (ix3 0 t 0) = (ms (D.x t) : EReal) := by
  pointwise [wv, H.h0]
  simp only [ofBits_eps, ofBits_width, ← EReal.coe_mul, ← coe_sum, div_coe_coe _ (by norm_num : (1024 : ℝ) ≠ 0), ← EReal.coe_add, ms]

theorem wr_at (t : Fin 4096) : wr a0 (ix3 0 t 0) = (rs (D.x t) : EReal) := by
  pointwise [wr, wv_at H]
  rw [rsqrt_of_pos (ms_pos _), rs]

theorem wp_at (t : Fin 4096) : wp a0 (ix3 0 t 0) = ((-(1 / 2) * (rs (D.x t) / ms (D.x t)) : ℝ) : EReal) := by
  pointwise [wp, wv_at H, wr_at H]
  simp only [ofBits_neg_half, div_coe_coe _ (ms_pos _).ne', ← EReal.coe_mul]

theorem wx_at (t : Fin 4096) (k : Fin 1024) : wx a0 (ix3 0 t k) = ((D.x t k * rs (D.x t) : ℝ) : EReal) := by
  pointwise [wx, wr_at H, H.h0]
  simp only [← EReal.coe_mul]

theorem wgain_at (t : Fin 4096) (k : Fin 1024) : wgain a1 (ix3 0 t k) = (D.g k : EReal) := by
  pointwise [wgain, H.h1]

theorem wdh_at (t : Fin 4096) (k : Fin 1024) : wdh a2 a3 (ix3 0 t k) = (D.dh t k : EReal) := by
  pointwise [wdh, H.h2, H.h3]
  simp only [← EReal.coe_mul, ← coe_sum, Inp.Data.dh]

theorem wdy_at (t : Fin 4096) (k : Fin 1024) : wdy a1 a2 a3 (ix3 0 t k) = ((D.dh t k * D.g k : ℝ) : EReal) := by
  pointwise [wdy, wdh_at H, wgain_at H]
  simp only [← EReal.coe_mul]

theorem wq_at (t : Fin 4096) (k : Fin 1024) : wq a0 a1 a2 a3 (ix3 0 t k)
    = (((∑ l, D.x t l * (D.dh t l * D.g l)) * (-(1 / 2) * (rs (D.x t) / ms (D.x t))) / 1024 : ℝ) : EReal) := by
  pointwise [wq]
  rw [sum_rows]
  pointwise [wdy_at H, wp_at H, H.h0]
  simp only [ofBits_width, ← EReal.coe_mul, ← coe_sum, div_coe_coe _ (by norm_num : (1024 : ℝ) ≠ 0)]

theorem wdx_at (t : Fin 4096) (k : Fin 1024) : wdx a0 a4 a1 a2 a3 (ix3 0 t k) = (D.dx t k : EReal) := by
  pointwise [wdx, wdy_at H, wq_at H, wr_at H, H.h0, H.h4]
  simp only [← EReal.coe_mul, ← EReal.coe_add, Inp.Data.dx, ← dnorm_chain]

theorem wdgain_at (k : Fin 1024) : wdgain a0 a2 a3 (ix2 0 k) = (D.dgain k : EReal) := by
  pointwise [wdgain]
  rw [sum_columns]
  pointwise [wdh_at H, wx_at H]
  simp only [← EReal.coe_mul, ← coe_sum, Inp.Data.dgain, mul_comm]

end Cert.Proof.InRef

end
-- ==== Proof.InKer.lean ====
/-
  The input projection's backward kernel, element by element: the blocks of a grid point, the accumulator's step, and the
  two results' stores, for arguments that are real numbers.
-/
module

public import proofs.«01_k».proof.Proof.InSpec
public import proofs.«01_k».proof.Proof.Gen.InKernelIdeal.Value
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.Proof.InKer

open Cert.InKernelIdeal Cert.InKernelIdeal.Gen Idealize.ShloMosaic Idealize.ShloMosaic.TcCoe Idealize.SL.Sem Cert.Proof.Inp
open Cert.Proof.Grad hiding Data
open scoped BigOperators

/-- The five argument arrays hold the real numbers of `D`. -/
structure Holds (a0 a4 : FVec Ideal S1x4096x1024 .f32) (a1 : FVec Ideal S1x1024 .f32) (a2 : FVec Ideal S1024x9728 .f32)
    (a3 : FVec Ideal S4096x9728 .f32) (D : Data) : Prop where
  h0 : ∀ t k, a0 (ix3 0 t k) = (D.x t k : EReal)
  h1 : ∀ k, a1 (ix2 0 k) = (D.g k : EReal)
  h2 : ∀ k n, a2 (ix2 k n) = (D.w k n : EReal)
  h3 : ∀ t n, a3 (ix2 t n) = (D.dp t n : EReal)
  h4 : ∀ t k, a4 (ix3 0 t k) = (D.dy t k : EReal)

variable (m : (ℓ : Loc nD τ sig) → Buf (Elt Ideal) ℓ) (c : Dev nD) (D : Data)

/-- Device `c`'s memory holds the real numbers of `D` in the argument arrays. -/
def HoldsAt : Prop :=
  Holds (m ((c : Thread nD τ).loc main_arg0)) (m ((c : Thread nD τ).loc main_arg4)) (m ((c : Thread nD τ).loc main_arg1))
    (m ((c : Thread nD τ).loc main_arg2)) (m ((c : Thread nD τ).loc main_arg3)) D

/-! ### The payloads, for blocks that are reals -/

section Pay
variable {D} {row : Fin 1024 → Fin 4096} {vx vdh vy : Vec Ideal S1024x1024 .f32} {vgain acc : Vec Ideal S1x1024 .f32}

theorem fill_at (r k : Fin 1024) : k0_pay1 (F := Ideal) (ix2 r k) = 0 := by pointwise [k0_pay1]

theorem fill_gain_at (k : Fin 1024) : k0_pay2 (F := Ideal) (ix2 0 k) = 0 := by pointwise [k0_pay2]

/-- The accumulator's step: what it held and one slice's product. -/
theorem step_at {s : Fin 4} {v : Vec Ideal S1024x1024 .f32} {vp vw : Vec Ideal S1024x2432 .bf16} {a : ℝ} (r k : Fin 1024)
    (hv : v (ix2 r k) = (a : EReal)) (hp : ∀ r j, vp (ix2 r j) = (D.dp (row r) (slc s j) : EReal))
    (hw : ∀ k j, vw (ix2 k j) = (D.w k (slc s j) : EReal)) :
    k0_pay3 v vp vw (ix2 r k) = ((a + ∑ j, D.dp (row r) (slc s j) * D.w k (slc s j) : ℝ) : EReal) := by
  pointwise [k0_pay3, hv, hp, hw]
  simp only [← EReal.coe_mul, ← coe_sum, ← EReal.coe_add]

theorem rs_at (hx : ∀ r k, vx (ix2 r k) = (D.x (row r) k : EReal)) (r : Fin 1024) :
    k0_pay6 vx (ix2 r 0) = (rs (D.x (row r)) : EReal) := by
  pointwise [k0_pay6, k0_pay5, hx]
  simp only [ofBits_eps, ofBits_width, ← EReal.coe_mul, ← coe_sum, div_coe_coe _ (by norm_num : (1024 : ℝ) ≠ 0), ← EReal.coe_add]
  exact rsqrt_of_pos (ms_pos (D.x (row r)))

theorem xh_at (hx : ∀ r k, vx (ix2 r k) = (D.x (row r) k : EReal)) (r k : Fin 1024) :
    k0_pay7 vx (ix2 r k) = ((D.x (row r) k * rs (D.x (row r)) : ℝ) : EReal) := by
  pointwise [k0_pay7, k0_pay5, hx, rs_at hx]
  simp only [← EReal.coe_mul]

/-- The block's part of the gain's gradient, added to what the buffer held. -/
theorem gain_at (hx : ∀ r k, vx (ix2 r k) = (D.x (row r) k : EReal)) (hh : ∀ r k, vdh (ix2 r k) = (D.dh (row r) k : EReal))
    (k : Fin 1024) :
    k0_pay8 vx vdh acc (ix2 0 k) = acc (ix2 0 k) + ((∑ r, D.dh (row r) k * (D.x (row r) k * rs (D.x (row r))) : ℝ) : EReal) := by
  pointwise [k0_pay8, xh_at hx, hh]
  simp only [← EReal.coe_mul, ← coe_sum]

theorem dx_at (hx : ∀ r k, vx (ix2 r k) = (D.x (row r) k : EReal)) (hh : ∀ r k, vdh (ix2 r k) = (D.dh (row r) k : EReal))
    (hg : ∀ k, vgain (ix2 0 k) = (D.g k : EReal)) (hy : ∀ r k, vy (ix2 r k) = (D.dy (row r) k : EReal)) (r k : Fin 1024) :
    k0_pay9 vx vdh vgain vy (ix2 r k) = (D.dx (row r) k : EReal) := by
  pointwise [k0_pay9, xh_at hx, rs_at hx, hh, hg, hy]
  simp only [ofBits_width, ← EReal.coe_mul, ← coe_sum, div_coe_coe _ (by norm_num : (1024 : ℝ) ≠ 0), ← EReal.coe_sub, ← EReal.coe_add,
    Inp.Data.dx, dnorm]

end Pay

/-! ### What the host code hands the kernel -/

variable {m c D} (H : HoldsAt m c D)
include H

theorem dp_at (t : Fin 4096) (n : Fin 9728) :
    (show FVec Ideal S4096x9728 .bf16 from V m c main_v0) (ix2 t n) = (D.dp t n : EReal) := by
  entry_read
  pointwise [H.h3]

theorem w_at (k : Fin 1024) (n : Fin 9728) :
    (show FVec Ideal S1024x9728 .bf16 from V m c main_v1) (ix2 k n) = (D.w k n : EReal) := by
  entry_read
  pointwise [H.h2]

theorem x_at (t : Fin 4096) (k : Fin 1024) :
    (show FVec Ideal S4096x1024 .f32 from V m c main_v2) (ix2 t k) = (D.x t k : EReal) := by
  entry_read
  pointwise [H.h0]

theorem dy_at (t : Fin 4096) (k : Fin 1024) :
    (show FVec Ideal S4096x1024 .f32 from V m c main_v3) (ix2 t k) = (D.dy t k : EReal) := by
  entry_read
  pointwise [H.h4]

omit H in
/-- Every window's block at every grid point: row block `t / 4`, slice `t % 4`. -/
theorem idx_val : ∀ t : Fin cfg0.N, win0_0.index t = ![t.val / 4, t.val % 4]
    ∧ win0_1.index t = ![0, t.val % 4]
    ∧ win0_2.index t = ![t.val / 4, 0]
    ∧ win0_3.index t = ![0, 0]
    ∧ win0_4.index t = ![t.val / 4, 0]
    ∧ win0_5.index t = ![0, t.val / 4, 0]
    ∧ win0_6.index t = ![0, 0] :=
  (by decide +kernel : ∀ t : Fin grid0.N, _)

omit H in
/-- Row `r` of row block `i` among the 4096. -/
def rw4 (i : Fin 4) (r : Fin 1024) : Fin 4096 := ⟨i.val * 1024 + r.val, by have := i.isLt; have := r.isLt; omega⟩

omit H in
/-- The row block of grid point `t`. -/
def ti (t : Fin cfg0.N) : Fin 4 := ⟨t.val / 4, by have h : t.val < 16 := lt_of_lt_of_eq t.isLt N_0; omega⟩

omit H in
/-- The slice of grid point `t`. -/
def ts (t : Fin cfg0.N) : Fin 4 := ⟨t.val % 4, by omega⟩

variable (t : Fin cfg0.N)

theorem blk0_at (r : Fin 1024) (j : Fin 2432) :
    (show FVec Ideal S1024x2432 .bf16 from iblk m c 0 t) (ix2 r j) = (D.dp (rw4 (ti t) r) (slc (ts t) j) : EReal) := by
  refine Eq.trans ?_ (dp_at H (rw4 (ti t) r) (slc (ts t) j))
  blk_ext [iblk, idx_val t, rw4, ti, slc, ts]

theorem blk1_at (k : Fin 1024) (j : Fin 2432) :
    (show FVec Ideal S1024x2432 .bf16 from iblk m c 1 t) (ix2 k j) = (D.w k (slc (ts t) j) : EReal) := by
  refine Eq.trans ?_ (w_at H k (slc (ts t) j))
  blk_ext [iblk, idx_val t, slc, ts]

theorem blk2_at (r k : Fin 1024) :
    (show FVec Ideal S1024x1024 .f32 from iblk m c 2 t) (ix2 r k) = (D.x (rw4 (ti t) r) k : EReal) := by
  refine Eq.trans ?_ (x_at H (rw4 (ti t) r) k)
  blk_ext [iblk, idx_val t, rw4, ti]

theorem blk3_at (k : Fin 1024) :
    (show FVec Ideal S1x1024 .f32 from iblk m c 3 t) (ix2 0 k) = (D.g k : EReal) := by
  refine Eq.trans ?_ (H.h1 k)
  blk_ext [iblk, V, idx_val t]

theorem blk4_at (r k : Fin 1024) :
    (show FVec Ideal S1024x1024 .f32 from iblk m c 4 t) (ix2 r k) = (D.dy (rw4 (ti t) r) k : EReal) := by
  refine Eq.trans ?_ (dy_at H (rw4 (ti t) r) k)
  blk_ext [iblk, idx_val t, rw4, ti]

end Cert.Proof.InKer

end
-- ==== Proof.InFinal.lean ====
/-
  The input projection's backward kernel after its run: the accumulator slice by slice, the gain's gradient row block by
  row block, and the two result arrays, for arguments that are real numbers.
-/
module

public import proofs.«01_k».proof.Proof.InKer

@[expose] public section

set_option maxRecDepth 16384

noncomputable section

namespace Cert.Proof.InKer

open Cert.InKernelIdeal Cert.InKernelIdeal.Gen Idealize.ShloMosaic Idealize.ShloMosaic.TcCoe Idealize.SL.Sem Cert.Proof.Inp
open Cert.Proof.Grad hiding Data
open scoped BigOperators

/-! ### The running sums -/

section Sums
variable (D : Data)

/-- Slice `n`'s product at one element, slices beyond the fourth nothing. -/
def prod (n : ℕ) (t : Fin 4096) (k : Fin 1024) : ℝ :=
  if h : n < 4 then ∑ j, D.dp t (slc ⟨n, h⟩ j) * D.w k (slc ⟨n, h⟩ j) else 0

/-- The first `n` slices' products. -/
def psum (n : ℕ) (t : Fin 4096) (k : Fin 1024) : ℝ := ∑ s ∈ Finset.range n, prod D s t k

/-- Row block `i`'s part of the gain's gradient, blocks beyond the fourth nothing. -/
def part (i : ℕ) (k : Fin 1024) : ℝ :=
  if h : i < 4 then ∑ r, D.dh (rw4 ⟨i, h⟩ r) k * (D.x (rw4 ⟨i, h⟩ r) k * rs (D.x (rw4 ⟨i, h⟩ r))) else 0

/-- The first `n` row blocks' parts. -/
def gsum (n : ℕ) (k : Fin 1024) : ℝ := ∑ i ∈ Finset.range n, part D i k

theorem psum_four (t : Fin 4096) (k : Fin 1024) : psum D 4 t k = D.dh t k := by
  rw [psum, Finset.sum_range, Inp.Data.dh, sum_slc]
  exact Finset.sum_congr rfl fun s _ => by rw [prod, dif_pos s.isLt]

theorem gsum_four (k : Fin 1024) : gsum D 4 k = D.dgain k := by
  rw [gsum, Finset.sum_range, Inp.Data.dgain, Fin.sum_univ_tiles 4 1024 rfl]
  exact Finset.sum_congr rfl fun s _ => by rw [part, dif_pos s.isLt]; rfl

variable {D}

theorem psum_step (t : Fin cfg0.N) (r : Fin 4096) (k : Fin 1024) :
    psum D (t.val % 4) r k + ∑ j, D.dp r (slc (ts t) j) * D.w k (slc (ts t) j) = psum D (t.val % 4 + 1) r k := by
  rw [psum, psum, Finset.sum_range_succ, prod, dif_pos (Nat.mod_lt _ (by norm_num))]
  rfl

theorem gsum_step (t : Fin cfg0.N) (k : Fin 1024) :
    gsum D (t.val / 4) k + ∑ r, D.dh (rw4 (ti t) r) k * (D.x (rw4 (ti t) r) k * rs (D.x (rw4 (ti t) r))) = gsum D (t.val / 4 + 1) k := by
  have h : t.val < 16 := lt_of_lt_of_eq t.isLt N_0
  rw [gsum, gsum, Finset.sum_range_succ, part, dif_pos (by omega)]
  rfl

end Sums

variable {m : (ℓ : Loc nD τ sig) → Buf (Elt Ideal) ℓ} {c : Dev nD} {D : Data} (H : HoldsAt m c D)
include H

/-! ### The accumulator -/

set_option maxHeartbeats 1600000 in
theorem acc_first (t : Fin cfg0.N) (h0 : t.val % 4 = 0) (r k : Fin 1024) :
    (outsAt0 m c t.val t.isLt).2.2 (ix2 r k) = (psum D (t.val % 4 + 1) (rw4 (ti t) r) k : EReal) := by
  have e : (0 : ℝ) = psum D (t.val % 4) (rw4 (ti t) r) k := by rw [h0]; rfl
  rw [← psum_step, ← e]
  by_cases h1 : t.val % 16 = 0
  · rw [outsAt0_A m c t h0 h1 (by omega)]; frame_out
    exact step_at (row := rw4 (ti t)) r k ((fill_at r k).trans EReal.coe_zero.symm) (blk0_at H t) (blk1_at H t)
  · rw [outsAt0_D m c t h0 h1 (by omega)]; frame_out
    exact step_at (row := rw4 (ti t)) r k ((fill_at r k).trans EReal.coe_zero.symm) (blk0_at H t) (blk1_at H t)

set_option maxHeartbeats 1600000 in
theorem acc_next (t : Fin cfg0.N) (h0 : ¬t.val % 4 = 0) (r k : Fin 1024)
    (hp : (outsAt0 m c (t.val - 1) (Nat.lt_of_le_of_lt (Nat.sub_le _ _) t.isLt)).2.2 (ix2 r k)
      = (psum D (t.val % 4) (rw4 (ti t) r) k : EReal)) :
    (outsAt0 m c t.val t.isLt).2.2 (ix2 r k) = (psum D (t.val % 4 + 1) (rw4 (ti t) r) k : EReal) := by
  rw [← psum_step]
  by_cases h2 : t.val % 4 = 3
  · rw [outsAt0_C m c t h0 (by omega) h2]; frame_out
    simp only [read_unread_whole]
    exact step_at (row := rw4 (ti t)) r k hp (blk0_at H t) (blk1_at H t)
  · rw [outsAt0_B m c t h0 (by omega) h2]; frame_out
    simp only [read_unread_whole]
    exact step_at (row := rw4 (ti t)) r k hp (blk0_at H t) (blk1_at H t)

/-- After grid point `n` the accumulator holds the sum of the slices walked since its row block began. -/
theorem acc_all : ∀ (n : ℕ) (hn : n < cfg0.N) (r k : Fin 1024),
    (outsAt0 m c n hn).2.2 (ix2 r k) = (psum D (n % 4 + 1) (rw4 (ti ⟨n, hn⟩) r) k : EReal) := by
  intro n
  induction n with
  | zero => exact fun hn r k => acc_first H ⟨0, hn⟩ rfl r k
  | succ n ih =>
    intro hn r k
    by_cases h0 : (n + 1) % 4 = 0
    · exact acc_first H ⟨n + 1, hn⟩ h0 r k
    · refine acc_next H ⟨n + 1, hn⟩ h0 r k ((ih (Nat.lt_of_succ_lt hn) r k).trans ?_)
      have e1 : n % 4 + 1 = (n + 1) % 4 := by omega
      have e2 : ti ⟨n, Nat.lt_of_succ_lt hn⟩ = ti ⟨n + 1, hn⟩ := Fin.ext (by show n / 4 = (n + 1) / 4; omega)
      rw [e1, e2]

/-! ### The gain's gradient -/

/-- The accumulator a row block's last point ends with: the normalised input's gradient. -/
theorem acc_last (t : Fin cfg0.N) (h0 : ¬t.val % 4 = 0) (h2 : t.val % 4 = 3) (r k : Fin 1024) :
    k0_pay3 (outsAt0 m c (t.val - 1) (Nat.lt_of_le_of_lt (Nat.sub_le _ _) t.isLt)).2.2 (iblk m c 0 t) (iblk m c 1 t) (ix2 r k)
      = (D.dh (rw4 (ti t) r) k : EReal) := by
  have hp := acc_all H (t.val - 1) (Nat.lt_of_le_of_lt (Nat.sub_le _ _) t.isLt) r k
  have e1 : (t.val - 1) % 4 + 1 = t.val % 4 := by omega
  have e2 : ti ⟨t.val - 1, Nat.lt_of_le_of_lt (Nat.sub_le _ _) t.isLt⟩ = ti t := Fin.ext (by show (t.val - 1) / 4 = t.val / 4; omega)
  rw [e1, e2] at hp
  refine (step_at (row := rw4 (ti t)) r k hp (blk0_at H t) (blk1_at H t)).trans ?_
  rw [psum_step, h2, psum_four]

set_option maxHeartbeats 1600000 in
theorem gain_first (t : Fin cfg0.N) (h1 : t.val % 16 = 0) (k : Fin 1024) :
    (outsAt0 m c t.val t.isLt).2.1 (ix2 0 k) = 0 := by
  rw [outsAt0_A m c t (by omega) h1 (by omega)]; frame_out
  exact fill_gain_at k

set_option maxHeartbeats 1600000 in
theorem gain_kept (t : Fin cfg0.N) (h1 : ¬t.val % 16 = 0) (h2 : ¬t.val % 4 = 3) (k : Fin 1024) :
    (outsAt0 m c t.val t.isLt).2.1 (ix2 0 k)
      = (outsAt0 m c (t.val - 1) (Nat.lt_of_le_of_lt (Nat.sub_le _ _) t.isLt)).2.1 (ix2 0 k) := by
  by_cases h0 : t.val % 4 = 0
  · rw [outsAt0_D m c t h0 h1 h2]; rfl
  · rw [outsAt0_B m c t h0 h1 h2]; rfl

set_option maxHeartbeats 1600000 in
theorem gain_added (t : Fin cfg0.N) (h0 : ¬t.val % 4 = 0) (h2 : t.val % 4 = 3) (k : Fin 1024) :
    (outsAt0 m c t.val t.isLt).2.1 (ix2 0 k)
      = (outsAt0 m c (t.val - 1) (Nat.lt_of_le_of_lt (Nat.sub_le _ _) t.isLt)).2.1 (ix2 0 k)
        + ((∑ r, D.dh (rw4 (ti t) r) k * (D.x (rw4 (ti t) r) k * rs (D.x (rw4 (ti t) r))) : ℝ) : EReal) := by
  rw [outsAt0_C m c t h0 (by omega) h2]; frame_out
  simp only [read_unread_whole]
  exact gain_at (row := rw4 (ti t)) (blk2_at H t) (acc_last H t h0 h2) k

/-- After grid point `n` the gain's gradient holds the parts of the row blocks finished. -/
theorem gain_all : ∀ (n : ℕ) (hn : n < cfg0.N) (k : Fin 1024),
    (outsAt0 m c n hn).2.1 (ix2 0 k) = (gsum D ((n + 1) / 4) k : EReal) := by
  intro n
  induction n with
  | zero => exact fun hn k => (gain_first H ⟨0, hn⟩ rfl k).trans (by rw [← EReal.coe_zero]; rfl)
  | succ n ih =>
    intro hn k
    have hN : n + 1 < 16 := lt_of_lt_of_eq hn N_0
    have hi := ih (Nat.lt_of_succ_lt hn) k
    by_cases h2 : (n + 1) % 4 = 3
    · refine (gain_added H ⟨n + 1, hn⟩ (by show ¬(n + 1) % 4 = 0; omega) h2 k).trans ?_
      have e : (outsAt0 m c ((⟨n + 1, hn⟩ : Fin cfg0.N).val - 1) (Nat.lt_of_le_of_lt (Nat.sub_le _ _) (⟨n + 1, hn⟩ : Fin cfg0.N).isLt)).2.1 (ix2 0 k)
          = (gsum D ((n + 1) / 4) k : EReal) := hi
      rw [e, ← EReal.coe_add, gsum_step ⟨n + 1, hn⟩ k]
      have e3 : (n + 1) / 4 + 1 = (n + 1 + 1) / 4 := by omega
      show (gsum D ((n + 1) / 4 + 1) k : EReal) = _
      rw [e3]
    · refine (gain_kept H ⟨n + 1, hn⟩ (by show ¬(n + 1) % 16 = 0; omega) h2 k).trans (Eq.trans hi ?_)
      have e3 : (n + 1) / 4 = (n + 1 + 1) / 4 := by omega
      rw [e3]

/-! ### The two result arrays -/

omit H in
variable (D) in
def outDx : S1x4096x1024.Idx → EReal := fun i => (D.dx (i 1) (i 2) : EReal)

omit H in
variable (D) in
def outDgain : S1x1024.Idx → EReal := fun i => (D.dgain (i 1) : EReal)

set_option maxHeartbeats 1600000 in
theorem point5 (t : Fin cfg0.N) (h2 : t.val % 4 = 3) (y : S1x1024x1024.Idx) :
    (outsAt0 m c t.val t.isLt).1 y = outDx D ((win0_5.blk t).view.emb y) := by
  have e : (win0_5.blk t).view.emb y = ix3 0 (rw4 (ti t) (y 1)) (y 2) := by
    idx_vars y
    obtain rfl : y0 = 0 := Subsingleton.elim _ _
    blk_ext [idx_val t, rw4, ti]
  rw [e]
  have h0 : ¬t.val % 4 = 0 := by omega
  rw [outsAt0_C m c t h0 (by omega) h2]; frame_out
  simp only [read_unread_whole]
  idx_vars y
  obtain rfl : y0 = 0 := Subsingleton.elim _ _
  pointwise [k0_pay4]
  exact dx_at (row := rw4 (ti t)) (blk2_at H t) (acc_last H t h0 h2) (blk3_at H t) (blk4_at H t) y1 y2

theorem final5 : (dats m 0 c).arrAt 5 (cfgs 0).N = outDx D := by
  refine (dats m 0 c).arrAt_eq_of_covers 5 _ (by decide +kernel) fun t hf y => ?_
  blk_simp
  rw [after0_5]
  exact point5 H t ((flush0_5 t).mp hf) y

theorem final6 : (dats m 0 c).arrAt 6 (cfgs 0).N = outDgain D := by
  refine (dats m 0 c).arrAt_eq_of_after_last 6 t0_15 (by decide +kernel) _ fun j => ?_
  blk_simp
  rw [after0_6]
  idx_vars j
  obtain rfl : j0 = 0 := Subsingleton.elim _ _
  refine (gain_all H 15 _ j1).trans ?_
  rw [show (15 + 1) / 4 = 4 from rfl, gsum_four]
  rfl

end Cert.Proof.InKer

end
-- ==== Proof.InValue.lean ====
/-
  The input projection's claims: the three programs' runs with their counters at zero, the precondition read, and the
  kernel's two results beside the reference's, both the same formulas over the reals the arguments hold.
-/
module

public import proofs.«01_k».proof.Proof.Finite
public import proofs.«01_k».proof.Proof.InRef
public import proofs.«01_k».proof.Proof.InFinal
public import proofs.«01_k».proof.Proof.Gen.InKernel.Frame

@[expose] public section

set_option maxRecDepth 16384

noncomputable section

namespace Cert.Proof.Inp

open Idealize.ShloMosaic Idealize.SL.Sem

instance facts : Cert.Pre_in_finite.Facts where
  bcast_S_S1x4096x1024 := by decide
  bcast_S_S1x1024 := by decide
  bcast_S_S1024x9728 := by decide
  bcast_S_S4096x9728 := by decide

theorem frame_kernel : Cert.quiescent_InKernel (hInKernel := Cert.InKernel.Gen.facts) := fun m g _ => Cert.InKernel.Gen.frame m g

theorem frame_kernelIdeal : Cert.quiescent_InKernelIdeal (hInKernelIdeal := Cert.InKernelIdeal.Gen.facts) :=
  fun m g _ => Cert.InKernelIdeal.Gen.frame m g

theorem frame_kernelIdeal_finite : Cert.quiescent_InKernelIdeal_pre_in_finite (hInKernelIdeal := Cert.InKernelIdeal.Gen.facts)
    (hPre_in_finite := facts) :=
  fun m g _ => Cert.InKernelIdeal.Gen.frame m g

theorem frame_referenceIdeal : Cert.quiescent_InReferenceIdeal (hInReferenceIdeal := Cert.InReferenceIdeal.Gen.facts) := by
  intro m g _
  exact (θ_run Cert.InReferenceIdeal.defs _ _).mono
    (fun r h => ⟨fun c => (h c).2.2, Idealize.ShloMosaic.sem_eq_zero_of_no_sems (by decide) r.2⟩)
    (Cert.InReferenceIdeal.Value.run m g)

theorem frame_referenceIdeal_finite : Cert.quiescent_InReferenceIdeal_pre_in_finite
    (hInReferenceIdeal := Cert.InReferenceIdeal.Gen.facts) (hPre_in_finite := facts) :=
  fun m g _ => frame_referenceIdeal m g trivial

section reference

open Cert.InReferenceIdeal

variable {a0 a4 : FVec Ideal S1x4096x1024 .f32} {a1 : FVec Ideal S1x1024 .f32} {a2 : FVec Ideal S1024x9728 .f32}
  {a3 : FVec Ideal S4096x9728 .f32} {D : Data} (H : InRef.Holds a0 a4 a1 a2 a3 D)
include H

theorem ref_dx : InRef.wdx a0 a4 a1 a2 a3 = InKer.outDx D := by
  funext i
  idx_vars i
  obtain rfl : i0 = 0 := Subsingleton.elim _ _
  exact InRef.wdx_at H i1 i2

theorem ref_dgain : InRef.wdgain a0 a2 a3 = InKer.outDgain D := by
  funext i
  idx_vars i
  obtain rfl : i0 = 0 := Subsingleton.elim _ _
  exact InRef.wdgain_at H i1

end reference

section lift

open Cert.InKernelIdeal

variable (m : (ℓ : Loc nD τ sig) → Buf (Elt Ideal) ℓ) (c : Dev nD)

/-- The reals five arrays hold. -/
def data (a0 a4 : FVec Ideal S1x4096x1024 .f32) (a1 : FVec Ideal S1x1024 .f32) (a2 : FVec Ideal S1024x9728 .f32)
    (a3 : FVec Ideal S4096x9728 .f32) : Data where
  x t k := (a0 (ix3 0 t k) : EReal).toReal
  g k := (a1 (ix2 0 k) : EReal).toReal
  w k n := (a2 (ix2 k n) : EReal).toReal
  dp t n := (a3 (ix2 t n) : EReal).toReal
  dy t k := (a4 (ix3 0 t k) : EReal).toReal

/-- The reals device `c`'s arguments hold. -/
def reals : Data :=
  data (m ((c.tc : Thread nD τ).loc main_arg0)) (m ((c.tc : Thread nD τ).loc main_arg4)) (m ((c.tc : Thread nD τ).loc main_arg1))
    (m ((c.tc : Thread nD τ).loc main_arg2)) (m ((c.tc : Thread nD τ).loc main_arg3))

variable {m} in
theorem holds_kernel (hpre : Cert.Pre_InKernelIdeal_in_finite (hPre_in_finite := facts) m) : InKer.HoldsAt m c (reals m c) := by
  obtain ⟨h0, h1, h2, h3, h4⟩ := hpre c
  exact ⟨fun t k => Fin.real_of_ones _ _ h0 _, fun k => Fin.real_of_ones _ _ h1 _, fun k n => Fin.real_of_ones _ _ h2 _,
    fun t n => Fin.real_of_ones _ _ h3 _, fun t k => Fin.real_of_ones _ _ h4 _⟩

end lift

open Cert.InReferenceIdeal in
theorem holds_reference {m : (ℓ : Loc Cert.InKernelIdeal.nD Cert.InKernelIdeal.τ Cert.InKernelIdeal.sig) → Buf (Elt Ideal) ℓ}
    (m' : (ℓ : Loc nD τ sig) → Buf (Elt Ideal) ℓ) (c : Dev nD) (hK : InKer.HoldsAt m c (reals m c))
    (e0 : m' ((c.tc : Thread nD τ).loc main_arg0) = m ((c.tc : Thread Cert.InKernelIdeal.nD Cert.InKernelIdeal.τ).loc Cert.InKernelIdeal.main_arg0))
    (e1 : m' ((c.tc : Thread nD τ).loc main_arg1) = m ((c.tc : Thread Cert.InKernelIdeal.nD Cert.InKernelIdeal.τ).loc Cert.InKernelIdeal.main_arg1))
    (e2 : m' ((c.tc : Thread nD τ).loc main_arg2) = m ((c.tc : Thread Cert.InKernelIdeal.nD Cert.InKernelIdeal.τ).loc Cert.InKernelIdeal.main_arg2))
    (e3 : m' ((c.tc : Thread nD τ).loc main_arg3) = m ((c.tc : Thread Cert.InKernelIdeal.nD Cert.InKernelIdeal.τ).loc Cert.InKernelIdeal.main_arg3))
    (e4 : m' ((c.tc : Thread nD τ).loc main_arg4) = m ((c.tc : Thread Cert.InKernelIdeal.nD Cert.InKernelIdeal.τ).loc Cert.InKernelIdeal.main_arg4)) :
    InRef.Holds (m' ((c.tc : Thread nD τ).loc main_arg0)) (m' ((c.tc : Thread nD τ).loc main_arg4)) (m' ((c.tc : Thread nD τ).loc main_arg1))
      (m' ((c.tc : Thread nD τ).loc main_arg2)) (m' ((c.tc : Thread nD τ).loc main_arg3)) (reals m c) := by
  obtain ⟨h0, h1, h2, h3, h4⟩ := hK
  exact ⟨fun t k => (congrFun e0 _).trans (h0 t k), fun k => (congrFun e1 _).trans (h1 k), fun k n => (congrFun e2 _).trans (h2 k n),
    fun t n => (congrFun e3 _).trans (h3 t n), fun t k => (congrFun e4 _).trans (h4 t k)⟩

set_option maxHeartbeats 4000000 in
theorem algebraic : Cert.algebraic_InKernelIdeal_InReferenceIdeal_pre_in_finite (hInKernelIdeal := Cert.InKernelIdeal.Gen.facts)
    (hInReferenceIdeal := Cert.InReferenceIdeal.Gen.facts) (hPre_in_finite := facts) := fun m g m' g' hpre hagree =>
  ⟨fun c => InKer.outDx (reals m c), fun c => InKer.outDgain (reals m c),
    (θ_run Cert.InKernelIdeal.defs _ _).mono
      (fun r h c => ⟨(h c).1.trans (InKer.final5 (holds_kernel c hpre)), (h c).2.1.trans (InKer.final6 (holds_kernel c hpre)), (h c).2.2⟩)
      (Cert.InKernelIdeal.Value.run_blocks m g),
    (θ_run Cert.InReferenceIdeal.defs _ _).mono
      (fun r h c => by
        have hR := holds_reference m' c (holds_kernel c hpre) (hagree c).1 (hagree c).2.1 (hagree c).2.2.1 (hagree c).2.2.2.1 (hagree c).2.2.2.2
        exact ⟨(h c).1.trans (ref_dx hR), (h c).2.1.trans (ref_dgain hR), (h c).2.2⟩)
      (Cert.InReferenceIdeal.Value.run m' g')⟩

end Cert.Proof.Inp

end
-- ==== Proof.WgValue.lean ====
/-
  The down projection's weight gradient: the kernel's four shards, one a grid point, are the reference's matrix cut in
  four. Each element is on both sides the same sum over the tokens, so nothing is assumed of the arguments.
-/
module

public import proofs.«01_k».proof.Defs
public import proofs.«01_k».proof.Proof.Gen.WgKernel.Frame
public import proofs.«01_k».proof.Proof.Gen.WgKernelIdeal.Value
public import proofs.«01_k».proof.Proof.Gen.WgReferenceIdeal.Run
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.Proof.Wg

open Idealize.ShloMosaic Idealize.ShloMosaic.TcCoe Idealize.SL.Sem
open scoped BigOperators

section kernel

open Cert.WgKernelIdeal Cert.WgKernelIdeal.Gen

/-- Column `j` of shard `s` among the 2816. -/
def col (s : Fin 4) (j : Fin 704) : Fin 2816 := ⟨s.val * 704 + j.val, by have := s.isLt; have := j.isLt; omega⟩

/-- The four shards of the weight's gradient, from the activation and the output's gradient. -/
def outW (a0 : FVec Ideal S4096x2816 .f32) (a1 : FVec Ideal S4096x1024 .f32) : S4x704x1024.Idx → EReal :=
  fun i => ∑ r : Fin 4096, a0 (ix2 r (col (i 0) (i 1))) * a1 (ix2 r (i 2))

variable (m : (ℓ : Loc nD τ sig) → Buf (Elt Ideal) ℓ) (c : Dev nD)

/-- The activation and the output's gradient, as device `c` is given them. -/
abbrev A0 : FVec Ideal S4096x2816 .f32 := m ((c : Thread nD τ).loc main_arg0)
abbrev A1 : FVec Ideal S4096x1024 .f32 := m ((c : Thread nD τ).loc main_arg1)

theorem act_at (s : Fin 4) (r : Fin 4096) (j : Fin 704) :
    (show FVec Ideal S4x4096x704 .bf16 from V m c main_v2) (ix3 s r j) = A0 m c (ix2 r (col s j)) := by
  entry_read
  pointwise [col]

theorem dout_at (r : Fin 4096) (k : Fin 1024) :
    (show FVec Ideal S4096x1024 .bf16 from V m c main_v3) (ix2 r k) = A1 m c (ix2 r k) := by
  entry_read
  pointwise

theorem idx_val : ∀ t : Fin cfg0.N, win0_0.index t = ![t.val, 0, 0] ∧ win0_1.index t = ![0, 0] ∧ win0_2.index t = ![t.val, 0, 0] :=
  (by decide +kernel : ∀ t : Fin grid0.N, _)

variable (t : Fin cfg0.N)

/-- The shard of grid point `t`. -/
def shard : Fin 4 := ⟨t.val, lt_of_lt_of_eq t.isLt N_0⟩

theorem blk0_at (r : Fin 4096) (j : Fin 704) :
    (show FVec Ideal S1x4096x704 .bf16 from iblk m c 0 t) (ix3 0 r j) = A0 m c (ix2 r (col (shard t) j)) := by
  refine Eq.trans ?_ (act_at m c (shard t) r j)
  blk_ext [iblk, idx_val t, shard]

theorem blk1_at (r : Fin 4096) (k : Fin 1024) :
    (show FVec Ideal S4096x1024 .bf16 from iblk m c 1 t) (ix2 r k) = A1 m c (ix2 r k) := by
  refine Eq.trans ?_ (dout_at m c r k)
  blk_ext [iblk, idx_val t]

theorem point (y : S1x704x1024.Idx) : outsAt0 m c t y = outW (A0 m c) (A1 m c) ((win0_2.blk t).view.emb y) := by
  have e : (win0_2.blk t).view.emb y = ix3 (shard t) (y 1) (y 2) := by
    idx_vars y
    blk_ext [idx_val t, shard]
  rw [e]
  unfold outsAt0
  frame_out
  idx_vars y
  obtain rfl : y0 = 0 := Subsingleton.elim _ _
  pointwise [k0_pay2, k0_pay1, blk0_at m c t, blk1_at m c t, outW]

theorem final2 : (dats m 0 c).arrAt 2 (cfgs 0).N = outW (A0 m c) (A1 m c) := by
  refine (dats m 0 c).arrAt_eq_of_covers 2 _ (by decide +kernel) fun t hf y => ?_
  blk_simp
  rw [after0_2]
  exact point m c t y

end kernel

section reference

open Cert.WgReferenceIdeal Cert.WgReferenceIdeal.Gen

theorem result (a0 : FVec Ideal S4096x2816 .f32) (a1 : FVec Ideal S4096x1024 .f32) :
    (shapeCast S4x704x1024 (transpose S2816x1024 [1, 0] (Host.dotGeneral (φ₁ := .f32) (φ₂ := .f32) dot_S4096x1024_S4096x2816_S1024x2816_0_0_1_1_n_n none a1 a0) transposes_S1024x2816_S2816x1024_1_0) shapeCasts_S2816x1024_S4x704x1024 : FVec Ideal S4x704x1024 .f32)
      = outW a0 a1 := by
  funext i
  idx_vars i
  pointwise [outW, col]
  simp only [mul_comm]

end reference

theorem frame_kernel : Cert.quiescent_WgKernel (hWgKernel := Cert.WgKernel.Gen.facts) := fun m g _ => Cert.WgKernel.Gen.frame m g

theorem frame_kernelIdeal : Cert.quiescent_WgKernelIdeal (hWgKernelIdeal := Cert.WgKernelIdeal.Gen.facts) :=
  fun m g _ => Cert.WgKernelIdeal.Gen.frame m g

theorem frame_referenceIdeal : Cert.quiescent_WgReferenceIdeal (hWgReferenceIdeal := Cert.WgReferenceIdeal.Gen.facts) := by
  intro m g _
  exact (θ_run Cert.WgReferenceIdeal.defs _ _).mono
    (fun r h => ⟨fun c => (h c).2, Idealize.ShloMosaic.sem_eq_zero_of_no_sems (by decide) r.2⟩)
    (Cert.WgReferenceIdeal.Value.run m g)

set_option maxHeartbeats 1600000 in
theorem algebraic : Cert.algebraic_WgKernelIdeal_WgReferenceIdeal (hWgKernelIdeal := Cert.WgKernelIdeal.Gen.facts)
    (hWgReferenceIdeal := Cert.WgReferenceIdeal.Gen.facts) := fun m g m' g' _ hagree =>
  ⟨fun c => outW (A0 m c) (A1 m c),
    (θ_run Cert.WgKernelIdeal.defs _ _).mono (fun r h c => ⟨(h c).1.trans (final2 m c), (h c).2⟩) (Cert.WgKernelIdeal.Value.run_blocks m g),
    (θ_run Cert.WgReferenceIdeal.defs _ _).mono
      (fun r h c => ⟨(h c).1.trans ((result _ _).trans (congrArg₂ outW (hagree c).1 (hagree c).2)), (h c).2⟩)
      (Cert.WgReferenceIdeal.Value.run m' g')⟩

end Cert.Proof.Wg

end
-- ==== Proof.GateValue.lean ====
/-
  The gate projection's weight gradient, kept as one row per hidden unit in four shards: each element is on both sides
  the same sum over the tokens (`Wg.outW`), so nothing is assumed of the arguments.
-/
module

public import proofs.«01_k».proof.Defs
public import proofs.«01_k».proof.Proof.Gen.GateKernel.Frame
public import proofs.«01_k».proof.Proof.Gen.GateKernelIdeal.Value
public import proofs.«01_k».proof.Proof.Gen.GateReferenceIdeal.Run
public import proofs.«01_k».proof.Proof.WgValue
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.Proof.Gate

open Idealize.ShloMosaic Idealize.ShloMosaic.TcCoe Idealize.SL.Sem
open scoped BigOperators

open Cert.Proof.Wg (col outW)

section kernel

open Cert.GateKernelIdeal Cert.GateKernelIdeal.Gen

variable (m : (ℓ : Loc nD τ sig) → Buf (Elt Ideal) ℓ) (c : Dev nD)

/-- The gradient of the hidden units and the normalised input, as device `c` is given them. -/
abbrev A0 : FVec Ideal S4096x2816 .f32 := m ((c : Thread nD τ).loc main_arg0)
abbrev A1 : FVec Ideal S4096x1024 .f32 := m ((c : Thread nD τ).loc main_arg1)

theorem hidden_at (s : Fin 4) (r : Fin 4096) (j : Fin 704) :
    (show FVec Ideal S4x4096x704 .bf16 from V m c main_v2) (ix3 s r j) = A0 m c (ix2 r (col s j)) := by
  entry_read
  pointwise [col]

theorem input_at (r : Fin 4096) (k : Fin 1024) :
    (show FVec Ideal S4096x1024 .bf16 from V m c main_v3) (ix2 r k) = A1 m c (ix2 r k) := by
  entry_read
  pointwise

theorem idx_val : ∀ t : Fin cfg0.N, win0_0.index t = ![t.val, 0, 0] ∧ win0_1.index t = ![0, 0] ∧ win0_2.index t = ![t.val, 0, 0] :=
  (by decide +kernel : ∀ t : Fin grid0.N, _)

variable (t : Fin cfg0.N)

/-- The shard of grid point `t`. -/
def shard : Fin 4 := ⟨t.val, lt_of_lt_of_eq t.isLt N_0⟩

theorem blk0_at (r : Fin 4096) (j : Fin 704) :
    (show FVec Ideal S1x4096x704 .bf16 from iblk m c 0 t) (ix3 0 r j) = A0 m c (ix2 r (col (shard t) j)) := by
  refine Eq.trans ?_ (hidden_at m c (shard t) r j)
  blk_ext [iblk, idx_val t, shard]

theorem blk1_at (r : Fin 4096) (k : Fin 1024) :
    (show FVec Ideal S4096x1024 .bf16 from iblk m c 1 t) (ix2 r k) = A1 m c (ix2 r k) := by
  refine Eq.trans ?_ (input_at m c r k)
  blk_ext [iblk, idx_val t]

theorem point (y : S1x704x1024.Idx) : outsAt0 m c t y = outW (A0 m c) (A1 m c) ((win0_2.blk t).view.emb y) := by
  have e : (win0_2.blk t).view.emb y = ix3 (shard t) (y 1) (y 2) := by
    idx_vars y
    blk_ext [idx_val t, shard]
  rw [e]
  unfold outsAt0
  frame_out
  idx_vars y
  obtain rfl : y0 = 0 := Subsingleton.elim _ _
  pointwise [k0_pay2, k0_pay1, blk0_at m c t, blk1_at m c t, outW]

theorem final2 : (dats m 0 c).arrAt 2 (cfgs 0).N = outW (A0 m c) (A1 m c) := by
  refine (dats m 0 c).arrAt_eq_of_covers 2 _ (by decide +kernel) fun t hf y => ?_
  blk_simp
  rw [after0_2]
  exact point m c t y

end kernel

section reference

open Cert.GateReferenceIdeal Cert.GateReferenceIdeal.Gen

theorem result (a0 : FVec Ideal S4096x2816 .f32) (a1 : FVec Ideal S4096x1024 .f32) :
    (shapeCast S4x704x1024 (transpose S2816x1024 [1, 0] (transpose S1024x2816 [1, 0] (Host.dotGeneral (φ₁ := .f32) (φ₂ := .f32) dot_S4096x2816_S4096x1024_S2816x1024_0_0_1_1_n_n none a0 a1) transposes_S2816x1024_S1024x2816_1_0) transposes_S1024x2816_S2816x1024_1_0) shapeCasts_S2816x1024_S4x704x1024 : FVec Ideal S4x704x1024 .f32)
      = outW a0 a1 := by
  funext i
  idx_vars i
  pointwise [outW, col]

end reference

theorem frame_kernel : Cert.quiescent_GateKernel (hGateKernel := Cert.GateKernel.Gen.facts) := fun m g _ => Cert.GateKernel.Gen.frame m g

theorem frame_kernelIdeal : Cert.quiescent_GateKernelIdeal (hGateKernelIdeal := Cert.GateKernelIdeal.Gen.facts) :=
  fun m g _ => Cert.GateKernelIdeal.Gen.frame m g

theorem frame_referenceIdeal : Cert.quiescent_GateReferenceIdeal (hGateReferenceIdeal := Cert.GateReferenceIdeal.Gen.facts) := by
  intro m g _
  exact (θ_run Cert.GateReferenceIdeal.defs _ _).mono
    (fun r h => ⟨fun c => (h c).2, Idealize.ShloMosaic.sem_eq_zero_of_no_sems (by decide) r.2⟩)
    (Cert.GateReferenceIdeal.Value.run m g)

set_option maxHeartbeats 1600000 in
theorem algebraic : Cert.algebraic_GateKernelIdeal_GateReferenceIdeal (hGateKernelIdeal := Cert.GateKernelIdeal.Gen.facts)
    (hGateReferenceIdeal := Cert.GateReferenceIdeal.Gen.facts) := fun m g m' g' _ hagree =>
  ⟨fun c => outW (A0 m c) (A1 m c),
    (θ_run Cert.GateKernelIdeal.defs _ _).mono (fun r h c => ⟨(h c).1.trans (final2 m c), (h c).2⟩) (Cert.GateKernelIdeal.Value.run_blocks m g),
    (θ_run Cert.GateReferenceIdeal.defs _ _).mono
      (fun r h c => ⟨(h c).1.trans ((result _ _).trans (congrArg₂ outW (hagree c).1 (hagree c).2)), (h c).2⟩)
      (Cert.GateReferenceIdeal.Value.run m' g')⟩

end Cert.Proof.Gate

end
-- ==== Proof.UpValue.lean ====
/-
  The up projection's weight gradient, kept as one row per hidden unit in four shards: each element is on both sides
  the same sum over the tokens (`Wg.outW`), so nothing is assumed of the arguments.
-/
module

public import proofs.«01_k».proof.Defs
public import proofs.«01_k».proof.Proof.Gen.UpKernel.Frame
public import proofs.«01_k».proof.Proof.Gen.UpKernelIdeal.Value
public import proofs.«01_k».proof.Proof.Gen.UpReferenceIdeal.Run
public import proofs.«01_k».proof.Proof.WgValue
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.Proof.Up

open Idealize.ShloMosaic Idealize.ShloMosaic.TcCoe Idealize.SL.Sem
open scoped BigOperators

open Cert.Proof.Wg (col outW)

section kernel

open Cert.UpKernelIdeal Cert.UpKernelIdeal.Gen

variable (m : (ℓ : Loc nD τ sig) → Buf (Elt Ideal) ℓ) (c : Dev nD)

/-- The gradient of the hidden units and the normalised input, as device `c` is given them. -/
abbrev A0 : FVec Ideal S4096x2816 .f32 := m ((c : Thread nD τ).loc main_arg0)
abbrev A1 : FVec Ideal S4096x1024 .f32 := m ((c : Thread nD τ).loc main_arg1)

theorem hidden_at (s : Fin 4) (r : Fin 4096) (j : Fin 704) :
    (show FVec Ideal S4x4096x704 .bf16 from V m c main_v2) (ix3 s r j) = A0 m c (ix2 r (col s j)) := by
  entry_read
  pointwise [col]

theorem input_at (r : Fin 4096) (k : Fin 1024) :
    (show FVec Ideal S4096x1024 .bf16 from V m c main_v3) (ix2 r k) = A1 m c (ix2 r k) := by
  entry_read
  pointwise

theorem idx_val : ∀ t : Fin cfg0.N, win0_0.index t = ![t.val, 0, 0] ∧ win0_1.index t = ![0, 0] ∧ win0_2.index t = ![t.val, 0, 0] :=
  (by decide +kernel : ∀ t : Fin grid0.N, _)

variable (t : Fin cfg0.N)

/-- The shard of grid point `t`. -/
def shard : Fin 4 := ⟨t.val, lt_of_lt_of_eq t.isLt N_0⟩

theorem blk0_at (r : Fin 4096) (j : Fin 704) :
    (show FVec Ideal S1x4096x704 .bf16 from iblk m c 0 t) (ix3 0 r j) = A0 m c (ix2 r (col (shard t) j)) := by
  refine Eq.trans ?_ (hidden_at m c (shard t) r j)
  blk_ext [iblk, idx_val t, shard]

theorem blk1_at (r : Fin 4096) (k : Fin 1024) :
    (show FVec Ideal S4096x1024 .bf16 from iblk m c 1 t) (ix2 r k) = A1 m c (ix2 r k) := by
  refine Eq.trans ?_ (input_at m c r k)
  blk_ext [iblk, idx_val t]

theorem point (y : S1x704x1024.Idx) : outsAt0 m c t y = outW (A0 m c) (A1 m c) ((win0_2.blk t).view.emb y) := by
  have e : (win0_2.blk t).view.emb y = ix3 (shard t) (y 1) (y 2) := by
    idx_vars y
    blk_ext [idx_val t, shard]
  rw [e]
  unfold outsAt0
  frame_out
  idx_vars y
  obtain rfl : y0 = 0 := Subsingleton.elim _ _
  pointwise [k0_pay2, k0_pay1, blk0_at m c t, blk1_at m c t, outW]

theorem final2 : (dats m 0 c).arrAt 2 (cfgs 0).N = outW (A0 m c) (A1 m c) := by
  refine (dats m 0 c).arrAt_eq_of_covers 2 _ (by decide +kernel) fun t hf y => ?_
  blk_simp
  rw [after0_2]
  exact point m c t y

end kernel

section reference

open Cert.UpReferenceIdeal Cert.UpReferenceIdeal.Gen

theorem result (a0 : FVec Ideal S4096x2816 .f32) (a1 : FVec Ideal S4096x1024 .f32) :
    (shapeCast S4x704x1024 (transpose S2816x1024 [1, 0] (transpose S1024x2816 [1, 0] (Host.dotGeneral (φ₁ := .f32) (φ₂ := .f32) dot_S4096x2816_S4096x1024_S2816x1024_0_0_1_1_n_n none a0 a1) transposes_S2816x1024_S1024x2816_1_0) transposes_S1024x2816_S2816x1024_1_0) shapeCasts_S2816x1024_S4x704x1024 : FVec Ideal S4x704x1024 .f32)
      = outW a0 a1 := by
  funext i
  idx_vars i
  pointwise [outW, col]

end reference

theorem frame_kernel : Cert.quiescent_UpKernel (hUpKernel := Cert.UpKernel.Gen.facts) := fun m g _ => Cert.UpKernel.Gen.frame m g

theorem frame_kernelIdeal : Cert.quiescent_UpKernelIdeal (hUpKernelIdeal := Cert.UpKernelIdeal.Gen.facts) :=
  fun m g _ => Cert.UpKernelIdeal.Gen.frame m g

theorem frame_referenceIdeal : Cert.quiescent_UpReferenceIdeal (hUpReferenceIdeal := Cert.UpReferenceIdeal.Gen.facts) := by
  intro m g _
  exact (θ_run Cert.UpReferenceIdeal.defs _ _).mono
    (fun r h => ⟨fun c => (h c).2, Idealize.ShloMosaic.sem_eq_zero_of_no_sems (by decide) r.2⟩)
    (Cert.UpReferenceIdeal.Value.run m g)

set_option maxHeartbeats 1600000 in
theorem algebraic : Cert.algebraic_UpKernelIdeal_UpReferenceIdeal (hUpKernelIdeal := Cert.UpKernelIdeal.Gen.facts)
    (hUpReferenceIdeal := Cert.UpReferenceIdeal.Gen.facts) := fun m g m' g' _ hagree =>
  ⟨fun c => outW (A0 m c) (A1 m c),
    (θ_run Cert.UpKernelIdeal.defs _ _).mono (fun r h c => ⟨(h c).1.trans (final2 m c), (h c).2⟩) (Cert.UpKernelIdeal.Value.run_blocks m g),
    (θ_run Cert.UpReferenceIdeal.defs _ _).mono
      (fun r h c => ⟨(h c).1.trans ((result _ _).trans (congrArg₂ outW (hagree c).1 (hagree c).2)), (h c).2⟩)
      (Cert.UpReferenceIdeal.Value.run m' g')⟩

end Cert.Proof.Up

end
-- ==== Proof.WoutValue.lean ====
/-
  The weight gradient of the output projection, one block a grid point: each element is on both sides the same sum over the tokens.
-/
module

public import proofs.«01_k».proof.Defs
public import proofs.«01_k».proof.Proof.Gen.WoutKernel.Frame
public import proofs.«01_k».proof.Proof.Gen.WoutKernelIdeal.Value
public import proofs.«01_k».proof.Proof.Gen.WoutReferenceIdeal.Run
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.Proof.Wout

open Idealize.ShloMosaic Idealize.ShloMosaic.TcCoe Idealize.SL.Sem
open scoped BigOperators

/-- The product's weight gradient: entry `(j, k)` is the sum over the tokens of the left factor's column `j` times the
    gradient's column `k`. -/
def outP {n : Nat} (a0 : (⟨2, ![4096, n]⟩ : Shape).Idx → EReal) (a1 : (⟨2, ![4096, 1024]⟩ : Shape).Idx → EReal) :
    (⟨2, ![n, 1024]⟩ : Shape).Idx → EReal :=
  fun i => ∑ r : Fin 4096, a0 (ix2 r (i 0)) * a1 (ix2 r (i 1))

section kernel

open Cert.WoutKernelIdeal Cert.WoutKernelIdeal.Gen

variable (m : (ℓ : Loc nD τ sig) → Buf (Elt Ideal) ℓ) (c : Dev nD)

/-- The product's left factor and its result's gradient, as device `c` is given them. -/
abbrev A0 : FVec Ideal S4096x1024 .f32 := m ((c : Thread nD τ).loc main_arg0)
abbrev A1 : FVec Ideal S4096x1024 .f32 := m ((c : Thread nD τ).loc main_arg1)

theorem a_at (r : Fin 4096) (j : Fin 1024) :
    (show FVec Ideal S4096x1024 .bf16 from V m c main_v0) (ix2 r j) = A0 m c (ix2 r j) := by
  entry_read
  pointwise

theorem b_at (r : Fin 4096) (k : Fin 1024) :
    (show FVec Ideal S4096x1024 .bf16 from V m c main_v1) (ix2 r k) = A1 m c (ix2 r k) := by
  entry_read
  pointwise

theorem idx_val : ∀ t : Fin cfg0.N, win0_0.index t = ![0, t.val] ∧ win0_1.index t = ![0, 0] ∧ win0_2.index t = ![t.val, 0] :=
  (by decide +kernel : ∀ t : Fin grid0.N, _)

variable (t : Fin cfg0.N)

/-- Column `j` of the left factor's block at grid point `t`. -/
def at_ (j : Fin 256) : Fin 1024 := ⟨t.val * 256 + j.val, by have := lt_of_lt_of_eq t.isLt N_0; have := j.isLt; omega⟩

theorem blk0_at (r : Fin 4096) (j : Fin 256) :
    (show FVec Ideal S4096x256 .bf16 from iblk m c 0 t) (ix2 r j) = A0 m c (ix2 r (at_ t j)) := by
  refine Eq.trans ?_ (a_at m c r (at_ t j))
  blk_ext [iblk, idx_val t, at_]

theorem blk1_at (r : Fin 4096) (k : Fin 1024) :
    (show FVec Ideal S4096x1024 .bf16 from iblk m c 1 t) (ix2 r k) = A1 m c (ix2 r k) := by
  refine Eq.trans ?_ (b_at m c r k)
  blk_ext [iblk, idx_val t, at_]

theorem point (y : S256x1024.Idx) : outsAt0 m c t y = outP (A0 m c) (A1 m c) ((win0_2.blk t).view.emb y) := by
  have e : (win0_2.blk t).view.emb y = ix2 (at_ t (y 0)) (y 1) := by
    idx_vars y
    blk_ext [idx_val t, at_]
  rw [e]
  unfold outsAt0
  frame_out
  idx_vars y
  pointwise [k0_pay2, k0_pay1, blk0_at m c t, blk1_at m c t, outP]

theorem final2 : (dats m 0 c).arrAt 2 (cfgs 0).N = outP (A0 m c) (A1 m c) := by
  refine (dats m 0 c).arrAt_eq_of_covers 2 _ (by decide +kernel) fun t hf y => ?_
  blk_simp
  rw [after0_2]
  exact point m c t y

end kernel

section reference

open Cert.WoutReferenceIdeal Cert.WoutReferenceIdeal.Gen

theorem result (a0 : FVec Ideal S4096x1024 .f32) (a1 : FVec Ideal S4096x1024 .f32) :
    (transpose S1024x1024 [1, 0] (Host.dotGeneral (φ₁ := .f32) (φ₂ := .f32) dot_S4096x1024_S4096x1024_S1024x1024_0_0_1_1_n_n none a1 a0) transposes_S1024x1024_S1024x1024_1_0 : FVec Ideal S1024x1024 .f32)
      = outP a0 a1 := by
  funext i
  idx_vars i
  pointwise [outP]
  simp only [mul_comm]

end reference

theorem frame_kernel : Cert.quiescent_WoutKernel (hWoutKernel := Cert.WoutKernel.Gen.facts) := fun m g _ => Cert.WoutKernel.Gen.frame m g

theorem frame_kernelIdeal : Cert.quiescent_WoutKernelIdeal (hWoutKernelIdeal := Cert.WoutKernelIdeal.Gen.facts) :=
  fun m g _ => Cert.WoutKernelIdeal.Gen.frame m g

theorem frame_referenceIdeal : Cert.quiescent_WoutReferenceIdeal (hWoutReferenceIdeal := Cert.WoutReferenceIdeal.Gen.facts) := by
  intro m g _
  exact (θ_run Cert.WoutReferenceIdeal.defs _ _).mono
    (fun r h => ⟨fun c => (h c).2, Idealize.ShloMosaic.sem_eq_zero_of_no_sems (by decide) r.2⟩)
    (Cert.WoutReferenceIdeal.Value.run m g)

set_option maxHeartbeats 1600000 in
theorem algebraic : Cert.algebraic_WoutKernelIdeal_WoutReferenceIdeal (hWoutKernelIdeal := Cert.WoutKernelIdeal.Gen.facts)
    (hWoutReferenceIdeal := Cert.WoutReferenceIdeal.Gen.facts) := fun m g m' g' _ hagree =>
  ⟨fun c => outP (A0 m c) (A1 m c),
    (θ_run Cert.WoutKernelIdeal.defs _ _).mono (fun r h c => ⟨(h c).1.trans (final2 m c), (h c).2⟩) (Cert.WoutKernelIdeal.Value.run_blocks m g),
    (θ_run Cert.WoutReferenceIdeal.defs _ _).mono
      (fun r h c => ⟨(h c).1.trans ((result _ _).trans (congrArg₂ outP (hagree c).1 (hagree c).2)), (h c).2⟩)
      (Cert.WoutReferenceIdeal.Value.run m' g')⟩

end Cert.Proof.Wout

end
-- ==== Proof.WattValue.lean ====
/-
  The weight gradient of the attention branch's output projection, one block a grid point: each element is on both sides the same sum over the tokens.
-/
module

public import proofs.«01_k».proof.Defs
public import proofs.«01_k».proof.Proof.Gen.WattKernel.Frame
public import proofs.«01_k».proof.Proof.Gen.WattKernelIdeal.Value
public import proofs.«01_k».proof.Proof.Gen.WattReferenceIdeal.Run
public import proofs.«01_k».proof.Proof.WoutValue
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.Proof.Watt

open Idealize.ShloMosaic Idealize.ShloMosaic.TcCoe Idealize.SL.Sem
open scoped BigOperators

open Cert.Proof.Wout (outP)

section kernel

open Cert.WattKernelIdeal Cert.WattKernelIdeal.Gen

variable (m : (ℓ : Loc nD τ sig) → Buf (Elt Ideal) ℓ) (c : Dev nD)

/-- The product's left factor and its result's gradient, as device `c` is given them. -/
abbrev A0 : FVec Ideal S4096x512 .f32 := m ((c : Thread nD τ).loc main_arg0)
abbrev A1 : FVec Ideal S4096x1024 .f32 := m ((c : Thread nD τ).loc main_arg1)

theorem a_at (r : Fin 4096) (j : Fin 512) :
    (show FVec Ideal S4096x512 .bf16 from V m c main_v0) (ix2 r j) = A0 m c (ix2 r j) := by
  entry_read
  pointwise

theorem b_at (r : Fin 4096) (k : Fin 1024) :
    (show FVec Ideal S4096x1024 .bf16 from V m c main_v1) (ix2 r k) = A1 m c (ix2 r k) := by
  entry_read
  pointwise

theorem idx_val : ∀ t : Fin cfg0.N, win0_0.index t = ![0, 0] ∧ win0_1.index t = ![0, t.val] ∧ win0_2.index t = ![0, t.val] :=
  (by decide +kernel : ∀ t : Fin grid0.N, _)

variable (t : Fin cfg0.N)

/-- Column `j` of the gradient's block at grid point `t`. -/
def at_ (j : Fin 512) : Fin 1024 := ⟨t.val * 512 + j.val, by have := lt_of_lt_of_eq t.isLt N_0; have := j.isLt; omega⟩

theorem blk0_at (r : Fin 4096) (j : Fin 512) :
    (show FVec Ideal S4096x512 .bf16 from iblk m c 0 t) (ix2 r j) = A0 m c (ix2 r j) := by
  refine Eq.trans ?_ (a_at m c r j)
  blk_ext [iblk, idx_val t, at_]

theorem blk1_at (r : Fin 4096) (k : Fin 512) :
    (show FVec Ideal S4096x512 .bf16 from iblk m c 1 t) (ix2 r k) = A1 m c (ix2 r (at_ t k)) := by
  refine Eq.trans ?_ (b_at m c r (at_ t k))
  blk_ext [iblk, idx_val t, at_]

theorem point (y : S512x512.Idx) : outsAt0 m c t y = outP (A0 m c) (A1 m c) ((win0_2.blk t).view.emb y) := by
  have e : (win0_2.blk t).view.emb y = ix2 (y 0) (at_ t (y 1)) := by
    idx_vars y
    blk_ext [idx_val t, at_]
  rw [e]
  unfold outsAt0
  frame_out
  idx_vars y
  pointwise [k0_pay2, k0_pay1, blk0_at m c t, blk1_at m c t, outP]

theorem final2 : (dats m 0 c).arrAt 2 (cfgs 0).N = outP (A0 m c) (A1 m c) := by
  refine (dats m 0 c).arrAt_eq_of_covers 2 _ (by decide +kernel) fun t hf y => ?_
  blk_simp
  rw [after0_2]
  exact point m c t y

end kernel

section reference

open Cert.WattReferenceIdeal Cert.WattReferenceIdeal.Gen

theorem result (a0 : FVec Ideal S4096x512 .f32) (a1 : FVec Ideal S4096x1024 .f32) :
    (transpose S512x1024 [1, 0] (Host.dotGeneral (φ₁ := .f32) (φ₂ := .f32) dot_S4096x1024_S4096x512_S1024x512_0_0_1_1_n_n none a1 a0) transposes_S1024x512_S512x1024_1_0 : FVec Ideal S512x1024 .f32)
      = outP a0 a1 := by
  funext i
  idx_vars i
  pointwise [outP]
  simp only [mul_comm]

end reference

theorem frame_kernel : Cert.quiescent_WattKernel (hWattKernel := Cert.WattKernel.Gen.facts) := fun m g _ => Cert.WattKernel.Gen.frame m g

theorem frame_kernelIdeal : Cert.quiescent_WattKernelIdeal (hWattKernelIdeal := Cert.WattKernelIdeal.Gen.facts) :=
  fun m g _ => Cert.WattKernelIdeal.Gen.frame m g

theorem frame_referenceIdeal : Cert.quiescent_WattReferenceIdeal (hWattReferenceIdeal := Cert.WattReferenceIdeal.Gen.facts) := by
  intro m g _
  exact (θ_run Cert.WattReferenceIdeal.defs _ _).mono
    (fun r h => ⟨fun c => (h c).2, Idealize.ShloMosaic.sem_eq_zero_of_no_sems (by decide) r.2⟩)
    (Cert.WattReferenceIdeal.Value.run m g)

set_option maxHeartbeats 1600000 in
theorem algebraic : Cert.algebraic_WattKernelIdeal_WattReferenceIdeal (hWattKernelIdeal := Cert.WattKernelIdeal.Gen.facts)
    (hWattReferenceIdeal := Cert.WattReferenceIdeal.Gen.facts) := fun m g m' g' _ hagree =>
  ⟨fun c => outP (A0 m c) (A1 m c),
    (θ_run Cert.WattKernelIdeal.defs _ _).mono (fun r h c => ⟨(h c).1.trans (final2 m c), (h c).2⟩) (Cert.WattKernelIdeal.Value.run_blocks m g),
    (θ_run Cert.WattReferenceIdeal.defs _ _).mono
      (fun r h c => ⟨(h c).1.trans ((result _ _).trans (congrArg₂ outP (hagree c).1 (hagree c).2)), (h c).2⟩)
      (Cert.WattReferenceIdeal.Value.run m' g')⟩

end Cert.Proof.Watt

end
-- ==== Proof.WretValue.lean ====
/-
  The weight gradient of the retention branch's output projection, one block a grid point: each element is on both sides the same sum over the tokens.
-/
module

public import proofs.«01_k».proof.Defs
public import proofs.«01_k».proof.Proof.Gen.WretKernel.Frame
public import proofs.«01_k».proof.Proof.Gen.WretKernelIdeal.Value
public import proofs.«01_k».proof.Proof.Gen.WretReferenceIdeal.Run
public import proofs.«01_k».proof.Proof.WoutValue
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.Proof.Wret

open Idealize.ShloMosaic Idealize.ShloMosaic.TcCoe Idealize.SL.Sem
open scoped BigOperators

open Cert.Proof.Wout (outP)

section kernel

open Cert.WretKernelIdeal Cert.WretKernelIdeal.Gen

variable (m : (ℓ : Loc nD τ sig) → Buf (Elt Ideal) ℓ) (c : Dev nD)

/-- The product's left factor and its result's gradient, as device `c` is given them. -/
abbrev A0 : FVec Ideal S4096x1024 .f32 := m ((c : Thread nD τ).loc main_arg0)
abbrev A1 : FVec Ideal S4096x1024 .f32 := m ((c : Thread nD τ).loc main_arg1)

theorem a_at (r : Fin 4096) (j : Fin 1024) :
    (show FVec Ideal S4096x1024 .bf16 from V m c main_v0) (ix2 r j) = A0 m c (ix2 r j) := by
  entry_read
  pointwise

theorem b_at (r : Fin 4096) (k : Fin 1024) :
    (show FVec Ideal S4096x1024 .bf16 from V m c main_v1) (ix2 r k) = A1 m c (ix2 r k) := by
  entry_read
  pointwise

theorem idx_val : ∀ t : Fin cfg0.N, win0_0.index t = ![0, t.val] ∧ win0_1.index t = ![0, 0] ∧ win0_2.index t = ![t.val, 0] :=
  (by decide +kernel : ∀ t : Fin grid0.N, _)

variable (t : Fin cfg0.N)

/-- Column `j` of the left factor's block at grid point `t`. -/
def at_ (j : Fin 256) : Fin 1024 := ⟨t.val * 256 + j.val, by have := lt_of_lt_of_eq t.isLt N_0; have := j.isLt; omega⟩

theorem blk0_at (r : Fin 4096) (j : Fin 256) :
    (show FVec Ideal S4096x256 .bf16 from iblk m c 0 t) (ix2 r j) = A0 m c (ix2 r (at_ t j)) := by
  refine Eq.trans ?_ (a_at m c r (at_ t j))
  blk_ext [iblk, idx_val t, at_]

theorem blk1_at (r : Fin 4096) (k : Fin 1024) :
    (show FVec Ideal S4096x1024 .bf16 from iblk m c 1 t) (ix2 r k) = A1 m c (ix2 r k) := by
  refine Eq.trans ?_ (b_at m c r k)
  blk_ext [iblk, idx_val t, at_]

theorem point (y : S256x1024.Idx) : outsAt0 m c t y = outP (A0 m c) (A1 m c) ((win0_2.blk t).view.emb y) := by
  have e : (win0_2.blk t).view.emb y = ix2 (at_ t (y 0)) (y 1) := by
    idx_vars y
    blk_ext [idx_val t, at_]
  rw [e]
  unfold outsAt0
  frame_out
  idx_vars y
  pointwise [k0_pay2, k0_pay1, blk0_at m c t, blk1_at m c t, outP]

theorem final2 : (dats m 0 c).arrAt 2 (cfgs 0).N = outP (A0 m c) (A1 m c) := by
  refine (dats m 0 c).arrAt_eq_of_covers 2 _ (by decide +kernel) fun t hf y => ?_
  blk_simp
  rw [after0_2]
  exact point m c t y

end kernel

section reference

open Cert.WretReferenceIdeal Cert.WretReferenceIdeal.Gen

theorem result (a0 : FVec Ideal S4096x1024 .f32) (a1 : FVec Ideal S4096x1024 .f32) :
    (transpose S1024x1024 [1, 0] (Host.dotGeneral (φ₁ := .f32) (φ₂ := .f32) dot_S4096x1024_S4096x1024_S1024x1024_0_0_1_1_n_n none a1 a0) transposes_S1024x1024_S1024x1024_1_0 : FVec Ideal S1024x1024 .f32)
      = outP a0 a1 := by
  funext i
  idx_vars i
  pointwise [outP]
  simp only [mul_comm]

end reference

theorem frame_kernel : Cert.quiescent_WretKernel (hWretKernel := Cert.WretKernel.Gen.facts) := fun m g _ => Cert.WretKernel.Gen.frame m g

theorem frame_kernelIdeal : Cert.quiescent_WretKernelIdeal (hWretKernelIdeal := Cert.WretKernelIdeal.Gen.facts) :=
  fun m g _ => Cert.WretKernelIdeal.Gen.frame m g

theorem frame_referenceIdeal : Cert.quiescent_WretReferenceIdeal (hWretReferenceIdeal := Cert.WretReferenceIdeal.Gen.facts) := by
  intro m g _
  exact (θ_run Cert.WretReferenceIdeal.defs _ _).mono
    (fun r h => ⟨fun c => (h c).2, Idealize.ShloMosaic.sem_eq_zero_of_no_sems (by decide) r.2⟩)
    (Cert.WretReferenceIdeal.Value.run m g)

set_option maxHeartbeats 1600000 in
theorem algebraic : Cert.algebraic_WretKernelIdeal_WretReferenceIdeal (hWretKernelIdeal := Cert.WretKernelIdeal.Gen.facts)
    (hWretReferenceIdeal := Cert.WretReferenceIdeal.Gen.facts) := fun m g m' g' _ hagree =>
  ⟨fun c => outP (A0 m c) (A1 m c),
    (θ_run Cert.WretKernelIdeal.defs _ _).mono (fun r h c => ⟨(h c).1.trans (final2 m c), (h c).2⟩) (Cert.WretKernelIdeal.Value.run_blocks m g),
    (θ_run Cert.WretReferenceIdeal.defs _ _).mono
      (fun r h c => ⟨(h c).1.trans ((result _ _).trans (congrArg₂ outP (hagree c).1 (hagree c).2)), (h c).2⟩)
      (Cert.WretReferenceIdeal.Value.run m' g')⟩

end Cert.Proof.Wret

end
-- ==== Proof.FfnUpKer.lean ====
/-
  The mixer's two products in the forward pass: gate, up and silu(gate)·up by shards, four stores of 512 rows a grid
  point. The kernel's sigmoid `tanh(z/2)/2 + 1/2` is the reference's `1/(1+exp(−z))` on all of the extended reals, so
  nothing is assumed of the arguments.
-/
module

public import proofs.«01_k».proof.Proof.Spec
public import proofs.«01_k».proof.Proof.Gen.FfnUpKernelIdeal.Value
public import proofs.«01_k».proof.Proof.Gen.FfnUpReferenceIdeal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof.FfnUp

open Idealize.ShloMosaic Idealize.ShloMosaic.TcCoe Idealize.SL.Sem
open Cert.Proof.Grad (ofBits_half sg sg_tanh)
open scoped BigOperators

/-- The two spellings of the sigmoid are one function of the extended reals. -/
theorem sigmoid_eq (z : EReal) :
    (Ideal.ofBits .f32 0x3F000000#32 : EReal) * Ideal.tanh ((Ideal.ofBits .f32 0x3F000000#32 : EReal) * z) + (Ideal.ofBits .f32 0x3F000000#32 : EReal) = Ideal.logistic z := by
  have h : (0 : ℝ) < 1 / 2 := by norm_num
  rw [ofBits_half]
  induction z using EReal.rec with
  | bot =>
    rw [EReal.coe_mul_bot_of_pos h, Ideal.tanh_bot, Ideal.logistic_bot, ← EReal.coe_one, ← EReal.coe_neg, ← EReal.coe_mul, ← EReal.coe_add]
    norm_num
  | top =>
    rw [EReal.coe_mul_top_of_pos h, Ideal.tanh_top, Ideal.logistic_top, ← EReal.coe_one, ← EReal.coe_mul, ← EReal.coe_add]
    norm_num
  | coe r =>
    rw [← EReal.coe_mul, Ideal.tanh_coe, ← EReal.coe_mul, ← EReal.coe_add, sg_tanh, Ideal.logistic_coe, sg]

section kernel

open Cert.FfnUpKernelIdeal Cert.FfnUpKernelIdeal.Gen

/-- Column `j` of shard `s` among the 2816. -/
def col (s : Fin 4) (j : Fin 704) : Fin 2816 := ⟨s.val * 704 + j.val, by have := s.isLt; have := j.isLt; omega⟩

/-- A product with one of the two weights, by shards. -/
def prod (a : FVec Ideal S4096x1024 .f32) (w : FVec Ideal S1024x2816 .f32) : S4x4096x704.Idx → EReal :=
  fun i => ∑ k : Fin 1024, a (ix2 (i 1) k) * w (ix2 k (col (i 0) (i 2)))

/-- silu(gate)·up, by shards. -/
def act (a : FVec Ideal S4096x1024 .f32) (wg wu : FVec Ideal S1024x2816 .f32) : S4x4096x704.Idx → EReal :=
  fun i => prod a wg i * Ideal.logistic (prod a wg i) * prod a wu i

variable (m : (ℓ : Loc nD τ sig) → Buf (Elt Ideal) ℓ) (c : Dev nD)

/-- The normalised input and the two weights, as device `c` is given them. -/
abbrev A0 : FVec Ideal S4096x1024 .f32 := m ((c : Thread nD τ).loc main_arg0)
abbrev A1 : FVec Ideal S1024x2816 .f32 := m ((c : Thread nD τ).loc main_arg1)
abbrev A2 : FVec Ideal S1024x2816 .f32 := m ((c : Thread nD τ).loc main_arg2)

theorem h_at (r : Fin 4096) (k : Fin 1024) :
    (show FVec Ideal S4096x1024 .bf16 from V m c main_v0) (ix2 r k) = A0 m c (ix2 r k) := by
  entry_read
  pointwise

theorem gate_at (s : Fin 4) (j : Fin 704) (k : Fin 1024) :
    (show FVec Ideal S4x704x1024 .bf16 from V m c main_v3) (ix3 s j k) = A1 m c (ix2 k (col s j)) := by
  entry_read
  pointwise [col]

theorem up_at (s : Fin 4) (j : Fin 704) (k : Fin 1024) :
    (show FVec Ideal S4x704x1024 .bf16 from V m c main_v6) (ix3 s j k) = A2 m c (ix2 k (col s j)) := by
  entry_read
  pointwise [col]

theorem idx_val : ∀ t : Fin cfg0.N, win0_0.index t = ![t.val / 4, 0] ∧ win0_1.index t = ![t.val % 4, 0, 0]
    ∧ win0_2.index t = ![t.val % 4, 0, 0] ∧ win0_3.index t = ![t.val % 4, t.val / 4, 0]
    ∧ win0_4.index t = ![t.val % 4, t.val / 4, 0] ∧ win0_5.index t = ![t.val % 4, t.val / 4, 0] :=
  (by decide +kernel : ∀ t : Fin grid0.N, _)

variable (t : Fin cfg0.N)

/-- The shard of grid point `t`, and its row `r`. -/
def shard : Fin 4 := ⟨t.val % 4, Nat.mod_lt _ (by decide)⟩
def row (r : Fin 2048) : Fin 4096 :=
  ⟨t.val / 4 * 2048 + r.val, by have h : t.val < 8 := lt_of_lt_of_eq t.isLt N_0; have := r.isLt; omega⟩

theorem blk0_at (r : Fin 2048) (k : Fin 1024) :
    (show FVec Ideal S2048x1024 .bf16 from iblk m c 0 t) (ix2 r k) = A0 m c (ix2 (row t r) k) := by
  refine Eq.trans ?_ (h_at m c (row t r) k)
  blk_ext [iblk, idx_val t, row]

theorem blk1_at (j : Fin 704) (k : Fin 1024) :
    (show FVec Ideal S1x704x1024 .bf16 from iblk m c 1 t) (ix3 0 j k) = A1 m c (ix2 k (col (shard t) j)) := by
  refine Eq.trans ?_ (gate_at m c (shard t) j k)
  blk_ext [iblk, idx_val t, shard]

theorem blk2_at (j : Fin 704) (k : Fin 1024) :
    (show FVec Ideal S1x704x1024 .bf16 from iblk m c 2 t) (ix3 0 j k) = A2 m c (ix2 k (col (shard t) j)) := by
  refine Eq.trans ?_ (up_at m c (shard t) j k)
  blk_ext [iblk, idx_val t, shard]

theorem emb3 (y : S1x2048x704.Idx) : (win0_3.blk t).view.emb y = ix3 (shard t) (row t (y 1)) (y 2) := by
  idx_vars y
  blk_ext [idx_val t, shard, row]

theorem emb4 (y : S1x2048x704.Idx) : (win0_4.blk t).view.emb y = ix3 (shard t) (row t (y 1)) (y 2) := by
  idx_vars y
  blk_ext [idx_val t, shard, row]

theorem emb5 (y : S1x2048x704.Idx) : (win0_5.blk t).view.emb y = ix3 (shard t) (row t (y 1)) (y 2) := by
  idx_vars y
  blk_ext [idx_val t, shard, row]

set_option maxHeartbeats 1600000 in
theorem point3 (y : S1x2048x704.Idx) :
    out0_3 (iblk m c 0 t) (iblk m c 1 t) (iblk m c 2 t) y = prod (A0 m c) (A1 m c) ((win0_3.blk t).view.emb y) := by
  rw [emb3 t y]
  unfold_out out0_3
  canon_tiles x h
  all_goals
    rw [show y 2 = x 2 from Fin.ext h2]
    simp only [show y 1 = ⟨_, lt_of_eq_of_lt h1.symm (y 1).isLt⟩ from Fin.ext h1]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay28, blk0_at m c t, blk1_at m c t, prod, act]

set_option maxHeartbeats 1600000 in
theorem point4 (y : S1x2048x704.Idx) :
    out0_4 (iblk m c 0 t) (iblk m c 1 t) (iblk m c 2 t) y = prod (A0 m c) (A2 m c) ((win0_4.blk t).view.emb y) := by
  rw [emb4 t y]
  unfold_out out0_4
  canon_tiles x h
  all_goals
    rw [show y 2 = x 2 from Fin.ext h2]
    simp only [show y 1 = ⟨_, lt_of_eq_of_lt h1.symm (y 1).isLt⟩ from Fin.ext h1]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay28, blk0_at m c t, blk2_at m c t, prod, act]

set_option maxHeartbeats 1600000 in
theorem point5 (y : S1x2048x704.Idx) :
    out0_5 (iblk m c 0 t) (iblk m c 1 t) (iblk m c 2 t) y = act (A0 m c) (A1 m c) (A2 m c) ((win0_5.blk t).view.emb y) := by
  rw [emb5 t y]
  unfold_out out0_5
  canon_tiles x h
  all_goals
    rw [show y 2 = x 2 from Fin.ext h2]
    simp only [show y 1 = ⟨_, lt_of_eq_of_lt h1.symm (y 1).isLt⟩ from Fin.ext h1]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay28, blk0_at m c t, blk1_at m c t, blk2_at m c t, prod, act]
    simp only [sigmoid_eq]

theorem final3 : (dats m 0 c).arrAt 3 (cfgs 0).N = prod (A0 m c) (A1 m c) := by
  refine (dats m 0 c).arrAt_eq_of_covers 3 _ (by decide +kernel) fun t hf y => ?_
  blk_simp
  rw [after0_3]
  exact point3 m c t y

theorem final4 : (dats m 0 c).arrAt 4 (cfgs 0).N = prod (A0 m c) (A2 m c) := by
  refine (dats m 0 c).arrAt_eq_of_covers 4 _ (by decide +kernel) fun t hf y => ?_
  blk_simp
  rw [after0_4]
  exact point4 m c t y

theorem final5 : (dats m 0 c).arrAt 5 (cfgs 0).N = act (A0 m c) (A1 m c) (A2 m c) := by
  refine (dats m 0 c).arrAt_eq_of_covers 5 _ (by decide +kernel) fun t hf y => ?_
  blk_simp
  rw [after0_5]
  exact point5 m c t y

end kernel

section reference

open Cert.FfnUpReferenceIdeal Cert.FfnUpReferenceIdeal.Gen

theorem result_prod (a : FVec Ideal S4096x1024 .f32) (w : FVec Ideal S1024x2816 .f32) :
    (truncf .bf16 (transpose S4x4096x704 [1, 0, 2] (shapeCast S4096x4x704 (Host.dotGeneral (φ₁ := .f32) (φ₂ := .f32) dot_S4096x1024_S1024x2816_S4096x2816_1_0_0_1_n_n none a w : FVec Ideal S4096x2816 .f32) shapeCasts_S4096x2816_S4096x4x704) transposes_S4096x4x704_S4x4096x704_1_0_2) bitsLt_bf16_f32 : FVec Ideal S4x4096x704 .bf16)
      = prod a w := by
  funext i
  idx_vars i
  pointwise [prod, col]

/-- The host's line for silu(gate)·up is `act`. -/
theorem result_act (a : FVec Ideal S4096x1024 .f32) (wg wu : FVec Ideal S1024x2816 .f32) :
    (truncf .bf16 (transpose S4x4096x704 [1, 0, 2] (shapeCast S4096x4x704 (mulf (mulf (Host.dotGeneral (φ₁ := .f32) (φ₂ := .f32) dot_S4096x1024_S1024x2816_S4096x2816_1_0_0_1_n_n none a wg) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (Host.dotGeneral (φ₁ := .f32) (φ₂ := .f32) dot_S4096x1024_S1024x2816_S4096x2816_1_0_0_1_n_n none a wg)))))) (Host.dotGeneral (φ₁ := .f32) (φ₂ := .f32) dot_S4096x1024_S1024x2816_S4096x2816_1_0_0_1_n_n none a wu) : FVec Ideal S4096x2816 .f32) shapeCasts_S4096x2816_S4096x4x704) transposes_S4096x4x704_S4x4096x704_1_0_2) bitsLt_bf16_f32 : FVec Ideal S4x4096x704 .bf16)
      = act a wg wu := by
  funext i
  idx_vars i
  pointwise [act, prod, col, Ideal.logistic]

end reference

end Cert.Proof.FfnUp

end
-- ==== Proof.FfnUpValue.lean ====
/-
  The claims of the mixer's two products: the runs with the counters at zero and the equality of the three results.
-/
module

public import proofs.«01_k».proof.Defs
public import proofs.«01_k».proof.Proof.FfnUpKer
public import proofs.«01_k».proof.Proof.Gen.FfnUpKernel.Frame
public import Idealize.ShloMosaic.Lib.Claim

@[expose] public section

noncomputable section

namespace Cert.Proof.FfnUp

open Idealize.ShloMosaic Idealize.ShloMosaic.TcCoe Idealize.SL.Sem

theorem frame_kernel : Cert.quiescent_FfnUpKernel (hFfnUpKernel := Cert.FfnUpKernel.Gen.facts) := fun m g _ => Cert.FfnUpKernel.Gen.frame m g

theorem frame_kernelIdeal : Cert.quiescent_FfnUpKernelIdeal (hFfnUpKernelIdeal := Cert.FfnUpKernelIdeal.Gen.facts) :=
  fun m g _ => Cert.FfnUpKernelIdeal.Gen.frame m g

theorem frame_referenceIdeal : Cert.quiescent_FfnUpReferenceIdeal (hFfnUpReferenceIdeal := Cert.FfnUpReferenceIdeal.Gen.facts) := by
  intro m g _
  exact (θ_run Cert.FfnUpReferenceIdeal.defs _ _).mono
    (fun r h => ⟨fun c => (h c).2.2.2, Idealize.ShloMosaic.sem_eq_zero_of_no_sems (by decide) r.2⟩)
    (Cert.FfnUpReferenceIdeal.Value.run m g)

set_option maxHeartbeats 1600000 in
theorem algebraic : Cert.algebraic_FfnUpKernelIdeal_FfnUpReferenceIdeal (hFfnUpKernelIdeal := Cert.FfnUpKernelIdeal.Gen.facts)
    (hFfnUpReferenceIdeal := Cert.FfnUpReferenceIdeal.Gen.facts) := fun m g m' g' _ hagree =>
  ⟨fun c => prod (A0 m c) (A1 m c), fun c => prod (A0 m c) (A2 m c), fun c => act (A0 m c) (A1 m c) (A2 m c),
    (θ_run Cert.FfnUpKernelIdeal.defs _ _).mono
      (fun r h c => ⟨(h c).1.trans (final3 m c), (h c).2.1.trans (final4 m c), (h c).2.2.1.trans (final5 m c), (h c).2.2.2⟩)
      (Cert.FfnUpKernelIdeal.Value.run_blocks m g),
    (θ_run Cert.FfnUpReferenceIdeal.defs _ _).mono
      (fun r h c => ⟨(h c).1.trans ((result_prod _ _).trans (congrArg₂ prod (hagree c).1 (hagree c).2.1)),
        (h c).2.1.trans ((result_prod _ _).trans (congrArg₂ prod (hagree c).1 (hagree c).2.2)),
        (h c).2.2.1.trans ((result_act _ _ _).trans (congr (congrArg₂ act (hagree c).1 (hagree c).2.1) (hagree c).2.2)),
        (h c).2.2.2⟩)
      (Cert.FfnUpReferenceIdeal.Value.run m' g')⟩

end Cert.Proof.FfnUp

end
-- ==== Proof.MixKer.lean ====
/-
  The forward mixing of the two branches: the branches' projections, their gated sum, the output projection added to the
  residual stream, and its root mean square norm, in two stores of 256 rows a grid point. The kernel's sigmoid is the
  reference's on all of the extended reals, so nothing is assumed of the arguments.
-/
module

public import proofs.«01_k».proof.Proof.FfnUpKer
public import proofs.«01_k».proof.Proof.Gen.MixKernelIdeal.Value
public import proofs.«01_k».proof.Proof.Gen.MixReferenceIdeal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof.Mix

open Idealize.ShloMosaic Idealize.ShloMosaic.TcCoe Idealize.SL.Sem
open Cert.Proof.FfnUp (sigmoid_eq)
open scoped BigOperators

/-- A matrix product, entry by entry. -/
def mm {n p q : Nat} (a : (⟨2, ![n, p]⟩ : Shape).Idx → EReal) (w : (⟨2, ![p, q]⟩ : Shape).Idx → EReal) :
    (⟨2, ![n, q]⟩ : Shape).Idx → EReal :=
  fun i => ∑ k : Fin p, a (ix2 (i 0) k) * w (ix2 k (i 1))

/-- The sum of the two branches, each times its gate's sigmoid. -/
def gated (pr : (⟨2, ![4096, 9728]⟩ : Shape).Idx → EReal) (ya yr : (⟨2, ![4096, 1024]⟩ : Shape).Idx → EReal) :
    (⟨2, ![4096, 1024]⟩ : Shape).Idx → EReal :=
  fun i => Ideal.logistic (pr (ix2 (i 0) ⟨7680 + (i 1).val, by have : (i 1).val < 1024 := (i 1).isLt; omega⟩)) * ya i
    + Ideal.logistic (pr (ix2 (i 0) ⟨8704 + (i 1).val, by have : (i 1).val < 1024 := (i 1).isLt; omega⟩)) * yr i

/-- The residual stream after the mixing. -/
def stream (x mg : (⟨2, ![4096, 1024]⟩ : Shape).Idx → EReal) (wo : (⟨2, ![1024, 1024]⟩ : Shape).Idx → EReal) :
    (⟨2, ![4096, 1024]⟩ : Shape).Idx → EReal :=
  fun i => x i + mm mg wo i

/-- The root mean square norm of each row, times a gain. -/
def normed (x : (⟨2, ![4096, 1024]⟩ : Shape).Idx → EReal) (g : (⟨2, ![1, 1024]⟩ : Shape).Idx → EReal) :
    (⟨2, ![4096, 1024]⟩ : Shape).Idx → EReal :=
  fun i => x i * Ideal.rsqrt (Ideal.div (∑ k : Fin 1024, x (ix2 (i 0) k) * x (ix2 (i 0) k)) (Ideal.ofBits .f32 0x44800000#32)
    + Ideal.ofBits .f32 0x358637BD#32) * g (ix2 0 (i 1))

section kernel

open Cert.MixKernelIdeal Cert.MixKernelIdeal.Gen

variable (m : (ℓ : Loc nD τ sig) → Buf (Elt Ideal) ℓ) (c : Dev nD)

abbrev A0 : FVec Ideal S4096x512 .f32 := m ((c : Thread nD τ).loc main_arg0)
abbrev A1 : FVec Ideal S4096x1024 .f32 := m ((c : Thread nD τ).loc main_arg1)
abbrev A2 : FVec Ideal S4096x9728 .f32 := m ((c : Thread nD τ).loc main_arg2)
abbrev A3 : FVec Ideal S512x1024 .f32 := m ((c : Thread nD τ).loc main_arg3)
abbrev A4 : FVec Ideal S1024x1024 .f32 := m ((c : Thread nD τ).loc main_arg4)
abbrev A5 : FVec Ideal S1024x1024 .f32 := m ((c : Thread nD τ).loc main_arg5)
abbrev A6 : FVec Ideal S4096x1024 .f32 := m ((c : Thread nD τ).loc main_arg6)
abbrev A7 : FVec Ideal S1x1024 .f32 := m ((c : Thread nD τ).loc main_arg7)

/-- The five results of device `c`'s arguments. -/
abbrev rYa : (⟨2, ![4096, 1024]⟩ : Shape).Idx → EReal := mm (A0 m c) (A3 m c)
abbrev rYr : (⟨2, ![4096, 1024]⟩ : Shape).Idx → EReal := mm (A1 m c) (A4 m c)
abbrev rMg : (⟨2, ![4096, 1024]⟩ : Shape).Idx → EReal := gated (A2 m c) (rYa m c) (rYr m c)
abbrev rX : (⟨2, ![4096, 1024]⟩ : Shape).Idx → EReal := stream (A6 m c) (rMg m c) (A5 m c)
abbrev rH : (⟨2, ![4096, 1024]⟩ : Shape).Idx → EReal := normed (rX m c) (A7 m c)

theorem v0_at (r : Fin 4096) (k : Fin 512) : (show FVec Ideal S4096x512 .bf16 from V m c main_v0) (ix2 r k) = A0 m c (ix2 r k) := by
  entry_read
  pointwise
theorem v1_at (r : Fin 4096) (k : Fin 1024) : (show FVec Ideal S4096x1024 .bf16 from V m c main_v1) (ix2 r k) = A1 m c (ix2 r k) := by
  entry_read
  pointwise
theorem v2_at (r : Fin 4096) (k : Fin 9728) : (show FVec Ideal S4096x9728 .bf16 from V m c main_v2) (ix2 r k) = A2 m c (ix2 r k) := by
  entry_read
  pointwise
theorem v3_at (r : Fin 512) (k : Fin 1024) : (show FVec Ideal S512x1024 .bf16 from V m c main_v3) (ix2 r k) = A3 m c (ix2 r k) := by
  entry_read
  pointwise
theorem v4_at (r : Fin 1024) (k : Fin 1024) : (show FVec Ideal S1024x1024 .bf16 from V m c main_v4) (ix2 r k) = A4 m c (ix2 r k) := by
  entry_read
  pointwise
theorem v5_at (r : Fin 1024) (k : Fin 1024) : (show FVec Ideal S1024x1024 .bf16 from V m c main_v5) (ix2 r k) = A5 m c (ix2 r k) := by
  entry_read
  pointwise
theorem x_at (r : Fin 4096) (k : Fin 1024) : (show FVec Ideal S4096x1024 .f32 from V m c main_arg6) (ix2 r k) = A6 m c (ix2 r k) :=
  congrFun (V_main_arg6 m c) _
theorem g_at (k : Fin 1024) : (show FVec Ideal S1x1024 .f32 from V m c main_arg7) (ix2 0 k) = A7 m c (ix2 0 k) :=
  congrFun (V_main_arg7 m c) _

theorem idx_val : ∀ t : Fin cfg0.N, win0_0.index t = ![t.val, 0] ∧ win0_1.index t = ![t.val, 0]
    ∧ win0_2.index t = ![t.val * 512, 7680] ∧ win0_3.index t = ![t.val * 512, 8704] ∧ win0_4.index t = ![0, 0]
    ∧ win0_5.index t = ![0, 0] ∧ win0_6.index t = ![0, 0] ∧ win0_7.index t = ![t.val, 0] ∧ win0_8.index t = ![0, 0]
    ∧ win0_9.index t = ![t.val, 0] ∧ win0_10.index t = ![t.val, 0] ∧ win0_11.index t = ![t.val, 0]
    ∧ win0_12.index t = ![t.val, 0] ∧ win0_13.index t = ![t.val, 0] :=
  (by decide +kernel : ∀ t : Fin grid0.N, _)

theorem idx_val2 (t : Fin cfg0.N) : win0_2.index t = ![t.val * 512, 7680] := (idx_val t).2.2.1
theorem idx_val3 (t : Fin cfg0.N) : win0_3.index t = ![t.val * 512, 8704] := (idx_val t).2.2.2.1

variable (t : Fin cfg0.N)

/-- Row `r` of grid point `t`'s blocks. -/
def row (r : Fin 512) : Fin 4096 :=
  ⟨t.val * 512 + r.val, by have h : t.val < 8 := lt_of_lt_of_eq t.isLt N_0; have := r.isLt; omega⟩

theorem blk0_at (r : Fin 512) (k : Fin 512) : (show FVec Ideal S512x512 .bf16 from iblk m c 0 t) (ix2 r k) = A0 m c (ix2 (row t r) k) := by
  refine Eq.trans ?_ (v0_at m c (row t r) k)
  blk_ext [iblk, idx_val t, row]
theorem blk1_at (r : Fin 512) (k : Fin 1024) : (show FVec Ideal S512x1024 .bf16 from iblk m c 1 t) (ix2 r k) = A1 m c (ix2 (row t r) k) := by
  refine Eq.trans ?_ (v1_at m c (row t r) k)
  blk_ext [iblk, idx_val t, row]
theorem blk2_at (r : Fin 512) (k : Fin 1024) : (show FVec Ideal S512x1024 .bf16 from iblk m c 2 t) (ix2 r k)
    = A2 m c (ix2 (row t r) ⟨7680 + k.val, by have := k.isLt; omega⟩) := by
  refine Eq.trans ?_ (v2_at m c (row t r) _)
  refine congrArg (V m c main_v2) (show (win0_2.blk t).view.emb (ix2 r k) = ix2 (row t r) _ from funext fun a => Fin.ext ?_)
  refine (ValueKit.view_emb_slice_whole_unit_val main_v2 _ _ _ (ix2 r k) a).trans ?_
  refine Eq.trans (congrArg (fun z : Nat => z + _) (congrFun (idx_val2 t) a)) ?_
  fin_cases a <;> rfl
theorem blk3_at (r : Fin 512) (k : Fin 1024) : (show FVec Ideal S512x1024 .bf16 from iblk m c 3 t) (ix2 r k)
    = A2 m c (ix2 (row t r) ⟨8704 + k.val, by have := k.isLt; omega⟩) := by
  refine Eq.trans ?_ (v2_at m c (row t r) _)
  refine congrArg (V m c main_v2) (show (win0_3.blk t).view.emb (ix2 r k) = ix2 (row t r) _ from funext fun a => Fin.ext ?_)
  refine (ValueKit.view_emb_slice_whole_unit_val main_v2 _ _ _ (ix2 r k) a).trans ?_
  refine Eq.trans (congrArg (fun z : Nat => z + _) (congrFun (idx_val3 t) a)) ?_
  fin_cases a <;> rfl
theorem blk4_at (r : Fin 512) (k : Fin 1024) : (show FVec Ideal S512x1024 .bf16 from iblk m c 4 t) (ix2 r k) = A3 m c (ix2 r k) := by
  refine Eq.trans ?_ (v3_at m c r k)
  blk_ext [iblk, idx_val t]
theorem blk5_at (r : Fin 1024) (k : Fin 1024) : (show FVec Ideal S1024x1024 .bf16 from iblk m c 5 t) (ix2 r k) = A4 m c (ix2 r k) := by
  refine Eq.trans ?_ (v4_at m c r k)
  blk_ext [iblk, idx_val t]
theorem blk6_at (r : Fin 1024) (k : Fin 1024) : (show FVec Ideal S1024x1024 .bf16 from iblk m c 6 t) (ix2 r k) = A5 m c (ix2 r k) := by
  refine Eq.trans ?_ (v5_at m c r k)
  blk_ext [iblk, idx_val t]
theorem blk7_at (r : Fin 512) (k : Fin 1024) : (show FVec Ideal S512x1024 .f32 from iblk m c 7 t) (ix2 r k) = A6 m c (ix2 (row t r) k) := by
  refine Eq.trans ?_ (x_at m c (row t r) k)
  blk_ext [iblk, idx_val t, row]
theorem blk8_at (k : Fin 1024) : (show FVec Ideal S1x1024 .f32 from iblk m c 8 t) (ix2 0 k) = A7 m c (ix2 0 k) := by
  refine Eq.trans ?_ (g_at m c k)
  blk_ext [iblk, idx_val t]

theorem emb9 (y : S512x1024.Idx) : (win0_9.blk t).view.emb y = ix2 (row t (y 0)) (y 1) := by
  idx_vars y
  blk_ext [idx_val t, row]
theorem emb10 (y : S512x1024.Idx) : (win0_10.blk t).view.emb y = ix2 (row t (y 0)) (y 1) := by
  idx_vars y
  blk_ext [idx_val t, row]
theorem emb11 (y : S512x1024.Idx) : (win0_11.blk t).view.emb y = ix2 (row t (y 0)) (y 1) := by
  idx_vars y
  blk_ext [idx_val t, row]
theorem emb12 (y : S512x1024.Idx) : (win0_12.blk t).view.emb y = ix2 (row t (y 0)) (y 1) := by
  idx_vars y
  blk_ext [idx_val t, row]
theorem emb13 (y : S512x1024.Idx) : (win0_13.blk t).view.emb y = ix2 (row t (y 0)) (y 1) := by
  idx_vars y
  blk_ext [idx_val t, row]

set_option maxHeartbeats 1600000 in
theorem point9 (y : S512x1024.Idx) :
    out0_9 (iblk m c 0 t) (iblk m c 1 t) (iblk m c 2 t) (iblk m c 3 t) (iblk m c 4 t) (iblk m c 5 t) (iblk m c 6 t) (iblk m c 7 t) (iblk m c 8 t) y
      = rMg m c ((win0_9.blk t).view.emb y) := by
  rw [emb9 t y]
  unfold_out out0_9
  canon_tiles x h
  all_goals
    rw [show y 1 = x 1 from Fin.ext h1]
    simp only [show y 0 = ⟨_, lt_of_eq_of_lt h0.symm (y 0).isLt⟩ from Fin.ext h0]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, blk0_at m c t, blk1_at m c t, blk2_at m c t, blk3_at m c t, blk4_at m c t, blk5_at m c t, mm, gated]
    simp only [sigmoid_eq]

set_option maxHeartbeats 1600000 in
theorem point10 (y : S512x1024.Idx) :
    out0_10 (iblk m c 0 t) (iblk m c 1 t) (iblk m c 2 t) (iblk m c 3 t) (iblk m c 4 t) (iblk m c 5 t) (iblk m c 6 t) (iblk m c 7 t) (iblk m c 8 t) y
      = rYa m c ((win0_10.blk t).view.emb y) := by
  rw [emb10 t y]
  unfold_out out0_10
  canon_tiles x h
  all_goals
    rw [show y 1 = x 1 from Fin.ext h1]
    simp only [show y 0 = ⟨_, lt_of_eq_of_lt h0.symm (y 0).isLt⟩ from Fin.ext h0]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, blk0_at m c t, blk4_at m c t, mm]

set_option maxHeartbeats 1600000 in
theorem point11 (y : S512x1024.Idx) :
    out0_11 (iblk m c 0 t) (iblk m c 1 t) (iblk m c 2 t) (iblk m c 3 t) (iblk m c 4 t) (iblk m c 5 t) (iblk m c 6 t) (iblk m c 7 t) (iblk m c 8 t) y
      = rYr m c ((win0_11.blk t).view.emb y) := by
  rw [emb11 t y]
  unfold_out out0_11
  canon_tiles x h
  all_goals
    rw [show y 1 = x 1 from Fin.ext h1]
    simp only [show y 0 = ⟨_, lt_of_eq_of_lt h0.symm (y 0).isLt⟩ from Fin.ext h0]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, blk1_at m c t, blk5_at m c t, mm]

set_option maxHeartbeats 1600000 in
theorem point12 (y : S512x1024.Idx) :
    out0_12 (iblk m c 0 t) (iblk m c 1 t) (iblk m c 2 t) (iblk m c 3 t) (iblk m c 4 t) (iblk m c 5 t) (iblk m c 6 t) (iblk m c 7 t) (iblk m c 8 t) y
      = rX m c ((win0_12.blk t).view.emb y) := by
  rw [emb12 t y]
  unfold_out out0_12
  canon_tiles x h
  all_goals
    rw [show y 1 = x 1 from Fin.ext h1]
    simp only [show y 0 = ⟨_, lt_of_eq_of_lt h0.symm (y 0).isLt⟩ from Fin.ext h0]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, blk0_at m c t, blk1_at m c t, blk2_at m c t, blk3_at m c t, blk4_at m c t, blk5_at m c t, blk6_at m c t, blk7_at m c t, mm, gated, stream]
    simp only [sigmoid_eq]

set_option maxHeartbeats 1600000 in
theorem point13 (y : S512x1024.Idx) :
    out0_13 (iblk m c 0 t) (iblk m c 1 t) (iblk m c 2 t) (iblk m c 3 t) (iblk m c 4 t) (iblk m c 5 t) (iblk m c 6 t) (iblk m c 7 t) (iblk m c 8 t) y
      = rH m c ((win0_13.blk t).view.emb y) := by
  rw [emb13 t y]
  unfold_out out0_13
  canon_tiles x h
  all_goals
    rw [show y 1 = x 1 from Fin.ext h1]
    simp only [show y 0 = ⟨_, lt_of_eq_of_lt h0.symm (y 0).isLt⟩ from Fin.ext h0]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, blk0_at m c t, blk1_at m c t, blk2_at m c t, blk3_at m c t, blk4_at m c t, blk5_at m c t, blk6_at m c t, blk7_at m c t, blk8_at m c t, mm, gated, stream, normed]
    simp only [sigmoid_eq]

theorem final9 : (dats m 0 c).arrAt 9 cfg0.N = rMg m c := by
  refine (dats m 0 c).arrAt_eq_of_covers 9 _ (by decide +kernel) fun t hf y => ?_
  blk_simp
  rw [after0_9]
  exact point9 m c t y

theorem final10 : (dats m 0 c).arrAt 10 cfg0.N = rYa m c := by
  refine (dats m 0 c).arrAt_eq_of_covers 10 _ (by decide +kernel) fun t hf y => ?_
  blk_simp
  rw [after0_10]
  exact point10 m c t y

theorem final11 : (dats m 0 c).arrAt 11 cfg0.N = rYr m c := by
  refine (dats m 0 c).arrAt_eq_of_covers 11 _ (by decide +kernel) fun t hf y => ?_
  blk_simp
  rw [after0_11]
  exact point11 m c t y

theorem final12 : (dats m 0 c).arrAt 12 cfg0.N = rX m c := by
  refine (dats m 0 c).arrAt_eq_of_covers 12 _ (by decide +kernel) fun t hf y => ?_
  blk_simp
  rw [after0_12]
  exact point12 m c t y

theorem final13 : (dats m 0 c).arrAt 13 cfg0.N = rH m c := by
  refine (dats m 0 c).arrAt_eq_of_covers 13 _ (by decide +kernel) fun t hf y => ?_
  blk_simp
  rw [after0_13]
  exact point13 m c t y

end kernel

section reference

open Cert.MixReferenceIdeal Cert.MixReferenceIdeal.Gen

theorem result_a (a : FVec Ideal S4096x512 .f32) (wa : FVec Ideal S512x1024 .f32) :
    (Host.dotGeneral (φ₁ := .f32) (φ₂ := .f32) dot_S4096x512_S512x1024_S4096x1024_1_0_0_1_n_n none a wa : FVec Ideal S4096x1024 .f32) = mm a wa := by
  funext i
  idx_vars i
  pointwise [mm]

theorem result_r (y : FVec Ideal S4096x1024 .f32) (w : FVec Ideal S1024x1024 .f32) :
    (Host.dotGeneral (φ₁ := .f32) (φ₂ := .f32) dot_S4096x1024_S1024x1024_S4096x1024_1_0_0_1_n_n none y w : FVec Ideal S4096x1024 .f32) = mm y w := by
  funext i
  idx_vars i
  pointwise [mm]

/-- The host's gated sum of two arrays is `gated`. -/
theorem result_gated (p : FVec Ideal S4096x9728 .f32) (ya yr : FVec Ideal S4096x1024 .f32) :
    (addf (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 7680] p slices_S4096x9728_S4096x1024_0_7680))))) ya) (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 8704] p slices_S4096x9728_S4096x1024_0_8704))))) yr) : FVec Ideal S4096x1024 .f32) = gated p ya yr := by
  funext i
  idx_vars i
  pointwise [gated, Ideal.logistic]

theorem result_stream (x mg : FVec Ideal S4096x1024 .f32) (w : FVec Ideal S1024x1024 .f32) :
    (addf x (Host.dotGeneral (φ₁ := .f32) (φ₂ := .f32) dot_S4096x1024_S1024x1024_S4096x1024_1_0_0_1_n_n none mg w : FVec Ideal S4096x1024 .f32) : FVec Ideal S4096x1024 .f32) = stream x mg w := by
  funext i
  idx_vars i
  pointwise [stream, mm]

/-- The host's norm of an array is `normed`. -/
theorem result_normed (x : FVec Ideal S4096x1024 .f32) (g : FVec Ideal S1x1024 .f32) :
    (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 (shapeCast _ g shapeCasts_S1x1024_S1024))) : FVec Ideal S4096x1024 .f32)
      = normed x g := by
  funext i
  idx_vars i
  pointwise [normed]

end reference

end Cert.Proof.Mix

end
-- ==== Proof.MixValue.lean ====
/-
  The claims of the branches' mixing: the runs with the counters at zero and the equality of the five results.
-/
module

public import proofs.«01_k».proof.Defs
public import proofs.«01_k».proof.Proof.MixKer
public import proofs.«01_k».proof.Proof.Gen.MixKernel.Frame
public import Idealize.ShloMosaic.Lib.Claim

@[expose] public section

noncomputable section

namespace Cert.Proof.Mix

open Idealize.ShloMosaic Idealize.ShloMosaic.TcCoe Idealize.SL.Sem

theorem frame_kernel : Cert.quiescent_MixKernel (hMixKernel := Cert.MixKernel.Gen.facts) := fun m g _ => Cert.MixKernel.Gen.frame m g

theorem frame_kernelIdeal : Cert.quiescent_MixKernelIdeal (hMixKernelIdeal := Cert.MixKernelIdeal.Gen.facts) :=
  fun m g _ => Cert.MixKernelIdeal.Gen.frame m g

theorem frame_referenceIdeal : Cert.quiescent_MixReferenceIdeal (hMixReferenceIdeal := Cert.MixReferenceIdeal.Gen.facts) := by
  intro m g _
  exact (θ_run Cert.MixReferenceIdeal.defs _ _).mono
    (fun r h => ⟨fun c => (h c).2.2.2.2.2, Idealize.ShloMosaic.sem_eq_zero_of_no_sems (by decide) r.2⟩)
    (Cert.MixReferenceIdeal.Value.run m g)

section reference

open Cert.MixReferenceIdeal Cert.MixReferenceIdeal.Gen

variable (m : (ℓ : Loc nD τ sig) → Buf (Elt Ideal) ℓ) (c : Dev nD)

/-- The reference's arguments, as device `c` is given them. -/
abbrev B0 : FVec Ideal S4096x512 .f32 := m ((c.tc : Thread nD τ).loc main_arg0)
abbrev B1 : FVec Ideal S4096x1024 .f32 := m ((c.tc : Thread nD τ).loc main_arg1)
abbrev B2 : FVec Ideal S4096x9728 .f32 := m ((c.tc : Thread nD τ).loc main_arg2)
abbrev B3 : FVec Ideal S512x1024 .f32 := m ((c.tc : Thread nD τ).loc main_arg3)
abbrev B4 : FVec Ideal S1024x1024 .f32 := m ((c.tc : Thread nD τ).loc main_arg4)
abbrev B5 : FVec Ideal S1024x1024 .f32 := m ((c.tc : Thread nD τ).loc main_arg5)
abbrev B6 : FVec Ideal S4096x1024 .f32 := m ((c.tc : Thread nD τ).loc main_arg6)
abbrev B7 : FVec Ideal S1x1024 .f32 := m ((c.tc : Thread nD τ).loc main_arg7)

/-- The host's gated sum of device `c`'s arguments. -/
abbrev hostGated : FVec Ideal S4096x1024 .f32 :=
  addf (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 7680] (B2 m c) slices_S4096x9728_S4096x1024_0_7680))))) (Host.dotGeneral (φ₁ := .f32) (φ₂ := .f32) dot_S4096x512_S512x1024_S4096x1024_1_0_0_1_n_n none (B0 m c) (B3 m c) : FVec Ideal S4096x1024 .f32)) (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 8704] (B2 m c) slices_S4096x9728_S4096x1024_0_8704))))) (Host.dotGeneral (φ₁ := .f32) (φ₂ := .f32) dot_S4096x1024_S1024x1024_S4096x1024_1_0_0_1_n_n none (B1 m c) (B4 m c) : FVec Ideal S4096x1024 .f32))

theorem ref_gated : hostGated m c = gated (B2 m c) (mm (B0 m c) (B3 m c)) (mm (B1 m c) (B4 m c)) :=
  (result_gated (B2 m c) _ _).trans (congrArg₂ (gated (B2 m c)) (result_a (B0 m c) (B3 m c)) (result_r (B1 m c) (B4 m c)))

theorem ref_stream : (addf (B6 m c) (Host.dotGeneral (φ₁ := .f32) (φ₂ := .f32) dot_S4096x1024_S1024x1024_S4096x1024_1_0_0_1_n_n none (hostGated m c) (B5 m c) : FVec Ideal S4096x1024 .f32) : FVec Ideal S4096x1024 .f32)
    = stream (B6 m c) (gated (B2 m c) (mm (B0 m c) (B3 m c)) (mm (B1 m c) (B4 m c))) (B5 m c) :=
  (result_stream (B6 m c) _ (B5 m c)).trans (congrArg (fun z => stream (B6 m c) z (B5 m c)) (ref_gated m c))

theorem ref_normed : Value.res_main_v38 m c = normed (stream (B6 m c) (gated (B2 m c) (mm (B0 m c) (B3 m c)) (mm (B1 m c) (B4 m c))) (B5 m c)) (B7 m c) :=
  (result_normed _ (B7 m c)).trans (congrArg (fun z => normed z (B7 m c)) (ref_stream m c))

end reference

set_option maxHeartbeats 1600000 in
theorem algebraic : Cert.algebraic_MixKernelIdeal_MixReferenceIdeal (hMixKernelIdeal := Cert.MixKernelIdeal.Gen.facts)
    (hMixReferenceIdeal := Cert.MixReferenceIdeal.Gen.facts) := by
  intro m g m' g' _ hagree
  refine ⟨fun c => rMg m c, fun c => rYa m c, fun c => rYr m c, fun c => rX m c, fun c => rH m c,
    (θ_run Cert.MixKernelIdeal.defs _ _).mono
      (fun r h c => ⟨(h c).1.trans (final9 m c), (h c).2.1.trans (final10 m c), (h c).2.2.1.trans (final11 m c),
        (h c).2.2.2.1.trans (final12 m c), (h c).2.2.2.2.1.trans (final13 m c), (h c).2.2.2.2.2⟩)
      (Cert.MixKernelIdeal.Value.run_blocks m g),
    (θ_run Cert.MixReferenceIdeal.defs _ _).mono (fun r h c => ?_) (Cert.MixReferenceIdeal.Value.run m' g')⟩
  obtain ⟨e0, e1, e2, e3, e4, e5, e6, e7⟩ := hagree c
  have ea : mm (B0 m' c) (B3 m' c) = rYa m c := congrArg₂ mm e0 e3
  have er : mm (B1 m' c) (B4 m' c) = rYr m c := congrArg₂ mm e1 e4
  have eg : gated (B2 m' c) (mm (B0 m' c) (B3 m' c)) (mm (B1 m' c) (B4 m' c)) = rMg m c :=
    congr (congrArg₂ gated e2 ea) er
  have ex : stream (B6 m' c) (gated (B2 m' c) (mm (B0 m' c) (B3 m' c)) (mm (B1 m' c) (B4 m' c))) (B5 m' c) = rX m c :=
    congr (congrArg₂ stream e6 eg) e5
  exact ⟨(h c).1.trans ((ref_gated m' c).trans eg), (h c).2.1.trans ((result_a _ _).trans ea),
    (h c).2.2.1.trans ((result_r _ _).trans er), (h c).2.2.2.1.trans ((ref_stream m' c).trans ex),
    (h c).2.2.2.2.1.trans ((ref_normed m' c).trans (congrArg₂ normed ex e7)), (h c).2.2.2.2.2⟩

end Cert.Proof.Mix

end
-- ==== Proof.lean ====
module

public import proofs.«01_k».proof.Defs
public import proofs.«01_k».proof.Proof.Frames
public import proofs.«01_k».proof.Proof.Value
public import proofs.«01_k».proof.Proof.RetFrames
public import proofs.«01_k».proof.Proof.RetValue
public import proofs.«01_k».proof.Proof.InValue
public import proofs.«01_k».proof.Proof.WgValue
public import proofs.«01_k».proof.Proof.GateValue
public import proofs.«01_k».proof.Proof.UpValue
public import proofs.«01_k».proof.Proof.WoutValue
public import proofs.«01_k».proof.Proof.WattValue
public import proofs.«01_k».proof.Proof.WretValue
public import proofs.«01_k».proof.Proof.FfnUpValue
public import proofs.«01_k».proof.Proof.MixValue
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.RetKernelIdeal.Value
public import proofs.«01_k».proof.Proof.Gen.RetKernel.Frame
public import proofs.«01_k».proof.Proof.Gen.RetReferenceIdeal.Run
public import proofs.«01_k».proof.Proof.Gen.KernelIdeal.Value

public import proofs.«01_k».proof.Proof.Gen.InKernel.Frame
public import proofs.«01_k».proof.Proof.Gen.InKernelIdeal.Value
public import proofs.«01_k».proof.Proof.Gen.InReferenceIdeal.Run
public import proofs.«01_k».proof.Proof.Gen.WgKernel.Frame
public import proofs.«01_k».proof.Proof.Gen.WgKernelIdeal.Value
public import proofs.«01_k».proof.Proof.Gen.WgReferenceIdeal.Run
public import proofs.«01_k».proof.Proof.Gen.GateKernel.Frame
public import proofs.«01_k».proof.Proof.Gen.GateKernelIdeal.Value
public import proofs.«01_k».proof.Proof.Gen.GateReferenceIdeal.Run
public import proofs.«01_k».proof.Proof.Gen.UpKernel.Frame
public import proofs.«01_k».proof.Proof.Gen.UpKernelIdeal.Value
public import proofs.«01_k».proof.Proof.Gen.UpReferenceIdeal.Run
public import proofs.«01_k».proof.Proof.Gen.WoutKernel.Frame
public import proofs.«01_k».proof.Proof.Gen.WoutKernelIdeal.Value
public import proofs.«01_k».proof.Proof.Gen.WoutReferenceIdeal.Run
public import proofs.«01_k».proof.Proof.Gen.WattKernel.Frame
public import proofs.«01_k».proof.Proof.Gen.WattKernelIdeal.Value
public import proofs.«01_k».proof.Proof.Gen.WattReferenceIdeal.Run
public import proofs.«01_k».proof.Proof.Gen.WretKernel.Frame
public import proofs.«01_k».proof.Proof.Gen.WretKernelIdeal.Value
public import proofs.«01_k».proof.Proof.Gen.WretReferenceIdeal.Run
public import proofs.«01_k».proof.Proof.Gen.FfnUpKernel.Frame
public import proofs.«01_k».proof.Proof.Gen.FfnUpKernelIdeal.Value
public import proofs.«01_k».proof.Proof.Gen.FfnUpReferenceIdeal.Run
public import proofs.«01_k».proof.Proof.Gen.MixKernel.Frame
public import proofs.«01_k».proof.Proof.Gen.MixKernelIdeal.Value
public import proofs.«01_k».proof.Proof.Gen.MixReferenceIdeal.Run

@[expose] public section

noncomputable section

namespace Cert.Proof

theorem claim : Cert.Claim :=
  ⟨Cert.Kernel.Gen.facts, Cert.KernelIdeal.Gen.facts, Cert.ReferenceIdeal.Gen.facts,
    Cert.RetKernel.Gen.facts, Cert.RetKernelIdeal.Gen.facts, Cert.RetReferenceIdeal.Gen.facts,
    Cert.InKernel.Gen.facts, Cert.InKernelIdeal.Gen.facts, Cert.InReferenceIdeal.Gen.facts,
    Cert.WgKernel.Gen.facts, Cert.WgKernelIdeal.Gen.facts, Cert.WgReferenceIdeal.Gen.facts,
    Cert.GateKernel.Gen.facts, Cert.GateKernelIdeal.Gen.facts, Cert.GateReferenceIdeal.Gen.facts,
    Cert.UpKernel.Gen.facts, Cert.UpKernelIdeal.Gen.facts, Cert.UpReferenceIdeal.Gen.facts,
    Cert.WoutKernel.Gen.facts, Cert.WoutKernelIdeal.Gen.facts, Cert.WoutReferenceIdeal.Gen.facts,
    Cert.WattKernel.Gen.facts, Cert.WattKernelIdeal.Gen.facts, Cert.WattReferenceIdeal.Gen.facts,
    Cert.WretKernel.Gen.facts, Cert.WretKernelIdeal.Gen.facts, Cert.WretReferenceIdeal.Gen.facts,
    Cert.FfnUpKernel.Gen.facts, Cert.FfnUpKernelIdeal.Gen.facts, Cert.FfnUpReferenceIdeal.Gen.facts,
    Cert.MixKernel.Gen.facts, Cert.MixKernelIdeal.Gen.facts, Cert.MixReferenceIdeal.Gen.facts,
    Fin.facts, ret_facts, Inp.facts,
    frame_kernel, frame_kernelIdeal, frame_kernelIdeal_finite, frame_referenceIdeal, frame_referenceIdeal_finite,
    frame_retKernel, frame_retKernelIdeal, frame_retKernelIdeal_finite, frame_retReferenceIdeal,
    frame_retReferenceIdeal_finite,
    Inp.frame_kernel, Inp.frame_kernelIdeal, Inp.frame_kernelIdeal_finite, Inp.frame_referenceIdeal,
    Inp.frame_referenceIdeal_finite,
    Wg.frame_kernel, Wg.frame_kernelIdeal, Wg.frame_referenceIdeal,
    Gate.frame_kernel, Gate.frame_kernelIdeal, Gate.frame_referenceIdeal,
    Up.frame_kernel, Up.frame_kernelIdeal, Up.frame_referenceIdeal,
    Wout.frame_kernel, Wout.frame_kernelIdeal, Wout.frame_referenceIdeal,
    Watt.frame_kernel, Watt.frame_kernelIdeal, Watt.frame_referenceIdeal,
    Wret.frame_kernel, Wret.frame_kernelIdeal, Wret.frame_referenceIdeal,
    FfnUp.frame_kernel, FfnUp.frame_kernelIdeal, FfnUp.frame_referenceIdeal,
    Mix.frame_kernel, Mix.frame_kernelIdeal, Mix.frame_referenceIdeal,
    trivial, algebraic, trivial, ret_algebraic, trivial, Inp.algebraic, trivial, Wg.algebraic, trivial, Gate.algebraic, trivial, Up.algebraic, trivial, Wout.algebraic, trivial, Watt.algebraic, trivial, Wret.algebraic, trivial, FfnUp.algebraic, trivial, Mix.algebraic⟩

end Cert.Proof

end
